-- ==== Defs.lean ====
def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Gn (m : (ℓ : Loc Cert.Gn.nD Cert.Gn.τ Cert.Gn.sig) → Buf (Elt Bits) ℓ) : Prop :=
  True

def Pre_GnIdeal (m : (ℓ : Loc Cert.GnIdeal.nD Cert.GnIdeal.τ Cert.GnIdeal.sig) → Buf (Elt Ideal) ℓ) : Prop :=
  True

def Pre_GnIdeal_finite_post [hPre_finite_post : Cert.Pre_finite_post.Facts] (m : (ℓ : Loc Cert.GnIdeal.nD Cert.GnIdeal.τ Cert.GnIdeal.sig) → Buf (Elt Ideal) ℓ) : Prop :=
  ∀ c : Dev Cert.GnIdeal.nD,
    (Cert.Pre_finite_post.fn (F := Ideal) (m ((c.tc : Thread Cert.GnIdeal.nD Cert.GnIdeal.τ).loc Cert.GnIdeal.main_arg0)) (m ((c.tc : Thread Cert.GnIdeal.nD Cert.GnIdeal.τ).loc Cert.GnIdeal.main_arg1)) (m ((c.tc : Thread Cert.GnIdeal.nD Cert.GnIdeal.τ).loc Cert.GnIdeal.main_arg2)) (m ((c.tc : Thread Cert.GnIdeal.nD Cert.GnIdeal.τ).loc Cert.GnIdeal.main_arg3)) (m ((c.tc : Thread Cert.GnIdeal.nD Cert.GnIdeal.τ).loc Cert.GnIdeal.main_arg4)) (m ((c.tc : Thread Cert.GnIdeal.nD Cert.GnIdeal.τ).loc Cert.GnIdeal.main_arg5)) (m ((c.tc : Thread Cert.GnIdeal.nD Cert.GnIdeal.τ).loc Cert.GnIdeal.main_arg6)) (m ((c.tc : Thread Cert.GnIdeal.nD Cert.GnIdeal.τ).loc Cert.GnIdeal.main_arg7)) (m ((c.tc : Thread Cert.GnIdeal.nD Cert.GnIdeal.τ).loc Cert.GnIdeal.main_arg8)) (m ((c.tc : Thread Cert.GnIdeal.nD Cert.GnIdeal.τ).loc Cert.GnIdeal.main_arg9))) = (fun _ => 1#1)

def Pre_GnRefIdeal (m : (ℓ : Loc Cert.GnRefIdeal.nD Cert.GnRefIdeal.τ Cert.GnRefIdeal.sig) → Buf (Elt Ideal) ℓ) : Prop :=
  True

def Pre_GnRefIdeal_finite_post [hPre_finite_post : Cert.Pre_finite_post.Facts] (m : (ℓ : Loc Cert.GnRefIdeal.nD Cert.GnRefIdeal.τ Cert.GnRefIdeal.sig) → Buf (Elt Ideal) ℓ) : Prop :=
  ∀ c : Dev Cert.GnRefIdeal.nD,
    (Cert.Pre_finite_post.fn (F := Ideal) (m ((c.tc : Thread Cert.GnRefIdeal.nD Cert.GnRefIdeal.τ).loc Cert.GnRefIdeal.main_arg0)) (m ((c.tc : Thread Cert.GnRefIdeal.nD Cert.GnRefIdeal.τ).loc Cert.GnRefIdeal.main_arg1)) (m ((c.tc : Thread Cert.GnRefIdeal.nD Cert.GnRefIdeal.τ).loc Cert.GnRefIdeal.main_arg2)) (m ((c.tc : Thread Cert.GnRefIdeal.nD Cert.GnRefIdeal.τ).loc Cert.GnRefIdeal.main_arg3)) (m ((c.tc : Thread Cert.GnRefIdeal.nD Cert.GnRefIdeal.τ).loc Cert.GnRefIdeal.main_arg4)) (m ((c.tc : Thread Cert.GnRefIdeal.nD Cert.GnRefIdeal.τ).loc Cert.GnRefIdeal.main_arg5)) (m ((c.tc : Thread Cert.GnRefIdeal.nD Cert.GnRefIdeal.τ).loc Cert.GnRefIdeal.main_arg6)) (m ((c.tc : Thread Cert.GnRefIdeal.nD Cert.GnRefIdeal.τ).loc Cert.GnRefIdeal.main_arg7)) (m ((c.tc : Thread Cert.GnRefIdeal.nD Cert.GnRefIdeal.τ).loc Cert.GnRefIdeal.main_arg8)) (m ((c.tc : Thread Cert.GnRefIdeal.nD Cert.GnRefIdeal.τ).loc Cert.GnRefIdeal.main_arg9))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_shift [hPre_finite_shift : Cert.Pre_finite_shift.Facts] (m : (ℓ : Loc Cert.InpIdeal.nD Cert.InpIdeal.τ Cert.InpIdeal.sig) → Buf (Elt Ideal) ℓ) : Prop :=
  ∀ c : Dev Cert.InpIdeal.nD,
    (Cert.Pre_finite_shift.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6))) = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_shift [hPre_finite_shift : Cert.Pre_finite_shift.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_shift.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6))) = (fun _ => 1#1)

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_AdamD (m : (ℓ : Loc Cert.AdamD.nD Cert.AdamD.τ Cert.AdamD.sig) → Buf (Elt Bits) ℓ) : Prop :=
  True

def Pre_AdamDIdeal (m : (ℓ : Loc Cert.AdamDIdeal.nD Cert.AdamDIdeal.τ Cert.AdamDIdeal.sig) → Buf (Elt Ideal) ℓ) : Prop :=
  True

def Pre_AdamDRefIdeal (m : (ℓ : Loc Cert.AdamDRefIdeal.nD Cert.AdamDRefIdeal.τ Cert.AdamDRefIdeal.sig) → Buf (Elt Ideal) ℓ) : Prop :=
  True

def Pre_SmallA (m : (ℓ : Loc Cert.SmallA.nD Cert.SmallA.τ Cert.SmallA.sig) → Buf (Elt Bits) ℓ) : Prop :=
  True

def Pre_SmallAIdeal (m : (ℓ : Loc Cert.SmallAIdeal.nD Cert.SmallAIdeal.τ Cert.SmallAIdeal.sig) → Buf (Elt Ideal) ℓ) : Prop :=
  True

def Pre_SmallARefIdeal (m : (ℓ : Loc Cert.SmallARefIdeal.nD Cert.SmallARefIdeal.τ Cert.SmallARefIdeal.sig) → Buf (Elt Ideal) ℓ) : Prop :=
  True

def Pre_SmallB (m : (ℓ : Loc Cert.SmallB.nD Cert.SmallB.τ Cert.SmallB.sig) → Buf (Elt Bits) ℓ) : Prop :=
  True

def Pre_SmallBIdeal (m : (ℓ : Loc Cert.SmallBIdeal.nD Cert.SmallBIdeal.τ Cert.SmallBIdeal.sig) → Buf (Elt Ideal) ℓ) : Prop :=
  True

def Pre_SmallBRefIdeal (m : (ℓ : Loc Cert.SmallBRefIdeal.nD Cert.SmallBRefIdeal.τ Cert.SmallBRefIdeal.sig) → Buf (Elt Ideal) ℓ) : Prop :=
  True

def Pre_SmallC (m : (ℓ : Loc Cert.SmallC.nD Cert.SmallC.τ Cert.SmallC.sig) → Buf (Elt Bits) ℓ) : Prop :=
  True

def Pre_SmallCIdeal (m : (ℓ : Loc Cert.SmallCIdeal.nD Cert.SmallCIdeal.τ Cert.SmallCIdeal.sig) → Buf (Elt Ideal) ℓ) : Prop :=
  True

def Pre_SmallCRefIdeal (m : (ℓ : Loc Cert.SmallCRefIdeal.nD Cert.SmallCRefIdeal.τ Cert.SmallCRefIdeal.sig) → Buf (Elt Ideal) ℓ) : Prop :=
  True

def Pre_SmallD (m : (ℓ : Loc Cert.SmallD.nD Cert.SmallD.τ Cert.SmallD.sig) → Buf (Elt Bits) ℓ) : Prop :=
  True

def Pre_SmallDIdeal (m : (ℓ : Loc Cert.SmallDIdeal.nD Cert.SmallDIdeal.τ Cert.SmallDIdeal.sig) → Buf (Elt Ideal) ℓ) : Prop :=
  True

def Pre_SmallDRefIdeal (m : (ℓ : Loc Cert.SmallDRefIdeal.nD Cert.SmallDRefIdeal.τ Cert.SmallDRefIdeal.sig) → Buf (Elt Ideal) ℓ) : Prop :=
  True

def Pre_SmallE (m : (ℓ : Loc Cert.SmallE.nD Cert.SmallE.τ Cert.SmallE.sig) → Buf (Elt Bits) ℓ) : Prop :=
  True

def Pre_SmallEIdeal (m : (ℓ : Loc Cert.SmallEIdeal.nD Cert.SmallEIdeal.τ Cert.SmallEIdeal.sig) → Buf (Elt Ideal) ℓ) : Prop :=
  True

def Pre_SmallERefIdeal (m : (ℓ : Loc Cert.SmallERefIdeal.nD Cert.SmallERefIdeal.τ Cert.SmallERefIdeal.sig) → Buf (Elt Ideal) ℓ) : Prop :=
  True

def Pre_SmallF (m : (ℓ : Loc Cert.SmallF.nD Cert.SmallF.τ Cert.SmallF.sig) → Buf (Elt Bits) ℓ) : Prop :=
  True

def Pre_SmallFIdeal (m : (ℓ : Loc Cert.SmallFIdeal.nD Cert.SmallFIdeal.τ Cert.SmallFIdeal.sig) → Buf (Elt Ideal) ℓ) : Prop :=
  True

def Pre_SmallFRefIdeal (m : (ℓ : Loc Cert.SmallFRefIdeal.nD Cert.SmallFRefIdeal.τ Cert.SmallFRefIdeal.sig) → Buf (Elt Ideal) ℓ) : Prop :=
  True

def Pre_SmallG (m : (ℓ : Loc Cert.SmallG.nD Cert.SmallG.τ Cert.SmallG.sig) → Buf (Elt Bits) ℓ) : Prop :=
  True

def Pre_SmallGIdeal (m : (ℓ : Loc Cert.SmallGIdeal.nD Cert.SmallGIdeal.τ Cert.SmallGIdeal.sig) → Buf (Elt Ideal) ℓ) : Prop :=
  True

def Pre_SmallGRefIdeal (m : (ℓ : Loc Cert.SmallGRefIdeal.nD Cert.SmallGRefIdeal.τ Cert.SmallGRefIdeal.sig) → Buf (Elt Ideal) ℓ) : Prop :=
  True

def Pre_SmallH (m : (ℓ : Loc Cert.SmallH.nD Cert.SmallH.τ Cert.SmallH.sig) → Buf (Elt Bits) ℓ) : Prop :=
  True

def Pre_SmallHIdeal (m : (ℓ : Loc Cert.SmallHIdeal.nD Cert.SmallHIdeal.τ Cert.SmallHIdeal.sig) → Buf (Elt Ideal) ℓ) : Prop :=
  True

def Pre_SmallHRefIdeal (m : (ℓ : Loc Cert.SmallHRefIdeal.nD Cert.SmallHRefIdeal.τ Cert.SmallHRefIdeal.sig) → Buf (Elt Ideal) ℓ) : Prop :=
  True

def Pre_SmallI (m : (ℓ : Loc Cert.SmallI.nD Cert.SmallI.τ Cert.SmallI.sig) → Buf (Elt Bits) ℓ) : Prop :=
  True

def Pre_SmallIIdeal (m : (ℓ : Loc Cert.SmallIIdeal.nD Cert.SmallIIdeal.τ Cert.SmallIIdeal.sig) → Buf (Elt Ideal) ℓ) : Prop :=
  True

def Pre_SmallIRefIdeal (m : (ℓ : Loc Cert.SmallIRefIdeal.nD Cert.SmallIRefIdeal.τ Cert.SmallIRefIdeal.sig) → Buf (Elt Ideal) ℓ) : Prop :=
  True

def Pre_Zoh (m : (ℓ : Loc Cert.Zoh.nD Cert.Zoh.τ Cert.Zoh.sig) → Buf (Elt Bits) ℓ) : Prop :=
  True

def Pre_ZohIdeal (m : (ℓ : Loc Cert.ZohIdeal.nD Cert.ZohIdeal.τ Cert.ZohIdeal.sig) → Buf (Elt Ideal) ℓ) : Prop :=
  True

def Pre_ZohRefIdeal (m : (ℓ : Loc Cert.ZohRefIdeal.nD Cert.ZohRefIdeal.τ Cert.ZohRefIdeal.sig) → Buf (Elt Ideal) ℓ) : Prop :=
  True

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4)
      ∧ r.2.mem ((c.tc : Thread Cert.Half.nD Cert.Half.τ).loc Cert.Half.main_arg5) = m ((c.tc : Thread Cert.Half.nD Cert.Half.τ).loc Cert.Half.main_arg5)
      ∧ r.2.mem ((c.tc : Thread Cert.Half.nD Cert.Half.τ).loc Cert.Half.main_arg6) = m ((c.tc : Thread Cert.Half.nD Cert.Half.τ).loc Cert.Half.main_arg6)
      ∧ r.2.mem ((c.tc : Thread Cert.Half.nD Cert.Half.τ).loc Cert.Half.main_arg7) = m ((c.tc : Thread Cert.Half.nD Cert.Half.τ).loc Cert.Half.main_arg7)
      ∧ r.2.mem ((c.tc : Thread Cert.Half.nD Cert.Half.τ).loc Cert.Half.main_arg8) = m ((c.tc : Thread Cert.Half.nD Cert.Half.τ).loc Cert.Half.main_arg8)
      ∧ r.2.mem ((c.tc : Thread Cert.Half.nD Cert.Half.τ).loc Cert.Half.main_arg9) = m ((c.tc : Thread Cert.Half.nD Cert.Half.τ).loc Cert.Half.main_arg9)
      ∧ r.2.mem ((c.tc : Thread Cert.Half.nD Cert.Half.τ).loc Cert.Half.main_arg10) = m ((c.tc : Thread Cert.Half.nD Cert.Half.τ).loc Cert.Half.main_arg10)
      ∧ r.2.mem ((c.tc : Thread Cert.Half.nD Cert.Half.τ).loc Cert.Half.main_arg11) = m ((c.tc : Thread Cert.Half.nD Cert.Half.τ).loc Cert.Half.main_arg11)
      ∧ r.2.mem ((c.tc : Thread Cert.Half.nD Cert.Half.τ).loc Cert.Half.main_arg12) = m ((c.tc : Thread Cert.Half.nD Cert.Half.τ).loc Cert.Half.main_arg12)
      ∧ r.2.mem ((c.tc : Thread Cert.Half.nD Cert.Half.τ).loc Cert.Half.main_arg13) = m ((c.tc : Thread Cert.Half.nD Cert.Half.τ).loc Cert.Half.main_arg13))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
      ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5)
      ∧ r.2.mem ((c.tc : Thread Cert.HalfIdeal.nD Cert.HalfIdeal.τ).loc Cert.HalfIdeal.main_arg6) = m ((c.tc : Thread Cert.HalfIdeal.nD Cert.HalfIdeal.τ).loc Cert.HalfIdeal.main_arg6)
      ∧ r.2.mem ((c.tc : Thread Cert.HalfIdeal.nD Cert.HalfIdeal.τ).loc Cert.HalfIdeal.main_arg7) = m ((c.tc : Thread Cert.HalfIdeal.nD Cert.HalfIdeal.τ).loc Cert.HalfIdeal.main_arg7)
      ∧ r.2.mem ((c.tc : Thread Cert.HalfIdeal.nD Cert.HalfIdeal.τ).loc Cert.HalfIdeal.main_arg8) = m ((c.tc : Thread Cert.HalfIdeal.nD Cert.HalfIdeal.τ).loc Cert.HalfIdeal.main_arg8)
      ∧ r.2.mem ((c.tc : Thread Cert.HalfIdeal.nD Cert.HalfIdeal.τ).loc Cert.HalfIdeal.main_arg9) = m ((c.tc : Thread Cert.HalfIdeal.nD Cert.HalfIdeal.τ).loc Cert.HalfIdeal.main_arg9)
      ∧ r.2.mem ((c.tc : Thread Cert.HalfIdeal.nD Cert.HalfIdeal.τ).loc Cert.HalfIdeal.main_arg10) = m ((c.tc : Thread Cert.HalfIdeal.nD Cert.HalfIdeal.τ).loc Cert.HalfIdeal.main_arg10)
      ∧ r.2.mem ((c.tc : Thread Cert.HalfIdeal.nD Cert.HalfIdeal.τ).loc Cert.HalfIdeal.main_arg11) = m ((c.tc : Thread Cert.HalfIdeal.nD Cert.HalfIdeal.τ).loc Cert.HalfIdeal.main_arg11)
      ∧ r.2.mem ((c.tc : Thread Cert.HalfIdeal.nD Cert.HalfIdeal.τ).loc Cert.HalfIdeal.main_arg12) = m ((c.tc : Thread Cert.HalfIdeal.nD Cert.HalfIdeal.τ).loc Cert.HalfIdeal.main_arg12)
      ∧ r.2.mem ((c.tc : Thread Cert.HalfIdeal.nD Cert.HalfIdeal.τ).loc Cert.HalfIdeal.main_arg13) = m ((c.tc : Thread Cert.HalfIdeal.nD Cert.HalfIdeal.τ).loc Cert.HalfIdeal.main_arg13))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1)
      ∧ r.2.mem ((c.tc : Thread Cert.HalfRefIdeal.nD Cert.HalfRefIdeal.τ).loc Cert.HalfRefIdeal.main_arg2) = m ((c.tc : Thread Cert.HalfRefIdeal.nD Cert.HalfRefIdeal.τ).loc Cert.HalfRefIdeal.main_arg2)
      ∧ r.2.mem ((c.tc : Thread Cert.HalfRefIdeal.nD Cert.HalfRefIdeal.τ).loc Cert.HalfRefIdeal.main_arg3) = m ((c.tc : Thread Cert.HalfRefIdeal.nD Cert.HalfRefIdeal.τ).loc Cert.HalfRefIdeal.main_arg3)
      ∧ r.2.mem ((c.tc : Thread Cert.HalfRefIdeal.nD Cert.HalfRefIdeal.τ).loc Cert.HalfRefIdeal.main_arg4) = m ((c.tc : Thread Cert.HalfRefIdeal.nD Cert.HalfRefIdeal.τ).loc Cert.HalfRefIdeal.main_arg4)
      ∧ r.2.mem ((c.tc : Thread Cert.HalfRefIdeal.nD Cert.HalfRefIdeal.τ).loc Cert.HalfRefIdeal.main_arg5) = m ((c.tc : Thread Cert.HalfRefIdeal.nD Cert.HalfRefIdeal.τ).loc Cert.HalfRefIdeal.main_arg5)
      ∧ r.2.mem ((c.tc : Thread Cert.HalfRefIdeal.nD Cert.HalfRefIdeal.τ).loc Cert.HalfRefIdeal.main_arg6) = m ((c.tc : Thread Cert.HalfRefIdeal.nD Cert.HalfRefIdeal.τ).loc Cert.HalfRefIdeal.main_arg6)
      ∧ r.2.mem ((c.tc : Thread Cert.HalfRefIdeal.nD Cert.HalfRefIdeal.τ).loc Cert.HalfRefIdeal.main_arg7) = m ((c.tc : Thread Cert.HalfRefIdeal.nD Cert.HalfRefIdeal.τ).loc Cert.HalfRefIdeal.main_arg7)
      ∧ r.2.mem ((c.tc : Thread Cert.HalfRefIdeal.nD Cert.HalfRefIdeal.τ).loc Cert.HalfRefIdeal.main_arg8) = m ((c.tc : Thread Cert.HalfRefIdeal.nD Cert.HalfRefIdeal.τ).loc Cert.HalfRefIdeal.main_arg8)
      ∧ r.2.mem ((c.tc : Thread Cert.HalfRefIdeal.nD Cert.HalfRefIdeal.τ).loc Cert.HalfRefIdeal.main_arg9) = m ((c.tc : Thread Cert.HalfRefIdeal.nD Cert.HalfRefIdeal.τ).loc Cert.HalfRefIdeal.main_arg9)
      ∧ r.2.mem ((c.tc : Thread Cert.HalfRefIdeal.nD Cert.HalfRefIdeal.τ).loc Cert.HalfRefIdeal.main_arg10) = m ((c.tc : Thread Cert.HalfRefIdeal.nD Cert.HalfRefIdeal.τ).loc Cert.HalfRefIdeal.main_arg10)
      ∧ r.2.mem ((c.tc : Thread Cert.HalfRefIdeal.nD Cert.HalfRefIdeal.τ).loc Cert.HalfRefIdeal.main_arg11) = m ((c.tc : Thread Cert.HalfRefIdeal.nD Cert.HalfRefIdeal.τ).loc Cert.HalfRefIdeal.main_arg11)
      ∧ r.2.mem ((c.tc : Thread Cert.HalfRefIdeal.nD Cert.HalfRefIdeal.τ).loc Cert.HalfRefIdeal.main_arg12) = m ((c.tc : Thread Cert.HalfRefIdeal.nD Cert.HalfRefIdeal.τ).loc Cert.HalfRefIdeal.main_arg12)
      ∧ r.2.mem ((c.tc : Thread Cert.HalfRefIdeal.nD Cert.HalfRefIdeal.τ).loc Cert.HalfRefIdeal.main_arg13) = m ((c.tc : Thread Cert.HalfRefIdeal.nD Cert.HalfRefIdeal.τ).loc Cert.HalfRefIdeal.main_arg13))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Gn [hGn : Cert.Gn.Facts] : Prop :=
  ∀ (m : (ℓ : Loc Cert.Gn.nD Cert.Gn.τ Cert.Gn.sig) → Buf (Elt Bits) ℓ) (g : Dev Cert.Gn.nD → PrngReg), Pre_Gn m →
    θ_run (Cert.Gn.defs (F := Bits)) (onTc (τ := Cert.Gn.τ) (Cert.Gn.main (F := Bits))) ⟨m, fun _ => 0, g⟩ (fun r => (∀ c : Dev Cert.Gn.nD,
      r.2.mem ((c.tc : Thread Cert.Gn.nD Cert.Gn.τ).loc Cert.Gn.main_arg0) = m ((c.tc : Thread Cert.Gn.nD Cert.Gn.τ).loc Cert.Gn.main_arg0)
      ∧ r.2.mem ((c.tc : Thread Cert.Gn.nD Cert.Gn.τ).loc Cert.Gn.main_arg1) = m ((c.tc : Thread Cert.Gn.nD Cert.Gn.τ).loc Cert.Gn.main_arg1)
      ∧ r.2.mem ((c.tc : Thread Cert.Gn.nD Cert.Gn.τ).loc Cert.Gn.main_arg2) = m ((c.tc : Thread Cert.Gn.nD Cert.Gn.τ).loc Cert.Gn.main_arg2)
      ∧ r.2.mem ((c.tc : Thread Cert.Gn.nD Cert.Gn.τ).loc Cert.Gn.main_arg3) = m ((c.tc : Thread Cert.Gn.nD Cert.Gn.τ).loc Cert.Gn.main_arg3)
      ∧ r.2.mem ((c.tc : Thread Cert.Gn.nD Cert.Gn.τ).loc Cert.Gn.main_arg4) = m ((c.tc : Thread Cert.Gn.nD Cert.Gn.τ).loc Cert.Gn.main_arg4)
      ∧ r.2.mem ((c.tc : Thread Cert.Gn.nD Cert.Gn.τ).loc Cert.Gn.main_arg5) = m ((c.tc : Thread Cert.Gn.nD Cert.Gn.τ).loc Cert.Gn.main_arg5)
      ∧ r.2.mem ((c.tc : Thread Cert.Gn.nD Cert.Gn.τ).loc Cert.Gn.main_arg6) = m ((c.tc : Thread Cert.Gn.nD Cert.Gn.τ).loc Cert.Gn.main_arg6)
      ∧ r.2.mem ((c.tc : Thread Cert.Gn.nD Cert.Gn.τ).loc Cert.Gn.main_arg7) = m ((c.tc : Thread Cert.Gn.nD Cert.Gn.τ).loc Cert.Gn.main_arg7)
      ∧ r.2.mem ((c.tc : Thread Cert.Gn.nD Cert.Gn.τ).loc Cert.Gn.main_arg8) = m ((c.tc : Thread Cert.Gn.nD Cert.Gn.τ).loc Cert.Gn.main_arg8)
      ∧ r.2.mem ((c.tc : Thread Cert.Gn.nD Cert.Gn.τ).loc Cert.Gn.main_arg9) = m ((c.tc : Thread Cert.Gn.nD Cert.Gn.τ).loc Cert.Gn.main_arg9))
      ∧ r.2.sem = fun _ => 0)

def quiescent_GnIdeal [hGnIdeal : Cert.GnIdeal.Facts] : Prop :=
  ∀ (m : (ℓ : Loc Cert.GnIdeal.nD Cert.GnIdeal.τ Cert.GnIdeal.sig) → Buf (Elt Ideal) ℓ) (g : Dev Cert.GnIdeal.nD → PrngReg), Pre_GnIdeal m →
    θ_run (Cert.GnIdeal.defs (F := Ideal)) (onTc (τ := Cert.GnIdeal.τ) (Cert.GnIdeal.main (F := Ideal))) ⟨m, fun _ => 0, g⟩ (fun r => (∀ c : Dev Cert.GnIdeal.nD,
      r.2.mem ((c.tc : Thread Cert.GnIdeal.nD Cert.GnIdeal.τ).loc Cert.GnIdeal.main_arg0) = m ((c.tc : Thread Cert.GnIdeal.nD Cert.GnIdeal.τ).loc Cert.GnIdeal.main_arg0)
      ∧ r.2.mem ((c.tc : Thread Cert.GnIdeal.nD Cert.GnIdeal.τ).loc Cert.GnIdeal.main_arg1) = m ((c.tc : Thread Cert.GnIdeal.nD Cert.GnIdeal.τ).loc Cert.GnIdeal.main_arg1)
      ∧ r.2.mem ((c.tc : Thread Cert.GnIdeal.nD Cert.GnIdeal.τ).loc Cert.GnIdeal.main_arg2) = m ((c.tc : Thread Cert.GnIdeal.nD Cert.GnIdeal.τ).loc Cert.GnIdeal.main_arg2)
      ∧ r.2.mem ((c.tc : Thread Cert.GnIdeal.nD Cert.GnIdeal.τ).loc Cert.GnIdeal.main_arg3) = m ((c.tc : Thread Cert.GnIdeal.nD Cert.GnIdeal.τ).loc Cert.GnIdeal.main_arg3)
      ∧ r.2.mem ((c.tc : Thread Cert.GnIdeal.nD Cert.GnIdeal.τ).loc Cert.GnIdeal.main_arg4) = m ((c.tc : Thread Cert.GnIdeal.nD Cert.GnIdeal.τ).loc Cert.GnIdeal.main_arg4)
      ∧ r.2.mem ((c.tc : Thread Cert.GnIdeal.nD Cert.GnIdeal.τ).loc Cert.GnIdeal.main_arg5) = m ((c.tc : Thread Cert.GnIdeal.nD Cert.GnIdeal.τ).loc Cert.GnIdeal.main_arg5)
      ∧ r.2.mem ((c.tc : Thread Cert.GnIdeal.nD Cert.GnIdeal.τ).loc Cert.GnIdeal.main_arg6) = m ((c.tc : Thread Cert.GnIdeal.nD Cert.GnIdeal.τ).loc Cert.GnIdeal.main_arg6)
      ∧ r.2.mem ((c.tc : Thread Cert.GnIdeal.nD Cert.GnIdeal.τ).loc Cert.GnIdeal.main_arg7) = m ((c.tc : Thread Cert.GnIdeal.nD Cert.GnIdeal.τ).loc Cert.GnIdeal.main_arg7)
      ∧ r.2.mem ((c.tc : Thread Cert.GnIdeal.nD Cert.GnIdeal.τ).loc Cert.GnIdeal.main_arg8) = m ((c.tc : Thread Cert.GnIdeal.nD Cert.GnIdeal.τ).loc Cert.GnIdeal.main_arg8)
      ∧ r.2.mem ((c.tc : Thread Cert.GnIdeal.nD Cert.GnIdeal.τ).loc Cert.GnIdeal.main_arg9) = m ((c.tc : Thread Cert.GnIdeal.nD Cert.GnIdeal.τ).loc Cert.GnIdeal.main_arg9))
      ∧ r.2.sem = fun _ => 0)

def quiescent_GnIdeal_pre_finite_post [hGnIdeal : Cert.GnIdeal.Facts] [hPre_finite_post : Cert.Pre_finite_post.Facts] : Prop :=
  ∀ (m : (ℓ : Loc Cert.GnIdeal.nD Cert.GnIdeal.τ Cert.GnIdeal.sig) → Buf (Elt Ideal) ℓ) (g : Dev Cert.GnIdeal.nD → PrngReg), Pre_GnIdeal_finite_post m →
    θ_run (Cert.GnIdeal.defs (F := Ideal)) (onTc (τ := Cert.GnIdeal.τ) (Cert.GnIdeal.main (F := Ideal))) ⟨m, fun _ => 0, g⟩ (fun r => (∀ c : Dev Cert.GnIdeal.nD,
      r.2.mem ((c.tc : Thread Cert.GnIdeal.nD Cert.GnIdeal.τ).loc Cert.GnIdeal.main_arg0) = m ((c.tc : Thread Cert.GnIdeal.nD Cert.GnIdeal.τ).loc Cert.GnIdeal.main_arg0)
      ∧ r.2.mem ((c.tc : Thread Cert.GnIdeal.nD Cert.GnIdeal.τ).loc Cert.GnIdeal.main_arg1) = m ((c.tc : Thread Cert.GnIdeal.nD Cert.GnIdeal.τ).loc Cert.GnIdeal.main_arg1)
      ∧ r.2.mem ((c.tc : Thread Cert.GnIdeal.nD Cert.GnIdeal.τ).loc Cert.GnIdeal.main_arg2) = m ((c.tc : Thread Cert.GnIdeal.nD Cert.GnIdeal.τ).loc Cert.GnIdeal.main_arg2)
      ∧ r.2.mem ((c.tc : Thread Cert.GnIdeal.nD Cert.GnIdeal.τ).loc Cert.GnIdeal.main_arg3) = m ((c.tc : Thread Cert.GnIdeal.nD Cert.GnIdeal.τ).loc Cert.GnIdeal.main_arg3)
      ∧ r.2.mem ((c.tc : Thread Cert.GnIdeal.nD Cert.GnIdeal.τ).loc Cert.GnIdeal.main_arg4) = m ((c.tc : Thread Cert.GnIdeal.nD Cert.GnIdeal.τ).loc Cert.GnIdeal.main_arg4)
      ∧ r.2.mem ((c.tc : Thread Cert.GnIdeal.nD Cert.GnIdeal.τ).loc Cert.GnIdeal.main_arg5) = m ((c.tc : Thread Cert.GnIdeal.nD Cert.GnIdeal.τ).loc Cert.GnIdeal.main_arg5)
      ∧ r.2.mem ((c.tc : Thread Cert.GnIdeal.nD Cert.GnIdeal.τ).loc Cert.GnIdeal.main_arg6) = m ((c.tc : Thread Cert.GnIdeal.nD Cert.GnIdeal.τ).loc Cert.GnIdeal.main_arg6)
      ∧ r.2.mem ((c.tc : Thread Cert.GnIdeal.nD Cert.GnIdeal.τ).loc Cert.GnIdeal.main_arg7) = m ((c.tc : Thread Cert.GnIdeal.nD Cert.GnIdeal.τ).loc Cert.GnIdeal.main_arg7)
      ∧ r.2.mem ((c.tc : Thread Cert.GnIdeal.nD Cert.GnIdeal.τ).loc Cert.GnIdeal.main_arg8) = m ((c.tc : Thread Cert.GnIdeal.nD Cert.GnIdeal.τ).loc Cert.GnIdeal.main_arg8)
      ∧ r.2.mem ((c.tc : Thread Cert.GnIdeal.nD Cert.GnIdeal.τ).loc Cert.GnIdeal.main_arg9) = m ((c.tc : Thread Cert.GnIdeal.nD Cert.GnIdeal.τ).loc Cert.GnIdeal.main_arg9))
      ∧ r.2.sem = fun _ => 0)

def quiescent_GnRefIdeal [hGnRefIdeal : Cert.GnRefIdeal.Facts] : Prop :=
  ∀ (m : (ℓ : Loc Cert.GnRefIdeal.nD Cert.GnRefIdeal.τ Cert.GnRefIdeal.sig) → Buf (Elt Ideal) ℓ) (g : Dev Cert.GnRefIdeal.nD → PrngReg), Pre_GnRefIdeal m →
    θ_run (Cert.GnRefIdeal.defs (F := Ideal)) (onTc (τ := Cert.GnRefIdeal.τ) (Cert.GnRefIdeal.main (F := Ideal))) ⟨m, fun _ => 0, g⟩ (fun r => (∀ c : Dev Cert.GnRefIdeal.nD,
      r.2.mem ((c.tc : Thread Cert.GnRefIdeal.nD Cert.GnRefIdeal.τ).loc Cert.GnRefIdeal.main_arg0) = m ((c.tc : Thread Cert.GnRefIdeal.nD Cert.GnRefIdeal.τ).loc Cert.GnRefIdeal.main_arg0)
      ∧ r.2.mem ((c.tc : Thread Cert.GnRefIdeal.nD Cert.GnRefIdeal.τ).loc Cert.GnRefIdeal.main_arg1) = m ((c.tc : Thread Cert.GnRefIdeal.nD Cert.GnRefIdeal.τ).loc Cert.GnRefIdeal.main_arg1)
      ∧ r.2.mem ((c.tc : Thread Cert.GnRefIdeal.nD Cert.GnRefIdeal.τ).loc Cert.GnRefIdeal.main_arg2) = m ((c.tc : Thread Cert.GnRefIdeal.nD Cert.GnRefIdeal.τ).loc Cert.GnRefIdeal.main_arg2)
      ∧ r.2.mem ((c.tc : Thread Cert.GnRefIdeal.nD Cert.GnRefIdeal.τ).loc Cert.GnRefIdeal.main_arg3) = m ((c.tc : Thread Cert.GnRefIdeal.nD Cert.GnRefIdeal.τ).loc Cert.GnRefIdeal.main_arg3)
      ∧ r.2.mem ((c.tc : Thread Cert.GnRefIdeal.nD Cert.GnRefIdeal.τ).loc Cert.GnRefIdeal.main_arg4) = m ((c.tc : Thread Cert.GnRefIdeal.nD Cert.GnRefIdeal.τ).loc Cert.GnRefIdeal.main_arg4)
      ∧ r.2.mem ((c.tc : Thread Cert.GnRefIdeal.nD Cert.GnRefIdeal.τ).loc Cert.GnRefIdeal.main_arg5) = m ((c.tc : Thread Cert.GnRefIdeal.nD Cert.GnRefIdeal.τ).loc Cert.GnRefIdeal.main_arg5)
      ∧ r.2.mem ((c.tc : Thread Cert.GnRefIdeal.nD Cert.GnRefIdeal.τ).loc Cert.GnRefIdeal.main_arg6) = m ((c.tc : Thread Cert.GnRefIdeal.nD Cert.GnRefIdeal.τ).loc Cert.GnRefIdeal.main_arg6)
      ∧ r.2.mem ((c.tc : Thread Cert.GnRefIdeal.nD Cert.GnRefIdeal.τ).loc Cert.GnRefIdeal.main_arg7) = m ((c.tc : Thread Cert.GnRefIdeal.nD Cert.GnRefIdeal.τ).loc Cert.GnRefIdeal.main_arg7)
      ∧ r.2.mem ((c.tc : Thread Cert.GnRefIdeal.nD Cert.GnRefIdeal.τ).loc Cert.GnRefIdeal.main_arg8) = m ((c.tc : Thread Cert.GnRefIdeal.nD Cert.GnRefIdeal.τ).loc Cert.GnRefIdeal.main_arg8)
      ∧ r.2.mem ((c.tc : Thread Cert.GnRefIdeal.nD Cert.GnRefIdeal.τ).loc Cert.GnRefIdeal.main_arg9) = m ((c.tc : Thread Cert.GnRefIdeal.nD Cert.GnRefIdeal.τ).loc Cert.GnRefIdeal.main_arg9))
      ∧ r.2.sem = fun _ => 0)

def quiescent_GnRefIdeal_pre_finite_post [hGnRefIdeal : Cert.GnRefIdeal.Facts] [hPre_finite_post : Cert.Pre_finite_post.Facts] : Prop :=
  ∀ (m : (ℓ : Loc Cert.GnRefIdeal.nD Cert.GnRefIdeal.τ Cert.GnRefIdeal.sig) → Buf (Elt Ideal) ℓ) (g : Dev Cert.GnRefIdeal.nD → PrngReg), Pre_GnRefIdeal_finite_post m →
    θ_run (Cert.GnRefIdeal.defs (F := Ideal)) (onTc (τ := Cert.GnRefIdeal.τ) (Cert.GnRefIdeal.main (F := Ideal))) ⟨m, fun _ => 0, g⟩ (fun r => (∀ c : Dev Cert.GnRefIdeal.nD,
      r.2.mem ((c.tc : Thread Cert.GnRefIdeal.nD Cert.GnRefIdeal.τ).loc Cert.GnRefIdeal.main_arg0) = m ((c.tc : Thread Cert.GnRefIdeal.nD Cert.GnRefIdeal.τ).loc Cert.GnRefIdeal.main_arg0)
      ∧ r.2.mem ((c.tc : Thread Cert.GnRefIdeal.nD Cert.GnRefIdeal.τ).loc Cert.GnRefIdeal.main_arg1) = m ((c.tc : Thread Cert.GnRefIdeal.nD Cert.GnRefIdeal.τ).loc Cert.GnRefIdeal.main_arg1)
      ∧ r.2.mem ((c.tc : Thread Cert.GnRefIdeal.nD Cert.GnRefIdeal.τ).loc Cert.GnRefIdeal.main_arg2) = m ((c.tc : Thread Cert.GnRefIdeal.nD Cert.GnRefIdeal.τ).loc Cert.GnRefIdeal.main_arg2)
      ∧ r.2.mem ((c.tc : Thread Cert.GnRefIdeal.nD Cert.GnRefIdeal.τ).loc Cert.GnRefIdeal.main_arg3) = m ((c.tc : Thread Cert.GnRefIdeal.nD Cert.GnRefIdeal.τ).loc Cert.GnRefIdeal.main_arg3)
      ∧ r.2.mem ((c.tc : Thread Cert.GnRefIdeal.nD Cert.GnRefIdeal.τ).loc Cert.GnRefIdeal.main_arg4) = m ((c.tc : Thread Cert.GnRefIdeal.nD Cert.GnRefIdeal.τ).loc Cert.GnRefIdeal.main_arg4)
      ∧ r.2.mem ((c.tc : Thread Cert.GnRefIdeal.nD Cert.GnRefIdeal.τ).loc Cert.GnRefIdeal.main_arg5) = m ((c.tc : Thread Cert.GnRefIdeal.nD Cert.GnRefIdeal.τ).loc Cert.GnRefIdeal.main_arg5)
      ∧ r.2.mem ((c.tc : Thread Cert.GnRefIdeal.nD Cert.GnRefIdeal.τ).loc Cert.GnRefIdeal.main_arg6) = m ((c.tc : Thread Cert.GnRefIdeal.nD Cert.GnRefIdeal.τ).loc Cert.GnRefIdeal.main_arg6)
      ∧ r.2.mem ((c.tc : Thread Cert.GnRefIdeal.nD Cert.GnRefIdeal.τ).loc Cert.GnRefIdeal.main_arg7) = m ((c.tc : Thread Cert.GnRefIdeal.nD Cert.GnRefIdeal.τ).loc Cert.GnRefIdeal.main_arg7)
      ∧ r.2.mem ((c.tc : Thread Cert.GnRefIdeal.nD Cert.GnRefIdeal.τ).loc Cert.GnRefIdeal.main_arg8) = m ((c.tc : Thread Cert.GnRefIdeal.nD Cert.GnRefIdeal.τ).loc Cert.GnRefIdeal.main_arg8)
      ∧ r.2.mem ((c.tc : Thread Cert.GnRefIdeal.nD Cert.GnRefIdeal.τ).loc Cert.GnRefIdeal.main_arg9) = m ((c.tc : Thread Cert.GnRefIdeal.nD Cert.GnRefIdeal.τ).loc Cert.GnRefIdeal.main_arg9))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpIdeal_pre_finite_shift [hInpIdeal : Cert.InpIdeal.Facts] [hPre_finite_shift : Cert.Pre_finite_shift.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_shift m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def quiescent_InpRefIdeal_pre_finite_shift [hInpRefIdeal : Cert.InpRefIdeal.Facts] [hPre_finite_shift : Cert.Pre_finite_shift.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_shift m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3)
      ∧ r.2.mem ((c.tc : Thread Cert.AdamA.nD Cert.AdamA.τ).loc Cert.AdamA.main_arg4) = m ((c.tc : Thread Cert.AdamA.nD Cert.AdamA.τ).loc Cert.AdamA.main_arg4))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3)
      ∧ r.2.mem ((c.tc : Thread Cert.AdamAIdeal.nD Cert.AdamAIdeal.τ).loc Cert.AdamAIdeal.main_arg4) = m ((c.tc : Thread Cert.AdamAIdeal.nD Cert.AdamAIdeal.τ).loc Cert.AdamAIdeal.main_arg4))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3)
      ∧ r.2.mem ((c.tc : Thread Cert.AdamARefIdeal.nD Cert.AdamARefIdeal.τ).loc Cert.AdamARefIdeal.main_arg4) = m ((c.tc : Thread Cert.AdamARefIdeal.nD Cert.AdamARefIdeal.τ).loc Cert.AdamARefIdeal.main_arg4))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3)
      ∧ r.2.mem ((c.tc : Thread Cert.AdamB.nD Cert.AdamB.τ).loc Cert.AdamB.main_arg4) = m ((c.tc : Thread Cert.AdamB.nD Cert.AdamB.τ).loc Cert.AdamB.main_arg4))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3)
      ∧ r.2.mem ((c.tc : Thread Cert.AdamBIdeal.nD Cert.AdamBIdeal.τ).loc Cert.AdamBIdeal.main_arg4) = m ((c.tc : Thread Cert.AdamBIdeal.nD Cert.AdamBIdeal.τ).loc Cert.AdamBIdeal.main_arg4))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3)
      ∧ r.2.mem ((c.tc : Thread Cert.AdamBRefIdeal.nD Cert.AdamBRefIdeal.τ).loc Cert.AdamBRefIdeal.main_arg4) = m ((c.tc : Thread Cert.AdamBRefIdeal.nD Cert.AdamBRefIdeal.τ).loc Cert.AdamBRefIdeal.main_arg4))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3)
      ∧ r.2.mem ((c.tc : Thread Cert.AdamC.nD Cert.AdamC.τ).loc Cert.AdamC.main_arg4) = m ((c.tc : Thread Cert.AdamC.nD Cert.AdamC.τ).loc Cert.AdamC.main_arg4))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3)
      ∧ r.2.mem ((c.tc : Thread Cert.AdamCIdeal.nD Cert.AdamCIdeal.τ).loc Cert.AdamCIdeal.main_arg4) = m ((c.tc : Thread Cert.AdamCIdeal.nD Cert.AdamCIdeal.τ).loc Cert.AdamCIdeal.main_arg4))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3)
      ∧ r.2.mem ((c.tc : Thread Cert.AdamCRefIdeal.nD Cert.AdamCRefIdeal.τ).loc Cert.AdamCRefIdeal.main_arg4) = m ((c.tc : Thread Cert.AdamCRefIdeal.nD Cert.AdamCRefIdeal.τ).loc Cert.AdamCRefIdeal.main_arg4))
      ∧ r.2.sem = fun _ => 0)

def quiescent_AdamD [hAdamD : Cert.AdamD.Facts] : Prop :=
  ∀ (m : (ℓ : Loc Cert.AdamD.nD Cert.AdamD.τ Cert.AdamD.sig) → Buf (Elt Bits) ℓ) (g : Dev Cert.AdamD.nD → PrngReg), Pre_AdamD m →
    θ_run (Cert.AdamD.defs (F := Bits)) (onTc (τ := Cert.AdamD.τ) (Cert.AdamD.main (F := Bits))) ⟨m, fun _ => 0, g⟩ (fun r => (∀ c : Dev Cert.AdamD.nD,
      r.2.mem ((c.tc : Thread Cert.AdamD.nD Cert.AdamD.τ).loc Cert.AdamD.main_arg0) = m ((c.tc : Thread Cert.AdamD.nD Cert.AdamD.τ).loc Cert.AdamD.main_arg0)
      ∧ r.2.mem ((c.tc : Thread Cert.AdamD.nD Cert.AdamD.τ).loc Cert.AdamD.main_arg1) = m ((c.tc : Thread Cert.AdamD.nD Cert.AdamD.τ).loc Cert.AdamD.main_arg1)
      ∧ r.2.mem ((c.tc : Thread Cert.AdamD.nD Cert.AdamD.τ).loc Cert.AdamD.main_arg2) = m ((c.tc : Thread Cert.AdamD.nD Cert.AdamD.τ).loc Cert.AdamD.main_arg2)
      ∧ r.2.mem ((c.tc : Thread Cert.AdamD.nD Cert.AdamD.τ).loc Cert.AdamD.main_arg3) = m ((c.tc : Thread Cert.AdamD.nD Cert.AdamD.τ).loc Cert.AdamD.main_arg3)
      ∧ r.2.mem ((c.tc : Thread Cert.AdamD.nD Cert.AdamD.τ).loc Cert.AdamD.main_arg4) = m ((c.tc : Thread Cert.AdamD.nD Cert.AdamD.τ).loc Cert.AdamD.main_arg4))
      ∧ r.2.sem = fun _ => 0)

def quiescent_AdamDIdeal [hAdamDIdeal : Cert.AdamDIdeal.Facts] : Prop :=
  ∀ (m : (ℓ : Loc Cert.AdamDIdeal.nD Cert.AdamDIdeal.τ Cert.AdamDIdeal.sig) → Buf (Elt Ideal) ℓ) (g : Dev Cert.AdamDIdeal.nD → PrngReg), Pre_AdamDIdeal m →
    θ_run (Cert.AdamDIdeal.defs (F := Ideal)) (onTc (τ := Cert.AdamDIdeal.τ) (Cert.AdamDIdeal.main (F := Ideal))) ⟨m, fun _ => 0, g⟩ (fun r => (∀ c : Dev Cert.AdamDIdeal.nD,
      r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
      ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
      ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
      ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3)
      ∧ r.2.mem ((c.tc : Thread Cert.AdamDIdeal.nD Cert.AdamDIdeal.τ).loc Cert.AdamDIdeal.main_arg4) = m ((c.tc : Thread Cert.AdamDIdeal.nD Cert.AdamDIdeal.τ).loc Cert.AdamDIdeal.main_arg4))
      ∧ r.2.sem = fun _ => 0)

def quiescent_AdamDRefIdeal [hAdamDRefIdeal : Cert.AdamDRefIdeal.Facts] : Prop :=
  ∀ (m : (ℓ : Loc Cert.AdamDRefIdeal.nD Cert.AdamDRefIdeal.τ Cert.AdamDRefIdeal.sig) → Buf (Elt Ideal) ℓ) (g : Dev Cert.AdamDRefIdeal.nD → PrngReg), Pre_AdamDRefIdeal m →
    θ_run (Cert.AdamDRefIdeal.defs (F := Ideal)) (onTc (τ := Cert.AdamDRefIdeal.τ) (Cert.AdamDRefIdeal.main (F := Ideal))) ⟨m, fun _ => 0, g⟩ (fun r => (∀ c : Dev Cert.AdamDRefIdeal.nD,
      r.2.mem ((c.tc : Thread Cert.AdamDRefIdeal.nD Cert.AdamDRefIdeal.τ).loc Cert.AdamDRefIdeal.main_arg0) = m ((c.tc : Thread Cert.AdamDRefIdeal.nD Cert.AdamDRefIdeal.τ).loc Cert.AdamDRefIdeal.main_arg0)
      ∧ r.2.mem ((c.tc : Thread Cert.AdamDRefIdeal.nD Cert.AdamDRefIdeal.τ).loc Cert.AdamDRefIdeal.main_arg1) = m ((c.tc : Thread Cert.AdamDRefIdeal.nD Cert.AdamDRefIdeal.τ).loc Cert.AdamDRefIdeal.main_arg1)
      ∧ r.2.mem ((c.tc : Thread Cert.AdamDRefIdeal.nD Cert.AdamDRefIdeal.τ).loc Cert.AdamDRefIdeal.main_arg2) = m ((c.tc : Thread Cert.AdamDRefIdeal.nD Cert.AdamDRefIdeal.τ).loc Cert.AdamDRefIdeal.main_arg2)
      ∧ r.2.mem ((c.tc : Thread Cert.AdamDRefIdeal.nD Cert.AdamDRefIdeal.τ).loc Cert.AdamDRefIdeal.main_arg3) = m ((c.tc : Thread Cert.AdamDRefIdeal.nD Cert.AdamDRefIdeal.τ).loc Cert.AdamDRefIdeal.main_arg3)
      ∧ r.2.mem ((c.tc : Thread Cert.AdamDRefIdeal.nD Cert.AdamDRefIdeal.τ).loc Cert.AdamDRefIdeal.main_arg4) = m ((c.tc : Thread Cert.AdamDRefIdeal.nD Cert.AdamDRefIdeal.τ).loc Cert.AdamDRefIdeal.main_arg4))
      ∧ r.2.sem = fun _ => 0)

def quiescent_SmallA [hSmallA : Cert.SmallA.Facts] : Prop :=
  ∀ (m : (ℓ : Loc Cert.SmallA.nD Cert.SmallA.τ Cert.SmallA.sig) → Buf (Elt Bits) ℓ) (g : Dev Cert.SmallA.nD → PrngReg), Pre_SmallA m →
    θ_run (Cert.SmallA.defs (F := Bits)) (onTc (τ := Cert.SmallA.τ) (Cert.SmallA.main (F := Bits))) ⟨m, fun _ => 0, g⟩ (fun r => (∀ c : Dev Cert.SmallA.nD,
      r.2.mem ((c.tc : Thread Cert.SmallA.nD Cert.SmallA.τ).loc Cert.SmallA.main_arg0) = m ((c.tc : Thread Cert.SmallA.nD Cert.SmallA.τ).loc Cert.SmallA.main_arg0)
      ∧ r.2.mem ((c.tc : Thread Cert.SmallA.nD Cert.SmallA.τ).loc Cert.SmallA.main_arg1) = m ((c.tc : Thread Cert.SmallA.nD Cert.SmallA.τ).loc Cert.SmallA.main_arg1)
      ∧ r.2.mem ((c.tc : Thread Cert.SmallA.nD Cert.SmallA.τ).loc Cert.SmallA.main_arg2) = m ((c.tc : Thread Cert.SmallA.nD Cert.SmallA.τ).loc Cert.SmallA.main_arg2)
      ∧ r.2.mem ((c.tc : Thread Cert.SmallA.nD Cert.SmallA.τ).loc Cert.SmallA.main_arg3) = m ((c.tc : Thread Cert.SmallA.nD Cert.SmallA.τ).loc Cert.SmallA.main_arg3)
      ∧ r.2.mem ((c.tc : Thread Cert.SmallA.nD Cert.SmallA.τ).loc Cert.SmallA.main_arg4) = m ((c.tc : Thread Cert.SmallA.nD Cert.SmallA.τ).loc Cert.SmallA.main_arg4)
      ∧ r.2.mem ((c.tc : Thread Cert.SmallA.nD Cert.SmallA.τ).loc Cert.SmallA.main_arg5) = m ((c.tc : Thread Cert.SmallA.nD Cert.SmallA.τ).loc Cert.SmallA.main_arg5)
      ∧ r.2.mem ((c.tc : Thread Cert.SmallA.nD Cert.SmallA.τ).loc Cert.SmallA.main_arg6) = m ((c.tc : Thread Cert.SmallA.nD Cert.SmallA.τ).loc Cert.SmallA.main_arg6)
      ∧ r.2.mem ((c.tc : Thread Cert.SmallA.nD Cert.SmallA.τ).loc Cert.SmallA.main_arg7) = m ((c.tc : Thread Cert.SmallA.nD Cert.SmallA.τ).loc Cert.SmallA.main_arg7)
      ∧ r.2.mem ((c.tc : Thread Cert.SmallA.nD Cert.SmallA.τ).loc Cert.SmallA.main_arg8) = m ((c.tc : Thread Cert.SmallA.nD Cert.SmallA.τ).loc Cert.SmallA.main_arg8)
      ∧ r.2.mem ((c.tc : Thread Cert.SmallA.nD Cert.SmallA.τ).loc Cert.SmallA.main_arg9) = m ((c.tc : Thread Cert.SmallA.nD Cert.SmallA.τ).loc Cert.SmallA.main_arg9))
      ∧ r.2.sem = fun _ => 0)

def quiescent_SmallAIdeal [hSmallAIdeal : Cert.SmallAIdeal.Facts] : Prop :=
  ∀ (m : (ℓ : Loc Cert.SmallAIdeal.nD Cert.SmallAIdeal.τ Cert.SmallAIdeal.sig) → Buf (Elt Ideal) ℓ) (g : Dev Cert.SmallAIdeal.nD → PrngReg), Pre_SmallAIdeal m →
    θ_run (Cert.SmallAIdeal.defs (F := Ideal)) (onTc (τ := Cert.SmallAIdeal.τ) (Cert.SmallAIdeal.main (F := Ideal))) ⟨m, fun _ => 0, g⟩ (fun r => (∀ c : Dev Cert.SmallAIdeal.nD,
      r.2.mem ((c.tc : Thread Cert.SmallAIdeal.nD Cert.SmallAIdeal.τ).loc Cert.SmallAIdeal.main_arg0) = m ((c.tc : Thread Cert.SmallAIdeal.nD Cert.SmallAIdeal.τ).loc Cert.SmallAIdeal.main_arg0)
      ∧ r.2.mem ((c.tc : Thread Cert.SmallAIdeal.nD Cert.SmallAIdeal.τ).loc Cert.SmallAIdeal.main_arg1) = m ((c.tc : Thread Cert.SmallAIdeal.nD Cert.SmallAIdeal.τ).loc Cert.SmallAIdeal.main_arg1)
      ∧ r.2.mem ((c.tc : Thread Cert.SmallAIdeal.nD Cert.SmallAIdeal.τ).loc Cert.SmallAIdeal.main_arg2) = m ((c.tc : Thread Cert.SmallAIdeal.nD Cert.SmallAIdeal.τ).loc Cert.SmallAIdeal.main_arg2)
      ∧ r.2.mem ((c.tc : Thread Cert.SmallAIdeal.nD Cert.SmallAIdeal.τ).loc Cert.SmallAIdeal.main_arg3) = m ((c.tc : Thread Cert.SmallAIdeal.nD Cert.SmallAIdeal.τ).loc Cert.SmallAIdeal.main_arg3)
      ∧ r.2.mem ((c.tc : Thread Cert.SmallAIdeal.nD Cert.SmallAIdeal.τ).loc Cert.SmallAIdeal.main_arg4) = m ((c.tc : Thread Cert.SmallAIdeal.nD Cert.SmallAIdeal.τ).loc Cert.SmallAIdeal.main_arg4)
      ∧ r.2.mem ((c.tc : Thread Cert.SmallAIdeal.nD Cert.SmallAIdeal.τ).loc Cert.SmallAIdeal.main_arg5) = m ((c.tc : Thread Cert.SmallAIdeal.nD Cert.SmallAIdeal.τ).loc Cert.SmallAIdeal.main_arg5)
      ∧ r.2.mem ((c.tc : Thread Cert.SmallAIdeal.nD Cert.SmallAIdeal.τ).loc Cert.SmallAIdeal.main_arg6) = m ((c.tc : Thread Cert.SmallAIdeal.nD Cert.SmallAIdeal.τ).loc Cert.SmallAIdeal.main_arg6)
      ∧ r.2.mem ((c.tc : Thread Cert.SmallAIdeal.nD Cert.SmallAIdeal.τ).loc Cert.SmallAIdeal.main_arg7) = m ((c.tc : Thread Cert.SmallAIdeal.nD Cert.SmallAIdeal.τ).loc Cert.SmallAIdeal.main_arg7)
      ∧ r.2.mem ((c.tc : Thread Cert.SmallAIdeal.nD Cert.SmallAIdeal.τ).loc Cert.SmallAIdeal.main_arg8) = m ((c.tc : Thread Cert.SmallAIdeal.nD Cert.SmallAIdeal.τ).loc Cert.SmallAIdeal.main_arg8)
      ∧ r.2.mem ((c.tc : Thread Cert.SmallAIdeal.nD Cert.SmallAIdeal.τ).loc Cert.SmallAIdeal.main_arg9) = m ((c.tc : Thread Cert.SmallAIdeal.nD Cert.SmallAIdeal.τ).loc Cert.SmallAIdeal.main_arg9))
      ∧ r.2.sem = fun _ => 0)

def quiescent_SmallARefIdeal [hSmallARefIdeal : Cert.SmallARefIdeal.Facts] : Prop :=
  ∀ (m : (ℓ : Loc Cert.SmallARefIdeal.nD Cert.SmallARefIdeal.τ Cert.SmallARefIdeal.sig) → Buf (Elt Ideal) ℓ) (g : Dev Cert.SmallARefIdeal.nD → PrngReg), Pre_SmallARefIdeal m →
    θ_run (Cert.SmallARefIdeal.defs (F := Ideal)) (onTc (τ := Cert.SmallARefIdeal.τ) (Cert.SmallARefIdeal.main (F := Ideal))) ⟨m, fun _ => 0, g⟩ (fun r => (∀ c : Dev Cert.SmallARefIdeal.nD,
      r.2.mem ((c.tc : Thread Cert.SmallARefIdeal.nD Cert.SmallARefIdeal.τ).loc Cert.SmallARefIdeal.main_arg0) = m ((c.tc : Thread Cert.SmallARefIdeal.nD Cert.SmallARefIdeal.τ).loc Cert.SmallARefIdeal.main_arg0)
      ∧ r.2.mem ((c.tc : Thread Cert.SmallARefIdeal.nD Cert.SmallARefIdeal.τ).loc Cert.SmallARefIdeal.main_arg1) = m ((c.tc : Thread Cert.SmallARefIdeal.nD Cert.SmallARefIdeal.τ).loc Cert.SmallARefIdeal.main_arg1)
      ∧ r.2.mem ((c.tc : Thread Cert.SmallARefIdeal.nD Cert.SmallARefIdeal.τ).loc Cert.SmallARefIdeal.main_arg2) = m ((c.tc : Thread Cert.SmallARefIdeal.nD Cert.SmallARefIdeal.τ).loc Cert.SmallARefIdeal.main_arg2)
      ∧ r.2.mem ((c.tc : Thread Cert.SmallARefIdeal.nD Cert.SmallARefIdeal.τ).loc Cert.SmallARefIdeal.main_arg3) = m ((c.tc : Thread Cert.SmallARefIdeal.nD Cert.SmallARefIdeal.τ).loc Cert.SmallARefIdeal.main_arg3)
      ∧ r.2.mem ((c.tc : Thread Cert.SmallARefIdeal.nD Cert.SmallARefIdeal.τ).loc Cert.SmallARefIdeal.main_arg4) = m ((c.tc : Thread Cert.SmallARefIdeal.nD Cert.SmallARefIdeal.τ).loc Cert.SmallARefIdeal.main_arg4)
      ∧ r.2.mem ((c.tc : Thread Cert.SmallARefIdeal.nD Cert.SmallARefIdeal.τ).loc Cert.SmallARefIdeal.main_arg5) = m ((c.tc : Thread Cert.SmallARefIdeal.nD Cert.SmallARefIdeal.τ).loc Cert.SmallARefIdeal.main_arg5)
      ∧ r.2.mem ((c.tc : Thread Cert.SmallARefIdeal.nD Cert.SmallARefIdeal.τ).loc Cert.SmallARefIdeal.main_arg6) = m ((c.tc : Thread Cert.SmallARefIdeal.nD Cert.SmallARefIdeal.τ).loc Cert.SmallARefIdeal.main_arg6)
      ∧ r.2.mem ((c.tc : Thread Cert.SmallARefIdeal.nD Cert.SmallARefIdeal.τ).loc Cert.SmallARefIdeal.main_arg7) = m ((c.tc : Thread Cert.SmallARefIdeal.nD Cert.SmallARefIdeal.τ).loc Cert.SmallARefIdeal.main_arg7)
      ∧ r.2.mem ((c.tc : Thread Cert.SmallARefIdeal.nD Cert.SmallARefIdeal.τ).loc Cert.SmallARefIdeal.main_arg8) = m ((c.tc : Thread Cert.SmallARefIdeal.nD Cert.SmallARefIdeal.τ).loc Cert.SmallARefIdeal.main_arg8)
      ∧ r.2.mem ((c.tc : Thread Cert.SmallARefIdeal.nD Cert.SmallARefIdeal.τ).loc Cert.SmallARefIdeal.main_arg9) = m ((c.tc : Thread Cert.SmallARefIdeal.nD Cert.SmallARefIdeal.τ).loc Cert.SmallARefIdeal.main_arg9))
      ∧ r.2.sem = fun _ => 0)

def quiescent_SmallB [hSmallB : Cert.SmallB.Facts] : Prop :=
  ∀ (m : (ℓ : Loc Cert.SmallB.nD Cert.SmallB.τ Cert.SmallB.sig) → Buf (Elt Bits) ℓ) (g : Dev Cert.SmallB.nD → PrngReg), Pre_SmallB m →
    θ_run (Cert.SmallB.defs (F := Bits)) (onTc (τ := Cert.SmallB.τ) (Cert.SmallB.main (F := Bits))) ⟨m, fun _ => 0, g⟩ (fun r => (∀ c : Dev Cert.SmallB.nD,
      r.2.mem ((c.tc : Thread Cert.SmallB.nD Cert.SmallB.τ).loc Cert.SmallB.main_arg0) = m ((c.tc : Thread Cert.SmallB.nD Cert.SmallB.τ).loc Cert.SmallB.main_arg0)
      ∧ r.2.mem ((c.tc : Thread Cert.SmallB.nD Cert.SmallB.τ).loc Cert.SmallB.main_arg1) = m ((c.tc : Thread Cert.SmallB.nD Cert.SmallB.τ).loc Cert.SmallB.main_arg1)
      ∧ r.2.mem ((c.tc : Thread Cert.SmallB.nD Cert.SmallB.τ).loc Cert.SmallB.main_arg2) = m ((c.tc : Thread Cert.SmallB.nD Cert.SmallB.τ).loc Cert.SmallB.main_arg2)
      ∧ r.2.mem ((c.tc : Thread Cert.SmallB.nD Cert.SmallB.τ).loc Cert.SmallB.main_arg3) = m ((c.tc : Thread Cert.SmallB.nD Cert.SmallB.τ).loc Cert.SmallB.main_arg3)
      ∧ r.2.mem ((c.tc : Thread Cert.SmallB.nD Cert.SmallB.τ).loc Cert.SmallB.main_arg4) = m ((c.tc : Thread Cert.SmallB.nD Cert.SmallB.τ).loc Cert.SmallB.main_arg4)
      ∧ r.2.mem ((c.tc : Thread Cert.SmallB.nD Cert.SmallB.τ).loc Cert.SmallB.main_arg5) = m ((c.tc : Thread Cert.SmallB.nD Cert.SmallB.τ).loc Cert.SmallB.main_arg5)
      ∧ r.2.mem ((c.tc : Thread Cert.SmallB.nD Cert.SmallB.τ).loc Cert.SmallB.main_arg6) = m ((c.tc : Thread Cert.SmallB.nD Cert.SmallB.τ).loc Cert.SmallB.main_arg6)
      ∧ r.2.mem ((c.tc : Thread Cert.SmallB.nD Cert.SmallB.τ).loc Cert.SmallB.main_arg7) = m ((c.tc : Thread Cert.SmallB.nD Cert.SmallB.τ).loc Cert.SmallB.main_arg7)
      ∧ r.2.mem ((c.tc : Thread Cert.SmallB.nD Cert.SmallB.τ).loc Cert.SmallB.main_arg8) = m ((c.tc : Thread Cert.SmallB.nD Cert.SmallB.τ).loc Cert.SmallB.main_arg8)
      ∧ r.2.mem ((c.tc : Thread Cert.SmallB.nD Cert.SmallB.τ).loc Cert.SmallB.main_arg9) = m ((c.tc : Thread Cert.SmallB.nD Cert.SmallB.τ).loc Cert.SmallB.main_arg9))
      ∧ r.2.sem = fun _ => 0)

def quiescent_SmallBIdeal [hSmallBIdeal : Cert.SmallBIdeal.Facts] : Prop :=
  ∀ (m : (ℓ : Loc Cert.SmallBIdeal.nD Cert.SmallBIdeal.τ Cert.SmallBIdeal.sig) → Buf (Elt Ideal) ℓ) (g : Dev Cert.SmallBIdeal.nD → PrngReg), Pre_SmallBIdeal m →
    θ_run (Cert.SmallBIdeal.defs (F := Ideal)) (onTc (τ := Cert.SmallBIdeal.τ) (Cert.SmallBIdeal.main (F := Ideal))) ⟨m, fun _ => 0, g⟩ (fun r => (∀ c : Dev Cert.SmallBIdeal.nD,
      r.2.mem ((c.tc : Thread Cert.SmallBIdeal.nD Cert.SmallBIdeal.τ).loc Cert.SmallBIdeal.main_arg0) = m ((c.tc : Thread Cert.SmallBIdeal.nD Cert.SmallBIdeal.τ).loc Cert.SmallBIdeal.main_arg0)
      ∧ r.2.mem ((c.tc : Thread Cert.SmallBIdeal.nD Cert.SmallBIdeal.τ).loc Cert.SmallBIdeal.main_arg1) = m ((c.tc : Thread Cert.SmallBIdeal.nD Cert.SmallBIdeal.τ).loc Cert.SmallBIdeal.main_arg1)
      ∧ r.2.mem ((c.tc : Thread Cert.SmallBIdeal.nD Cert.SmallBIdeal.τ).loc Cert.SmallBIdeal.main_arg2) = m ((c.tc : Thread Cert.SmallBIdeal.nD Cert.SmallBIdeal.τ).loc Cert.SmallBIdeal.main_arg2)
      ∧ r.2.mem ((c.tc : Thread Cert.SmallBIdeal.nD Cert.SmallBIdeal.τ).loc Cert.SmallBIdeal.main_arg3) = m ((c.tc : Thread Cert.SmallBIdeal.nD Cert.SmallBIdeal.τ).loc Cert.SmallBIdeal.main_arg3)
      ∧ r.2.mem ((c.tc : Thread Cert.SmallBIdeal.nD Cert.SmallBIdeal.τ).loc Cert.SmallBIdeal.main_arg4) = m ((c.tc : Thread Cert.SmallBIdeal.nD Cert.SmallBIdeal.τ).loc Cert.SmallBIdeal.main_arg4)
      ∧ r.2.mem ((c.tc : Thread Cert.SmallBIdeal.nD Cert.SmallBIdeal.τ).loc Cert.SmallBIdeal.main_arg5) = m ((c.tc : Thread Cert.SmallBIdeal.nD Cert.SmallBIdeal.τ).loc Cert.SmallBIdeal.main_arg5)
      ∧ r.2.mem ((c.tc : Thread Cert.SmallBIdeal.nD Cert.SmallBIdeal.τ).loc Cert.SmallBIdeal.main_arg6) = m ((c.tc : Thread Cert.SmallBIdeal.nD Cert.SmallBIdeal.τ).loc Cert.SmallBIdeal.main_arg6)
      ∧ r.2.mem ((c.tc : Thread Cert.SmallBIdeal.nD Cert.SmallBIdeal.τ).loc Cert.SmallBIdeal.main_arg7) = m ((c.tc : Thread Cert.SmallBIdeal.nD Cert.SmallBIdeal.τ).loc Cert.SmallBIdeal.main_arg7)
      ∧ r.2.mem ((c.tc : Thread Cert.SmallBIdeal.nD Cert.SmallBIdeal.τ).loc Cert.SmallBIdeal.main_arg8) = m ((c.tc : Thread Cert.SmallBIdeal.nD Cert.SmallBIdeal.τ).loc Cert.SmallBIdeal.main_arg8)
      ∧ r.2.mem ((c.tc : Thread Cert.SmallBIdeal.nD Cert.SmallBIdeal.τ).loc Cert.SmallBIdeal.main_arg9) = m ((c.tc : Thread Cert.SmallBIdeal.nD Cert.SmallBIdeal.τ).loc Cert.SmallBIdeal.main_arg9))
      ∧ r.2.sem = fun _ => 0)

def quiescent_SmallBRefIdeal [hSmallBRefIdeal : Cert.SmallBRefIdeal.Facts] : Prop :=
  ∀ (m : (ℓ : Loc Cert.SmallBRefIdeal.nD Cert.SmallBRefIdeal.τ Cert.SmallBRefIdeal.sig) → Buf (Elt Ideal) ℓ) (g : Dev Cert.SmallBRefIdeal.nD → PrngReg), Pre_SmallBRefIdeal m →
    θ_run (Cert.SmallBRefIdeal.defs (F := Ideal)) (onTc (τ := Cert.SmallBRefIdeal.τ) (Cert.SmallBRefIdeal.main (F := Ideal))) ⟨m, fun _ => 0, g⟩ (fun r => (∀ c : Dev Cert.SmallBRefIdeal.nD,
      r.2.mem ((c.tc : Thread Cert.SmallBRefIdeal.nD Cert.SmallBRefIdeal.τ).loc Cert.SmallBRefIdeal.main_arg0) = m ((c.tc : Thread Cert.SmallBRefIdeal.nD Cert.SmallBRefIdeal.τ).loc Cert.SmallBRefIdeal.main_arg0)
      ∧ r.2.mem ((c.tc : Thread Cert.SmallBRefIdeal.nD Cert.SmallBRefIdeal.τ).loc Cert.SmallBRefIdeal.main_arg1) = m ((c.tc : Thread Cert.SmallBRefIdeal.nD Cert.SmallBRefIdeal.τ).loc Cert.SmallBRefIdeal.main_arg1)
      ∧ r.2.mem ((c.tc : Thread Cert.SmallBRefIdeal.nD Cert.SmallBRefIdeal.τ).loc Cert.SmallBRefIdeal.main_arg2) = m ((c.tc : Thread Cert.SmallBRefIdeal.nD Cert.SmallBRefIdeal.τ).loc Cert.SmallBRefIdeal.main_arg2)
      ∧ r.2.mem ((c.tc : Thread Cert.SmallBRefIdeal.nD Cert.SmallBRefIdeal.τ).loc Cert.SmallBRefIdeal.main_arg3) = m ((c.tc : Thread Cert.SmallBRefIdeal.nD Cert.SmallBRefIdeal.τ).loc Cert.SmallBRefIdeal.main_arg3)
      ∧ r.2.mem ((c.tc : Thread Cert.SmallBRefIdeal.nD Cert.SmallBRefIdeal.τ).loc Cert.SmallBRefIdeal.main_arg4) = m ((c.tc : Thread Cert.SmallBRefIdeal.nD Cert.SmallBRefIdeal.τ).loc Cert.SmallBRefIdeal.main_arg4)
      ∧ r.2.mem ((c.tc : Thread Cert.SmallBRefIdeal.nD Cert.SmallBRefIdeal.τ).loc Cert.SmallBRefIdeal.main_arg5) = m ((c.tc : Thread Cert.SmallBRefIdeal.nD Cert.SmallBRefIdeal.τ).loc Cert.SmallBRefIdeal.main_arg5)
      ∧ r.2.mem ((c.tc : Thread Cert.SmallBRefIdeal.nD Cert.SmallBRefIdeal.τ).loc Cert.SmallBRefIdeal.main_arg6) = m ((c.tc : Thread Cert.SmallBRefIdeal.nD Cert.SmallBRefIdeal.τ).loc Cert.SmallBRefIdeal.main_arg6)
      ∧ r.2.mem ((c.tc : Thread Cert.SmallBRefIdeal.nD Cert.SmallBRefIdeal.τ).loc Cert.SmallBRefIdeal.main_arg7) = m ((c.tc : Thread Cert.SmallBRefIdeal.nD Cert.SmallBRefIdeal.τ).loc Cert.SmallBRefIdeal.main_arg7)
      ∧ r.2.mem ((c.tc : Thread Cert.SmallBRefIdeal.nD Cert.SmallBRefIdeal.τ).loc Cert.SmallBRefIdeal.main_arg8) = m ((c.tc : Thread Cert.SmallBRefIdeal.nD Cert.SmallBRefIdeal.τ).loc Cert.SmallBRefIdeal.main_arg8)
      ∧ r.2.mem ((c.tc : Thread Cert.SmallBRefIdeal.nD Cert.SmallBRefIdeal.τ).loc Cert.SmallBRefIdeal.main_arg9) = m ((c.tc : Thread Cert.SmallBRefIdeal.nD Cert.SmallBRefIdeal.τ).loc Cert.SmallBRefIdeal.main_arg9))
      ∧ r.2.sem = fun _ => 0)

def quiescent_SmallC [hSmallC : Cert.SmallC.Facts] : Prop :=
  ∀ (m : (ℓ : Loc Cert.SmallC.nD Cert.SmallC.τ Cert.SmallC.sig) → Buf (Elt Bits) ℓ) (g : Dev Cert.SmallC.nD → PrngReg), Pre_SmallC m →
    θ_run (Cert.SmallC.defs (F := Bits)) (onTc (τ := Cert.SmallC.τ) (Cert.SmallC.main (F := Bits))) ⟨m, fun _ => 0, g⟩ (fun r => (∀ c : Dev Cert.SmallC.nD,
      r.2.mem ((c.tc : Thread Cert.SmallC.nD Cert.SmallC.τ).loc Cert.SmallC.main_arg0) = m ((c.tc : Thread Cert.SmallC.nD Cert.SmallC.τ).loc Cert.SmallC.main_arg0)
      ∧ r.2.mem ((c.tc : Thread Cert.SmallC.nD Cert.SmallC.τ).loc Cert.SmallC.main_arg1) = m ((c.tc : Thread Cert.SmallC.nD Cert.SmallC.τ).loc Cert.SmallC.main_arg1)
      ∧ r.2.mem ((c.tc : Thread Cert.SmallC.nD Cert.SmallC.τ).loc Cert.SmallC.main_arg2) = m ((c.tc : Thread Cert.SmallC.nD Cert.SmallC.τ).loc Cert.SmallC.main_arg2)
      ∧ r.2.mem ((c.tc : Thread Cert.SmallC.nD Cert.SmallC.τ).loc Cert.SmallC.main_arg3) = m ((c.tc : Thread Cert.SmallC.nD Cert.SmallC.τ).loc Cert.SmallC.main_arg3)
      ∧ r.2.mem ((c.tc : Thread Cert.SmallC.nD Cert.SmallC.τ).loc Cert.SmallC.main_arg4) = m ((c.tc : Thread Cert.SmallC.nD Cert.SmallC.τ).loc Cert.SmallC.main_arg4)
      ∧ r.2.mem ((c.tc : Thread Cert.SmallC.nD Cert.SmallC.τ).loc Cert.SmallC.main_arg5) = m ((c.tc : Thread Cert.SmallC.nD Cert.SmallC.τ).loc Cert.SmallC.main_arg5)
      ∧ r.2.mem ((c.tc : Thread Cert.SmallC.nD Cert.SmallC.τ).loc Cert.SmallC.main_arg6) = m ((c.tc : Thread Cert.SmallC.nD Cert.SmallC.τ).loc Cert.SmallC.main_arg6)
      ∧ r.2.mem ((c.tc : Thread Cert.SmallC.nD Cert.SmallC.τ).loc Cert.SmallC.main_arg7) = m ((c.tc : Thread Cert.SmallC.nD Cert.SmallC.τ).loc Cert.SmallC.main_arg7)
      ∧ r.2.mem ((c.tc : Thread Cert.SmallC.nD Cert.SmallC.τ).loc Cert.SmallC.main_arg8) = m ((c.tc : Thread Cert.SmallC.nD Cert.SmallC.τ).loc Cert.SmallC.main_arg8)
      ∧ r.2.mem ((c.tc : Thread Cert.SmallC.nD Cert.SmallC.τ).loc Cert.SmallC.main_arg9) = m ((c.tc : Thread Cert.SmallC.nD Cert.SmallC.τ).loc Cert.SmallC.main_arg9))
      ∧ r.2.sem = fun _ => 0)

def quiescent_SmallCIdeal [hSmallCIdeal : Cert.SmallCIdeal.Facts] : Prop :=
  ∀ (m : (ℓ : Loc Cert.SmallCIdeal.nD Cert.SmallCIdeal.τ Cert.SmallCIdeal.sig) → Buf (Elt Ideal) ℓ) (g : Dev Cert.SmallCIdeal.nD → PrngReg), Pre_SmallCIdeal m →
    θ_run (Cert.SmallCIdeal.defs (F := Ideal)) (onTc (τ := Cert.SmallCIdeal.τ) (Cert.SmallCIdeal.main (F := Ideal))) ⟨m, fun _ => 0, g⟩ (fun r => (∀ c : Dev Cert.SmallCIdeal.nD,
      r.2.mem ((c.tc : Thread Cert.SmallCIdeal.nD Cert.SmallCIdeal.τ).loc Cert.SmallCIdeal.main_arg0) = m ((c.tc : Thread Cert.SmallCIdeal.nD Cert.SmallCIdeal.τ).loc Cert.SmallCIdeal.main_arg0)
      ∧ r.2.mem ((c.tc : Thread Cert.SmallCIdeal.nD Cert.SmallCIdeal.τ).loc Cert.SmallCIdeal.main_arg1) = m ((c.tc : Thread Cert.SmallCIdeal.nD Cert.SmallCIdeal.τ).loc Cert.SmallCIdeal.main_arg1)
      ∧ r.2.mem ((c.tc : Thread Cert.SmallCIdeal.nD Cert.SmallCIdeal.τ).loc Cert.SmallCIdeal.main_arg2) = m ((c.tc : Thread Cert.SmallCIdeal.nD Cert.SmallCIdeal.τ).loc Cert.SmallCIdeal.main_arg2)
      ∧ r.2.mem ((c.tc : Thread Cert.SmallCIdeal.nD Cert.SmallCIdeal.τ).loc Cert.SmallCIdeal.main_arg3) = m ((c.tc : Thread Cert.SmallCIdeal.nD Cert.SmallCIdeal.τ).loc Cert.SmallCIdeal.main_arg3)
      ∧ r.2.mem ((c.tc : Thread Cert.SmallCIdeal.nD Cert.SmallCIdeal.τ).loc Cert.SmallCIdeal.main_arg4) = m ((c.tc : Thread Cert.SmallCIdeal.nD Cert.SmallCIdeal.τ).loc Cert.SmallCIdeal.main_arg4)
      ∧ r.2.mem ((c.tc : Thread Cert.SmallCIdeal.nD Cert.SmallCIdeal.τ).loc Cert.SmallCIdeal.main_arg5) = m ((c.tc : Thread Cert.SmallCIdeal.nD Cert.SmallCIdeal.τ).loc Cert.SmallCIdeal.main_arg5)
      ∧ r.2.mem ((c.tc : Thread Cert.SmallCIdeal.nD Cert.SmallCIdeal.τ).loc Cert.SmallCIdeal.main_arg6) = m ((c.tc : Thread Cert.SmallCIdeal.nD Cert.SmallCIdeal.τ).loc Cert.SmallCIdeal.main_arg6)
      ∧ r.2.mem ((c.tc : Thread Cert.SmallCIdeal.nD Cert.SmallCIdeal.τ).loc Cert.SmallCIdeal.main_arg7) = m ((c.tc : Thread Cert.SmallCIdeal.nD Cert.SmallCIdeal.τ).loc Cert.SmallCIdeal.main_arg7)
      ∧ r.2.mem ((c.tc : Thread Cert.SmallCIdeal.nD Cert.SmallCIdeal.τ).loc Cert.SmallCIdeal.main_arg8) = m ((c.tc : Thread Cert.SmallCIdeal.nD Cert.SmallCIdeal.τ).loc Cert.SmallCIdeal.main_arg8)
      ∧ r.2.mem ((c.tc : Thread Cert.SmallCIdeal.nD Cert.SmallCIdeal.τ).loc Cert.SmallCIdeal.main_arg9) = m ((c.tc : Thread Cert.SmallCIdeal.nD Cert.SmallCIdeal.τ).loc Cert.SmallCIdeal.main_arg9))
      ∧ r.2.sem = fun _ => 0)

def quiescent_SmallCRefIdeal [hSmallCRefIdeal : Cert.SmallCRefIdeal.Facts] : Prop :=
  ∀ (m : (ℓ : Loc Cert.SmallCRefIdeal.nD Cert.SmallCRefIdeal.τ Cert.SmallCRefIdeal.sig) → Buf (Elt Ideal) ℓ) (g : Dev Cert.SmallCRefIdeal.nD → PrngReg), Pre_SmallCRefIdeal m →
    θ_run (Cert.SmallCRefIdeal.defs (F := Ideal)) (onTc (τ := Cert.SmallCRefIdeal.τ) (Cert.SmallCRefIdeal.main (F := Ideal))) ⟨m, fun _ => 0, g⟩ (fun r => (∀ c : Dev Cert.SmallCRefIdeal.nD,
      r.2.mem ((c.tc : Thread Cert.SmallCRefIdeal.nD Cert.SmallCRefIdeal.τ).loc Cert.SmallCRefIdeal.main_arg0) = m ((c.tc : Thread Cert.SmallCRefIdeal.nD Cert.SmallCRefIdeal.τ).loc Cert.SmallCRefIdeal.main_arg0)
      ∧ r.2.mem ((c.tc : Thread Cert.SmallCRefIdeal.nD Cert.SmallCRefIdeal.τ).loc Cert.SmallCRefIdeal.main_arg1) = m ((c.tc : Thread Cert.SmallCRefIdeal.nD Cert.SmallCRefIdeal.τ).loc Cert.SmallCRefIdeal.main_arg1)
      ∧ r.2.mem ((c.tc : Thread Cert.SmallCRefIdeal.nD Cert.SmallCRefIdeal.τ).loc Cert.SmallCRefIdeal.main_arg2) = m ((c.tc : Thread Cert.SmallCRefIdeal.nD Cert.SmallCRefIdeal.τ).loc Cert.SmallCRefIdeal.main_arg2)
      ∧ r.2.mem ((c.tc : Thread Cert.SmallCRefIdeal.nD Cert.SmallCRefIdeal.τ).loc Cert.SmallCRefIdeal.main_arg3) = m ((c.tc : Thread Cert.SmallCRefIdeal.nD Cert.SmallCRefIdeal.τ).loc Cert.SmallCRefIdeal.main_arg3)
      ∧ r.2.mem ((c.tc : Thread Cert.SmallCRefIdeal.nD Cert.SmallCRefIdeal.τ).loc Cert.SmallCRefIdeal.main_arg4) = m ((c.tc : Thread Cert.SmallCRefIdeal.nD Cert.SmallCRefIdeal.τ).loc Cert.SmallCRefIdeal.main_arg4)
      ∧ r.2.mem ((c.tc : Thread Cert.SmallCRefIdeal.nD Cert.SmallCRefIdeal.τ).loc Cert.SmallCRefIdeal.main_arg5) = m ((c.tc : Thread Cert.SmallCRefIdeal.nD Cert.SmallCRefIdeal.τ).loc Cert.SmallCRefIdeal.main_arg5)
      ∧ r.2.mem ((c.tc : Thread Cert.SmallCRefIdeal.nD Cert.SmallCRefIdeal.τ).loc Cert.SmallCRefIdeal.main_arg6) = m ((c.tc : Thread Cert.SmallCRefIdeal.nD Cert.SmallCRefIdeal.τ).loc Cert.SmallCRefIdeal.main_arg6)
      ∧ r.2.mem ((c.tc : Thread Cert.SmallCRefIdeal.nD Cert.SmallCRefIdeal.τ).loc Cert.SmallCRefIdeal.main_arg7) = m ((c.tc : Thread Cert.SmallCRefIdeal.nD Cert.SmallCRefIdeal.τ).loc Cert.SmallCRefIdeal.main_arg7)
      ∧ r.2.mem ((c.tc : Thread Cert.SmallCRefIdeal.nD Cert.SmallCRefIdeal.τ).loc Cert.SmallCRefIdeal.main_arg8) = m ((c.tc : Thread Cert.SmallCRefIdeal.nD Cert.SmallCRefIdeal.τ).loc Cert.SmallCRefIdeal.main_arg8)
      ∧ r.2.mem ((c.tc : Thread Cert.SmallCRefIdeal.nD Cert.SmallCRefIdeal.τ).loc Cert.SmallCRefIdeal.main_arg9) = m ((c.tc : Thread Cert.SmallCRefIdeal.nD Cert.SmallCRefIdeal.τ).loc Cert.SmallCRefIdeal.main_arg9))
      ∧ r.2.sem = fun _ => 0)

def quiescent_SmallD [hSmallD : Cert.SmallD.Facts] : Prop :=
  ∀ (m : (ℓ : Loc Cert.SmallD.nD Cert.SmallD.τ Cert.SmallD.sig) → Buf (Elt Bits) ℓ) (g : Dev Cert.SmallD.nD → PrngReg), Pre_SmallD m →
    θ_run (Cert.SmallD.defs (F := Bits)) (onTc (τ := Cert.SmallD.τ) (Cert.SmallD.main (F := Bits))) ⟨m, fun _ => 0, g⟩ (fun r => (∀ c : Dev Cert.SmallD.nD,
      r.2.mem ((c.tc : Thread Cert.SmallD.nD Cert.SmallD.τ).loc Cert.SmallD.main_arg0) = m ((c.tc : Thread Cert.SmallD.nD Cert.SmallD.τ).loc Cert.SmallD.main_arg0)
      ∧ r.2.mem ((c.tc : Thread Cert.SmallD.nD Cert.SmallD.τ).loc Cert.SmallD.main_arg1) = m ((c.tc : Thread Cert.SmallD.nD Cert.SmallD.τ).loc Cert.SmallD.main_arg1)
      ∧ r.2.mem ((c.tc : Thread Cert.SmallD.nD Cert.SmallD.τ).loc Cert.SmallD.main_arg2) = m ((c.tc : Thread Cert.SmallD.nD Cert.SmallD.τ).loc Cert.SmallD.main_arg2)
      ∧ r.2.mem ((c.tc : Thread Cert.SmallD.nD Cert.SmallD.τ).loc Cert.SmallD.main_arg3) = m ((c.tc : Thread Cert.SmallD.nD Cert.SmallD.τ).loc Cert.SmallD.main_arg3)
      ∧ r.2.mem ((c.tc : Thread Cert.SmallD.nD Cert.SmallD.τ).loc Cert.SmallD.main_arg4) = m ((c.tc : Thread Cert.SmallD.nD Cert.SmallD.τ).loc Cert.SmallD.main_arg4)
      ∧ r.2.mem ((c.tc : Thread Cert.SmallD.nD Cert.SmallD.τ).loc Cert.SmallD.main_arg5) = m ((c.tc : Thread Cert.SmallD.nD Cert.SmallD.τ).loc Cert.SmallD.main_arg5)
      ∧ r.2.mem ((c.tc : Thread Cert.SmallD.nD Cert.SmallD.τ).loc Cert.SmallD.main_arg6) = m ((c.tc : Thread Cert.SmallD.nD Cert.SmallD.τ).loc Cert.SmallD.main_arg6)
      ∧ r.2.mem ((c.tc : Thread Cert.SmallD.nD Cert.SmallD.τ).loc Cert.SmallD.main_arg7) = m ((c.tc : Thread Cert.SmallD.nD Cert.SmallD.τ).loc Cert.SmallD.main_arg7)
      ∧ r.2.mem ((c.tc : Thread Cert.SmallD.nD Cert.SmallD.τ).loc Cert.SmallD.main_arg8) = m ((c.tc : Thread Cert.SmallD.nD Cert.SmallD.τ).loc Cert.SmallD.main_arg8)
      ∧ r.2.mem ((c.tc : Thread Cert.SmallD.nD Cert.SmallD.τ).loc Cert.SmallD.main_arg9) = m ((c.tc : Thread Cert.SmallD.nD Cert.SmallD.τ).loc Cert.SmallD.main_arg9))
      ∧ r.2.sem = fun _ => 0)

def quiescent_SmallDIdeal [hSmallDIdeal : Cert.SmallDIdeal.Facts] : Prop :=
  ∀ (m : (ℓ : Loc Cert.SmallDIdeal.nD Cert.SmallDIdeal.τ Cert.SmallDIdeal.sig) → Buf (Elt Ideal) ℓ) (g : Dev Cert.SmallDIdeal.nD → PrngReg), Pre_SmallDIdeal m →
    θ_run (Cert.SmallDIdeal.defs (F := Ideal)) (onTc (τ := Cert.SmallDIdeal.τ) (Cert.SmallDIdeal.main (F := Ideal))) ⟨m, fun _ => 0, g⟩ (fun r => (∀ c : Dev Cert.SmallDIdeal.nD,
      r.2.mem ((c.tc : Thread Cert.SmallDIdeal.nD Cert.SmallDIdeal.τ).loc Cert.SmallDIdeal.main_arg0) = m ((c.tc : Thread Cert.SmallDIdeal.nD Cert.SmallDIdeal.τ).loc Cert.SmallDIdeal.main_arg0)
      ∧ r.2.mem ((c.tc : Thread Cert.SmallDIdeal.nD Cert.SmallDIdeal.τ).loc Cert.SmallDIdeal.main_arg1) = m ((c.tc : Thread Cert.SmallDIdeal.nD Cert.SmallDIdeal.τ).loc Cert.SmallDIdeal.main_arg1)
      ∧ r.2.mem ((c.tc : Thread Cert.SmallDIdeal.nD Cert.SmallDIdeal.τ).loc Cert.SmallDIdeal.main_arg2) = m ((c.tc : Thread Cert.SmallDIdeal.nD Cert.SmallDIdeal.τ).loc Cert.SmallDIdeal.main_arg2)
      ∧ r.2.mem ((c.tc : Thread Cert.SmallDIdeal.nD Cert.SmallDIdeal.τ).loc Cert.SmallDIdeal.main_arg3) = m ((c.tc : Thread Cert.SmallDIdeal.nD Cert.SmallDIdeal.τ).loc Cert.SmallDIdeal.main_arg3)
      ∧ r.2.mem ((c.tc : Thread Cert.SmallDIdeal.nD Cert.SmallDIdeal.τ).loc Cert.SmallDIdeal.main_arg4) = m ((c.tc : Thread Cert.SmallDIdeal.nD Cert.SmallDIdeal.τ).loc Cert.SmallDIdeal.main_arg4)
      ∧ r.2.mem ((c.tc : Thread Cert.SmallDIdeal.nD Cert.SmallDIdeal.τ).loc Cert.SmallDIdeal.main_arg5) = m ((c.tc : Thread Cert.SmallDIdeal.nD Cert.SmallDIdeal.τ).loc Cert.SmallDIdeal.main_arg5)
      ∧ r.2.mem ((c.tc : Thread Cert.SmallDIdeal.nD Cert.SmallDIdeal.τ).loc Cert.SmallDIdeal.main_arg6) = m ((c.tc : Thread Cert.SmallDIdeal.nD Cert.SmallDIdeal.τ).loc Cert.SmallDIdeal.main_arg6)
      ∧ r.2.mem ((c.tc : Thread Cert.SmallDIdeal.nD Cert.SmallDIdeal.τ).loc Cert.SmallDIdeal.main_arg7) = m ((c.tc : Thread Cert.SmallDIdeal.nD Cert.SmallDIdeal.τ).loc Cert.SmallDIdeal.main_arg7)
      ∧ r.2.mem ((c.tc : Thread Cert.SmallDIdeal.nD Cert.SmallDIdeal.τ).loc Cert.SmallDIdeal.main_arg8) = m ((c.tc : Thread Cert.SmallDIdeal.nD Cert.SmallDIdeal.τ).loc Cert.SmallDIdeal.main_arg8)
      ∧ r.2.mem ((c.tc : Thread Cert.SmallDIdeal.nD Cert.SmallDIdeal.τ).loc Cert.SmallDIdeal.main_arg9) = m ((c.tc : Thread Cert.SmallDIdeal.nD Cert.SmallDIdeal.τ).loc Cert.SmallDIdeal.main_arg9))
      ∧ r.2.sem = fun _ => 0)

def quiescent_SmallDRefIdeal [hSmallDRefIdeal : Cert.SmallDRefIdeal.Facts] : Prop :=
  ∀ (m : (ℓ : Loc Cert.SmallDRefIdeal.nD Cert.SmallDRefIdeal.τ Cert.SmallDRefIdeal.sig) → Buf (Elt Ideal) ℓ) (g : Dev Cert.SmallDRefIdeal.nD → PrngReg), Pre_SmallDRefIdeal m →
    θ_run (Cert.SmallDRefIdeal.defs (F := Ideal)) (onTc (τ := Cert.SmallDRefIdeal.τ) (Cert.SmallDRefIdeal.main (F := Ideal))) ⟨m, fun _ => 0, g⟩ (fun r => (∀ c : Dev Cert.SmallDRefIdeal.nD,
      r.2.mem ((c.tc : Thread Cert.SmallDRefIdeal.nD Cert.SmallDRefIdeal.τ).loc Cert.SmallDRefIdeal.main_arg0) = m ((c.tc : Thread Cert.SmallDRefIdeal.nD Cert.SmallDRefIdeal.τ).loc Cert.SmallDRefIdeal.main_arg0)
      ∧ r.2.mem ((c.tc : Thread Cert.SmallDRefIdeal.nD Cert.SmallDRefIdeal.τ).loc Cert.SmallDRefIdeal.main_arg1) = m ((c.tc : Thread Cert.SmallDRefIdeal.nD Cert.SmallDRefIdeal.τ).loc Cert.SmallDRefIdeal.main_arg1)
      ∧ r.2.mem ((c.tc : Thread Cert.SmallDRefIdeal.nD Cert.SmallDRefIdeal.τ).loc Cert.SmallDRefIdeal.main_arg2) = m ((c.tc : Thread Cert.SmallDRefIdeal.nD Cert.SmallDRefIdeal.τ).loc Cert.SmallDRefIdeal.main_arg2)
      ∧ r.2.mem ((c.tc : Thread Cert.SmallDRefIdeal.nD Cert.SmallDRefIdeal.τ).loc Cert.SmallDRefIdeal.main_arg3) = m ((c.tc : Thread Cert.SmallDRefIdeal.nD Cert.SmallDRefIdeal.τ).loc Cert.SmallDRefIdeal.main_arg3)
      ∧ r.2.mem ((c.tc : Thread Cert.SmallDRefIdeal.nD Cert.SmallDRefIdeal.τ).loc Cert.SmallDRefIdeal.main_arg4) = m ((c.tc : Thread Cert.SmallDRefIdeal.nD Cert.SmallDRefIdeal.τ).loc Cert.SmallDRefIdeal.main_arg4)
      ∧ r.2.mem ((c.tc : Thread Cert.SmallDRefIdeal.nD Cert.SmallDRefIdeal.τ).loc Cert.SmallDRefIdeal.main_arg5) = m ((c.tc : Thread Cert.SmallDRefIdeal.nD Cert.SmallDRefIdeal.τ).loc Cert.SmallDRefIdeal.main_arg5)
      ∧ r.2.mem ((c.tc : Thread Cert.SmallDRefIdeal.nD Cert.SmallDRefIdeal.τ).loc Cert.SmallDRefIdeal.main_arg6) = m ((c.tc : Thread Cert.SmallDRefIdeal.nD Cert.SmallDRefIdeal.τ).loc Cert.SmallDRefIdeal.main_arg6)
      ∧ r.2.mem ((c.tc : Thread Cert.SmallDRefIdeal.nD Cert.SmallDRefIdeal.τ).loc Cert.SmallDRefIdeal.main_arg7) = m ((c.tc : Thread Cert.SmallDRefIdeal.nD Cert.SmallDRefIdeal.τ).loc Cert.SmallDRefIdeal.main_arg7)
      ∧ r.2.mem ((c.tc : Thread Cert.SmallDRefIdeal.nD Cert.SmallDRefIdeal.τ).loc Cert.SmallDRefIdeal.main_arg8) = m ((c.tc : Thread Cert.SmallDRefIdeal.nD Cert.SmallDRefIdeal.τ).loc Cert.SmallDRefIdeal.main_arg8)
      ∧ r.2.mem ((c.tc : Thread Cert.SmallDRefIdeal.nD Cert.SmallDRefIdeal.τ).loc Cert.SmallDRefIdeal.main_arg9) = m ((c.tc : Thread Cert.SmallDRefIdeal.nD Cert.SmallDRefIdeal.τ).loc Cert.SmallDRefIdeal.main_arg9))
      ∧ r.2.sem = fun _ => 0)

def quiescent_SmallE [hSmallE : Cert.SmallE.Facts] : Prop :=
  ∀ (m : (ℓ : Loc Cert.SmallE.nD Cert.SmallE.τ Cert.SmallE.sig) → Buf (Elt Bits) ℓ) (g : Dev Cert.SmallE.nD → PrngReg), Pre_SmallE m →
    θ_run (Cert.SmallE.defs (F := Bits)) (onTc (τ := Cert.SmallE.τ) (Cert.SmallE.main (F := Bits))) ⟨m, fun _ => 0, g⟩ (fun r => (∀ c : Dev Cert.SmallE.nD,
      r.2.mem ((c.tc : Thread Cert.SmallE.nD Cert.SmallE.τ).loc Cert.SmallE.main_arg0) = m ((c.tc : Thread Cert.SmallE.nD Cert.SmallE.τ).loc Cert.SmallE.main_arg0)
      ∧ r.2.mem ((c.tc : Thread Cert.SmallE.nD Cert.SmallE.τ).loc Cert.SmallE.main_arg1) = m ((c.tc : Thread Cert.SmallE.nD Cert.SmallE.τ).loc Cert.SmallE.main_arg1)
      ∧ r.2.mem ((c.tc : Thread Cert.SmallE.nD Cert.SmallE.τ).loc Cert.SmallE.main_arg2) = m ((c.tc : Thread Cert.SmallE.nD Cert.SmallE.τ).loc Cert.SmallE.main_arg2)
      ∧ r.2.mem ((c.tc : Thread Cert.SmallE.nD Cert.SmallE.τ).loc Cert.SmallE.main_arg3) = m ((c.tc : Thread Cert.SmallE.nD Cert.SmallE.τ).loc Cert.SmallE.main_arg3)
      ∧ r.2.mem ((c.tc : Thread Cert.SmallE.nD Cert.SmallE.τ).loc Cert.SmallE.main_arg4) = m ((c.tc : Thread Cert.SmallE.nD Cert.SmallE.τ).loc Cert.SmallE.main_arg4)
      ∧ r.2.mem ((c.tc : Thread Cert.SmallE.nD Cert.SmallE.τ).loc Cert.SmallE.main_arg5) = m ((c.tc : Thread Cert.SmallE.nD Cert.SmallE.τ).loc Cert.SmallE.main_arg5)
      ∧ r.2.mem ((c.tc : Thread Cert.SmallE.nD Cert.SmallE.τ).loc Cert.SmallE.main_arg6) = m ((c.tc : Thread Cert.SmallE.nD Cert.SmallE.τ).loc Cert.SmallE.main_arg6)
      ∧ r.2.mem ((c.tc : Thread Cert.SmallE.nD Cert.SmallE.τ).loc Cert.SmallE.main_arg7) = m ((c.tc : Thread Cert.SmallE.nD Cert.SmallE.τ).loc Cert.SmallE.main_arg7)
      ∧ r.2.mem ((c.tc : Thread Cert.SmallE.nD Cert.SmallE.τ).loc Cert.SmallE.main_arg8) = m ((c.tc : Thread Cert.SmallE.nD Cert.SmallE.τ).loc Cert.SmallE.main_arg8)
      ∧ r.2.mem ((c.tc : Thread Cert.SmallE.nD Cert.SmallE.τ).loc Cert.SmallE.main_arg9) = m ((c.tc : Thread Cert.SmallE.nD Cert.SmallE.τ).loc Cert.SmallE.main_arg9))
      ∧ r.2.sem = fun _ => 0)

def quiescent_SmallEIdeal [hSmallEIdeal : Cert.SmallEIdeal.Facts] : Prop :=
  ∀ (m : (ℓ : Loc Cert.SmallEIdeal.nD Cert.SmallEIdeal.τ Cert.SmallEIdeal.sig) → Buf (Elt Ideal) ℓ) (g : Dev Cert.SmallEIdeal.nD → PrngReg), Pre_SmallEIdeal m →
    θ_run (Cert.SmallEIdeal.defs (F := Ideal)) (onTc (τ := Cert.SmallEIdeal.τ) (Cert.SmallEIdeal.main (F := Ideal))) ⟨m, fun _ => 0, g⟩ (fun r => (∀ c : Dev Cert.SmallEIdeal.nD,
      r.2.mem ((c.tc : Thread Cert.SmallEIdeal.nD Cert.SmallEIdeal.τ).loc Cert.SmallEIdeal.main_arg0) = m ((c.tc : Thread Cert.SmallEIdeal.nD Cert.SmallEIdeal.τ).loc Cert.SmallEIdeal.main_arg0)
      ∧ r.2.mem ((c.tc : Thread Cert.SmallEIdeal.nD Cert.SmallEIdeal.τ).loc Cert.SmallEIdeal.main_arg1) = m ((c.tc : Thread Cert.SmallEIdeal.nD Cert.SmallEIdeal.τ).loc Cert.SmallEIdeal.main_arg1)
      ∧ r.2.mem ((c.tc : Thread Cert.SmallEIdeal.nD Cert.SmallEIdeal.τ).loc Cert.SmallEIdeal.main_arg2) = m ((c.tc : Thread Cert.SmallEIdeal.nD Cert.SmallEIdeal.τ).loc Cert.SmallEIdeal.main_arg2)
      ∧ r.2.mem ((c.tc : Thread Cert.SmallEIdeal.nD Cert.SmallEIdeal.τ).loc Cert.SmallEIdeal.main_arg3) = m ((c.tc : Thread Cert.SmallEIdeal.nD Cert.SmallEIdeal.τ).loc Cert.SmallEIdeal.main_arg3)
      ∧ r.2.mem ((c.tc : Thread Cert.SmallEIdeal.nD Cert.SmallEIdeal.τ).loc Cert.SmallEIdeal.main_arg4) = m ((c.tc : Thread Cert.SmallEIdeal.nD Cert.SmallEIdeal.τ).loc Cert.SmallEIdeal.main_arg4)
      ∧ r.2.mem ((c.tc : Thread Cert.SmallEIdeal.nD Cert.SmallEIdeal.τ).loc Cert.SmallEIdeal.main_arg5) = m ((c.tc : Thread Cert.SmallEIdeal.nD Cert.SmallEIdeal.τ).loc Cert.SmallEIdeal.main_arg5)
      ∧ r.2.mem ((c.tc : Thread Cert.SmallEIdeal.nD Cert.SmallEIdeal.τ).loc Cert.SmallEIdeal.main_arg6) = m ((c.tc : Thread Cert.SmallEIdeal.nD Cert.SmallEIdeal.τ).loc Cert.SmallEIdeal.main_arg6)
      ∧ r.2.mem ((c.tc : Thread Cert.SmallEIdeal.nD Cert.SmallEIdeal.τ).loc Cert.SmallEIdeal.main_arg7) = m ((c.tc : Thread Cert.SmallEIdeal.nD Cert.SmallEIdeal.τ).loc Cert.SmallEIdeal.main_arg7)
      ∧ r.2.mem ((c.tc : Thread Cert.SmallEIdeal.nD Cert.SmallEIdeal.τ).loc Cert.SmallEIdeal.main_arg8) = m ((c.tc : Thread Cert.SmallEIdeal.nD Cert.SmallEIdeal.τ).loc Cert.SmallEIdeal.main_arg8)
      ∧ r.2.mem ((c.tc : Thread Cert.SmallEIdeal.nD Cert.SmallEIdeal.τ).loc Cert.SmallEIdeal.main_arg9) = m ((c.tc : Thread Cert.SmallEIdeal.nD Cert.SmallEIdeal.τ).loc Cert.SmallEIdeal.main_arg9))
      ∧ r.2.sem = fun _ => 0)

def quiescent_SmallERefIdeal [hSmallERefIdeal : Cert.SmallERefIdeal.Facts] : Prop :=
  ∀ (m : (ℓ : Loc Cert.SmallERefIdeal.nD Cert.SmallERefIdeal.τ Cert.SmallERefIdeal.sig) → Buf (Elt Ideal) ℓ) (g : Dev Cert.SmallERefIdeal.nD → PrngReg), Pre_SmallERefIdeal m →
    θ_run (Cert.SmallERefIdeal.defs (F := Ideal)) (onTc (τ := Cert.SmallERefIdeal.τ) (Cert.SmallERefIdeal.main (F := Ideal))) ⟨m, fun _ => 0, g⟩ (fun r => (∀ c : Dev Cert.SmallERefIdeal.nD,
      r.2.mem ((c.tc : Thread Cert.SmallERefIdeal.nD Cert.SmallERefIdeal.τ).loc Cert.SmallERefIdeal.main_arg0) = m ((c.tc : Thread Cert.SmallERefIdeal.nD Cert.SmallERefIdeal.τ).loc Cert.SmallERefIdeal.main_arg0)
      ∧ r.2.mem ((c.tc : Thread Cert.SmallERefIdeal.nD Cert.SmallERefIdeal.τ).loc Cert.SmallERefIdeal.main_arg1) = m ((c.tc : Thread Cert.SmallERefIdeal.nD Cert.SmallERefIdeal.τ).loc Cert.SmallERefIdeal.main_arg1)
      ∧ r.2.mem ((c.tc : Thread Cert.SmallERefIdeal.nD Cert.SmallERefIdeal.τ).loc Cert.SmallERefIdeal.main_arg2) = m ((c.tc : Thread Cert.SmallERefIdeal.nD Cert.SmallERefIdeal.τ).loc Cert.SmallERefIdeal.main_arg2)
      ∧ r.2.mem ((c.tc : Thread Cert.SmallERefIdeal.nD Cert.SmallERefIdeal.τ).loc Cert.SmallERefIdeal.main_arg3) = m ((c.tc : Thread Cert.SmallERefIdeal.nD Cert.SmallERefIdeal.τ).loc Cert.SmallERefIdeal.main_arg3)
      ∧ r.2.mem ((c.tc : Thread Cert.SmallERefIdeal.nD Cert.SmallERefIdeal.τ).loc Cert.SmallERefIdeal.main_arg4) = m ((c.tc : Thread Cert.SmallERefIdeal.nD Cert.SmallERefIdeal.τ).loc Cert.SmallERefIdeal.main_arg4)
      ∧ r.2.mem ((c.tc : Thread Cert.SmallERefIdeal.nD Cert.SmallERefIdeal.τ).loc Cert.SmallERefIdeal.main_arg5) = m ((c.tc : Thread Cert.SmallERefIdeal.nD Cert.SmallERefIdeal.τ).loc Cert.SmallERefIdeal.main_arg5)
      ∧ r.2.mem ((c.tc : Thread Cert.SmallERefIdeal.nD Cert.SmallERefIdeal.τ).loc Cert.SmallERefIdeal.main_arg6) = m ((c.tc : Thread Cert.SmallERefIdeal.nD Cert.SmallERefIdeal.τ).loc Cert.SmallERefIdeal.main_arg6)
      ∧ r.2.mem ((c.tc : Thread Cert.SmallERefIdeal.nD Cert.SmallERefIdeal.τ).loc Cert.SmallERefIdeal.main_arg7) = m ((c.tc : Thread Cert.SmallERefIdeal.nD Cert.SmallERefIdeal.τ).loc Cert.SmallERefIdeal.main_arg7)
      ∧ r.2.mem ((c.tc : Thread Cert.SmallERefIdeal.nD Cert.SmallERefIdeal.τ).loc Cert.SmallERefIdeal.main_arg8) = m ((c.tc : Thread Cert.SmallERefIdeal.nD Cert.SmallERefIdeal.τ).loc Cert.SmallERefIdeal.main_arg8)
      ∧ r.2.mem ((c.tc : Thread Cert.SmallERefIdeal.nD Cert.SmallERefIdeal.τ).loc Cert.SmallERefIdeal.main_arg9) = m ((c.tc : Thread Cert.SmallERefIdeal.nD Cert.SmallERefIdeal.τ).loc Cert.SmallERefIdeal.main_arg9))
      ∧ r.2.sem = fun _ => 0)

def quiescent_SmallF [hSmallF : Cert.SmallF.Facts] : Prop :=
  ∀ (m : (ℓ : Loc Cert.SmallF.nD Cert.SmallF.τ Cert.SmallF.sig) → Buf (Elt Bits) ℓ) (g : Dev Cert.SmallF.nD → PrngReg), Pre_SmallF m →
    θ_run (Cert.SmallF.defs (F := Bits)) (onTc (τ := Cert.SmallF.τ) (Cert.SmallF.main (F := Bits))) ⟨m, fun _ => 0, g⟩ (fun r => (∀ c : Dev Cert.SmallF.nD,
      r.2.mem ((c.tc : Thread Cert.SmallF.nD Cert.SmallF.τ).loc Cert.SmallF.main_arg0) = m ((c.tc : Thread Cert.SmallF.nD Cert.SmallF.τ).loc Cert.SmallF.main_arg0)
      ∧ r.2.mem ((c.tc : Thread Cert.SmallF.nD Cert.SmallF.τ).loc Cert.SmallF.main_arg1) = m ((c.tc : Thread Cert.SmallF.nD Cert.SmallF.τ).loc Cert.SmallF.main_arg1)
      ∧ r.2.mem ((c.tc : Thread Cert.SmallF.nD Cert.SmallF.τ).loc Cert.SmallF.main_arg2) = m ((c.tc : Thread Cert.SmallF.nD Cert.SmallF.τ).loc Cert.SmallF.main_arg2)
      ∧ r.2.mem ((c.tc : Thread Cert.SmallF.nD Cert.SmallF.τ).loc Cert.SmallF.main_arg3) = m ((c.tc : Thread Cert.SmallF.nD Cert.SmallF.τ).loc Cert.SmallF.main_arg3))
      ∧ r.2.sem = fun _ => 0)

def quiescent_SmallFIdeal [hSmallFIdeal : Cert.SmallFIdeal.Facts] : Prop :=
  ∀ (m : (ℓ : Loc Cert.SmallFIdeal.nD Cert.SmallFIdeal.τ Cert.SmallFIdeal.sig) → Buf (Elt Ideal) ℓ) (g : Dev Cert.SmallFIdeal.nD → PrngReg), Pre_SmallFIdeal m →
    θ_run (Cert.SmallFIdeal.defs (F := Ideal)) (onTc (τ := Cert.SmallFIdeal.τ) (Cert.SmallFIdeal.main (F := Ideal))) ⟨m, fun _ => 0, g⟩ (fun r => (∀ c : Dev Cert.SmallFIdeal.nD,
      r.2.mem ((c.tc : Thread Cert.SmallFIdeal.nD Cert.SmallFIdeal.τ).loc Cert.SmallFIdeal.main_arg0) = m ((c.tc : Thread Cert.SmallFIdeal.nD Cert.SmallFIdeal.τ).loc Cert.SmallFIdeal.main_arg0)
      ∧ r.2.mem ((c.tc : Thread Cert.SmallFIdeal.nD Cert.SmallFIdeal.τ).loc Cert.SmallFIdeal.main_arg1) = m ((c.tc : Thread Cert.SmallFIdeal.nD Cert.SmallFIdeal.τ).loc Cert.SmallFIdeal.main_arg1)
      ∧ r.2.mem ((c.tc : Thread Cert.SmallFIdeal.nD Cert.SmallFIdeal.τ).loc Cert.SmallFIdeal.main_arg2) = m ((c.tc : Thread Cert.SmallFIdeal.nD Cert.SmallFIdeal.τ).loc Cert.SmallFIdeal.main_arg2)
      ∧ r.2.mem ((c.tc : Thread Cert.SmallFIdeal.nD Cert.SmallFIdeal.τ).loc Cert.SmallFIdeal.main_arg3) = m ((c.tc : Thread Cert.SmallFIdeal.nD Cert.SmallFIdeal.τ).loc Cert.SmallFIdeal.main_arg3))
      ∧ r.2.sem = fun _ => 0)

def quiescent_SmallFRefIdeal [hSmallFRefIdeal : Cert.SmallFRefIdeal.Facts] : Prop :=
  ∀ (m : (ℓ : Loc Cert.SmallFRefIdeal.nD Cert.SmallFRefIdeal.τ Cert.SmallFRefIdeal.sig) → Buf (Elt Ideal) ℓ) (g : Dev Cert.SmallFRefIdeal.nD → PrngReg), Pre_SmallFRefIdeal m →
    θ_run (Cert.SmallFRefIdeal.defs (F := Ideal)) (onTc (τ := Cert.SmallFRefIdeal.τ) (Cert.SmallFRefIdeal.main (F := Ideal))) ⟨m, fun _ => 0, g⟩ (fun r => (∀ c : Dev Cert.SmallFRefIdeal.nD,
      r.2.mem ((c.tc : Thread Cert.SmallFRefIdeal.nD Cert.SmallFRefIdeal.τ).loc Cert.SmallFRefIdeal.main_arg0) = m ((c.tc : Thread Cert.SmallFRefIdeal.nD Cert.SmallFRefIdeal.τ).loc Cert.SmallFRefIdeal.main_arg0)
      ∧ r.2.mem ((c.tc : Thread Cert.SmallFRefIdeal.nD Cert.SmallFRefIdeal.τ).loc Cert.SmallFRefIdeal.main_arg1) = m ((c.tc : Thread Cert.SmallFRefIdeal.nD Cert.SmallFRefIdeal.τ).loc Cert.SmallFRefIdeal.main_arg1)
      ∧ r.2.mem ((c.tc : Thread Cert.SmallFRefIdeal.nD Cert.SmallFRefIdeal.τ).loc Cert.SmallFRefIdeal.main_arg2) = m ((c.tc : Thread Cert.SmallFRefIdeal.nD Cert.SmallFRefIdeal.τ).loc Cert.SmallFRefIdeal.main_arg2)
      ∧ r.2.mem ((c.tc : Thread Cert.SmallFRefIdeal.nD Cert.SmallFRefIdeal.τ).loc Cert.SmallFRefIdeal.main_arg3) = m ((c.tc : Thread Cert.SmallFRefIdeal.nD Cert.SmallFRefIdeal.τ).loc Cert.SmallFRefIdeal.main_arg3))
      ∧ r.2.sem = fun _ => 0)

def quiescent_SmallG [hSmallG : Cert.SmallG.Facts] : Prop :=
  ∀ (m : (ℓ : Loc Cert.SmallG.nD Cert.SmallG.τ Cert.SmallG.sig) → Buf (Elt Bits) ℓ) (g : Dev Cert.SmallG.nD → PrngReg), Pre_SmallG m →
    θ_run (Cert.SmallG.defs (F := Bits)) (onTc (τ := Cert.SmallG.τ) (Cert.SmallG.main (F := Bits))) ⟨m, fun _ => 0, g⟩ (fun r => (∀ c : Dev Cert.SmallG.nD,
      r.2.mem ((c.tc : Thread Cert.SmallG.nD Cert.SmallG.τ).loc Cert.SmallG.main_arg0) = m ((c.tc : Thread Cert.SmallG.nD Cert.SmallG.τ).loc Cert.SmallG.main_arg0)
      ∧ r.2.mem ((c.tc : Thread Cert.SmallG.nD Cert.SmallG.τ).loc Cert.SmallG.main_arg1) = m ((c.tc : Thread Cert.SmallG.nD Cert.SmallG.τ).loc Cert.SmallG.main_arg1)
      ∧ r.2.mem ((c.tc : Thread Cert.SmallG.nD Cert.SmallG.τ).loc Cert.SmallG.main_arg2) = m ((c.tc : Thread Cert.SmallG.nD Cert.SmallG.τ).loc Cert.SmallG.main_arg2)
      ∧ r.2.mem ((c.tc : Thread Cert.SmallG.nD Cert.SmallG.τ).loc Cert.SmallG.main_arg3) = m ((c.tc : Thread Cert.SmallG.nD Cert.SmallG.τ).loc Cert.SmallG.main_arg3)
      ∧ r.2.mem ((c.tc : Thread Cert.SmallG.nD Cert.SmallG.τ).loc Cert.SmallG.main_arg4) = m ((c.tc : Thread Cert.SmallG.nD Cert.SmallG.τ).loc Cert.SmallG.main_arg4)
      ∧ r.2.mem ((c.tc : Thread Cert.SmallG.nD Cert.SmallG.τ).loc Cert.SmallG.main_arg5) = m ((c.tc : Thread Cert.SmallG.nD Cert.SmallG.τ).loc Cert.SmallG.main_arg5)
      ∧ r.2.mem ((c.tc : Thread Cert.SmallG.nD Cert.SmallG.τ).loc Cert.SmallG.main_arg6) = m ((c.tc : Thread Cert.SmallG.nD Cert.SmallG.τ).loc Cert.SmallG.main_arg6))
      ∧ r.2.sem = fun _ => 0)

def quiescent_SmallGIdeal [hSmallGIdeal : Cert.SmallGIdeal.Facts] : Prop :=
  ∀ (m : (ℓ : Loc Cert.SmallGIdeal.nD Cert.SmallGIdeal.τ Cert.SmallGIdeal.sig) → Buf (Elt Ideal) ℓ) (g : Dev Cert.SmallGIdeal.nD → PrngReg), Pre_SmallGIdeal m →
    θ_run (Cert.SmallGIdeal.defs (F := Ideal)) (onTc (τ := Cert.SmallGIdeal.τ) (Cert.SmallGIdeal.main (F := Ideal))) ⟨m, fun _ => 0, g⟩ (fun r => (∀ c : Dev Cert.SmallGIdeal.nD,
      r.2.mem ((c.tc : Thread Cert.SmallGIdeal.nD Cert.SmallGIdeal.τ).loc Cert.SmallGIdeal.main_arg0) = m ((c.tc : Thread Cert.SmallGIdeal.nD Cert.SmallGIdeal.τ).loc Cert.SmallGIdeal.main_arg0)
      ∧ r.2.mem ((c.tc : Thread Cert.SmallGIdeal.nD Cert.SmallGIdeal.τ).loc Cert.SmallGIdeal.main_arg1) = m ((c.tc : Thread Cert.SmallGIdeal.nD Cert.SmallGIdeal.τ).loc Cert.SmallGIdeal.main_arg1)
      ∧ r.2.mem ((c.tc : Thread Cert.SmallGIdeal.nD Cert.SmallGIdeal.τ).loc Cert.SmallGIdeal.main_arg2) = m ((c.tc : Thread Cert.SmallGIdeal.nD Cert.SmallGIdeal.τ).loc Cert.SmallGIdeal.main_arg2)
      ∧ r.2.mem ((c.tc : Thread Cert.SmallGIdeal.nD Cert.SmallGIdeal.τ).loc Cert.SmallGIdeal.main_arg3) = m ((c.tc : Thread Cert.SmallGIdeal.nD Cert.SmallGIdeal.τ).loc Cert.SmallGIdeal.main_arg3)
      ∧ r.2.mem ((c.tc : Thread Cert.SmallGIdeal.nD Cert.SmallGIdeal.τ).loc Cert.SmallGIdeal.main_arg4) = m ((c.tc : Thread Cert.SmallGIdeal.nD Cert.SmallGIdeal.τ).loc Cert.SmallGIdeal.main_arg4)
      ∧ r.2.mem ((c.tc : Thread Cert.SmallGIdeal.nD Cert.SmallGIdeal.τ).loc Cert.SmallGIdeal.main_arg5) = m ((c.tc : Thread Cert.SmallGIdeal.nD Cert.SmallGIdeal.τ).loc Cert.SmallGIdeal.main_arg5)
      ∧ r.2.mem ((c.tc : Thread Cert.SmallGIdeal.nD Cert.SmallGIdeal.τ).loc Cert.SmallGIdeal.main_arg6) = m ((c.tc : Thread Cert.SmallGIdeal.nD Cert.SmallGIdeal.τ).loc Cert.SmallGIdeal.main_arg6))
      ∧ r.2.sem = fun _ => 0)

def quiescent_SmallGRefIdeal [hSmallGRefIdeal : Cert.SmallGRefIdeal.Facts] : Prop :=
  ∀ (m : (ℓ : Loc Cert.SmallGRefIdeal.nD Cert.SmallGRefIdeal.τ Cert.SmallGRefIdeal.sig) → Buf (Elt Ideal) ℓ) (g : Dev Cert.SmallGRefIdeal.nD → PrngReg), Pre_SmallGRefIdeal m →
    θ_run (Cert.SmallGRefIdeal.defs (F := Ideal)) (onTc (τ := Cert.SmallGRefIdeal.τ) (Cert.SmallGRefIdeal.main (F := Ideal))) ⟨m, fun _ => 0, g⟩ (fun r => (∀ c : Dev Cert.SmallGRefIdeal.nD,
      r.2.mem ((c.tc : Thread Cert.SmallGRefIdeal.nD Cert.SmallGRefIdeal.τ).loc Cert.SmallGRefIdeal.main_arg0) = m ((c.tc : Thread Cert.SmallGRefIdeal.nD Cert.SmallGRefIdeal.τ).loc Cert.SmallGRefIdeal.main_arg0)
      ∧ r.2.mem ((c.tc : Thread Cert.SmallGRefIdeal.nD Cert.SmallGRefIdeal.τ).loc Cert.SmallGRefIdeal.main_arg1) = m ((c.tc : Thread Cert.SmallGRefIdeal.nD Cert.SmallGRefIdeal.τ).loc Cert.SmallGRefIdeal.main_arg1)
      ∧ r.2.mem ((c.tc : Thread Cert.SmallGRefIdeal.nD Cert.SmallGRefIdeal.τ).loc Cert.SmallGRefIdeal.main_arg2) = m ((c.tc : Thread Cert.SmallGRefIdeal.nD Cert.SmallGRefIdeal.τ).loc Cert.SmallGRefIdeal.main_arg2)
      ∧ r.2.mem ((c.tc : Thread Cert.SmallGRefIdeal.nD Cert.SmallGRefIdeal.τ).loc Cert.SmallGRefIdeal.main_arg3) = m ((c.tc : Thread Cert.SmallGRefIdeal.nD Cert.SmallGRefIdeal.τ).loc Cert.SmallGRefIdeal.main_arg3)
      ∧ r.2.mem ((c.tc : Thread Cert.SmallGRefIdeal.nD Cert.SmallGRefIdeal.τ).loc Cert.SmallGRefIdeal.main_arg4) = m ((c.tc : Thread Cert.SmallGRefIdeal.nD Cert.SmallGRefIdeal.τ).loc Cert.SmallGRefIdeal.main_arg4)
      ∧ r.2.mem ((c.tc : Thread Cert.SmallGRefIdeal.nD Cert.SmallGRefIdeal.τ).loc Cert.SmallGRefIdeal.main_arg5) = m ((c.tc : Thread Cert.SmallGRefIdeal.nD Cert.SmallGRefIdeal.τ).loc Cert.SmallGRefIdeal.main_arg5)
      ∧ r.2.mem ((c.tc : Thread Cert.SmallGRefIdeal.nD Cert.SmallGRefIdeal.τ).loc Cert.SmallGRefIdeal.main_arg6) = m ((c.tc : Thread Cert.SmallGRefIdeal.nD Cert.SmallGRefIdeal.τ).loc Cert.SmallGRefIdeal.main_arg6))
      ∧ r.2.sem = fun _ => 0)

def quiescent_SmallH [hSmallH : Cert.SmallH.Facts] : Prop :=
  ∀ (m : (ℓ : Loc Cert.SmallH.nD Cert.SmallH.τ Cert.SmallH.sig) → Buf (Elt Bits) ℓ) (g : Dev Cert.SmallH.nD → PrngReg), Pre_SmallH m →
    θ_run (Cert.SmallH.defs (F := Bits)) (onTc (τ := Cert.SmallH.τ) (Cert.SmallH.main (F := Bits))) ⟨m, fun _ => 0, g⟩ (fun r => (∀ c : Dev Cert.SmallH.nD,
      r.2.mem ((c.tc : Thread Cert.SmallH.nD Cert.SmallH.τ).loc Cert.SmallH.main_arg0) = m ((c.tc : Thread Cert.SmallH.nD Cert.SmallH.τ).loc Cert.SmallH.main_arg0)
      ∧ r.2.mem ((c.tc : Thread Cert.SmallH.nD Cert.SmallH.τ).loc Cert.SmallH.main_arg1) = m ((c.tc : Thread Cert.SmallH.nD Cert.SmallH.τ).loc Cert.SmallH.main_arg1)
      ∧ r.2.mem ((c.tc : Thread Cert.SmallH.nD Cert.SmallH.τ).loc Cert.SmallH.main_arg2) = m ((c.tc : Thread Cert.SmallH.nD Cert.SmallH.τ).loc Cert.SmallH.main_arg2)
      ∧ r.2.mem ((c.tc : Thread Cert.SmallH.nD Cert.SmallH.τ).loc Cert.SmallH.main_arg3) = m ((c.tc : Thread Cert.SmallH.nD Cert.SmallH.τ).loc Cert.SmallH.main_arg3)
      ∧ r.2.mem ((c.tc : Thread Cert.SmallH.nD Cert.SmallH.τ).loc Cert.SmallH.main_arg4) = m ((c.tc : Thread Cert.SmallH.nD Cert.SmallH.τ).loc Cert.SmallH.main_arg4)
      ∧ r.2.mem ((c.tc : Thread Cert.SmallH.nD Cert.SmallH.τ).loc Cert.SmallH.main_arg5) = m ((c.tc : Thread Cert.SmallH.nD Cert.SmallH.τ).loc Cert.SmallH.main_arg5)
      ∧ r.2.mem ((c.tc : Thread Cert.SmallH.nD Cert.SmallH.τ).loc Cert.SmallH.main_arg6) = m ((c.tc : Thread Cert.SmallH.nD Cert.SmallH.τ).loc Cert.SmallH.main_arg6))
      ∧ r.2.sem = fun _ => 0)

def quiescent_SmallHIdeal [hSmallHIdeal : Cert.SmallHIdeal.Facts] : Prop :=
  ∀ (m : (ℓ : Loc Cert.SmallHIdeal.nD Cert.SmallHIdeal.τ Cert.SmallHIdeal.sig) → Buf (Elt Ideal) ℓ) (g : Dev Cert.SmallHIdeal.nD → PrngReg), Pre_SmallHIdeal m →
    θ_run (Cert.SmallHIdeal.defs (F := Ideal)) (onTc (τ := Cert.SmallHIdeal.τ) (Cert.SmallHIdeal.main (F := Ideal))) ⟨m, fun _ => 0, g⟩ (fun r => (∀ c : Dev Cert.SmallHIdeal.nD,
      r.2.mem ((c.tc : Thread Cert.SmallHIdeal.nD Cert.SmallHIdeal.τ).loc Cert.SmallHIdeal.main_arg0) = m ((c.tc : Thread Cert.SmallHIdeal.nD Cert.SmallHIdeal.τ).loc Cert.SmallHIdeal.main_arg0)
      ∧ r.2.mem ((c.tc : Thread Cert.SmallHIdeal.nD Cert.SmallHIdeal.τ).loc Cert.SmallHIdeal.main_arg1) = m ((c.tc : Thread Cert.SmallHIdeal.nD Cert.SmallHIdeal.τ).loc Cert.SmallHIdeal.main_arg1)
      ∧ r.2.mem ((c.tc : Thread Cert.SmallHIdeal.nD Cert.SmallHIdeal.τ).loc Cert.SmallHIdeal.main_arg2) = m ((c.tc : Thread Cert.SmallHIdeal.nD Cert.SmallHIdeal.τ).loc Cert.SmallHIdeal.main_arg2)
      ∧ r.2.mem ((c.tc : Thread Cert.SmallHIdeal.nD Cert.SmallHIdeal.τ).loc Cert.SmallHIdeal.main_arg3) = m ((c.tc : Thread Cert.SmallHIdeal.nD Cert.SmallHIdeal.τ).loc Cert.SmallHIdeal.main_arg3)
      ∧ r.2.mem ((c.tc : Thread Cert.SmallHIdeal.nD Cert.SmallHIdeal.τ).loc Cert.SmallHIdeal.main_arg4) = m ((c.tc : Thread Cert.SmallHIdeal.nD Cert.SmallHIdeal.τ).loc Cert.SmallHIdeal.main_arg4)
      ∧ r.2.mem ((c.tc : Thread Cert.SmallHIdeal.nD Cert.SmallHIdeal.τ).loc Cert.SmallHIdeal.main_arg5) = m ((c.tc : Thread Cert.SmallHIdeal.nD Cert.SmallHIdeal.τ).loc Cert.SmallHIdeal.main_arg5)
      ∧ r.2.mem ((c.tc : Thread Cert.SmallHIdeal.nD Cert.SmallHIdeal.τ).loc Cert.SmallHIdeal.main_arg6) = m ((c.tc : Thread Cert.SmallHIdeal.nD Cert.SmallHIdeal.τ).loc Cert.SmallHIdeal.main_arg6))
      ∧ r.2.sem = fun _ => 0)

def quiescent_SmallHRefIdeal [hSmallHRefIdeal : Cert.SmallHRefIdeal.Facts] : Prop :=
  ∀ (m : (ℓ : Loc Cert.SmallHRefIdeal.nD Cert.SmallHRefIdeal.τ Cert.SmallHRefIdeal.sig) → Buf (Elt Ideal) ℓ) (g : Dev Cert.SmallHRefIdeal.nD → PrngReg), Pre_SmallHRefIdeal m →
    θ_run (Cert.SmallHRefIdeal.defs (F := Ideal)) (onTc (τ := Cert.SmallHRefIdeal.τ) (Cert.SmallHRefIdeal.main (F := Ideal))) ⟨m, fun _ => 0, g⟩ (fun r => (∀ c : Dev Cert.SmallHRefIdeal.nD,
      r.2.mem ((c.tc : Thread Cert.SmallHRefIdeal.nD Cert.SmallHRefIdeal.τ).loc Cert.SmallHRefIdeal.main_arg0) = m ((c.tc : Thread Cert.SmallHRefIdeal.nD Cert.SmallHRefIdeal.τ).loc Cert.SmallHRefIdeal.main_arg0)
      ∧ r.2.mem ((c.tc : Thread Cert.SmallHRefIdeal.nD Cert.SmallHRefIdeal.τ).loc Cert.SmallHRefIdeal.main_arg1) = m ((c.tc : Thread Cert.SmallHRefIdeal.nD Cert.SmallHRefIdeal.τ).loc Cert.SmallHRefIdeal.main_arg1)
      ∧ r.2.mem ((c.tc : Thread Cert.SmallHRefIdeal.nD Cert.SmallHRefIdeal.τ).loc Cert.SmallHRefIdeal.main_arg2) = m ((c.tc : Thread Cert.SmallHRefIdeal.nD Cert.SmallHRefIdeal.τ).loc Cert.SmallHRefIdeal.main_arg2)
      ∧ r.2.mem ((c.tc : Thread Cert.SmallHRefIdeal.nD Cert.SmallHRefIdeal.τ).loc Cert.SmallHRefIdeal.main_arg3) = m ((c.tc : Thread Cert.SmallHRefIdeal.nD Cert.SmallHRefIdeal.τ).loc Cert.SmallHRefIdeal.main_arg3)
      ∧ r.2.mem ((c.tc : Thread Cert.SmallHRefIdeal.nD Cert.SmallHRefIdeal.τ).loc Cert.SmallHRefIdeal.main_arg4) = m ((c.tc : Thread Cert.SmallHRefIdeal.nD Cert.SmallHRefIdeal.τ).loc Cert.SmallHRefIdeal.main_arg4)
      ∧ r.2.mem ((c.tc : Thread Cert.SmallHRefIdeal.nD Cert.SmallHRefIdeal.τ).loc Cert.SmallHRefIdeal.main_arg5) = m ((c.tc : Thread Cert.SmallHRefIdeal.nD Cert.SmallHRefIdeal.τ).loc Cert.SmallHRefIdeal.main_arg5)
      ∧ r.2.mem ((c.tc : Thread Cert.SmallHRefIdeal.nD Cert.SmallHRefIdeal.τ).loc Cert.SmallHRefIdeal.main_arg6) = m ((c.tc : Thread Cert.SmallHRefIdeal.nD Cert.SmallHRefIdeal.τ).loc Cert.SmallHRefIdeal.main_arg6))
      ∧ r.2.sem = fun _ => 0)

def quiescent_SmallI [hSmallI : Cert.SmallI.Facts] : Prop :=
  ∀ (m : (ℓ : Loc Cert.SmallI.nD Cert.SmallI.τ Cert.SmallI.sig) → Buf (Elt Bits) ℓ) (g : Dev Cert.SmallI.nD → PrngReg), Pre_SmallI m →
    θ_run (Cert.SmallI.defs (F := Bits)) (onTc (τ := Cert.SmallI.τ) (Cert.SmallI.main (F := Bits))) ⟨m, fun _ => 0, g⟩ (fun r => (∀ c : Dev Cert.SmallI.nD,
      r.2.mem ((c.tc : Thread Cert.SmallI.nD Cert.SmallI.τ).loc Cert.SmallI.main_arg0) = m ((c.tc : Thread Cert.SmallI.nD Cert.SmallI.τ).loc Cert.SmallI.main_arg0)
      ∧ r.2.mem ((c.tc : Thread Cert.SmallI.nD Cert.SmallI.τ).loc Cert.SmallI.main_arg1) = m ((c.tc : Thread Cert.SmallI.nD Cert.SmallI.τ).loc Cert.SmallI.main_arg1)
      ∧ r.2.mem ((c.tc : Thread Cert.SmallI.nD Cert.SmallI.τ).loc Cert.SmallI.main_arg2) = m ((c.tc : Thread Cert.SmallI.nD Cert.SmallI.τ).loc Cert.SmallI.main_arg2)
      ∧ r.2.mem ((c.tc : Thread Cert.SmallI.nD Cert.SmallI.τ).loc Cert.SmallI.main_arg3) = m ((c.tc : Thread Cert.SmallI.nD Cert.SmallI.τ).loc Cert.SmallI.main_arg3)
      ∧ r.2.mem ((c.tc : Thread Cert.SmallI.nD Cert.SmallI.τ).loc Cert.SmallI.main_arg4) = m ((c.tc : Thread Cert.SmallI.nD Cert.SmallI.τ).loc Cert.SmallI.main_arg4)
      ∧ r.2.mem ((c.tc : Thread Cert.SmallI.nD Cert.SmallI.τ).loc Cert.SmallI.main_arg5) = m ((c.tc : Thread Cert.SmallI.nD Cert.SmallI.τ).loc Cert.SmallI.main_arg5)
      ∧ r.2.mem ((c.tc : Thread Cert.SmallI.nD Cert.SmallI.τ).loc Cert.SmallI.main_arg6) = m ((c.tc : Thread Cert.SmallI.nD Cert.SmallI.τ).loc Cert.SmallI.main_arg6))
      ∧ r.2.sem = fun _ => 0)

def quiescent_SmallIIdeal [hSmallIIdeal : Cert.SmallIIdeal.Facts] : Prop :=
  ∀ (m : (ℓ : Loc Cert.SmallIIdeal.nD Cert.SmallIIdeal.τ Cert.SmallIIdeal.sig) → Buf (Elt Ideal) ℓ) (g : Dev Cert.SmallIIdeal.nD → PrngReg), Pre_SmallIIdeal m →
    θ_run (Cert.SmallIIdeal.defs (F := Ideal)) (onTc (τ := Cert.SmallIIdeal.τ) (Cert.SmallIIdeal.main (F := Ideal))) ⟨m, fun _ => 0, g⟩ (fun r => (∀ c : Dev Cert.SmallIIdeal.nD,
      r.2.mem ((c.tc : Thread Cert.SmallIIdeal.nD Cert.SmallIIdeal.τ).loc Cert.SmallIIdeal.main_arg0) = m ((c.tc : Thread Cert.SmallIIdeal.nD Cert.SmallIIdeal.τ).loc Cert.SmallIIdeal.main_arg0)
      ∧ r.2.mem ((c.tc : Thread Cert.SmallIIdeal.nD Cert.SmallIIdeal.τ).loc Cert.SmallIIdeal.main_arg1) = m ((c.tc : Thread Cert.SmallIIdeal.nD Cert.SmallIIdeal.τ).loc Cert.SmallIIdeal.main_arg1)
      ∧ r.2.mem ((c.tc : Thread Cert.SmallIIdeal.nD Cert.SmallIIdeal.τ).loc Cert.SmallIIdeal.main_arg2) = m ((c.tc : Thread Cert.SmallIIdeal.nD Cert.SmallIIdeal.τ).loc Cert.SmallIIdeal.main_arg2)
      ∧ r.2.mem ((c.tc : Thread Cert.SmallIIdeal.nD Cert.SmallIIdeal.τ).loc Cert.SmallIIdeal.main_arg3) = m ((c.tc : Thread Cert.SmallIIdeal.nD Cert.SmallIIdeal.τ).loc Cert.SmallIIdeal.main_arg3)
      ∧ r.2.mem ((c.tc : Thread Cert.SmallIIdeal.nD Cert.SmallIIdeal.τ).loc Cert.SmallIIdeal.main_arg4) = m ((c.tc : Thread Cert.SmallIIdeal.nD Cert.SmallIIdeal.τ).loc Cert.SmallIIdeal.main_arg4)
      ∧ r.2.mem ((c.tc : Thread Cert.SmallIIdeal.nD Cert.SmallIIdeal.τ).loc Cert.SmallIIdeal.main_arg5) = m ((c.tc : Thread Cert.SmallIIdeal.nD Cert.SmallIIdeal.τ).loc Cert.SmallIIdeal.main_arg5)
      ∧ r.2.mem ((c.tc : Thread Cert.SmallIIdeal.nD Cert.SmallIIdeal.τ).loc Cert.SmallIIdeal.main_arg6) = m ((c.tc : Thread Cert.SmallIIdeal.nD Cert.SmallIIdeal.τ).loc Cert.SmallIIdeal.main_arg6))
      ∧ r.2.sem = fun _ => 0)

def quiescent_SmallIRefIdeal [hSmallIRefIdeal : Cert.SmallIRefIdeal.Facts] : Prop :=
  ∀ (m : (ℓ : Loc Cert.SmallIRefIdeal.nD Cert.SmallIRefIdeal.τ Cert.SmallIRefIdeal.sig) → Buf (Elt Ideal) ℓ) (g : Dev Cert.SmallIRefIdeal.nD → PrngReg), Pre_SmallIRefIdeal m →
    θ_run (Cert.SmallIRefIdeal.defs (F := Ideal)) (onTc (τ := Cert.SmallIRefIdeal.τ) (Cert.SmallIRefIdeal.main (F := Ideal))) ⟨m, fun _ => 0, g⟩ (fun r => (∀ c : Dev Cert.SmallIRefIdeal.nD,
      r.2.mem ((c.tc : Thread Cert.SmallIRefIdeal.nD Cert.SmallIRefIdeal.τ).loc Cert.SmallIRefIdeal.main_arg0) = m ((c.tc : Thread Cert.SmallIRefIdeal.nD Cert.SmallIRefIdeal.τ).loc Cert.SmallIRefIdeal.main_arg0)
      ∧ r.2.mem ((c.tc : Thread Cert.SmallIRefIdeal.nD Cert.SmallIRefIdeal.τ).loc Cert.SmallIRefIdeal.main_arg1) = m ((c.tc : Thread Cert.SmallIRefIdeal.nD Cert.SmallIRefIdeal.τ).loc Cert.SmallIRefIdeal.main_arg1)
      ∧ r.2.mem ((c.tc : Thread Cert.SmallIRefIdeal.nD Cert.SmallIRefIdeal.τ).loc Cert.SmallIRefIdeal.main_arg2) = m ((c.tc : Thread Cert.SmallIRefIdeal.nD Cert.SmallIRefIdeal.τ).loc Cert.SmallIRefIdeal.main_arg2)
      ∧ r.2.mem ((c.tc : Thread Cert.SmallIRefIdeal.nD Cert.SmallIRefIdeal.τ).loc Cert.SmallIRefIdeal.main_arg3) = m ((c.tc : Thread Cert.SmallIRefIdeal.nD Cert.SmallIRefIdeal.τ).loc Cert.SmallIRefIdeal.main_arg3)
      ∧ r.2.mem ((c.tc : Thread Cert.SmallIRefIdeal.nD Cert.SmallIRefIdeal.τ).loc Cert.SmallIRefIdeal.main_arg4) = m ((c.tc : Thread Cert.SmallIRefIdeal.nD Cert.SmallIRefIdeal.τ).loc Cert.SmallIRefIdeal.main_arg4)
      ∧ r.2.mem ((c.tc : Thread Cert.SmallIRefIdeal.nD Cert.SmallIRefIdeal.τ).loc Cert.SmallIRefIdeal.main_arg5) = m ((c.tc : Thread Cert.SmallIRefIdeal.nD Cert.SmallIRefIdeal.τ).loc Cert.SmallIRefIdeal.main_arg5)
      ∧ r.2.mem ((c.tc : Thread Cert.SmallIRefIdeal.nD Cert.SmallIRefIdeal.τ).loc Cert.SmallIRefIdeal.main_arg6) = m ((c.tc : Thread Cert.SmallIRefIdeal.nD Cert.SmallIRefIdeal.τ).loc Cert.SmallIRefIdeal.main_arg6))
      ∧ r.2.sem = fun _ => 0)

def quiescent_Zoh [hZoh : Cert.Zoh.Facts] : Prop :=
  ∀ (m : (ℓ : Loc Cert.Zoh.nD Cert.Zoh.τ Cert.Zoh.sig) → Buf (Elt Bits) ℓ) (g : Dev Cert.Zoh.nD → PrngReg), Pre_Zoh m →
    θ_run (Cert.Zoh.defs (F := Bits)) (onTc (τ := Cert.Zoh.τ) (Cert.Zoh.main (F := Bits))) ⟨m, fun _ => 0, g⟩ (fun r => (∀ c : Dev Cert.Zoh.nD,
      r.2.mem ((c.tc : Thread Cert.Zoh.nD Cert.Zoh.τ).loc Cert.Zoh.main_arg0) = m ((c.tc : Thread Cert.Zoh.nD Cert.Zoh.τ).loc Cert.Zoh.main_arg0)
      ∧ r.2.mem ((c.tc : Thread Cert.Zoh.nD Cert.Zoh.τ).loc Cert.Zoh.main_arg1) = m ((c.tc : Thread Cert.Zoh.nD Cert.Zoh.τ).loc Cert.Zoh.main_arg1)
      ∧ r.2.mem ((c.tc : Thread Cert.Zoh.nD Cert.Zoh.τ).loc Cert.Zoh.main_arg2) = m ((c.tc : Thread Cert.Zoh.nD Cert.Zoh.τ).loc Cert.Zoh.main_arg2)
      ∧ r.2.mem ((c.tc : Thread Cert.Zoh.nD Cert.Zoh.τ).loc Cert.Zoh.main_arg3) = m ((c.tc : Thread Cert.Zoh.nD Cert.Zoh.τ).loc Cert.Zoh.main_arg3)
      ∧ r.2.mem ((c.tc : Thread Cert.Zoh.nD Cert.Zoh.τ).loc Cert.Zoh.main_arg4) = m ((c.tc : Thread Cert.Zoh.nD Cert.Zoh.τ).loc Cert.Zoh.main_arg4)
      ∧ r.2.mem ((c.tc : Thread Cert.Zoh.nD Cert.Zoh.τ).loc Cert.Zoh.main_arg5) = m ((c.tc : Thread Cert.Zoh.nD Cert.Zoh.τ).loc Cert.Zoh.main_arg5)
      ∧ r.2.mem ((c.tc : Thread Cert.Zoh.nD Cert.Zoh.τ).loc Cert.Zoh.main_arg6) = m ((c.tc : Thread Cert.Zoh.nD Cert.Zoh.τ).loc Cert.Zoh.main_arg6)
      ∧ r.2.mem ((c.tc : Thread Cert.Zoh.nD Cert.Zoh.τ).loc Cert.Zoh.main_arg7) = m ((c.tc : Thread Cert.Zoh.nD Cert.Zoh.τ).loc Cert.Zoh.main_arg7)
      ∧ r.2.mem ((c.tc : Thread Cert.Zoh.nD Cert.Zoh.τ).loc Cert.Zoh.main_arg8) = m ((c.tc : Thread Cert.Zoh.nD Cert.Zoh.τ).loc Cert.Zoh.main_arg8))
      ∧ r.2.sem = fun _ => 0)

def quiescent_ZohIdeal [hZohIdeal : Cert.ZohIdeal.Facts] : Prop :=
  ∀ (m : (ℓ : Loc Cert.ZohIdeal.nD Cert.ZohIdeal.τ Cert.ZohIdeal.sig) → Buf (Elt Ideal) ℓ) (g : Dev Cert.ZohIdeal.nD → PrngReg), Pre_ZohIdeal m →
    θ_run (Cert.ZohIdeal.defs (F := Ideal)) (onTc (τ := Cert.ZohIdeal.τ) (Cert.ZohIdeal.main (F := Ideal))) ⟨m, fun _ => 0, g⟩ (fun r => (∀ c : Dev Cert.ZohIdeal.nD,
      r.2.mem ((c.tc : Thread Cert.ZohIdeal.nD Cert.ZohIdeal.τ).loc Cert.ZohIdeal.main_arg0) = m ((c.tc : Thread Cert.ZohIdeal.nD Cert.ZohIdeal.τ).loc Cert.ZohIdeal.main_arg0)
      ∧ r.2.mem ((c.tc : Thread Cert.ZohIdeal.nD Cert.ZohIdeal.τ).loc Cert.ZohIdeal.main_arg1) = m ((c.tc : Thread Cert.ZohIdeal.nD Cert.ZohIdeal.τ).loc Cert.ZohIdeal.main_arg1)
      ∧ r.2.mem ((c.tc : Thread Cert.ZohIdeal.nD Cert.ZohIdeal.τ).loc Cert.ZohIdeal.main_arg2) = m ((c.tc : Thread Cert.ZohIdeal.nD Cert.ZohIdeal.τ).loc Cert.ZohIdeal.main_arg2)
      ∧ r.2.mem ((c.tc : Thread Cert.ZohIdeal.nD Cert.ZohIdeal.τ).loc Cert.ZohIdeal.main_arg3) = m ((c.tc : Thread Cert.ZohIdeal.nD Cert.ZohIdeal.τ).loc Cert.ZohIdeal.main_arg3)
      ∧ r.2.mem ((c.tc : Thread Cert.ZohIdeal.nD Cert.ZohIdeal.τ).loc Cert.ZohIdeal.main_arg4) = m ((c.tc : Thread Cert.ZohIdeal.nD Cert.ZohIdeal.τ).loc Cert.ZohIdeal.main_arg4)
      ∧ r.2.mem ((c.tc : Thread Cert.ZohIdeal.nD Cert.ZohIdeal.τ).loc Cert.ZohIdeal.main_arg5) = m ((c.tc : Thread Cert.ZohIdeal.nD Cert.ZohIdeal.τ).loc Cert.ZohIdeal.main_arg5)
      ∧ r.2.mem ((c.tc : Thread Cert.ZohIdeal.nD Cert.ZohIdeal.τ).loc Cert.ZohIdeal.main_arg6) = m ((c.tc : Thread Cert.ZohIdeal.nD Cert.ZohIdeal.τ).loc Cert.ZohIdeal.main_arg6)
      ∧ r.2.mem ((c.tc : Thread Cert.ZohIdeal.nD Cert.ZohIdeal.τ).loc Cert.ZohIdeal.main_arg7) = m ((c.tc : Thread Cert.ZohIdeal.nD Cert.ZohIdeal.τ).loc Cert.ZohIdeal.main_arg7)
      ∧ r.2.mem ((c.tc : Thread Cert.ZohIdeal.nD Cert.ZohIdeal.τ).loc Cert.ZohIdeal.main_arg8) = m ((c.tc : Thread Cert.ZohIdeal.nD Cert.ZohIdeal.τ).loc Cert.ZohIdeal.main_arg8))
      ∧ r.2.sem = fun _ => 0)

def quiescent_ZohRefIdeal [hZohRefIdeal : Cert.ZohRefIdeal.Facts] : Prop :=
  ∀ (m : (ℓ : Loc Cert.ZohRefIdeal.nD Cert.ZohRefIdeal.τ Cert.ZohRefIdeal.sig) → Buf (Elt Ideal) ℓ) (g : Dev Cert.ZohRefIdeal.nD → PrngReg), Pre_ZohRefIdeal m →
    θ_run (Cert.ZohRefIdeal.defs (F := Ideal)) (onTc (τ := Cert.ZohRefIdeal.τ) (Cert.ZohRefIdeal.main (F := Ideal))) ⟨m, fun _ => 0, g⟩ (fun r => (∀ c : Dev Cert.ZohRefIdeal.nD,
      r.2.mem ((c.tc : Thread Cert.ZohRefIdeal.nD Cert.ZohRefIdeal.τ).loc Cert.ZohRefIdeal.main_arg0) = m ((c.tc : Thread Cert.ZohRefIdeal.nD Cert.ZohRefIdeal.τ).loc Cert.ZohRefIdeal.main_arg0)
      ∧ r.2.mem ((c.tc : Thread Cert.ZohRefIdeal.nD Cert.ZohRefIdeal.τ).loc Cert.ZohRefIdeal.main_arg1) = m ((c.tc : Thread Cert.ZohRefIdeal.nD Cert.ZohRefIdeal.τ).loc Cert.ZohRefIdeal.main_arg1)
      ∧ r.2.mem ((c.tc : Thread Cert.ZohRefIdeal.nD Cert.ZohRefIdeal.τ).loc Cert.ZohRefIdeal.main_arg2) = m ((c.tc : Thread Cert.ZohRefIdeal.nD Cert.ZohRefIdeal.τ).loc Cert.ZohRefIdeal.main_arg2)
      ∧ r.2.mem ((c.tc : Thread Cert.ZohRefIdeal.nD Cert.ZohRefIdeal.τ).loc Cert.ZohRefIdeal.main_arg3) = m ((c.tc : Thread Cert.ZohRefIdeal.nD Cert.ZohRefIdeal.τ).loc Cert.ZohRefIdeal.main_arg3)
      ∧ r.2.mem ((c.tc : Thread Cert.ZohRefIdeal.nD Cert.ZohRefIdeal.τ).loc Cert.ZohRefIdeal.main_arg4) = m ((c.tc : Thread Cert.ZohRefIdeal.nD Cert.ZohRefIdeal.τ).loc Cert.ZohRefIdeal.main_arg4)
      ∧ r.2.mem ((c.tc : Thread Cert.ZohRefIdeal.nD Cert.ZohRefIdeal.τ).loc Cert.ZohRefIdeal.main_arg5) = m ((c.tc : Thread Cert.ZohRefIdeal.nD Cert.ZohRefIdeal.τ).loc Cert.ZohRefIdeal.main_arg5)
      ∧ r.2.mem ((c.tc : Thread Cert.ZohRefIdeal.nD Cert.ZohRefIdeal.τ).loc Cert.ZohRefIdeal.main_arg6) = m ((c.tc : Thread Cert.ZohRefIdeal.nD Cert.ZohRefIdeal.τ).loc Cert.ZohRefIdeal.main_arg6)
      ∧ r.2.mem ((c.tc : Thread Cert.ZohRefIdeal.nD Cert.ZohRefIdeal.τ).loc Cert.ZohRefIdeal.main_arg7) = m ((c.tc : Thread Cert.ZohRefIdeal.nD Cert.ZohRefIdeal.τ).loc Cert.ZohRefIdeal.main_arg7)
      ∧ r.2.mem ((c.tc : Thread Cert.ZohRefIdeal.nD Cert.ZohRefIdeal.τ).loc Cert.ZohRefIdeal.main_arg8) = m ((c.tc : Thread Cert.ZohRefIdeal.nD Cert.ZohRefIdeal.τ).loc Cert.ZohRefIdeal.main_arg8))
      ∧ r.2.sem = fun _ => 0)

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)
      ∧ m' ((c.tc : Thread Cert.HalfRefIdeal.nD Cert.HalfRefIdeal.τ).loc Cert.HalfRefIdeal.main_arg2) = m ((c.tc : Thread Cert.HalfIdeal.nD Cert.HalfIdeal.τ).loc Cert.HalfIdeal.main_arg2)
      ∧ m' ((c.tc : Thread Cert.HalfRefIdeal.nD Cert.HalfRefIdeal.τ).loc Cert.HalfRefIdeal.main_arg3) = m ((c.tc : Thread Cert.HalfIdeal.nD Cert.HalfIdeal.τ).loc Cert.HalfIdeal.main_arg3)
      ∧ m' ((c.tc : Thread Cert.HalfRefIdeal.nD Cert.HalfRefIdeal.τ).loc Cert.HalfRefIdeal.main_arg4) = m ((c.tc : Thread Cert.HalfIdeal.nD Cert.HalfIdeal.τ).loc Cert.HalfIdeal.main_arg4)
      ∧ m' ((c.tc : Thread Cert.HalfRefIdeal.nD Cert.HalfRefIdeal.τ).loc Cert.HalfRefIdeal.main_arg5) = m ((c.tc : Thread Cert.HalfIdeal.nD Cert.HalfIdeal.τ).loc Cert.HalfIdeal.main_arg5)
      ∧ m' ((c.tc : Thread Cert.HalfRefIdeal.nD Cert.HalfRefIdeal.τ).loc Cert.HalfRefIdeal.main_arg6) = m ((c.tc : Thread Cert.HalfIdeal.nD Cert.HalfIdeal.τ).loc Cert.HalfIdeal.main_arg6)
      ∧ m' ((c.tc : Thread Cert.HalfRefIdeal.nD Cert.HalfRefIdeal.τ).loc Cert.HalfRefIdeal.main_arg7) = m ((c.tc : Thread Cert.HalfIdeal.nD Cert.HalfIdeal.τ).loc Cert.HalfIdeal.main_arg7)
      ∧ m' ((c.tc : Thread Cert.HalfRefIdeal.nD Cert.HalfRefIdeal.τ).loc Cert.HalfRefIdeal.main_arg8) = m ((c.tc : Thread Cert.HalfIdeal.nD Cert.HalfIdeal.τ).loc Cert.HalfIdeal.main_arg8)
      ∧ m' ((c.tc : Thread Cert.HalfRefIdeal.nD Cert.HalfRefIdeal.τ).loc Cert.HalfRefIdeal.main_arg9) = m ((c.tc : Thread Cert.HalfIdeal.nD Cert.HalfIdeal.τ).loc Cert.HalfIdeal.main_arg9)
      ∧ m' ((c.tc : Thread Cert.HalfRefIdeal.nD Cert.HalfRefIdeal.τ).loc Cert.HalfRefIdeal.main_arg10) = m ((c.tc : Thread Cert.HalfIdeal.nD Cert.HalfIdeal.τ).loc Cert.HalfIdeal.main_arg10)
      ∧ m' ((c.tc : Thread Cert.HalfRefIdeal.nD Cert.HalfRefIdeal.τ).loc Cert.HalfRefIdeal.main_arg11) = m ((c.tc : Thread Cert.HalfIdeal.nD Cert.HalfIdeal.τ).loc Cert.HalfIdeal.main_arg11)
      ∧ m' ((c.tc : Thread Cert.HalfRefIdeal.nD Cert.HalfRefIdeal.τ).loc Cert.HalfRefIdeal.main_arg12) = m ((c.tc : Thread Cert.HalfIdeal.nD Cert.HalfIdeal.τ).loc Cert.HalfIdeal.main_arg12)
      ∧ m' ((c.tc : Thread Cert.HalfRefIdeal.nD Cert.HalfRefIdeal.τ).loc Cert.HalfRefIdeal.main_arg13) = m ((c.tc : Thread Cert.HalfIdeal.nD Cert.HalfIdeal.τ).loc Cert.HalfIdeal.main_arg13)) →
    ∃ (v0 : (c : Dev Cert.HalfIdeal.nD) → Buf (Elt Ideal) ((c.tc : Thread Cert.HalfIdeal.nD Cert.HalfIdeal.τ).loc Cert.HalfIdeal.main_v18)) (v1 : (c : Dev Cert.HalfIdeal.nD) → Buf (Elt Ideal) ((c.tc : Thread Cert.HalfIdeal.nD Cert.HalfIdeal.τ).loc Cert.HalfIdeal.main_v13_0)) (v2 : (c : Dev Cert.HalfIdeal.nD) → Buf (Elt Ideal) ((c.tc : Thread Cert.HalfIdeal.nD Cert.HalfIdeal.τ).loc Cert.HalfIdeal.main_v19)) (v3 : (c : Dev Cert.HalfIdeal.nD) → Buf (Elt Ideal) ((c.tc : Thread Cert.HalfIdeal.nD Cert.HalfIdeal.τ).loc Cert.HalfIdeal.main_v14)) (v4 : (c : Dev Cert.HalfIdeal.nD) → Buf (Elt Ideal) ((c.tc : Thread Cert.HalfIdeal.nD Cert.HalfIdeal.τ).loc Cert.HalfIdeal.main_v15)) (v5 : (c : Dev Cert.HalfIdeal.nD) → Buf (Elt Ideal) ((c.tc : Thread Cert.HalfIdeal.nD Cert.HalfIdeal.τ).loc Cert.HalfIdeal.main_v16)) (v6 : (c : Dev Cert.HalfIdeal.nD) → Buf (Elt Ideal) ((c.tc : Thread Cert.HalfIdeal.nD Cert.HalfIdeal.τ).loc Cert.HalfIdeal.main_v20)) (v7 : (c : Dev Cert.HalfIdeal.nD) → Buf (Elt Ideal) ((c.tc : Thread Cert.HalfIdeal.nD Cert.HalfIdeal.τ).loc Cert.HalfIdeal.main_v12_5)) (v8 : (c : Dev Cert.HalfIdeal.nD) → Buf (Elt Ideal) ((c.tc : Thread Cert.HalfIdeal.nD Cert.HalfIdeal.τ).loc Cert.HalfIdeal.main_v12_6)) (v9 : (c : Dev Cert.HalfIdeal.nD) → Buf (Elt Ideal) ((c.tc : Thread Cert.HalfIdeal.nD Cert.HalfIdeal.τ).loc Cert.HalfIdeal.main_v21)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v18) = v0 c
          ∧ r.2.mem ((c.tc : Thread Cert.HalfIdeal.nD Cert.HalfIdeal.τ).loc Cert.HalfIdeal.main_v13_0) = v1 c
          ∧ r.2.mem ((c.tc : Thread Cert.HalfIdeal.nD Cert.HalfIdeal.τ).loc Cert.HalfIdeal.main_v19) = v2 c
          ∧ r.2.mem ((c.tc : Thread Cert.HalfIdeal.nD Cert.HalfIdeal.τ).loc Cert.HalfIdeal.main_v14) = v3 c
          ∧ r.2.mem ((c.tc : Thread Cert.HalfIdeal.nD Cert.HalfIdeal.τ).loc Cert.HalfIdeal.main_v15) = v4 c
          ∧ r.2.mem ((c.tc : Thread Cert.HalfIdeal.nD Cert.HalfIdeal.τ).loc Cert.HalfIdeal.main_v16) = v5 c
          ∧ r.2.mem ((c.tc : Thread Cert.HalfIdeal.nD Cert.HalfIdeal.τ).loc Cert.HalfIdeal.main_v20) = v6 c
          ∧ r.2.mem ((c.tc : Thread Cert.HalfIdeal.nD Cert.HalfIdeal.τ).loc Cert.HalfIdeal.main_v12_5) = v7 c
          ∧ r.2.mem ((c.tc : Thread Cert.HalfIdeal.nD Cert.HalfIdeal.τ).loc Cert.HalfIdeal.main_v12_6) = v8 c
          ∧ r.2.mem ((c.tc : Thread Cert.HalfIdeal.nD Cert.HalfIdeal.τ).loc Cert.HalfIdeal.main_v21) = v9 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
          ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5)
          ∧ r.2.mem ((c.tc : Thread Cert.HalfIdeal.nD Cert.HalfIdeal.τ).loc Cert.HalfIdeal.main_arg6) = m ((c.tc : Thread Cert.HalfIdeal.nD Cert.HalfIdeal.τ).loc Cert.HalfIdeal.main_arg6)
          ∧ r.2.mem ((c.tc : Thread Cert.HalfIdeal.nD Cert.HalfIdeal.τ).loc Cert.HalfIdeal.main_arg7) = m ((c.tc : Thread Cert.HalfIdeal.nD Cert.HalfIdeal.τ).loc Cert.HalfIdeal.main_arg7)
          ∧ r.2.mem ((c.tc : Thread Cert.HalfIdeal.nD Cert.HalfIdeal.τ).loc Cert.HalfIdeal.main_arg8) = m ((c.tc : Thread Cert.HalfIdeal.nD Cert.HalfIdeal.τ).loc Cert.HalfIdeal.main_arg8)
          ∧ r.2.mem ((c.tc : Thread Cert.HalfIdeal.nD Cert.HalfIdeal.τ).loc Cert.HalfIdeal.main_arg9) = m ((c.tc : Thread Cert.HalfIdeal.nD Cert.HalfIdeal.τ).loc Cert.HalfIdeal.main_arg9)
          ∧ r.2.mem ((c.tc : Thread Cert.HalfIdeal.nD Cert.HalfIdeal.τ).loc Cert.HalfIdeal.main_arg10) = m ((c.tc : Thread Cert.HalfIdeal.nD Cert.HalfIdeal.τ).loc Cert.HalfIdeal.main_arg10)
          ∧ r.2.mem ((c.tc : Thread Cert.HalfIdeal.nD Cert.HalfIdeal.τ).loc Cert.HalfIdeal.main_arg11) = m ((c.tc : Thread Cert.HalfIdeal.nD Cert.HalfIdeal.τ).loc Cert.HalfIdeal.main_arg11)
          ∧ r.2.mem ((c.tc : Thread Cert.HalfIdeal.nD Cert.HalfIdeal.τ).loc Cert.HalfIdeal.main_arg12) = m ((c.tc : Thread Cert.HalfIdeal.nD Cert.HalfIdeal.τ).loc Cert.HalfIdeal.main_arg12)
          ∧ r.2.mem ((c.tc : Thread Cert.HalfIdeal.nD Cert.HalfIdeal.τ).loc Cert.HalfIdeal.main_arg13) = m ((c.tc : Thread Cert.HalfIdeal.nD Cert.HalfIdeal.τ).loc Cert.HalfIdeal.main_arg13))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v78) = v0 c
          ∧ r.2.mem ((c.tc : Thread Cert.HalfRefIdeal.nD Cert.HalfRefIdeal.τ).loc Cert.HalfRefIdeal.main_v167) = v1 c
          ∧ r.2.mem ((c.tc : Thread Cert.HalfRefIdeal.nD Cert.HalfRefIdeal.τ).loc Cert.HalfRefIdeal.main_v152) = v2 c
          ∧ r.2.mem ((c.tc : Thread Cert.HalfRefIdeal.nD Cert.HalfRefIdeal.τ).loc Cert.HalfRefIdeal.main_v144) = v3 c
          ∧ r.2.mem ((c.tc : Thread Cert.HalfRefIdeal.nD Cert.HalfRefIdeal.τ).loc Cert.HalfRefIdeal.main_v140) = v4 c
          ∧ r.2.mem ((c.tc : Thread Cert.HalfRefIdeal.nD Cert.HalfRefIdeal.τ).loc Cert.HalfRefIdeal.main_v135) = v5 c
          ∧ r.2.mem ((c.tc : Thread Cert.HalfRefIdeal.nD Cert.HalfRefIdeal.τ).loc Cert.HalfRefIdeal.main_v118) = v6 c
          ∧ r.2.mem ((c.tc : Thread Cert.HalfRefIdeal.nD Cert.HalfRefIdeal.τ).loc Cert.HalfRefIdeal.main_v111) = v7 c
          ∧ r.2.mem ((c.tc : Thread Cert.HalfRefIdeal.nD Cert.HalfRefIdeal.τ).loc Cert.HalfRefIdeal.main_v108) = v8 c
          ∧ r.2.mem ((c.tc : Thread Cert.HalfRefIdeal.nD Cert.HalfRefIdeal.τ).loc Cert.HalfRefIdeal.main_v90) = v9 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)
          ∧ r.2.mem ((c.tc : Thread Cert.HalfRefIdeal.nD Cert.HalfRefIdeal.τ).loc Cert.HalfRefIdeal.main_arg2) = m' ((c.tc : Thread Cert.HalfRefIdeal.nD Cert.HalfRefIdeal.τ).loc Cert.HalfRefIdeal.main_arg2)
          ∧ r.2.mem ((c.tc : Thread Cert.HalfRefIdeal.nD Cert.HalfRefIdeal.τ).loc Cert.HalfRefIdeal.main_arg3) = m' ((c.tc : Thread Cert.HalfRefIdeal.nD Cert.HalfRefIdeal.τ).loc Cert.HalfRefIdeal.main_arg3)
          ∧ r.2.mem ((c.tc : Thread Cert.HalfRefIdeal.nD Cert.HalfRefIdeal.τ).loc Cert.HalfRefIdeal.main_arg4) = m' ((c.tc : Thread Cert.HalfRefIdeal.nD Cert.HalfRefIdeal.τ).loc Cert.HalfRefIdeal.main_arg4)
          ∧ r.2.mem ((c.tc : Thread Cert.HalfRefIdeal.nD Cert.HalfRefIdeal.τ).loc Cert.HalfRefIdeal.main_arg5) = m' ((c.tc : Thread Cert.HalfRefIdeal.nD Cert.HalfRefIdeal.τ).loc Cert.HalfRefIdeal.main_arg5)
          ∧ r.2.mem ((c.tc : Thread Cert.HalfRefIdeal.nD Cert.HalfRefIdeal.τ).loc Cert.HalfRefIdeal.main_arg6) = m' ((c.tc : Thread Cert.HalfRefIdeal.nD Cert.HalfRefIdeal.τ).loc Cert.HalfRefIdeal.main_arg6)
          ∧ r.2.mem ((c.tc : Thread Cert.HalfRefIdeal.nD Cert.HalfRefIdeal.τ).loc Cert.HalfRefIdeal.main_arg7) = m' ((c.tc : Thread Cert.HalfRefIdeal.nD Cert.HalfRefIdeal.τ).loc Cert.HalfRefIdeal.main_arg7)
          ∧ r.2.mem ((c.tc : Thread Cert.HalfRefIdeal.nD Cert.HalfRefIdeal.τ).loc Cert.HalfRefIdeal.main_arg8) = m' ((c.tc : Thread Cert.HalfRefIdeal.nD Cert.HalfRefIdeal.τ).loc Cert.HalfRefIdeal.main_arg8)
          ∧ r.2.mem ((c.tc : Thread Cert.HalfRefIdeal.nD Cert.HalfRefIdeal.τ).loc Cert.HalfRefIdeal.main_arg9) = m' ((c.tc : Thread Cert.HalfRefIdeal.nD Cert.HalfRefIdeal.τ).loc Cert.HalfRefIdeal.main_arg9)
          ∧ r.2.mem ((c.tc : Thread Cert.HalfRefIdeal.nD Cert.HalfRefIdeal.τ).loc Cert.HalfRefIdeal.main_arg10) = m' ((c.tc : Thread Cert.HalfRefIdeal.nD Cert.HalfRefIdeal.τ).loc Cert.HalfRefIdeal.main_arg10)
          ∧ r.2.mem ((c.tc : Thread Cert.HalfRefIdeal.nD Cert.HalfRefIdeal.τ).loc Cert.HalfRefIdeal.main_arg11) = m' ((c.tc : Thread Cert.HalfRefIdeal.nD Cert.HalfRefIdeal.τ).loc Cert.HalfRefIdeal.main_arg11)
          ∧ r.2.mem ((c.tc : Thread Cert.HalfRefIdeal.nD Cert.HalfRefIdeal.τ).loc Cert.HalfRefIdeal.main_arg12) = m' ((c.tc : Thread Cert.HalfRefIdeal.nD Cert.HalfRefIdeal.τ).loc Cert.HalfRefIdeal.main_arg12)
          ∧ r.2.mem ((c.tc : Thread Cert.HalfRefIdeal.nD Cert.HalfRefIdeal.τ).loc Cert.HalfRefIdeal.main_arg13) = m' ((c.tc : Thread Cert.HalfRefIdeal.nD Cert.HalfRefIdeal.τ).loc Cert.HalfRefIdeal.main_arg13))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v3_0)) (v1 : (c : Dev Cert.GluIdeal.nD) → Buf (Elt Ideal) ((c.tc : Thread Cert.GluIdeal.nD Cert.GluIdeal.τ).loc Cert.GluIdeal.main_v3_1)) (v2 : (c : Dev Cert.GluIdeal.nD) → Buf (Elt Ideal) ((c.tc : Thread Cert.GluIdeal.nD Cert.GluIdeal.τ).loc Cert.GluIdeal.main_v3_2)) (v3 : (c : Dev Cert.GluIdeal.nD) → Buf (Elt Ideal) ((c.tc : Thread Cert.GluIdeal.nD Cert.GluIdeal.τ).loc Cert.GluIdeal.main_v3_3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3_0) = v0 c
          ∧ r.2.mem ((c.tc : Thread Cert.GluIdeal.nD Cert.GluIdeal.τ).loc Cert.GluIdeal.main_v3_1) = v1 c
          ∧ r.2.mem ((c.tc : Thread Cert.GluIdeal.nD Cert.GluIdeal.τ).loc Cert.GluIdeal.main_v3_2) = v2 c
          ∧ r.2.mem ((c.tc : Thread Cert.GluIdeal.nD Cert.GluIdeal.τ).loc Cert.GluIdeal.main_v3_3) = v3 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v60) = v0 c
          ∧ r.2.mem ((c.tc : Thread Cert.GluRefIdeal.nD Cert.GluRefIdeal.τ).loc Cert.GluRefIdeal.main_v61) = v1 c
          ∧ r.2.mem ((c.tc : Thread Cert.GluRefIdeal.nD Cert.GluRefIdeal.τ).loc Cert.GluRefIdeal.main_v46) = v2 c
          ∧ r.2.mem ((c.tc : Thread Cert.GluRefIdeal.nD Cert.GluRefIdeal.τ).loc Cert.GluRefIdeal.main_v37) = v3 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Gn_GnIdeal : Prop :=
  True

def algebraic_GnIdeal_GnRefIdeal_pre_finite_post [hGnIdeal : Cert.GnIdeal.Facts] [hGnRefIdeal : Cert.GnRefIdeal.Facts] [hPre_finite_post : Cert.Pre_finite_post.Facts] : Prop :=
  ∀ (m : (ℓ : Loc Cert.GnIdeal.nD Cert.GnIdeal.τ Cert.GnIdeal.sig) → Buf (Elt Ideal) ℓ) (g : Dev Cert.GnIdeal.nD → PrngReg)
    (m' : (ℓ : Loc Cert.GnRefIdeal.nD Cert.GnRefIdeal.τ Cert.GnRefIdeal.sig) → Buf (Elt Ideal) ℓ) (g' : Dev Cert.GnRefIdeal.nD → PrngReg), Pre_GnIdeal_finite_post m →
    (∀ c : Dev Cert.GnIdeal.nD,
      m' ((c.tc : Thread Cert.GnRefIdeal.nD Cert.GnRefIdeal.τ).loc Cert.GnRefIdeal.main_arg0) = m ((c.tc : Thread Cert.GnIdeal.nD Cert.GnIdeal.τ).loc Cert.GnIdeal.main_arg0)
      ∧ m' ((c.tc : Thread Cert.GnRefIdeal.nD Cert.GnRefIdeal.τ).loc Cert.GnRefIdeal.main_arg1) = m ((c.tc : Thread Cert.GnIdeal.nD Cert.GnIdeal.τ).loc Cert.GnIdeal.main_arg1)
      ∧ m' ((c.tc : Thread Cert.GnRefIdeal.nD Cert.GnRefIdeal.τ).loc Cert.GnRefIdeal.main_arg2) = m ((c.tc : Thread Cert.GnIdeal.nD Cert.GnIdeal.τ).loc Cert.GnIdeal.main_arg2)
      ∧ m' ((c.tc : Thread Cert.GnRefIdeal.nD Cert.GnRefIdeal.τ).loc Cert.GnRefIdeal.main_arg3) = m ((c.tc : Thread Cert.GnIdeal.nD Cert.GnIdeal.τ).loc Cert.GnIdeal.main_arg3)
      ∧ m' ((c.tc : Thread Cert.GnRefIdeal.nD Cert.GnRefIdeal.τ).loc Cert.GnRefIdeal.main_arg4) = m ((c.tc : Thread Cert.GnIdeal.nD Cert.GnIdeal.τ).loc Cert.GnIdeal.main_arg4)
      ∧ m' ((c.tc : Thread Cert.GnRefIdeal.nD Cert.GnRefIdeal.τ).loc Cert.GnRefIdeal.main_arg5) = m ((c.tc : Thread Cert.GnIdeal.nD Cert.GnIdeal.τ).loc Cert.GnIdeal.main_arg5)
      ∧ m' ((c.tc : Thread Cert.GnRefIdeal.nD Cert.GnRefIdeal.τ).loc Cert.GnRefIdeal.main_arg6) = m ((c.tc : Thread Cert.GnIdeal.nD Cert.GnIdeal.τ).loc Cert.GnIdeal.main_arg6)
      ∧ m' ((c.tc : Thread Cert.GnRefIdeal.nD Cert.GnRefIdeal.τ).loc Cert.GnRefIdeal.main_arg7) = m ((c.tc : Thread Cert.GnIdeal.nD Cert.GnIdeal.τ).loc Cert.GnIdeal.main_arg7)
      ∧ m' ((c.tc : Thread Cert.GnRefIdeal.nD Cert.GnRefIdeal.τ).loc Cert.GnRefIdeal.main_arg8) = m ((c.tc : Thread Cert.GnIdeal.nD Cert.GnIdeal.τ).loc Cert.GnIdeal.main_arg8)
      ∧ m' ((c.tc : Thread Cert.GnRefIdeal.nD Cert.GnRefIdeal.τ).loc Cert.GnRefIdeal.main_arg9) = m ((c.tc : Thread Cert.GnIdeal.nD Cert.GnIdeal.τ).loc Cert.GnIdeal.main_arg9)) →
    ∃ (v0 : (c : Dev Cert.GnIdeal.nD) → Buf (Elt Ideal) ((c.tc : Thread Cert.GnIdeal.nD Cert.GnIdeal.τ).loc Cert.GnIdeal.main_v4_0)) (v1 : (c : Dev Cert.GnIdeal.nD) → Buf (Elt Ideal) ((c.tc : Thread Cert.GnIdeal.nD Cert.GnIdeal.τ).loc Cert.GnIdeal.main_v4_1)) (v2 : (c : Dev Cert.GnIdeal.nD) → Buf (Elt Ideal) ((c.tc : Thread Cert.GnIdeal.nD Cert.GnIdeal.τ).loc Cert.GnIdeal.main_v4_2)) (v3 : (c : Dev Cert.GnIdeal.nD) → Buf (Elt Ideal) ((c.tc : Thread Cert.GnIdeal.nD Cert.GnIdeal.τ).loc Cert.GnIdeal.main_v4_3)) (v4 : (c : Dev Cert.GnIdeal.nD) → Buf (Elt Ideal) ((c.tc : Thread Cert.GnIdeal.nD Cert.GnIdeal.τ).loc Cert.GnIdeal.main_v4_4)) (v5 : (c : Dev Cert.GnIdeal.nD) → Buf (Elt Ideal) ((c.tc : Thread Cert.GnIdeal.nD Cert.GnIdeal.τ).loc Cert.GnIdeal.main_v4_5)) (v6 : (c : Dev Cert.GnIdeal.nD) → Buf (Elt Ideal) ((c.tc : Thread Cert.GnIdeal.nD Cert.GnIdeal.τ).loc Cert.GnIdeal.main_v4_6)) (v7 : (c : Dev Cert.GnIdeal.nD) → Buf (Elt Ideal) ((c.tc : Thread Cert.GnIdeal.nD Cert.GnIdeal.τ).loc Cert.GnIdeal.main_v4_7)) (v8 : (c : Dev Cert.GnIdeal.nD) → Buf (Elt Ideal) ((c.tc : Thread Cert.GnIdeal.nD Cert.GnIdeal.τ).loc Cert.GnIdeal.main_v4_8)),
      θ_run (Cert.GnIdeal.defs (F := Ideal)) (onTc (τ := Cert.GnIdeal.τ) (Cert.GnIdeal.main (F := Ideal))) ⟨m, fun _ => 0, g⟩ (fun r => ∀ c : Dev Cert.GnIdeal.nD,
          r.2.mem ((c.tc : Thread Cert.GnIdeal.nD Cert.GnIdeal.τ).loc Cert.GnIdeal.main_v4_0) = v0 c
          ∧ r.2.mem ((c.tc : Thread Cert.GnIdeal.nD Cert.GnIdeal.τ).loc Cert.GnIdeal.main_v4_1) = v1 c
          ∧ r.2.mem ((c.tc : Thread Cert.GnIdeal.nD Cert.GnIdeal.τ).loc Cert.GnIdeal.main_v4_2) = v2 c
          ∧ r.2.mem ((c.tc : Thread Cert.GnIdeal.nD Cert.GnIdeal.τ).loc Cert.GnIdeal.main_v4_3) = v3 c
          ∧ r.2.mem ((c.tc : Thread Cert.GnIdeal.nD Cert.GnIdeal.τ).loc Cert.GnIdeal.main_v4_4) = v4 c
          ∧ r.2.mem ((c.tc : Thread Cert.GnIdeal.nD Cert.GnIdeal.τ).loc Cert.GnIdeal.main_v4_5) = v5 c
          ∧ r.2.mem ((c.tc : Thread Cert.GnIdeal.nD Cert.GnIdeal.τ).loc Cert.GnIdeal.main_v4_6) = v6 c
          ∧ r.2.mem ((c.tc : Thread Cert.GnIdeal.nD Cert.GnIdeal.τ).loc Cert.GnIdeal.main_v4_7) = v7 c
          ∧ r.2.mem ((c.tc : Thread Cert.GnIdeal.nD Cert.GnIdeal.τ).loc Cert.GnIdeal.main_v4_8) = v8 c
          ∧ r.2.mem ((c.tc : Thread Cert.GnIdeal.nD Cert.GnIdeal.τ).loc Cert.GnIdeal.main_arg0) = m ((c.tc : Thread Cert.GnIdeal.nD Cert.GnIdeal.τ).loc Cert.GnIdeal.main_arg0)
          ∧ r.2.mem ((c.tc : Thread Cert.GnIdeal.nD Cert.GnIdeal.τ).loc Cert.GnIdeal.main_arg1) = m ((c.tc : Thread Cert.GnIdeal.nD Cert.GnIdeal.τ).loc Cert.GnIdeal.main_arg1)
          ∧ r.2.mem ((c.tc : Thread Cert.GnIdeal.nD Cert.GnIdeal.τ).loc Cert.GnIdeal.main_arg2) = m ((c.tc : Thread Cert.GnIdeal.nD Cert.GnIdeal.τ).loc Cert.GnIdeal.main_arg2)
          ∧ r.2.mem ((c.tc : Thread Cert.GnIdeal.nD Cert.GnIdeal.τ).loc Cert.GnIdeal.main_arg3) = m ((c.tc : Thread Cert.GnIdeal.nD Cert.GnIdeal.τ).loc Cert.GnIdeal.main_arg3)
          ∧ r.2.mem ((c.tc : Thread Cert.GnIdeal.nD Cert.GnIdeal.τ).loc Cert.GnIdeal.main_arg4) = m ((c.tc : Thread Cert.GnIdeal.nD Cert.GnIdeal.τ).loc Cert.GnIdeal.main_arg4)
          ∧ r.2.mem ((c.tc : Thread Cert.GnIdeal.nD Cert.GnIdeal.τ).loc Cert.GnIdeal.main_arg5) = m ((c.tc : Thread Cert.GnIdeal.nD Cert.GnIdeal.τ).loc Cert.GnIdeal.main_arg5)
          ∧ r.2.mem ((c.tc : Thread Cert.GnIdeal.nD Cert.GnIdeal.τ).loc Cert.GnIdeal.main_arg6) = m ((c.tc : Thread Cert.GnIdeal.nD Cert.GnIdeal.τ).loc Cert.GnIdeal.main_arg6)
          ∧ r.2.mem ((c.tc : Thread Cert.GnIdeal.nD Cert.GnIdeal.τ).loc Cert.GnIdeal.main_arg7) = m ((c.tc : Thread Cert.GnIdeal.nD Cert.GnIdeal.τ).loc Cert.GnIdeal.main_arg7)
          ∧ r.2.mem ((c.tc : Thread Cert.GnIdeal.nD Cert.GnIdeal.τ).loc Cert.GnIdeal.main_arg8) = m ((c.tc : Thread Cert.GnIdeal.nD Cert.GnIdeal.τ).loc Cert.GnIdeal.main_arg8)
          ∧ r.2.mem ((c.tc : Thread Cert.GnIdeal.nD Cert.GnIdeal.τ).loc Cert.GnIdeal.main_arg9) = m ((c.tc : Thread Cert.GnIdeal.nD Cert.GnIdeal.τ).loc Cert.GnIdeal.main_arg9))
      ∧ θ_run (Cert.GnRefIdeal.defs (F := Ideal)) (onTc (τ := Cert.GnRefIdeal.τ) (Cert.GnRefIdeal.main (F := Ideal))) ⟨m', fun _ => 0, g'⟩ (fun r => ∀ c : Dev Cert.GnRefIdeal.nD,
          r.2.mem ((c.tc : Thread Cert.GnRefIdeal.nD Cert.GnRefIdeal.τ).loc Cert.GnRefIdeal.main_v108) = v0 c
          ∧ r.2.mem ((c.tc : Thread Cert.GnRefIdeal.nD Cert.GnRefIdeal.τ).loc Cert.GnRefIdeal.main_v105) = v1 c
          ∧ r.2.mem ((c.tc : Thread Cert.GnRefIdeal.nD Cert.GnRefIdeal.τ).loc Cert.GnRefIdeal.main_v104) = v2 c
          ∧ r.2.mem ((c.tc : Thread Cert.GnRefIdeal.nD Cert.GnRefIdeal.τ).loc Cert.GnRefIdeal.main_v103) = v3 c
          ∧ r.2.mem ((c.tc : Thread Cert.GnRefIdeal.nD Cert.GnRefIdeal.τ).loc Cert.GnRefIdeal.main_v53) = v4 c
          ∧ r.2.mem ((c.tc : Thread Cert.GnRefIdeal.nD Cert.GnRefIdeal.τ).loc Cert.GnRefIdeal.main_v109) = v5 c
          ∧ r.2.mem ((c.tc : Thread Cert.GnRefIdeal.nD Cert.GnRefIdeal.τ).loc Cert.GnRefIdeal.main_v110) = v6 c
          ∧ r.2.mem ((c.tc : Thread Cert.GnRefIdeal.nD Cert.GnRefIdeal.τ).loc Cert.GnRefIdeal.main_v111) = v7 c
          ∧ r.2.mem ((c.tc : Thread Cert.GnRefIdeal.nD Cert.GnRefIdeal.τ).loc Cert.GnRefIdeal.main_v51) = v8 c
          ∧ r.2.mem ((c.tc : Thread Cert.GnRefIdeal.nD Cert.GnRefIdeal.τ).loc Cert.GnRefIdeal.main_arg0) = m' ((c.tc : Thread Cert.GnRefIdeal.nD Cert.GnRefIdeal.τ).loc Cert.GnRefIdeal.main_arg0)
          ∧ r.2.mem ((c.tc : Thread Cert.GnRefIdeal.nD Cert.GnRefIdeal.τ).loc Cert.GnRefIdeal.main_arg1) = m' ((c.tc : Thread Cert.GnRefIdeal.nD Cert.GnRefIdeal.τ).loc Cert.GnRefIdeal.main_arg1)
          ∧ r.2.mem ((c.tc : Thread Cert.GnRefIdeal.nD Cert.GnRefIdeal.τ).loc Cert.GnRefIdeal.main_arg2) = m' ((c.tc : Thread Cert.GnRefIdeal.nD Cert.GnRefIdeal.τ).loc Cert.GnRefIdeal.main_arg2)
          ∧ r.2.mem ((c.tc : Thread Cert.GnRefIdeal.nD Cert.GnRefIdeal.τ).loc Cert.GnRefIdeal.main_arg3) = m' ((c.tc : Thread Cert.GnRefIdeal.nD Cert.GnRefIdeal.τ).loc Cert.GnRefIdeal.main_arg3)
          ∧ r.2.mem ((c.tc : Thread Cert.GnRefIdeal.nD Cert.GnRefIdeal.τ).loc Cert.GnRefIdeal.main_arg4) = m' ((c.tc : Thread Cert.GnRefIdeal.nD Cert.GnRefIdeal.τ).loc Cert.GnRefIdeal.main_arg4)
          ∧ r.2.mem ((c.tc : Thread Cert.GnRefIdeal.nD Cert.GnRefIdeal.τ).loc Cert.GnRefIdeal.main_arg5) = m' ((c.tc : Thread Cert.GnRefIdeal.nD Cert.GnRefIdeal.τ).loc Cert.GnRefIdeal.main_arg5)
          ∧ r.2.mem ((c.tc : Thread Cert.GnRefIdeal.nD Cert.GnRefIdeal.τ).loc Cert.GnRefIdeal.main_arg6) = m' ((c.tc : Thread Cert.GnRefIdeal.nD Cert.GnRefIdeal.τ).loc Cert.GnRefIdeal.main_arg6)
          ∧ r.2.mem ((c.tc : Thread Cert.GnRefIdeal.nD Cert.GnRefIdeal.τ).loc Cert.GnRefIdeal.main_arg7) = m' ((c.tc : Thread Cert.GnRefIdeal.nD Cert.GnRefIdeal.τ).loc Cert.GnRefIdeal.main_arg7)
          ∧ r.2.mem ((c.tc : Thread Cert.GnRefIdeal.nD Cert.GnRefIdeal.τ).loc Cert.GnRefIdeal.main_arg8) = m' ((c.tc : Thread Cert.GnRefIdeal.nD Cert.GnRefIdeal.τ).loc Cert.GnRefIdeal.main_arg8)
          ∧ r.2.mem ((c.tc : Thread Cert.GnRefIdeal.nD Cert.GnRefIdeal.τ).loc Cert.GnRefIdeal.main_arg9) = m' ((c.tc : Thread Cert.GnRefIdeal.nD Cert.GnRefIdeal.τ).loc Cert.GnRefIdeal.main_arg9))

def preserves_Inp_InpIdeal : Prop :=
  True

def algebraic_InpIdeal_InpRefIdeal_pre_finite_shift [hInpIdeal : Cert.InpIdeal.Facts] [hInpRefIdeal : Cert.InpRefIdeal.Facts] [hPre_finite_shift : Cert.Pre_finite_shift.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_shift m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)) →
    ∃ (v0 : (c : Dev Cert.InpIdeal.nD) → Buf (Elt Ideal) ((c.tc : Thread Cert.InpIdeal.nD Cert.InpIdeal.τ).loc Cert.InpIdeal.main_v6_0)) (v1 : (c : Dev Cert.InpIdeal.nD) → Buf (Elt Ideal) ((c.tc : Thread Cert.InpIdeal.nD Cert.InpIdeal.τ).loc Cert.InpIdeal.main_v8)) (v2 : (c : Dev Cert.InpIdeal.nD) → Buf (Elt Ideal) ((c.tc : Thread Cert.InpIdeal.nD Cert.InpIdeal.τ).loc Cert.InpIdeal.main_v7)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v6_0) = v0 c
          ∧ r.2.mem ((c.tc : Thread Cert.InpIdeal.nD Cert.InpIdeal.τ).loc Cert.InpIdeal.main_v8) = v1 c
          ∧ r.2.mem ((c.tc : Thread Cert.InpIdeal.nD Cert.InpIdeal.τ).loc Cert.InpIdeal.main_v7) = v2 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v64) = v0 c
          ∧ r.2.mem ((c.tc : Thread Cert.InpRefIdeal.nD Cert.InpRefIdeal.τ).loc Cert.InpRefIdeal.main_v49) = v1 c
          ∧ r.2.mem ((c.tc : Thread Cert.InpRefIdeal.nD Cert.InpRefIdeal.τ).loc Cert.InpRefIdeal.main_v42) = v2 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)
      ∧ m' ((c.tc : Thread Cert.AdamARefIdeal.nD Cert.AdamARefIdeal.τ).loc Cert.AdamARefIdeal.main_arg4) = m ((c.tc : Thread Cert.AdamAIdeal.nD Cert.AdamAIdeal.τ).loc Cert.AdamAIdeal.main_arg4)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)) (v3 : (c : Dev Cert.AdamAIdeal.nD) → Buf (Elt Ideal) ((c.tc : Thread Cert.AdamAIdeal.nD Cert.AdamAIdeal.τ).loc Cert.AdamAIdeal.main_v0_3)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_v0_3) = v3 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3)
          ∧ r.2.mem ((c.tc : Thread Cert.AdamAIdeal.nD Cert.AdamAIdeal.τ).loc Cert.AdamAIdeal.main_arg4) = m ((c.tc : Thread Cert.AdamAIdeal.nD Cert.AdamAIdeal.τ).loc Cert.AdamAIdeal.main_arg4))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v3) = v0 c
          ∧ r.2.mem ((c.tc : Thread Cert.AdamARefIdeal.nD Cert.AdamARefIdeal.τ).loc Cert.AdamARefIdeal.main_v27) = v1 c
          ∧ r.2.mem ((c.tc : Thread Cert.AdamARefIdeal.nD Cert.AdamARefIdeal.τ).loc Cert.AdamARefIdeal.main_v8) = v2 c
          ∧ r.2.mem ((c.tc : Thread Cert.AdamARefIdeal.nD Cert.AdamARefIdeal.τ).loc Cert.AdamARefIdeal.main_v14) = v3 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3)
          ∧ r.2.mem ((c.tc : Thread Cert.AdamARefIdeal.nD Cert.AdamARefIdeal.τ).loc Cert.AdamARefIdeal.main_arg4) = m' ((c.tc : Thread Cert.AdamARefIdeal.nD Cert.AdamARefIdeal.τ).loc Cert.AdamARefIdeal.main_arg4))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)
      ∧ m' ((c.tc : Thread Cert.AdamBRefIdeal.nD Cert.AdamBRefIdeal.τ).loc Cert.AdamBRefIdeal.main_arg4) = m ((c.tc : Thread Cert.AdamBIdeal.nD Cert.AdamBIdeal.τ).loc Cert.AdamBIdeal.main_arg4)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)) (v3 : (c : Dev Cert.AdamBIdeal.nD) → Buf (Elt Ideal) ((c.tc : Thread Cert.AdamBIdeal.nD Cert.AdamBIdeal.τ).loc Cert.AdamBIdeal.main_v0_3)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_v0_3) = v3 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3)
          ∧ r.2.mem ((c.tc : Thread Cert.AdamBIdeal.nD Cert.AdamBIdeal.τ).loc Cert.AdamBIdeal.main_arg4) = m ((c.tc : Thread Cert.AdamBIdeal.nD Cert.AdamBIdeal.τ).loc Cert.AdamBIdeal.main_arg4))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v3) = v0 c
          ∧ r.2.mem ((c.tc : Thread Cert.AdamBRefIdeal.nD Cert.AdamBRefIdeal.τ).loc Cert.AdamBRefIdeal.main_v27) = v1 c
          ∧ r.2.mem ((c.tc : Thread Cert.AdamBRefIdeal.nD Cert.AdamBRefIdeal.τ).loc Cert.AdamBRefIdeal.main_v8) = v2 c
          ∧ r.2.mem ((c.tc : Thread Cert.AdamBRefIdeal.nD Cert.AdamBRefIdeal.τ).loc Cert.AdamBRefIdeal.main_v14) = v3 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3)
          ∧ r.2.mem ((c.tc : Thread Cert.AdamBRefIdeal.nD Cert.AdamBRefIdeal.τ).loc Cert.AdamBRefIdeal.main_arg4) = m' ((c.tc : Thread Cert.AdamBRefIdeal.nD Cert.AdamBRefIdeal.τ).loc Cert.AdamBRefIdeal.main_arg4))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)
      ∧ m' ((c.tc : Thread Cert.AdamCRefIdeal.nD Cert.AdamCRefIdeal.τ).loc Cert.AdamCRefIdeal.main_arg4) = m ((c.tc : Thread Cert.AdamCIdeal.nD Cert.AdamCIdeal.τ).loc Cert.AdamCIdeal.main_arg4)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)) (v3 : (c : Dev Cert.AdamCIdeal.nD) → Buf (Elt Ideal) ((c.tc : Thread Cert.AdamCIdeal.nD Cert.AdamCIdeal.τ).loc Cert.AdamCIdeal.main_v0_3)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_v0_3) = v3 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3)
          ∧ r.2.mem ((c.tc : Thread Cert.AdamCIdeal.nD Cert.AdamCIdeal.τ).loc Cert.AdamCIdeal.main_arg4) = m ((c.tc : Thread Cert.AdamCIdeal.nD Cert.AdamCIdeal.τ).loc Cert.AdamCIdeal.main_arg4))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v3) = v0 c
          ∧ r.2.mem ((c.tc : Thread Cert.AdamCRefIdeal.nD Cert.AdamCRefIdeal.τ).loc Cert.AdamCRefIdeal.main_v27) = v1 c
          ∧ r.2.mem ((c.tc : Thread Cert.AdamCRefIdeal.nD Cert.AdamCRefIdeal.τ).loc Cert.AdamCRefIdeal.main_v8) = v2 c
          ∧ r.2.mem ((c.tc : Thread Cert.AdamCRefIdeal.nD Cert.AdamCRefIdeal.τ).loc Cert.AdamCRefIdeal.main_v14) = v3 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3)
          ∧ r.2.mem ((c.tc : Thread Cert.AdamCRefIdeal.nD Cert.AdamCRefIdeal.τ).loc Cert.AdamCRefIdeal.main_arg4) = m' ((c.tc : Thread Cert.AdamCRefIdeal.nD Cert.AdamCRefIdeal.τ).loc Cert.AdamCRefIdeal.main_arg4))

def preserves_AdamD_AdamDIdeal : Prop :=
  True

def algebraic_AdamDIdeal_AdamDRefIdeal [hAdamDIdeal : Cert.AdamDIdeal.Facts] [hAdamDRefIdeal : Cert.AdamDRefIdeal.Facts] : Prop :=
  ∀ (m : (ℓ : Loc Cert.AdamDIdeal.nD Cert.AdamDIdeal.τ Cert.AdamDIdeal.sig) → Buf (Elt Ideal) ℓ) (g : Dev Cert.AdamDIdeal.nD → PrngReg)
    (m' : (ℓ : Loc Cert.AdamDRefIdeal.nD Cert.AdamDRefIdeal.τ Cert.AdamDRefIdeal.sig) → Buf (Elt Ideal) ℓ) (g' : Dev Cert.AdamDRefIdeal.nD → PrngReg), Pre_AdamDIdeal m →
    (∀ c : Dev Cert.AdamDIdeal.nD,
      m' ((c.tc : Thread Cert.AdamDRefIdeal.nD Cert.AdamDRefIdeal.τ).loc Cert.AdamDRefIdeal.main_arg0) = m ((c.tc : Thread Cert.AdamDIdeal.nD Cert.AdamDIdeal.τ).loc Cert.AdamDIdeal.main_arg0)
      ∧ m' ((c.tc : Thread Cert.AdamDRefIdeal.nD Cert.AdamDRefIdeal.τ).loc Cert.AdamDRefIdeal.main_arg1) = m ((c.tc : Thread Cert.AdamDIdeal.nD Cert.AdamDIdeal.τ).loc Cert.AdamDIdeal.main_arg1)
      ∧ m' ((c.tc : Thread Cert.AdamDRefIdeal.nD Cert.AdamDRefIdeal.τ).loc Cert.AdamDRefIdeal.main_arg2) = m ((c.tc : Thread Cert.AdamDIdeal.nD Cert.AdamDIdeal.τ).loc Cert.AdamDIdeal.main_arg2)
      ∧ m' ((c.tc : Thread Cert.AdamDRefIdeal.nD Cert.AdamDRefIdeal.τ).loc Cert.AdamDRefIdeal.main_arg3) = m ((c.tc : Thread Cert.AdamDIdeal.nD Cert.AdamDIdeal.τ).loc Cert.AdamDIdeal.main_arg3)
      ∧ m' ((c.tc : Thread Cert.AdamDRefIdeal.nD Cert.AdamDRefIdeal.τ).loc Cert.AdamDRefIdeal.main_arg4) = m ((c.tc : Thread Cert.AdamDIdeal.nD Cert.AdamDIdeal.τ).loc Cert.AdamDIdeal.main_arg4)) →
    ∃ (v0 : (c : Dev Cert.AdamDIdeal.nD) → Buf (Elt Ideal) ((c.tc : Thread Cert.AdamDIdeal.nD Cert.AdamDIdeal.τ).loc Cert.AdamDIdeal.main_v0_0)) (v1 : (c : Dev Cert.AdamDIdeal.nD) → Buf (Elt Ideal) ((c.tc : Thread Cert.AdamDIdeal.nD Cert.AdamDIdeal.τ).loc Cert.AdamDIdeal.main_v0_1)) (v2 : (c : Dev Cert.AdamDIdeal.nD) → Buf (Elt Ideal) ((c.tc : Thread Cert.AdamDIdeal.nD Cert.AdamDIdeal.τ).loc Cert.AdamDIdeal.main_v0_2)) (v3 : (c : Dev Cert.AdamDIdeal.nD) → Buf (Elt Ideal) ((c.tc : Thread Cert.AdamDIdeal.nD Cert.AdamDIdeal.τ).loc Cert.AdamDIdeal.main_v0_3)),
      θ_run (Cert.AdamDIdeal.defs (F := Ideal)) (onTc (τ := Cert.AdamDIdeal.τ) (Cert.AdamDIdeal.main (F := Ideal))) ⟨m, fun _ => 0, g⟩ (fun r => ∀ c : Dev Cert.AdamDIdeal.nD,
          r.2.mem ((c.tc : Thread Cert.AdamDIdeal.nD Cert.AdamDIdeal.τ).loc Cert.AdamDIdeal.main_v0_0) = v0 c
          ∧ r.2.mem ((c.tc : Thread Cert.AdamDIdeal.nD Cert.AdamDIdeal.τ).loc Cert.AdamDIdeal.main_v0_1) = v1 c
          ∧ r.2.mem ((c.tc : Thread Cert.AdamDIdeal.nD Cert.AdamDIdeal.τ).loc Cert.AdamDIdeal.main_v0_2) = v2 c
          ∧ r.2.mem ((c.tc : Thread Cert.AdamDIdeal.nD Cert.AdamDIdeal.τ).loc Cert.AdamDIdeal.main_v0_3) = v3 c
          ∧ r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
          ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
          ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
          ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3)
          ∧ r.2.mem ((c.tc : Thread Cert.AdamDIdeal.nD Cert.AdamDIdeal.τ).loc Cert.AdamDIdeal.main_arg4) = m ((c.tc : Thread Cert.AdamDIdeal.nD Cert.AdamDIdeal.τ).loc Cert.AdamDIdeal.main_arg4))
      ∧ θ_run (Cert.AdamDRefIdeal.defs (F := Ideal)) (onTc (τ := Cert.AdamDRefIdeal.τ) (Cert.AdamDRefIdeal.main (F := Ideal))) ⟨m', fun _ => 0, g'⟩ (fun r => ∀ c : Dev Cert.AdamDRefIdeal.nD,
          r.2.mem ((c.tc : Thread Cert.AdamDRefIdeal.nD Cert.AdamDRefIdeal.τ).loc Cert.AdamDRefIdeal.main_v3) = v0 c
          ∧ r.2.mem ((c.tc : Thread Cert.AdamDRefIdeal.nD Cert.AdamDRefIdeal.τ).loc Cert.AdamDRefIdeal.main_v27) = v1 c
          ∧ r.2.mem ((c.tc : Thread Cert.AdamDRefIdeal.nD Cert.AdamDRefIdeal.τ).loc Cert.AdamDRefIdeal.main_v8) = v2 c
          ∧ r.2.mem ((c.tc : Thread Cert.AdamDRefIdeal.nD Cert.AdamDRefIdeal.τ).loc Cert.AdamDRefIdeal.main_v14) = v3 c
          ∧ r.2.mem ((c.tc : Thread Cert.AdamDRefIdeal.nD Cert.AdamDRefIdeal.τ).loc Cert.AdamDRefIdeal.main_arg0) = m' ((c.tc : Thread Cert.AdamDRefIdeal.nD Cert.AdamDRefIdeal.τ).loc Cert.AdamDRefIdeal.main_arg0)
          ∧ r.2.mem ((c.tc : Thread Cert.AdamDRefIdeal.nD Cert.AdamDRefIdeal.τ).loc Cert.AdamDRefIdeal.main_arg1) = m' ((c.tc : Thread Cert.AdamDRefIdeal.nD Cert.AdamDRefIdeal.τ).loc Cert.AdamDRefIdeal.main_arg1)
          ∧ r.2.mem ((c.tc : Thread Cert.AdamDRefIdeal.nD Cert.AdamDRefIdeal.τ).loc Cert.AdamDRefIdeal.main_arg2) = m' ((c.tc : Thread Cert.AdamDRefIdeal.nD Cert.AdamDRefIdeal.τ).loc Cert.AdamDRefIdeal.main_arg2)
          ∧ r.2.mem ((c.tc : Thread Cert.AdamDRefIdeal.nD Cert.AdamDRefIdeal.τ).loc Cert.AdamDRefIdeal.main_arg3) = m' ((c.tc : Thread Cert.AdamDRefIdeal.nD Cert.AdamDRefIdeal.τ).loc Cert.AdamDRefIdeal.main_arg3)
          ∧ r.2.mem ((c.tc : Thread Cert.AdamDRefIdeal.nD Cert.AdamDRefIdeal.τ).loc Cert.AdamDRefIdeal.main_arg4) = m' ((c.tc : Thread Cert.AdamDRefIdeal.nD Cert.AdamDRefIdeal.τ).loc Cert.AdamDRefIdeal.main_arg4))

def preserves_SmallA_SmallAIdeal : Prop :=
  True

def algebraic_SmallAIdeal_SmallARefIdeal [hSmallAIdeal : Cert.SmallAIdeal.Facts] [hSmallARefIdeal : Cert.SmallARefIdeal.Facts] : Prop :=
  ∀ (m : (ℓ : Loc Cert.SmallAIdeal.nD Cert.SmallAIdeal.τ Cert.SmallAIdeal.sig) → Buf (Elt Ideal) ℓ) (g : Dev Cert.SmallAIdeal.nD → PrngReg)
    (m' : (ℓ : Loc Cert.SmallARefIdeal.nD Cert.SmallARefIdeal.τ Cert.SmallARefIdeal.sig) → Buf (Elt Ideal) ℓ) (g' : Dev Cert.SmallARefIdeal.nD → PrngReg), Pre_SmallAIdeal m →
    (∀ c : Dev Cert.SmallAIdeal.nD,
      m' ((c.tc : Thread Cert.SmallARefIdeal.nD Cert.SmallARefIdeal.τ).loc Cert.SmallARefIdeal.main_arg0) = m ((c.tc : Thread Cert.SmallAIdeal.nD Cert.SmallAIdeal.τ).loc Cert.SmallAIdeal.main_arg0)
      ∧ m' ((c.tc : Thread Cert.SmallARefIdeal.nD Cert.SmallARefIdeal.τ).loc Cert.SmallARefIdeal.main_arg1) = m ((c.tc : Thread Cert.SmallAIdeal.nD Cert.SmallAIdeal.τ).loc Cert.SmallAIdeal.main_arg1)
      ∧ m' ((c.tc : Thread Cert.SmallARefIdeal.nD Cert.SmallARefIdeal.τ).loc Cert.SmallARefIdeal.main_arg2) = m ((c.tc : Thread Cert.SmallAIdeal.nD Cert.SmallAIdeal.τ).loc Cert.SmallAIdeal.main_arg2)
      ∧ m' ((c.tc : Thread Cert.SmallARefIdeal.nD Cert.SmallARefIdeal.τ).loc Cert.SmallARefIdeal.main_arg3) = m ((c.tc : Thread Cert.SmallAIdeal.nD Cert.SmallAIdeal.τ).loc Cert.SmallAIdeal.main_arg3)
      ∧ m' ((c.tc : Thread Cert.SmallARefIdeal.nD Cert.SmallARefIdeal.τ).loc Cert.SmallARefIdeal.main_arg4) = m ((c.tc : Thread Cert.SmallAIdeal.nD Cert.SmallAIdeal.τ).loc Cert.SmallAIdeal.main_arg4)
      ∧ m' ((c.tc : Thread Cert.SmallARefIdeal.nD Cert.SmallARefIdeal.τ).loc Cert.SmallARefIdeal.main_arg5) = m ((c.tc : Thread Cert.SmallAIdeal.nD Cert.SmallAIdeal.τ).loc Cert.SmallAIdeal.main_arg5)
      ∧ m' ((c.tc : Thread Cert.SmallARefIdeal.nD Cert.SmallARefIdeal.τ).loc Cert.SmallARefIdeal.main_arg6) = m ((c.tc : Thread Cert.SmallAIdeal.nD Cert.SmallAIdeal.τ).loc Cert.SmallAIdeal.main_arg6)
      ∧ m' ((c.tc : Thread Cert.SmallARefIdeal.nD Cert.SmallARefIdeal.τ).loc Cert.SmallARefIdeal.main_arg7) = m ((c.tc : Thread Cert.SmallAIdeal.nD Cert.SmallAIdeal.τ).loc Cert.SmallAIdeal.main_arg7)
      ∧ m' ((c.tc : Thread Cert.SmallARefIdeal.nD Cert.SmallARefIdeal.τ).loc Cert.SmallARefIdeal.main_arg8) = m ((c.tc : Thread Cert.SmallAIdeal.nD Cert.SmallAIdeal.τ).loc Cert.SmallAIdeal.main_arg8)
      ∧ m' ((c.tc : Thread Cert.SmallARefIdeal.nD Cert.SmallARefIdeal.τ).loc Cert.SmallARefIdeal.main_arg9) = m ((c.tc : Thread Cert.SmallAIdeal.nD Cert.SmallAIdeal.τ).loc Cert.SmallAIdeal.main_arg9)) →
    ∃ (v0 : (c : Dev Cert.SmallAIdeal.nD) → Buf (Elt Ideal) ((c.tc : Thread Cert.SmallAIdeal.nD Cert.SmallAIdeal.τ).loc Cert.SmallAIdeal.main_v0_0)) (v1 : (c : Dev Cert.SmallAIdeal.nD) → Buf (Elt Ideal) ((c.tc : Thread Cert.SmallAIdeal.nD Cert.SmallAIdeal.τ).loc Cert.SmallAIdeal.main_v0_1)) (v2 : (c : Dev Cert.SmallAIdeal.nD) → Buf (Elt Ideal) ((c.tc : Thread Cert.SmallAIdeal.nD Cert.SmallAIdeal.τ).loc Cert.SmallAIdeal.main_v0_2)) (v3 : (c : Dev Cert.SmallAIdeal.nD) → Buf (Elt Ideal) ((c.tc : Thread Cert.SmallAIdeal.nD Cert.SmallAIdeal.τ).loc Cert.SmallAIdeal.main_v0_3)) (v4 : (c : Dev Cert.SmallAIdeal.nD) → Buf (Elt Ideal) ((c.tc : Thread Cert.SmallAIdeal.nD Cert.SmallAIdeal.τ).loc Cert.SmallAIdeal.main_v0_4)) (v5 : (c : Dev Cert.SmallAIdeal.nD) → Buf (Elt Ideal) ((c.tc : Thread Cert.SmallAIdeal.nD Cert.SmallAIdeal.τ).loc Cert.SmallAIdeal.main_v0_5)) (v6 : (c : Dev Cert.SmallAIdeal.nD) → Buf (Elt Ideal) ((c.tc : Thread Cert.SmallAIdeal.nD Cert.SmallAIdeal.τ).loc Cert.SmallAIdeal.main_v0_6)) (v7 : (c : Dev Cert.SmallAIdeal.nD) → Buf (Elt Ideal) ((c.tc : Thread Cert.SmallAIdeal.nD Cert.SmallAIdeal.τ).loc Cert.SmallAIdeal.main_v0_7)) (v8 : (c : Dev Cert.SmallAIdeal.nD) → Buf (Elt Ideal) ((c.tc : Thread Cert.SmallAIdeal.nD Cert.SmallAIdeal.τ).loc Cert.SmallAIdeal.main_v0_8)) (v9 : (c : Dev Cert.SmallAIdeal.nD) → Buf (Elt Ideal) ((c.tc : Thread Cert.SmallAIdeal.nD Cert.SmallAIdeal.τ).loc Cert.SmallAIdeal.main_v0_9)) (v10 : (c : Dev Cert.SmallAIdeal.nD) → Buf (Elt Ideal) ((c.tc : Thread Cert.SmallAIdeal.nD Cert.SmallAIdeal.τ).loc Cert.SmallAIdeal.main_v0_10)) (v11 : (c : Dev Cert.SmallAIdeal.nD) → Buf (Elt Ideal) ((c.tc : Thread Cert.SmallAIdeal.nD Cert.SmallAIdeal.τ).loc Cert.SmallAIdeal.main_v0_11)),
      θ_run (Cert.SmallAIdeal.defs (F := Ideal)) (onTc (τ := Cert.SmallAIdeal.τ) (Cert.SmallAIdeal.main (F := Ideal))) ⟨m, fun _ => 0, g⟩ (fun r => ∀ c : Dev Cert.SmallAIdeal.nD,
          r.2.mem ((c.tc : Thread Cert.SmallAIdeal.nD Cert.SmallAIdeal.τ).loc Cert.SmallAIdeal.main_v0_0) = v0 c
          ∧ r.2.mem ((c.tc : Thread Cert.SmallAIdeal.nD Cert.SmallAIdeal.τ).loc Cert.SmallAIdeal.main_v0_1) = v1 c
          ∧ r.2.mem ((c.tc : Thread Cert.SmallAIdeal.nD Cert.SmallAIdeal.τ).loc Cert.SmallAIdeal.main_v0_2) = v2 c
          ∧ r.2.mem ((c.tc : Thread Cert.SmallAIdeal.nD Cert.SmallAIdeal.τ).loc Cert.SmallAIdeal.main_v0_3) = v3 c
          ∧ r.2.mem ((c.tc : Thread Cert.SmallAIdeal.nD Cert.SmallAIdeal.τ).loc Cert.SmallAIdeal.main_v0_4) = v4 c
          ∧ r.2.mem ((c.tc : Thread Cert.SmallAIdeal.nD Cert.SmallAIdeal.τ).loc Cert.SmallAIdeal.main_v0_5) = v5 c
          ∧ r.2.mem ((c.tc : Thread Cert.SmallAIdeal.nD Cert.SmallAIdeal.τ).loc Cert.SmallAIdeal.main_v0_6) = v6 c
          ∧ r.2.mem ((c.tc : Thread Cert.SmallAIdeal.nD Cert.SmallAIdeal.τ).loc Cert.SmallAIdeal.main_v0_7) = v7 c
          ∧ r.2.mem ((c.tc : Thread Cert.SmallAIdeal.nD Cert.SmallAIdeal.τ).loc Cert.SmallAIdeal.main_v0_8) = v8 c
          ∧ r.2.mem ((c.tc : Thread Cert.SmallAIdeal.nD Cert.SmallAIdeal.τ).loc Cert.SmallAIdeal.main_v0_9) = v9 c
          ∧ r.2.mem ((c.tc : Thread Cert.SmallAIdeal.nD Cert.SmallAIdeal.τ).loc Cert.SmallAIdeal.main_v0_10) = v10 c
          ∧ r.2.mem ((c.tc : Thread Cert.SmallAIdeal.nD Cert.SmallAIdeal.τ).loc Cert.SmallAIdeal.main_v0_11) = v11 c
          ∧ r.2.mem ((c.tc : Thread Cert.SmallAIdeal.nD Cert.SmallAIdeal.τ).loc Cert.SmallAIdeal.main_arg0) = m ((c.tc : Thread Cert.SmallAIdeal.nD Cert.SmallAIdeal.τ).loc Cert.SmallAIdeal.main_arg0)
          ∧ r.2.mem ((c.tc : Thread Cert.SmallAIdeal.nD Cert.SmallAIdeal.τ).loc Cert.SmallAIdeal.main_arg1) = m ((c.tc : Thread Cert.SmallAIdeal.nD Cert.SmallAIdeal.τ).loc Cert.SmallAIdeal.main_arg1)
          ∧ r.2.mem ((c.tc : Thread Cert.SmallAIdeal.nD Cert.SmallAIdeal.τ).loc Cert.SmallAIdeal.main_arg2) = m ((c.tc : Thread Cert.SmallAIdeal.nD Cert.SmallAIdeal.τ).loc Cert.SmallAIdeal.main_arg2)
          ∧ r.2.mem ((c.tc : Thread Cert.SmallAIdeal.nD Cert.SmallAIdeal.τ).loc Cert.SmallAIdeal.main_arg3) = m ((c.tc : Thread Cert.SmallAIdeal.nD Cert.SmallAIdeal.τ).loc Cert.SmallAIdeal.main_arg3)
          ∧ r.2.mem ((c.tc : Thread Cert.SmallAIdeal.nD Cert.SmallAIdeal.τ).loc Cert.SmallAIdeal.main_arg4) = m ((c.tc : Thread Cert.SmallAIdeal.nD Cert.SmallAIdeal.τ).loc Cert.SmallAIdeal.main_arg4)
          ∧ r.2.mem ((c.tc : Thread Cert.SmallAIdeal.nD Cert.SmallAIdeal.τ).loc Cert.SmallAIdeal.main_arg5) = m ((c.tc : Thread Cert.SmallAIdeal.nD Cert.SmallAIdeal.τ).loc Cert.SmallAIdeal.main_arg5)
          ∧ r.2.mem ((c.tc : Thread Cert.SmallAIdeal.nD Cert.SmallAIdeal.τ).loc Cert.SmallAIdeal.main_arg6) = m ((c.tc : Thread Cert.SmallAIdeal.nD Cert.SmallAIdeal.τ).loc Cert.SmallAIdeal.main_arg6)
          ∧ r.2.mem ((c.tc : Thread Cert.SmallAIdeal.nD Cert.SmallAIdeal.τ).loc Cert.SmallAIdeal.main_arg7) = m ((c.tc : Thread Cert.SmallAIdeal.nD Cert.SmallAIdeal.τ).loc Cert.SmallAIdeal.main_arg7)
          ∧ r.2.mem ((c.tc : Thread Cert.SmallAIdeal.nD Cert.SmallAIdeal.τ).loc Cert.SmallAIdeal.main_arg8) = m ((c.tc : Thread Cert.SmallAIdeal.nD Cert.SmallAIdeal.τ).loc Cert.SmallAIdeal.main_arg8)
          ∧ r.2.mem ((c.tc : Thread Cert.SmallAIdeal.nD Cert.SmallAIdeal.τ).loc Cert.SmallAIdeal.main_arg9) = m ((c.tc : Thread Cert.SmallAIdeal.nD Cert.SmallAIdeal.τ).loc Cert.SmallAIdeal.main_arg9))
      ∧ θ_run (Cert.SmallARefIdeal.defs (F := Ideal)) (onTc (τ := Cert.SmallARefIdeal.τ) (Cert.SmallARefIdeal.main (F := Ideal))) ⟨m', fun _ => 0, g'⟩ (fun r => ∀ c : Dev Cert.SmallARefIdeal.nD,
          r.2.mem ((c.tc : Thread Cert.SmallARefIdeal.nD Cert.SmallARefIdeal.τ).loc Cert.SmallARefIdeal.main_v2) = v0 c
          ∧ r.2.mem ((c.tc : Thread Cert.SmallARefIdeal.nD Cert.SmallARefIdeal.τ).loc Cert.SmallARefIdeal.main_v26) = v1 c
          ∧ r.2.mem ((c.tc : Thread Cert.SmallARefIdeal.nD Cert.SmallARefIdeal.τ).loc Cert.SmallARefIdeal.main_v7) = v2 c
          ∧ r.2.mem ((c.tc : Thread Cert.SmallARefIdeal.nD Cert.SmallARefIdeal.τ).loc Cert.SmallARefIdeal.main_v13) = v3 c
          ∧ r.2.mem ((c.tc : Thread Cert.SmallARefIdeal.nD Cert.SmallARefIdeal.τ).loc Cert.SmallARefIdeal.main_v27) = v4 c
          ∧ r.2.mem ((c.tc : Thread Cert.SmallARefIdeal.nD Cert.SmallARefIdeal.τ).loc Cert.SmallARefIdeal.main_v51) = v5 c
          ∧ r.2.mem ((c.tc : Thread Cert.SmallARefIdeal.nD Cert.SmallARefIdeal.τ).loc Cert.SmallARefIdeal.main_v32) = v6 c
          ∧ r.2.mem ((c.tc : Thread Cert.SmallARefIdeal.nD Cert.SmallARefIdeal.τ).loc Cert.SmallARefIdeal.main_v38) = v7 c
          ∧ r.2.mem ((c.tc : Thread Cert.SmallARefIdeal.nD Cert.SmallARefIdeal.τ).loc Cert.SmallARefIdeal.main_v52) = v8 c
          ∧ r.2.mem ((c.tc : Thread Cert.SmallARefIdeal.nD Cert.SmallARefIdeal.τ).loc Cert.SmallARefIdeal.main_v76) = v9 c
          ∧ r.2.mem ((c.tc : Thread Cert.SmallARefIdeal.nD Cert.SmallARefIdeal.τ).loc Cert.SmallARefIdeal.main_v57) = v10 c
          ∧ r.2.mem ((c.tc : Thread Cert.SmallARefIdeal.nD Cert.SmallARefIdeal.τ).loc Cert.SmallARefIdeal.main_v63) = v11 c
          ∧ r.2.mem ((c.tc : Thread Cert.SmallARefIdeal.nD Cert.SmallARefIdeal.τ).loc Cert.SmallARefIdeal.main_arg0) = m' ((c.tc : Thread Cert.SmallARefIdeal.nD Cert.SmallARefIdeal.τ).loc Cert.SmallARefIdeal.main_arg0)
          ∧ r.2.mem ((c.tc : Thread Cert.SmallARefIdeal.nD Cert.SmallARefIdeal.τ).loc Cert.SmallARefIdeal.main_arg1) = m' ((c.tc : Thread Cert.SmallARefIdeal.nD Cert.SmallARefIdeal.τ).loc Cert.SmallARefIdeal.main_arg1)
          ∧ r.2.mem ((c.tc : Thread Cert.SmallARefIdeal.nD Cert.SmallARefIdeal.τ).loc Cert.SmallARefIdeal.main_arg2) = m' ((c.tc : Thread Cert.SmallARefIdeal.nD Cert.SmallARefIdeal.τ).loc Cert.SmallARefIdeal.main_arg2)
          ∧ r.2.mem ((c.tc : Thread Cert.SmallARefIdeal.nD Cert.SmallARefIdeal.τ).loc Cert.SmallARefIdeal.main_arg3) = m' ((c.tc : Thread Cert.SmallARefIdeal.nD Cert.SmallARefIdeal.τ).loc Cert.SmallARefIdeal.main_arg3)
          ∧ r.2.mem ((c.tc : Thread Cert.SmallARefIdeal.nD Cert.SmallARefIdeal.τ).loc Cert.SmallARefIdeal.main_arg4) = m' ((c.tc : Thread Cert.SmallARefIdeal.nD Cert.SmallARefIdeal.τ).loc Cert.SmallARefIdeal.main_arg4)
          ∧ r.2.mem ((c.tc : Thread Cert.SmallARefIdeal.nD Cert.SmallARefIdeal.τ).loc Cert.SmallARefIdeal.main_arg5) = m' ((c.tc : Thread Cert.SmallARefIdeal.nD Cert.SmallARefIdeal.τ).loc Cert.SmallARefIdeal.main_arg5)
          ∧ r.2.mem ((c.tc : Thread Cert.SmallARefIdeal.nD Cert.SmallARefIdeal.τ).loc Cert.SmallARefIdeal.main_arg6) = m' ((c.tc : Thread Cert.SmallARefIdeal.nD Cert.SmallARefIdeal.τ).loc Cert.SmallARefIdeal.main_arg6)
          ∧ r.2.mem ((c.tc : Thread Cert.SmallARefIdeal.nD Cert.SmallARefIdeal.τ).loc Cert.SmallARefIdeal.main_arg7) = m' ((c.tc : Thread Cert.SmallARefIdeal.nD Cert.SmallARefIdeal.τ).loc Cert.SmallARefIdeal.main_arg7)
          ∧ r.2.mem ((c.tc : Thread Cert.SmallARefIdeal.nD Cert.SmallARefIdeal.τ).loc Cert.SmallARefIdeal.main_arg8) = m' ((c.tc : Thread Cert.SmallARefIdeal.nD Cert.SmallARefIdeal.τ).loc Cert.SmallARefIdeal.main_arg8)
          ∧ r.2.mem ((c.tc : Thread Cert.SmallARefIdeal.nD Cert.SmallARefIdeal.τ).loc Cert.SmallARefIdeal.main_arg9) = m' ((c.tc : Thread Cert.SmallARefIdeal.nD Cert.SmallARefIdeal.τ).loc Cert.SmallARefIdeal.main_arg9))

def preserves_SmallB_SmallBIdeal : Prop :=
  True

def algebraic_SmallBIdeal_SmallBRefIdeal [hSmallBIdeal : Cert.SmallBIdeal.Facts] [hSmallBRefIdeal : Cert.SmallBRefIdeal.Facts] : Prop :=
  ∀ (m : (ℓ : Loc Cert.SmallBIdeal.nD Cert.SmallBIdeal.τ Cert.SmallBIdeal.sig) → Buf (Elt Ideal) ℓ) (g : Dev Cert.SmallBIdeal.nD → PrngReg)
    (m' : (ℓ : Loc Cert.SmallBRefIdeal.nD Cert.SmallBRefIdeal.τ Cert.SmallBRefIdeal.sig) → Buf (Elt Ideal) ℓ) (g' : Dev Cert.SmallBRefIdeal.nD → PrngReg), Pre_SmallBIdeal m →
    (∀ c : Dev Cert.SmallBIdeal.nD,
      m' ((c.tc : Thread Cert.SmallBRefIdeal.nD Cert.SmallBRefIdeal.τ).loc Cert.SmallBRefIdeal.main_arg0) = m ((c.tc : Thread Cert.SmallBIdeal.nD Cert.SmallBIdeal.τ).loc Cert.SmallBIdeal.main_arg0)
      ∧ m' ((c.tc : Thread Cert.SmallBRefIdeal.nD Cert.SmallBRefIdeal.τ).loc Cert.SmallBRefIdeal.main_arg1) = m ((c.tc : Thread Cert.SmallBIdeal.nD Cert.SmallBIdeal.τ).loc Cert.SmallBIdeal.main_arg1)
      ∧ m' ((c.tc : Thread Cert.SmallBRefIdeal.nD Cert.SmallBRefIdeal.τ).loc Cert.SmallBRefIdeal.main_arg2) = m ((c.tc : Thread Cert.SmallBIdeal.nD Cert.SmallBIdeal.τ).loc Cert.SmallBIdeal.main_arg2)
      ∧ m' ((c.tc : Thread Cert.SmallBRefIdeal.nD Cert.SmallBRefIdeal.τ).loc Cert.SmallBRefIdeal.main_arg3) = m ((c.tc : Thread Cert.SmallBIdeal.nD Cert.SmallBIdeal.τ).loc Cert.SmallBIdeal.main_arg3)
      ∧ m' ((c.tc : Thread Cert.SmallBRefIdeal.nD Cert.SmallBRefIdeal.τ).loc Cert.SmallBRefIdeal.main_arg4) = m ((c.tc : Thread Cert.SmallBIdeal.nD Cert.SmallBIdeal.τ).loc Cert.SmallBIdeal.main_arg4)
      ∧ m' ((c.tc : Thread Cert.SmallBRefIdeal.nD Cert.SmallBRefIdeal.τ).loc Cert.SmallBRefIdeal.main_arg5) = m ((c.tc : Thread Cert.SmallBIdeal.nD Cert.SmallBIdeal.τ).loc Cert.SmallBIdeal.main_arg5)
      ∧ m' ((c.tc : Thread Cert.SmallBRefIdeal.nD Cert.SmallBRefIdeal.τ).loc Cert.SmallBRefIdeal.main_arg6) = m ((c.tc : Thread Cert.SmallBIdeal.nD Cert.SmallBIdeal.τ).loc Cert.SmallBIdeal.main_arg6)
      ∧ m' ((c.tc : Thread Cert.SmallBRefIdeal.nD Cert.SmallBRefIdeal.τ).loc Cert.SmallBRefIdeal.main_arg7) = m ((c.tc : Thread Cert.SmallBIdeal.nD Cert.SmallBIdeal.τ).loc Cert.SmallBIdeal.main_arg7)
      ∧ m' ((c.tc : Thread Cert.SmallBRefIdeal.nD Cert.SmallBRefIdeal.τ).loc Cert.SmallBRefIdeal.main_arg8) = m ((c.tc : Thread Cert.SmallBIdeal.nD Cert.SmallBIdeal.τ).loc Cert.SmallBIdeal.main_arg8)
      ∧ m' ((c.tc : Thread Cert.SmallBRefIdeal.nD Cert.SmallBRefIdeal.τ).loc Cert.SmallBRefIdeal.main_arg9) = m ((c.tc : Thread Cert.SmallBIdeal.nD Cert.SmallBIdeal.τ).loc Cert.SmallBIdeal.main_arg9)) →
    ∃ (v0 : (c : Dev Cert.SmallBIdeal.nD) → Buf (Elt Ideal) ((c.tc : Thread Cert.SmallBIdeal.nD Cert.SmallBIdeal.τ).loc Cert.SmallBIdeal.main_v0_0)) (v1 : (c : Dev Cert.SmallBIdeal.nD) → Buf (Elt Ideal) ((c.tc : Thread Cert.SmallBIdeal.nD Cert.SmallBIdeal.τ).loc Cert.SmallBIdeal.main_v0_1)) (v2 : (c : Dev Cert.SmallBIdeal.nD) → Buf (Elt Ideal) ((c.tc : Thread Cert.SmallBIdeal.nD Cert.SmallBIdeal.τ).loc Cert.SmallBIdeal.main_v0_2)) (v3 : (c : Dev Cert.SmallBIdeal.nD) → Buf (Elt Ideal) ((c.tc : Thread Cert.SmallBIdeal.nD Cert.SmallBIdeal.τ).loc Cert.SmallBIdeal.main_v0_3)) (v4 : (c : Dev Cert.SmallBIdeal.nD) → Buf (Elt Ideal) ((c.tc : Thread Cert.SmallBIdeal.nD Cert.SmallBIdeal.τ).loc Cert.SmallBIdeal.main_v0_4)) (v5 : (c : Dev Cert.SmallBIdeal.nD) → Buf (Elt Ideal) ((c.tc : Thread Cert.SmallBIdeal.nD Cert.SmallBIdeal.τ).loc Cert.SmallBIdeal.main_v0_5)) (v6 : (c : Dev Cert.SmallBIdeal.nD) → Buf (Elt Ideal) ((c.tc : Thread Cert.SmallBIdeal.nD Cert.SmallBIdeal.τ).loc Cert.SmallBIdeal.main_v0_6)) (v7 : (c : Dev Cert.SmallBIdeal.nD) → Buf (Elt Ideal) ((c.tc : Thread Cert.SmallBIdeal.nD Cert.SmallBIdeal.τ).loc Cert.SmallBIdeal.main_v0_7)) (v8 : (c : Dev Cert.SmallBIdeal.nD) → Buf (Elt Ideal) ((c.tc : Thread Cert.SmallBIdeal.nD Cert.SmallBIdeal.τ).loc Cert.SmallBIdeal.main_v0_8)) (v9 : (c : Dev Cert.SmallBIdeal.nD) → Buf (Elt Ideal) ((c.tc : Thread Cert.SmallBIdeal.nD Cert.SmallBIdeal.τ).loc Cert.SmallBIdeal.main_v0_9)) (v10 : (c : Dev Cert.SmallBIdeal.nD) → Buf (Elt Ideal) ((c.tc : Thread Cert.SmallBIdeal.nD Cert.SmallBIdeal.τ).loc Cert.SmallBIdeal.main_v0_10)) (v11 : (c : Dev Cert.SmallBIdeal.nD) → Buf (Elt Ideal) ((c.tc : Thread Cert.SmallBIdeal.nD Cert.SmallBIdeal.τ).loc Cert.SmallBIdeal.main_v0_11)),
      θ_run (Cert.SmallBIdeal.defs (F := Ideal)) (onTc (τ := Cert.SmallBIdeal.τ) (Cert.SmallBIdeal.main (F := Ideal))) ⟨m, fun _ => 0, g⟩ (fun r => ∀ c : Dev Cert.SmallBIdeal.nD,
          r.2.mem ((c.tc : Thread Cert.SmallBIdeal.nD Cert.SmallBIdeal.τ).loc Cert.SmallBIdeal.main_v0_0) = v0 c
          ∧ r.2.mem ((c.tc : Thread Cert.SmallBIdeal.nD Cert.SmallBIdeal.τ).loc Cert.SmallBIdeal.main_v0_1) = v1 c
          ∧ r.2.mem ((c.tc : Thread Cert.SmallBIdeal.nD Cert.SmallBIdeal.τ).loc Cert.SmallBIdeal.main_v0_2) = v2 c
          ∧ r.2.mem ((c.tc : Thread Cert.SmallBIdeal.nD Cert.SmallBIdeal.τ).loc Cert.SmallBIdeal.main_v0_3) = v3 c
          ∧ r.2.mem ((c.tc : Thread Cert.SmallBIdeal.nD Cert.SmallBIdeal.τ).loc Cert.SmallBIdeal.main_v0_4) = v4 c
          ∧ r.2.mem ((c.tc : Thread Cert.SmallBIdeal.nD Cert.SmallBIdeal.τ).loc Cert.SmallBIdeal.main_v0_5) = v5 c
          ∧ r.2.mem ((c.tc : Thread Cert.SmallBIdeal.nD Cert.SmallBIdeal.τ).loc Cert.SmallBIdeal.main_v0_6) = v6 c
          ∧ r.2.mem ((c.tc : Thread Cert.SmallBIdeal.nD Cert.SmallBIdeal.τ).loc Cert.SmallBIdeal.main_v0_7) = v7 c
          ∧ r.2.mem ((c.tc : Thread Cert.SmallBIdeal.nD Cert.SmallBIdeal.τ).loc Cert.SmallBIdeal.main_v0_8) = v8 c
          ∧ r.2.mem ((c.tc : Thread Cert.SmallBIdeal.nD Cert.SmallBIdeal.τ).loc Cert.SmallBIdeal.main_v0_9) = v9 c
          ∧ r.2.mem ((c.tc : Thread Cert.SmallBIdeal.nD Cert.SmallBIdeal.τ).loc Cert.SmallBIdeal.main_v0_10) = v10 c
          ∧ r.2.mem ((c.tc : Thread Cert.SmallBIdeal.nD Cert.SmallBIdeal.τ).loc Cert.SmallBIdeal.main_v0_11) = v11 c
          ∧ r.2.mem ((c.tc : Thread Cert.SmallBIdeal.nD Cert.SmallBIdeal.τ).loc Cert.SmallBIdeal.main_arg0) = m ((c.tc : Thread Cert.SmallBIdeal.nD Cert.SmallBIdeal.τ).loc Cert.SmallBIdeal.main_arg0)
          ∧ r.2.mem ((c.tc : Thread Cert.SmallBIdeal.nD Cert.SmallBIdeal.τ).loc Cert.SmallBIdeal.main_arg1) = m ((c.tc : Thread Cert.SmallBIdeal.nD Cert.SmallBIdeal.τ).loc Cert.SmallBIdeal.main_arg1)
          ∧ r.2.mem ((c.tc : Thread Cert.SmallBIdeal.nD Cert.SmallBIdeal.τ).loc Cert.SmallBIdeal.main_arg2) = m ((c.tc : Thread Cert.SmallBIdeal.nD Cert.SmallBIdeal.τ).loc Cert.SmallBIdeal.main_arg2)
          ∧ r.2.mem ((c.tc : Thread Cert.SmallBIdeal.nD Cert.SmallBIdeal.τ).loc Cert.SmallBIdeal.main_arg3) = m ((c.tc : Thread Cert.SmallBIdeal.nD Cert.SmallBIdeal.τ).loc Cert.SmallBIdeal.main_arg3)
          ∧ r.2.mem ((c.tc : Thread Cert.SmallBIdeal.nD Cert.SmallBIdeal.τ).loc Cert.SmallBIdeal.main_arg4) = m ((c.tc : Thread Cert.SmallBIdeal.nD Cert.SmallBIdeal.τ).loc Cert.SmallBIdeal.main_arg4)
          ∧ r.2.mem ((c.tc : Thread Cert.SmallBIdeal.nD Cert.SmallBIdeal.τ).loc Cert.SmallBIdeal.main_arg5) = m ((c.tc : Thread Cert.SmallBIdeal.nD Cert.SmallBIdeal.τ).loc Cert.SmallBIdeal.main_arg5)
          ∧ r.2.mem ((c.tc : Thread Cert.SmallBIdeal.nD Cert.SmallBIdeal.τ).loc Cert.SmallBIdeal.main_arg6) = m ((c.tc : Thread Cert.SmallBIdeal.nD Cert.SmallBIdeal.τ).loc Cert.SmallBIdeal.main_arg6)
          ∧ r.2.mem ((c.tc : Thread Cert.SmallBIdeal.nD Cert.SmallBIdeal.τ).loc Cert.SmallBIdeal.main_arg7) = m ((c.tc : Thread Cert.SmallBIdeal.nD Cert.SmallBIdeal.τ).loc Cert.SmallBIdeal.main_arg7)
          ∧ r.2.mem ((c.tc : Thread Cert.SmallBIdeal.nD Cert.SmallBIdeal.τ).loc Cert.SmallBIdeal.main_arg8) = m ((c.tc : Thread Cert.SmallBIdeal.nD Cert.SmallBIdeal.τ).loc Cert.SmallBIdeal.main_arg8)
          ∧ r.2.mem ((c.tc : Thread Cert.SmallBIdeal.nD Cert.SmallBIdeal.τ).loc Cert.SmallBIdeal.main_arg9) = m ((c.tc : Thread Cert.SmallBIdeal.nD Cert.SmallBIdeal.τ).loc Cert.SmallBIdeal.main_arg9))
      ∧ θ_run (Cert.SmallBRefIdeal.defs (F := Ideal)) (onTc (τ := Cert.SmallBRefIdeal.τ) (Cert.SmallBRefIdeal.main (F := Ideal))) ⟨m', fun _ => 0, g'⟩ (fun r => ∀ c : Dev Cert.SmallBRefIdeal.nD,
          r.2.mem ((c.tc : Thread Cert.SmallBRefIdeal.nD Cert.SmallBRefIdeal.τ).loc Cert.SmallBRefIdeal.main_v2) = v0 c
          ∧ r.2.mem ((c.tc : Thread Cert.SmallBRefIdeal.nD Cert.SmallBRefIdeal.τ).loc Cert.SmallBRefIdeal.main_v26) = v1 c
          ∧ r.2.mem ((c.tc : Thread Cert.SmallBRefIdeal.nD Cert.SmallBRefIdeal.τ).loc Cert.SmallBRefIdeal.main_v7) = v2 c
          ∧ r.2.mem ((c.tc : Thread Cert.SmallBRefIdeal.nD Cert.SmallBRefIdeal.τ).loc Cert.SmallBRefIdeal.main_v13) = v3 c
          ∧ r.2.mem ((c.tc : Thread Cert.SmallBRefIdeal.nD Cert.SmallBRefIdeal.τ).loc Cert.SmallBRefIdeal.main_v27) = v4 c
          ∧ r.2.mem ((c.tc : Thread Cert.SmallBRefIdeal.nD Cert.SmallBRefIdeal.τ).loc Cert.SmallBRefIdeal.main_v51) = v5 c
          ∧ r.2.mem ((c.tc : Thread Cert.SmallBRefIdeal.nD Cert.SmallBRefIdeal.τ).loc Cert.SmallBRefIdeal.main_v32) = v6 c
          ∧ r.2.mem ((c.tc : Thread Cert.SmallBRefIdeal.nD Cert.SmallBRefIdeal.τ).loc Cert.SmallBRefIdeal.main_v38) = v7 c
          ∧ r.2.mem ((c.tc : Thread Cert.SmallBRefIdeal.nD Cert.SmallBRefIdeal.τ).loc Cert.SmallBRefIdeal.main_v52) = v8 c
          ∧ r.2.mem ((c.tc : Thread Cert.SmallBRefIdeal.nD Cert.SmallBRefIdeal.τ).loc Cert.SmallBRefIdeal.main_v76) = v9 c
          ∧ r.2.mem ((c.tc : Thread Cert.SmallBRefIdeal.nD Cert.SmallBRefIdeal.τ).loc Cert.SmallBRefIdeal.main_v57) = v10 c
          ∧ r.2.mem ((c.tc : Thread Cert.SmallBRefIdeal.nD Cert.SmallBRefIdeal.τ).loc Cert.SmallBRefIdeal.main_v63) = v11 c
          ∧ r.2.mem ((c.tc : Thread Cert.SmallBRefIdeal.nD Cert.SmallBRefIdeal.τ).loc Cert.SmallBRefIdeal.main_arg0) = m' ((c.tc : Thread Cert.SmallBRefIdeal.nD Cert.SmallBRefIdeal.τ).loc Cert.SmallBRefIdeal.main_arg0)
          ∧ r.2.mem ((c.tc : Thread Cert.SmallBRefIdeal.nD Cert.SmallBRefIdeal.τ).loc Cert.SmallBRefIdeal.main_arg1) = m' ((c.tc : Thread Cert.SmallBRefIdeal.nD Cert.SmallBRefIdeal.τ).loc Cert.SmallBRefIdeal.main_arg1)
          ∧ r.2.mem ((c.tc : Thread Cert.SmallBRefIdeal.nD Cert.SmallBRefIdeal.τ).loc Cert.SmallBRefIdeal.main_arg2) = m' ((c.tc : Thread Cert.SmallBRefIdeal.nD Cert.SmallBRefIdeal.τ).loc Cert.SmallBRefIdeal.main_arg2)
          ∧ r.2.mem ((c.tc : Thread Cert.SmallBRefIdeal.nD Cert.SmallBRefIdeal.τ).loc Cert.SmallBRefIdeal.main_arg3) = m' ((c.tc : Thread Cert.SmallBRefIdeal.nD Cert.SmallBRefIdeal.τ).loc Cert.SmallBRefIdeal.main_arg3)
          ∧ r.2.mem ((c.tc : Thread Cert.SmallBRefIdeal.nD Cert.SmallBRefIdeal.τ).loc Cert.SmallBRefIdeal.main_arg4) = m' ((c.tc : Thread Cert.SmallBRefIdeal.nD Cert.SmallBRefIdeal.τ).loc Cert.SmallBRefIdeal.main_arg4)
          ∧ r.2.mem ((c.tc : Thread Cert.SmallBRefIdeal.nD Cert.SmallBRefIdeal.τ).loc Cert.SmallBRefIdeal.main_arg5) = m' ((c.tc : Thread Cert.SmallBRefIdeal.nD Cert.SmallBRefIdeal.τ).loc Cert.SmallBRefIdeal.main_arg5)
          ∧ r.2.mem ((c.tc : Thread Cert.SmallBRefIdeal.nD Cert.SmallBRefIdeal.τ).loc Cert.SmallBRefIdeal.main_arg6) = m' ((c.tc : Thread Cert.SmallBRefIdeal.nD Cert.SmallBRefIdeal.τ).loc Cert.SmallBRefIdeal.main_arg6)
          ∧ r.2.mem ((c.tc : Thread Cert.SmallBRefIdeal.nD Cert.SmallBRefIdeal.τ).loc Cert.SmallBRefIdeal.main_arg7) = m' ((c.tc : Thread Cert.SmallBRefIdeal.nD Cert.SmallBRefIdeal.τ).loc Cert.SmallBRefIdeal.main_arg7)
          ∧ r.2.mem ((c.tc : Thread Cert.SmallBRefIdeal.nD Cert.SmallBRefIdeal.τ).loc Cert.SmallBRefIdeal.main_arg8) = m' ((c.tc : Thread Cert.SmallBRefIdeal.nD Cert.SmallBRefIdeal.τ).loc Cert.SmallBRefIdeal.main_arg8)
          ∧ r.2.mem ((c.tc : Thread Cert.SmallBRefIdeal.nD Cert.SmallBRefIdeal.τ).loc Cert.SmallBRefIdeal.main_arg9) = m' ((c.tc : Thread Cert.SmallBRefIdeal.nD Cert.SmallBRefIdeal.τ).loc Cert.SmallBRefIdeal.main_arg9))

def preserves_SmallC_SmallCIdeal : Prop :=
  True

def algebraic_SmallCIdeal_SmallCRefIdeal [hSmallCIdeal : Cert.SmallCIdeal.Facts] [hSmallCRefIdeal : Cert.SmallCRefIdeal.Facts] : Prop :=
  ∀ (m : (ℓ : Loc Cert.SmallCIdeal.nD Cert.SmallCIdeal.τ Cert.SmallCIdeal.sig) → Buf (Elt Ideal) ℓ) (g : Dev Cert.SmallCIdeal.nD → PrngReg)
    (m' : (ℓ : Loc Cert.SmallCRefIdeal.nD Cert.SmallCRefIdeal.τ Cert.SmallCRefIdeal.sig) → Buf (Elt Ideal) ℓ) (g' : Dev Cert.SmallCRefIdeal.nD → PrngReg), Pre_SmallCIdeal m →
    (∀ c : Dev Cert.SmallCIdeal.nD,
      m' ((c.tc : Thread Cert.SmallCRefIdeal.nD Cert.SmallCRefIdeal.τ).loc Cert.SmallCRefIdeal.main_arg0) = m ((c.tc : Thread Cert.SmallCIdeal.nD Cert.SmallCIdeal.τ).loc Cert.SmallCIdeal.main_arg0)
      ∧ m' ((c.tc : Thread Cert.SmallCRefIdeal.nD Cert.SmallCRefIdeal.τ).loc Cert.SmallCRefIdeal.main_arg1) = m ((c.tc : Thread Cert.SmallCIdeal.nD Cert.SmallCIdeal.τ).loc Cert.SmallCIdeal.main_arg1)
      ∧ m' ((c.tc : Thread Cert.SmallCRefIdeal.nD Cert.SmallCRefIdeal.τ).loc Cert.SmallCRefIdeal.main_arg2) = m ((c.tc : Thread Cert.SmallCIdeal.nD Cert.SmallCIdeal.τ).loc Cert.SmallCIdeal.main_arg2)
      ∧ m' ((c.tc : Thread Cert.SmallCRefIdeal.nD Cert.SmallCRefIdeal.τ).loc Cert.SmallCRefIdeal.main_arg3) = m ((c.tc : Thread Cert.SmallCIdeal.nD Cert.SmallCIdeal.τ).loc Cert.SmallCIdeal.main_arg3)
      ∧ m' ((c.tc : Thread Cert.SmallCRefIdeal.nD Cert.SmallCRefIdeal.τ).loc Cert.SmallCRefIdeal.main_arg4) = m ((c.tc : Thread Cert.SmallCIdeal.nD Cert.SmallCIdeal.τ).loc Cert.SmallCIdeal.main_arg4)
      ∧ m' ((c.tc : Thread Cert.SmallCRefIdeal.nD Cert.SmallCRefIdeal.τ).loc Cert.SmallCRefIdeal.main_arg5) = m ((c.tc : Thread Cert.SmallCIdeal.nD Cert.SmallCIdeal.τ).loc Cert.SmallCIdeal.main_arg5)
      ∧ m' ((c.tc : Thread Cert.SmallCRefIdeal.nD Cert.SmallCRefIdeal.τ).loc Cert.SmallCRefIdeal.main_arg6) = m ((c.tc : Thread Cert.SmallCIdeal.nD Cert.SmallCIdeal.τ).loc Cert.SmallCIdeal.main_arg6)
      ∧ m' ((c.tc : Thread Cert.SmallCRefIdeal.nD Cert.SmallCRefIdeal.τ).loc Cert.SmallCRefIdeal.main_arg7) = m ((c.tc : Thread Cert.SmallCIdeal.nD Cert.SmallCIdeal.τ).loc Cert.SmallCIdeal.main_arg7)
      ∧ m' ((c.tc : Thread Cert.SmallCRefIdeal.nD Cert.SmallCRefIdeal.τ).loc Cert.SmallCRefIdeal.main_arg8) = m ((c.tc : Thread Cert.SmallCIdeal.nD Cert.SmallCIdeal.τ).loc Cert.SmallCIdeal.main_arg8)
      ∧ m' ((c.tc : Thread Cert.SmallCRefIdeal.nD Cert.SmallCRefIdeal.τ).loc Cert.SmallCRefIdeal.main_arg9) = m ((c.tc : Thread Cert.SmallCIdeal.nD Cert.SmallCIdeal.τ).loc Cert.SmallCIdeal.main_arg9)) →
    ∃ (v0 : (c : Dev Cert.SmallCIdeal.nD) → Buf (Elt Ideal) ((c.tc : Thread Cert.SmallCIdeal.nD Cert.SmallCIdeal.τ).loc Cert.SmallCIdeal.main_v0_0)) (v1 : (c : Dev Cert.SmallCIdeal.nD) → Buf (Elt Ideal) ((c.tc : Thread Cert.SmallCIdeal.nD Cert.SmallCIdeal.τ).loc Cert.SmallCIdeal.main_v0_1)) (v2 : (c : Dev Cert.SmallCIdeal.nD) → Buf (Elt Ideal) ((c.tc : Thread Cert.SmallCIdeal.nD Cert.SmallCIdeal.τ).loc Cert.SmallCIdeal.main_v0_2)) (v3 : (c : Dev Cert.SmallCIdeal.nD) → Buf (Elt Ideal) ((c.tc : Thread Cert.SmallCIdeal.nD Cert.SmallCIdeal.τ).loc Cert.SmallCIdeal.main_v0_3)) (v4 : (c : Dev Cert.SmallCIdeal.nD) → Buf (Elt Ideal) ((c.tc : Thread Cert.SmallCIdeal.nD Cert.SmallCIdeal.τ).loc Cert.SmallCIdeal.main_v0_4)) (v5 : (c : Dev Cert.SmallCIdeal.nD) → Buf (Elt Ideal) ((c.tc : Thread Cert.SmallCIdeal.nD Cert.SmallCIdeal.τ).loc Cert.SmallCIdeal.main_v0_5)) (v6 : (c : Dev Cert.SmallCIdeal.nD) → Buf (Elt Ideal) ((c.tc : Thread Cert.SmallCIdeal.nD Cert.SmallCIdeal.τ).loc Cert.SmallCIdeal.main_v0_6)) (v7 : (c : Dev Cert.SmallCIdeal.nD) → Buf (Elt Ideal) ((c.tc : Thread Cert.SmallCIdeal.nD Cert.SmallCIdeal.τ).loc Cert.SmallCIdeal.main_v0_7)) (v8 : (c : Dev Cert.SmallCIdeal.nD) → Buf (Elt Ideal) ((c.tc : Thread Cert.SmallCIdeal.nD Cert.SmallCIdeal.τ).loc Cert.SmallCIdeal.main_v0_8)) (v9 : (c : Dev Cert.SmallCIdeal.nD) → Buf (Elt Ideal) ((c.tc : Thread Cert.SmallCIdeal.nD Cert.SmallCIdeal.τ).loc Cert.SmallCIdeal.main_v0_9)) (v10 : (c : Dev Cert.SmallCIdeal.nD) → Buf (Elt Ideal) ((c.tc : Thread Cert.SmallCIdeal.nD Cert.SmallCIdeal.τ).loc Cert.SmallCIdeal.main_v0_10)) (v11 : (c : Dev Cert.SmallCIdeal.nD) → Buf (Elt Ideal) ((c.tc : Thread Cert.SmallCIdeal.nD Cert.SmallCIdeal.τ).loc Cert.SmallCIdeal.main_v0_11)),
      θ_run (Cert.SmallCIdeal.defs (F := Ideal)) (onTc (τ := Cert.SmallCIdeal.τ) (Cert.SmallCIdeal.main (F := Ideal))) ⟨m, fun _ => 0, g⟩ (fun r => ∀ c : Dev Cert.SmallCIdeal.nD,
          r.2.mem ((c.tc : Thread Cert.SmallCIdeal.nD Cert.SmallCIdeal.τ).loc Cert.SmallCIdeal.main_v0_0) = v0 c
          ∧ r.2.mem ((c.tc : Thread Cert.SmallCIdeal.nD Cert.SmallCIdeal.τ).loc Cert.SmallCIdeal.main_v0_1) = v1 c
          ∧ r.2.mem ((c.tc : Thread Cert.SmallCIdeal.nD Cert.SmallCIdeal.τ).loc Cert.SmallCIdeal.main_v0_2) = v2 c
          ∧ r.2.mem ((c.tc : Thread Cert.SmallCIdeal.nD Cert.SmallCIdeal.τ).loc Cert.SmallCIdeal.main_v0_3) = v3 c
          ∧ r.2.mem ((c.tc : Thread Cert.SmallCIdeal.nD Cert.SmallCIdeal.τ).loc Cert.SmallCIdeal.main_v0_4) = v4 c
          ∧ r.2.mem ((c.tc : Thread Cert.SmallCIdeal.nD Cert.SmallCIdeal.τ).loc Cert.SmallCIdeal.main_v0_5) = v5 c
          ∧ r.2.mem ((c.tc : Thread Cert.SmallCIdeal.nD Cert.SmallCIdeal.τ).loc Cert.SmallCIdeal.main_v0_6) = v6 c
          ∧ r.2.mem ((c.tc : Thread Cert.SmallCIdeal.nD Cert.SmallCIdeal.τ).loc Cert.SmallCIdeal.main_v0_7) = v7 c
          ∧ r.2.mem ((c.tc : Thread Cert.SmallCIdeal.nD Cert.SmallCIdeal.τ).loc Cert.SmallCIdeal.main_v0_8) = v8 c
          ∧ r.2.mem ((c.tc : Thread Cert.SmallCIdeal.nD Cert.SmallCIdeal.τ).loc Cert.SmallCIdeal.main_v0_9) = v9 c
          ∧ r.2.mem ((c.tc : Thread Cert.SmallCIdeal.nD Cert.SmallCIdeal.τ).loc Cert.SmallCIdeal.main_v0_10) = v10 c
          ∧ r.2.mem ((c.tc : Thread Cert.SmallCIdeal.nD Cert.SmallCIdeal.τ).loc Cert.SmallCIdeal.main_v0_11) = v11 c
          ∧ r.2.mem ((c.tc : Thread Cert.SmallCIdeal.nD Cert.SmallCIdeal.τ).loc Cert.SmallCIdeal.main_arg0) = m ((c.tc : Thread Cert.SmallCIdeal.nD Cert.SmallCIdeal.τ).loc Cert.SmallCIdeal.main_arg0)
          ∧ r.2.mem ((c.tc : Thread Cert.SmallCIdeal.nD Cert.SmallCIdeal.τ).loc Cert.SmallCIdeal.main_arg1) = m ((c.tc : Thread Cert.SmallCIdeal.nD Cert.SmallCIdeal.τ).loc Cert.SmallCIdeal.main_arg1)
          ∧ r.2.mem ((c.tc : Thread Cert.SmallCIdeal.nD Cert.SmallCIdeal.τ).loc Cert.SmallCIdeal.main_arg2) = m ((c.tc : Thread Cert.SmallCIdeal.nD Cert.SmallCIdeal.τ).loc Cert.SmallCIdeal.main_arg2)
          ∧ r.2.mem ((c.tc : Thread Cert.SmallCIdeal.nD Cert.SmallCIdeal.τ).loc Cert.SmallCIdeal.main_arg3) = m ((c.tc : Thread Cert.SmallCIdeal.nD Cert.SmallCIdeal.τ).loc Cert.SmallCIdeal.main_arg3)
          ∧ r.2.mem ((c.tc : Thread Cert.SmallCIdeal.nD Cert.SmallCIdeal.τ).loc Cert.SmallCIdeal.main_arg4) = m ((c.tc : Thread Cert.SmallCIdeal.nD Cert.SmallCIdeal.τ).loc Cert.SmallCIdeal.main_arg4)
          ∧ r.2.mem ((c.tc : Thread Cert.SmallCIdeal.nD Cert.SmallCIdeal.τ).loc Cert.SmallCIdeal.main_arg5) = m ((c.tc : Thread Cert.SmallCIdeal.nD Cert.SmallCIdeal.τ).loc Cert.SmallCIdeal.main_arg5)
          ∧ r.2.mem ((c.tc : Thread Cert.SmallCIdeal.nD Cert.SmallCIdeal.τ).loc Cert.SmallCIdeal.main_arg6) = m ((c.tc : Thread Cert.SmallCIdeal.nD Cert.SmallCIdeal.τ).loc Cert.SmallCIdeal.main_arg6)
          ∧ r.2.mem ((c.tc : Thread Cert.SmallCIdeal.nD Cert.SmallCIdeal.τ).loc Cert.SmallCIdeal.main_arg7) = m ((c.tc : Thread Cert.SmallCIdeal.nD Cert.SmallCIdeal.τ).loc Cert.SmallCIdeal.main_arg7)
          ∧ r.2.mem ((c.tc : Thread Cert.SmallCIdeal.nD Cert.SmallCIdeal.τ).loc Cert.SmallCIdeal.main_arg8) = m ((c.tc : Thread Cert.SmallCIdeal.nD Cert.SmallCIdeal.τ).loc Cert.SmallCIdeal.main_arg8)
          ∧ r.2.mem ((c.tc : Thread Cert.SmallCIdeal.nD Cert.SmallCIdeal.τ).loc Cert.SmallCIdeal.main_arg9) = m ((c.tc : Thread Cert.SmallCIdeal.nD Cert.SmallCIdeal.τ).loc Cert.SmallCIdeal.main_arg9))
      ∧ θ_run (Cert.SmallCRefIdeal.defs (F := Ideal)) (onTc (τ := Cert.SmallCRefIdeal.τ) (Cert.SmallCRefIdeal.main (F := Ideal))) ⟨m', fun _ => 0, g'⟩ (fun r => ∀ c : Dev Cert.SmallCRefIdeal.nD,
          r.2.mem ((c.tc : Thread Cert.SmallCRefIdeal.nD Cert.SmallCRefIdeal.τ).loc Cert.SmallCRefIdeal.main_v2) = v0 c
          ∧ r.2.mem ((c.tc : Thread Cert.SmallCRefIdeal.nD Cert.SmallCRefIdeal.τ).loc Cert.SmallCRefIdeal.main_v26) = v1 c
          ∧ r.2.mem ((c.tc : Thread Cert.SmallCRefIdeal.nD Cert.SmallCRefIdeal.τ).loc Cert.SmallCRefIdeal.main_v7) = v2 c
          ∧ r.2.mem ((c.tc : Thread Cert.SmallCRefIdeal.nD Cert.SmallCRefIdeal.τ).loc Cert.SmallCRefIdeal.main_v13) = v3 c
          ∧ r.2.mem ((c.tc : Thread Cert.SmallCRefIdeal.nD Cert.SmallCRefIdeal.τ).loc Cert.SmallCRefIdeal.main_v27) = v4 c
          ∧ r.2.mem ((c.tc : Thread Cert.SmallCRefIdeal.nD Cert.SmallCRefIdeal.τ).loc Cert.SmallCRefIdeal.main_v51) = v5 c
          ∧ r.2.mem ((c.tc : Thread Cert.SmallCRefIdeal.nD Cert.SmallCRefIdeal.τ).loc Cert.SmallCRefIdeal.main_v32) = v6 c
          ∧ r.2.mem ((c.tc : Thread Cert.SmallCRefIdeal.nD Cert.SmallCRefIdeal.τ).loc Cert.SmallCRefIdeal.main_v38) = v7 c
          ∧ r.2.mem ((c.tc : Thread Cert.SmallCRefIdeal.nD Cert.SmallCRefIdeal.τ).loc Cert.SmallCRefIdeal.main_v52) = v8 c
          ∧ r.2.mem ((c.tc : Thread Cert.SmallCRefIdeal.nD Cert.SmallCRefIdeal.τ).loc Cert.SmallCRefIdeal.main_v76) = v9 c
          ∧ r.2.mem ((c.tc : Thread Cert.SmallCRefIdeal.nD Cert.SmallCRefIdeal.τ).loc Cert.SmallCRefIdeal.main_v57) = v10 c
          ∧ r.2.mem ((c.tc : Thread Cert.SmallCRefIdeal.nD Cert.SmallCRefIdeal.τ).loc Cert.SmallCRefIdeal.main_v63) = v11 c
          ∧ r.2.mem ((c.tc : Thread Cert.SmallCRefIdeal.nD Cert.SmallCRefIdeal.τ).loc Cert.SmallCRefIdeal.main_arg0) = m' ((c.tc : Thread Cert.SmallCRefIdeal.nD Cert.SmallCRefIdeal.τ).loc Cert.SmallCRefIdeal.main_arg0)
          ∧ r.2.mem ((c.tc : Thread Cert.SmallCRefIdeal.nD Cert.SmallCRefIdeal.τ).loc Cert.SmallCRefIdeal.main_arg1) = m' ((c.tc : Thread Cert.SmallCRefIdeal.nD Cert.SmallCRefIdeal.τ).loc Cert.SmallCRefIdeal.main_arg1)
          ∧ r.2.mem ((c.tc : Thread Cert.SmallCRefIdeal.nD Cert.SmallCRefIdeal.τ).loc Cert.SmallCRefIdeal.main_arg2) = m' ((c.tc : Thread Cert.SmallCRefIdeal.nD Cert.SmallCRefIdeal.τ).loc Cert.SmallCRefIdeal.main_arg2)
          ∧ r.2.mem ((c.tc : Thread Cert.SmallCRefIdeal.nD Cert.SmallCRefIdeal.τ).loc Cert.SmallCRefIdeal.main_arg3) = m' ((c.tc : Thread Cert.SmallCRefIdeal.nD Cert.SmallCRefIdeal.τ).loc Cert.SmallCRefIdeal.main_arg3)
          ∧ r.2.mem ((c.tc : Thread Cert.SmallCRefIdeal.nD Cert.SmallCRefIdeal.τ).loc Cert.SmallCRefIdeal.main_arg4) = m' ((c.tc : Thread Cert.SmallCRefIdeal.nD Cert.SmallCRefIdeal.τ).loc Cert.SmallCRefIdeal.main_arg4)
          ∧ r.2.mem ((c.tc : Thread Cert.SmallCRefIdeal.nD Cert.SmallCRefIdeal.τ).loc Cert.SmallCRefIdeal.main_arg5) = m' ((c.tc : Thread Cert.SmallCRefIdeal.nD Cert.SmallCRefIdeal.τ).loc Cert.SmallCRefIdeal.main_arg5)
          ∧ r.2.mem ((c.tc : Thread Cert.SmallCRefIdeal.nD Cert.SmallCRefIdeal.τ).loc Cert.SmallCRefIdeal.main_arg6) = m' ((c.tc : Thread Cert.SmallCRefIdeal.nD Cert.SmallCRefIdeal.τ).loc Cert.SmallCRefIdeal.main_arg6)
          ∧ r.2.mem ((c.tc : Thread Cert.SmallCRefIdeal.nD Cert.SmallCRefIdeal.τ).loc Cert.SmallCRefIdeal.main_arg7) = m' ((c.tc : Thread Cert.SmallCRefIdeal.nD Cert.SmallCRefIdeal.τ).loc Cert.SmallCRefIdeal.main_arg7)
          ∧ r.2.mem ((c.tc : Thread Cert.SmallCRefIdeal.nD Cert.SmallCRefIdeal.τ).loc Cert.SmallCRefIdeal.main_arg8) = m' ((c.tc : Thread Cert.SmallCRefIdeal.nD Cert.SmallCRefIdeal.τ).loc Cert.SmallCRefIdeal.main_arg8)
          ∧ r.2.mem ((c.tc : Thread Cert.SmallCRefIdeal.nD Cert.SmallCRefIdeal.τ).loc Cert.SmallCRefIdeal.main_arg9) = m' ((c.tc : Thread Cert.SmallCRefIdeal.nD Cert.SmallCRefIdeal.τ).loc Cert.SmallCRefIdeal.main_arg9))

def preserves_SmallD_SmallDIdeal : Prop :=
  True

def algebraic_SmallDIdeal_SmallDRefIdeal [hSmallDIdeal : Cert.SmallDIdeal.Facts] [hSmallDRefIdeal : Cert.SmallDRefIdeal.Facts] : Prop :=
  ∀ (m : (ℓ : Loc Cert.SmallDIdeal.nD Cert.SmallDIdeal.τ Cert.SmallDIdeal.sig) → Buf (Elt Ideal) ℓ) (g : Dev Cert.SmallDIdeal.nD → PrngReg)
    (m' : (ℓ : Loc Cert.SmallDRefIdeal.nD Cert.SmallDRefIdeal.τ Cert.SmallDRefIdeal.sig) → Buf (Elt Ideal) ℓ) (g' : Dev Cert.SmallDRefIdeal.nD → PrngReg), Pre_SmallDIdeal m →
    (∀ c : Dev Cert.SmallDIdeal.nD,
      m' ((c.tc : Thread Cert.SmallDRefIdeal.nD Cert.SmallDRefIdeal.τ).loc Cert.SmallDRefIdeal.main_arg0) = m ((c.tc : Thread Cert.SmallDIdeal.nD Cert.SmallDIdeal.τ).loc Cert.SmallDIdeal.main_arg0)
      ∧ m' ((c.tc : Thread Cert.SmallDRefIdeal.nD Cert.SmallDRefIdeal.τ).loc Cert.SmallDRefIdeal.main_arg1) = m ((c.tc : Thread Cert.SmallDIdeal.nD Cert.SmallDIdeal.τ).loc Cert.SmallDIdeal.main_arg1)
      ∧ m' ((c.tc : Thread Cert.SmallDRefIdeal.nD Cert.SmallDRefIdeal.τ).loc Cert.SmallDRefIdeal.main_arg2) = m ((c.tc : Thread Cert.SmallDIdeal.nD Cert.SmallDIdeal.τ).loc Cert.SmallDIdeal.main_arg2)
      ∧ m' ((c.tc : Thread Cert.SmallDRefIdeal.nD Cert.SmallDRefIdeal.τ).loc Cert.SmallDRefIdeal.main_arg3) = m ((c.tc : Thread Cert.SmallDIdeal.nD Cert.SmallDIdeal.τ).loc Cert.SmallDIdeal.main_arg3)
      ∧ m' ((c.tc : Thread Cert.SmallDRefIdeal.nD Cert.SmallDRefIdeal.τ).loc Cert.SmallDRefIdeal.main_arg4) = m ((c.tc : Thread Cert.SmallDIdeal.nD Cert.SmallDIdeal.τ).loc Cert.SmallDIdeal.main_arg4)
      ∧ m' ((c.tc : Thread Cert.SmallDRefIdeal.nD Cert.SmallDRefIdeal.τ).loc Cert.SmallDRefIdeal.main_arg5) = m ((c.tc : Thread Cert.SmallDIdeal.nD Cert.SmallDIdeal.τ).loc Cert.SmallDIdeal.main_arg5)
      ∧ m' ((c.tc : Thread Cert.SmallDRefIdeal.nD Cert.SmallDRefIdeal.τ).loc Cert.SmallDRefIdeal.main_arg6) = m ((c.tc : Thread Cert.SmallDIdeal.nD Cert.SmallDIdeal.τ).loc Cert.SmallDIdeal.main_arg6)
      ∧ m' ((c.tc : Thread Cert.SmallDRefIdeal.nD Cert.SmallDRefIdeal.τ).loc Cert.SmallDRefIdeal.main_arg7) = m ((c.tc : Thread Cert.SmallDIdeal.nD Cert.SmallDIdeal.τ).loc Cert.SmallDIdeal.main_arg7)
      ∧ m' ((c.tc : Thread Cert.SmallDRefIdeal.nD Cert.SmallDRefIdeal.τ).loc Cert.SmallDRefIdeal.main_arg8) = m ((c.tc : Thread Cert.SmallDIdeal.nD Cert.SmallDIdeal.τ).loc Cert.SmallDIdeal.main_arg8)
      ∧ m' ((c.tc : Thread Cert.SmallDRefIdeal.nD Cert.SmallDRefIdeal.τ).loc Cert.SmallDRefIdeal.main_arg9) = m ((c.tc : Thread Cert.SmallDIdeal.nD Cert.SmallDIdeal.τ).loc Cert.SmallDIdeal.main_arg9)) →
    ∃ (v0 : (c : Dev Cert.SmallDIdeal.nD) → Buf (Elt Ideal) ((c.tc : Thread Cert.SmallDIdeal.nD Cert.SmallDIdeal.τ).loc Cert.SmallDIdeal.main_v0_0)) (v1 : (c : Dev Cert.SmallDIdeal.nD) → Buf (Elt Ideal) ((c.tc : Thread Cert.SmallDIdeal.nD Cert.SmallDIdeal.τ).loc Cert.SmallDIdeal.main_v0_1)) (v2 : (c : Dev Cert.SmallDIdeal.nD) → Buf (Elt Ideal) ((c.tc : Thread Cert.SmallDIdeal.nD Cert.SmallDIdeal.τ).loc Cert.SmallDIdeal.main_v0_2)) (v3 : (c : Dev Cert.SmallDIdeal.nD) → Buf (Elt Ideal) ((c.tc : Thread Cert.SmallDIdeal.nD Cert.SmallDIdeal.τ).loc Cert.SmallDIdeal.main_v0_3)) (v4 : (c : Dev Cert.SmallDIdeal.nD) → Buf (Elt Ideal) ((c.tc : Thread Cert.SmallDIdeal.nD Cert.SmallDIdeal.τ).loc Cert.SmallDIdeal.main_v0_4)) (v5 : (c : Dev Cert.SmallDIdeal.nD) → Buf (Elt Ideal) ((c.tc : Thread Cert.SmallDIdeal.nD Cert.SmallDIdeal.τ).loc Cert.SmallDIdeal.main_v0_5)) (v6 : (c : Dev Cert.SmallDIdeal.nD) → Buf (Elt Ideal) ((c.tc : Thread Cert.SmallDIdeal.nD Cert.SmallDIdeal.τ).loc Cert.SmallDIdeal.main_v0_6)) (v7 : (c : Dev Cert.SmallDIdeal.nD) → Buf (Elt Ideal) ((c.tc : Thread Cert.SmallDIdeal.nD Cert.SmallDIdeal.τ).loc Cert.SmallDIdeal.main_v0_7)) (v8 : (c : Dev Cert.SmallDIdeal.nD) → Buf (Elt Ideal) ((c.tc : Thread Cert.SmallDIdeal.nD Cert.SmallDIdeal.τ).loc Cert.SmallDIdeal.main_v0_8)) (v9 : (c : Dev Cert.SmallDIdeal.nD) → Buf (Elt Ideal) ((c.tc : Thread Cert.SmallDIdeal.nD Cert.SmallDIdeal.τ).loc Cert.SmallDIdeal.main_v0_9)) (v10 : (c : Dev Cert.SmallDIdeal.nD) → Buf (Elt Ideal) ((c.tc : Thread Cert.SmallDIdeal.nD Cert.SmallDIdeal.τ).loc Cert.SmallDIdeal.main_v0_10)) (v11 : (c : Dev Cert.SmallDIdeal.nD) → Buf (Elt Ideal) ((c.tc : Thread Cert.SmallDIdeal.nD Cert.SmallDIdeal.τ).loc Cert.SmallDIdeal.main_v0_11)),
      θ_run (Cert.SmallDIdeal.defs (F := Ideal)) (onTc (τ := Cert.SmallDIdeal.τ) (Cert.SmallDIdeal.main (F := Ideal))) ⟨m, fun _ => 0, g⟩ (fun r => ∀ c : Dev Cert.SmallDIdeal.nD,
          r.2.mem ((c.tc : Thread Cert.SmallDIdeal.nD Cert.SmallDIdeal.τ).loc Cert.SmallDIdeal.main_v0_0) = v0 c
          ∧ r.2.mem ((c.tc : Thread Cert.SmallDIdeal.nD Cert.SmallDIdeal.τ).loc Cert.SmallDIdeal.main_v0_1) = v1 c
          ∧ r.2.mem ((c.tc : Thread Cert.SmallDIdeal.nD Cert.SmallDIdeal.τ).loc Cert.SmallDIdeal.main_v0_2) = v2 c
          ∧ r.2.mem ((c.tc : Thread Cert.SmallDIdeal.nD Cert.SmallDIdeal.τ).loc Cert.SmallDIdeal.main_v0_3) = v3 c
          ∧ r.2.mem ((c.tc : Thread Cert.SmallDIdeal.nD Cert.SmallDIdeal.τ).loc Cert.SmallDIdeal.main_v0_4) = v4 c
          ∧ r.2.mem ((c.tc : Thread Cert.SmallDIdeal.nD Cert.SmallDIdeal.τ).loc Cert.SmallDIdeal.main_v0_5) = v5 c
          ∧ r.2.mem ((c.tc : Thread Cert.SmallDIdeal.nD Cert.SmallDIdeal.τ).loc Cert.SmallDIdeal.main_v0_6) = v6 c
          ∧ r.2.mem ((c.tc : Thread Cert.SmallDIdeal.nD Cert.SmallDIdeal.τ).loc Cert.SmallDIdeal.main_v0_7) = v7 c
          ∧ r.2.mem ((c.tc : Thread Cert.SmallDIdeal.nD Cert.SmallDIdeal.τ).loc Cert.SmallDIdeal.main_v0_8) = v8 c
          ∧ r.2.mem ((c.tc : Thread Cert.SmallDIdeal.nD Cert.SmallDIdeal.τ).loc Cert.SmallDIdeal.main_v0_9) = v9 c
          ∧ r.2.mem ((c.tc : Thread Cert.SmallDIdeal.nD Cert.SmallDIdeal.τ).loc Cert.SmallDIdeal.main_v0_10) = v10 c
          ∧ r.2.mem ((c.tc : Thread Cert.SmallDIdeal.nD Cert.SmallDIdeal.τ).loc Cert.SmallDIdeal.main_v0_11) = v11 c
          ∧ r.2.mem ((c.tc : Thread Cert.SmallDIdeal.nD Cert.SmallDIdeal.τ).loc Cert.SmallDIdeal.main_arg0) = m ((c.tc : Thread Cert.SmallDIdeal.nD Cert.SmallDIdeal.τ).loc Cert.SmallDIdeal.main_arg0)
          ∧ r.2.mem ((c.tc : Thread Cert.SmallDIdeal.nD Cert.SmallDIdeal.τ).loc Cert.SmallDIdeal.main_arg1) = m ((c.tc : Thread Cert.SmallDIdeal.nD Cert.SmallDIdeal.τ).loc Cert.SmallDIdeal.main_arg1)
          ∧ r.2.mem ((c.tc : Thread Cert.SmallDIdeal.nD Cert.SmallDIdeal.τ).loc Cert.SmallDIdeal.main_arg2) = m ((c.tc : Thread Cert.SmallDIdeal.nD Cert.SmallDIdeal.τ).loc Cert.SmallDIdeal.main_arg2)
          ∧ r.2.mem ((c.tc : Thread Cert.SmallDIdeal.nD Cert.SmallDIdeal.τ).loc Cert.SmallDIdeal.main_arg3) = m ((c.tc : Thread Cert.SmallDIdeal.nD Cert.SmallDIdeal.τ).loc Cert.SmallDIdeal.main_arg3)
          ∧ r.2.mem ((c.tc : Thread Cert.SmallDIdeal.nD Cert.SmallDIdeal.τ).loc Cert.SmallDIdeal.main_arg4) = m ((c.tc : Thread Cert.SmallDIdeal.nD Cert.SmallDIdeal.τ).loc Cert.SmallDIdeal.main_arg4)
          ∧ r.2.mem ((c.tc : Thread Cert.SmallDIdeal.nD Cert.SmallDIdeal.τ).loc Cert.SmallDIdeal.main_arg5) = m ((c.tc : Thread Cert.SmallDIdeal.nD Cert.SmallDIdeal.τ).loc Cert.SmallDIdeal.main_arg5)
          ∧ r.2.mem ((c.tc : Thread Cert.SmallDIdeal.nD Cert.SmallDIdeal.τ).loc Cert.SmallDIdeal.main_arg6) = m ((c.tc : Thread Cert.SmallDIdeal.nD Cert.SmallDIdeal.τ).loc Cert.SmallDIdeal.main_arg6)
          ∧ r.2.mem ((c.tc : Thread Cert.SmallDIdeal.nD Cert.SmallDIdeal.τ).loc Cert.SmallDIdeal.main_arg7) = m ((c.tc : Thread Cert.SmallDIdeal.nD Cert.SmallDIdeal.τ).loc Cert.SmallDIdeal.main_arg7)
          ∧ r.2.mem ((c.tc : Thread Cert.SmallDIdeal.nD Cert.SmallDIdeal.τ).loc Cert.SmallDIdeal.main_arg8) = m ((c.tc : Thread Cert.SmallDIdeal.nD Cert.SmallDIdeal.τ).loc Cert.SmallDIdeal.main_arg8)
          ∧ r.2.mem ((c.tc : Thread Cert.SmallDIdeal.nD Cert.SmallDIdeal.τ).loc Cert.SmallDIdeal.main_arg9) = m ((c.tc : Thread Cert.SmallDIdeal.nD Cert.SmallDIdeal.τ).loc Cert.SmallDIdeal.main_arg9))
      ∧ θ_run (Cert.SmallDRefIdeal.defs (F := Ideal)) (onTc (τ := Cert.SmallDRefIdeal.τ) (Cert.SmallDRefIdeal.main (F := Ideal))) ⟨m', fun _ => 0, g'⟩ (fun r => ∀ c : Dev Cert.SmallDRefIdeal.nD,
          r.2.mem ((c.tc : Thread Cert.SmallDRefIdeal.nD Cert.SmallDRefIdeal.τ).loc Cert.SmallDRefIdeal.main_v2) = v0 c
          ∧ r.2.mem ((c.tc : Thread Cert.SmallDRefIdeal.nD Cert.SmallDRefIdeal.τ).loc Cert.SmallDRefIdeal.main_v26) = v1 c
          ∧ r.2.mem ((c.tc : Thread Cert.SmallDRefIdeal.nD Cert.SmallDRefIdeal.τ).loc Cert.SmallDRefIdeal.main_v7) = v2 c
          ∧ r.2.mem ((c.tc : Thread Cert.SmallDRefIdeal.nD Cert.SmallDRefIdeal.τ).loc Cert.SmallDRefIdeal.main_v13) = v3 c
          ∧ r.2.mem ((c.tc : Thread Cert.SmallDRefIdeal.nD Cert.SmallDRefIdeal.τ).loc Cert.SmallDRefIdeal.main_v27) = v4 c
          ∧ r.2.mem ((c.tc : Thread Cert.SmallDRefIdeal.nD Cert.SmallDRefIdeal.τ).loc Cert.SmallDRefIdeal.main_v51) = v5 c
          ∧ r.2.mem ((c.tc : Thread Cert.SmallDRefIdeal.nD Cert.SmallDRefIdeal.τ).loc Cert.SmallDRefIdeal.main_v32) = v6 c
          ∧ r.2.mem ((c.tc : Thread Cert.SmallDRefIdeal.nD Cert.SmallDRefIdeal.τ).loc Cert.SmallDRefIdeal.main_v38) = v7 c
          ∧ r.2.mem ((c.tc : Thread Cert.SmallDRefIdeal.nD Cert.SmallDRefIdeal.τ).loc Cert.SmallDRefIdeal.main_v52) = v8 c
          ∧ r.2.mem ((c.tc : Thread Cert.SmallDRefIdeal.nD Cert.SmallDRefIdeal.τ).loc Cert.SmallDRefIdeal.main_v76) = v9 c
          ∧ r.2.mem ((c.tc : Thread Cert.SmallDRefIdeal.nD Cert.SmallDRefIdeal.τ).loc Cert.SmallDRefIdeal.main_v57) = v10 c
          ∧ r.2.mem ((c.tc : Thread Cert.SmallDRefIdeal.nD Cert.SmallDRefIdeal.τ).loc Cert.SmallDRefIdeal.main_v63) = v11 c
          ∧ r.2.mem ((c.tc : Thread Cert.SmallDRefIdeal.nD Cert.SmallDRefIdeal.τ).loc Cert.SmallDRefIdeal.main_arg0) = m' ((c.tc : Thread Cert.SmallDRefIdeal.nD Cert.SmallDRefIdeal.τ).loc Cert.SmallDRefIdeal.main_arg0)
          ∧ r.2.mem ((c.tc : Thread Cert.SmallDRefIdeal.nD Cert.SmallDRefIdeal.τ).loc Cert.SmallDRefIdeal.main_arg1) = m' ((c.tc : Thread Cert.SmallDRefIdeal.nD Cert.SmallDRefIdeal.τ).loc Cert.SmallDRefIdeal.main_arg1)
          ∧ r.2.mem ((c.tc : Thread Cert.SmallDRefIdeal.nD Cert.SmallDRefIdeal.τ).loc Cert.SmallDRefIdeal.main_arg2) = m' ((c.tc : Thread Cert.SmallDRefIdeal.nD Cert.SmallDRefIdeal.τ).loc Cert.SmallDRefIdeal.main_arg2)
          ∧ r.2.mem ((c.tc : Thread Cert.SmallDRefIdeal.nD Cert.SmallDRefIdeal.τ).loc Cert.SmallDRefIdeal.main_arg3) = m' ((c.tc : Thread Cert.SmallDRefIdeal.nD Cert.SmallDRefIdeal.τ).loc Cert.SmallDRefIdeal.main_arg3)
          ∧ r.2.mem ((c.tc : Thread Cert.SmallDRefIdeal.nD Cert.SmallDRefIdeal.τ).loc Cert.SmallDRefIdeal.main_arg4) = m' ((c.tc : Thread Cert.SmallDRefIdeal.nD Cert.SmallDRefIdeal.τ).loc Cert.SmallDRefIdeal.main_arg4)
          ∧ r.2.mem ((c.tc : Thread Cert.SmallDRefIdeal.nD Cert.SmallDRefIdeal.τ).loc Cert.SmallDRefIdeal.main_arg5) = m' ((c.tc : Thread Cert.SmallDRefIdeal.nD Cert.SmallDRefIdeal.τ).loc Cert.SmallDRefIdeal.main_arg5)
          ∧ r.2.mem ((c.tc : Thread Cert.SmallDRefIdeal.nD Cert.SmallDRefIdeal.τ).loc Cert.SmallDRefIdeal.main_arg6) = m' ((c.tc : Thread Cert.SmallDRefIdeal.nD Cert.SmallDRefIdeal.τ).loc Cert.SmallDRefIdeal.main_arg6)
          ∧ r.2.mem ((c.tc : Thread Cert.SmallDRefIdeal.nD Cert.SmallDRefIdeal.τ).loc Cert.SmallDRefIdeal.main_arg7) = m' ((c.tc : Thread Cert.SmallDRefIdeal.nD Cert.SmallDRefIdeal.τ).loc Cert.SmallDRefIdeal.main_arg7)
          ∧ r.2.mem ((c.tc : Thread Cert.SmallDRefIdeal.nD Cert.SmallDRefIdeal.τ).loc Cert.SmallDRefIdeal.main_arg8) = m' ((c.tc : Thread Cert.SmallDRefIdeal.nD Cert.SmallDRefIdeal.τ).loc Cert.SmallDRefIdeal.main_arg8)
          ∧ r.2.mem ((c.tc : Thread Cert.SmallDRefIdeal.nD Cert.SmallDRefIdeal.τ).loc Cert.SmallDRefIdeal.main_arg9) = m' ((c.tc : Thread Cert.SmallDRefIdeal.nD Cert.SmallDRefIdeal.τ).loc Cert.SmallDRefIdeal.main_arg9))

def preserves_SmallE_SmallEIdeal : Prop :=
  True

def algebraic_SmallEIdeal_SmallERefIdeal [hSmallEIdeal : Cert.SmallEIdeal.Facts] [hSmallERefIdeal : Cert.SmallERefIdeal.Facts] : Prop :=
  ∀ (m : (ℓ : Loc Cert.SmallEIdeal.nD Cert.SmallEIdeal.τ Cert.SmallEIdeal.sig) → Buf (Elt Ideal) ℓ) (g : Dev Cert.SmallEIdeal.nD → PrngReg)
    (m' : (ℓ : Loc Cert.SmallERefIdeal.nD Cert.SmallERefIdeal.τ Cert.SmallERefIdeal.sig) → Buf (Elt Ideal) ℓ) (g' : Dev Cert.SmallERefIdeal.nD → PrngReg), Pre_SmallEIdeal m →
    (∀ c : Dev Cert.SmallEIdeal.nD,
      m' ((c.tc : Thread Cert.SmallERefIdeal.nD Cert.SmallERefIdeal.τ).loc Cert.SmallERefIdeal.main_arg0) = m ((c.tc : Thread Cert.SmallEIdeal.nD Cert.SmallEIdeal.τ).loc Cert.SmallEIdeal.main_arg0)
      ∧ m' ((c.tc : Thread Cert.SmallERefIdeal.nD Cert.SmallERefIdeal.τ).loc Cert.SmallERefIdeal.main_arg1) = m ((c.tc : Thread Cert.SmallEIdeal.nD Cert.SmallEIdeal.τ).loc Cert.SmallEIdeal.main_arg1)
      ∧ m' ((c.tc : Thread Cert.SmallERefIdeal.nD Cert.SmallERefIdeal.τ).loc Cert.SmallERefIdeal.main_arg2) = m ((c.tc : Thread Cert.SmallEIdeal.nD Cert.SmallEIdeal.τ).loc Cert.SmallEIdeal.main_arg2)
      ∧ m' ((c.tc : Thread Cert.SmallERefIdeal.nD Cert.SmallERefIdeal.τ).loc Cert.SmallERefIdeal.main_arg3) = m ((c.tc : Thread Cert.SmallEIdeal.nD Cert.SmallEIdeal.τ).loc Cert.SmallEIdeal.main_arg3)
      ∧ m' ((c.tc : Thread Cert.SmallERefIdeal.nD Cert.SmallERefIdeal.τ).loc Cert.SmallERefIdeal.main_arg4) = m ((c.tc : Thread Cert.SmallEIdeal.nD Cert.SmallEIdeal.τ).loc Cert.SmallEIdeal.main_arg4)
      ∧ m' ((c.tc : Thread Cert.SmallERefIdeal.nD Cert.SmallERefIdeal.τ).loc Cert.SmallERefIdeal.main_arg5) = m ((c.tc : Thread Cert.SmallEIdeal.nD Cert.SmallEIdeal.τ).loc Cert.SmallEIdeal.main_arg5)
      ∧ m' ((c.tc : Thread Cert.SmallERefIdeal.nD Cert.SmallERefIdeal.τ).loc Cert.SmallERefIdeal.main_arg6) = m ((c.tc : Thread Cert.SmallEIdeal.nD Cert.SmallEIdeal.τ).loc Cert.SmallEIdeal.main_arg6)
      ∧ m' ((c.tc : Thread Cert.SmallERefIdeal.nD Cert.SmallERefIdeal.τ).loc Cert.SmallERefIdeal.main_arg7) = m ((c.tc : Thread Cert.SmallEIdeal.nD Cert.SmallEIdeal.τ).loc Cert.SmallEIdeal.main_arg7)
      ∧ m' ((c.tc : Thread Cert.SmallERefIdeal.nD Cert.SmallERefIdeal.τ).loc Cert.SmallERefIdeal.main_arg8) = m ((c.tc : Thread Cert.SmallEIdeal.nD Cert.SmallEIdeal.τ).loc Cert.SmallEIdeal.main_arg8)
      ∧ m' ((c.tc : Thread Cert.SmallERefIdeal.nD Cert.SmallERefIdeal.τ).loc Cert.SmallERefIdeal.main_arg9) = m ((c.tc : Thread Cert.SmallEIdeal.nD Cert.SmallEIdeal.τ).loc Cert.SmallEIdeal.main_arg9)) →
    ∃ (v0 : (c : Dev Cert.SmallEIdeal.nD) → Buf (Elt Ideal) ((c.tc : Thread Cert.SmallEIdeal.nD Cert.SmallEIdeal.τ).loc Cert.SmallEIdeal.main_v0_0)) (v1 : (c : Dev Cert.SmallEIdeal.nD) → Buf (Elt Ideal) ((c.tc : Thread Cert.SmallEIdeal.nD Cert.SmallEIdeal.τ).loc Cert.SmallEIdeal.main_v0_1)) (v2 : (c : Dev Cert.SmallEIdeal.nD) → Buf (Elt Ideal) ((c.tc : Thread Cert.SmallEIdeal.nD Cert.SmallEIdeal.τ).loc Cert.SmallEIdeal.main_v0_2)) (v3 : (c : Dev Cert.SmallEIdeal.nD) → Buf (Elt Ideal) ((c.tc : Thread Cert.SmallEIdeal.nD Cert.SmallEIdeal.τ).loc Cert.SmallEIdeal.main_v0_3)) (v4 : (c : Dev Cert.SmallEIdeal.nD) → Buf (Elt Ideal) ((c.tc : Thread Cert.SmallEIdeal.nD Cert.SmallEIdeal.τ).loc Cert.SmallEIdeal.main_v0_4)) (v5 : (c : Dev Cert.SmallEIdeal.nD) → Buf (Elt Ideal) ((c.tc : Thread Cert.SmallEIdeal.nD Cert.SmallEIdeal.τ).loc Cert.SmallEIdeal.main_v0_5)) (v6 : (c : Dev Cert.SmallEIdeal.nD) → Buf (Elt Ideal) ((c.tc : Thread Cert.SmallEIdeal.nD Cert.SmallEIdeal.τ).loc Cert.SmallEIdeal.main_v0_6)) (v7 : (c : Dev Cert.SmallEIdeal.nD) → Buf (Elt Ideal) ((c.tc : Thread Cert.SmallEIdeal.nD Cert.SmallEIdeal.τ).loc Cert.SmallEIdeal.main_v0_7)) (v8 : (c : Dev Cert.SmallEIdeal.nD) → Buf (Elt Ideal) ((c.tc : Thread Cert.SmallEIdeal.nD Cert.SmallEIdeal.τ).loc Cert.SmallEIdeal.main_v0_8)) (v9 : (c : Dev Cert.SmallEIdeal.nD) → Buf (Elt Ideal) ((c.tc : Thread Cert.SmallEIdeal.nD Cert.SmallEIdeal.τ).loc Cert.SmallEIdeal.main_v0_9)) (v10 : (c : Dev Cert.SmallEIdeal.nD) → Buf (Elt Ideal) ((c.tc : Thread Cert.SmallEIdeal.nD Cert.SmallEIdeal.τ).loc Cert.SmallEIdeal.main_v0_10)) (v11 : (c : Dev Cert.SmallEIdeal.nD) → Buf (Elt Ideal) ((c.tc : Thread Cert.SmallEIdeal.nD Cert.SmallEIdeal.τ).loc Cert.SmallEIdeal.main_v0_11)),
      θ_run (Cert.SmallEIdeal.defs (F := Ideal)) (onTc (τ := Cert.SmallEIdeal.τ) (Cert.SmallEIdeal.main (F := Ideal))) ⟨m, fun _ => 0, g⟩ (fun r => ∀ c : Dev Cert.SmallEIdeal.nD,
          r.2.mem ((c.tc : Thread Cert.SmallEIdeal.nD Cert.SmallEIdeal.τ).loc Cert.SmallEIdeal.main_v0_0) = v0 c
          ∧ r.2.mem ((c.tc : Thread Cert.SmallEIdeal.nD Cert.SmallEIdeal.τ).loc Cert.SmallEIdeal.main_v0_1) = v1 c
          ∧ r.2.mem ((c.tc : Thread Cert.SmallEIdeal.nD Cert.SmallEIdeal.τ).loc Cert.SmallEIdeal.main_v0_2) = v2 c
          ∧ r.2.mem ((c.tc : Thread Cert.SmallEIdeal.nD Cert.SmallEIdeal.τ).loc Cert.SmallEIdeal.main_v0_3) = v3 c
          ∧ r.2.mem ((c.tc : Thread Cert.SmallEIdeal.nD Cert.SmallEIdeal.τ).loc Cert.SmallEIdeal.main_v0_4) = v4 c
          ∧ r.2.mem ((c.tc : Thread Cert.SmallEIdeal.nD Cert.SmallEIdeal.τ).loc Cert.SmallEIdeal.main_v0_5) = v5 c
          ∧ r.2.mem ((c.tc : Thread Cert.SmallEIdeal.nD Cert.SmallEIdeal.τ).loc Cert.SmallEIdeal.main_v0_6) = v6 c
          ∧ r.2.mem ((c.tc : Thread Cert.SmallEIdeal.nD Cert.SmallEIdeal.τ).loc Cert.SmallEIdeal.main_v0_7) = v7 c
          ∧ r.2.mem ((c.tc : Thread Cert.SmallEIdeal.nD Cert.SmallEIdeal.τ).loc Cert.SmallEIdeal.main_v0_8) = v8 c
          ∧ r.2.mem ((c.tc : Thread Cert.SmallEIdeal.nD Cert.SmallEIdeal.τ).loc Cert.SmallEIdeal.main_v0_9) = v9 c
          ∧ r.2.mem ((c.tc : Thread Cert.SmallEIdeal.nD Cert.SmallEIdeal.τ).loc Cert.SmallEIdeal.main_v0_10) = v10 c
          ∧ r.2.mem ((c.tc : Thread Cert.SmallEIdeal.nD Cert.SmallEIdeal.τ).loc Cert.SmallEIdeal.main_v0_11) = v11 c
          ∧ r.2.mem ((c.tc : Thread Cert.SmallEIdeal.nD Cert.SmallEIdeal.τ).loc Cert.SmallEIdeal.main_arg0) = m ((c.tc : Thread Cert.SmallEIdeal.nD Cert.SmallEIdeal.τ).loc Cert.SmallEIdeal.main_arg0)
          ∧ r.2.mem ((c.tc : Thread Cert.SmallEIdeal.nD Cert.SmallEIdeal.τ).loc Cert.SmallEIdeal.main_arg1) = m ((c.tc : Thread Cert.SmallEIdeal.nD Cert.SmallEIdeal.τ).loc Cert.SmallEIdeal.main_arg1)
          ∧ r.2.mem ((c.tc : Thread Cert.SmallEIdeal.nD Cert.SmallEIdeal.τ).loc Cert.SmallEIdeal.main_arg2) = m ((c.tc : Thread Cert.SmallEIdeal.nD Cert.SmallEIdeal.τ).loc Cert.SmallEIdeal.main_arg2)
          ∧ r.2.mem ((c.tc : Thread Cert.SmallEIdeal.nD Cert.SmallEIdeal.τ).loc Cert.SmallEIdeal.main_arg3) = m ((c.tc : Thread Cert.SmallEIdeal.nD Cert.SmallEIdeal.τ).loc Cert.SmallEIdeal.main_arg3)
          ∧ r.2.mem ((c.tc : Thread Cert.SmallEIdeal.nD Cert.SmallEIdeal.τ).loc Cert.SmallEIdeal.main_arg4) = m ((c.tc : Thread Cert.SmallEIdeal.nD Cert.SmallEIdeal.τ).loc Cert.SmallEIdeal.main_arg4)
          ∧ r.2.mem ((c.tc : Thread Cert.SmallEIdeal.nD Cert.SmallEIdeal.τ).loc Cert.SmallEIdeal.main_arg5) = m ((c.tc : Thread Cert.SmallEIdeal.nD Cert.SmallEIdeal.τ).loc Cert.SmallEIdeal.main_arg5)
          ∧ r.2.mem ((c.tc : Thread Cert.SmallEIdeal.nD Cert.SmallEIdeal.τ).loc Cert.SmallEIdeal.main_arg6) = m ((c.tc : Thread Cert.SmallEIdeal.nD Cert.SmallEIdeal.τ).loc Cert.SmallEIdeal.main_arg6)
          ∧ r.2.mem ((c.tc : Thread Cert.SmallEIdeal.nD Cert.SmallEIdeal.τ).loc Cert.SmallEIdeal.main_arg7) = m ((c.tc : Thread Cert.SmallEIdeal.nD Cert.SmallEIdeal.τ).loc Cert.SmallEIdeal.main_arg7)
          ∧ r.2.mem ((c.tc : Thread Cert.SmallEIdeal.nD Cert.SmallEIdeal.τ).loc Cert.SmallEIdeal.main_arg8) = m ((c.tc : Thread Cert.SmallEIdeal.nD Cert.SmallEIdeal.τ).loc Cert.SmallEIdeal.main_arg8)
          ∧ r.2.mem ((c.tc : Thread Cert.SmallEIdeal.nD Cert.SmallEIdeal.τ).loc Cert.SmallEIdeal.main_arg9) = m ((c.tc : Thread Cert.SmallEIdeal.nD Cert.SmallEIdeal.τ).loc Cert.SmallEIdeal.main_arg9))
      ∧ θ_run (Cert.SmallERefIdeal.defs (F := Ideal)) (onTc (τ := Cert.SmallERefIdeal.τ) (Cert.SmallERefIdeal.main (F := Ideal))) ⟨m', fun _ => 0, g'⟩ (fun r => ∀ c : Dev Cert.SmallERefIdeal.nD,
          r.2.mem ((c.tc : Thread Cert.SmallERefIdeal.nD Cert.SmallERefIdeal.τ).loc Cert.SmallERefIdeal.main_v2) = v0 c
          ∧ r.2.mem ((c.tc : Thread Cert.SmallERefIdeal.nD Cert.SmallERefIdeal.τ).loc Cert.SmallERefIdeal.main_v26) = v1 c
          ∧ r.2.mem ((c.tc : Thread Cert.SmallERefIdeal.nD Cert.SmallERefIdeal.τ).loc Cert.SmallERefIdeal.main_v7) = v2 c
          ∧ r.2.mem ((c.tc : Thread Cert.SmallERefIdeal.nD Cert.SmallERefIdeal.τ).loc Cert.SmallERefIdeal.main_v13) = v3 c
          ∧ r.2.mem ((c.tc : Thread Cert.SmallERefIdeal.nD Cert.SmallERefIdeal.τ).loc Cert.SmallERefIdeal.main_v27) = v4 c
          ∧ r.2.mem ((c.tc : Thread Cert.SmallERefIdeal.nD Cert.SmallERefIdeal.τ).loc Cert.SmallERefIdeal.main_v51) = v5 c
          ∧ r.2.mem ((c.tc : Thread Cert.SmallERefIdeal.nD Cert.SmallERefIdeal.τ).loc Cert.SmallERefIdeal.main_v32) = v6 c
          ∧ r.2.mem ((c.tc : Thread Cert.SmallERefIdeal.nD Cert.SmallERefIdeal.τ).loc Cert.SmallERefIdeal.main_v38) = v7 c
          ∧ r.2.mem ((c.tc : Thread Cert.SmallERefIdeal.nD Cert.SmallERefIdeal.τ).loc Cert.SmallERefIdeal.main_v52) = v8 c
          ∧ r.2.mem ((c.tc : Thread Cert.SmallERefIdeal.nD Cert.SmallERefIdeal.τ).loc Cert.SmallERefIdeal.main_v76) = v9 c
          ∧ r.2.mem ((c.tc : Thread Cert.SmallERefIdeal.nD Cert.SmallERefIdeal.τ).loc Cert.SmallERefIdeal.main_v57) = v10 c
          ∧ r.2.mem ((c.tc : Thread Cert.SmallERefIdeal.nD Cert.SmallERefIdeal.τ).loc Cert.SmallERefIdeal.main_v63) = v11 c
          ∧ r.2.mem ((c.tc : Thread Cert.SmallERefIdeal.nD Cert.SmallERefIdeal.τ).loc Cert.SmallERefIdeal.main_arg0) = m' ((c.tc : Thread Cert.SmallERefIdeal.nD Cert.SmallERefIdeal.τ).loc Cert.SmallERefIdeal.main_arg0)
          ∧ r.2.mem ((c.tc : Thread Cert.SmallERefIdeal.nD Cert.SmallERefIdeal.τ).loc Cert.SmallERefIdeal.main_arg1) = m' ((c.tc : Thread Cert.SmallERefIdeal.nD Cert.SmallERefIdeal.τ).loc Cert.SmallERefIdeal.main_arg1)
          ∧ r.2.mem ((c.tc : Thread Cert.SmallERefIdeal.nD Cert.SmallERefIdeal.τ).loc Cert.SmallERefIdeal.main_arg2) = m' ((c.tc : Thread Cert.SmallERefIdeal.nD Cert.SmallERefIdeal.τ).loc Cert.SmallERefIdeal.main_arg2)
          ∧ r.2.mem ((c.tc : Thread Cert.SmallERefIdeal.nD Cert.SmallERefIdeal.τ).loc Cert.SmallERefIdeal.main_arg3) = m' ((c.tc : Thread Cert.SmallERefIdeal.nD Cert.SmallERefIdeal.τ).loc Cert.SmallERefIdeal.main_arg3)
          ∧ r.2.mem ((c.tc : Thread Cert.SmallERefIdeal.nD Cert.SmallERefIdeal.τ).loc Cert.SmallERefIdeal.main_arg4) = m' ((c.tc : Thread Cert.SmallERefIdeal.nD Cert.SmallERefIdeal.τ).loc Cert.SmallERefIdeal.main_arg4)
          ∧ r.2.mem ((c.tc : Thread Cert.SmallERefIdeal.nD Cert.SmallERefIdeal.τ).loc Cert.SmallERefIdeal.main_arg5) = m' ((c.tc : Thread Cert.SmallERefIdeal.nD Cert.SmallERefIdeal.τ).loc Cert.SmallERefIdeal.main_arg5)
          ∧ r.2.mem ((c.tc : Thread Cert.SmallERefIdeal.nD Cert.SmallERefIdeal.τ).loc Cert.SmallERefIdeal.main_arg6) = m' ((c.tc : Thread Cert.SmallERefIdeal.nD Cert.SmallERefIdeal.τ).loc Cert.SmallERefIdeal.main_arg6)
          ∧ r.2.mem ((c.tc : Thread Cert.SmallERefIdeal.nD Cert.SmallERefIdeal.τ).loc Cert.SmallERefIdeal.main_arg7) = m' ((c.tc : Thread Cert.SmallERefIdeal.nD Cert.SmallERefIdeal.τ).loc Cert.SmallERefIdeal.main_arg7)
          ∧ r.2.mem ((c.tc : Thread Cert.SmallERefIdeal.nD Cert.SmallERefIdeal.τ).loc Cert.SmallERefIdeal.main_arg8) = m' ((c.tc : Thread Cert.SmallERefIdeal.nD Cert.SmallERefIdeal.τ).loc Cert.SmallERefIdeal.main_arg8)
          ∧ r.2.mem ((c.tc : Thread Cert.SmallERefIdeal.nD Cert.SmallERefIdeal.τ).loc Cert.SmallERefIdeal.main_arg9) = m' ((c.tc : Thread Cert.SmallERefIdeal.nD Cert.SmallERefIdeal.τ).loc Cert.SmallERefIdeal.main_arg9))

def preserves_SmallF_SmallFIdeal : Prop :=
  True

def algebraic_SmallFIdeal_SmallFRefIdeal [hSmallFIdeal : Cert.SmallFIdeal.Facts] [hSmallFRefIdeal : Cert.SmallFRefIdeal.Facts] : Prop :=
  ∀ (m : (ℓ : Loc Cert.SmallFIdeal.nD Cert.SmallFIdeal.τ Cert.SmallFIdeal.sig) → Buf (Elt Ideal) ℓ) (g : Dev Cert.SmallFIdeal.nD → PrngReg)
    (m' : (ℓ : Loc Cert.SmallFRefIdeal.nD Cert.SmallFRefIdeal.τ Cert.SmallFRefIdeal.sig) → Buf (Elt Ideal) ℓ) (g' : Dev Cert.SmallFRefIdeal.nD → PrngReg), Pre_SmallFIdeal m →
    (∀ c : Dev Cert.SmallFIdeal.nD,
      m' ((c.tc : Thread Cert.SmallFRefIdeal.nD Cert.SmallFRefIdeal.τ).loc Cert.SmallFRefIdeal.main_arg0) = m ((c.tc : Thread Cert.SmallFIdeal.nD Cert.SmallFIdeal.τ).loc Cert.SmallFIdeal.main_arg0)
      ∧ m' ((c.tc : Thread Cert.SmallFRefIdeal.nD Cert.SmallFRefIdeal.τ).loc Cert.SmallFRefIdeal.main_arg1) = m ((c.tc : Thread Cert.SmallFIdeal.nD Cert.SmallFIdeal.τ).loc Cert.SmallFIdeal.main_arg1)
      ∧ m' ((c.tc : Thread Cert.SmallFRefIdeal.nD Cert.SmallFRefIdeal.τ).loc Cert.SmallFRefIdeal.main_arg2) = m ((c.tc : Thread Cert.SmallFIdeal.nD Cert.SmallFIdeal.τ).loc Cert.SmallFIdeal.main_arg2)
      ∧ m' ((c.tc : Thread Cert.SmallFRefIdeal.nD Cert.SmallFRefIdeal.τ).loc Cert.SmallFRefIdeal.main_arg3) = m ((c.tc : Thread Cert.SmallFIdeal.nD Cert.SmallFIdeal.τ).loc Cert.SmallFIdeal.main_arg3)) →
    ∃ (v0 : (c : Dev Cert.SmallFIdeal.nD) → Buf (Elt Ideal) ((c.tc : Thread Cert.SmallFIdeal.nD Cert.SmallFIdeal.τ).loc Cert.SmallFIdeal.main_v0_0)) (v1 : (c : Dev Cert.SmallFIdeal.nD) → Buf (Elt Ideal) ((c.tc : Thread Cert.SmallFIdeal.nD Cert.SmallFIdeal.τ).loc Cert.SmallFIdeal.main_v0_1)) (v2 : (c : Dev Cert.SmallFIdeal.nD) → Buf (Elt Ideal) ((c.tc : Thread Cert.SmallFIdeal.nD Cert.SmallFIdeal.τ).loc Cert.SmallFIdeal.main_v0_2)) (v3 : (c : Dev Cert.SmallFIdeal.nD) → Buf (Elt Ideal) ((c.tc : Thread Cert.SmallFIdeal.nD Cert.SmallFIdeal.τ).loc Cert.SmallFIdeal.main_v0_3)),
      θ_run (Cert.SmallFIdeal.defs (F := Ideal)) (onTc (τ := Cert.SmallFIdeal.τ) (Cert.SmallFIdeal.main (F := Ideal))) ⟨m, fun _ => 0, g⟩ (fun r => ∀ c : Dev Cert.SmallFIdeal.nD,
          r.2.mem ((c.tc : Thread Cert.SmallFIdeal.nD Cert.SmallFIdeal.τ).loc Cert.SmallFIdeal.main_v0_0) = v0 c
          ∧ r.2.mem ((c.tc : Thread Cert.SmallFIdeal.nD Cert.SmallFIdeal.τ).loc Cert.SmallFIdeal.main_v0_1) = v1 c
          ∧ r.2.mem ((c.tc : Thread Cert.SmallFIdeal.nD Cert.SmallFIdeal.τ).loc Cert.SmallFIdeal.main_v0_2) = v2 c
          ∧ r.2.mem ((c.tc : Thread Cert.SmallFIdeal.nD Cert.SmallFIdeal.τ).loc Cert.SmallFIdeal.main_v0_3) = v3 c
          ∧ r.2.mem ((c.tc : Thread Cert.SmallFIdeal.nD Cert.SmallFIdeal.τ).loc Cert.SmallFIdeal.main_arg0) = m ((c.tc : Thread Cert.SmallFIdeal.nD Cert.SmallFIdeal.τ).loc Cert.SmallFIdeal.main_arg0)
          ∧ r.2.mem ((c.tc : Thread Cert.SmallFIdeal.nD Cert.SmallFIdeal.τ).loc Cert.SmallFIdeal.main_arg1) = m ((c.tc : Thread Cert.SmallFIdeal.nD Cert.SmallFIdeal.τ).loc Cert.SmallFIdeal.main_arg1)
          ∧ r.2.mem ((c.tc : Thread Cert.SmallFIdeal.nD Cert.SmallFIdeal.τ).loc Cert.SmallFIdeal.main_arg2) = m ((c.tc : Thread Cert.SmallFIdeal.nD Cert.SmallFIdeal.τ).loc Cert.SmallFIdeal.main_arg2)
          ∧ r.2.mem ((c.tc : Thread Cert.SmallFIdeal.nD Cert.SmallFIdeal.τ).loc Cert.SmallFIdeal.main_arg3) = m ((c.tc : Thread Cert.SmallFIdeal.nD Cert.SmallFIdeal.τ).loc Cert.SmallFIdeal.main_arg3))
      ∧ θ_run (Cert.SmallFRefIdeal.defs (F := Ideal)) (onTc (τ := Cert.SmallFRefIdeal.τ) (Cert.SmallFRefIdeal.main (F := Ideal))) ⟨m', fun _ => 0, g'⟩ (fun r => ∀ c : Dev Cert.SmallFRefIdeal.nD,
          r.2.mem ((c.tc : Thread Cert.SmallFRefIdeal.nD Cert.SmallFRefIdeal.τ).loc Cert.SmallFRefIdeal.main_v2) = v0 c
          ∧ r.2.mem ((c.tc : Thread Cert.SmallFRefIdeal.nD Cert.SmallFRefIdeal.τ).loc Cert.SmallFRefIdeal.main_v26) = v1 c
          ∧ r.2.mem ((c.tc : Thread Cert.SmallFRefIdeal.nD Cert.SmallFRefIdeal.τ).loc Cert.SmallFRefIdeal.main_v7) = v2 c
          ∧ r.2.mem ((c.tc : Thread Cert.SmallFRefIdeal.nD Cert.SmallFRefIdeal.τ).loc Cert.SmallFRefIdeal.main_v13) = v3 c
          ∧ r.2.mem ((c.tc : Thread Cert.SmallFRefIdeal.nD Cert.SmallFRefIdeal.τ).loc Cert.SmallFRefIdeal.main_arg0) = m' ((c.tc : Thread Cert.SmallFRefIdeal.nD Cert.SmallFRefIdeal.τ).loc Cert.SmallFRefIdeal.main_arg0)
          ∧ r.2.mem ((c.tc : Thread Cert.SmallFRefIdeal.nD Cert.SmallFRefIdeal.τ).loc Cert.SmallFRefIdeal.main_arg1) = m' ((c.tc : Thread Cert.SmallFRefIdeal.nD Cert.SmallFRefIdeal.τ).loc Cert.SmallFRefIdeal.main_arg1)
          ∧ r.2.mem ((c.tc : Thread Cert.SmallFRefIdeal.nD Cert.SmallFRefIdeal.τ).loc Cert.SmallFRefIdeal.main_arg2) = m' ((c.tc : Thread Cert.SmallFRefIdeal.nD Cert.SmallFRefIdeal.τ).loc Cert.SmallFRefIdeal.main_arg2)
          ∧ r.2.mem ((c.tc : Thread Cert.SmallFRefIdeal.nD Cert.SmallFRefIdeal.τ).loc Cert.SmallFRefIdeal.main_arg3) = m' ((c.tc : Thread Cert.SmallFRefIdeal.nD Cert.SmallFRefIdeal.τ).loc Cert.SmallFRefIdeal.main_arg3))

def preserves_SmallG_SmallGIdeal : Prop :=
  True

def algebraic_SmallGIdeal_SmallGRefIdeal [hSmallGIdeal : Cert.SmallGIdeal.Facts] [hSmallGRefIdeal : Cert.SmallGRefIdeal.Facts] : Prop :=
  ∀ (m : (ℓ : Loc Cert.SmallGIdeal.nD Cert.SmallGIdeal.τ Cert.SmallGIdeal.sig) → Buf (Elt Ideal) ℓ) (g : Dev Cert.SmallGIdeal.nD → PrngReg)
    (m' : (ℓ : Loc Cert.SmallGRefIdeal.nD Cert.SmallGRefIdeal.τ Cert.SmallGRefIdeal.sig) → Buf (Elt Ideal) ℓ) (g' : Dev Cert.SmallGRefIdeal.nD → PrngReg), Pre_SmallGIdeal m →
    (∀ c : Dev Cert.SmallGIdeal.nD,
      m' ((c.tc : Thread Cert.SmallGRefIdeal.nD Cert.SmallGRefIdeal.τ).loc Cert.SmallGRefIdeal.main_arg0) = m ((c.tc : Thread Cert.SmallGIdeal.nD Cert.SmallGIdeal.τ).loc Cert.SmallGIdeal.main_arg0)
      ∧ m' ((c.tc : Thread Cert.SmallGRefIdeal.nD Cert.SmallGRefIdeal.τ).loc Cert.SmallGRefIdeal.main_arg1) = m ((c.tc : Thread Cert.SmallGIdeal.nD Cert.SmallGIdeal.τ).loc Cert.SmallGIdeal.main_arg1)
      ∧ m' ((c.tc : Thread Cert.SmallGRefIdeal.nD Cert.SmallGRefIdeal.τ).loc Cert.SmallGRefIdeal.main_arg2) = m ((c.tc : Thread Cert.SmallGIdeal.nD Cert.SmallGIdeal.τ).loc Cert.SmallGIdeal.main_arg2)
      ∧ m' ((c.tc : Thread Cert.SmallGRefIdeal.nD Cert.SmallGRefIdeal.τ).loc Cert.SmallGRefIdeal.main_arg3) = m ((c.tc : Thread Cert.SmallGIdeal.nD Cert.SmallGIdeal.τ).loc Cert.SmallGIdeal.main_arg3)
      ∧ m' ((c.tc : Thread Cert.SmallGRefIdeal.nD Cert.SmallGRefIdeal.τ).loc Cert.SmallGRefIdeal.main_arg4) = m ((c.tc : Thread Cert.SmallGIdeal.nD Cert.SmallGIdeal.τ).loc Cert.SmallGIdeal.main_arg4)
      ∧ m' ((c.tc : Thread Cert.SmallGRefIdeal.nD Cert.SmallGRefIdeal.τ).loc Cert.SmallGRefIdeal.main_arg5) = m ((c.tc : Thread Cert.SmallGIdeal.nD Cert.SmallGIdeal.τ).loc Cert.SmallGIdeal.main_arg5)
      ∧ m' ((c.tc : Thread Cert.SmallGRefIdeal.nD Cert.SmallGRefIdeal.τ).loc Cert.SmallGRefIdeal.main_arg6) = m ((c.tc : Thread Cert.SmallGIdeal.nD Cert.SmallGIdeal.τ).loc Cert.SmallGIdeal.main_arg6)) →
    ∃ (v0 : (c : Dev Cert.SmallGIdeal.nD) → Buf (Elt Ideal) ((c.tc : Thread Cert.SmallGIdeal.nD Cert.SmallGIdeal.τ).loc Cert.SmallGIdeal.main_v0_0)) (v1 : (c : Dev Cert.SmallGIdeal.nD) → Buf (Elt Ideal) ((c.tc : Thread Cert.SmallGIdeal.nD Cert.SmallGIdeal.τ).loc Cert.SmallGIdeal.main_v0_1)) (v2 : (c : Dev Cert.SmallGIdeal.nD) → Buf (Elt Ideal) ((c.tc : Thread Cert.SmallGIdeal.nD Cert.SmallGIdeal.τ).loc Cert.SmallGIdeal.main_v0_2)) (v3 : (c : Dev Cert.SmallGIdeal.nD) → Buf (Elt Ideal) ((c.tc : Thread Cert.SmallGIdeal.nD Cert.SmallGIdeal.τ).loc Cert.SmallGIdeal.main_v0_3)) (v4 : (c : Dev Cert.SmallGIdeal.nD) → Buf (Elt Ideal) ((c.tc : Thread Cert.SmallGIdeal.nD Cert.SmallGIdeal.τ).loc Cert.SmallGIdeal.main_v0_4)) (v5 : (c : Dev Cert.SmallGIdeal.nD) → Buf (Elt Ideal) ((c.tc : Thread Cert.SmallGIdeal.nD Cert.SmallGIdeal.τ).loc Cert.SmallGIdeal.main_v0_5)) (v6 : (c : Dev Cert.SmallGIdeal.nD) → Buf (Elt Ideal) ((c.tc : Thread Cert.SmallGIdeal.nD Cert.SmallGIdeal.τ).loc Cert.SmallGIdeal.main_v0_6)) (v7 : (c : Dev Cert.SmallGIdeal.nD) → Buf (Elt Ideal) ((c.tc : Thread Cert.SmallGIdeal.nD Cert.SmallGIdeal.τ).loc Cert.SmallGIdeal.main_v0_7)),
      θ_run (Cert.SmallGIdeal.defs (F := Ideal)) (onTc (τ := Cert.SmallGIdeal.τ) (Cert.SmallGIdeal.main (F := Ideal))) ⟨m, fun _ => 0, g⟩ (fun r => ∀ c : Dev Cert.SmallGIdeal.nD,
          r.2.mem ((c.tc : Thread Cert.SmallGIdeal.nD Cert.SmallGIdeal.τ).loc Cert.SmallGIdeal.main_v0_0) = v0 c
          ∧ r.2.mem ((c.tc : Thread Cert.SmallGIdeal.nD Cert.SmallGIdeal.τ).loc Cert.SmallGIdeal.main_v0_1) = v1 c
          ∧ r.2.mem ((c.tc : Thread Cert.SmallGIdeal.nD Cert.SmallGIdeal.τ).loc Cert.SmallGIdeal.main_v0_2) = v2 c
          ∧ r.2.mem ((c.tc : Thread Cert.SmallGIdeal.nD Cert.SmallGIdeal.τ).loc Cert.SmallGIdeal.main_v0_3) = v3 c
          ∧ r.2.mem ((c.tc : Thread Cert.SmallGIdeal.nD Cert.SmallGIdeal.τ).loc Cert.SmallGIdeal.main_v0_4) = v4 c
          ∧ r.2.mem ((c.tc : Thread Cert.SmallGIdeal.nD Cert.SmallGIdeal.τ).loc Cert.SmallGIdeal.main_v0_5) = v5 c
          ∧ r.2.mem ((c.tc : Thread Cert.SmallGIdeal.nD Cert.SmallGIdeal.τ).loc Cert.SmallGIdeal.main_v0_6) = v6 c
          ∧ r.2.mem ((c.tc : Thread Cert.SmallGIdeal.nD Cert.SmallGIdeal.τ).loc Cert.SmallGIdeal.main_v0_7) = v7 c
          ∧ r.2.mem ((c.tc : Thread Cert.SmallGIdeal.nD Cert.SmallGIdeal.τ).loc Cert.SmallGIdeal.main_arg0) = m ((c.tc : Thread Cert.SmallGIdeal.nD Cert.SmallGIdeal.τ).loc Cert.SmallGIdeal.main_arg0)
          ∧ r.2.mem ((c.tc : Thread Cert.SmallGIdeal.nD Cert.SmallGIdeal.τ).loc Cert.SmallGIdeal.main_arg1) = m ((c.tc : Thread Cert.SmallGIdeal.nD Cert.SmallGIdeal.τ).loc Cert.SmallGIdeal.main_arg1)
          ∧ r.2.mem ((c.tc : Thread Cert.SmallGIdeal.nD Cert.SmallGIdeal.τ).loc Cert.SmallGIdeal.main_arg2) = m ((c.tc : Thread Cert.SmallGIdeal.nD Cert.SmallGIdeal.τ).loc Cert.SmallGIdeal.main_arg2)
          ∧ r.2.mem ((c.tc : Thread Cert.SmallGIdeal.nD Cert.SmallGIdeal.τ).loc Cert.SmallGIdeal.main_arg3) = m ((c.tc : Thread Cert.SmallGIdeal.nD Cert.SmallGIdeal.τ).loc Cert.SmallGIdeal.main_arg3)
          ∧ r.2.mem ((c.tc : Thread Cert.SmallGIdeal.nD Cert.SmallGIdeal.τ).loc Cert.SmallGIdeal.main_arg4) = m ((c.tc : Thread Cert.SmallGIdeal.nD Cert.SmallGIdeal.τ).loc Cert.SmallGIdeal.main_arg4)
          ∧ r.2.mem ((c.tc : Thread Cert.SmallGIdeal.nD Cert.SmallGIdeal.τ).loc Cert.SmallGIdeal.main_arg5) = m ((c.tc : Thread Cert.SmallGIdeal.nD Cert.SmallGIdeal.τ).loc Cert.SmallGIdeal.main_arg5)
          ∧ r.2.mem ((c.tc : Thread Cert.SmallGIdeal.nD Cert.SmallGIdeal.τ).loc Cert.SmallGIdeal.main_arg6) = m ((c.tc : Thread Cert.SmallGIdeal.nD Cert.SmallGIdeal.τ).loc Cert.SmallGIdeal.main_arg6))
      ∧ θ_run (Cert.SmallGRefIdeal.defs (F := Ideal)) (onTc (τ := Cert.SmallGRefIdeal.τ) (Cert.SmallGRefIdeal.main (F := Ideal))) ⟨m', fun _ => 0, g'⟩ (fun r => ∀ c : Dev Cert.SmallGRefIdeal.nD,
          r.2.mem ((c.tc : Thread Cert.SmallGRefIdeal.nD Cert.SmallGRefIdeal.τ).loc Cert.SmallGRefIdeal.main_v2) = v0 c
          ∧ r.2.mem ((c.tc : Thread Cert.SmallGRefIdeal.nD Cert.SmallGRefIdeal.τ).loc Cert.SmallGRefIdeal.main_v26) = v1 c
          ∧ r.2.mem ((c.tc : Thread Cert.SmallGRefIdeal.nD Cert.SmallGRefIdeal.τ).loc Cert.SmallGRefIdeal.main_v7) = v2 c
          ∧ r.2.mem ((c.tc : Thread Cert.SmallGRefIdeal.nD Cert.SmallGRefIdeal.τ).loc Cert.SmallGRefIdeal.main_v13) = v3 c
          ∧ r.2.mem ((c.tc : Thread Cert.SmallGRefIdeal.nD Cert.SmallGRefIdeal.τ).loc Cert.SmallGRefIdeal.main_v27) = v4 c
          ∧ r.2.mem ((c.tc : Thread Cert.SmallGRefIdeal.nD Cert.SmallGRefIdeal.τ).loc Cert.SmallGRefIdeal.main_v51) = v5 c
          ∧ r.2.mem ((c.tc : Thread Cert.SmallGRefIdeal.nD Cert.SmallGRefIdeal.τ).loc Cert.SmallGRefIdeal.main_v32) = v6 c
          ∧ r.2.mem ((c.tc : Thread Cert.SmallGRefIdeal.nD Cert.SmallGRefIdeal.τ).loc Cert.SmallGRefIdeal.main_v38) = v7 c
          ∧ r.2.mem ((c.tc : Thread Cert.SmallGRefIdeal.nD Cert.SmallGRefIdeal.τ).loc Cert.SmallGRefIdeal.main_arg0) = m' ((c.tc : Thread Cert.SmallGRefIdeal.nD Cert.SmallGRefIdeal.τ).loc Cert.SmallGRefIdeal.main_arg0)
          ∧ r.2.mem ((c.tc : Thread Cert.SmallGRefIdeal.nD Cert.SmallGRefIdeal.τ).loc Cert.SmallGRefIdeal.main_arg1) = m' ((c.tc : Thread Cert.SmallGRefIdeal.nD Cert.SmallGRefIdeal.τ).loc Cert.SmallGRefIdeal.main_arg1)
          ∧ r.2.mem ((c.tc : Thread Cert.SmallGRefIdeal.nD Cert.SmallGRefIdeal.τ).loc Cert.SmallGRefIdeal.main_arg2) = m' ((c.tc : Thread Cert.SmallGRefIdeal.nD Cert.SmallGRefIdeal.τ).loc Cert.SmallGRefIdeal.main_arg2)
          ∧ r.2.mem ((c.tc : Thread Cert.SmallGRefIdeal.nD Cert.SmallGRefIdeal.τ).loc Cert.SmallGRefIdeal.main_arg3) = m' ((c.tc : Thread Cert.SmallGRefIdeal.nD Cert.SmallGRefIdeal.τ).loc Cert.SmallGRefIdeal.main_arg3)
          ∧ r.2.mem ((c.tc : Thread Cert.SmallGRefIdeal.nD Cert.SmallGRefIdeal.τ).loc Cert.SmallGRefIdeal.main_arg4) = m' ((c.tc : Thread Cert.SmallGRefIdeal.nD Cert.SmallGRefIdeal.τ).loc Cert.SmallGRefIdeal.main_arg4)
          ∧ r.2.mem ((c.tc : Thread Cert.SmallGRefIdeal.nD Cert.SmallGRefIdeal.τ).loc Cert.SmallGRefIdeal.main_arg5) = m' ((c.tc : Thread Cert.SmallGRefIdeal.nD Cert.SmallGRefIdeal.τ).loc Cert.SmallGRefIdeal.main_arg5)
          ∧ r.2.mem ((c.tc : Thread Cert.SmallGRefIdeal.nD Cert.SmallGRefIdeal.τ).loc Cert.SmallGRefIdeal.main_arg6) = m' ((c.tc : Thread Cert.SmallGRefIdeal.nD Cert.SmallGRefIdeal.τ).loc Cert.SmallGRefIdeal.main_arg6))

def preserves_SmallH_SmallHIdeal : Prop :=
  True

def algebraic_SmallHIdeal_SmallHRefIdeal [hSmallHIdeal : Cert.SmallHIdeal.Facts] [hSmallHRefIdeal : Cert.SmallHRefIdeal.Facts] : Prop :=
  ∀ (m : (ℓ : Loc Cert.SmallHIdeal.nD Cert.SmallHIdeal.τ Cert.SmallHIdeal.sig) → Buf (Elt Ideal) ℓ) (g : Dev Cert.SmallHIdeal.nD → PrngReg)
    (m' : (ℓ : Loc Cert.SmallHRefIdeal.nD Cert.SmallHRefIdeal.τ Cert.SmallHRefIdeal.sig) → Buf (Elt Ideal) ℓ) (g' : Dev Cert.SmallHRefIdeal.nD → PrngReg), Pre_SmallHIdeal m →
    (∀ c : Dev Cert.SmallHIdeal.nD,
      m' ((c.tc : Thread Cert.SmallHRefIdeal.nD Cert.SmallHRefIdeal.τ).loc Cert.SmallHRefIdeal.main_arg0) = m ((c.tc : Thread Cert.SmallHIdeal.nD Cert.SmallHIdeal.τ).loc Cert.SmallHIdeal.main_arg0)
      ∧ m' ((c.tc : Thread Cert.SmallHRefIdeal.nD Cert.SmallHRefIdeal.τ).loc Cert.SmallHRefIdeal.main_arg1) = m ((c.tc : Thread Cert.SmallHIdeal.nD Cert.SmallHIdeal.τ).loc Cert.SmallHIdeal.main_arg1)
      ∧ m' ((c.tc : Thread Cert.SmallHRefIdeal.nD Cert.SmallHRefIdeal.τ).loc Cert.SmallHRefIdeal.main_arg2) = m ((c.tc : Thread Cert.SmallHIdeal.nD Cert.SmallHIdeal.τ).loc Cert.SmallHIdeal.main_arg2)
      ∧ m' ((c.tc : Thread Cert.SmallHRefIdeal.nD Cert.SmallHRefIdeal.τ).loc Cert.SmallHRefIdeal.main_arg3) = m ((c.tc : Thread Cert.SmallHIdeal.nD Cert.SmallHIdeal.τ).loc Cert.SmallHIdeal.main_arg3)
      ∧ m' ((c.tc : Thread Cert.SmallHRefIdeal.nD Cert.SmallHRefIdeal.τ).loc Cert.SmallHRefIdeal.main_arg4) = m ((c.tc : Thread Cert.SmallHIdeal.nD Cert.SmallHIdeal.τ).loc Cert.SmallHIdeal.main_arg4)
      ∧ m' ((c.tc : Thread Cert.SmallHRefIdeal.nD Cert.SmallHRefIdeal.τ).loc Cert.SmallHRefIdeal.main_arg5) = m ((c.tc : Thread Cert.SmallHIdeal.nD Cert.SmallHIdeal.τ).loc Cert.SmallHIdeal.main_arg5)
      ∧ m' ((c.tc : Thread Cert.SmallHRefIdeal.nD Cert.SmallHRefIdeal.τ).loc Cert.SmallHRefIdeal.main_arg6) = m ((c.tc : Thread Cert.SmallHIdeal.nD Cert.SmallHIdeal.τ).loc Cert.SmallHIdeal.main_arg6)) →
    ∃ (v0 : (c : Dev Cert.SmallHIdeal.nD) → Buf (Elt Ideal) ((c.tc : Thread Cert.SmallHIdeal.nD Cert.SmallHIdeal.τ).loc Cert.SmallHIdeal.main_v0_0)) (v1 : (c : Dev Cert.SmallHIdeal.nD) → Buf (Elt Ideal) ((c.tc : Thread Cert.SmallHIdeal.nD Cert.SmallHIdeal.τ).loc Cert.SmallHIdeal.main_v0_1)) (v2 : (c : Dev Cert.SmallHIdeal.nD) → Buf (Elt Ideal) ((c.tc : Thread Cert.SmallHIdeal.nD Cert.SmallHIdeal.τ).loc Cert.SmallHIdeal.main_v0_2)) (v3 : (c : Dev Cert.SmallHIdeal.nD) → Buf (Elt Ideal) ((c.tc : Thread Cert.SmallHIdeal.nD Cert.SmallHIdeal.τ).loc Cert.SmallHIdeal.main_v0_3)) (v4 : (c : Dev Cert.SmallHIdeal.nD) → Buf (Elt Ideal) ((c.tc : Thread Cert.SmallHIdeal.nD Cert.SmallHIdeal.τ).loc Cert.SmallHIdeal.main_v0_4)) (v5 : (c : Dev Cert.SmallHIdeal.nD) → Buf (Elt Ideal) ((c.tc : Thread Cert.SmallHIdeal.nD Cert.SmallHIdeal.τ).loc Cert.SmallHIdeal.main_v0_5)) (v6 : (c : Dev Cert.SmallHIdeal.nD) → Buf (Elt Ideal) ((c.tc : Thread Cert.SmallHIdeal.nD Cert.SmallHIdeal.τ).loc Cert.SmallHIdeal.main_v0_6)) (v7 : (c : Dev Cert.SmallHIdeal.nD) → Buf (Elt Ideal) ((c.tc : Thread Cert.SmallHIdeal.nD Cert.SmallHIdeal.τ).loc Cert.SmallHIdeal.main_v0_7)),
      θ_run (Cert.SmallHIdeal.defs (F := Ideal)) (onTc (τ := Cert.SmallHIdeal.τ) (Cert.SmallHIdeal.main (F := Ideal))) ⟨m, fun _ => 0, g⟩ (fun r => ∀ c : Dev Cert.SmallHIdeal.nD,
          r.2.mem ((c.tc : Thread Cert.SmallHIdeal.nD Cert.SmallHIdeal.τ).loc Cert.SmallHIdeal.main_v0_0) = v0 c
          ∧ r.2.mem ((c.tc : Thread Cert.SmallHIdeal.nD Cert.SmallHIdeal.τ).loc Cert.SmallHIdeal.main_v0_1) = v1 c
          ∧ r.2.mem ((c.tc : Thread Cert.SmallHIdeal.nD Cert.SmallHIdeal.τ).loc Cert.SmallHIdeal.main_v0_2) = v2 c
          ∧ r.2.mem ((c.tc : Thread Cert.SmallHIdeal.nD Cert.SmallHIdeal.τ).loc Cert.SmallHIdeal.main_v0_3) = v3 c
          ∧ r.2.mem ((c.tc : Thread Cert.SmallHIdeal.nD Cert.SmallHIdeal.τ).loc Cert.SmallHIdeal.main_v0_4) = v4 c
          ∧ r.2.mem ((c.tc : Thread Cert.SmallHIdeal.nD Cert.SmallHIdeal.τ).loc Cert.SmallHIdeal.main_v0_5) = v5 c
          ∧ r.2.mem ((c.tc : Thread Cert.SmallHIdeal.nD Cert.SmallHIdeal.τ).loc Cert.SmallHIdeal.main_v0_6) = v6 c
          ∧ r.2.mem ((c.tc : Thread Cert.SmallHIdeal.nD Cert.SmallHIdeal.τ).loc Cert.SmallHIdeal.main_v0_7) = v7 c
          ∧ r.2.mem ((c.tc : Thread Cert.SmallHIdeal.nD Cert.SmallHIdeal.τ).loc Cert.SmallHIdeal.main_arg0) = m ((c.tc : Thread Cert.SmallHIdeal.nD Cert.SmallHIdeal.τ).loc Cert.SmallHIdeal.main_arg0)
          ∧ r.2.mem ((c.tc : Thread Cert.SmallHIdeal.nD Cert.SmallHIdeal.τ).loc Cert.SmallHIdeal.main_arg1) = m ((c.tc : Thread Cert.SmallHIdeal.nD Cert.SmallHIdeal.τ).loc Cert.SmallHIdeal.main_arg1)
          ∧ r.2.mem ((c.tc : Thread Cert.SmallHIdeal.nD Cert.SmallHIdeal.τ).loc Cert.SmallHIdeal.main_arg2) = m ((c.tc : Thread Cert.SmallHIdeal.nD Cert.SmallHIdeal.τ).loc Cert.SmallHIdeal.main_arg2)
          ∧ r.2.mem ((c.tc : Thread Cert.SmallHIdeal.nD Cert.SmallHIdeal.τ).loc Cert.SmallHIdeal.main_arg3) = m ((c.tc : Thread Cert.SmallHIdeal.nD Cert.SmallHIdeal.τ).loc Cert.SmallHIdeal.main_arg3)
          ∧ r.2.mem ((c.tc : Thread Cert.SmallHIdeal.nD Cert.SmallHIdeal.τ).loc Cert.SmallHIdeal.main_arg4) = m ((c.tc : Thread Cert.SmallHIdeal.nD Cert.SmallHIdeal.τ).loc Cert.SmallHIdeal.main_arg4)
          ∧ r.2.mem ((c.tc : Thread Cert.SmallHIdeal.nD Cert.SmallHIdeal.τ).loc Cert.SmallHIdeal.main_arg5) = m ((c.tc : Thread Cert.SmallHIdeal.nD Cert.SmallHIdeal.τ).loc Cert.SmallHIdeal.main_arg5)
          ∧ r.2.mem ((c.tc : Thread Cert.SmallHIdeal.nD Cert.SmallHIdeal.τ).loc Cert.SmallHIdeal.main_arg6) = m ((c.tc : Thread Cert.SmallHIdeal.nD Cert.SmallHIdeal.τ).loc Cert.SmallHIdeal.main_arg6))
      ∧ θ_run (Cert.SmallHRefIdeal.defs (F := Ideal)) (onTc (τ := Cert.SmallHRefIdeal.τ) (Cert.SmallHRefIdeal.main (F := Ideal))) ⟨m', fun _ => 0, g'⟩ (fun r => ∀ c : Dev Cert.SmallHRefIdeal.nD,
          r.2.mem ((c.tc : Thread Cert.SmallHRefIdeal.nD Cert.SmallHRefIdeal.τ).loc Cert.SmallHRefIdeal.main_v2) = v0 c
          ∧ r.2.mem ((c.tc : Thread Cert.SmallHRefIdeal.nD Cert.SmallHRefIdeal.τ).loc Cert.SmallHRefIdeal.main_v26) = v1 c
          ∧ r.2.mem ((c.tc : Thread Cert.SmallHRefIdeal.nD Cert.SmallHRefIdeal.τ).loc Cert.SmallHRefIdeal.main_v7) = v2 c
          ∧ r.2.mem ((c.tc : Thread Cert.SmallHRefIdeal.nD Cert.SmallHRefIdeal.τ).loc Cert.SmallHRefIdeal.main_v13) = v3 c
          ∧ r.2.mem ((c.tc : Thread Cert.SmallHRefIdeal.nD Cert.SmallHRefIdeal.τ).loc Cert.SmallHRefIdeal.main_v27) = v4 c
          ∧ r.2.mem ((c.tc : Thread Cert.SmallHRefIdeal.nD Cert.SmallHRefIdeal.τ).loc Cert.SmallHRefIdeal.main_v51) = v5 c
          ∧ r.2.mem ((c.tc : Thread Cert.SmallHRefIdeal.nD Cert.SmallHRefIdeal.τ).loc Cert.SmallHRefIdeal.main_v32) = v6 c
          ∧ r.2.mem ((c.tc : Thread Cert.SmallHRefIdeal.nD Cert.SmallHRefIdeal.τ).loc Cert.SmallHRefIdeal.main_v38) = v7 c
          ∧ r.2.mem ((c.tc : Thread Cert.SmallHRefIdeal.nD Cert.SmallHRefIdeal.τ).loc Cert.SmallHRefIdeal.main_arg0) = m' ((c.tc : Thread Cert.SmallHRefIdeal.nD Cert.SmallHRefIdeal.τ).loc Cert.SmallHRefIdeal.main_arg0)
          ∧ r.2.mem ((c.tc : Thread Cert.SmallHRefIdeal.nD Cert.SmallHRefIdeal.τ).loc Cert.SmallHRefIdeal.main_arg1) = m' ((c.tc : Thread Cert.SmallHRefIdeal.nD Cert.SmallHRefIdeal.τ).loc Cert.SmallHRefIdeal.main_arg1)
          ∧ r.2.mem ((c.tc : Thread Cert.SmallHRefIdeal.nD Cert.SmallHRefIdeal.τ).loc Cert.SmallHRefIdeal.main_arg2) = m' ((c.tc : Thread Cert.SmallHRefIdeal.nD Cert.SmallHRefIdeal.τ).loc Cert.SmallHRefIdeal.main_arg2)
          ∧ r.2.mem ((c.tc : Thread Cert.SmallHRefIdeal.nD Cert.SmallHRefIdeal.τ).loc Cert.SmallHRefIdeal.main_arg3) = m' ((c.tc : Thread Cert.SmallHRefIdeal.nD Cert.SmallHRefIdeal.τ).loc Cert.SmallHRefIdeal.main_arg3)
          ∧ r.2.mem ((c.tc : Thread Cert.SmallHRefIdeal.nD Cert.SmallHRefIdeal.τ).loc Cert.SmallHRefIdeal.main_arg4) = m' ((c.tc : Thread Cert.SmallHRefIdeal.nD Cert.SmallHRefIdeal.τ).loc Cert.SmallHRefIdeal.main_arg4)
          ∧ r.2.mem ((c.tc : Thread Cert.SmallHRefIdeal.nD Cert.SmallHRefIdeal.τ).loc Cert.SmallHRefIdeal.main_arg5) = m' ((c.tc : Thread Cert.SmallHRefIdeal.nD Cert.SmallHRefIdeal.τ).loc Cert.SmallHRefIdeal.main_arg5)
          ∧ r.2.mem ((c.tc : Thread Cert.SmallHRefIdeal.nD Cert.SmallHRefIdeal.τ).loc Cert.SmallHRefIdeal.main_arg6) = m' ((c.tc : Thread Cert.SmallHRefIdeal.nD Cert.SmallHRefIdeal.τ).loc Cert.SmallHRefIdeal.main_arg6))

def preserves_SmallI_SmallIIdeal : Prop :=
  True

def algebraic_SmallIIdeal_SmallIRefIdeal [hSmallIIdeal : Cert.SmallIIdeal.Facts] [hSmallIRefIdeal : Cert.SmallIRefIdeal.Facts] : Prop :=
  ∀ (m : (ℓ : Loc Cert.SmallIIdeal.nD Cert.SmallIIdeal.τ Cert.SmallIIdeal.sig) → Buf (Elt Ideal) ℓ) (g : Dev Cert.SmallIIdeal.nD → PrngReg)
    (m' : (ℓ : Loc Cert.SmallIRefIdeal.nD Cert.SmallIRefIdeal.τ Cert.SmallIRefIdeal.sig) → Buf (Elt Ideal) ℓ) (g' : Dev Cert.SmallIRefIdeal.nD → PrngReg), Pre_SmallIIdeal m →
    (∀ c : Dev Cert.SmallIIdeal.nD,
      m' ((c.tc : Thread Cert.SmallIRefIdeal.nD Cert.SmallIRefIdeal.τ).loc Cert.SmallIRefIdeal.main_arg0) = m ((c.tc : Thread Cert.SmallIIdeal.nD Cert.SmallIIdeal.τ).loc Cert.SmallIIdeal.main_arg0)
      ∧ m' ((c.tc : Thread Cert.SmallIRefIdeal.nD Cert.SmallIRefIdeal.τ).loc Cert.SmallIRefIdeal.main_arg1) = m ((c.tc : Thread Cert.SmallIIdeal.nD Cert.SmallIIdeal.τ).loc Cert.SmallIIdeal.main_arg1)
      ∧ m' ((c.tc : Thread Cert.SmallIRefIdeal.nD Cert.SmallIRefIdeal.τ).loc Cert.SmallIRefIdeal.main_arg2) = m ((c.tc : Thread Cert.SmallIIdeal.nD Cert.SmallIIdeal.τ).loc Cert.SmallIIdeal.main_arg2)
      ∧ m' ((c.tc : Thread Cert.SmallIRefIdeal.nD Cert.SmallIRefIdeal.τ).loc Cert.SmallIRefIdeal.main_arg3) = m ((c.tc : Thread Cert.SmallIIdeal.nD Cert.SmallIIdeal.τ).loc Cert.SmallIIdeal.main_arg3)
      ∧ m' ((c.tc : Thread Cert.SmallIRefIdeal.nD Cert.SmallIRefIdeal.τ).loc Cert.SmallIRefIdeal.main_arg4) = m ((c.tc : Thread Cert.SmallIIdeal.nD Cert.SmallIIdeal.τ).loc Cert.SmallIIdeal.main_arg4)
      ∧ m' ((c.tc : Thread Cert.SmallIRefIdeal.nD Cert.SmallIRefIdeal.τ).loc Cert.SmallIRefIdeal.main_arg5) = m ((c.tc : Thread Cert.SmallIIdeal.nD Cert.SmallIIdeal.τ).loc Cert.SmallIIdeal.main_arg5)
      ∧ m' ((c.tc : Thread Cert.SmallIRefIdeal.nD Cert.SmallIRefIdeal.τ).loc Cert.SmallIRefIdeal.main_arg6) = m ((c.tc : Thread Cert.SmallIIdeal.nD Cert.SmallIIdeal.τ).loc Cert.SmallIIdeal.main_arg6)) →
    ∃ (v0 : (c : Dev Cert.SmallIIdeal.nD) → Buf (Elt Ideal) ((c.tc : Thread Cert.SmallIIdeal.nD Cert.SmallIIdeal.τ).loc Cert.SmallIIdeal.main_v0_0)) (v1 : (c : Dev Cert.SmallIIdeal.nD) → Buf (Elt Ideal) ((c.tc : Thread Cert.SmallIIdeal.nD Cert.SmallIIdeal.τ).loc Cert.SmallIIdeal.main_v0_1)) (v2 : (c : Dev Cert.SmallIIdeal.nD) → Buf (Elt Ideal) ((c.tc : Thread Cert.SmallIIdeal.nD Cert.SmallIIdeal.τ).loc Cert.SmallIIdeal.main_v0_2)) (v3 : (c : Dev Cert.SmallIIdeal.nD) → Buf (Elt Ideal) ((c.tc : Thread Cert.SmallIIdeal.nD Cert.SmallIIdeal.τ).loc Cert.SmallIIdeal.main_v0_3)) (v4 : (c : Dev Cert.SmallIIdeal.nD) → Buf (Elt Ideal) ((c.tc : Thread Cert.SmallIIdeal.nD Cert.SmallIIdeal.τ).loc Cert.SmallIIdeal.main_v0_4)) (v5 : (c : Dev Cert.SmallIIdeal.nD) → Buf (Elt Ideal) ((c.tc : Thread Cert.SmallIIdeal.nD Cert.SmallIIdeal.τ).loc Cert.SmallIIdeal.main_v0_5)) (v6 : (c : Dev Cert.SmallIIdeal.nD) → Buf (Elt Ideal) ((c.tc : Thread Cert.SmallIIdeal.nD Cert.SmallIIdeal.τ).loc Cert.SmallIIdeal.main_v0_6)) (v7 : (c : Dev Cert.SmallIIdeal.nD) → Buf (Elt Ideal) ((c.tc : Thread Cert.SmallIIdeal.nD Cert.SmallIIdeal.τ).loc Cert.SmallIIdeal.main_v0_7)),
      θ_run (Cert.SmallIIdeal.defs (F := Ideal)) (onTc (τ := Cert.SmallIIdeal.τ) (Cert.SmallIIdeal.main (F := Ideal))) ⟨m, fun _ => 0, g⟩ (fun r => ∀ c : Dev Cert.SmallIIdeal.nD,
          r.2.mem ((c.tc : Thread Cert.SmallIIdeal.nD Cert.SmallIIdeal.τ).loc Cert.SmallIIdeal.main_v0_0) = v0 c
          ∧ r.2.mem ((c.tc : Thread Cert.SmallIIdeal.nD Cert.SmallIIdeal.τ).loc Cert.SmallIIdeal.main_v0_1) = v1 c
          ∧ r.2.mem ((c.tc : Thread Cert.SmallIIdeal.nD Cert.SmallIIdeal.τ).loc Cert.SmallIIdeal.main_v0_2) = v2 c
          ∧ r.2.mem ((c.tc : Thread Cert.SmallIIdeal.nD Cert.SmallIIdeal.τ).loc Cert.SmallIIdeal.main_v0_3) = v3 c
          ∧ r.2.mem ((c.tc : Thread Cert.SmallIIdeal.nD Cert.SmallIIdeal.τ).loc Cert.SmallIIdeal.main_v0_4) = v4 c
          ∧ r.2.mem ((c.tc : Thread Cert.SmallIIdeal.nD Cert.SmallIIdeal.τ).loc Cert.SmallIIdeal.main_v0_5) = v5 c
          ∧ r.2.mem ((c.tc : Thread Cert.SmallIIdeal.nD Cert.SmallIIdeal.τ).loc Cert.SmallIIdeal.main_v0_6) = v6 c
          ∧ r.2.mem ((c.tc : Thread Cert.SmallIIdeal.nD Cert.SmallIIdeal.τ).loc Cert.SmallIIdeal.main_v0_7) = v7 c
          ∧ r.2.mem ((c.tc : Thread Cert.SmallIIdeal.nD Cert.SmallIIdeal.τ).loc Cert.SmallIIdeal.main_arg0) = m ((c.tc : Thread Cert.SmallIIdeal.nD Cert.SmallIIdeal.τ).loc Cert.SmallIIdeal.main_arg0)
          ∧ r.2.mem ((c.tc : Thread Cert.SmallIIdeal.nD Cert.SmallIIdeal.τ).loc Cert.SmallIIdeal.main_arg1) = m ((c.tc : Thread Cert.SmallIIdeal.nD Cert.SmallIIdeal.τ).loc Cert.SmallIIdeal.main_arg1)
          ∧ r.2.mem ((c.tc : Thread Cert.SmallIIdeal.nD Cert.SmallIIdeal.τ).loc Cert.SmallIIdeal.main_arg2) = m ((c.tc : Thread Cert.SmallIIdeal.nD Cert.SmallIIdeal.τ).loc Cert.SmallIIdeal.main_arg2)
          ∧ r.2.mem ((c.tc : Thread Cert.SmallIIdeal.nD Cert.SmallIIdeal.τ).loc Cert.SmallIIdeal.main_arg3) = m ((c.tc : Thread Cert.SmallIIdeal.nD Cert.SmallIIdeal.τ).loc Cert.SmallIIdeal.main_arg3)
          ∧ r.2.mem ((c.tc : Thread Cert.SmallIIdeal.nD Cert.SmallIIdeal.τ).loc Cert.SmallIIdeal.main_arg4) = m ((c.tc : Thread Cert.SmallIIdeal.nD Cert.SmallIIdeal.τ).loc Cert.SmallIIdeal.main_arg4)
          ∧ r.2.mem ((c.tc : Thread Cert.SmallIIdeal.nD Cert.SmallIIdeal.τ).loc Cert.SmallIIdeal.main_arg5) = m ((c.tc : Thread Cert.SmallIIdeal.nD Cert.SmallIIdeal.τ).loc Cert.SmallIIdeal.main_arg5)
          ∧ r.2.mem ((c.tc : Thread Cert.SmallIIdeal.nD Cert.SmallIIdeal.τ).loc Cert.SmallIIdeal.main_arg6) = m ((c.tc : Thread Cert.SmallIIdeal.nD Cert.SmallIIdeal.τ).loc Cert.SmallIIdeal.main_arg6))
      ∧ θ_run (Cert.SmallIRefIdeal.defs (F := Ideal)) (onTc (τ := Cert.SmallIRefIdeal.τ) (Cert.SmallIRefIdeal.main (F := Ideal))) ⟨m', fun _ => 0, g'⟩ (fun r => ∀ c : Dev Cert.SmallIRefIdeal.nD,
          r.2.mem ((c.tc : Thread Cert.SmallIRefIdeal.nD Cert.SmallIRefIdeal.τ).loc Cert.SmallIRefIdeal.main_v2) = v0 c
          ∧ r.2.mem ((c.tc : Thread Cert.SmallIRefIdeal.nD Cert.SmallIRefIdeal.τ).loc Cert.SmallIRefIdeal.main_v26) = v1 c
          ∧ r.2.mem ((c.tc : Thread Cert.SmallIRefIdeal.nD Cert.SmallIRefIdeal.τ).loc Cert.SmallIRefIdeal.main_v7) = v2 c
          ∧ r.2.mem ((c.tc : Thread Cert.SmallIRefIdeal.nD Cert.SmallIRefIdeal.τ).loc Cert.SmallIRefIdeal.main_v13) = v3 c
          ∧ r.2.mem ((c.tc : Thread Cert.SmallIRefIdeal.nD Cert.SmallIRefIdeal.τ).loc Cert.SmallIRefIdeal.main_v27) = v4 c
          ∧ r.2.mem ((c.tc : Thread Cert.SmallIRefIdeal.nD Cert.SmallIRefIdeal.τ).loc Cert.SmallIRefIdeal.main_v51) = v5 c
          ∧ r.2.mem ((c.tc : Thread Cert.SmallIRefIdeal.nD Cert.SmallIRefIdeal.τ).loc Cert.SmallIRefIdeal.main_v32) = v6 c
          ∧ r.2.mem ((c.tc : Thread Cert.SmallIRefIdeal.nD Cert.SmallIRefIdeal.τ).loc Cert.SmallIRefIdeal.main_v38) = v7 c
          ∧ r.2.mem ((c.tc : Thread Cert.SmallIRefIdeal.nD Cert.SmallIRefIdeal.τ).loc Cert.SmallIRefIdeal.main_arg0) = m' ((c.tc : Thread Cert.SmallIRefIdeal.nD Cert.SmallIRefIdeal.τ).loc Cert.SmallIRefIdeal.main_arg0)
          ∧ r.2.mem ((c.tc : Thread Cert.SmallIRefIdeal.nD Cert.SmallIRefIdeal.τ).loc Cert.SmallIRefIdeal.main_arg1) = m' ((c.tc : Thread Cert.SmallIRefIdeal.nD Cert.SmallIRefIdeal.τ).loc Cert.SmallIRefIdeal.main_arg1)
          ∧ r.2.mem ((c.tc : Thread Cert.SmallIRefIdeal.nD Cert.SmallIRefIdeal.τ).loc Cert.SmallIRefIdeal.main_arg2) = m' ((c.tc : Thread Cert.SmallIRefIdeal.nD Cert.SmallIRefIdeal.τ).loc Cert.SmallIRefIdeal.main_arg2)
          ∧ r.2.mem ((c.tc : Thread Cert.SmallIRefIdeal.nD Cert.SmallIRefIdeal.τ).loc Cert.SmallIRefIdeal.main_arg3) = m' ((c.tc : Thread Cert.SmallIRefIdeal.nD Cert.SmallIRefIdeal.τ).loc Cert.SmallIRefIdeal.main_arg3)
          ∧ r.2.mem ((c.tc : Thread Cert.SmallIRefIdeal.nD Cert.SmallIRefIdeal.τ).loc Cert.SmallIRefIdeal.main_arg4) = m' ((c.tc : Thread Cert.SmallIRefIdeal.nD Cert.SmallIRefIdeal.τ).loc Cert.SmallIRefIdeal.main_arg4)
          ∧ r.2.mem ((c.tc : Thread Cert.SmallIRefIdeal.nD Cert.SmallIRefIdeal.τ).loc Cert.SmallIRefIdeal.main_arg5) = m' ((c.tc : Thread Cert.SmallIRefIdeal.nD Cert.SmallIRefIdeal.τ).loc Cert.SmallIRefIdeal.main_arg5)
          ∧ r.2.mem ((c.tc : Thread Cert.SmallIRefIdeal.nD Cert.SmallIRefIdeal.τ).loc Cert.SmallIRefIdeal.main_arg6) = m' ((c.tc : Thread Cert.SmallIRefIdeal.nD Cert.SmallIRefIdeal.τ).loc Cert.SmallIRefIdeal.main_arg6))

def preserves_Zoh_ZohIdeal : Prop :=
  True

def algebraic_ZohIdeal_ZohRefIdeal [hZohIdeal : Cert.ZohIdeal.Facts] [hZohRefIdeal : Cert.ZohRefIdeal.Facts] : Prop :=
  ∀ (m : (ℓ : Loc Cert.ZohIdeal.nD Cert.ZohIdeal.τ Cert.ZohIdeal.sig) → Buf (Elt Ideal) ℓ) (g : Dev Cert.ZohIdeal.nD → PrngReg)
    (m' : (ℓ : Loc Cert.ZohRefIdeal.nD Cert.ZohRefIdeal.τ Cert.ZohRefIdeal.sig) → Buf (Elt Ideal) ℓ) (g' : Dev Cert.ZohRefIdeal.nD → PrngReg), Pre_ZohIdeal m →
    (∀ c : Dev Cert.ZohIdeal.nD,
      m' ((c.tc : Thread Cert.ZohRefIdeal.nD Cert.ZohRefIdeal.τ).loc Cert.ZohRefIdeal.main_arg0) = m ((c.tc : Thread Cert.ZohIdeal.nD Cert.ZohIdeal.τ).loc Cert.ZohIdeal.main_arg0)
      ∧ m' ((c.tc : Thread Cert.ZohRefIdeal.nD Cert.ZohRefIdeal.τ).loc Cert.ZohRefIdeal.main_arg1) = m ((c.tc : Thread Cert.ZohIdeal.nD Cert.ZohIdeal.τ).loc Cert.ZohIdeal.main_arg1)
      ∧ m' ((c.tc : Thread Cert.ZohRefIdeal.nD Cert.ZohRefIdeal.τ).loc Cert.ZohRefIdeal.main_arg2) = m ((c.tc : Thread Cert.ZohIdeal.nD Cert.ZohIdeal.τ).loc Cert.ZohIdeal.main_arg2)
      ∧ m' ((c.tc : Thread Cert.ZohRefIdeal.nD Cert.ZohRefIdeal.τ).loc Cert.ZohRefIdeal.main_arg3) = m ((c.tc : Thread Cert.ZohIdeal.nD Cert.ZohIdeal.τ).loc Cert.ZohIdeal.main_arg3)
      ∧ m' ((c.tc : Thread Cert.ZohRefIdeal.nD Cert.ZohRefIdeal.τ).loc Cert.ZohRefIdeal.main_arg4) = m ((c.tc : Thread Cert.ZohIdeal.nD Cert.ZohIdeal.τ).loc Cert.ZohIdeal.main_arg4)
      ∧ m' ((c.tc : Thread Cert.ZohRefIdeal.nD Cert.ZohRefIdeal.τ).loc Cert.ZohRefIdeal.main_arg5) = m ((c.tc : Thread Cert.ZohIdeal.nD Cert.ZohIdeal.τ).loc Cert.ZohIdeal.main_arg5)
      ∧ m' ((c.tc : Thread Cert.ZohRefIdeal.nD Cert.ZohRefIdeal.τ).loc Cert.ZohRefIdeal.main_arg6) = m ((c.tc : Thread Cert.ZohIdeal.nD Cert.ZohIdeal.τ).loc Cert.ZohIdeal.main_arg6)
      ∧ m' ((c.tc : Thread Cert.ZohRefIdeal.nD Cert.ZohRefIdeal.τ).loc Cert.ZohRefIdeal.main_arg7) = m ((c.tc : Thread Cert.ZohIdeal.nD Cert.ZohIdeal.τ).loc Cert.ZohIdeal.main_arg7)
      ∧ m' ((c.tc : Thread Cert.ZohRefIdeal.nD Cert.ZohRefIdeal.τ).loc Cert.ZohRefIdeal.main_arg8) = m ((c.tc : Thread Cert.ZohIdeal.nD Cert.ZohIdeal.τ).loc Cert.ZohIdeal.main_arg8)) →
    ∃ (v0 : (c : Dev Cert.ZohIdeal.nD) → Buf (Elt Ideal) ((c.tc : Thread Cert.ZohIdeal.nD Cert.ZohIdeal.τ).loc Cert.ZohIdeal.main_v0_0)) (v1 : (c : Dev Cert.ZohIdeal.nD) → Buf (Elt Ideal) ((c.tc : Thread Cert.ZohIdeal.nD Cert.ZohIdeal.τ).loc Cert.ZohIdeal.main_v0_1)) (v2 : (c : Dev Cert.ZohIdeal.nD) → Buf (Elt Ideal) ((c.tc : Thread Cert.ZohIdeal.nD Cert.ZohIdeal.τ).loc Cert.ZohIdeal.main_v0_2)) (v3 : (c : Dev Cert.ZohIdeal.nD) → Buf (Elt Ideal) ((c.tc : Thread Cert.ZohIdeal.nD Cert.ZohIdeal.τ).loc Cert.ZohIdeal.main_v0_3)) (v4 : (c : Dev Cert.ZohIdeal.nD) → Buf (Elt Ideal) ((c.tc : Thread Cert.ZohIdeal.nD Cert.ZohIdeal.τ).loc Cert.ZohIdeal.main_v0_4)),
      θ_run (Cert.ZohIdeal.defs (F := Ideal)) (onTc (τ := Cert.ZohIdeal.τ) (Cert.ZohIdeal.main (F := Ideal))) ⟨m, fun _ => 0, g⟩ (fun r => ∀ c : Dev Cert.ZohIdeal.nD,
          r.2.mem ((c.tc : Thread Cert.ZohIdeal.nD Cert.ZohIdeal.τ).loc Cert.ZohIdeal.main_v0_0) = v0 c
          ∧ r.2.mem ((c.tc : Thread Cert.ZohIdeal.nD Cert.ZohIdeal.τ).loc Cert.ZohIdeal.main_v0_1) = v1 c
          ∧ r.2.mem ((c.tc : Thread Cert.ZohIdeal.nD Cert.ZohIdeal.τ).loc Cert.ZohIdeal.main_v0_2) = v2 c
          ∧ r.2.mem ((c.tc : Thread Cert.ZohIdeal.nD Cert.ZohIdeal.τ).loc Cert.ZohIdeal.main_v0_3) = v3 c
          ∧ r.2.mem ((c.tc : Thread Cert.ZohIdeal.nD Cert.ZohIdeal.τ).loc Cert.ZohIdeal.main_v0_4) = v4 c
          ∧ r.2.mem ((c.tc : Thread Cert.ZohIdeal.nD Cert.ZohIdeal.τ).loc Cert.ZohIdeal.main_arg0) = m ((c.tc : Thread Cert.ZohIdeal.nD Cert.ZohIdeal.τ).loc Cert.ZohIdeal.main_arg0)
          ∧ r.2.mem ((c.tc : Thread Cert.ZohIdeal.nD Cert.ZohIdeal.τ).loc Cert.ZohIdeal.main_arg1) = m ((c.tc : Thread Cert.ZohIdeal.nD Cert.ZohIdeal.τ).loc Cert.ZohIdeal.main_arg1)
          ∧ r.2.mem ((c.tc : Thread Cert.ZohIdeal.nD Cert.ZohIdeal.τ).loc Cert.ZohIdeal.main_arg2) = m ((c.tc : Thread Cert.ZohIdeal.nD Cert.ZohIdeal.τ).loc Cert.ZohIdeal.main_arg2)
          ∧ r.2.mem ((c.tc : Thread Cert.ZohIdeal.nD Cert.ZohIdeal.τ).loc Cert.ZohIdeal.main_arg3) = m ((c.tc : Thread Cert.ZohIdeal.nD Cert.ZohIdeal.τ).loc Cert.ZohIdeal.main_arg3)
          ∧ r.2.mem ((c.tc : Thread Cert.ZohIdeal.nD Cert.ZohIdeal.τ).loc Cert.ZohIdeal.main_arg4) = m ((c.tc : Thread Cert.ZohIdeal.nD Cert.ZohIdeal.τ).loc Cert.ZohIdeal.main_arg4)
          ∧ r.2.mem ((c.tc : Thread Cert.ZohIdeal.nD Cert.ZohIdeal.τ).loc Cert.ZohIdeal.main_arg5) = m ((c.tc : Thread Cert.ZohIdeal.nD Cert.ZohIdeal.τ).loc Cert.ZohIdeal.main_arg5)
          ∧ r.2.mem ((c.tc : Thread Cert.ZohIdeal.nD Cert.ZohIdeal.τ).loc Cert.ZohIdeal.main_arg6) = m ((c.tc : Thread Cert.ZohIdeal.nD Cert.ZohIdeal.τ).loc Cert.ZohIdeal.main_arg6)
          ∧ r.2.mem ((c.tc : Thread Cert.ZohIdeal.nD Cert.ZohIdeal.τ).loc Cert.ZohIdeal.main_arg7) = m ((c.tc : Thread Cert.ZohIdeal.nD Cert.ZohIdeal.τ).loc Cert.ZohIdeal.main_arg7)
          ∧ r.2.mem ((c.tc : Thread Cert.ZohIdeal.nD Cert.ZohIdeal.τ).loc Cert.ZohIdeal.main_arg8) = m ((c.tc : Thread Cert.ZohIdeal.nD Cert.ZohIdeal.τ).loc Cert.ZohIdeal.main_arg8))
      ∧ θ_run (Cert.ZohRefIdeal.defs (F := Ideal)) (onTc (τ := Cert.ZohRefIdeal.τ) (Cert.ZohRefIdeal.main (F := Ideal))) ⟨m', fun _ => 0, g'⟩ (fun r => ∀ c : Dev Cert.ZohRefIdeal.nD,
          r.2.mem ((c.tc : Thread Cert.ZohRefIdeal.nD Cert.ZohRefIdeal.τ).loc Cert.ZohRefIdeal.main_v135) = v0 c
          ∧ r.2.mem ((c.tc : Thread Cert.ZohRefIdeal.nD Cert.ZohRefIdeal.τ).loc Cert.ZohRefIdeal.main_v127) = v1 c
          ∧ r.2.mem ((c.tc : Thread Cert.ZohRefIdeal.nD Cert.ZohRefIdeal.τ).loc Cert.ZohRefIdeal.main_v136) = v2 c
          ∧ r.2.mem ((c.tc : Thread Cert.ZohRefIdeal.nD Cert.ZohRefIdeal.τ).loc Cert.ZohRefIdeal.main_v68) = v3 c
          ∧ r.2.mem ((c.tc : Thread Cert.ZohRefIdeal.nD Cert.ZohRefIdeal.τ).loc Cert.ZohRefIdeal.main_v61) = v4 c
          ∧ r.2.mem ((c.tc : Thread Cert.ZohRefIdeal.nD Cert.ZohRefIdeal.τ).loc Cert.ZohRefIdeal.main_arg0) = m' ((c.tc : Thread Cert.ZohRefIdeal.nD Cert.ZohRefIdeal.τ).loc Cert.ZohRefIdeal.main_arg0)
          ∧ r.2.mem ((c.tc : Thread Cert.ZohRefIdeal.nD Cert.ZohRefIdeal.τ).loc Cert.ZohRefIdeal.main_arg1) = m' ((c.tc : Thread Cert.ZohRefIdeal.nD Cert.ZohRefIdeal.τ).loc Cert.ZohRefIdeal.main_arg1)
          ∧ r.2.mem ((c.tc : Thread Cert.ZohRefIdeal.nD Cert.ZohRefIdeal.τ).loc Cert.ZohRefIdeal.main_arg2) = m' ((c.tc : Thread Cert.ZohRefIdeal.nD Cert.ZohRefIdeal.τ).loc Cert.ZohRefIdeal.main_arg2)
          ∧ r.2.mem ((c.tc : Thread Cert.ZohRefIdeal.nD Cert.ZohRefIdeal.τ).loc Cert.ZohRefIdeal.main_arg3) = m' ((c.tc : Thread Cert.ZohRefIdeal.nD Cert.ZohRefIdeal.τ).loc Cert.ZohRefIdeal.main_arg3)
          ∧ r.2.mem ((c.tc : Thread Cert.ZohRefIdeal.nD Cert.ZohRefIdeal.τ).loc Cert.ZohRefIdeal.main_arg4) = m' ((c.tc : Thread Cert.ZohRefIdeal.nD Cert.ZohRefIdeal.τ).loc Cert.ZohRefIdeal.main_arg4)
          ∧ r.2.mem ((c.tc : Thread Cert.ZohRefIdeal.nD Cert.ZohRefIdeal.τ).loc Cert.ZohRefIdeal.main_arg5) = m' ((c.tc : Thread Cert.ZohRefIdeal.nD Cert.ZohRefIdeal.τ).loc Cert.ZohRefIdeal.main_arg5)
          ∧ r.2.mem ((c.tc : Thread Cert.ZohRefIdeal.nD Cert.ZohRefIdeal.τ).loc Cert.ZohRefIdeal.main_arg6) = m' ((c.tc : Thread Cert.ZohRefIdeal.nD Cert.ZohRefIdeal.τ).loc Cert.ZohRefIdeal.main_arg6)
          ∧ r.2.mem ((c.tc : Thread Cert.ZohRefIdeal.nD Cert.ZohRefIdeal.τ).loc Cert.ZohRefIdeal.main_arg7) = m' ((c.tc : Thread Cert.ZohRefIdeal.nD Cert.ZohRefIdeal.τ).loc Cert.ZohRefIdeal.main_arg7)
          ∧ r.2.mem ((c.tc : Thread Cert.ZohRefIdeal.nD Cert.ZohRefIdeal.τ).loc Cert.ZohRefIdeal.main_arg8) = m' ((c.tc : Thread Cert.ZohRefIdeal.nD Cert.ZohRefIdeal.τ).loc Cert.ZohRefIdeal.main_arg8))

def Claim : Prop :=
  ∃ (hHalf : Cert.Half.Facts) (hHalfIdeal : Cert.HalfIdeal.Facts) (hHalfRefIdeal : Cert.HalfRefIdeal.Facts) (hGlu : Cert.Glu.Facts) (hGluIdeal : Cert.GluIdeal.Facts) (hGluRefIdeal : Cert.GluRefIdeal.Facts) (hGn : Cert.Gn.Facts) (hGnIdeal : Cert.GnIdeal.Facts) (hGnRefIdeal : Cert.GnRefIdeal.Facts) (hInp : Cert.Inp.Facts) (hInpIdeal : Cert.InpIdeal.Facts) (hInpRefIdeal : Cert.InpRefIdeal.Facts) (hAdamA : Cert.AdamA.Facts) (hAdamAIdeal : Cert.AdamAIdeal.Facts) (hAdamARefIdeal : Cert.AdamARefIdeal.Facts) (hAdamB : Cert.AdamB.Facts) (hAdamBIdeal : Cert.AdamBIdeal.Facts) (hAdamBRefIdeal : Cert.AdamBRefIdeal.Facts) (hAdamC : Cert.AdamC.Facts) (hAdamCIdeal : Cert.AdamCIdeal.Facts) (hAdamCRefIdeal : Cert.AdamCRefIdeal.Facts) (hAdamD : Cert.AdamD.Facts) (hAdamDIdeal : Cert.AdamDIdeal.Facts) (hAdamDRefIdeal : Cert.AdamDRefIdeal.Facts) (hSmallA : Cert.SmallA.Facts) (hSmallAIdeal : Cert.SmallAIdeal.Facts) (hSmallARefIdeal : Cert.SmallARefIdeal.Facts) (hSmallB : Cert.SmallB.Facts) (hSmallBIdeal : Cert.SmallBIdeal.Facts) (hSmallBRefIdeal : Cert.SmallBRefIdeal.Facts) (hSmallC : Cert.SmallC.Facts) (hSmallCIdeal : Cert.SmallCIdeal.Facts) (hSmallCRefIdeal : Cert.SmallCRefIdeal.Facts) (hSmallD : Cert.SmallD.Facts) (hSmallDIdeal : Cert.SmallDIdeal.Facts) (hSmallDRefIdeal : Cert.SmallDRefIdeal.Facts) (hSmallE : Cert.SmallE.Facts) (hSmallEIdeal : Cert.SmallEIdeal.Facts) (hSmallERefIdeal : Cert.SmallERefIdeal.Facts) (hSmallF : Cert.SmallF.Facts) (hSmallFIdeal : Cert.SmallFIdeal.Facts) (hSmallFRefIdeal : Cert.SmallFRefIdeal.Facts) (hSmallG : Cert.SmallG.Facts) (hSmallGIdeal : Cert.SmallGIdeal.Facts) (hSmallGRefIdeal : Cert.SmallGRefIdeal.Facts) (hSmallH : Cert.SmallH.Facts) (hSmallHIdeal : Cert.SmallHIdeal.Facts) (hSmallHRefIdeal : Cert.SmallHRefIdeal.Facts) (hSmallI : Cert.SmallI.Facts) (hSmallIIdeal : Cert.SmallIIdeal.Facts) (hSmallIRefIdeal : Cert.SmallIRefIdeal.Facts) (hZoh : Cert.Zoh.Facts) (hZohIdeal : Cert.ZohIdeal.Facts) (hZohRefIdeal : Cert.ZohRefIdeal.Facts) (hPre_finite_post : Cert.Pre_finite_post.Facts) (hPre_finite_shift : Cert.Pre_finite_shift.Facts),
    quiescent_Half (hHalf := hHalf)
    ∧ quiescent_HalfIdeal (hHalfIdeal := hHalfIdeal)
    ∧ quiescent_HalfRefIdeal (hHalfRefIdeal := hHalfRefIdeal)
    ∧ quiescent_Glu (hGlu := hGlu)
    ∧ quiescent_GluIdeal (hGluIdeal := hGluIdeal)
    ∧ quiescent_GluRefIdeal (hGluRefIdeal := hGluRefIdeal)
    ∧ quiescent_Gn (hGn := hGn)
    ∧ quiescent_GnIdeal (hGnIdeal := hGnIdeal)
    ∧ quiescent_GnIdeal_pre_finite_post (hGnIdeal := hGnIdeal) (hPre_finite_post := hPre_finite_post)
    ∧ quiescent_GnRefIdeal (hGnRefIdeal := hGnRefIdeal)
    ∧ quiescent_GnRefIdeal_pre_finite_post (hGnRefIdeal := hGnRefIdeal) (hPre_finite_post := hPre_finite_post)
    ∧ quiescent_Inp (hInp := hInp)
    ∧ quiescent_InpIdeal (hInpIdeal := hInpIdeal)
    ∧ quiescent_InpIdeal_pre_finite_shift (hInpIdeal := hInpIdeal) (hPre_finite_shift := hPre_finite_shift)
    ∧ quiescent_InpRefIdeal (hInpRefIdeal := hInpRefIdeal)
    ∧ quiescent_InpRefIdeal_pre_finite_shift (hInpRefIdeal := hInpRefIdeal) (hPre_finite_shift := hPre_finite_shift)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_AdamD (hAdamD := hAdamD)
    ∧ quiescent_AdamDIdeal (hAdamDIdeal := hAdamDIdeal)
    ∧ quiescent_AdamDRefIdeal (hAdamDRefIdeal := hAdamDRefIdeal)
    ∧ quiescent_SmallA (hSmallA := hSmallA)
    ∧ quiescent_SmallAIdeal (hSmallAIdeal := hSmallAIdeal)
    ∧ quiescent_SmallARefIdeal (hSmallARefIdeal := hSmallARefIdeal)
    ∧ quiescent_SmallB (hSmallB := hSmallB)
    ∧ quiescent_SmallBIdeal (hSmallBIdeal := hSmallBIdeal)
    ∧ quiescent_SmallBRefIdeal (hSmallBRefIdeal := hSmallBRefIdeal)
    ∧ quiescent_SmallC (hSmallC := hSmallC)
    ∧ quiescent_SmallCIdeal (hSmallCIdeal := hSmallCIdeal)
    ∧ quiescent_SmallCRefIdeal (hSmallCRefIdeal := hSmallCRefIdeal)
    ∧ quiescent_SmallD (hSmallD := hSmallD)
    ∧ quiescent_SmallDIdeal (hSmallDIdeal := hSmallDIdeal)
    ∧ quiescent_SmallDRefIdeal (hSmallDRefIdeal := hSmallDRefIdeal)
    ∧ quiescent_SmallE (hSmallE := hSmallE)
    ∧ quiescent_SmallEIdeal (hSmallEIdeal := hSmallEIdeal)
    ∧ quiescent_SmallERefIdeal (hSmallERefIdeal := hSmallERefIdeal)
    ∧ quiescent_SmallF (hSmallF := hSmallF)
    ∧ quiescent_SmallFIdeal (hSmallFIdeal := hSmallFIdeal)
    ∧ quiescent_SmallFRefIdeal (hSmallFRefIdeal := hSmallFRefIdeal)
    ∧ quiescent_SmallG (hSmallG := hSmallG)
    ∧ quiescent_SmallGIdeal (hSmallGIdeal := hSmallGIdeal)
    ∧ quiescent_SmallGRefIdeal (hSmallGRefIdeal := hSmallGRefIdeal)
    ∧ quiescent_SmallH (hSmallH := hSmallH)
    ∧ quiescent_SmallHIdeal (hSmallHIdeal := hSmallHIdeal)
    ∧ quiescent_SmallHRefIdeal (hSmallHRefIdeal := hSmallHRefIdeal)
    ∧ quiescent_SmallI (hSmallI := hSmallI)
    ∧ quiescent_SmallIIdeal (hSmallIIdeal := hSmallIIdeal)
    ∧ quiescent_SmallIRefIdeal (hSmallIRefIdeal := hSmallIRefIdeal)
    ∧ quiescent_Zoh (hZoh := hZoh)
    ∧ quiescent_ZohIdeal (hZohIdeal := hZohIdeal)
    ∧ quiescent_ZohRefIdeal (hZohRefIdeal := hZohRefIdeal)
    ∧ preserves_Half_HalfIdeal
    ∧ algebraic_HalfIdeal_HalfRefIdeal (hHalfIdeal := hHalfIdeal) (hHalfRefIdeal := hHalfRefIdeal)
    ∧ preserves_Glu_GluIdeal
    ∧ algebraic_GluIdeal_GluRefIdeal (hGluIdeal := hGluIdeal) (hGluRefIdeal := hGluRefIdeal)
    ∧ preserves_Gn_GnIdeal
    ∧ algebraic_GnIdeal_GnRefIdeal_pre_finite_post (hGnIdeal := hGnIdeal) (hGnRefIdeal := hGnRefIdeal) (hPre_finite_post := hPre_finite_post)
    ∧ preserves_Inp_InpIdeal
    ∧ algebraic_InpIdeal_InpRefIdeal_pre_finite_shift (hInpIdeal := hInpIdeal) (hInpRefIdeal := hInpRefIdeal) (hPre_finite_shift := hPre_finite_shift)
    ∧ preserves_AdamA_AdamAIdeal
    ∧ algebraic_AdamAIdeal_AdamARefIdeal (hAdamAIdeal := hAdamAIdeal) (hAdamARefIdeal := hAdamARefIdeal)
    ∧ preserves_AdamB_AdamBIdeal
    ∧ algebraic_AdamBIdeal_AdamBRefIdeal (hAdamBIdeal := hAdamBIdeal) (hAdamBRefIdeal := hAdamBRefIdeal)
    ∧ preserves_AdamC_AdamCIdeal
    ∧ algebraic_AdamCIdeal_AdamCRefIdeal (hAdamCIdeal := hAdamCIdeal) (hAdamCRefIdeal := hAdamCRefIdeal)
    ∧ preserves_AdamD_AdamDIdeal
    ∧ algebraic_AdamDIdeal_AdamDRefIdeal (hAdamDIdeal := hAdamDIdeal) (hAdamDRefIdeal := hAdamDRefIdeal)
    ∧ preserves_SmallA_SmallAIdeal
    ∧ algebraic_SmallAIdeal_SmallARefIdeal (hSmallAIdeal := hSmallAIdeal) (hSmallARefIdeal := hSmallARefIdeal)
    ∧ preserves_SmallB_SmallBIdeal
    ∧ algebraic_SmallBIdeal_SmallBRefIdeal (hSmallBIdeal := hSmallBIdeal) (hSmallBRefIdeal := hSmallBRefIdeal)
    ∧ preserves_SmallC_SmallCIdeal
    ∧ algebraic_SmallCIdeal_SmallCRefIdeal (hSmallCIdeal := hSmallCIdeal) (hSmallCRefIdeal := hSmallCRefIdeal)
    ∧ preserves_SmallD_SmallDIdeal
    ∧ algebraic_SmallDIdeal_SmallDRefIdeal (hSmallDIdeal := hSmallDIdeal) (hSmallDRefIdeal := hSmallDRefIdeal)
    ∧ preserves_SmallE_SmallEIdeal
    ∧ algebraic_SmallEIdeal_SmallERefIdeal (hSmallEIdeal := hSmallEIdeal) (hSmallERefIdeal := hSmallERefIdeal)
    ∧ preserves_SmallF_SmallFIdeal
    ∧ algebraic_SmallFIdeal_SmallFRefIdeal (hSmallFIdeal := hSmallFIdeal) (hSmallFRefIdeal := hSmallFRefIdeal)
    ∧ preserves_SmallG_SmallGIdeal
    ∧ algebraic_SmallGIdeal_SmallGRefIdeal (hSmallGIdeal := hSmallGIdeal) (hSmallGRefIdeal := hSmallGRefIdeal)
    ∧ preserves_SmallH_SmallHIdeal
    ∧ algebraic_SmallHIdeal_SmallHRefIdeal (hSmallHIdeal := hSmallHIdeal) (hSmallHRefIdeal := hSmallHRefIdeal)
    ∧ preserves_SmallI_SmallIIdeal
    ∧ algebraic_SmallIIdeal_SmallIRefIdeal (hSmallIIdeal := hSmallIIdeal) (hSmallIRefIdeal := hSmallIRefIdeal)
    ∧ preserves_Zoh_ZohIdeal
    ∧ algebraic_ZohIdeal_ZohRefIdeal (hZohIdeal := hZohIdeal) (hZohRefIdeal := hZohRefIdeal)
-- ==== Pre_finite_post.lean ====
abbrev S8x4096x64 : Shape := ⟨3, ![8, 4096, 64]⟩
abbrev S4096x512 : Shape := ⟨2, ![4096, 512]⟩
abbrev S4096x1024 : Shape := ⟨2, ![4096, 1024]⟩
abbrev S512 : Shape := ⟨1, ![512]⟩
abbrev S8x64 : Shape := ⟨2, ![8, 64]⟩
abbrev S512x1024 : Shape := ⟨2, ![512, 1024]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part2 {F : FTy → Type} [FloatOps F] (main_arg9 : FVec F S512x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512x1024 .f32 := Host.absf main_arg9
  let main_cst_14 : FVec F S_ .f32 := constant S_ .f32 0x7F800000#32
  let main_v33 : FVec F S512x1024 .f32 := broadcastInDim S512x1024 ![] bcast_S_S512x1024 main_cst_14
  let main_v34 : IVec S512x1024 1 := cmpf .olt main_v32 main_v33
  let main_c_15 : IVec S_ 1 := constantI S_ 1 1#1
  let main_v35 : IVec S_ 1 := (fun x v => Host.reduce IntOp.andi x v reducesTo_S512x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S4096x512 .f32) (main_arg5 : FVec F S4096x1024 .f32) (main_arg6 : FVec F S512 .f32) (main_arg8 : FVec F S8x64 .f32) (main_arg9 : FVec F S512x1024 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : FVec F S512 .f32 := Host.absf main_arg6
  let main_cst_10 : FVec F S_ .f32 := constant S_ .f32 0x7F800000#32
  let main_v25 : FVec F S512 .f32 := broadcastInDim S512 ![] bcast_S_S512 main_cst_10
  let main_v26 : IVec S512 1 := cmpf .olt main_v24 main_v25
  let main_c_11 : IVec S_ 1 := constantI S_ 1 1#1
  let main_v27 : IVec S_ 1 := (fun x v => Host.reduce IntOp.andi x v reducesTo_S512_S_d0 h_S_) main_v26 main_c_11
  let main_v28 : FVec F S8x64 .f32 := Host.absf main_arg8
  let main_cst_12 : FVec F S_ .f32 := constant S_ .f32 0x7F800000#32
  let main_v29 : FVec F S8x64 .f32 := broadcastInDim S8x64 ![] bcast_S_S8x64 main_cst_12
  let main_v30 : IVec S8x64 1 := cmpf .olt main_v28 main_v29
  let main_c_13 : IVec S_ 1 := constantI S_ 1 1#1
  let main_v31 : IVec S_ 1 := (fun x v => Host.reduce IntOp.andi x v reducesTo_S8x64_S_d0_1 h_S_) main_v30 main_c_13
  fn_part2 (F := F) main_arg9 main_v3 main_v7 main_v11 main_v15 main_v19 main_v23 main_v27 main_v31

def fn {F : FTy → Type} [FloatOps F] (main_arg0 : FVec F S8x4096x64 .f32) (main_arg1 : FVec F S8x4096x64 .f32) (main_arg2 : FVec F S8x4096x64 .f32) (main_arg3 : FVec F S8x4096x64 .f32) (main_arg4 : FVec F S4096x512 .f32) (main_arg5 : FVec F S4096x1024 .f32) (main_arg6 : FVec F S512 .f32) (main_arg7 : FVec F S512 .f32) (main_arg8 : FVec F S8x64 .f32) (main_arg9 : FVec F S512x1024 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : FVec F S8x4096x64 .f32 := Host.absf main_arg2
  let main_cst_2 : FVec F S_ .f32 := constant S_ .f32 0x7F800000#32
  let main_v9 : FVec F S8x4096x64 .f32 := broadcastInDim S8x4096x64 ![] bcast_S_S8x4096x64 main_cst_2
  let main_v10 : IVec S8x4096x64 1 := cmpf .olt main_v8 main_v9
  let main_c_3 : IVec S_ 1 := constantI S_ 1 1#1
  let main_v11 : IVec S_ 1 := (fun x v => Host.reduce IntOp.andi x v reducesTo_S8x4096x64_S_d0_1_2 h_S_) main_v10 main_c_3
  let main_v12 : FVec F S8x4096x64 .f32 := Host.absf main_arg3
  let main_cst_4 : FVec F S_ .f32 := constant S_ .f32 0x7F800000#32
  let main_v13 : FVec F S8x4096x64 .f32 := broadcastInDim S8x4096x64 ![] bcast_S_S8x4096x64 main_cst_4
  let main_v14 : IVec S8x4096x64 1 := cmpf .olt main_v12 main_v13
  let main_c_5 : IVec S_ 1 := constantI S_ 1 1#1
  let main_v15 : IVec S_ 1 := (fun x v => Host.reduce IntOp.andi x v reducesTo_S8x4096x64_S_d0_1_2 h_S_) main_v14 main_c_5
  fn_part1 (F := F) main_arg4 main_arg5 main_arg6 main_arg8 main_arg9 main_v3 main_v7 main_v11 main_v15
-- ==== Pre_finite_shift.lean ====
abbrev S4096x1024 : Shape := ⟨2, ![4096, 1024]⟩
abbrev S4096x512 : Shape := ⟨2, ![4096, 512]⟩
abbrev S4096x1792 : Shape := ⟨2, ![4096, 1792]⟩
abbrev S1024 : Shape := ⟨1, ![1024]⟩
abbrev S1024x2304 : Shape := ⟨2, ![1024, 2304]⟩
abbrev S1792 : Shape := ⟨1, ![1792]⟩
abbrev S_ : Shape := ⟨0, ![]⟩

class Facts : Prop where
  bcast_S_S4096x1792 : S_.BroadcastsInDim S4096x1792 (![] : Fin 0 → Fin S4096x1792.rank)
  reducesTo_S4096x1792_S_d0_1 : S4096x1792.ReducesTo [0, 1] S_
  h_S_ : 0 < S_.numel
  bcast_S_S1792 : S_.BroadcastsInDim S1792 (![] : Fin 0 → Fin S1792.rank)
  reducesTo_S1792_S_d0 : S1792.ReducesTo [0] S_

variable [Facts]

def fn {F : FTy → Type} [FloatOps F] (main_arg0 : FVec F S4096x1024 .f32) (main_arg1 : FVec F S4096x1024 .f32) (main_arg2 : FVec F S4096x512 .f32) (main_arg3 : FVec F S4096x1792 .f32) (main_arg4 : FVec F S1024 .f32) (main_arg5 : FVec F S1024x2304 .f32) (main_arg6 : FVec F S1792 .f32) : IVec S_ 1 :=
  let main_v0 : FVec F S4096x1792 .f32 := Host.absf main_arg3
  let main_cst : FVec F S_ .f32 := constant S_ .f32 0x7F800000#32
  let main_v1 : FVec F S4096x1792 .f32 := broadcastInDim S4096x1792 ![] bcast_S_S4096x1792 main_cst
  let main_v2 : IVec S4096x1792 1 := cmpf .olt main_v0 main_v1
  let main_c : IVec S_ 1 := constantI S_ 1 1#1
  let main_v3 : IVec S_ 1 := (fun x v => Host.reduce IntOp.andi x v reducesTo_S4096x1792_S_d0_1 h_S_) main_v2 main_c
  let main_v4 : FVec F S1792 .f32 := Host.absf main_arg6
  let main_cst_0 : FVec F S_ .f32 := constant S_ .f32 0x7F800000#32
  let main_v5 : FVec F S1792 .f32 := broadcastInDim S1792 ![] bcast_S_S1792 main_cst_0
  let main_v6 : IVec S1792 1 := cmpf .olt main_v4 main_v5
  let main_c_1 : IVec S_ 1 := constantI S_ 1 1#1
  let main_v7 : IVec S_ 1 := (fun x v => Host.reduce IntOp.andi x v reducesTo_S1792_S_d0 h_S_) main_v6 main_c_1
  let main_v8 : IVec S_ 1 := andi main_v3 main_v7
  main_v8
-- ==== Half.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S512x1024 : Shape := ⟨2, ![512, 1024]⟩
abbrev S4096x2816 : Shape := ⟨2, ![4096, 2816]⟩
abbrev S256x512 : Shape := ⟨2, ![256, 512]⟩
abbrev S256x2816 : Shape := ⟨2, ![256, 2816]⟩
abbrev S256 : Shape := ⟨1, ![256]⟩
abbrev S256x1 : Shape := ⟨2, ![256, 1]⟩
abbrev S8x128 : Shape := ⟨2, ![8, 128]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024x1408 : Shape := ⟨2, ![1024, 1408]⟩
abbrev S1408x1024 : Shape := ⟨2, ![1408, 1024]⟩
abbrev S1x1 : Shape := ⟨2, ![1, 1]⟩
abbrev S_ : Shape := ⟨0, ![]⟩

abbrev nBuf : Space → Nat
  | .hbm => 50
  | .vmem => 80
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x256, .f32⟩
  | .hbm, ⟨4, _⟩ => ⟨S4096x1024, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S1024x1024, .bf16⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1024x1024, .bf16⟩
  | .hbm, ⟨19, _⟩ => ⟨S256x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S512x1024, .bf16⟩
  | .hbm, ⟨24, _⟩ => ⟨S512x1024, .bf16⟩
  | .hbm, ⟨25, _⟩ => ⟨S4096x1024, .f32⟩
  | .hbm, ⟨26, _⟩ => ⟨S4096x1024, .f32⟩
  | .hbm, ⟨27, _⟩ => ⟨S4096x2816, .bf16⟩
  | .hbm, ⟨28, _⟩ => ⟨S4096x2816, .bf16⟩
  | .hbm, ⟨29, _⟩ => ⟨S4096x2816, .bf16⟩
  | .hbm, ⟨30, _⟩ => ⟨S4096x1024, .bf16⟩
  | .hbm, ⟨31, _⟩ => ⟨S4096x1024, .f32⟩
  | .hbm, ⟨32, _⟩ => ⟨S4096x1024, .bf16⟩
  | .hbm, ⟨33, _⟩ => ⟨S8x128, .f32⟩
  | .hbm, ⟨34, _⟩ => ⟨S1x1024, .f32⟩
  | .hbm, ⟨35, _⟩ => ⟨S1x1024, .f32⟩
  | .hbm, ⟨36, _⟩ => ⟨S1024x1024, .f32⟩
  | .hbm, ⟨37, _⟩ => ⟨S256x1024, .f32⟩
  | .hbm, ⟨38, _⟩ => ⟨S4096x1024, .f32⟩
  | .hbm, ⟨39, _⟩ => ⟨S4096x2816, .bf16⟩
  | .hbm, ⟨40, _⟩ => ⟨S4096x2816, .bf16⟩
  | .hbm, ⟨41, _⟩ => ⟨S1x1024, .f32⟩
  | .hbm, ⟨42, _⟩ => ⟨S1024x2816, .f32⟩
  | .hbm, ⟨43, _⟩ => ⟨S1024x2816, .f32⟩
  | .hbm, ⟨44, _⟩ => ⟨S2816x1024, .f32⟩
  | .hbm, ⟨45, _⟩ => ⟨S1x1, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | .local _ .vmem, ⟨26, _⟩ => ⟨S512x256, .f32⟩
  | .local _ .vmem, ⟨27, _⟩ => ⟨S512x256, .f32⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S1x1024, .f32⟩
  | .local _ .vmem, ⟨32, _⟩ => ⟨S1024x1024, .bf16⟩
  | .local _ .vmem, ⟨33, _⟩ => ⟨S256x1024, .bf16⟩
  | .local _ .vmem, ⟨34, _⟩ => ⟨S512x1024, .f32⟩
  | .local _ .vmem, ⟨35, _⟩ => ⟨S512x1024, .f32⟩
  | .local _ .vmem, ⟨36, _⟩ => ⟨S512x1024, .bf16⟩
  | .local _ .vmem, ⟨37, _⟩ => ⟨S512x1024, .bf16⟩
  | .local _ .vmem, ⟨38, _⟩ => ⟨S8x128, .f32⟩
  | .local _ .vmem, ⟨39, _⟩ => ⟨S1x1024, .f32⟩
  | .local _ .vmem, ⟨40, _⟩ => ⟨S1x1024, .f32⟩
  | .local _ .vmem, ⟨41, _⟩ => ⟨S1024x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x2816, .bf16⟩
  | .local _ .vmem, ⟨48, _⟩ => ⟨S256x2816, .bf16⟩
  | .local _ .vmem, ⟨49, _⟩ => ⟨S256x2816, .bf16⟩
  | .local _ .vmem, ⟨50, _⟩ => ⟨S256x2816, .bf16⟩
  | .local _ .vmem, ⟨51, _⟩ => ⟨S1x1024, .f32⟩
  | .local _ .vmem, ⟨52, _⟩ => ⟨S1024x2816, .bf16⟩
  | .local _ .vmem, ⟨53, _⟩ => ⟨S1024x2816, .bf16⟩
  | .local _ .vmem, ⟨54, _⟩ => ⟨S2816x1024, .bf16⟩
  | .local _ .vmem, ⟨55, _⟩ => ⟨S256x1024, .f32⟩
  | .local _ .vmem, ⟨56, _⟩ => ⟨S256x1024, .f32⟩
  | .local _ .vmem, ⟨57, _⟩ => ⟨S256x2816, .bf16⟩
  | .local _ .vmem, ⟨58, _⟩ => ⟨S256x2816, .bf16⟩
  | .local _ .vmem, ⟨59, _⟩ => ⟨S256x2816, .bf16⟩
  | .local _ .vmem, ⟨60, _⟩ => ⟨S256x2816, .bf16⟩
  | .local _ .vmem, ⟨61, _⟩ => ⟨S1x1024, .f32⟩
  | .local _ .vmem, ⟨62, _⟩ => ⟨S1024x1024, .bf16⟩
  | .local _ .vmem, ⟨63, _⟩ => ⟨S1024x1024, .bf16⟩
  | .local _ .vmem, ⟨64, _⟩ => ⟨S1024x1408, .bf16⟩
  | .local _ .vmem, ⟨65, _⟩ => ⟨S1024x1408, .bf16⟩
  | .local _ .vmem, ⟨66, _⟩ => ⟨S1024x1408, .f32⟩
  | .local _ .vmem, ⟨67, _⟩ => ⟨S1024x1408, .f32⟩
  | .local _ .vmem, ⟨68, _⟩ => ⟨S1024x1024, .bf16⟩
  | .local _ .vmem, ⟨69, _⟩ => ⟨S1024x1024, .bf16⟩
  | .local _ .vmem, ⟨70, _⟩ => ⟨S1024x1408, .bf16⟩
  | .local _ .vmem, ⟨71, _⟩ => ⟨S1024x1408, .bf16⟩
  | .local _ .vmem, ⟨72, _⟩ => ⟨S1024x1408, .f32⟩
  | .local _ .vmem, ⟨73, _⟩ => ⟨S1024x1408, .f32⟩
  | .local _ .vmem, ⟨74, _⟩ => ⟨S1024x1408, .bf16⟩
  | .local _ .vmem, ⟨75, _⟩ => ⟨S1024x1408, .bf16⟩
  | .local _ .vmem, ⟨76, _⟩ => ⟨S1024x1024, .bf16⟩
  | .local _ .vmem, ⟨77, _⟩ => ⟨S1024x1024, .bf16⟩
  | .local _ .vmem, ⟨78, _⟩ => ⟨S1408x1024, .f32⟩
  | .local _ .vmem, ⟨79, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev main_v12_0 : Ref sig .tc := ⟨.hbm, 31, rfl⟩
abbrev main_v12_1 : Ref sig .tc := ⟨.hbm, 32, rfl⟩
abbrev main_v12_2 : Ref sig .tc := ⟨.hbm, 33, rfl⟩
abbrev main_v12_3 : Ref sig .tc := ⟨.hbm, 34, rfl⟩
abbrev main_v12_4 : Ref sig .tc := ⟨.hbm, 35, rfl⟩
abbrev main_v12_5 : Ref sig .tc := ⟨.hbm, 36, rfl⟩
abbrev main_v12_6 : Ref sig .tc := ⟨.hbm, 37, rfl⟩
abbrev main_v13_0 : Ref sig .tc := ⟨.hbm, 38, rfl⟩
abbrev main_v13_1 : Ref sig .tc := ⟨.hbm, 39, rfl⟩
abbrev main_v13_2 : Ref sig .tc := ⟨.hbm, 40, rfl⟩
abbrev main_v13_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg12_0 : Ref sig .tc := ⟨.vmem, 41, rfl⟩
abbrev cc1_stg13_0 : Ref sig .tc := ⟨.vmem, 42, rfl⟩
abbrev cc2_stg0_0 : Ref sig .tc := ⟨.vmem, 43, rfl⟩
abbrev cc2_stg0_1 : Ref sig .tc := ⟨.vmem, 44, rfl⟩
abbrev cc2_stg1_0 : Ref sig .tc := ⟨.vmem, 45, rfl⟩
abbrev cc2_stg1_1 : Ref sig .tc := ⟨.vmem, 46, rfl⟩
abbrev cc2_stg2_0 : Ref sig .tc := ⟨.vmem, 47, rfl⟩
abbrev cc2_stg2_1 : Ref sig .tc := ⟨.vmem, 48, rfl⟩
abbrev cc2_stg3_0 : Ref sig .tc := ⟨.vmem, 49, rfl⟩
abbrev cc2_stg3_1 : Ref sig .tc := ⟨.vmem, 50, rfl⟩
abbrev cc2_stg4_0 : Ref sig .tc := ⟨.vmem, 51, rfl⟩
abbrev cc2_stg5_0 : Ref sig .tc := ⟨.vmem, 52, rfl⟩
abbrev cc2_stg6_0 : Ref sig .tc := ⟨.vmem, 53, rfl⟩
abbrev cc2_stg7_0 : Ref sig .tc := ⟨.vmem, 54, rfl⟩
abbrev cc2_stg8_0 : Ref sig .tc := ⟨.vmem, 55, rfl⟩
abbrev cc2_stg8_1 : Ref sig .tc := ⟨.vmem, 56, rfl⟩
abbrev cc2_stg9_0 : Ref sig .tc := ⟨.vmem, 57, rfl⟩
abbrev cc2_stg9_1 : Ref sig .tc := ⟨.vmem, 58, rfl⟩
abbrev cc2_stg10_0 : Ref sig .tc := ⟨.vmem, 59, rfl⟩
abbrev cc2_stg10_1 : Ref sig .tc := ⟨.vmem, 60, rfl⟩
abbrev cc2_stg11_0 : Ref sig .tc := ⟨.vmem, 61, rfl⟩
abbrev cc3_stg0_0 : Ref sig .tc := ⟨.vmem, 62, rfl⟩
abbrev cc3_stg0_1 : Ref sig .tc := ⟨.vmem, 63, rfl⟩
abbrev cc3_stg1_0 : Ref sig .tc := ⟨.vmem, 64, rfl⟩
abbrev cc3_stg1_1 : Ref sig .tc := ⟨.vmem, 65, rfl⟩
abbrev cc3_stg2_0 : Ref sig .tc := ⟨.vmem, 66, rfl⟩
abbrev cc3_stg2_1 : Ref sig .tc := ⟨.vmem, 67, rfl⟩
abbrev cc4_stg0_0 : Ref sig .tc := ⟨.vmem, 68, rfl⟩
abbrev cc4_stg0_1 : Ref sig .tc := ⟨.vmem, 69, rfl⟩
abbrev cc4_stg1_0 : Ref sig .tc := ⟨.vmem, 70, rfl⟩
abbrev cc4_stg1_1 : Ref sig .tc := ⟨.vmem, 71, rfl⟩
abbrev cc4_stg2_0 : Ref sig .tc := ⟨.vmem, 72, rfl⟩
abbrev cc4_stg2_1 : Ref sig .tc := ⟨.vmem, 73, rfl⟩
abbrev cc5_stg0_0 : Ref sig .tc := ⟨.vmem, 74, rfl⟩
abbrev cc5_stg0_1 : Ref sig .tc := ⟨.vmem, 75, rfl⟩
abbrev cc5_stg1_0 : Ref sig .tc := ⟨.vmem, 76, rfl⟩
abbrev cc5_stg1_1 : Ref sig .tc := ⟨.vmem, 77, rfl⟩
abbrev cc5_stg2_0 : Ref sig .tc := ⟨.vmem, 78, rfl⟩
abbrev cc5_stg2_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem10_0 : DmaSem sig := 39
abbrev cc1_sem11_0 : DmaSem sig := 40
abbrev cc1_sem12_0 : DmaSem sig := 41
abbrev cc1_sem13_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem5_0 : DmaSem sig := 52
abbrev cc2_sem6_0 : DmaSem sig := 53
abbrev cc2_sem7_0 : DmaSem sig := 54
abbrev cc2_sem8_0 : DmaSem sig := 55
abbrev cc2_sem8_1 : DmaSem sig := 56
abbrev cc2_sem9_0 : DmaSem sig := 57
abbrev cc2_sem9_1 : DmaSem sig := 58
abbrev cc2_sem10_0 : DmaSem sig := 59
abbrev cc2_sem10_1 : DmaSem sig := 60
abbrev cc2_sem11_0 : DmaSem sig := 61
abbrev cc3_sem0_0 : DmaSem sig := 62
abbrev cc3_sem0_1 : DmaSem sig := 63
abbrev cc3_sem1_0 : DmaSem sig := 64
abbrev cc3_sem1_1 : DmaSem sig := 65
abbrev cc3_sem2_0 : DmaSem sig := 66
abbrev cc3_sem2_1 : DmaSem sig := 67
abbrev cc4_sem0_0 : DmaSem sig := 68
abbrev cc4_sem0_1 : DmaSem sig := 69
abbrev cc4_sem1_0 : DmaSem sig := 70
abbrev cc4_sem1_1 : DmaSem sig := 71
abbrev cc4_sem2_0 : DmaSem sig := 72
abbrev cc4_sem2_1 : DmaSem sig := 73
abbrev cc5_sem0_0 : DmaSem sig := 74
abbrev cc5_sem0_1 : DmaSem sig := 75
abbrev cc5_sem1_0 : DmaSem sig := 76
abbrev cc5_sem1_1 : DmaSem sig := 77
abbrev cc5_sem2_0 : DmaSem sig := 78
abbrev cc5_sem2_1 : DmaSem sig := 79

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2816 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2816 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x2816 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2816x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x2816 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S256x2816 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev grid3 : Pipeline.Grid := ⟨3, ![1, 2, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 4], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 4], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1408x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== HalfRefIdeal.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S1024x256 : Shape := ⟨2, ![1024, 256]⟩

abbrev nBuf : Space → Nat
  | .hbm => 235
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x256, .f32⟩
  | 4 => ⟨S4096x1024, .f32⟩
  | 5 => ⟨S1024x1024, .f32⟩
  | 6 => ⟨S1024, .f32⟩
  | 7 => ⟨S1024x2816, .f32⟩
  | 8 => ⟨S1024x2816, .f32⟩
  | 9 => ⟨S2816x1024, .f32⟩
  | 10 => ⟨S1024, .f32⟩
  | 11 => ⟨S1024x1024, .f32⟩
  | 12 => ⟨S256x1024, .f32⟩
  | 13 => ⟨S1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x1024, .f32⟩
  | 33 => ⟨S4096x1024, .f32⟩
  | 34 => ⟨S1x1024, .f32⟩
  | 35 => ⟨S4096x1024, .f32⟩
  | 36 => ⟨S4096x1024, .f32⟩
  | 37 => ⟨S4096x2816, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S4096x2816, .f32⟩
  | 50 => ⟨S4096x2816, .f32⟩
  | 51 => ⟨S4096x2816, .f32⟩
  | 52 => ⟨S4096x2816, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096x1, .f32⟩
  | 100 => ⟨S4096x1, .f32⟩
  | 101 => ⟨S4096x1, .f32⟩
  | 102 => ⟨S4096x1, .f32⟩
  | 103 => ⟨S_, .f32⟩
  | 104 => ⟨S4096x1, .f32⟩
  | 105 => ⟨S4096x1, .f32⟩
  | 106 => ⟨S4096x1024, .f32⟩
  | 107 => ⟨S4096x1024, .f32⟩
  | 108 => ⟨S1x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096, .f32⟩
  | 118 => ⟨S_, .f32⟩
  | 119 => ⟨S4096, .f32⟩
  | 120 => ⟨S4096, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x1024, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S_, .f32⟩
  | 13 => ⟨S1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1024, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S1024x256, .f32⟩
  | 34 => ⟨S256x1024, .f32⟩
  | 35 => ⟨S4096x1024, .f32⟩
  | 36 => ⟨S1024x1024, .f32⟩
  | 37 => ⟨S1024x1024, .f32⟩
  | 38 => ⟨S4096x1024, .f32⟩
  | 39 => ⟨S4096x1024, .f32⟩
  | 40 => ⟨S_, .f32⟩
  | 41 => ⟨S1024, .f32⟩
  | 42 => ⟨S1x1024, .f32⟩
  | 43 => ⟨S4096x1024, .f32⟩
  | 44 => ⟨S4096x1024, .f32⟩
  | 45 => ⟨S_, .f32⟩
  | 46 => ⟨S1024, .f32⟩
  | 47 => ⟨S4096x1024, .f32⟩
  | 48 => ⟨S_, .f32⟩
  | 49 => ⟨S4096, .f32⟩
  | 50 => ⟨S4096x1, .f32⟩
  | 51 => ⟨S4096x1024, .f32⟩
  | 52 => ⟨S4096x1024, .f32⟩
  | 53 => ⟨S4096x1024, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S1024x2816, .f32⟩
  | 66 => ⟨S2816x1024, .f32⟩
  | 67 => ⟨S4096x2816, .f32⟩
  | 68 => ⟨S4096x2816, .f32⟩
  | 69 => ⟨S4096x2816, .f32⟩
  | 70 => ⟨S2816x1024, .f32⟩
  | 71 => ⟨S1024x2816, .f32⟩
  | 72 => ⟨S4096x1024, .f32⟩
  | 73 => ⟨S4096x2816, .f32⟩
  | 74 => ⟨S4096x2816, .f32⟩
  | 75 => ⟨S4096x2816, .f32⟩
  | 76 => ⟨S4096x2816, .f32⟩
  | 77 => ⟨S2816x1024, .f32⟩
  | 78 => ⟨S1024x2816, .f32⟩
  | 79 => ⟨S4096x1024, .f32⟩
  | 80 => ⟨S4096x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S4096x1024, .f32⟩
  | 87 => ⟨S_, .f32⟩
  | 88 => ⟨S1024, .f32⟩
  | 89 => ⟨S4096x1024, .f32⟩
  | 90 => ⟨S_, .f32⟩
  | 91 => ⟨S4096, .f32⟩
  | 92 => ⟨S4096x1, .f32⟩
  | 93 => ⟨S4096x1024, .f32⟩
  | 94 => ⟨S4096x1024, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v20_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v20_1 : Ref sig .tc := ⟨.hbm, 49, rfl⟩
abbrev main_v20_0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_6 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_v45 : Ref sig .tc := ⟨.hbm, 80, rfl⟩
abbrev main_cst_8 : Ref sig .tc := ⟨.hbm, 81, rfl⟩
abbrev main_v46 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_10 : Ref sig .tc := ⟨.hbm, 92, rfl⟩
abbrev main_v55 : Ref sig .tc := ⟨.hbm, 93, rfl⟩
abbrev main_v56 : Ref sig .tc := ⟨.hbm, 94, rfl⟩
abbrev main_cst_11 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_13 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_14 : Ref sig .tc := ⟨.hbm, 113, rfl⟩
abbrev main_v72 : Ref sig .tc := ⟨.hbm, 114, rfl⟩
abbrev main_v73 : Ref sig .tc := ⟨.hbm, 115, rfl⟩
abbrev main_cst_15 : Ref sig .tc := ⟨.hbm, 116, rfl⟩
abbrev main_v74 : Ref sig .tc := ⟨.hbm, 117, rfl⟩
abbrev main_cst_16 : Ref sig .tc := ⟨.hbm, 118, rfl⟩
abbrev main_v75 : Ref sig .tc := ⟨.hbm, 119, rfl⟩
abbrev main_v76 : Ref sig .tc := ⟨.hbm, 120, rfl⟩
abbrev main_cst_17 : Ref sig .tc := ⟨.hbm, 121, rfl⟩
abbrev main_v77 : Ref sig .tc := ⟨.hbm, 122, rfl⟩
abbrev main_cst_18 : Ref sig .tc := ⟨.hbm, 123, rfl⟩
abbrev main_v78 : Ref sig .tc := ⟨.hbm, 124, rfl⟩
abbrev main_cst_19 : Ref sig .tc := ⟨.hbm, 125, rfl⟩
abbrev main_cst_20 : Ref sig .tc := ⟨.hbm, 126, rfl⟩
abbrev main_v79 : Ref sig .tc := ⟨.hbm, 127, rfl⟩
abbrev main_v80 : Ref sig .tc := ⟨.hbm, 128, rfl⟩
abbrev main_cst_21 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_22 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_23 : Ref sig .tc := ⟨.hbm, 140, rfl⟩
abbrev main_v90 : Ref sig .tc := ⟨.hbm, 141, rfl⟩
abbrev main_v91 : Ref sig .tc := ⟨.hbm, 142, rfl⟩
abbrev main_cst_24 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_25 : Ref sig .tc := ⟨.hbm, 149, rfl⟩
abbrev main_v97 : Ref sig .tc := ⟨.hbm, 150, rfl⟩
abbrev main_v98 : Ref sig .tc := ⟨.hbm, 151, rfl⟩
abbrev main_cst_26 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_27 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_28 : Ref sig .tc := ⟨.hbm, 173, rfl⟩
abbrev main_v118 : Ref sig .tc := ⟨.hbm, 174, rfl⟩
abbrev main_v119 : Ref sig .tc := ⟨.hbm, 175, rfl⟩
abbrev main_cst_29 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_30 : Ref sig .tc := ⟨.hbm, 183, rfl⟩
abbrev main_v126 : Ref sig .tc := ⟨.hbm, 184, rfl⟩
abbrev main_v127 : Ref sig .tc := ⟨.hbm, 185, rfl⟩
abbrev main_cst_31 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_call1_v0 : Ref sig .tc := ⟨.hbm, 201, rfl⟩
abbrev main_call1_v1 : Ref sig .tc := ⟨.hbm, 202, rfl⟩
abbrev main_call1_v2 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_32 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_33 : Ref sig .tc := ⟨.hbm, 215, rfl⟩
abbrev main_v152 : Ref sig .tc := ⟨.hbm, 216, rfl⟩
abbrev main_v153 : Ref sig .tc := ⟨.hbm, 217, rfl⟩
abbrev main_cst_34 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_35 : Ref sig .tc := ⟨.hbm, 225, rfl⟩
abbrev main_v160 : Ref sig .tc := ⟨.hbm, 226, rfl⟩
abbrev main_v161 : Ref sig .tc := ⟨.hbm, 227, rfl⟩
abbrev main_cst_36 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩

abbrev nD : Nat := 1
abbrev τ : Topo := Topo.v7x

variable {F : FTy → Type} [FloatOps F]
-- ==== Glu.lean ====
abbrev S4096x512 : Shape := ⟨2, ![4096, 512]⟩
abbrev S4096x1024 : Shape := ⟨2, ![4096, 1024]⟩
abbrev S512x512 : Shape := ⟨2, ![512, 512]⟩
abbrev S512 : Shape := ⟨1, ![512]⟩
abbrev S512x1024 : Shape := ⟨2, ![512, 1024]⟩
abbrev S1x512 : Shape := ⟨2, ![1, 512]⟩

abbrev nBuf : Space → Nat
  | .hbm => 12
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S512x512, .bf16⟩
  | .hbm, ⟨6, _⟩ => ⟨S1x512, .f32⟩
  | .hbm, ⟨7, _⟩ => ⟨S512x1024, .bf16⟩
  | .hbm, ⟨8, _⟩ => ⟨S4096x512, .f32⟩
  | .hbm, ⟨9, _⟩ => ⟨S1x512, .f32⟩
  | .hbm, ⟨10, _⟩ => ⟨S512x512, .f32⟩
  | .hbm, ⟨11, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S1x512, .f32⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GluRefIdeal.lean ====
abbrev S4096x512 : Shape := ⟨2, ![4096, 512]⟩
abbrev S4096x1024 : Shape := ⟨2, ![4096, 1024]⟩
abbrev S512x512 : Shape := ⟨2, ![512, 512]⟩
abbrev S512 : Shape := ⟨1, ![512]⟩
abbrev S512x1024 : Shape := ⟨2, ![512, 1024]⟩
abbrev S_ : Shape := ⟨0, ![]⟩
abbrev S1x512 : Shape := ⟨2, ![1, 512]⟩
abbrev S1024x512 : Shape := ⟨2, ![1024, 512]⟩

abbrev nBuf : Space → Nat
  | .hbm => 82
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x1024, .f32⟩
  | .hbm, ⟨51, _⟩ => ⟨S1024x512, .f32⟩
  | .hbm, ⟨52, _⟩ => ⟨S512x1024, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | .hbm, ⟨62, _⟩ => ⟨S512x512, .f32⟩
  | .hbm, ⟨63, _⟩ => ⟨S512x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S_, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S_, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Gn.lean ====
abbrev S8x4096x64 : Shape := ⟨3, ![8, 4096, 64]⟩
abbrev S4096x512 : Shape := ⟨2, ![4096, 512]⟩
abbrev S4096x1024 : Shape := ⟨2, ![4096, 1024]⟩
abbrev S512 : Shape := ⟨1, ![512]⟩
abbrev S8x64 : Shape := ⟨2, ![8, 64]⟩
abbrev S512x1024 : Shape := ⟨2, ![512, 1024]⟩
abbrev S1x512 : Shape := ⟨2, ![1, 512]⟩
abbrev S8x512x64 : Shape := ⟨3, ![8, 512, 64]⟩
abbrev S512x512 : Shape := ⟨2, ![512, 512]⟩
abbrev S1x512x64 : Shape := ⟨3, ![1, 512, 64]⟩
abbrev S512x64 : Shape := ⟨2, ![512, 64]⟩

abbrev nBuf : Space → Nat
  | .hbm => 23
  | .vmem => 30
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x64, .f32⟩
  | .hbm, ⟨4, _⟩ => ⟨S4096x512, .f32⟩
  | .hbm, ⟨5, _⟩ => ⟨S4096x1024, .f32⟩
  | .hbm, ⟨6, _⟩ => ⟨S512, .f32⟩
  | .hbm, ⟨7, _⟩ => ⟨S512, .f32⟩
  | .hbm, ⟨8, _⟩ => ⟨S8x64, .f32⟩
  | .hbm, ⟨9, _⟩ => ⟨S512x1024, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S512x1024, .bf16⟩
  | .hbm, ⟨14, _⟩ => ⟨S8x4096x64, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S512x1024, .f32⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S8x512x64, .f32⟩
  | .local _ .vmem, ⟨5, _⟩ => ⟨S8x512x64, .f32⟩
  | .local _ .vmem, ⟨6, _⟩ => ⟨S8x512x64, .f32⟩
  | .local _ .vmem, ⟨7, _⟩ => ⟨S8x512x64, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x1024, .bf16⟩
  | .local _ .vmem, ⟨16, _⟩ => ⟨S8x512x64, .f32⟩
  | .local _ .vmem, ⟨17, _⟩ => ⟨S8x512x64, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S512x1024, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v4_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== GnRefIdeal.lean ====
abbrev S8x4096x64 : Shape := ⟨3, ![8, 4096, 64]⟩
abbrev S4096x512 : Shape := ⟨2, ![4096, 512]⟩
abbrev S4096x1024 : Shape := ⟨2, ![4096, 1024]⟩
abbrev S512 : Shape := ⟨1, ![512]⟩
abbrev S8x64 : Shape := ⟨2, ![8, 64]⟩
abbrev S512x1024 : Shape := ⟨2, ![512, 1024]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x512 : Shape := ⟨2, ![1, 512]⟩
abbrev S1x8x64 : Shape := ⟨3, ![1, 8, 64]⟩
abbrev S1024x512 : Shape := ⟨2, ![1024, 512]⟩

abbrev nBuf : Space → Nat
  | .hbm => 143
  | .vmem => 0
  | .smem => 0
  | _ => 0

abbrev hbmTy0_0 (i : Nat) : BufTy := match i % 128 with
  | 0 => ⟨S8x4096x64, .f32⟩
  | 1 => ⟨S8x4096x64, .f32⟩
  | 2 => ⟨S8x4096x64, .f32⟩
  | 3 => ⟨S8x4096x64, .f32⟩
  | 4 => ⟨S4096x512, .f32⟩
  | 5 => ⟨S4096x1024, .f32⟩
  | 6 => ⟨S512, .f32⟩
  | 7 => ⟨S512, .f32⟩
  | 8 => ⟨S8x64, .f32⟩
  | 9 => ⟨S512x1024, .f32⟩
  | 10 => ⟨S4096x8x64, .f32⟩
  | 11 => ⟨S4096x512, .f32⟩
  | 12 => ⟨S4096x8x64, .f32⟩
  | 13 => ⟨S4096x512, .f32⟩
  | 14 => ⟨S4096x8x64, .f32⟩
  | 15 => ⟨S4096x512, .f32⟩
  | 16 => ⟨S4096x8x64, .f32⟩
  | 17 => ⟨S4096x512, .f32⟩
  | 18 => ⟨S4096x8x64, .f32⟩
  | 19 => ⟨S4096x8x64, .f32⟩
  | 20 => ⟨S4096x8x64, .f32⟩
  | 21 => ⟨S4096x8x64, .f32⟩
  | 22 => ⟨S_, .f32⟩
  | 23 => ⟨S4096x8, .f32⟩
  | 24 => ⟨S4096x8x1, .f32⟩
  | 25 => ⟨S_, .f32⟩
  | 26 => ⟨S4096x8x1, .f32⟩
  | 27 => ⟨S4096x8x1, .f32⟩
  | 28 => ⟨S4096x8x64, .f32⟩
  | 29 => ⟨S4096x8x64, .f32⟩
  | 30 => ⟨S4096x8x64, .f32⟩
  | 31 => ⟨S_, .f32⟩
  | 32 => ⟨S4096x8, .f32⟩
  | 33 => ⟨S4096x8x1, .f32⟩
  | 34 => ⟨S_, .f32⟩
  | 35 => ⟨S4096x8x1, .f32⟩
  | 36 => ⟨S4096x8x1, .f32⟩
  | 37 => ⟨S_, .f32⟩
  | 38 => ⟨S4096x8x1, .f32⟩
  | 39 => ⟨S4096x8x1, .f32⟩
  | 40 => ⟨S4096x8x1, .f32⟩
  | 41 => ⟨S4096x8x1, .f32⟩
  | 42 => ⟨S_, .f32⟩
  | 43 => ⟨S4096x8x1, .f32⟩
  | 44 => ⟨S4096x8x1, .f32⟩
  | 45 => ⟨S4096x8x64, .f32⟩
  | 46 => ⟨S4096x8x64, .f32⟩
  | 47 => ⟨S4096x512, .f32⟩
  | 48 => ⟨S1x512, .f32⟩
  | 49 => ⟨S4096x512, .f32⟩
  | 50 => ⟨S4096x512, .f32⟩
  | 51 => ⟨S1x512, .f32⟩
  | 52 => ⟨S4096x512, .f32⟩
  | 53 => ⟨S4096x512, .f32⟩
  | 54 => ⟨S4096x8x64, .f32⟩
  | 55 => ⟨S1x8x64, .f32⟩
  | 56 => ⟨S4096x8x64, .f32⟩
  | 57 => ⟨S4096x8x64, .f32⟩
  | 58 => ⟨S_, .f32⟩
  | 59 => ⟨S4096x8, .f32⟩
  | 60 => ⟨S4096x8x1, .f32⟩
  | 61 => ⟨S4096x8x64, .f32⟩
  | 62 => ⟨S4096x8x64, .f32⟩
  | 63 => ⟨S4096x512, .f32⟩
  | 64 => ⟨S4096x512, .f32⟩
  | 65 => ⟨S4096x512, .f32⟩
  | 66 => ⟨S4096x1024, .f32⟩
  | 67 => ⟨S1024x512, .f32⟩
  | 68 => ⟨S512x1024, .f32⟩
  | 69 => ⟨S4096x512, .f32⟩
  | 70 => ⟨S4096x512, .f32⟩
  | 71 => ⟨S4096x512, .f32⟩
  | 72 => ⟨S4096x8x64, .f32⟩
  | 73 => ⟨S4096x8x64, .f32⟩
  | 74 => ⟨S4096x8x64, .f32⟩
  | 75 => ⟨S4096x8x64, .f32⟩
  | 76 => ⟨S_, .f32⟩
  | 77 => ⟨S4096x8, .f32⟩
  | 78 => ⟨S4096x8x1, .f32⟩
  | 79 => ⟨S_, .f32⟩
  | 80 => ⟨S4096x8, .f32⟩
  | 81 => ⟨S4096x8x64, .f32⟩
  | 82 => ⟨S4096x8x64, .f32⟩
  | 83 => ⟨S_, .f32⟩
  | 84 => ⟨S8x64, .f32⟩
  | 85 => ⟨S1x8x64, .f32⟩
  | 86 => ⟨S4096x8x64, .f32⟩
  | 87 => ⟨S4096x8x64, .f32⟩
  | 88 => ⟨S_, .f32⟩
  | 89 => ⟨S8x64, .f32⟩
  | 90 => ⟨S4096x8x64, .f32⟩
  | 91 => ⟨S4096x8x64, .f32⟩
  | 92 => ⟨S_, .f32⟩
  | 93 => ⟨S512, .f32⟩
  | 94 => ⟨S1x512, .f32⟩
  | 95 => ⟨S_, .f32⟩
  | 96 => ⟨S512, .f32⟩
  | 97 => ⟨S4096x512, .f32⟩
  | 98 => ⟨S_, .f32⟩
  | 99 => ⟨S512, .f32⟩
  | 100 => ⟨S1x512, .f32⟩
  | 101 => ⟨S4096x512, .f32⟩
  | 102 => ⟨S4096x512, .f32⟩
  | 103 => ⟨S_, .f32⟩
  | 104 => ⟨S512, .f32⟩
  | 105 => ⟨S4096x8x64, .f32⟩
  | 106 => ⟨S4096x8x64, .f32⟩
  | 107 => ⟨S_, .f32⟩
  | 108 => ⟨S4096x8, .f32⟩
  | 109 => ⟨S4096x8x1, .f32⟩
  | 110 => ⟨S4096x8x64, .f32⟩
  | 111 => ⟨S4096x8x64, .f32⟩
  | 112 => ⟨S4096x8x1, .f32⟩
  | 113 => ⟨S_, .f32⟩
  | 114 => ⟨S4096x8x1, .f32⟩
  | 115 => ⟨S4096x8x1, .f32⟩
  | 116 => ⟨S_, .f32⟩
  | 117 => ⟨S4096x8, .f32⟩
  | 118 => ⟨S4096x8x64, .f32⟩
  | 119 => ⟨S4096x8x64, .f32⟩
  | 120 => ⟨S4096x8x64, .f32⟩
  | 121 => ⟨S4096x8x64, .f32⟩
  | 122 => ⟨S4096x8x64, .f32⟩
  | 123 => ⟨S4096x8x64, .f32⟩
  | 124 => ⟨S_, .f32⟩
  | 125 => ⟨S4096x8, .f32⟩
  | 126 => ⟨S4096x8x1, .f32⟩
  | 127 => ⟨S_, .f32⟩
  | _ => ⟨S8x4096x64, .f32⟩

abbrev hbmTy0_1 (i : Nat) : BufTy := match i % 128 with
  | 0 => ⟨S4096x8x1, .f32⟩
  | 1 => ⟨S4096x8x1, .f32⟩
  | 2 => ⟨S_, .f32⟩
  | 3 => ⟨S4096x8, .f32⟩
  | 4 => ⟨S4096x8x64, .f32⟩
  | 5 => ⟨S4096x8x64, .f32⟩
  | 6 => ⟨S4096x512, .f32⟩
  | 7 => ⟨S4096x512, .f32⟩
  | 8 => ⟨S4096x512, .f32⟩
  | 9 => ⟨S4096x512, .f32⟩
  | 10 => ⟨S4096x8x64, .f32⟩
  | 11 => ⟨S8x4096x64, .f32⟩
  | 12 => ⟨S1x512, .f32⟩
  | 13 => ⟨S1x512, .f32⟩
  | 14 => ⟨S1x512, .f32⟩
  | _ => ⟨S8x4096x64, .f32⟩

abbrev hbmTy (i : Nat) : BufTy := match i / 128 with
  | 0 => hbmTy0_0 i
  | 1 => hbmTy0_1 i
  | _ => ⟨S8x4096x64, .f32⟩

abbrev bufTy : (tb : Table) → Fin (tcTables nBuf tb) → BufTy
  | .hbm, ⟨i, _⟩ => hbmTy i
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_15 : Ref sig .tc := ⟨.hbm, 113, rfl⟩
abbrev main_v87 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_17 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_v98 : Ref sig .tc := ⟨.hbm, 128, rfl⟩
abbrev main_v99 : Ref sig .tc := ⟨.hbm, 129, rfl⟩
abbrev main_cst_19 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]
-- ==== Inp.lean ====
abbrev S4096x1024 : Shape := ⟨2, ![4096, 1024]⟩
abbrev S4096x512 : Shape := ⟨2, ![4096, 512]⟩
abbrev S4096x1792 : Shape := ⟨2, ![4096, 1792]⟩
abbrev S1024 : Shape := ⟨1, ![1024]⟩
abbrev S1024x2304 : Shape := ⟨2, ![1024, 2304]⟩
abbrev S1792 : Shape := ⟨1, ![1792]⟩
abbrev S1x1024 : Shape := ⟨2, ![1, 1024]⟩
abbrev S4096x2304 : Shape := ⟨2, ![4096, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩
abbrev S1x1792 : Shape := ⟨2, ![1, 1792]⟩
abbrev S1024x512 : Shape := ⟨2, ![1024, 512]⟩
abbrev S1024x1792 : Shape := ⟨2, ![1024, 1792]⟩
abbrev S512x512 : Shape := ⟨2, ![512, 512]⟩
abbrev S512x1792 : Shape := ⟨2, ![512, 1792]⟩
abbrev S8x1792 : Shape := ⟨2, ![8, 1792]⟩
abbrev S1024x1024 : Shape := ⟨2, ![1024, 1024]⟩
abbrev S1024x1152 : Shape := ⟨2, ![1024, 1152]⟩

abbrev nBuf : Space → Nat
  | .hbm => 19
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x1792, .f32⟩
  | .hbm, ⟨4, _⟩ => ⟨S1024, .f32⟩
  | .hbm, ⟨5, _⟩ => ⟨S1024x2304, .f32⟩
  | .hbm, ⟨6, _⟩ => ⟨S1792, .f32⟩
  | .hbm, ⟨7, _⟩ => ⟨S1024x2304, .bf16⟩
  | .hbm, ⟨8, _⟩ => ⟨S1x1024, .f32⟩
  | .hbm, ⟨9, _⟩ => ⟨S4096x2304, .f32⟩
  | .hbm, ⟨10, _⟩ => ⟨S4096x1024, .bf16⟩
  | .hbm, ⟨11, _⟩ => ⟨S1x1792, .f32⟩
  | .hbm, ⟨12, _⟩ => ⟨S1024x512, .bf16⟩
  | .hbm, ⟨13, _⟩ => ⟨S1024x1792, .bf16⟩
  | .hbm, ⟨14, _⟩ => ⟨S4096x1024, .f32⟩
  | .hbm, ⟨15, _⟩ => ⟨S4096x2304, .bf16⟩
  | .hbm, ⟨16, _⟩ => ⟨S1x1024, .f32⟩
  | .hbm, ⟨17, _⟩ => ⟨S1024x2304, .f32⟩
  | .hbm, ⟨18, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x2304, .f32⟩
  | .local _ .vmem, ⟨5, _⟩ => ⟨S512x2304, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x512, .f32⟩
  | .local _ .vmem, ⟨13, _⟩ => ⟨S512x512, .f32⟩
  | .local _ .vmem, ⟨14, _⟩ => ⟨S512x1792, .f32⟩
  | .local _ .vmem, ⟨15, _⟩ => ⟨S512x1792, .f32⟩
  | .local _ .vmem, ⟨16, _⟩ => ⟨S8x1792, .f32⟩
  | .local _ .vmem, ⟨17, _⟩ => ⟨S8x1792, .f32⟩
  | .local _ .vmem, ⟨18, _⟩ => ⟨S1x1024, .f32⟩
  | .local _ .vmem, ⟨19, _⟩ => ⟨S1x1792, .f32⟩
  | .local _ .vmem, ⟨20, _⟩ => ⟨S1024x512, .bf16⟩
  | .local _ .vmem, ⟨21, _⟩ => ⟨S1024x1792, .bf16⟩
  | .local _ .vmem, ⟨22, _⟩ => ⟨S512x1024, .f32⟩
  | .local _ .vmem, ⟨23, _⟩ => ⟨S512x1024, .f32⟩
  | .local _ .vmem, ⟨24, _⟩ => ⟨S512x2304, .bf16⟩
  | .local _ .vmem, ⟨25, _⟩ => ⟨S512x2304, .bf16⟩
  | .local _ .vmem, ⟨26, _⟩ => ⟨S1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1152, .bf16⟩
  | .local _ .vmem, ⟨30, _⟩ => ⟨S1024x1152, .bf16⟩
  | .local _ .vmem, ⟨31, _⟩ => ⟨S1024x1152, .f32⟩
  | .local _ .vmem, ⟨32, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1792 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x1792 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1792 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1792 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x2304 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨3, ![1, 2, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1152 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1152 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== InpRefIdeal.lean ====
abbrev S4096x1024 : Shape := ⟨2, ![4096, 1024]⟩
abbrev S4096x512 : Shape := ⟨2, ![4096, 512]⟩
abbrev S4096x1792 : Shape := ⟨2, ![4096, 1792]⟩
abbrev S1024 : Shape := ⟨1, ![1024]⟩
abbrev S1024x2304 : Shape := ⟨2, ![1024, 2304]⟩
abbrev S1792 : Shape := ⟨1, ![1792]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2304 : Shape := ⟨2, ![4096, 2304]⟩
abbrev S1x1792 : Shape := ⟨2, ![1, 1792]⟩
abbrev S4095x1792 : Shape := ⟨2, ![4095, 1792]⟩
abbrev S2304x1024 : Shape := ⟨2, ![2304, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x1792, .f32⟩
  | .hbm, ⟨4, _⟩ => ⟨S1024, .f32⟩
  | .hbm, ⟨5, _⟩ => ⟨S1024x2304, .f32⟩
  | .hbm, ⟨6, _⟩ => ⟨S1792, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2304, .f32⟩
  | .hbm, ⟨28, _⟩ => ⟨S4096x1792, .f32⟩
  | .hbm, ⟨29, _⟩ => ⟨S_, .f32⟩
  | .hbm, ⟨30, _⟩ => ⟨S1x1792, .f32⟩
  | .hbm, ⟨31, _⟩ => ⟨S4095x1792, .f32⟩
  | .hbm, ⟨32, _⟩ => ⟨S4096x1792, .f32⟩
  | .hbm, ⟨33, _⟩ => ⟨S_, .f32⟩
  | .hbm, ⟨34, _⟩ => ⟨S1x1792, .f32⟩
  | .hbm, ⟨35, _⟩ => ⟨S4096x512, .f32⟩
  | .hbm, ⟨36, _⟩ => ⟨S4096x1792, .f32⟩
  | .hbm, ⟨37, _⟩ => ⟨S1x1792, .f32⟩
  | .hbm, ⟨38, _⟩ => ⟨S4096x1792, .f32⟩
  | .hbm, ⟨39, _⟩ => ⟨S4096x1792, .f32⟩
  | .hbm, ⟨40, _⟩ => ⟨S4096x1792, .f32⟩
  | .hbm, ⟨41, _⟩ => ⟨S4096x1792, .f32⟩
  | .hbm, ⟨42, _⟩ => ⟨S4096x1792, .f32⟩
  | .hbm, ⟨43, _⟩ => ⟨S4096x1792, .f32⟩
  | .hbm, ⟨44, _⟩ => ⟨S4096x1792, .f32⟩
  | .hbm, ⟨45, _⟩ => ⟨S4096x1792, .f32⟩
  | .hbm, ⟨46, _⟩ => ⟨S4096x1792, .f32⟩
  | .hbm, ⟨47, _⟩ => ⟨S_, .f32⟩
  | .hbm, ⟨48, _⟩ => ⟨S4096x2304, .f32⟩
  | .hbm, ⟨49, _⟩ => ⟨S1x1792, .f32⟩
  | .hbm, ⟨50, _⟩ => ⟨S4095x1792, .f32⟩
  | .hbm, ⟨51, _⟩ => ⟨S_, .f32⟩
  | .hbm, ⟨52, _⟩ => ⟨S4096x1792, .f32⟩
  | .hbm, ⟨53, _⟩ => ⟨S4096x1792, .f32⟩
  | .hbm, ⟨54, _⟩ => ⟨S_, .f32⟩
  | .hbm, ⟨55, _⟩ => ⟨S4096x2304, .f32⟩
  | .hbm, ⟨56, _⟩ => ⟨S4096x2304, .f32⟩
  | .hbm, ⟨57, _⟩ => ⟨S2304x1024, .f32⟩
  | .hbm, ⟨58, _⟩ => ⟨S1024x2304, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== AdamA.lean ====
abbrev S288x1024 : Shape := ⟨2, ![288, 1024]⟩
abbrev S8x288x1024 : Shape := ⟨3, ![8, 288, 1024]⟩
abbrev S144x1024 : Shape := ⟨2, ![144, 1024]⟩
abbrev S8x144x1024 : Shape := ⟨3, ![8, 144, 1024]⟩
abbrev S1x144x1024 : Shape := ⟨3, ![1, 144, 1024]⟩

abbrev nBuf : Space → Nat
  | .hbm => 9
  | .vmem => 18
  | .smem => 0
  | _ => 0

abbrev bufTy : (tb : Table) → Fin (tcTables nBuf tb) → BufTy
  | .hbm, ⟨0, _⟩ => ⟨S288x1024, .f32⟩
  | .hbm, ⟨1, _⟩ => ⟨S8x288x1024, .bf16⟩
  | .hbm, ⟨2, _⟩ => ⟨S288x1024, .f32⟩
  | .hbm, ⟨3, _⟩ => ⟨S288x1024, .f32⟩
  | .hbm, ⟨4, _⟩ => ⟨S288x1024, .f32⟩
  | .hbm, ⟨5, _⟩ => ⟨S288x1024, .f32⟩
  | .hbm, ⟨6, _⟩ => ⟨S288x1024, .f32⟩
  | .hbm, ⟨7, _⟩ => ⟨S288x1024, .f32⟩
  | .hbm, ⟨8, _⟩ => ⟨S288x1024, .f32⟩
  | .local _ .vmem, ⟨0, _⟩ => ⟨S144x1024, .f32⟩
  | .local _ .vmem, ⟨1, _⟩ => ⟨S144x1024, .f32⟩
  | .local _ .vmem, ⟨2, _⟩ => ⟨S8x144x1024, .bf16⟩
  | .local _ .vmem, ⟨3, _⟩ => ⟨S8x144x1024, .bf16⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | .local _ .vmem, ⟨16, _⟩ => ⟨S144x1024, .f32⟩
  | .local _ .vmem, ⟨17, _⟩ => ⟨S144x1024, .f32⟩
  | _, _ => ⟨S288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S144x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamARefIdeal.lean ====
abbrev S288x1024 : Shape := ⟨2, ![288, 1024]⟩
abbrev S8x288x1024 : Shape := ⟨3, ![8, 288, 1024]⟩
abbrev S7x288x1024 : Shape := ⟨3, ![7, 288, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S288x1024, .f32⟩
  | .hbm, ⟨1, _⟩ => ⟨S8x288x1024, .bf16⟩
  | .hbm, ⟨2, _⟩ => ⟨S288x1024, .f32⟩
  | .hbm, ⟨3, _⟩ => ⟨S288x1024, .f32⟩
  | .hbm, ⟨4, _⟩ => ⟨S288x1024, .f32⟩
  | .hbm, ⟨5, _⟩ => ⟨S7x288x1024, .bf16⟩
  | .hbm, ⟨6, _⟩ => ⟨S7x288x1024, .f32⟩
  | .hbm, ⟨7, _⟩ => ⟨S_, .f32⟩
  | .hbm, ⟨8, _⟩ => ⟨S288x1024, .f32⟩
  | .hbm, ⟨9, _⟩ => ⟨S288x1024, .f32⟩
  | .hbm, ⟨10, _⟩ => ⟨S_, .f32⟩
  | .hbm, ⟨11, _⟩ => ⟨S288x1024, .f32⟩
  | .hbm, ⟨12, _⟩ => ⟨S288x1024, .f32⟩
  | .hbm, ⟨13, _⟩ => ⟨S_, .f32⟩
  | .hbm, ⟨14, _⟩ => ⟨S288x1024, .f32⟩
  | .hbm, ⟨15, _⟩ => ⟨S288x1024, .f32⟩
  | .hbm, ⟨16, _⟩ => ⟨S288x1024, .f32⟩
  | .hbm, ⟨17, _⟩ => ⟨S_, .f32⟩
  | .hbm, ⟨18, _⟩ => ⟨S288x1024, .f32⟩
  | .hbm, ⟨19, _⟩ => ⟨S288x1024, .f32⟩
  | .hbm, ⟨20, _⟩ => ⟨S288x1024, .f32⟩
  | .hbm, ⟨21, _⟩ => ⟨S_, .f32⟩
  | .hbm, ⟨22, _⟩ => ⟨S288x1024, .f32⟩
  | .hbm, ⟨23, _⟩ => ⟨S288x1024, .f32⟩
  | .hbm, ⟨24, _⟩ => ⟨S288x1024, .f32⟩
  | .hbm, ⟨25, _⟩ => ⟨S_, .f32⟩
  | .hbm, ⟨26, _⟩ => ⟨S288x1024, .f32⟩
  | .hbm, ⟨27, _⟩ => ⟨S288x1024, .f32⟩
  | .hbm, ⟨28, _⟩ => ⟨S_, .f32⟩
  | .hbm, ⟨29, _⟩ => ⟨S288x1024, .f32⟩
  | .hbm, ⟨30, _⟩ => ⟨S288x1024, .f32⟩
  | .hbm, ⟨31, _⟩ => ⟨S288x1024, .f32⟩
  | .hbm, ⟨32, _⟩ => ⟨S_, .f32⟩
  | .hbm, ⟨33, _⟩ => ⟨S288x1024, .f32⟩
  | .hbm, ⟨34, _⟩ => ⟨S288x1024, .f32⟩
  | .hbm, ⟨35, _⟩ => ⟨S288x1024, .f32⟩
  | .hbm, ⟨36, _⟩ => ⟨S_, .f32⟩
  | .hbm, ⟨37, _⟩ => ⟨S288x1024, .f32⟩
  | .hbm, ⟨38, _⟩ => ⟨S288x1024, .f32⟩
  | .hbm, ⟨39, _⟩ => ⟨S288x1024, .f32⟩
  | .hbm, ⟨40, _⟩ => ⟨S_, .f32⟩
  | .hbm, ⟨41, _⟩ => ⟨S288x1024, .f32⟩
  | .hbm, ⟨42, _⟩ => ⟨S288x1024, .f32⟩
  | _, _ => ⟨S288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamB.lean ====
abbrev S352x1024 : Shape := ⟨2, ![352, 1024]⟩
abbrev S8x352x1024 : Shape := ⟨3, ![8, 352, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBRefIdeal.lean ====
abbrev S352x1024 : Shape := ⟨2, ![352, 1024]⟩
abbrev S8x352x1024 : Shape := ⟨3, ![8, 352, 1024]⟩
abbrev S7x352x1024 : Shape := ⟨3, ![7, 352, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S7x352x1024, .bf16⟩
  | .hbm, ⟨6, _⟩ => ⟨S7x352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamC.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamCRefIdeal.lean ====
abbrev S128x1024 : Shape := ⟨2, ![128, 1024]⟩
abbrev S8x128x1024 : Shape := ⟨3, ![8, 128, 1024]⟩
abbrev S7x128x1024 : Shape := ⟨3, ![7, 128, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S7x128x1024, .bf16⟩
  | .hbm, ⟨6, _⟩ => ⟨S7x128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamD.lean ====
abbrev S80x1024 : Shape := ⟨2, ![80, 1024]⟩
abbrev S8x80x1024 : Shape := ⟨3, ![8, 80, 1024]⟩
abbrev S1x80x1024 : Shape := ⟨3, ![1, 80, 1024]⟩

abbrev nBuf : Space → Nat
  | .hbm => 9
  | .vmem => 9
  | .smem => 0
  | _ => 0

abbrev bufTy : (tb : Table) → Fin (tcTables nBuf tb) → BufTy
  | .hbm, ⟨0, _⟩ => ⟨S80x1024, .f32⟩
  | .hbm, ⟨1, _⟩ => ⟨S8x80x1024, .bf16⟩
  | .hbm, ⟨2, _⟩ => ⟨S80x1024, .f32⟩
  | .hbm, ⟨3, _⟩ => ⟨S80x1024, .f32⟩
  | .hbm, ⟨4, _⟩ => ⟨S80x1024, .f32⟩
  | .hbm, ⟨5, _⟩ => ⟨S80x1024, .f32⟩
  | .hbm, ⟨6, _⟩ => ⟨S80x1024, .f32⟩
  | .hbm, ⟨7, _⟩ => ⟨S80x1024, .f32⟩
  | .hbm, ⟨8, _⟩ => ⟨S80x1024, .f32⟩
  | .local _ .vmem, ⟨0, _⟩ => ⟨S80x1024, .f32⟩
  | .local _ .vmem, ⟨1, _⟩ => ⟨S8x80x1024, .bf16⟩
  | .local _ .vmem, ⟨2, _⟩ => ⟨S80x1024, .f32⟩
  | .local _ .vmem, ⟨3, _⟩ => ⟨S80x1024, .f32⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | .local _ .vmem, ⟨7, _⟩ => ⟨S80x1024, .f32⟩
  | .local _ .vmem, ⟨8, _⟩ => ⟨S80x1024, .f32⟩
  | _, _ => ⟨S80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x80x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S80x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S80x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S80x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S80x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S80x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamDRefIdeal.lean ====
abbrev S80x1024 : Shape := ⟨2, ![80, 1024]⟩
abbrev S8x80x1024 : Shape := ⟨3, ![8, 80, 1024]⟩
abbrev S7x80x1024 : Shape := ⟨3, ![7, 80, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S80x1024, .f32⟩
  | .hbm, ⟨1, _⟩ => ⟨S8x80x1024, .bf16⟩
  | .hbm, ⟨2, _⟩ => ⟨S80x1024, .f32⟩
  | .hbm, ⟨3, _⟩ => ⟨S80x1024, .f32⟩
  | .hbm, ⟨4, _⟩ => ⟨S80x1024, .f32⟩
  | .hbm, ⟨5, _⟩ => ⟨S7x80x1024, .bf16⟩
  | .hbm, ⟨6, _⟩ => ⟨S7x80x1024, .f32⟩
  | .hbm, ⟨7, _⟩ => ⟨S_, .f32⟩
  | .hbm, ⟨8, _⟩ => ⟨S80x1024, .f32⟩
  | .hbm, ⟨9, _⟩ => ⟨S80x1024, .f32⟩
  | .hbm, ⟨10, _⟩ => ⟨S_, .f32⟩
  | .hbm, ⟨11, _⟩ => ⟨S80x1024, .f32⟩
  | .hbm, ⟨12, _⟩ => ⟨S80x1024, .f32⟩
  | .hbm, ⟨13, _⟩ => ⟨S_, .f32⟩
  | .hbm, ⟨14, _⟩ => ⟨S80x1024, .f32⟩
  | .hbm, ⟨15, _⟩ => ⟨S80x1024, .f32⟩
  | .hbm, ⟨16, _⟩ => ⟨S80x1024, .f32⟩
  | .hbm, ⟨17, _⟩ => ⟨S_, .f32⟩
  | .hbm, ⟨18, _⟩ => ⟨S80x1024, .f32⟩
  | .hbm, ⟨19, _⟩ => ⟨S80x1024, .f32⟩
  | .hbm, ⟨20, _⟩ => ⟨S80x1024, .f32⟩
  | .hbm, ⟨21, _⟩ => ⟨S_, .f32⟩
  | .hbm, ⟨22, _⟩ => ⟨S80x1024, .f32⟩
  | .hbm, ⟨23, _⟩ => ⟨S80x1024, .f32⟩
  | .hbm, ⟨24, _⟩ => ⟨S80x1024, .f32⟩
  | .hbm, ⟨25, _⟩ => ⟨S_, .f32⟩
  | .hbm, ⟨26, _⟩ => ⟨S80x1024, .f32⟩
  | .hbm, ⟨27, _⟩ => ⟨S80x1024, .f32⟩
  | .hbm, ⟨28, _⟩ => ⟨S_, .f32⟩
  | .hbm, ⟨29, _⟩ => ⟨S80x1024, .f32⟩
  | .hbm, ⟨30, _⟩ => ⟨S80x1024, .f32⟩
  | .hbm, ⟨31, _⟩ => ⟨S80x1024, .f32⟩
  | .hbm, ⟨32, _⟩ => ⟨S_, .f32⟩
  | .hbm, ⟨33, _⟩ => ⟨S80x1024, .f32⟩
  | .hbm, ⟨34, _⟩ => ⟨S80x1024, .f32⟩
  | .hbm, ⟨35, _⟩ => ⟨S80x1024, .f32⟩
  | .hbm, ⟨36, _⟩ => ⟨S_, .f32⟩
  | .hbm, ⟨37, _⟩ => ⟨S80x1024, .f32⟩
  | .hbm, ⟨38, _⟩ => ⟨S80x1024, .f32⟩
  | .hbm, ⟨39, _⟩ => ⟨S80x1024, .f32⟩
  | .hbm, ⟨40, _⟩ => ⟨S_, .f32⟩
  | .hbm, ⟨41, _⟩ => ⟨S80x1024, .f32⟩
  | .hbm, ⟨42, _⟩ => ⟨S80x1024, .f32⟩
  | _, _ => ⟨S80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== SmallA.lean ====
abbrev S576x1024 : Shape := ⟨2, ![576, 1024]⟩
abbrev S32x1024 : Shape := ⟨2, ![32, 1024]⟩
abbrev S1x1024 : Shape := ⟨2, ![1, 1024]⟩
abbrev S72x1024 : Shape := ⟨2, ![72, 1024]⟩

abbrev nBuf : Space → Nat
  | .hbm => 22
  | .vmem => 22
  | .smem => 0
  | _ => 0

abbrev bufTy : (tb : Table) → Fin (tcTables nBuf tb) → BufTy
  | .hbm, ⟨0, _⟩ => ⟨S576x1024, .f32⟩
  | .hbm, ⟨1, _⟩ => ⟨S32x1024, .f32⟩
  | .hbm, ⟨2, _⟩ => ⟨S32x1024, .f32⟩
  | .hbm, ⟨3, _⟩ => ⟨S1x1024, .f32⟩
  | .hbm, ⟨4, _⟩ => ⟨S32x1024, .f32⟩
  | .hbm, ⟨5, _⟩ => ⟨S32x1024, .f32⟩
  | .hbm, ⟨6, _⟩ => ⟨S1x1024, .f32⟩
  | .hbm, ⟨7, _⟩ => ⟨S32x1024, .f32⟩
  | .hbm, ⟨8, _⟩ => ⟨S32x1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S576x1024, .f32⟩
  | .local _ .vmem, ⟨1, _⟩ => ⟨S32x1024, .f32⟩
  | .local _ .vmem, ⟨2, _⟩ => ⟨S32x1024, .f32⟩
  | .local _ .vmem, ⟨3, _⟩ => ⟨S1x1024, .f32⟩
  | .local _ .vmem, ⟨4, _⟩ => ⟨S32x1024, .f32⟩
  | .local _ .vmem, ⟨5, _⟩ => ⟨S32x1024, .f32⟩
  | .local _ .vmem, ⟨6, _⟩ => ⟨S1x1024, .f32⟩
  | .local _ .vmem, ⟨7, _⟩ => ⟨S32x1024, .f32⟩
  | .local _ .vmem, ⟨8, _⟩ => ⟨S32x1024, .f32⟩
  | .local _ .vmem, ⟨9, _⟩ => ⟨S1x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S576x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallAIdeal.lean ====
abbrev S576x1024 : Shape := ⟨2, ![576, 1024]⟩
abbrev S32x1024 : Shape := ⟨2, ![32, 1024]⟩
abbrev S1x1024 : Shape := ⟨2, ![1, 1024]⟩
abbrev S72x1024 : Shape := ⟨2, ![72, 1024]⟩

abbrev nBuf : Space → Nat
  | .hbm => 22
  | .vmem => 22
  | .smem => 0
  | _ => 0

abbrev bufTy : (tb : Table) → Fin (tcTables nBuf tb) → BufTy
  | .hbm, ⟨0, _⟩ => ⟨S576x1024, .f32⟩
  | .hbm, ⟨1, _⟩ => ⟨S32x1024, .f32⟩
  | .hbm, ⟨2, _⟩ => ⟨S32x1024, .f32⟩
  | .hbm, ⟨3, _⟩ => ⟨S1x1024, .f32⟩
  | .hbm, ⟨4, _⟩ => ⟨S32x1024, .f32⟩
  | .hbm, ⟨5, _⟩ => ⟨S32x1024, .f32⟩
  | .hbm, ⟨6, _⟩ => ⟨S1x1024, .f32⟩
  | .hbm, ⟨7, _⟩ => ⟨S32x1024, .f32⟩
  | .hbm, ⟨8, _⟩ => ⟨S32x1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S576x1024, .f32⟩
  | .local _ .vmem, ⟨1, _⟩ => ⟨S32x1024, .f32⟩
  | .local _ .vmem, ⟨2, _⟩ => ⟨S32x1024, .f32⟩
  | .local _ .vmem, ⟨3, _⟩ => ⟨S1x1024, .f32⟩
  | .local _ .vmem, ⟨4, _⟩ => ⟨S32x1024, .f32⟩
  | .local _ .vmem, ⟨5, _⟩ => ⟨S32x1024, .f32⟩
  | .local _ .vmem, ⟨6, _⟩ => ⟨S1x1024, .f32⟩
  | .local _ .vmem, ⟨7, _⟩ => ⟨S32x1024, .f32⟩
  | .local _ .vmem, ⟨8, _⟩ => ⟨S32x1024, .f32⟩
  | .local _ .vmem, ⟨9, _⟩ => ⟨S1x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S576x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallARefIdeal.lean ====
abbrev S576x1024 : Shape := ⟨2, ![576, 1024]⟩
abbrev S32x1024 : Shape := ⟨2, ![32, 1024]⟩
abbrev S1x1024 : Shape := ⟨2, ![1, 1024]⟩
abbrev S8x72x1024 : Shape := ⟨3, ![8, 72, 1024]⟩
abbrev S_ : Shape := ⟨0, ![]⟩
abbrev S72x1024 : Shape := ⟨2, ![72, 1024]⟩

abbrev nBuf : Space → Nat
  | .hbm => 115
  | .vmem => 0
  | .smem => 0
  | _ => 0

abbrev bufTy : (tb : Table) → Fin (tcTables nBuf tb) → BufTy
  | .hbm, ⟨0, _⟩ => ⟨S576x1024, .f32⟩
  | .hbm, ⟨1, _⟩ => ⟨S32x1024, .f32⟩
  | .hbm, ⟨2, _⟩ => ⟨S32x1024, .f32⟩
  | .hbm, ⟨3, _⟩ => ⟨S1x1024, .f32⟩
  | .hbm, ⟨4, _⟩ => ⟨S32x1024, .f32⟩
  | .hbm, ⟨5, _⟩ => ⟨S32x1024, .f32⟩
  | .hbm, ⟨6, _⟩ => ⟨S1x1024, .f32⟩
  | .hbm, ⟨7, _⟩ => ⟨S32x1024, .f32⟩
  | .hbm, ⟨8, _⟩ => ⟨S32x1024, .f32⟩
  | .hbm, ⟨9, _⟩ => ⟨S1x1024, .f32⟩
  | .hbm, ⟨10, _⟩ => ⟨S8x72x1024, .f32⟩
  | .hbm, ⟨11, _⟩ => ⟨S_, .f32⟩
  | .hbm, ⟨12, _⟩ => ⟨S72x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S_, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S_, .f32⟩
  | .hbm, ⟨26, _⟩ => ⟨S32x1024, .f32⟩
  | .hbm, ⟨27, _⟩ => ⟨S32x1024, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S_, .f32⟩
  | .hbm, ⟨33, _⟩ => ⟨S32x1024, .f32⟩
  | .hbm, ⟨34, _⟩ => ⟨S32x1024, .f32⟩
  | .hbm, ⟨35, _⟩ => ⟨S32x1024, .f32⟩
  | .hbm, ⟨36, _⟩ => ⟨S_, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S_, .f32⟩
  | .hbm, ⟨41, _⟩ => ⟨S32x1024, .f32⟩
  | .hbm, ⟨42, _⟩ => ⟨S32x1024, .f32⟩
  | .hbm, ⟨43, _⟩ => ⟨S32x1024, .f32⟩
  | .hbm, ⟨44, _⟩ => ⟨S_, .f32⟩
  | .hbm, ⟨45, _⟩ => ⟨S32x1024, .f32⟩
  | .hbm, ⟨46, _⟩ => ⟨S32x1024, .f32⟩
  | .hbm, ⟨47, _⟩ => ⟨S32x1024, .f32⟩
  | .hbm, ⟨48, _⟩ => ⟨S_, .f32⟩
  | .hbm, ⟨49, _⟩ => ⟨S32x1024, .f32⟩
  | .hbm, ⟨50, _⟩ => ⟨S32x1024, .f32⟩
  | .hbm, ⟨51, _⟩ => ⟨S_, .f32⟩
  | .hbm, ⟨52, _⟩ => ⟨S32x1024, .f32⟩
  | .hbm, ⟨53, _⟩ => ⟨S32x1024, .f32⟩
  | .hbm, ⟨54, _⟩ => ⟨S32x1024, .f32⟩
  | .hbm, ⟨55, _⟩ => ⟨S_, .f32⟩
  | .hbm, ⟨56, _⟩ => ⟨S32x1024, .f32⟩
  | .hbm, ⟨57, _⟩ => ⟨S32x1024, .f32⟩
  | .hbm, ⟨58, _⟩ => ⟨S32x1024, .f32⟩
  | .hbm, ⟨59, _⟩ => ⟨S_, .f32⟩
  | .hbm, ⟨60, _⟩ => ⟨S32x1024, .f32⟩
  | .hbm, ⟨61, _⟩ => ⟨S32x1024, .f32⟩
  | .hbm, ⟨62, _⟩ => ⟨S32x1024, .f32⟩
  | .hbm, ⟨63, _⟩ => ⟨S_, .f32⟩
  | .hbm, ⟨64, _⟩ => ⟨S32x1024, .f32⟩
  | .hbm, ⟨65, _⟩ => ⟨S32x1024, .f32⟩
  | .hbm, ⟨66, _⟩ => ⟨S_, .f32⟩
  | .hbm, ⟨67, _⟩ => ⟨S32x1024, .f32⟩
  | .hbm, ⟨68, _⟩ => ⟨S32x1024, .f32⟩
  | .hbm, ⟨69, _⟩ => ⟨S32x1024, .f32⟩
  | .hbm, ⟨70, _⟩ => ⟨S_, .f32⟩
  | .hbm, ⟨71, _⟩ => ⟨S32x1024, .f32⟩
  | .hbm, ⟨72, _⟩ => ⟨S32x1024, .f32⟩
  | .hbm, ⟨73, _⟩ => ⟨S32x1024, .f32⟩
  | .hbm, ⟨74, _⟩ => ⟨S_, .f32⟩
  | .hbm, ⟨75, _⟩ => ⟨S32x1024, .f32⟩
  | .hbm, ⟨76, _⟩ => ⟨S32x1024, .f32⟩
  | .hbm, ⟨77, _⟩ => ⟨S32x1024, .f32⟩
  | .hbm, ⟨78, _⟩ => ⟨S_, .f32⟩
  | .hbm, ⟨79, _⟩ => ⟨S32x1024, .f32⟩
  | .hbm, ⟨80, _⟩ => ⟨S32x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S_, .f32⟩
  | .hbm, ⟨113, _⟩ => ⟨S1x1024, .f32⟩
  | .hbm, ⟨114, _⟩ => ⟨S1x1024, .f32⟩
  | _, _ => ⟨S576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_20 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_21 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_v64 : Ref sig .tc := ⟨.hbm, 98, rfl⟩
abbrev main_v65 : Ref sig .tc := ⟨.hbm, 99, rfl⟩
abbrev main_cst_23 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_24 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_25 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_26 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== SmallB.lean ====
abbrev S576x1024 : Shape := ⟨2, ![576, 1024]⟩
abbrev S1x1024 : Shape := ⟨2, ![1, 1024]⟩
abbrev S72x1024 : Shape := ⟨2, ![72, 1024]⟩

abbrev nBuf : Space → Nat
  | .hbm => 22
  | .vmem => 22
  | .smem => 0
  | _ => 0

abbrev bufTy : (tb : Table) → Fin (tcTables nBuf tb) → BufTy
  | .hbm, ⟨0, _⟩ => ⟨S576x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S576x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S576x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallBIdeal.lean ====
abbrev S576x1024 : Shape := ⟨2, ![576, 1024]⟩
abbrev S1x1024 : Shape := ⟨2, ![1, 1024]⟩
abbrev S72x1024 : Shape := ⟨2, ![72, 1024]⟩

abbrev nBuf : Space → Nat
  | .hbm => 22
  | .vmem => 22
  | .smem => 0
  | _ => 0

abbrev bufTy : (tb : Table) → Fin (tcTables nBuf tb) → BufTy
  | .hbm, ⟨0, _⟩ => ⟨S576x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S576x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S576x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallBRefIdeal.lean ====
abbrev S576x1024 : Shape := ⟨2, ![576, 1024]⟩
abbrev S1x1024 : Shape := ⟨2, ![1, 1024]⟩
abbrev S8x72x1024 : Shape := ⟨3, ![8, 72, 1024]⟩
abbrev S_ : Shape := ⟨0, ![]⟩
abbrev S72x1024 : Shape := ⟨2, ![72, 1024]⟩

abbrev nBuf : Space → Nat
  | .hbm => 115
  | .vmem => 0
  | .smem => 0
  | _ => 0

abbrev bufTy : (tb : Table) → Fin (tcTables nBuf tb) → BufTy
  | .hbm, ⟨0, _⟩ => ⟨S576x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8x72x1024, .f32⟩
  | .hbm, ⟨11, _⟩ => ⟨S_, .f32⟩
  | .hbm, ⟨12, _⟩ => ⟨S72x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S_, .f32⟩
  | .hbm, ⟨113, _⟩ => ⟨S1x1024, .f32⟩
  | .hbm, ⟨114, _⟩ => ⟨S1x1024, .f32⟩
  | _, _ => ⟨S576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_20 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_21 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_v64 : Ref sig .tc := ⟨.hbm, 98, rfl⟩
abbrev main_v65 : Ref sig .tc := ⟨.hbm, 99, rfl⟩
abbrev main_cst_23 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_24 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_25 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_26 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== SmallC.lean ====
abbrev S128x512 : Shape := ⟨2, ![128, 512]⟩
abbrev S1x512 : Shape := ⟨2, ![1, 512]⟩
abbrev S16x512 : Shape := ⟨2, ![16, 512]⟩

abbrev nBuf : Space → Nat
  | .hbm => 22
  | .vmem => 22
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S128x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallCIdeal.lean ====
abbrev S128x512 : Shape := ⟨2, ![128, 512]⟩
abbrev S1x512 : Shape := ⟨2, ![1, 512]⟩
abbrev S16x512 : Shape := ⟨2, ![16, 512]⟩

abbrev nBuf : Space → Nat
  | .hbm => 22
  | .vmem => 22
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S128x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallCRefIdeal.lean ====
abbrev S128x512 : Shape := ⟨2, ![128, 512]⟩
abbrev S1x512 : Shape := ⟨2, ![1, 512]⟩
abbrev S8x16x512 : Shape := ⟨3, ![8, 16, 512]⟩
abbrev S_ : Shape := ⟨0, ![]⟩
abbrev S16x512 : Shape := ⟨2, ![16, 512]⟩

abbrev nBuf : Space → Nat
  | .hbm => 115
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8x16x512, .f32⟩
  | .hbm, ⟨11, _⟩ => ⟨S_, .f32⟩
  | .hbm, ⟨12, _⟩ => ⟨S16x512, .f32⟩
  | .hbm, ⟨13, _⟩ => ⟨S1x512, .f32⟩
  | .hbm, ⟨14, _⟩ => ⟨S_, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S_, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S_, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S_, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S_, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S_, .f32⟩
  | .hbm, ⟨75, _⟩ => ⟨S1x512, .f32⟩
  | .hbm, ⟨76, _⟩ => ⟨S1x512, .f32⟩
  | .hbm, ⟨77, _⟩ => ⟨S1x512, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S1x512, .f32⟩
  | .hbm, ⟨82, _⟩ => ⟨S_, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S1x512, .f32⟩
  | .hbm, ⟨97, _⟩ => ⟨S_, .f32⟩
  | .hbm, ⟨98, _⟩ => ⟨S1x512, .f32⟩
  | .hbm, ⟨99, _⟩ => ⟨S1x512, .f32⟩
  | .hbm, ⟨100, _⟩ => ⟨S_, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | .hbm, ⟨111, _⟩ => ⟨S1x512, .f32⟩
  | .hbm, ⟨112, _⟩ => ⟨S_, .f32⟩
  | .hbm, ⟨113, _⟩ => ⟨S1x512, .f32⟩
  | .hbm, ⟨114, _⟩ => ⟨S1x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_20 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_21 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_v64 : Ref sig .tc := ⟨.hbm, 98, rfl⟩
abbrev main_v65 : Ref sig .tc := ⟨.hbm, 99, rfl⟩
abbrev main_cst_23 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_24 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_25 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_26 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== SmallD.lean ====
abbrev S128x512 : Shape := ⟨2, ![128, 512]⟩
abbrev S1x512 : Shape := ⟨2, ![1, 512]⟩
abbrev S16x512 : Shape := ⟨2, ![16, 512]⟩

abbrev nBuf : Space → Nat
  | .hbm => 22
  | .vmem => 22
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S128x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallDIdeal.lean ====
abbrev S128x512 : Shape := ⟨2, ![128, 512]⟩
abbrev S1x512 : Shape := ⟨2, ![1, 512]⟩
abbrev S16x512 : Shape := ⟨2, ![16, 512]⟩

abbrev nBuf : Space → Nat
  | .hbm => 22
  | .vmem => 22
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S128x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallDRefIdeal.lean ====
abbrev S128x512 : Shape := ⟨2, ![128, 512]⟩
abbrev S1x512 : Shape := ⟨2, ![1, 512]⟩
abbrev S8x16x512 : Shape := ⟨3, ![8, 16, 512]⟩
abbrev S_ : Shape := ⟨0, ![]⟩
abbrev S16x512 : Shape := ⟨2, ![16, 512]⟩

abbrev nBuf : Space → Nat
  | .hbm => 115
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8x16x512, .f32⟩
  | .hbm, ⟨11, _⟩ => ⟨S_, .f32⟩
  | .hbm, ⟨12, _⟩ => ⟨S16x512, .f32⟩
  | .hbm, ⟨13, _⟩ => ⟨S1x512, .f32⟩
  | .hbm, ⟨14, _⟩ => ⟨S_, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S_, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S_, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S_, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S_, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S_, .f32⟩
  | .hbm, ⟨75, _⟩ => ⟨S1x512, .f32⟩
  | .hbm, ⟨76, _⟩ => ⟨S1x512, .f32⟩
  | .hbm, ⟨77, _⟩ => ⟨S1x512, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S1x512, .f32⟩
  | .hbm, ⟨82, _⟩ => ⟨S_, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S1x512, .f32⟩
  | .hbm, ⟨97, _⟩ => ⟨S_, .f32⟩
  | .hbm, ⟨98, _⟩ => ⟨S1x512, .f32⟩
  | .hbm, ⟨99, _⟩ => ⟨S1x512, .f32⟩
  | .hbm, ⟨100, _⟩ => ⟨S_, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | .hbm, ⟨111, _⟩ => ⟨S1x512, .f32⟩
  | .hbm, ⟨112, _⟩ => ⟨S_, .f32⟩
  | .hbm, ⟨113, _⟩ => ⟨S1x512, .f32⟩
  | .hbm, ⟨114, _⟩ => ⟨S1x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_20 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_21 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_v64 : Ref sig .tc := ⟨.hbm, 98, rfl⟩
abbrev main_v65 : Ref sig .tc := ⟨.hbm, 99, rfl⟩
abbrev main_cst_23 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_24 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_25 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_26 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== SmallE.lean ====
abbrev S128x512 : Shape := ⟨2, ![128, 512]⟩
abbrev S1x512 : Shape := ⟨2, ![1, 512]⟩
abbrev S16x512 : Shape := ⟨2, ![16, 512]⟩

abbrev nBuf : Space → Nat
  | .hbm => 22
  | .vmem => 22
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S128x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallEIdeal.lean ====
abbrev S128x512 : Shape := ⟨2, ![128, 512]⟩
abbrev S1x512 : Shape := ⟨2, ![1, 512]⟩
abbrev S16x512 : Shape := ⟨2, ![16, 512]⟩

abbrev nBuf : Space → Nat
  | .hbm => 22
  | .vmem => 22
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S128x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SmallERefIdeal.lean ====
abbrev S128x512 : Shape := ⟨2, ![128, 512]⟩
abbrev S1x512 : Shape := ⟨2, ![1, 512]⟩
abbrev S8x16x512 : Shape := ⟨3, ![8, 16, 512]⟩
abbrev S_ : Shape := ⟨0, ![]⟩
abbrev S16x512 : Shape := ⟨2, ![16, 512]⟩

abbrev nBuf : Space → Nat
  | .hbm => 115
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8x16x512, .f32⟩
  | .hbm, ⟨11, _⟩ => ⟨S_, .f32⟩
  | .hbm, ⟨12, _⟩ => ⟨S16x512, .f32⟩
  | .hbm, ⟨13, _⟩ => ⟨S1x512, .f32⟩
  | .hbm, ⟨14, _⟩ => ⟨S_, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S_, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S_, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S_, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S_, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S_, .f32⟩
  | .hbm, ⟨75, _⟩ => ⟨S1x512, .f32⟩
  | .hbm, ⟨76, _⟩ => ⟨S1x512, .f32⟩
  | .hbm, ⟨77, _⟩ => ⟨S1x512, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S1x512, .f32⟩
  | .hbm, ⟨82, _⟩ => ⟨S_, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S1x512, .f32⟩
  | .hbm, ⟨97, _⟩ => ⟨S_, .f32⟩
  | .hbm, ⟨98, _⟩ => ⟨S1x512, .f32⟩
  | .hbm, ⟨99, _⟩ => ⟨S1x512, .f32⟩
  | .hbm, ⟨100, _⟩ => ⟨S_, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | .hbm, ⟨111, _⟩ => ⟨S1x512, .f32⟩
  | .hbm, ⟨112, _⟩ => ⟨S_, .f32⟩
  | .hbm, ⟨113, _⟩ => ⟨S1x512, .f32⟩
  | .hbm, ⟨114, _⟩ => ⟨S1x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_20 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_21 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_v64 : Ref sig .tc := ⟨.hbm, 98, rfl⟩
abbrev main_v65 : Ref sig .tc := ⟨.hbm, 99, rfl⟩
abbrev main_cst_23 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_24 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_25 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_26 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== SmallF.lean ====
abbrev S64x1792 : Shape := ⟨2, ![64, 1792]⟩
abbrev S1x1792 : Shape := ⟨2, ![1, 1792]⟩
abbrev S8x1792 : Shape := ⟨2, ![8, 1792]⟩

abbrev nBuf : Space → Nat
  | .hbm => 8
  | .vmem => 8
  | .smem => 0
  | _ => 0

abbrev bufTy : (tb : Table) → Fin (tcTables nBuf tb) → BufTy
  | .hbm, ⟨0, _⟩ => ⟨S64x1792, .f32⟩
  | .hbm, ⟨1, _⟩ => ⟨S1x1792, .f32⟩
  | .hbm, ⟨2, _⟩ => ⟨S1x1792, .f32⟩
  | .hbm, ⟨3, _⟩ => ⟨S1x1792, .f32⟩
  | .hbm, ⟨4, _⟩ => ⟨S1x1792, .f32⟩
  | .hbm, ⟨5, _⟩ => ⟨S1x1792, .f32⟩
  | .hbm, ⟨6, _⟩ => ⟨S1x1792, .f32⟩
  | .hbm, ⟨7, _⟩ => ⟨S1x1792, .f32⟩
  | .local _ .vmem, ⟨0, _⟩ => ⟨S64x1792, .f32⟩
  | .local _ .vmem, ⟨1, _⟩ => ⟨S1x1792, .f32⟩
  | .local _ .vmem, ⟨2, _⟩ => ⟨S1x1792, .f32⟩
  | .local _ .vmem, ⟨3, _⟩ => ⟨S1x1792, .f32⟩
  | .local _ .vmem, ⟨4, _⟩ => ⟨S1x1792, .f32⟩
  | .local _ .vmem, ⟨5, _⟩ => ⟨S1x1792, .f32⟩
  | .local _ .vmem, ⟨6, _⟩ => ⟨S1x1792, .f32⟩
  | .local _ .vmem, ⟨7, _⟩ => ⟨S1x1792, .f32⟩
  | _, _ => ⟨S64x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallFIdeal.lean ====
abbrev S64x1792 : Shape := ⟨2, ![64, 1792]⟩
abbrev S1x1792 : Shape := ⟨2, ![1, 1792]⟩
abbrev S8x1792 : Shape := ⟨2, ![8, 1792]⟩

abbrev nBuf : Space → Nat
  | .hbm => 8
  | .vmem => 8
  | .smem => 0
  | _ => 0

abbrev bufTy : (tb : Table) → Fin (tcTables nBuf tb) → BufTy
  | .hbm, ⟨0, _⟩ => ⟨S64x1792, .f32⟩
  | .hbm, ⟨1, _⟩ => ⟨S1x1792, .f32⟩
  | .hbm, ⟨2, _⟩ => ⟨S1x1792, .f32⟩
  | .hbm, ⟨3, _⟩ => ⟨S1x1792, .f32⟩
  | .hbm, ⟨4, _⟩ => ⟨S1x1792, .f32⟩
  | .hbm, ⟨5, _⟩ => ⟨S1x1792, .f32⟩
  | .hbm, ⟨6, _⟩ => ⟨S1x1792, .f32⟩
  | .hbm, ⟨7, _⟩ => ⟨S1x1792, .f32⟩
  | .local _ .vmem, ⟨0, _⟩ => ⟨S64x1792, .f32⟩
  | .local _ .vmem, ⟨1, _⟩ => ⟨S1x1792, .f32⟩
  | .local _ .vmem, ⟨2, _⟩ => ⟨S1x1792, .f32⟩
  | .local _ .vmem, ⟨3, _⟩ => ⟨S1x1792, .f32⟩
  | .local _ .vmem, ⟨4, _⟩ => ⟨S1x1792, .f32⟩
  | .local _ .vmem, ⟨5, _⟩ => ⟨S1x1792, .f32⟩
  | .local _ .vmem, ⟨6, _⟩ => ⟨S1x1792, .f32⟩
  | .local _ .vmem, ⟨7, _⟩ => ⟨S1x1792, .f32⟩
  | _, _ => ⟨S64x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallFRefIdeal.lean ====
abbrev S64x1792 : Shape := ⟨2, ![64, 1792]⟩
abbrev S1x1792 : Shape := ⟨2, ![1, 1792]⟩
abbrev S8x8x1792 : Shape := ⟨3, ![8, 8, 1792]⟩
abbrev S_ : Shape := ⟨0, ![]⟩
abbrev S8x1792 : Shape := ⟨2, ![8, 1792]⟩

abbrev nBuf : Space → Nat
  | .hbm => 41
  | .vmem => 0
  | .smem => 0
  | _ => 0

abbrev bufTy : (tb : Table) → Fin (tcTables nBuf tb) → BufTy
  | .hbm, ⟨0, _⟩ => ⟨S64x1792, .f32⟩
  | .hbm, ⟨1, _⟩ => ⟨S1x1792, .f32⟩
  | .hbm, ⟨2, _⟩ => ⟨S1x1792, .f32⟩
  | .hbm, ⟨3, _⟩ => ⟨S1x1792, .f32⟩
  | .hbm, ⟨4, _⟩ => ⟨S8x8x1792, .f32⟩
  | .hbm, ⟨5, _⟩ => ⟨S_, .f32⟩
  | .hbm, ⟨6, _⟩ => ⟨S8x1792, .f32⟩
  | .hbm, ⟨7, _⟩ => ⟨S1x1792, .f32⟩
  | .hbm, ⟨8, _⟩ => ⟨S_, .f32⟩
  | .hbm, ⟨9, _⟩ => ⟨S1x1792, .f32⟩
  | .hbm, ⟨10, _⟩ => ⟨S1x1792, .f32⟩
  | .hbm, ⟨11, _⟩ => ⟨S_, .f32⟩
  | .hbm, ⟨12, _⟩ => ⟨S1x1792, .f32⟩
  | .hbm, ⟨13, _⟩ => ⟨S1x1792, .f32⟩
  | .hbm, ⟨14, _⟩ => ⟨S1x1792, .f32⟩
  | .hbm, ⟨15, _⟩ => ⟨S_, .f32⟩
  | .hbm, ⟨16, _⟩ => ⟨S1x1792, .f32⟩
  | .hbm, ⟨17, _⟩ => ⟨S1x1792, .f32⟩
  | .hbm, ⟨18, _⟩ => ⟨S1x1792, .f32⟩
  | .hbm, ⟨19, _⟩ => ⟨S_, .f32⟩
  | .hbm, ⟨20, _⟩ => ⟨S1x1792, .f32⟩
  | .hbm, ⟨21, _⟩ => ⟨S1x1792, .f32⟩
  | .hbm, ⟨22, _⟩ => ⟨S1x1792, .f32⟩
  | .hbm, ⟨23, _⟩ => ⟨S_, .f32⟩
  | .hbm, ⟨24, _⟩ => ⟨S1x1792, .f32⟩
  | .hbm, ⟨25, _⟩ => ⟨S1x1792, .f32⟩
  | .hbm, ⟨26, _⟩ => ⟨S_, .f32⟩
  | .hbm, ⟨27, _⟩ => ⟨S1x1792, .f32⟩
  | .hbm, ⟨28, _⟩ => ⟨S1x1792, .f32⟩
  | .hbm, ⟨29, _⟩ => ⟨S1x1792, .f32⟩
  | .hbm, ⟨30, _⟩ => ⟨S_, .f32⟩
  | .hbm, ⟨31, _⟩ => ⟨S1x1792, .f32⟩
  | .hbm, ⟨32, _⟩ => ⟨S1x1792, .f32⟩
  | .hbm, ⟨33, _⟩ => ⟨S1x1792, .f32⟩
  | .hbm, ⟨34, _⟩ => ⟨S_, .f32⟩
  | .hbm, ⟨35, _⟩ => ⟨S1x1792, .f32⟩
  | .hbm, ⟨36, _⟩ => ⟨S1x1792, .f32⟩
  | .hbm, ⟨37, _⟩ => ⟨S1x1792, .f32⟩
  | .hbm, ⟨38, _⟩ => ⟨S_, .f32⟩
  | .hbm, ⟨39, _⟩ => ⟨S1x1792, .f32⟩
  | .hbm, ⟨40, _⟩ => ⟨S1x1792, .f32⟩
  | _, _ => ⟨S64x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== SmallG.lean ====
abbrev S8704x64 : Shape := ⟨2, ![8704, 64]⟩
abbrev S32x64 : Shape := ⟨2, ![32, 64]⟩
abbrev S1088x64 : Shape := ⟨2, ![1088, 64]⟩

abbrev nBuf : Space → Nat
  | .hbm => 15
  | .vmem => 15
  | .smem => 0
  | _ => 0

abbrev bufTy : (tb : Table) → Fin (tcTables nBuf tb) → BufTy
  | .hbm, ⟨0, _⟩ => ⟨S8704x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .local _ .vmem, ⟨0, _⟩ => ⟨S8704x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | .local _ .vmem, ⟨14, _⟩ => ⟨S32x64, .f32⟩
  | _, _ => ⟨S8704x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8704x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== SmallGIdeal.lean ====
abbrev S8704x64 : Shape := ⟨2, ![8704, 64]⟩
abbrev S32x64 : Shape := ⟨2, ![32, 64]⟩
abbrev S1088x64 : Shape := ⟨2, ![1088, 64]⟩

abbrev nBuf : Space → Nat
  | .hbm => 15
  | .vmem => 15
  | .smem => 0
  | _ => 0

abbrev bufTy : (tb : Table) → Fin (tcTables nBuf tb) → BufTy
  | .hbm, ⟨0, _⟩ => ⟨S8704x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .local _ .vmem, ⟨0, _⟩ => ⟨S8704x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | .local _ .vmem, ⟨14, _⟩ => ⟨S32x64, .f32⟩
  | _, _ => ⟨S8704x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8704x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== SmallGRefIdeal.lean ====
abbrev S8704x64 : Shape := ⟨2, ![8704, 64]⟩
abbrev S32x64 : Shape := ⟨2, ![32, 64]⟩
abbrev S8x1088x64 : Shape := ⟨3, ![8, 1088, 64]⟩
abbrev S_ : Shape := ⟨0, ![]⟩
abbrev S1088x64 : Shape := ⟨2, ![1088, 64]⟩

abbrev nBuf : Space → Nat
  | .hbm => 78
  | .vmem => 0
  | .smem => 0
  | _ => 0

abbrev bufTy : (tb : Table) → Fin (tcTables nBuf tb) → BufTy
  | .hbm, ⟨0, _⟩ => ⟨S8704x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S8x1088x64, .f32⟩
  | .hbm, ⟨8, _⟩ => ⟨S_, .f32⟩
  | .hbm, ⟨9, _⟩ => ⟨S1088x64, .f32⟩
  | .hbm, ⟨10, _⟩ => ⟨S32x64, .f32⟩
  | .hbm, ⟨11, _⟩ => ⟨S_, .f32⟩
  | .hbm, ⟨12, _⟩ => ⟨S32x64, .f32⟩
  | .hbm, ⟨13, _⟩ => ⟨S32x64, .f32⟩
  | .hbm, ⟨14, _⟩ => ⟨S_, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S_, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S_, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S_, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S_, .f32⟩
  | .hbm, ⟨42, _⟩ => ⟨S32x64, .f32⟩
  | .hbm, ⟨43, _⟩ => ⟨S32x64, .f32⟩
  | .hbm, ⟨44, _⟩ => ⟨S32x64, .f32⟩
  | .hbm, ⟨45, _⟩ => ⟨S_, .f32⟩
  | .hbm, ⟨46, _⟩ => ⟨S32x64, .f32⟩
  | .hbm, ⟨47, _⟩ => ⟨S32x64, .f32⟩
  | .hbm, ⟨48, _⟩ => ⟨S_, .f32⟩
  | .hbm, ⟨49, _⟩ => ⟨S32x64, .f32⟩
  | .hbm, ⟨50, _⟩ => ⟨S32x64, .f32⟩
  | .hbm, ⟨51, _⟩ => ⟨S32x64, .f32⟩
  | .hbm, ⟨52, _⟩ => ⟨S_, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S_, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S_, .f32⟩
  | .hbm, ⟨61, _⟩ => ⟨S32x64, .f32⟩
  | .hbm, ⟨62, _⟩ => ⟨S32x64, .f32⟩
  | .hbm, ⟨63, _⟩ => ⟨S_, .f32⟩
  | .hbm, ⟨64, _⟩ => ⟨S32x64, .f32⟩
  | .hbm, ⟨65, _⟩ => ⟨S32x64, .f32⟩
  | .hbm, ⟨66, _⟩ => ⟨S32x64, .f32⟩
  | .hbm, ⟨67, _⟩ => ⟨S_, .f32⟩
  | .hbm, ⟨68, _⟩ => ⟨S32x64, .f32⟩
  | .hbm, ⟨69, _⟩ => ⟨S32x64, .f32⟩
  | .hbm, ⟨70, _⟩ => ⟨S32x64, .f32⟩
  | .hbm, ⟨71, _⟩ => ⟨S_, .f32⟩
  | .hbm, ⟨72, _⟩ => ⟨S32x64, .f32⟩
  | .hbm, ⟨73, _⟩ => ⟨S32x64, .f32⟩
  | .hbm, ⟨74, _⟩ => ⟨S32x64, .f32⟩
  | .hbm, ⟨75, _⟩ => ⟨S_, .f32⟩
  | .hbm, ⟨76, _⟩ => ⟨S32x64, .f32⟩
  | .hbm, ⟨77, _⟩ => ⟨S32x64, .f32⟩
  | _, _ => ⟨S8704x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_15 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_16 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_17 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== SmallH.lean ====
abbrev S8704x64 : Shape := ⟨2, ![8704, 64]⟩
abbrev S512x64 : Shape := ⟨2, ![512, 64]⟩
abbrev S1088x64 : Shape := ⟨2, ![1088, 64]⟩

abbrev nBuf : Space → Nat
  | .hbm => 15
  | .vmem => 15
  | .smem => 0
  | _ => 0

abbrev bufTy : (tb : Table) → Fin (tcTables nBuf tb) → BufTy
  | .hbm, ⟨0, _⟩ => ⟨S8704x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S512x64, .f32⟩
  | .local _ .vmem, ⟨0, _⟩ => ⟨S8704x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | _, _ => ⟨S8704x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8704x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== SmallHIdeal.lean ====
abbrev S8704x64 : Shape := ⟨2, ![8704, 64]⟩
abbrev S512x64 : Shape := ⟨2, ![512, 64]⟩
abbrev S1088x64 : Shape := ⟨2, ![1088, 64]⟩

abbrev nBuf : Space → Nat
  | .hbm => 15
  | .vmem => 15
  | .smem => 0
  | _ => 0

abbrev bufTy : (tb : Table) → Fin (tcTables nBuf tb) → BufTy
  | .hbm, ⟨0, _⟩ => ⟨S8704x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S512x64, .f32⟩
  | .local _ .vmem, ⟨0, _⟩ => ⟨S8704x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | _, _ => ⟨S8704x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8704x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== SmallHRefIdeal.lean ====
abbrev S8704x64 : Shape := ⟨2, ![8704, 64]⟩
abbrev S512x64 : Shape := ⟨2, ![512, 64]⟩
abbrev S8x1088x64 : Shape := ⟨3, ![8, 1088, 64]⟩
abbrev S_ : Shape := ⟨0, ![]⟩
abbrev S1088x64 : Shape := ⟨2, ![1088, 64]⟩

abbrev nBuf : Space → Nat
  | .hbm => 78
  | .vmem => 0
  | .smem => 0
  | _ => 0

abbrev bufTy : (tb : Table) → Fin (tcTables nBuf tb) → BufTy
  | .hbm, ⟨0, _⟩ => ⟨S8704x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S8x1088x64, .f32⟩
  | .hbm, ⟨8, _⟩ => ⟨S_, .f32⟩
  | .hbm, ⟨9, _⟩ => ⟨S1088x64, .f32⟩
  | .hbm, ⟨10, _⟩ => ⟨S512x64, .f32⟩
  | .hbm, ⟨11, _⟩ => ⟨S_, .f32⟩
  | .hbm, ⟨12, _⟩ => ⟨S512x64, .f32⟩
  | .hbm, ⟨13, _⟩ => ⟨S512x64, .f32⟩
  | .hbm, ⟨14, _⟩ => ⟨S_, .f32⟩
  | .hbm, ⟨15, _⟩ => ⟨S512x64, .f32⟩
  | .hbm, ⟨16, _⟩ => ⟨S512x64, .f32⟩
  | .hbm, ⟨17, _⟩ => ⟨S512x64, .f32⟩
  | .hbm, ⟨18, _⟩ => ⟨S_, .f32⟩
  | .hbm, ⟨19, _⟩ => ⟨S512x64, .f32⟩
  | .hbm, ⟨20, _⟩ => ⟨S512x64, .f32⟩
  | .hbm, ⟨21, _⟩ => ⟨S512x64, .f32⟩
  | .hbm, ⟨22, _⟩ => ⟨S_, .f32⟩
  | .hbm, ⟨23, _⟩ => ⟨S512x64, .f32⟩
  | .hbm, ⟨24, _⟩ => ⟨S512x64, .f32⟩
  | .hbm, ⟨25, _⟩ => ⟨S512x64, .f32⟩
  | .hbm, ⟨26, _⟩ => ⟨S_, .f32⟩
  | .hbm, ⟨27, _⟩ => ⟨S512x64, .f32⟩
  | .hbm, ⟨28, _⟩ => ⟨S512x64, .f32⟩
  | .hbm, ⟨29, _⟩ => ⟨S_, .f32⟩
  | .hbm, ⟨30, _⟩ => ⟨S512x64, .f32⟩
  | .hbm, ⟨31, _⟩ => ⟨S512x64, .f32⟩
  | .hbm, ⟨32, _⟩ => ⟨S512x64, .f32⟩
  | .hbm, ⟨33, _⟩ => ⟨S_, .f32⟩
  | .hbm, ⟨34, _⟩ => ⟨S512x64, .f32⟩
  | .hbm, ⟨35, _⟩ => ⟨S512x64, .f32⟩
  | .hbm, ⟨36, _⟩ => ⟨S512x64, .f32⟩
  | .hbm, ⟨37, _⟩ => ⟨S_, .f32⟩
  | .hbm, ⟨38, _⟩ => ⟨S512x64, .f32⟩
  | .hbm, ⟨39, _⟩ => ⟨S512x64, .f32⟩
  | .hbm, ⟨40, _⟩ => ⟨S512x64, .f32⟩
  | .hbm, ⟨41, _⟩ => ⟨S_, .f32⟩
  | .hbm, ⟨42, _⟩ => ⟨S512x64, .f32⟩
  | .hbm, ⟨43, _⟩ => ⟨S512x64, .f32⟩
  | .hbm, ⟨44, _⟩ => ⟨S512x64, .f32⟩
  | .hbm, ⟨45, _⟩ => ⟨S_, .f32⟩
  | .hbm, ⟨46, _⟩ => ⟨S512x64, .f32⟩
  | .hbm, ⟨47, _⟩ => ⟨S512x64, .f32⟩
  | .hbm, ⟨48, _⟩ => ⟨S_, .f32⟩
  | .hbm, ⟨49, _⟩ => ⟨S512x64, .f32⟩
  | .hbm, ⟨50, _⟩ => ⟨S512x64, .f32⟩
  | .hbm, ⟨51, _⟩ => ⟨S512x64, .f32⟩
  | .hbm, ⟨52, _⟩ => ⟨S_, .f32⟩
  | .hbm, ⟨53, _⟩ => ⟨S512x64, .f32⟩
  | .hbm, ⟨54, _⟩ => ⟨S512x64, .f32⟩
  | .hbm, ⟨55, _⟩ => ⟨S512x64, .f32⟩
  | .hbm, ⟨56, _⟩ => ⟨S_, .f32⟩
  | .hbm, ⟨57, _⟩ => ⟨S512x64, .f32⟩
  | .hbm, ⟨58, _⟩ => ⟨S512x64, .f32⟩
  | .hbm, ⟨59, _⟩ => ⟨S512x64, .f32⟩
  | .hbm, ⟨60, _⟩ => ⟨S_, .f32⟩
  | .hbm, ⟨61, _⟩ => ⟨S512x64, .f32⟩
  | .hbm, ⟨62, _⟩ => ⟨S512x64, .f32⟩
  | .hbm, ⟨63, _⟩ => ⟨S_, .f32⟩
  | .hbm, ⟨64, _⟩ => ⟨S512x64, .f32⟩
  | .hbm, ⟨65, _⟩ => ⟨S512x64, .f32⟩
  | .hbm, ⟨66, _⟩ => ⟨S512x64, .f32⟩
  | .hbm, ⟨67, _⟩ => ⟨S_, .f32⟩
  | .hbm, ⟨68, _⟩ => ⟨S512x64, .f32⟩
  | .hbm, ⟨69, _⟩ => ⟨S512x64, .f32⟩
  | .hbm, ⟨70, _⟩ => ⟨S512x64, .f32⟩
  | .hbm, ⟨71, _⟩ => ⟨S_, .f32⟩
  | .hbm, ⟨72, _⟩ => ⟨S512x64, .f32⟩
  | .hbm, ⟨73, _⟩ => ⟨S512x64, .f32⟩
  | .hbm, ⟨74, _⟩ => ⟨S512x64, .f32⟩
  | .hbm, ⟨75, _⟩ => ⟨S_, .f32⟩
  | .hbm, ⟨76, _⟩ => ⟨S512x64, .f32⟩
  | .hbm, ⟨77, _⟩ => ⟨S512x64, .f32⟩
  | _, _ => ⟨S8704x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_15 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_16 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_17 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== SmallI.lean ====
abbrev S64x32 : Shape := ⟨2, ![64, 32]⟩
abbrev S1x32 : Shape := ⟨2, ![1, 32]⟩
abbrev S8x32 : Shape := ⟨2, ![8, 32]⟩

abbrev nBuf : Space → Nat
  | .hbm => 15
  | .vmem => 15
  | .smem => 0
  | _ => 0

abbrev bufTy : (tb : Table) → Fin (tcTables nBuf tb) → BufTy
  | .hbm, ⟨0, _⟩ => ⟨S64x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S1x32, .f32⟩
  | .local _ .vmem, ⟨0, _⟩ => ⟨S64x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | _, _ => ⟨S64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S64x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== SmallIRefIdeal.lean ====
abbrev S64x32 : Shape := ⟨2, ![64, 32]⟩
abbrev S1x32 : Shape := ⟨2, ![1, 32]⟩
abbrev S8x8x32 : Shape := ⟨3, ![8, 8, 32]⟩
abbrev S_ : Shape := ⟨0, ![]⟩
abbrev S8x32 : Shape := ⟨2, ![8, 32]⟩

abbrev nBuf : Space → Nat
  | .hbm => 78
  | .vmem => 0
  | .smem => 0
  | _ => 0

abbrev bufTy : (tb : Table) → Fin (tcTables nBuf tb) → BufTy
  | .hbm, ⟨0, _⟩ => ⟨S64x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S8x8x32, .f32⟩
  | .hbm, ⟨8, _⟩ => ⟨S_, .f32⟩
  | .hbm, ⟨9, _⟩ => ⟨S8x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S_, .f32⟩
  | .hbm, ⟨15, _⟩ => ⟨S1x32, .f32⟩
  | .hbm, ⟨16, _⟩ => ⟨S1x32, .f32⟩
  | .hbm, ⟨17, _⟩ => ⟨S1x32, .f32⟩
  | .hbm, ⟨18, _⟩ => ⟨S_, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S_, .f32⟩
  | .hbm, ⟨30, _⟩ => ⟨S1x32, .f32⟩
  | .hbm, ⟨31, _⟩ => ⟨S1x32, .f32⟩
  | .hbm, ⟨32, _⟩ => ⟨S1x32, .f32⟩
  | .hbm, ⟨33, _⟩ => ⟨S_, .f32⟩
  | .hbm, ⟨34, _⟩ => ⟨S1x32, .f32⟩
  | .hbm, ⟨35, _⟩ => ⟨S1x32, .f32⟩
  | .hbm, ⟨36, _⟩ => ⟨S1x32, .f32⟩
  | .hbm, ⟨37, _⟩ => ⟨S_, .f32⟩
  | .hbm, ⟨38, _⟩ => ⟨S1x32, .f32⟩
  | .hbm, ⟨39, _⟩ => ⟨S1x32, .f32⟩
  | .hbm, ⟨40, _⟩ => ⟨S1x32, .f32⟩
  | .hbm, ⟨41, _⟩ => ⟨S_, .f32⟩
  | .hbm, ⟨42, _⟩ => ⟨S1x32, .f32⟩
  | .hbm, ⟨43, _⟩ => ⟨S1x32, .f32⟩
  | .hbm, ⟨44, _⟩ => ⟨S1x32, .f32⟩
  | .hbm, ⟨45, _⟩ => ⟨S_, .f32⟩
  | .hbm, ⟨46, _⟩ => ⟨S1x32, .f32⟩
  | .hbm, ⟨47, _⟩ => ⟨S1x32, .f32⟩
  | .hbm, ⟨48, _⟩ => ⟨S_, .f32⟩
  | .hbm, ⟨49, _⟩ => ⟨S1x32, .f32⟩
  | .hbm, ⟨50, _⟩ => ⟨S1x32, .f32⟩
  | .hbm, ⟨51, _⟩ => ⟨S1x32, .f32⟩
  | .hbm, ⟨52, _⟩ => ⟨S_, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S_, .f32⟩
  | .hbm, ⟨57, _⟩ => ⟨S1x32, .f32⟩
  | .hbm, ⟨58, _⟩ => ⟨S1x32, .f32⟩
  | .hbm, ⟨59, _⟩ => ⟨S1x32, .f32⟩
  | .hbm, ⟨60, _⟩ => ⟨S_, .f32⟩
  | .hbm, ⟨61, _⟩ => ⟨S1x32, .f32⟩
  | .hbm, ⟨62, _⟩ => ⟨S1x32, .f32⟩
  | .hbm, ⟨63, _⟩ => ⟨S_, .f32⟩
  | .hbm, ⟨64, _⟩ => ⟨S1x32, .f32⟩
  | .hbm, ⟨65, _⟩ => ⟨S1x32, .f32⟩
  | .hbm, ⟨66, _⟩ => ⟨S1x32, .f32⟩
  | .hbm, ⟨67, _⟩ => ⟨S_, .f32⟩
  | .hbm, ⟨68, _⟩ => ⟨S1x32, .f32⟩
  | .hbm, ⟨69, _⟩ => ⟨S1x32, .f32⟩
  | .hbm, ⟨70, _⟩ => ⟨S1x32, .f32⟩
  | .hbm, ⟨71, _⟩ => ⟨S_, .f32⟩
  | .hbm, ⟨72, _⟩ => ⟨S1x32, .f32⟩
  | .hbm, ⟨73, _⟩ => ⟨S1x32, .f32⟩
  | .hbm, ⟨74, _⟩ => ⟨S1x32, .f32⟩
  | .hbm, ⟨75, _⟩ => ⟨S_, .f32⟩
  | .hbm, ⟨76, _⟩ => ⟨S1x32, .f32⟩
  | .hbm, ⟨77, _⟩ => ⟨S1x32, .f32⟩
  | _, _ => ⟨S64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_15 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_16 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_17 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Zoh.lean ====
abbrev S32x64 : Shape := ⟨2, ![32, 64]⟩
abbrev S32x1 : Shape := ⟨2, ![32, 1]⟩
abbrev S32x16x64 : Shape := ⟨3, ![32, 16, 64]⟩
abbrev S32x1x64 : Shape := ⟨3, ![32, 1, 64]⟩
abbrev S32 : Shape := ⟨1, ![32]⟩

abbrev nBuf : Space → Nat
  | .hbm => 14
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S32x16x64, .f32⟩
  | .hbm, ⟨4, _⟩ => ⟨S32x16x64, .f32⟩
  | .hbm, ⟨5, _⟩ => ⟨S32x64, .f32⟩
  | .hbm, ⟨6, _⟩ => ⟨S32x64, .f32⟩
  | .hbm, ⟨7, _⟩ => ⟨S32x16x64, .f32⟩
  | .hbm, ⟨8, _⟩ => ⟨S32x16x64, .f32⟩
  | .hbm, ⟨9, _⟩ => ⟨S32x64, .f32⟩
  | .hbm, ⟨10, _⟩ => ⟨S32x64, .f32⟩
  | .hbm, ⟨11, _⟩ => ⟨S32x1, .f32⟩
  | .hbm, ⟨12, _⟩ => ⟨S32x16x64, .f32⟩
  | .hbm, ⟨13, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S32x16x64, .f32⟩
  | .local _ .vmem, ⟨13, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ZohRefIdeal.lean ====
abbrev S32x64 : Shape := ⟨2, ![32, 64]⟩
abbrev S32x1 : Shape := ⟨2, ![32, 1]⟩
abbrev S32x16x64 : Shape := ⟨3, ![32, 16, 64]⟩
abbrev S_ : Shape := ⟨0, ![]⟩
abbrev S32x1x64 : Shape := ⟨3, ![32, 1, 64]⟩
abbrev S32 : Shape := ⟨1, ![32]⟩

abbrev nBuf : Space → Nat
  | .hbm => 158
  | .vmem => 0
  | .smem => 0
  | _ => 0

abbrev hbmTy0_0 (i : Nat) : BufTy := match i % 128 with
  | 0 => ⟨S32x64, .f32⟩
  | 1 => ⟨S32x64, .f32⟩
  | 2 => ⟨S32x1, .f32⟩
  | 3 => ⟨S32x16x64, .f32⟩
  | 4 => ⟨S32x16x64, .f32⟩
  | 5 => ⟨S32x64, .f32⟩
  | 6 => ⟨S32x64, .f32⟩
  | 7 => ⟨S32x16x64, .f32⟩
  | 8 => ⟨S32x16x64, .f32⟩
  | 9 => ⟨S32x1, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x1x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x1x64, .f32⟩
  | 47 => ⟨S32x16x64, .f32⟩
  | 48 => ⟨S32x16x64, .f32⟩
  | 49 => ⟨S32x16x64, .f32⟩
  | 50 => ⟨S32x16x64, .f32⟩
  | 51 => ⟨S32x16x64, .f32⟩
  | 52 => ⟨S32x16x64, .f32⟩
  | 53 => ⟨S32x16x64, .f32⟩
  | 54 => ⟨S32x16x64, .f32⟩
  | 55 => ⟨S32x16x64, .f32⟩
  | 56 => ⟨S32x16x64, .f32⟩
  | 57 => ⟨S32x16x64, .f32⟩
  | 58 => ⟨S32x16x64, .f32⟩
  | 59 => ⟨S32x16x64, .f32⟩
  | 60 => ⟨S32x16x64, .f32⟩
  | 61 => ⟨S32x16x64, .f32⟩
  | 62 => ⟨S_, .f32⟩
  | 63 => ⟨S32x64, .f32⟩
  | 64 => ⟨S32x1x64, .f32⟩
  | 65 => ⟨S32x16x64, .f32⟩
  | 66 => ⟨S32x16x64, .f32⟩
  | 67 => ⟨S32x16x64, .f32⟩
  | 68 => ⟨S_, .f32⟩
  | 69 => ⟨S32x64, .f32⟩
  | 70 => ⟨S32x1x64, .f32⟩
  | 71 => ⟨S32x16x64, .f32⟩
  | 72 => ⟨S32x16x64, .f32⟩
  | 73 => ⟨S32x16x64, .f32⟩
  | 74 => ⟨S32x16x64, .f32⟩
  | 75 => ⟨S32x16x64, .f32⟩
  | 76 => ⟨S32x16x64, .f32⟩
  | 77 => ⟨S_, .f32⟩
  | 78 => ⟨S32x64, .f32⟩
  | 79 => ⟨S32x1x64, .f32⟩
  | 80 => ⟨S32x1x64, .f32⟩
  | 81 => ⟨S32x16x64, .f32⟩
  | 82 => ⟨S32x16x64, .f32⟩
  | 83 => ⟨S32x16x64, .f32⟩
  | 84 => ⟨S32x16x64, .f32⟩
  | 85 => ⟨S_, .f32⟩
  | 86 => ⟨S32x64, .f32⟩
  | 87 => ⟨S32x1x64, .f32⟩
  | 88 => ⟨S32x1x64, .f32⟩
  | 89 => ⟨S_, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S_, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S_, .f32⟩
  | 2 => ⟨S32, .f32⟩
  | 3 => ⟨S32x1, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S_, .f32⟩
  | 14 => ⟨S32, .f32⟩
  | 15 => ⟨S32x1, .f32⟩
  | 16 => ⟨S32x1, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S_, .f32⟩
  | 23 => ⟨S32, .f32⟩
  | 24 => ⟨S32x1, .f32⟩
  | 25 => ⟨S32x1, .f32⟩
  | 26 => ⟨S32x64, .f32⟩
  | 27 => ⟨S32x64, .f32⟩
  | 28 => ⟨S32x64, .f32⟩
  | 29 => ⟨S32x1, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_4 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_5 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_7 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_8 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_9 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_10 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩

abbrev nD : Nat := 1
abbrev τ : Topo := Topo.v7x

variable {F : FTy → Type} [FloatOps F]
-- ==== Proof.Run.lean ====
/-
  What a whole run of the program leaves in every buffer: the generated fold over its segments, read at the end of the run.
-/
module

public import proofs.«01_k».proof.Proof.Gen.HalfIdeal.Frame

@[expose] public section

set_option maxRecDepth 16384

noncomputable section

namespace Cert.Run

open Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the run ends at what the fold says. -/
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.Run

end
-- ==== Proof.Spec.lean ====
/-
  The step's second half as plain functions of rows of extended reals: what one token's row of each intermediate value is, and
  each weight gradient as a sum over the tokens. Both programs are compared with these functions. The scalar laws the
  comparison needs are proved at the end.
-/
module

public import Idealize.ShloMosaic.Lib.Pointwise

@[expose] public section

noncomputable section

namespace Cert.Spec

open Idealize.ShloMosaic

/-- One row of `n` numbers. -/
abbrev Row (n : ℕ) := Fin n → EReal
/-- An `m` by `n` array of numbers, read by row and column. -/
abbrev Mat (m n : ℕ) := Fin m → Fin n → EReal

/-- A rank-two buffer read by row and column. -/
def mat {m n : ℕ} (A : Shape.Idx ⟨2, ![m, n]⟩ → EReal) : Mat m n := fun i j => A (ix2 i j)
/-- A rank-one buffer as a row. -/
def vec {n : ℕ} (A : Shape.Idx ⟨1, ![n]⟩ → EReal) : Row n := fun j => A (ix1 j)
/-- The only row of a one-row buffer. -/
def row0 {n : ℕ} (A : Shape.Idx ⟨2, ![1, n]⟩ → EReal) : Row n := fun j => A (ix2 0 j)

/-- The buffer of rank two with given entries. -/
def buf2 {m n : ℕ} (A : Mat m n) : Shape.Idx ⟨2, ![m, n]⟩ → EReal := fun i => A (i 0) (i 1)
/-- Its entries are those. -/
theorem mat_buf2 {m n : ℕ} (A : Mat m n) : mat (buf2 A) = A := rfl
/-- The buffer of one row. -/
def buf1 {n : ℕ} (v : Row n) : Shape.Idx ⟨2, ![1, n]⟩ → EReal := fun i => v (i 1)
/-- Every index of a buffer of rank two is a pair. -/
theorem eq_ix2 {m n : ℕ} (y : Shape.Idx ⟨2, ![m, n]⟩) : y = ix2 (y 0) (y 1) := by
  funext a
  match a with
  | 0 => rfl
  | 1 => rfl

/-- The row length 1024, -/
def kN : EReal := Ideal.ofBits .f32 0x44800000#32
/-- the normalisation's epsilon, -/
def kEps : EReal := Ideal.ofBits .f32 0x358637BD#32
/-- minus one half, -/
def kMH : EReal := Ideal.ofBits .f32 0xBF000000#32
/-- and one half, each as the programs' bit pattern. -/
def kH : EReal := Ideal.ofBits .f32 0x3F000000#32

/-- Mean of squares plus epsilon. -/
def ms (h : Row 1024) : EReal := Ideal.div (∑ j, h j * h j) kN + kEps
/-- The reciprocal root of it, -/
def rs (h : Row 1024) : EReal := Ideal.rsqrt (ms h)
/-- and the derivative of that root. -/
def qs (h : Row 1024) : EReal := kMH * Ideal.div (rs h) (ms h)
/-- The normalised row before its gain. -/
def hat (h : Row 1024) : Row 1024 := fun j => h j * rs h
/-- The normalised row. -/
def nrm (h g : Row 1024) : Row 1024 := fun j => hat h j * g j
/-- A row times a matrix. -/
def mv {m n : ℕ} (x : Row m) (W : Mat m n) : Row n := fun j => ∑ k, x k * W k j
/-- A row times a transposed matrix. -/
def mvT {m n : ℕ} (x : Row n) (W : Mat m n) : Row m := fun i => ∑ k, x k * W i k
/-- The logistic function, -/
def sg (z : EReal) : EReal := Ideal.div 1 (1 + Ideal.exp (-z))
/-- and its derivative. -/
def dsg (z : EReal) : EReal := sg z * (1 - sg z)

/-- The row's share of the normalisation's cotangent that comes through the mean. -/
def nbc (h g dy : Row 1024) : EReal := Ideal.div ((∑ k, h k * (dy k * g k)) * qs h) kN
/-- The normalisation's cotangent. -/
def nb (h g dy : Row 1024) : Row 1024 := fun j => dy j * g j * rs h + h j * nbc h g dy + nbc h g dy * h j
/-- The normalisation's cotangent added to one that reaches the same row otherwise. -/
def nbAdd (acc h g dy : Row 1024) : Row 1024 := fun j => acc j + nb h g dy j

/-- The residual row after the mixers' projection: the projection's upper rows meet one mixer's output, its lower rows the other's. -/
def h1 (x : Row 1024) (s r : Row 512) (wt wb : Mat 512 1024) : Row 1024 := fun j => x j + mv s wt j + mv r wb j
/-- The gated hidden row. -/
def hmid (a1 a3 : Row 2816) : Row 2816 := fun j => a1 j * sg (a1 j) * a3 j
/-- The residual row after the gated layer. -/
def h2 (h : Row 1024) (hm : Row 2816) (w2 : Mat 2816 1024) : Row 1024 := fun j => h j + mv hm w2 j

/-- The gate of the per-layer embedding. -/
def gate (h g : Row 1024) (wg : Mat 1024 1024) : Row 1024 := fun j => sg (mv (nrm h g) wg j)
/-- The residual row after the gated embedding. -/
def h3 (h g : Row 1024) (p : Row 256) (wg : Mat 1024 1024) (wu : Mat 256 1024) : Row 1024 :=
  fun j => h j + gate h g wg j * mv p wu j
/-- The final row's error. -/
def err (h gf t : Row 1024) : Row 1024 := fun j => nrm h gf j - t j
/-- The row's mean squared error. -/
def mse (h gf t : Row 1024) : EReal := Ideal.div (∑ j, err h gf t j * err h gf t j) kN
/-- The factor of the error in the loss's cotangent. -/
def kC : EReal := Ideal.div kH kN
/-- The error's cotangent. -/
def dout (h gf t : Row 1024) : Row 1024 := fun j => err h gf t j * kC + kC * err h gf t j
/-- The cotangent of the row the loss reads. -/
def dh3 (h gf t : Row 1024) : Row 1024 := nb h gf (dout h gf t)
/-- The cotangent of the gate's argument. -/
def dz (h g : Row 1024) (p : Row 256) (wg : Mat 1024 1024) (wu : Mat 256 1024) (d : Row 1024) : Row 1024 :=
  fun j => d j * mv p wu j * dsg (mv (nrm h g) wg j)
/-- The cotangent of the embedding's projection. -/
def dpu (h g : Row 1024) (wg : Mat 1024 1024) (d : Row 1024) : Row 1024 := fun j => gate h g wg j * d j
/-- The cotangent of the row the gated embedding reads. -/
def dh2 (h g : Row 1024) (p : Row 256) (wg : Mat 1024 1024) (wu : Mat 256 1024) (d : Row 1024) : Row 1024 :=
  nbAdd d h g (mvT (dz h g p wg wu d) wg)

/-- The cotangent of the linear branch. -/
def da3 (a1 : Row 2816) (d : Row 1024) (w2 : Mat 2816 1024) : Row 2816 := fun j => a1 j * sg (a1 j) * mvT d w2 j
/-- The cotangent of the gated branch. -/
def da1 (a1 a3 : Row 2816) (d : Row 1024) (w2 : Mat 2816 1024) : Row 2816 := fun j =>
  mvT d w2 j * a3 j * sg (a1 j) + a1 j * (mvT d w2 j * a3 j) * dsg (a1 j)
/-- The cotangent of the normalised row the gated layer reads. -/
def dhn (a1 a3 : Row 2816) (d : Row 1024) (w1 w3 : Mat 1024 2816) (w2 : Mat 2816 1024) : Row 1024 := fun j =>
  mvT (da1 a1 a3 d w2) w1 j + mvT (da3 a1 d w2) w3 j

/-- A sum over all tokens of the product of two rows' entries. -/
def outer {T m n : ℕ} (A : Mat T m) (B : Mat T n) : Mat m n := fun i j => ∑ t, A t i * B t j
/-- A sum over all tokens of the product of the same entry of two rows. -/
def inner {T n : ℕ} (A B : Mat T n) : Row n := fun j => ∑ t, A t j * B t j

/-! ## Scalar laws -/

theorem kN_eq : kN = ((1024 : ℝ) : EReal) := by
  have h : BitVec.extractLsb' 31 1 0x44800000#32 ≠ 1#1 := by decide
  simp only [kN, Ideal.ofBits, Ideal.ieee]
  norm_num [Nat.shiftRight_eq_div_pow, h]
theorem kH_eq : kH = ((1 / 2 : ℝ) : EReal) := by
  have h : BitVec.extractLsb' 31 1 0x3F000000#32 ≠ 1#1 := by decide
  simp only [kH, Ideal.ofBits, Ideal.ieee]
  norm_num [Nat.shiftRight_eq_div_pow, h]

/-- The literal two. -/
theorem ofBits_two : Ideal.ofBits .f32 0x40000000#32 = ((2 : ℝ) : EReal) := by
  have h : BitVec.extractLsb' 31 1 0x40000000#32 ≠ 1#1 := by decide
  simp only [Ideal.ofBits, Ideal.ieee]
  norm_num [Nat.shiftRight_eq_div_pow, h]

/-- A product with a real number distributes over a sum. -/
theorem coe_mul_sum {ι : Type*} (s : Finset ι) (r : ℝ) (f : ι → EReal) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

/-- Twice a number is the number added to itself. -/
theorem two_mul_coe (x : EReal) : ((2 : ℝ) : EReal) * x = x + x := by
  have h : ((2 : ℝ) : EReal) = 1 + 1 := by
    rw [show (1 : EReal) = ((1 : ℝ) : EReal) from rfl, ← EReal.coe_add]
    norm_num
  rw [h, EReal.right_distrib_of_nonneg zero_le_one zero_le_one, one_mul]

theorem kC_eq : kC = ((1 / 2048 : ℝ) : EReal) := by
  rw [kC, kH_eq, kN_eq, Ideal.div_coe (by norm_num), ← EReal.coe_mul]
  norm_num

/-- The exponential is never negative. -/
theorem exp_nonneg (z : EReal) : 0 ≤ Ideal.exp z := by
  induction z with
  | bot => exact le_of_eq rfl
  | top => exact le_top
  | coe r => exact EReal.coe_nonneg.mpr (Real.exp_pos r).le

/-- The logistic function's derivative the way the kernels compute it: from the exponential and the squared denominator. -/
theorem dsg_eq (z : EReal) :
    Ideal.div 1 ((1 + Ideal.exp (-z)) * (1 + Ideal.exp (-z))) * Ideal.exp (-z) = dsg z := by
  unfold dsg sg
  generalize hE : Ideal.exp (-z) = E
  have h0 : 0 ≤ E := hE ▸ exp_nonneg _
  induction E with
  | bot => simp at h0
  | top =>
    have h1 : (1 : EReal) + ⊤ = ⊤ := EReal.add_top_of_ne_bot (by decide)
    simp [Ideal.div, h1]
  | coe r =>
    have hr : 0 ≤ r := by exact_mod_cast h0
    have h1 : (1 : ℝ) + r ≠ 0 := by positivity
    rw [show (1 : EReal) + (r : EReal) = ((1 + r : ℝ) : EReal) by push_cast; rfl, ← EReal.coe_mul,
      Ideal.div_coe (mul_ne_zero h1 h1), Ideal.div_coe h1, one_mul, one_mul, ← EReal.coe_mul,
      show (1 : EReal) = ((1 : ℝ) : EReal) from rfl, ← EReal.coe_sub, ← EReal.coe_mul]
    congr 1
    field_simp
    ring

/-- The same with the factor before it and the two sign changes the kernels make. -/
theorem dsg_factor (g z : EReal) :
    -(-(g * Ideal.div 1 ((1 + Ideal.exp (-z)) * (1 + Ideal.exp (-z)))) * Ideal.exp (-z)) = g * dsg z := by
  rw [EReal.neg_mul, neg_neg, mul_assoc, dsg_eq]

/-- The error's cotangent the way the reference computes it. -/
theorem dout_eq (h gf t : Row 1024) (j : Fin 1024) : kC * (Ideal.ofBits .f32 0x40000000#32 * err h gf t j) = dout h gf t j := by
  rw [ofBits_two, two_mul_coe, kC_eq, EReal.left_distrib_of_nonneg_of_ne_top
    (EReal.coe_nonneg.mpr (by norm_num)) (EReal.coe_ne_top _), dout, kC_eq, mul_comm (err h gf t j)]

/-- Sums over the tokens taken block by block. -/
theorem sum_blocks {N : ℕ} (J T : ℕ) (hN : J * T = N) (f : Fin N → EReal) :
    ∑ k : Fin N, f k = ∑ j : Fin J, ∑ t : Fin T, f ⟨j * T + t, by
      have := j.isLt; have := t.isLt
      calc (j : ℕ) * T + t < (j + 1) * T := by rw [Nat.succ_mul]; omega
        _ ≤ J * T := Nat.mul_le_mul_right _ (by omega)
        _ = N := hN⟩ := Fin.sum_univ_tiles J T hN f

end Cert.Spec

end
-- ==== Proof.Whole.lean ====
/-
  The second half of one training step as functions of its fourteen arguments: the residual rows, the loss, and the gradients, each
  token by token, with the sums over the tokens last.
-/
module

public import proofs.«01_k».proof.Proof.Spec

@[expose] public section

noncomputable section

namespace Cert.Whole

open Idealize.ShloMosaic Cert.Spec

/-- The contents of an argument of rank two, -/
abbrev A2 (m n : ℕ) := Shape.Idx ⟨2, ![m, n]⟩ → EReal
/-- and of rank one. -/
abbrev A1 (n : ℕ) := Shape.Idx ⟨1, ![n]⟩ → EReal

/-- The arguments: the residual row, the two mixers' outputs, the per-layer embedding, the target, and the weights in the order the
    step meets them. -/
structure Args where
  x : A2 4096 1024
  s : A2 4096 512
  r : A2 4096 512
  p : A2 4096 256
  tg : A2 4096 1024
  wo : A2 1024 1024
  gn : A1 1024
  w1 : A2 1024 2816
  w3 : A2 1024 2816
  w2 : A2 2816 1024
  gp : A1 1024
  wg : A2 1024 1024
  wu : A2 256 1024
  gf : A1 1024

variable (X : Args)

/-- The projection's upper rows, -/
def wtop : Mat 512 1024 := fun i j => X.wo (ix2 ⟨i.val, by omega⟩ j)
/-- and its lower rows. -/
def wbot : Mat 512 1024 := fun i j => X.wo (ix2 ⟨512 + i.val, by omega⟩ j)
/-- The residual row the gated layer reads. -/
def H1 : Mat 4096 1024 := fun t => h1 (mat X.x t) (mat X.s t) (mat X.r t) (wtop X) (wbot X)
/-- It, normalised. -/
def HN : Mat 4096 1024 := fun t => nrm (H1 X t) (vec X.gn)
/-- The gated branch, -/
def A1r : Mat 4096 2816 := fun t => mv (HN X t) (mat X.w1)
/-- the linear branch, -/
def A3r : Mat 4096 2816 := fun t => mv (HN X t) (mat X.w3)
/-- and the hidden row. -/
def HM : Mat 4096 2816 := fun t => hmid (A1r X t) (A3r X t)
/-- The residual row the gated embedding reads. -/
def H2 : Mat 4096 1024 := fun t => h2 (H1 X t) (HM X t) (mat X.w2)
/-- The residual row the loss reads. -/
def H3 : Mat 4096 1024 := fun t => h3 (H2 X t) (vec X.gp) (mat X.p t) (mat X.wg) (mat X.wu)
/-- Its cotangent. -/
def D3 : Mat 4096 1024 := fun t => dh3 (H3 X t) (vec X.gf) (mat X.tg t)
/-- The cotangent of the gate's argument, -/
def DZ : Mat 4096 1024 := fun t => dz (H2 X t) (vec X.gp) (mat X.p t) (mat X.wg) (mat X.wu) (D3 X t)
/-- of the embedding's projection, -/
def DPU : Mat 4096 1024 := fun t => dpu (H2 X t) (vec X.gp) (mat X.wg) (D3 X t)
/-- and of the row the gated embedding reads. -/
def D2 : Mat 4096 1024 := fun t => dh2 (H2 X t) (vec X.gp) (mat X.p t) (mat X.wg) (mat X.wu) (D3 X t)
/-- The cotangent of the gated branch, -/
def DA1 : Mat 4096 2816 := fun t => da1 (A1r X t) (A3r X t) (D2 X t) (mat X.w2)
/-- of the linear branch, -/
def DA3 : Mat 4096 2816 := fun t => da3 (A1r X t) (D2 X t) (mat X.w2)
/-- of the normalised row both read, -/
def DN : Mat 4096 1024 := fun t => dhn (A1r X t) (A3r X t) (D2 X t) (mat X.w1) (mat X.w3) (mat X.w2)
/-- and of the residual row the gated layer reads. -/
def D1 : Mat 4096 1024 := fun t => nbAdd (D2 X t) (H1 X t) (vec X.gn) (DN X t)

/-- The loss. -/
def loss : EReal := kH * ∑ t, mse (H3 X t) (vec X.gf) (mat X.tg t)
/-- The gradient of the gated layer's gain, -/
def dgn : Row 1024 := inner (fun t => hat (H1 X t)) (DN X)
/-- of its gated branch's weight, -/
def dw1 : Mat 1024 2816 := outer (HN X) (DA1 X)
/-- of its linear branch's weight, -/
def dw3 : Mat 1024 2816 := outer (HN X) (DA3 X)
/-- and of its last weight. -/
def dw2 : Mat 2816 1024 := outer (HM X) (D2 X)
/-- The gradient of the gated embedding's gain, -/
def dgp : Row 1024 := inner (fun t => hat (H2 X t)) (fun t => mvT (DZ X t) (mat X.wg))
/-- of its gate's weight, -/
def dwg : Mat 1024 1024 := outer (fun t => nrm (H2 X t) (vec X.gp)) (DZ X)
/-- and of its projection. -/
def dwu : Mat 256 1024 := outer (mat X.p) (DPU X)
/-- The gradient of the final gain. -/
def dgf : Row 1024 := inner (fun t => hat (H3 X t)) (fun t => dout (H3 X t) (vec X.gf) (mat X.tg t))

end Cert.Whole

end
-- ==== Proof.Pay0.lean ====
/-
  What the first call's body stores, read at an index: the residual row, the gated layer's two branches, the gated hidden row, the
  layer's result and the normalised row, each as the plain function of the rows it reads.
-/
module

public import proofs.«01_k».proof.Proof.Gen.HalfIdeal.Skeleton
public import proofs.«01_k».proof.Proof.Spec

@[expose] public section

set_option maxRecDepth 16384

noncomputable section

namespace Cert.Pay0

open Idealize.ShloMosaic Idealize.ShloMosaic.TcCoe Idealize.SL.Sem
open Cert.HalfIdeal Cert.HalfIdeal.Gen Cert.Spec

variable (v0 : FVec Ideal S256x1024 .f32) (v1 v2 : FVec Ideal S256x512 .f32) (v3 v5 : FVec Ideal S512x1024 .bf16)
  (v7 : FVec Ideal S1x1024 .f32) (v9 v11 : FVec Ideal S1024x2816 .bf16) (v13 : FVec Ideal S2816x1024 .bf16)

/-- The residual row of one block. -/
def H (r : Fin 256) : Row 1024 := Spec.h1 (mat v0 r) (mat v1 r) (mat v2 r) (mat v3) (mat v5)
/-- Its normalised row, -/
def N (r : Fin 256) : Row 1024 := nrm (H v0 v1 v2 v3 v5 r) (row0 v7)
/-- and a branch of the gated layer. -/
def A (w : FVec Ideal S1024x2816 .bf16) (r : Fin 256) : Row 2816 := mv (N v0 v1 v2 v3 v5 v7 r) (mat w)

theorem pay8 (r : Fin 256) (j : Fin 1024) : k0_pay8 (F := Ideal) v0 v1 v2 v3 v5 (ix2 r j) = H v0 v1 v2 v3 v5 r j := by
  pointwise [k0_pay8]
  rfl

theorem pay9 (r : Fin 256) (j : Fin 1024) : k0_pay9 (F := Ideal) v0 v1 v2 v3 v5 v7 (ix2 r j) = N v0 v1 v2 v3 v5 v7 r j := by
  pointwise [k0_pay9, pay8]
  rfl

theorem pay10 (r : Fin 256) (j : Fin 2816) :
    k0_pay10 (F := Ideal) v0 v1 v2 v3 v5 v7 v9 (ix2 r j) = A v0 v1 v2 v3 v5 v7 v9 r j := by
  pointwise [k0_pay10, pay9]
  rfl

theorem pay4 (r : Fin 256) (j : Fin 2816) :
    k0_pay4 (F := Ideal) (k0_pay10 v0 v1 v2 v3 v5 v7 v9) (ix2 r j) = A v0 v1 v2 v3 v5 v7 v9 r j := by
  pointwise [k0_pay4, pay10]

theorem pay1 (r : Fin 256) (j : Fin 2816) :
    k0_pay1 (F := Ideal) (k0_pay6 v11) (k0_pay9 v0 v1 v2 v3 v5 v7) (ix2 r j) = A v0 v1 v2 v3 v5 v7 v11 r j := by
  pointwise [k0_pay1, pay9, k0_pay6]
  rfl

theorem pay5 (r : Fin 256) (j : Fin 2816) :
    k0_pay5 (F := Ideal) (k0_pay6 v11) (k0_pay9 v0 v1 v2 v3 v5 v7) (ix2 r j) = A v0 v1 v2 v3 v5 v7 v11 r j := by
  pointwise [k0_pay5, pay1]

theorem pay2 (r : Fin 256) (j : Fin 2816) :
    k0_pay2 (F := Ideal) (k0_pay6 v11) (k0_pay9 v0 v1 v2 v3 v5 v7) (k0_pay10 v0 v1 v2 v3 v5 v7 v9) (ix2 r j)
      = hmid (A v0 v1 v2 v3 v5 v7 v9 r) (A v0 v1 v2 v3 v5 v7 v11 r) j := by
  pointwise [k0_pay2, pay1, pay10, zero_sub]
  rfl

theorem pay3 (r : Fin 256) (j : Fin 1024) :
    k0_pay3 (F := Ideal) (k0_pay6 v11) (k0_pay7 v13) (k0_pay8 v0 v1 v2 v3 v5) (k0_pay9 v0 v1 v2 v3 v5 v7)
        (k0_pay10 v0 v1 v2 v3 v5 v7 v9) (ix2 r j)
      = h2 (H v0 v1 v2 v3 v5 r) (hmid (A v0 v1 v2 v3 v5 v7 v9 r) (A v0 v1 v2 v3 v5 v7 v11 r)) (mat v13) j := by
  pointwise [k0_pay3, pay2, pay8, k0_pay7]
  rfl

end Cert.Pay0

end
-- ==== Proof.Reg0.lean ====
/-
  What the gated layer's forward call leaves in its result arrays, whatever its operands hold at entry.
-/
module

public import proofs.«01_k».proof.Proof.Gen.HalfIdeal.Frame.Region0
public import proofs.«01_k».proof.Proof.Pay0
public import Idealize.ShloMosaic.Lib.Pipeline.ValueKit

@[expose] public section

set_option maxRecDepth 16384

noncomputable section

namespace Cert.Reg0

open Idealize.ShloMosaic Idealize.ShloMosaic.TcCoe Idealize.SL.Sem Idealize.ShloMosaic.Pipeline
open Cert.HalfIdeal Cert.HalfIdeal.Gen
open Cert.Spec hiding eq_ix2

variable (V : (c : Dev nD) → (b : Ref sig .tc) → Buf (Elt Ideal) ((c : Thread nD τ).loc b)) (c : Dev nD)

/-- Which block of its array each window holds at a point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0] :=
  (by decide +kernel : ∀ t : Fin grid0.N, _)

/-- The array row under a block's row. -/
def row (t : Fin cfg0.N) (r : Fin 256) : Fin 4096 := ⟨t.val * 256 + r.val, by have := lt_of_lt_of_eq t.isLt N_0; omega⟩

theorem b0 (t : Fin cfg0.N) (r : Fin 256) :
    mat (iblk0 V c 0 t : FVec Ideal S256x1024 .f32) r = mat (V c main_arg0 : FVec Ideal S4096x1024 .f32) (row t r) := by
  funext j
  unfold row mat
  blk_ext [iblk0, idx t]
theorem b1 (t : Fin cfg0.N) (r : Fin 256) :
    mat (iblk0 V c 1 t : FVec Ideal S256x512 .f32) r = mat (V c main_arg1 : FVec Ideal S4096x512 .f32) (row t r) := by
  funext j
  unfold row mat
  blk_ext [iblk0, idx t]
theorem b2 (t : Fin cfg0.N) (r : Fin 256) :
    mat (iblk0 V c 2 t : FVec Ideal S256x512 .f32) r = mat (V c main_arg2 : FVec Ideal S4096x512 .f32) (row t r) := by
  funext j
  unfold row mat
  blk_ext [iblk0, idx t]
theorem b3 (t : Fin cfg0.N) : mat (iblk0 V c 3 t : FVec Ideal S512x1024 .bf16) = mat (V c main_v9 : FVec Ideal S512x1024 .bf16) := by
  funext i j
  unfold mat
  blk_ext [iblk0, idx t]
theorem b4 (t : Fin cfg0.N) : mat (iblk0 V c 4 t : FVec Ideal S512x1024 .bf16) = mat (V c main_v10 : FVec Ideal S512x1024 .bf16) := by
  funext i j
  unfold mat
  blk_ext [iblk0, idx t]
theorem b5 (t : Fin cfg0.N) : row0 (iblk0 V c 5 t : FVec Ideal S1x1024 .f32) = row0 (V c main_v6 : FVec Ideal S1x1024 .f32) := by
  funext j
  unfold row0
  blk_ext [iblk0, idx t]
theorem b6 (t : Fin cfg0.N) : mat (iblk0 V c 6 t : FVec Ideal S1024x2816 .bf16) = mat (V c main_v1 : FVec Ideal S1024x2816 .bf16) := by
  funext i j
  unfold mat
  blk_ext [iblk0, idx t]
theorem b7 (t : Fin cfg0.N) : mat (iblk0 V c 7 t : FVec Ideal S1024x2816 .bf16) = mat (V c main_v2 : FVec Ideal S1024x2816 .bf16) := by
  funext i j
  unfold mat
  blk_ext [iblk0, idx t]
theorem b8 (t : Fin cfg0.N) : mat (iblk0 V c 8 t : FVec Ideal S2816x1024 .bf16) = mat (V c main_v3 : FVec Ideal S2816x1024 .bf16) := by
  funext i j
  unfold mat
  blk_ext [iblk0, idx t]

/-- The residual row the gated layer reads, -/
def rH1 : Mat 4096 1024 := fun t => h1 (mat (V c main_arg0) t) (mat (V c main_arg1) t) (mat (V c main_arg2) t) (mat (V c main_v9)) (mat (V c main_v10))
/-- it normalised, -/
def rHN : Mat 4096 1024 := fun t => nrm (rH1 V c t) (row0 (V c main_v6))
/-- the gated branch, -/
def rA1 : Mat 4096 2816 := fun t => mv (rHN V c t) (mat (V c main_v1))
/-- the linear branch, -/
def rA3 : Mat 4096 2816 := fun t => mv (rHN V c t) (mat (V c main_v2))
/-- the hidden row, -/
def rHM : Mat 4096 2816 := fun t => hmid (rA1 V c t) (rA3 V c t)
/-- and the residual row after the layer. -/
def rH2 : Mat 4096 1024 := fun t => h2 (rH1 V c t) (rHM V c t) (mat (V c main_v3))

theorem p_h1_out (t : Fin cfg0.N) (r : Fin 256) (j : Fin 1024) :
    k0_pay8 (F := Ideal) (iblk0 V c 0 t) (iblk0 V c 1 t) (iblk0 V c 2 t) (iblk0 V c 3 t) (iblk0 V c 4 t) (ix2 r j) = rH1 V c (row t r) j := by
  refine (Pay0.pay8 _ _ _ _ _ _ _).trans ?_
  simp only [Pay0.H, b0, b1, b2, b3, b4]
  rfl
theorem h1_out : (dat0 V c).arrAt 9 cfg0.N = (buf2 (rH1 V c) : FVec Ideal S4096x1024 .f32) := by
  refine (dat0 V c).arrAt_eq_of_covers 9 _ (by decide +kernel) fun t hf y => ?_
  blk_simp
  rw [after0_9]
  unfold_out out0_9
  frame_out
  have e : ((View.whole main_v11_0).slice (win0_9.rect t)).emb y = ix2 (row t (y 0)) (y 1) := by
    unfold row
    blk_ext [idx t]
  rw [e]
  exact (congrArg _ (eq_ix2 y)).trans (p_h1_out V c t (y 0) (y 1))

theorem p_h2_out (t : Fin cfg0.N) (r : Fin 256) (j : Fin 1024) :
    k0_pay3 (F := Ideal) (k0_pay6 (F := Ideal) (iblk0 V c 7 t)) (k0_pay7 (F := Ideal) (iblk0 V c 8 t)) (k0_pay8 (F := Ideal) (iblk0 V c 0 t) (iblk0 V c 1 t) (iblk0 V c 2 t) (iblk0 V c 3 t) (iblk0 V c 4 t)) (k0_pay9 (F := Ideal) (iblk0 V c 0 t) (iblk0 V c 1 t) (iblk0 V c 2 t) (iblk0 V c 3 t) (iblk0 V c 4 t) (iblk0 V c 5 t)) (k0_pay10 (F := Ideal) (iblk0 V c 0 t) (iblk0 V c 1 t) (iblk0 V c 2 t) (iblk0 V c 3 t) (iblk0 V c 4 t) (iblk0 V c 5 t) (iblk0 V c 6 t)) (ix2 r j) = rH2 V c (row t r) j := by
  refine (Pay0.pay3 _ _ _ _ _ _ _ _ _ _ _).trans ?_
  simp only [Pay0.H, Pay0.N, Pay0.A, b0, b1, b2, b3, b4, b5, b6, b7, b8]
  rfl
theorem h2_out : (dat0 V c).arrAt 10 cfg0.N = (buf2 (rH2 V c) : FVec Ideal S4096x1024 .f32) := by
  refine (dat0 V c).arrAt_eq_of_covers 10 _ (by decide +kernel) fun t hf y => ?_
  blk_simp
  rw [after0_10]
  unfold_out out0_10
  frame_out
  have e : ((View.whole main_v11_1).slice (win0_10.rect t)).emb y = ix2 (row t (y 0)) (y 1) := by
    unfold row
    blk_ext [idx t]
  rw [e]
  exact (congrArg _ (eq_ix2 y)).trans (p_h2_out V c t (y 0) (y 1))

theorem p_a1_out (t : Fin cfg0.N) (r : Fin 256) (j : Fin 2816) :
    k0_pay4 (F := Ideal) (k0_pay10 (F := Ideal) (iblk0 V c 0 t) (iblk0 V c 1 t) (iblk0 V c 2 t) (iblk0 V c 3 t) (iblk0 V c 4 t) (iblk0 V c 5 t) (iblk0 V c 6 t)) (ix2 r j) = rA1 V c (row t r) j := by
  refine (Pay0.pay4 _ _ _ _ _ _ _ _ _).trans ?_
  simp only [Pay0.H, Pay0.N, Pay0.A, b0, b1, b2, b3, b4, b5, b6]
  rfl
theorem a1_out : (dat0 V c).arrAt 11 cfg0.N = (buf2 (rA1 V c) : FVec Ideal S4096x2816 .bf16) := by
  refine (dat0 V c).arrAt_eq_of_covers 11 _ (by decide +kernel) fun t hf y => ?_
  blk_simp
  rw [after0_11]
  unfold_out out0_11
  frame_out
  have e : ((View.whole main_v11_2).slice (win0_11.rect t)).emb y = ix2 (row t (y 0)) (y 1) := by
    unfold row
    blk_ext [idx t]
  rw [e]
  exact (congrArg _ (eq_ix2 y)).trans (p_a1_out V c t (y 0) (y 1))

theorem p_a3_out (t : Fin cfg0.N) (r : Fin 256) (j : Fin 2816) :
    k0_pay5 (F := Ideal) (k0_pay6 (F := Ideal) (iblk0 V c 7 t)) (k0_pay9 (F := Ideal) (iblk0 V c 0 t) (iblk0 V c 1 t) (iblk0 V c 2 t) (iblk0 V c 3 t) (iblk0 V c 4 t) (iblk0 V c 5 t)) (ix2 r j) = rA3 V c (row t r) j := by
  refine (Pay0.pay5 _ _ _ _ _ _ _ _ _).trans ?_
  simp only [Pay0.H, Pay0.N, Pay0.A, b0, b1, b2, b3, b4, b5, b7]
  rfl
theorem a3_out : (dat0 V c).arrAt 12 cfg0.N = (buf2 (rA3 V c) : FVec Ideal S4096x2816 .bf16) := by
  refine (dat0 V c).arrAt_eq_of_covers 12 _ (by decide +kernel) fun t hf y => ?_
  blk_simp
  rw [after0_12]
  unfold_out out0_12
  frame_out
  have e : ((View.whole main_v11_3).slice (win0_12.rect t)).emb y = ix2 (row t (y 0)) (y 1) := by
    unfold row
    blk_ext [idx t]
  rw [e]
  exact (congrArg _ (eq_ix2 y)).trans (p_a3_out V c t (y 0) (y 1))

theorem p_hm_out (t : Fin cfg0.N) (r : Fin 256) (j : Fin 2816) :
    k0_pay2 (F := Ideal) (k0_pay6 (F := Ideal) (iblk0 V c 7 t)) (k0_pay9 (F := Ideal) (iblk0 V c 0 t) (iblk0 V c 1 t) (iblk0 V c 2 t) (iblk0 V c 3 t) (iblk0 V c 4 t) (iblk0 V c 5 t)) (k0_pay10 (F := Ideal) (iblk0 V c 0 t) (iblk0 V c 1 t) (iblk0 V c 2 t) (iblk0 V c 3 t) (iblk0 V c 4 t) (iblk0 V c 5 t) (iblk0 V c 6 t)) (ix2 r j) = rHM V c (row t r) j := by
  refine (Pay0.pay2 _ _ _ _ _ _ _ _ _ _).trans ?_
  simp only [Pay0.H, Pay0.N, Pay0.A, b0, b1, b2, b3, b4, b5, b6, b7]
  rfl
theorem hm_out : (dat0 V c).arrAt 13 cfg0.N = (buf2 (rHM V c) : FVec Ideal S4096x2816 .bf16) := by
  refine (dat0 V c).arrAt_eq_of_covers 13 _ (by decide +kernel) fun t hf y => ?_
  blk_simp
  rw [after0_13]
  unfold_out out0_13
  frame_out
  have e : ((View.whole main_v11_4).slice (win0_13.rect t)).emb y = ix2 (row t (y 0)) (y 1) := by
    unfold row
    blk_ext [idx t]
  rw [e]
  exact (congrArg _ (eq_ix2 y)).trans (p_hm_out V c t (y 0) (y 1))

theorem p_hn_out (t : Fin cfg0.N) (r : Fin 256) (j : Fin 1024) :
    k0_pay9 (F := Ideal) (iblk0 V c 0 t) (iblk0 V c 1 t) (iblk0 V c 2 t) (iblk0 V c 3 t) (iblk0 V c 4 t) (iblk0 V c 5 t) (ix2 r j) = rHN V c (row t r) j := by
  refine (Pay0.pay9 _ _ _ _ _ _ _ _).trans ?_
  simp only [Pay0.H, Pay0.N, b0, b1, b2, b3, b4, b5]
  rfl
theorem hn_out : (dat0 V c).arrAt 14 cfg0.N = (buf2 (rHN V c) : FVec Ideal S4096x1024 .bf16) := by
  refine (dat0 V c).arrAt_eq_of_covers 14 _ (by decide +kernel) fun t hf y => ?_
  blk_simp
  rw [after0_14]
  unfold_out out0_14
  frame_out
  have e : ((View.whole main_v11_5).slice (win0_14.rect t)).emb y = ix2 (row t (y 0)) (y 1) := by
    unfold row
    blk_ext [idx t]
  rw [e]
  exact (congrArg _ (eq_ix2 y)).trans (p_hn_out V c t (y 0) (y 1))

end Cert.Reg0

end
-- ==== Proof.Pay1.lean ====
/-
  What the second call's body stores, read at an index: the row the loss reads, the loss's cotangent carried back to the row the
  gated embedding reads, and one block's share of each gradient and of the loss, as the plain functions of the rows read.
-/
module

public import proofs.«01_k».proof.Proof.Gen.HalfIdeal.Skeleton
public import proofs.«01_k».proof.Proof.Spec

@[expose] public section

set_option maxRecDepth 16384

noncomputable section

namespace Cert.Pay1

open Idealize.ShloMosaic Idealize.ShloMosaic.TcCoe Idealize.SL.Sem
open Cert.HalfIdeal Cert.HalfIdeal.Gen Cert.Spec

variable (v0 : FVec Ideal S512x1024 .f32) (v2 : FVec Ideal S512x256 .f32) (v3 : FVec Ideal S512x1024 .f32)
  (v4 v6 : FVec Ideal S1x1024 .f32) (v8 : FVec Ideal S1024x1024 .bf16) (v10 : FVec Ideal S256x1024 .bf16)

/-- The number the body divides. -/
abbrev one : Ideal .f32 := (1 : EReal)
/-- It is the body's literal. -/
theorem one_eq : (Scalar.ofBits .f32 0x3F800000#32 : Ideal .f32) = one := by
  show Ideal.ofBits .f32 0x3F800000#32 = (1 : EReal)
  exact Ideal.ofBits_one_f32

abbrev P1 := k1_pay6 (F := Ideal) v0
abbrev P35 := k1_pay18 (F := Ideal) v0 v4 v8
abbrev P37 := k1_pay19 (F := Ideal) (P35 v0 v4 v8) one
abbrev P40 := k1_pay20 (F := Ideal) (P35 v0 v4 v8)
abbrev P43 := k1_pay21 (F := Ideal) v2 (k1_pay10 v10) k1_pay11
abbrev P45 := k1_pay22 (F := Ideal) (P1 v0) v2 (k1_pay10 v10) k1_pay11 (P35 v0 v4 v8) one
abbrev P53 := k1_pay24 (F := Ideal) (P1 v0) v2 (k1_pay10 v10) k1_pay11 (P35 v0 v4 v8) one
abbrev P56 := k1_pay25 (F := Ideal) (P1 v0) v2 (k1_pay10 v10) k1_pay11 (P35 v0 v4 v8) one
abbrev P58 := k1_pay26 (F := Ideal) (P1 v0) v2 (k1_pay10 v10) k1_pay11 (P35 v0 v4 v8) one
abbrev P61 := k1_pay27 (F := Ideal) (P1 v0) v2 v3 (k1_pay8 v6) (k1_pay10 v10) k1_pay11 (P35 v0 v4 v8) one
abbrev P71 := k1_pay28 (F := Ideal) (P1 v0) v2 v3 (k1_pay8 v6) (k1_pay10 v10) k1_pay11 (P35 v0 v4 v8) one
abbrev P81 := k1_pay29 (F := Ideal) (P1 v0) v2 v3 (k1_pay8 v6) (k1_pay10 v10) k1_pay11 (P35 v0 v4 v8) one
abbrev P84 := k1_pay30 (F := Ideal) (P58 v0 v2 v4 v8 v10) (P81 v0 v2 v3 v4 v6 v8 v10)
abbrev P101 := k1_pay31 (F := Ideal) (k1_pay8 v6) (P45 v0 v2 v4 v8 v10) (P53 v0 v2 v4 v8 v10) (P56 v0 v2 v4 v8 v10) (P81 v0 v2 v3 v4 v6 v8 v10)
abbrev P102 := k1_pay32 (F := Ideal) (k1_pay8 v6) (P37 v0 v4 v8) (P45 v0 v2 v4 v8 v10) (P53 v0 v2 v4 v8 v10) (P56 v0 v2 v4 v8 v10) (P81 v0 v2 v3 v4 v6 v8 v10)
abbrev P111 := k1_pay33 (F := Ideal) (k1_pay8 v6) (k1_pay17 v0 v4 v8) (P40 v0 v4 v8) (P43 v2 v10) (P45 v0 v2 v4 v8 v10) (P53 v0 v2 v4 v8 v10) (P56 v0 v2 v4 v8 v10) (P81 v0 v2 v3 v4 v6 v8 v10)
abbrev P113 := k1_pay34 (F := Ideal) (k1_pay8 v6) (k1_pay9 v8) (k1_pay17 v0 v4 v8) (P40 v0 v4 v8) (P43 v2 v10) (P45 v0 v2 v4 v8 v10) (P53 v0 v2 v4 v8 v10) (P56 v0 v2 v4 v8 v10) (P81 v0 v2 v3 v4 v6 v8 v10)
abbrev P116 := k1_pay35 (F := Ideal) (k1_pay8 v6) (k1_pay9 v8) (k1_pay15 v0) (k1_pay17 v0 v4 v8) (P40 v0 v4 v8) (P43 v2 v10) (P45 v0 v2 v4 v8 v10) (P53 v0 v2 v4 v8 v10) (P56 v0 v2 v4 v8 v10) (P81 v0 v2 v3 v4 v6 v8 v10)
abbrev P118 := k1_pay36 (F := Ideal) (k1_pay7 v4) (k1_pay8 v6) (k1_pay9 v8) (k1_pay17 v0 v4 v8) (P40 v0 v4 v8) (P43 v2 v10) (P45 v0 v2 v4 v8 v10) (P53 v0 v2 v4 v8 v10) (P56 v0 v2 v4 v8 v10) (P81 v0 v2 v3 v4 v6 v8 v10)
abbrev P124 := k1_pay37 (F := Ideal) (k1_pay7 v4) (k1_pay8 v6) (k1_pay9 v8) (k1_pay13 v0) (k1_pay17 v0 v4 v8) (P40 v0 v4 v8) (P43 v2 v10) (P45 v0 v2 v4 v8 v10) (P53 v0 v2 v4 v8 v10) (P56 v0 v2 v4 v8 v10) (P81 v0 v2 v3 v4 v6 v8 v10)
abbrev P129 := k1_pay38 (F := Ideal) (P1 v0) (k1_pay7 v4) (k1_pay8 v6) (k1_pay9 v8) (k1_pay14 v0) (k1_pay17 v0 v4 v8) (P40 v0 v4 v8) (P43 v2 v10) (P45 v0 v2 v4 v8 v10) (P53 v0 v2 v4 v8 v10) (P56 v0 v2 v4 v8 v10) (P81 v0 v2 v3 v4 v6 v8 v10)
abbrev P134 := k1_pay39 (F := Ideal) (P1 v0) (P124 v0 v2 v3 v4 v6 v8 v10) (P129 v0 v2 v3 v4 v6 v8 v10)
abbrev P138 := k1_pay40 (F := Ideal) (k1_pay16 v0 v4) (P111 v0 v2 v3 v4 v6 v8 v10)
abbrev P141 := k1_pay41 (F := Ideal) v2 (P102 v0 v2 v3 v4 v6 v8 v10)
abbrev P143 := k1_pay42 (F := Ideal) (P1 v0) (P124 v0 v2 v3 v4 v6 v8 v10) (P129 v0 v2 v3 v4 v6 v8 v10)

/-- The row the loss reads, of one block's row. -/
def H3 (r : Fin 512) : Row 1024 := h3 (mat v0 r) (row0 v4) (mat v2 r) (mat v8) (mat v10)
/-- Its cotangent. -/
def D3 (r : Fin 512) : Row 1024 := dh3 (H3 v0 v2 v4 v8 v10 r) (row0 v6) (mat v3 r)
/-- The gate argument's cotangent. -/
def DZ (r : Fin 512) : Row 1024 := dz (mat v0 r) (row0 v4) (mat v2 r) (mat v8) (mat v10) (D3 v0 v2 v3 v4 v6 v8 v10 r)
/-- The normalised row's cotangent. -/
def DN (r : Fin 512) : Row 1024 := mvT (DZ v0 v2 v3 v4 v6 v8 v10 r) (mat v8)

theorem pay12 (r : Fin 512) : k1_pay12 (F := Ideal) v0 (ix2 r 0) = ms (mat v0 r) := by
  pointwise [k1_pay12, k1_pay6]
  rfl
theorem pay13 (r : Fin 512) : k1_pay13 (F := Ideal) v0 (ix2 r 0) = rs (mat v0 r) := by
  pointwise [k1_pay13, pay12]
  rfl
theorem pay14 (r : Fin 512) : k1_pay14 (F := Ideal) v0 (ix2 r 0) = qs (mat v0 r) := by
  pointwise [k1_pay14, pay12, pay13]
  rfl
theorem pay15 (r : Fin 512) (j : Fin 1024) : k1_pay15 (F := Ideal) v0 (ix2 r j) = hat (mat v0 r) j := by
  pointwise [k1_pay15, pay13, k1_pay6]
  rfl
theorem pay16 (r : Fin 512) (j : Fin 1024) : k1_pay16 (F := Ideal) v0 v4 (ix2 r j) = nrm (mat v0 r) (row0 v4) j := by
  pointwise [k1_pay16, pay15, k1_pay7]
  rfl
theorem pay17 (r : Fin 512) (j : Fin 1024) :
    k1_pay17 (F := Ideal) v0 v4 v8 (ix2 r j) = Ideal.exp (-(mv (nrm (mat v0 r) (row0 v4)) (mat v8) j)) := by
  pointwise [k1_pay17, pay16, k1_pay9, k1_pay11, zero_sub]
  rfl
theorem pay35 (r : Fin 512) (j : Fin 1024) :
    P35 v0 v4 v8 (ix2 r j) = 1 + Ideal.exp (-(mv (nrm (mat v0 r) (row0 v4)) (mat v8) j)) := by
  pointwise [k1_pay18, pay17]
theorem pay37 (r : Fin 512) (j : Fin 1024) : P37 v0 v4 v8 (ix2 r j) = gate (mat v0 r) (row0 v4) (mat v8) j := by
  pointwise [k1_pay19, pay35]
  rfl
theorem pay43 (r : Fin 512) (j : Fin 1024) : P43 v2 v10 (ix2 r j) = mv (mat v2 r) (mat v10) j := by
  pointwise [k1_pay21, k1_pay10, k1_pay11]
  rfl
theorem pay45 (r : Fin 512) (j : Fin 1024) : P45 v0 v2 v4 v8 v10 (ix2 r j) = H3 v0 v2 v4 v8 v10 r j := by
  pointwise [k1_pay22, pay43, pay37, k1_pay6]
  rfl
theorem pay52 (r : Fin 512) :
    k1_pay23 (F := Ideal) (P1 v0) v2 (k1_pay10 v10) k1_pay11 (P35 v0 v4 v8) one (ix2 r 0) = ms (H3 v0 v2 v4 v8 v10 r) := by
  pointwise [k1_pay23, pay45]
  rfl
theorem pay53 (r : Fin 512) : P53 v0 v2 v4 v8 v10 (ix2 r 0) = rs (H3 v0 v2 v4 v8 v10 r) := by
  pointwise [k1_pay24, pay52]
  rfl
theorem pay56 (r : Fin 512) : P56 v0 v2 v4 v8 v10 (ix2 r 0) = qs (H3 v0 v2 v4 v8 v10 r) := by
  pointwise [k1_pay25, pay53, pay52]
  rfl
theorem pay58 (r : Fin 512) (j : Fin 1024) : P58 v0 v2 v4 v8 v10 (ix2 r j) = hat (H3 v0 v2 v4 v8 v10 r) j := by
  pointwise [k1_pay26, pay53, pay45]
  rfl
theorem pay61 (r : Fin 512) (j : Fin 1024) :
    P61 v0 v2 v3 v4 v6 v8 v10 (ix2 r j) = err (H3 v0 v2 v4 v8 v10 r) (row0 v6) (mat v3 r) j := by
  pointwise [k1_pay27, pay58, k1_pay8]
  rfl
theorem pay71 : P71 v0 v2 v3 v4 v6 v8 v10 = kH * ∑ r : Fin 512, mse (H3 v0 v2 v4 v8 v10 r) (row0 v6) (mat v3 r) := by
  pointwise [k1_pay28, Fin.sum_univ_one, pay61]
  rfl
theorem pay81 (r : Fin 512) (j : Fin 1024) :
    P81 v0 v2 v3 v4 v6 v8 v10 (ix2 r j) = dout (H3 v0 v2 v4 v8 v10 r) (row0 v6) (mat v3 r) j := by
  pointwise [k1_pay29, pay61, Fin.sum_univ_one]
  rfl
theorem pay84 (j : Fin 1024) : P84 v0 v2 v3 v4 v6 v8 v10 (ix2 0 j)
    = ∑ r : Fin 512, hat (H3 v0 v2 v4 v8 v10 r) j * dout (H3 v0 v2 v4 v8 v10 r) (row0 v6) (mat v3 r) j := by
  pointwise [k1_pay30, pay58, pay81]
theorem pay101 (r : Fin 512) (j : Fin 1024) : P101 v0 v2 v3 v4 v6 v8 v10 (ix2 r j) = D3 v0 v2 v3 v4 v6 v8 v10 r j := by
  pointwise [k1_pay31, Fin.sum_univ_one, pay81, pay56, pay53, pay45, k1_pay8]
  rfl
theorem pay102 (r : Fin 512) (j : Fin 1024) : P102 v0 v2 v3 v4 v6 v8 v10 (ix2 r j)
    = dpu (mat v0 r) (row0 v4) (mat v8) (D3 v0 v2 v3 v4 v6 v8 v10 r) j := by
  pointwise [k1_pay32, pay101, pay37]
  rfl
theorem pay111 (r : Fin 512) (j : Fin 1024) : P111 v0 v2 v3 v4 v6 v8 v10 (ix2 r j) = DZ v0 v2 v3 v4 v6 v8 v10 r j := by
  pointwise [k1_pay33, pay101, pay43, pay17, k1_pay20, pay35, zero_sub, mul_one]
  exact dsg_factor _ _
theorem pay113 (r : Fin 512) (j : Fin 1024) : P113 v0 v2 v3 v4 v6 v8 v10 (ix2 r j) = DN v0 v2 v3 v4 v6 v8 v10 r j := by
  pointwise [k1_pay34, pay111, k1_pay9]
  rfl
theorem pay116 (j : Fin 1024) : P116 v0 v2 v3 v4 v6 v8 v10 (ix2 0 j)
    = ∑ r : Fin 512, hat (mat v0 r) j * DN v0 v2 v3 v4 v6 v8 v10 r j := by
  pointwise [k1_pay35, pay113, pay15]
theorem pay118 (r : Fin 512) (j : Fin 1024) : P118 v0 v2 v3 v4 v6 v8 v10 (ix2 r j) = DN v0 v2 v3 v4 v6 v8 v10 r j * row0 v4 j := by
  pointwise [k1_pay36, pay113, k1_pay7]
  rfl
theorem pay124 (r : Fin 512) (j : Fin 1024) : P124 v0 v2 v3 v4 v6 v8 v10 (ix2 r j)
    = D3 v0 v2 v3 v4 v6 v8 v10 r j + DN v0 v2 v3 v4 v6 v8 v10 r j * row0 v4 j * rs (mat v0 r) := by
  pointwise [k1_pay37, pay118, pay101, pay13]
theorem pay129 (r : Fin 512) : P129 v0 v2 v3 v4 v6 v8 v10 (ix2 r 0) = nbc (mat v0 r) (row0 v4) (DN v0 v2 v3 v4 v6 v8 v10 r) := by
  pointwise [k1_pay38, Fin.sum_univ_one, pay118, k1_pay6, pay14]
  rfl
theorem pay134 (r : Fin 512) (j : Fin 1024) : P134 v0 v2 v3 v4 v6 v8 v10 (ix2 r j)
    = dh2 (mat v0 r) (row0 v4) (mat v2 r) (mat v8) (mat v10) (D3 v0 v2 v3 v4 v6 v8 v10 r) j := by
  pointwise [k1_pay39, pay124, pay129, k1_pay6]
  simp only [dh2, nbAdd, nb, add_assoc]
  rfl
theorem pay143 (r : Fin 512) (j : Fin 1024) : P143 v0 v2 v3 v4 v6 v8 v10 (ix2 r j)
    = dh2 (mat v0 r) (row0 v4) (mat v2 r) (mat v8) (mat v10) (D3 v0 v2 v3 v4 v6 v8 v10 r) j := by
  pointwise [k1_pay42, pay134]
theorem pay138 (i j : Fin 1024) : P138 v0 v2 v3 v4 v6 v8 v10 (ix2 i j)
    = ∑ r : Fin 512, nrm (mat v0 r) (row0 v4) i * DZ v0 v2 v3 v4 v6 v8 v10 r j := by
  pointwise [k1_pay40, pay111, pay16]
theorem pay141 (i : Fin 256) (j : Fin 1024) : P141 v0 v2 v3 v4 v6 v8 v10 (ix2 i j)
    = ∑ r : Fin 512, mat v2 r i * dpu (mat v0 r) (row0 v4) (mat v8) (D3 v0 v2 v3 v4 v6 v8 v10 r) j := by
  pointwise [k1_pay41, pay102]
  rfl

end Cert.Pay1

end
-- ==== Proof.Reg1.lean ====
/-
  What the loss's forward and backward call leaves in its result arrays, whatever its operands hold at entry.
-/
module

public import proofs.«01_k».proof.Proof.Gen.HalfIdeal.Frame.Region1
public import proofs.«01_k».proof.Proof.Pay1
public import Idealize.ShloMosaic.Lib.Pipeline.ValueKit

@[expose] public section

set_option maxRecDepth 16384

noncomputable section

namespace Cert.Reg1

open Idealize.ShloMosaic Idealize.ShloMosaic.TcCoe Idealize.SL.Sem Idealize.ShloMosaic.Pipeline
open Cert.HalfIdeal Cert.HalfIdeal.Gen
open Cert.Spec hiding eq_ix2

variable (V : (c : Dev nD) → (b : Ref sig .tc) → Buf (Elt Ideal) ((c : Thread nD τ).loc b)) (c : Dev nD)

/-- Which block of its array each window holds at a point. -/
theorem idx : ∀ t : Fin cfg1.N, win1_0.index t = ![t.val, 0]
    ∧ win1_1.index t = ![t.val, 0]
    ∧ win1_2.index t = ![t.val, 0]
    ∧ win1_3.index t = ![0, 0]
    ∧ win1_4.index t = ![0, 0]
    ∧ win1_5.index t = ![0, 0]
    ∧ win1_6.index t = ![0, 0]
    ∧ win1_7.index t = ![t.val, 0]
    ∧ win1_8.index t = ![t.val, 0]
    ∧ win1_9.index t = ![0, 0]
    ∧ win1_10.index t = ![0, 0]
    ∧ win1_11.index t = ![0, 0]
    ∧ win1_12.index t = ![0, 0]
    ∧ win1_13.index t = ![0, 0] :=
  (by decide +kernel : ∀ t : Fin grid1.N, _)

/-- The array row under a block's row. -/
def row (t : Fin cfg1.N) (r : Fin 512) : Fin 4096 := ⟨t.val * 512 + r.val, by have := lt_of_lt_of_eq t.isLt N_1; omega⟩

theorem b0 (t : Fin cfg1.N) (r : Fin 512) :
    mat (iblk1 V c 0 t : FVec Ideal S512x1024 .f32) r = mat (V c main_v11_1 : FVec Ideal S4096x1024 .f32) (row t r) := by
  funext j
  unfold row mat
  blk_ext [iblk1, idx t]
theorem b1 (t : Fin cfg1.N) (r : Fin 512) :
    mat (iblk1 V c 1 t : FVec Ideal S512x256 .f32) r = mat (V c main_arg3 : FVec Ideal S4096x256 .f32) (row t r) := by
  funext j
  unfold row mat
  blk_ext [iblk1, idx t]
theorem b2 (t : Fin cfg1.N) (r : Fin 512) :
    mat (iblk1 V c 2 t : FVec Ideal S512x1024 .f32) r = mat (V c main_arg4 : FVec Ideal S4096x1024 .f32) (row t r) := by
  funext j
  unfold row mat
  blk_ext [iblk1, idx t]
theorem b3 (t : Fin cfg1.N) : row0 (iblk1 V c 3 t : FVec Ideal S1x1024 .f32) = row0 (V c main_v7 : FVec Ideal S1x1024 .f32) := by
  funext j
  unfold row0
  blk_ext [iblk1, idx t]
theorem b4 (t : Fin cfg1.N) : row0 (iblk1 V c 4 t : FVec Ideal S1x1024 .f32) = row0 (V c main_v8 : FVec Ideal S1x1024 .f32) := by
  funext j
  unfold row0
  blk_ext [iblk1, idx t]
theorem b5 (t : Fin cfg1.N) : mat (iblk1 V c 5 t : FVec Ideal S1024x1024 .bf16) = mat (V c main_v4 : FVec Ideal S1024x1024 .bf16) := by
  funext i j
  unfold mat
  blk_ext [iblk1, idx t]
theorem b6 (t : Fin cfg1.N) : mat (iblk1 V c 6 t : FVec Ideal S256x1024 .bf16) = mat (V c main_v5 : FVec Ideal S256x1024 .bf16) := by
  funext i j
  unfold mat
  blk_ext [iblk1, idx t]

/-- The row the loss reads, -/
def rH3 : Mat 4096 1024 := fun t => h3 (mat (V c main_v11_1) t) (row0 (V c main_v7)) (mat (V c main_arg3) t) (mat (V c main_v4)) (mat (V c main_v5))
/-- its cotangent, -/
def rD3 : Mat 4096 1024 := fun t => dh3 (rH3 V c t) (row0 (V c main_v8)) (mat (V c main_arg4) t)
/-- the cotangent of the gate's argument, -/
def rDZ : Mat 4096 1024 := fun t => dz (mat (V c main_v11_1) t) (row0 (V c main_v7)) (mat (V c main_arg3) t) (mat (V c main_v4)) (mat (V c main_v5)) (rD3 V c t)
/-- of the embedding's projection, -/
def rDPU : Mat 4096 1024 := fun t => dpu (mat (V c main_v11_1) t) (row0 (V c main_v7)) (mat (V c main_v4)) (rD3 V c t)
/-- of the row the gated embedding reads; -/
def rD2 : Mat 4096 1024 := fun t => dh2 (mat (V c main_v11_1) t) (row0 (V c main_v7)) (mat (V c main_arg3) t) (mat (V c main_v4)) (mat (V c main_v5)) (rD3 V c t)
/-- one row's share of the loss, -/
def rMSE (t : Fin 4096) : EReal := mse (rH3 V c t) (row0 (V c main_v8)) (mat (V c main_arg4) t)
/-- the loss, -/
def rLoss : EReal := kH * ∑ t, rMSE V c t
/-- the gradient of the embedding's gain, -/
def rDG : Row 1024 := Spec.inner (fun t => hat (mat (V c main_v11_1) t)) (fun t => mvT (rDZ V c t) (mat (V c main_v4)))
/-- of the final gain, -/
def rDF : Row 1024 := Spec.inner (fun t => hat (rH3 V c t)) (fun t => dout (rH3 V c t) (row0 (V c main_v8)) (mat (V c main_arg4) t))
/-- of the gate's weight, -/
def rDWG : Mat 1024 1024 := outer (fun t => nrm (mat (V c main_v11_1) t) (row0 (V c main_v7))) (rDZ V c)
/-- and of the projection. -/
def rDWU : Mat 256 1024 := outer (mat (V c main_arg3)) (rDPU V c)

theorem p_dh2_out (t : Fin cfg1.N) (r : Fin 512) (j : Fin 1024) :
    Pay1.P134 (iblk1 V c 0 t) (iblk1 V c 1 t) (iblk1 V c 2 t) (iblk1 V c 3 t) (iblk1 V c 4 t) (iblk1 V c 5 t) (iblk1 V c 6 t) (ix2 r j) = rD2 V c (row t r) j := by
  refine (Pay1.pay134 _ _ _ _ _ _ _ _ _).trans ?_
  simp only [Pay1.H3, Pay1.D3, Pay1.DZ, Pay1.DN, b0, b1, b2, b3, b4, b5, b6]
  rfl
theorem dh2_out : (dat1 V c).arrAt 7 cfg1.N = (buf2 (rD2 V c) : FVec Ideal S4096x1024 .f32) := by
  refine (dat1 V c).arrAt_eq_of_covers 7 _ (by decide +kernel) fun t hf y => ?_
  blk_simp
  have e : ((View.whole main_v12_0).slice (win1_7.rect t)).emb y = ix2 (row t (y 0)) (y 1) := by
    unfold row
    blk_ext [idx t]
  rw [after1_7, e]
  by_cases h0 : t.val % 8 = 0
  · rw [outsAt1_A V c t h0 h0 h0 h0 h0]
    frame_out
    rw [Pay1.one_eq]
    exact (congrArg _ (eq_ix2 y)).trans (p_dh2_out V c t (y 0) (y 1))
  · rw [outsAt1_B V c t h0 h0 h0 h0 h0]
    frame_out
    rw [Pay1.one_eq]
    exact (congrArg _ (eq_ix2 y)).trans (p_dh2_out V c t (y 0) (y 1))

theorem p_dh2b_out (t : Fin cfg1.N) (r : Fin 512) (j : Fin 1024) :
    Pay1.P143 (iblk1 V c 0 t) (iblk1 V c 1 t) (iblk1 V c 2 t) (iblk1 V c 3 t) (iblk1 V c 4 t) (iblk1 V c 5 t) (iblk1 V c 6 t) (ix2 r j) = rD2 V c (row t r) j := by
  refine (Pay1.pay143 _ _ _ _ _ _ _ _ _).trans ?_
  simp only [Pay1.H3, Pay1.D3, Pay1.DZ, Pay1.DN, b0, b1, b2, b3, b4, b5, b6]
  rfl
theorem dh2b_out : (dat1 V c).arrAt 8 cfg1.N = (buf2 (rD2 V c) : FVec Ideal S4096x1024 .bf16) := by
  refine (dat1 V c).arrAt_eq_of_covers 8 _ (by decide +kernel) fun t hf y => ?_
  blk_simp
  have e : ((View.whole main_v12_1).slice (win1_8.rect t)).emb y = ix2 (row t (y 0)) (y 1) := by
    unfold row
    blk_ext [idx t]
  rw [after1_8, e]
  by_cases h0 : t.val % 8 = 0
  · rw [outsAt1_A V c t h0 h0 h0 h0 h0]
    frame_out
    rw [Pay1.one_eq]
    exact (congrArg _ (eq_ix2 y)).trans (p_dh2b_out V c t (y 0) (y 1))
  · rw [outsAt1_B V c t h0 h0 h0 h0 h0]
    frame_out
    rw [Pay1.one_eq]
    exact (congrArg _ (eq_ix2 y)).trans (p_dh2b_out V c t (y 0) (y 1))

theorem z_dg_out (j : S1x1024.Idx) : k1_pay45 (F := Ideal) j = 0 := by pointwise [k1_pay45]
theorem p_dg_out (t : Fin cfg1.N) (acc : FVec Ideal S1x1024 .f32) (j : S1x1024.Idx) :
    k1_pay46 (F := Ideal) (Pay1.P116 (iblk1 V c 0 t) (iblk1 V c 1 t) (iblk1 V c 2 t) (iblk1 V c 3 t) (iblk1 V c 4 t) (iblk1 V c 5 t) (iblk1 V c 6 t)) acc j = acc j + ∑ r : Fin 512, hat (mat (V c main_v11_1) (row t r)) (j 1) * mvT (rDZ V c (row t r)) (mat (V c main_v4)) (j 1) := by
  have hj : j = ix2 0 (j 1) := by
    rw [eq_ix2 j]
    congr 1
    exact Subsingleton.elim _ _
  have e : Pay1.P116 (iblk1 V c 0 t) (iblk1 V c 1 t) (iblk1 V c 2 t) (iblk1 V c 3 t) (iblk1 V c 4 t) (iblk1 V c 5 t) (iblk1 V c 6 t) j = ∑ r : Fin 512, hat (mat (V c main_v11_1) (row t r)) (j 1) * mvT (rDZ V c (row t r)) (mat (V c main_v4)) (j 1) := by
    rw [hj]
    refine (Pay1.pay116 _ _ _ _ _ _ _ _).trans ?_
    simp only [Pay1.H3, Pay1.D3, Pay1.DZ, Pay1.DN, b0, b1, b2, b3, b4, b5, b6]
    rfl
  rw [← e]
  pointwise [k1_pay46]
theorem dg_out : (dat1 V c).arrAt 10 cfg1.N = (buf1 (rDG V c) : FVec Ideal S1x1024 .f32) := by
  refine (dat1 V c).arrAt_eq_of_covers 10 _ (by decide +kernel) fun t hf y => ?_
  blk_simp
  have e : (win1_10.blk t).view.emb y = ix2 (y 0) (y 1) := by
    blk_ext [idx t]
  rw [after1_10, Pipeline.eq_sum_fin_of_reset_step_apply_of_flush (fun n h => (outsAt1 V c n h).2.2.2.1) 8 (fun _ => 0)
      (fun t j => ∑ r : Fin 512, hat (mat (V c main_v11_1) (row t r)) (j 1) * mvT (rDZ V c (row t r)) (mat (V c main_v4)) (j 1))
    (fun t h j => by rw [outsAt1_A V c t h h h h h]; frame_out; rw [Pay1.one_eq, p_dg_out, z_dg_out])
    (fun t h j => by rw [outsAt1_B V c t h h h h h]; frame_out; rw [Pay1.one_eq, p_dg_out])
    t ((flush1_10 t).mp hf) _, zero_add]
  rw [e]
  unfold buf1 rDG Spec.inner
  refine Fin.sum_mul_add_congr fun s k hl => ?_
  have ht := lt_of_lt_of_eq t.isLt N_1
  have hr : row ⟨8 * (t.val / 8) + s.val, Pipeline.run_point_lt_of_flush t ((flush1_10 t).mp hf) s⟩ k = ⟨s.val * 512 + k.val, hl⟩ :=
    Fin.ext (by simp only [row]; omega)
  rw [hr]
  rfl

theorem z_df_out (j : S1x1024.Idx) : k1_pay47 (F := Ideal) j = 0 := by pointwise [k1_pay47]
theorem p_df_out (t : Fin cfg1.N) (acc : FVec Ideal S1x1024 .f32) (j : S1x1024.Idx) :
    k1_pay1 (F := Ideal) (Pay1.P84 (iblk1 V c 0 t) (iblk1 V c 1 t) (iblk1 V c 2 t) (iblk1 V c 3 t) (iblk1 V c 4 t) (iblk1 V c 5 t) (iblk1 V c 6 t)) acc j = acc j + ∑ r : Fin 512, hat (rH3 V c (row t r)) (j 1) * dout (rH3 V c (row t r)) (row0 (V c main_v8)) (mat (V c main_arg4) (row t r)) (j 1) := by
  have hj : j = ix2 0 (j 1) := by
    rw [eq_ix2 j]
    congr 1
    exact Subsingleton.elim _ _
  have e : Pay1.P84 (iblk1 V c 0 t) (iblk1 V c 1 t) (iblk1 V c 2 t) (iblk1 V c 3 t) (iblk1 V c 4 t) (iblk1 V c 5 t) (iblk1 V c 6 t) j = ∑ r : Fin 512, hat (rH3 V c (row t r)) (j 1) * dout (rH3 V c (row t r)) (row0 (V c main_v8)) (mat (V c main_arg4) (row t r)) (j 1) := by
    rw [hj]
    refine (Pay1.pay84 _ _ _ _ _ _ _ _).trans ?_
    simp only [Pay1.H3, Pay1.D3, Pay1.DZ, Pay1.DN, b0, b1, b2, b3, b4, b5, b6]
    rfl
  rw [← e]
  pointwise [k1_pay1]
theorem df_out : (dat1 V c).arrAt 11 cfg1.N = (buf1 (rDF V c) : FVec Ideal S1x1024 .f32) := by
  refine (dat1 V c).arrAt_eq_of_covers 11 _ (by decide +kernel) fun t hf y => ?_
  blk_simp
  have e : (win1_11.blk t).view.emb y = ix2 (y 0) (y 1) := by
    blk_ext [idx t]
  rw [after1_11, Pipeline.eq_sum_fin_of_reset_step_apply_of_flush (fun n h => (outsAt1 V c n h).2.2.2.2.1) 8 (fun _ => 0)
      (fun t j => ∑ r : Fin 512, hat (rH3 V c (row t r)) (j 1) * dout (rH3 V c (row t r)) (row0 (V c main_v8)) (mat (V c main_arg4) (row t r)) (j 1))
    (fun t h j => by rw [outsAt1_A V c t h h h h h]; frame_out; rw [Pay1.one_eq, p_df_out, z_df_out])
    (fun t h j => by rw [outsAt1_B V c t h h h h h]; frame_out; rw [Pay1.one_eq, p_df_out])
    t ((flush1_11 t).mp hf) _, zero_add]
  rw [e]
  unfold buf1 rDF Spec.inner
  refine Fin.sum_mul_add_congr fun s k hl => ?_
  have ht := lt_of_lt_of_eq t.isLt N_1
  have hr : row ⟨8 * (t.val / 8) + s.val, Pipeline.run_point_lt_of_flush t ((flush1_11 t).mp hf) s⟩ k = ⟨s.val * 512 + k.val, hl⟩ :=
    Fin.ext (by simp only [row]; omega)
  rw [hr]
  rfl

theorem z_dwg_out (j : S1024x1024.Idx) : k1_pay2 (F := Ideal) j = 0 := by pointwise [k1_pay2]
theorem p_dwg_out (t : Fin cfg1.N) (acc : FVec Ideal S1024x1024 .f32) (j : S1024x1024.Idx) :
    k1_pay3 (F := Ideal) (Pay1.P138 (iblk1 V c 0 t) (iblk1 V c 1 t) (iblk1 V c 2 t) (iblk1 V c 3 t) (iblk1 V c 4 t) (iblk1 V c 5 t) (iblk1 V c 6 t)) acc j = acc j + ∑ r : Fin 512, nrm (mat (V c main_v11_1) (row t r)) (row0 (V c main_v7)) (j 0) * rDZ V c (row t r) (j 1) := by
  have hj : j = ix2 (j 0) (j 1) := eq_ix2 j
  have e : Pay1.P138 (iblk1 V c 0 t) (iblk1 V c 1 t) (iblk1 V c 2 t) (iblk1 V c 3 t) (iblk1 V c 4 t) (iblk1 V c 5 t) (iblk1 V c 6 t) j = ∑ r : Fin 512, nrm (mat (V c main_v11_1) (row t r)) (row0 (V c main_v7)) (j 0) * rDZ V c (row t r) (j 1) := by
    rw [hj]
    refine (Pay1.pay138 _ _ _ _ _ _ _ _ _).trans ?_
    simp only [Pay1.H3, Pay1.D3, Pay1.DZ, Pay1.DN, b0, b1, b2, b3, b4, b5, b6]
    rfl
  rw [← e]
  pointwise [k1_pay3]
theorem dwg_out : (dat1 V c).arrAt 12 cfg1.N = (buf2 (rDWG V c) : FVec Ideal S1024x1024 .f32) := by
  refine (dat1 V c).arrAt_eq_of_covers 12 _ (by decide +kernel) fun t hf y => ?_
  blk_simp
  have e : (win1_12.blk t).view.emb y = ix2 (y 0) (y 1) := by
    blk_ext [idx t]
  rw [after1_12, Pipeline.eq_sum_fin_of_reset_step_apply_of_flush (fun n h => (outsAt1 V c n h).2.2.2.2.2.1) 8 (fun _ => 0)
      (fun t j => ∑ r : Fin 512, nrm (mat (V c main_v11_1) (row t r)) (row0 (V c main_v7)) (j 0) * rDZ V c (row t r) (j 1))
    (fun t h j => by rw [outsAt1_A V c t h h h h h]; frame_out; rw [Pay1.one_eq, p_dwg_out, z_dwg_out])
    (fun t h j => by rw [outsAt1_B V c t h h h h h]; frame_out; rw [Pay1.one_eq, p_dwg_out])
    t ((flush1_12 t).mp hf) _, zero_add]
  rw [e]
  unfold buf2 rDWG outer
  refine Fin.sum_mul_add_congr fun s k hl => ?_
  have ht := lt_of_lt_of_eq t.isLt N_1
  have hr : row ⟨8 * (t.val / 8) + s.val, Pipeline.run_point_lt_of_flush t ((flush1_12 t).mp hf) s⟩ k = ⟨s.val * 512 + k.val, hl⟩ :=
    Fin.ext (by simp only [row]; omega)
  rw [hr]
  rfl

theorem z_dwu_out (j : S256x1024.Idx) : k1_pay4 (F := Ideal) j = 0 := by pointwise [k1_pay4]
theorem p_dwu_out (t : Fin cfg1.N) (acc : FVec Ideal S256x1024 .f32) (j : S256x1024.Idx) :
    k1_pay5 (F := Ideal) (Pay1.P141 (iblk1 V c 0 t) (iblk1 V c 1 t) (iblk1 V c 2 t) (iblk1 V c 3 t) (iblk1 V c 4 t) (iblk1 V c 5 t) (iblk1 V c 6 t)) acc j = acc j + ∑ r : Fin 512, mat (V c main_arg3) (row t r) (j 0) * rDPU V c (row t r) (j 1) := by
  have hj : j = ix2 (j 0) (j 1) := eq_ix2 j
  have e : Pay1.P141 (iblk1 V c 0 t) (iblk1 V c 1 t) (iblk1 V c 2 t) (iblk1 V c 3 t) (iblk1 V c 4 t) (iblk1 V c 5 t) (iblk1 V c 6 t) j = ∑ r : Fin 512, mat (V c main_arg3) (row t r) (j 0) * rDPU V c (row t r) (j 1) := by
    rw [hj]
    refine (Pay1.pay141 _ _ _ _ _ _ _ _ _).trans ?_
    simp only [Pay1.H3, Pay1.D3, Pay1.DZ, Pay1.DN, b0, b1, b2, b3, b4, b5, b6]
    rfl
  rw [← e]
  pointwise [k1_pay5]
theorem dwu_out : (dat1 V c).arrAt 13 cfg1.N = (buf2 (rDWU V c) : FVec Ideal S256x1024 .f32) := by
  refine (dat1 V c).arrAt_eq_of_covers 13 _ (by decide +kernel) fun t hf y => ?_
  blk_simp
  have e : (win1_13.blk t).view.emb y = ix2 (y 0) (y 1) := by
    blk_ext [idx t]
  rw [after1_13, Pipeline.eq_sum_fin_of_reset_step_apply_of_flush (fun n h => (outsAt1 V c n h).2.2.2.2.2.2) 8 (fun _ => 0)
      (fun t j => ∑ r : Fin 512, mat (V c main_arg3) (row t r) (j 0) * rDPU V c (row t r) (j 1))
    (fun t h j => by rw [outsAt1_A V c t h h h h h]; frame_out; rw [Pay1.one_eq, p_dwu_out, z_dwu_out])
    (fun t h j => by rw [outsAt1_B V c t h h h h h]; frame_out; rw [Pay1.one_eq, p_dwu_out])
    t ((flush1_13 t).mp hf) _, zero_add]
  rw [e]
  unfold buf2 rDWU outer
  refine Fin.sum_mul_add_congr fun s k hl => ?_
  have ht := lt_of_lt_of_eq t.isLt N_1
  have hr : row ⟨8 * (t.val / 8) + s.val, Pipeline.run_point_lt_of_flush t ((flush1_13 t).mp hf) s⟩ k = ⟨s.val * 512 + k.val, hl⟩ :=
    Fin.ext (by simp only [row]; omega)
  rw [hr]
  rfl

theorem z_loss (j : S8x128.Idx) : k1_pay43 (F := Ideal) j = 0 := by pointwise [k1_pay43]
theorem p_loss (t : Fin cfg1.N) (acc : FVec Ideal S8x128 .f32) (j : S8x128.Idx) :
    k1_pay44 (F := Ideal) (Pay1.P71 (iblk1 V c 0 t) (iblk1 V c 1 t) (iblk1 V c 2 t) (iblk1 V c 3 t) (iblk1 V c 4 t) (iblk1 V c 5 t) (iblk1 V c 6 t)) acc j = acc j + kH * ∑ r : Fin 512, rMSE V c (row t r) := by
  have e : Pay1.P71 (iblk1 V c 0 t) (iblk1 V c 1 t) (iblk1 V c 2 t) (iblk1 V c 3 t) (iblk1 V c 4 t) (iblk1 V c 5 t) (iblk1 V c 6 t) = kH * ∑ r : Fin 512, rMSE V c (row t r) := by
    refine (Pay1.pay71 _ _ _ _ _ _ _).trans ?_
    simp only [Pay1.H3, Pay1.D3, Pay1.DZ, Pay1.DN, b0, b1, b2, b3, b4, b5, b6]
    rfl
  rw [← e]
  pointwise [k1_pay44]
theorem loss_out : (dat1 V c).arrAt 9 cfg1.N = ((fun _ => rLoss V c) : FVec Ideal S8x128 .f32) := by
  refine (dat1 V c).arrAt_eq_of_covers 9 _ (by decide +kernel) fun t hf y => ?_
  blk_simp
  rw [after1_9, Pipeline.eq_sum_fin_of_reset_step_apply_of_flush (fun n h => (outsAt1 V c n h).2.2.1) 8 (fun _ => 0)
      (fun t j => kH * ∑ r : Fin 512, rMSE V c (row t r))
    (fun t h j => by rw [outsAt1_A V c t h h h h h]; frame_out; rw [Pay1.one_eq, p_loss, z_loss])
    (fun t h j => by rw [outsAt1_B V c t h h h h h]; frame_out; rw [Pay1.one_eq, p_loss])
    t ((flush1_9 t).mp hf) _, zero_add]
  unfold rLoss
  rw [kH_eq]
  refine (coe_mul_sum _ _ _ (by norm_num)).symm.trans (congrArg _ ?_)
  refine Fin.sum_mul_add_congr fun s k hl => ?_
  have ht := lt_of_lt_of_eq t.isLt N_1
  have hr : row ⟨8 * (t.val / 8) + s.val, Pipeline.run_point_lt_of_flush t ((flush1_9 t).mp hf) s⟩ k = ⟨s.val * 512 + k.val, hl⟩ :=
    Fin.ext (by simp only [row]; omega)
  rw [hr]

end Cert.Reg1

end
-- ==== Proof.Pay2.lean ====
/-
  What the gated layer's backward call stores, read at an index: the cotangents of its two branches, of the row it reads, and one
  block's share of the gain's gradient; and what the three products over the tokens add at one point.
-/
module

public import proofs.«01_k».proof.Proof.Gen.HalfIdeal.Skeleton
public import proofs.«01_k».proof.Proof.Spec

@[expose] public section

set_option maxRecDepth 16384

noncomputable section

namespace Cert.Pay2

open Idealize.ShloMosaic Idealize.ShloMosaic.TcCoe Idealize.SL.Sem
open Cert.HalfIdeal Cert.HalfIdeal.Gen Cert.Spec

variable (v0 v2 : FVec Ideal S256x1024 .f32) (v4 v6 : FVec Ideal S256x2816 .bf16)
  (v8 : FVec Ideal S1x1024 .f32) (v10 v12 : FVec Ideal S1024x2816 .bf16) (v14 : FVec Ideal S2816x1024 .bf16)

abbrev Q43 := k2_pay20 (F := Ideal) (k2_pay12 v4) (k2_pay17 v2 v4 v6 v14) (k2_pay18 v2 v4 v6 v14) k2_pay19
abbrev Q48 := k2_pay21 (F := Ideal) (k2_pay8 v10) (k2_pay9 v12) (k2_pay12 v4) (k2_pay15 v2 v4 v14) (k2_pay17 v2 v4 v6 v14) (k2_pay18 v2 v4 v6 v14) k2_pay19
abbrev Q64 := k2_pay24 (F := Ideal) (k2_pay5 v0) (k2_pay8 v10) (k2_pay9 v12) (k2_pay12 v4) (k2_pay15 v2 v4 v14) (k2_pay17 v2 v4 v6 v14) (k2_pay18 v2 v4 v6 v14) k2_pay19
abbrev Q82 := k2_pay25 (F := Ideal) (k2_pay5 v0) (k2_pay6 v2) (k2_pay7 v8) (k2_pay8 v10) (k2_pay9 v12) (k2_pay12 v4) (k2_pay15 v2 v4 v14) (k2_pay17 v2 v4 v6 v14) (k2_pay18 v2 v4 v6 v14) k2_pay19

/-- The normalised row's cotangent. -/
def DN (r : Fin 256) : Row 1024 := dhn (mat v4 r) (mat v6 r) (mat v2 r) (mat v10) (mat v12) (mat v14)

theorem pay10 (r : Fin 256) (j : Fin 2816) : k2_pay10 (F := Ideal) v2 v14 (ix2 r j) = mvT (mat v2 r) (mat v14) j := by
  pointwise [k2_pay10, k2_pay6]
  rfl
theorem pay12 (r : Fin 256) (j : Fin 2816) : k2_pay12 (F := Ideal) v4 (ix2 r j) = Ideal.exp (-(mat v4 r j)) := by
  pointwise [k2_pay12, k2_pay11, zero_sub]
  rfl
theorem pay13 (r : Fin 256) (j : Fin 2816) : k2_pay13 (F := Ideal) v4 (ix2 r j) = 1 + Ideal.exp (-(mat v4 r j)) := by
  pointwise [k2_pay13, pay12]
theorem pay14 (r : Fin 256) (j : Fin 2816) : k2_pay14 (F := Ideal) v4 (ix2 r j) = sg (mat v4 r j) := by
  pointwise [k2_pay14, pay13]
  rfl
theorem pay15 (r : Fin 256) (j : Fin 2816) : k2_pay15 (F := Ideal) v2 v4 v14 (ix2 r j) = da3 (mat v4 r) (mat v2 r) (mat v14) j := by
  pointwise [k2_pay15, pay14, pay10, k2_pay11]
  rfl
theorem pay2 (r : Fin 256) (j : Fin 2816) :
    k2_pay2 (F := Ideal) (k2_pay15 v2 v4 v14) (ix2 r j) = da3 (mat v4 r) (mat v2 r) (mat v14) j := by
  pointwise [k2_pay2, pay15]
theorem pay16 (r : Fin 256) (j : Fin 2816) :
    k2_pay16 (F := Ideal) v2 v6 v14 (ix2 r j) = mvT (mat v2 r) (mat v14) j * mat v6 r j := by
  pointwise [k2_pay16, pay10]
  rfl
theorem pay43 (r : Fin 256) (j : Fin 2816) : Q43 v2 v4 v6 v14 (ix2 r j) = da1 (mat v4 r) (mat v6 r) (mat v2 r) (mat v14) j := by
  pointwise [k2_pay20, k2_pay17, k2_pay18, k2_pay19, k2_pay11, pay16, pay14, pay13, pay12, zero_sub, mul_one]
  exact congrArg _ (dsg_factor _ _)
theorem pay1 (r : Fin 256) (j : Fin 2816) :
    k2_pay1 (F := Ideal) (Q43 v2 v4 v6 v14) (ix2 r j) = da1 (mat v4 r) (mat v6 r) (mat v2 r) (mat v14) j := by
  pointwise [k2_pay1, pay43]
theorem pay48 (r : Fin 256) (j : Fin 1024) : Q48 v2 v4 v6 v10 v12 v14 (ix2 r j) = DN v2 v4 v6 v10 v12 v14 r j := by
  pointwise [k2_pay21, pay43, pay15, k2_pay8, k2_pay9]
  rfl
theorem pay22 (v1 : FVec Ideal S256x1024 .f32) (r : Fin 256) : k2_pay22 (F := Ideal) v1 (ix2 r 0) = ms (mat v1 r) := by
  pointwise [k2_pay22]
  rfl
theorem pay23 (v1 : FVec Ideal S256x1024 .f32) (r : Fin 256) : k2_pay23 (F := Ideal) v1 (ix2 r 0) = rs (mat v1 r) := by
  pointwise [k2_pay23, pay22]
  rfl
theorem pay64 (j : Fin 1024) : Q64 v0 v2 v4 v6 v10 v12 v14 (ix2 0 j)
    = ∑ r : Fin 256, hat (mat v0 r) j * DN v2 v4 v6 v10 v12 v14 r j := by
  pointwise [k2_pay24, pay48, pay23, k2_pay5]
  rfl
theorem pay82 (r : Fin 256) (j : Fin 1024) : Q82 v0 v2 v4 v6 v8 v10 v12 v14 (ix2 r j)
    = nbAdd (mat v2 r) (mat v0 r) (row0 v8) (DN v2 v4 v6 v10 v12 v14 r) j := by
  pointwise [k2_pay25, pay48, pay23, pay22, k2_pay5, k2_pay6, k2_pay7, Fin.sum_univ_one]
  rfl

end Cert.Pay2

end
-- ==== Proof.Reg2.lean ====
/-
  What the gated layer's backward call leaves in its result arrays, whatever its operands hold at entry.
-/
module

public import proofs.«01_k».proof.Proof.Gen.HalfIdeal.Frame.Region2
public import proofs.«01_k».proof.Proof.Pay2
public import Idealize.ShloMosaic.Lib.Pipeline.ValueKit

@[expose] public section

set_option maxRecDepth 16384

noncomputable section

namespace Cert.Reg2

open Idealize.ShloMosaic Idealize.ShloMosaic.TcCoe Idealize.SL.Sem Idealize.ShloMosaic.Pipeline
open Cert.HalfIdeal Cert.HalfIdeal.Gen
open Cert.Spec hiding eq_ix2

variable (V : (c : Dev nD) → (b : Ref sig .tc) → Buf (Elt Ideal) ((c : Thread nD τ).loc b)) (c : Dev nD)

/-- Which block of its array each window holds at a point. -/
theorem idx : ∀ t : Fin cfg2.N, win2_0.index t = ![t.val, 0]
    ∧ win2_1.index t = ![t.val, 0]
    ∧ win2_2.index t = ![t.val, 0]
    ∧ win2_3.index t = ![t.val, 0]
    ∧ win2_4.index t = ![0, 0]
    ∧ win2_5.index t = ![0, 0]
    ∧ win2_6.index t = ![0, 0]
    ∧ win2_7.index t = ![0, 0]
    ∧ win2_8.index t = ![t.val, 0]
    ∧ win2_9.index t = ![t.val, 0]
    ∧ win2_10.index t = ![t.val, 0]
    ∧ win2_11.index t = ![0, 0] :=
  (by decide +kernel : ∀ t : Fin grid2.N, _)

/-- The array row under a block's row. -/
def row (t : Fin cfg2.N) (r : Fin 256) : Fin 4096 := ⟨t.val * 256 + r.val, by have := lt_of_lt_of_eq t.isLt N_2; omega⟩

theorem b0 (t : Fin cfg2.N) (r : Fin 256) :
    mat (iblk2 V c 0 t : FVec Ideal S256x1024 .f32) r = mat (V c main_v11_0 : FVec Ideal S4096x1024 .f32) (row t r) := by
  funext j
  unfold row mat
  blk_ext [iblk2, idx t]
theorem b1 (t : Fin cfg2.N) (r : Fin 256) :
    mat (iblk2 V c 1 t : FVec Ideal S256x1024 .f32) r = mat (V c main_v12_0 : FVec Ideal S4096x1024 .f32) (row t r) := by
  funext j
  unfold row mat
  blk_ext [iblk2, idx t]
theorem b2 (t : Fin cfg2.N) (r : Fin 256) :
    mat (iblk2 V c 2 t : FVec Ideal S256x2816 .bf16) r = mat (V c main_v11_2 : FVec Ideal S4096x2816 .bf16) (row t r) := by
  funext j
  unfold row mat
  blk_ext [iblk2, idx t]
theorem b3 (t : Fin cfg2.N) (r : Fin 256) :
    mat (iblk2 V c 3 t : FVec Ideal S256x2816 .bf16) r = mat (V c main_v11_3 : FVec Ideal S4096x2816 .bf16) (row t r) := by
  funext j
  unfold row mat
  blk_ext [iblk2, idx t]
theorem b4 (t : Fin cfg2.N) : row0 (iblk2 V c 4 t : FVec Ideal S1x1024 .f32) = row0 (V c main_v6 : FVec Ideal S1x1024 .f32) := by
  funext j
  unfold row0
  blk_ext [iblk2, idx t]
theorem b5 (t : Fin cfg2.N) : mat (iblk2 V c 5 t : FVec Ideal S1024x2816 .bf16) = mat (V c main_v1 : FVec Ideal S1024x2816 .bf16) := by
  funext i j
  unfold mat
  blk_ext [iblk2, idx t]
theorem b6 (t : Fin cfg2.N) : mat (iblk2 V c 6 t : FVec Ideal S1024x2816 .bf16) = mat (V c main_v2 : FVec Ideal S1024x2816 .bf16) := by
  funext i j
  unfold mat
  blk_ext [iblk2, idx t]
theorem b7 (t : Fin cfg2.N) : mat (iblk2 V c 7 t : FVec Ideal S2816x1024 .bf16) = mat (V c main_v3 : FVec Ideal S2816x1024 .bf16) := by
  funext i j
  unfold mat
  blk_ext [iblk2, idx t]

/-- The linear branch's cotangent, -/
def rDA3 : Mat 4096 2816 := fun t => da3 (mat (V c main_v11_2) t) (mat (V c main_v12_0) t) (mat (V c main_v3))
/-- the gated branch's, -/
def rDA1 : Mat 4096 2816 := fun t => da1 (mat (V c main_v11_2) t) (mat (V c main_v11_3) t) (mat (V c main_v12_0) t) (mat (V c main_v3))
/-- the normalised row's, -/
def rDN : Mat 4096 1024 := fun t => dhn (mat (V c main_v11_2) t) (mat (V c main_v11_3) t) (mat (V c main_v12_0) t) (mat (V c main_v1)) (mat (V c main_v2)) (mat (V c main_v3))
/-- the row's, -/
def rD1 : Mat 4096 1024 := fun t => nbAdd (mat (V c main_v12_0) t) (mat (V c main_v11_0) t) (row0 (V c main_v6)) (rDN V c t)
/-- and the gain's gradient. -/
def rDG : Row 1024 := inner (fun t => hat (mat (V c main_v11_0) t)) (rDN V c)

theorem p_da3_out (t : Fin cfg2.N) (r : Fin 256) (j : Fin 2816) :
    k2_pay2 (F := Ideal) (k2_pay15 (iblk2 V c 1 t) (iblk2 V c 2 t) (iblk2 V c 7 t)) (ix2 r j) = rDA3 V c (row t r) j := by
  refine (Pay2.pay2 _ _ _ _ _).trans ?_
  simp only [b1, b2, b7]
  rfl
theorem da3_out : (dat2 V c).arrAt 10 cfg2.N = (buf2 (rDA3 V c) : FVec Ideal S4096x2816 .bf16) := by
  refine (dat2 V c).arrAt_eq_of_covers 10 _ (by decide +kernel) fun t hf y => ?_
  blk_simp
  have e : ((View.whole main_v13_2).slice (win2_10.rect t)).emb y = ix2 (row t (y 0)) (y 1) := by
    unfold row
    blk_ext [idx t]
  rw [after2_10, e]
  by_cases h0 : t.val % 16 = 0
  · rw [outsAt2_A V c t h0]
    frame_out
    exact (congrArg _ (eq_ix2 y)).trans (p_da3_out V c t (y 0) (y 1))
  · rw [outsAt2_B V c t h0]
    frame_out
    exact (congrArg _ (eq_ix2 y)).trans (p_da3_out V c t (y 0) (y 1))

theorem p_da1_out (t : Fin cfg2.N) (r : Fin 256) (j : Fin 2816) :
    k2_pay1 (F := Ideal) (Pay2.Q43 (iblk2 V c 1 t) (iblk2 V c 2 t) (iblk2 V c 3 t) (iblk2 V c 7 t)) (ix2 r j) = rDA1 V c (row t r) j := by
  refine (Pay2.pay1 _ _ _ _ _ _).trans ?_
  simp only [b1, b2, b3, b7]
  rfl
theorem da1_out : (dat2 V c).arrAt 9 cfg2.N = (buf2 (rDA1 V c) : FVec Ideal S4096x2816 .bf16) := by
  refine (dat2 V c).arrAt_eq_of_covers 9 _ (by decide +kernel) fun t hf y => ?_
  blk_simp
  have e : ((View.whole main_v13_1).slice (win2_9.rect t)).emb y = ix2 (row t (y 0)) (y 1) := by
    unfold row
    blk_ext [idx t]
  rw [after2_9, e]
  by_cases h0 : t.val % 16 = 0
  · rw [outsAt2_A V c t h0]
    frame_out
    exact (congrArg _ (eq_ix2 y)).trans (p_da1_out V c t (y 0) (y 1))
  · rw [outsAt2_B V c t h0]
    frame_out
    exact (congrArg _ (eq_ix2 y)).trans (p_da1_out V c t (y 0) (y 1))

theorem p_dh1_out (t : Fin cfg2.N) (r : Fin 256) (j : Fin 1024) :
    Pay2.Q82 (iblk2 V c 0 t) (iblk2 V c 1 t) (iblk2 V c 2 t) (iblk2 V c 3 t) (iblk2 V c 4 t) (iblk2 V c 5 t) (iblk2 V c 6 t) (iblk2 V c 7 t) (ix2 r j) = rD1 V c (row t r) j := by
  refine (Pay2.pay82 _ _ _ _ _ _ _ _ _ _).trans ?_
  simp only [Pay2.DN, b0, b1, b2, b3, b4, b5, b6, b7]
  rfl
theorem dh1_out : (dat2 V c).arrAt 8 cfg2.N = (buf2 (rD1 V c) : FVec Ideal S4096x1024 .f32) := by
  refine (dat2 V c).arrAt_eq_of_covers 8 _ (by decide +kernel) fun t hf y => ?_
  blk_simp
  have e : ((View.whole main_v13_0).slice (win2_8.rect t)).emb y = ix2 (row t (y 0)) (y 1) := by
    unfold row
    blk_ext [idx t]
  rw [after2_8, e]
  by_cases h0 : t.val % 16 = 0
  · rw [outsAt2_A V c t h0]
    frame_out
    exact (congrArg _ (eq_ix2 y)).trans (p_dh1_out V c t (y 0) (y 1))
  · rw [outsAt2_B V c t h0]
    frame_out
    exact (congrArg _ (eq_ix2 y)).trans (p_dh1_out V c t (y 0) (y 1))

/-- The fill of the gain's gradient at the first point. -/
theorem hzero (j : S1x1024.Idx) : k2_pay3 (F := Ideal) j = 0 := by pointwise [k2_pay3]
/-- What one point adds to it. -/
theorem hpay (t : Fin cfg2.N) (acc : FVec Ideal S1x1024 .f32) (j : S1x1024.Idx) :
    k2_pay4 (F := Ideal) (Pay2.Q64 (iblk2 V c 0 t) (iblk2 V c 1 t) (iblk2 V c 2 t) (iblk2 V c 3 t) (iblk2 V c 5 t) (iblk2 V c 6 t) (iblk2 V c 7 t)) acc j = acc j + ∑ r : Fin 256, hat (mat (V c main_v11_0) (row t r)) (j 1) * rDN V c (row t r) (j 1) := by
  have hj : j = ix2 0 (j 1) := by
    rw [eq_ix2 j]
    congr 1
    exact Subsingleton.elim _ _
  have e : Pay2.Q64 (iblk2 V c 0 t) (iblk2 V c 1 t) (iblk2 V c 2 t) (iblk2 V c 3 t) (iblk2 V c 5 t) (iblk2 V c 6 t) (iblk2 V c 7 t) j = ∑ r : Fin 256, hat (mat (V c main_v11_0) (row t r)) (j 1) * rDN V c (row t r) (j 1) := by
    rw [hj]
    refine (Pay2.pay64 _ _ _ _ _ _ _ _).trans ?_
    simp only [Pay2.DN, b0, b1, b2, b3, b5, b6, b7]
    rfl
  rw [← e]
  pointwise [k2_pay4]

theorem dg_out : (dat2 V c).arrAt 11 cfg2.N = (buf1 (rDG V c) : FVec Ideal S1x1024 .f32) := by
  refine (dat2 V c).arrAt_eq_of_covers 11 _ (by decide +kernel) fun t hf y => ?_
  blk_simp
  have e : (win2_11.blk t).view.emb y = ix2 (y 0) (y 1) := by
    blk_ext [idx t]
  rw [after2_11, Pipeline.eq_sum_fin_of_reset_step_apply_of_flush (fun n h => (outsAt2 V c n h).2.2.2) 16 (fun _ => 0)
      (fun t j => ∑ r : Fin 256, hat (mat (V c main_v11_0) (row t r)) (j 1) * rDN V c (row t r) (j 1))
    (fun t h j => by rw [outsAt2_A V c t h]; frame_out; rw [hpay, hzero])
    (fun t h j => by rw [outsAt2_B V c t h]; frame_out; rw [hpay])
    t ((flush2_11 t).mp hf) _, zero_add]
  rw [e]
  unfold buf1 rDG Spec.inner
  refine Fin.sum_mul_add_congr fun s k hl => ?_
  have ht := lt_of_lt_of_eq t.isLt N_2
  have hr : row ⟨16 * (t.val / 16) + s.val, Pipeline.run_point_lt_of_flush t ((flush2_11 t).mp hf) s⟩ k = ⟨s.val * 256 + k.val, hl⟩ :=
    Fin.ext (by simp only [row]; omega)
  rw [hr]
  rfl

end Cert.Reg2

end
-- ==== Proof.Reg3.lean ====
/-
  What one of the gated layer's weight gradients is left as, whatever the operands hold at entry: a sum over all tokens.
-/
module

public import proofs.«01_k».proof.Proof.Gen.HalfIdeal.Frame.Region3
public import proofs.«01_k».proof.Proof.Spec
public import Idealize.ShloMosaic.Lib.Pipeline.ValueKit

@[expose] public section

set_option maxRecDepth 16384

noncomputable section

namespace Cert.Reg3

open Idealize.ShloMosaic Idealize.ShloMosaic.TcCoe Idealize.SL.Sem Idealize.ShloMosaic.Pipeline
open Cert.HalfIdeal Cert.HalfIdeal.Gen
open Cert.Spec hiding eq_ix2

variable (V : (c : Dev nD) → (b : Ref sig .tc) → Buf (Elt Ideal) ((c : Thread nD τ).loc b)) (c : Dev nD)

/-- Which block of its array each window holds at a point. -/
theorem idx : ∀ t : Fin cfg3.N, win3_0.index t = ![t.val % 4, 0]
    ∧ win3_1.index t = ![t.val % 4, t.val / 4]
    ∧ win3_2.index t = ![0, t.val / 4] :=
  (by decide +kernel : ∀ t : Fin grid3.N, _)

/-- The fill at the first point of a run. -/
theorem hzero (j : S1024x1408.Idx) : k3_pay1 (F := Ideal) j = 0 := by pointwise [k3_pay1]
/-- What one point adds. -/
theorem hpay (acc : FVec Ideal S1024x1408 .f32) (x0 : FVec Ideal S1024x1024 .bf16) (x1 : FVec Ideal S1024x1408 .bf16) (j : S1024x1408.Idx) :
    k3_pay2 (F := Ideal) acc x0 x1 j = acc j + ∑ q : Fin 1024, x0 (ix2 q (j 0)) * x1 (ix2 q (j 1)) := by
  pointwise [k3_pay2]

/-- The result: the sum over all tokens. -/
theorem out : (dat3 V c).arrAt 2 cfg3.N
    = (buf2 (outer (mat (V c main_v11_5 : FVec Ideal S4096x1024 .bf16)) (mat (V c main_v13_1 : FVec Ideal S4096x2816 .bf16))) : FVec Ideal S1024x2816 .f32) := by
  refine (dat3 V c).arrAt_eq_of_covers 2 _ (by decide +kernel) fun t hf y => ?_
  blk_simp
  rw [after3_2, Pipeline.eq_sum_fin_of_reset_step_apply_of_flush (fun n h => outsAt3 V c n h) 4 (fun _ => 0) _
    (fun t h j => by rw [outsAt3_A V c t h]; frame_out; rw [hpay, hzero])
    (fun t h j => by rw [outsAt3_B V c t h]; frame_out; rw [hpay])
    t ((flush3_2 t).mp hf) _, zero_add]
  unfold buf2 outer mat
  refine Fin.sum_mul_add_congr fun s k hl => ?_
  blk_point [iblk3, idx t, idx ⟨_, Pipeline.run_point_lt_of_flush t ((flush3_2 t).mp hf) s⟩]

end Cert.Reg3

end
-- ==== Proof.Reg4.lean ====
/-
  What one of the gated layer's weight gradients is left as, whatever the operands hold at entry: a sum over all tokens.
-/
module

public import proofs.«01_k».proof.Proof.Gen.HalfIdeal.Frame.Region4
public import proofs.«01_k».proof.Proof.Spec
public import Idealize.ShloMosaic.Lib.Pipeline.ValueKit

@[expose] public section

set_option maxRecDepth 16384

noncomputable section

namespace Cert.Reg4

open Idealize.ShloMosaic Idealize.ShloMosaic.TcCoe Idealize.SL.Sem Idealize.ShloMosaic.Pipeline
open Cert.HalfIdeal Cert.HalfIdeal.Gen
open Cert.Spec hiding eq_ix2

variable (V : (c : Dev nD) → (b : Ref sig .tc) → Buf (Elt Ideal) ((c : Thread nD τ).loc b)) (c : Dev nD)

/-- Which block of its array each window holds at a point. -/
theorem idx : ∀ t : Fin cfg4.N, win4_0.index t = ![t.val % 4, 0]
    ∧ win4_1.index t = ![t.val % 4, t.val / 4]
    ∧ win4_2.index t = ![0, t.val / 4] :=
  (by decide +kernel : ∀ t : Fin grid4.N, _)

/-- The fill at the first point of a run. -/
theorem hzero (j : S1024x1408.Idx) : k4_pay1 (F := Ideal) j = 0 := by pointwise [k4_pay1]
/-- What one point adds. -/
theorem hpay (acc : FVec Ideal S1024x1408 .f32) (x0 : FVec Ideal S1024x1024 .bf16) (x1 : FVec Ideal S1024x1408 .bf16) (j : S1024x1408.Idx) :
    k4_pay2 (F := Ideal) acc x0 x1 j = acc j + ∑ q : Fin 1024, x0 (ix2 q (j 0)) * x1 (ix2 q (j 1)) := by
  pointwise [k4_pay2]

/-- The result: the sum over all tokens. -/
theorem out : (dat4 V c).arrAt 2 cfg4.N
    = (buf2 (outer (mat (V c main_v11_5 : FVec Ideal S4096x1024 .bf16)) (mat (V c main_v13_2 : FVec Ideal S4096x2816 .bf16))) : FVec Ideal S1024x2816 .f32) := by
  refine (dat4 V c).arrAt_eq_of_covers 2 _ (by decide +kernel) fun t hf y => ?_
  blk_simp
  rw [after4_2, Pipeline.eq_sum_fin_of_reset_step_apply_of_flush (fun n h => outsAt4 V c n h) 4 (fun _ => 0) _
    (fun t h j => by rw [outsAt4_A V c t h]; frame_out; rw [hpay, hzero])
    (fun t h j => by rw [outsAt4_B V c t h]; frame_out; rw [hpay])
    t ((flush4_2 t).mp hf) _, zero_add]
  unfold buf2 outer mat
  refine Fin.sum_mul_add_congr fun s k hl => ?_
  blk_point [iblk4, idx t, idx ⟨_, Pipeline.run_point_lt_of_flush t ((flush4_2 t).mp hf) s⟩]

end Cert.Reg4

end
-- ==== Proof.Reg5.lean ====
/-
  What one of the gated layer's weight gradients is left as, whatever the operands hold at entry: a sum over all tokens.
-/
module

public import proofs.«01_k».proof.Proof.Gen.HalfIdeal.Frame.Region5
public import proofs.«01_k».proof.Proof.Spec
public import Idealize.ShloMosaic.Lib.Pipeline.ValueKit

@[expose] public section

set_option maxRecDepth 16384

noncomputable section

namespace Cert.Reg5

open Idealize.ShloMosaic Idealize.ShloMosaic.TcCoe Idealize.SL.Sem Idealize.ShloMosaic.Pipeline
open Cert.HalfIdeal Cert.HalfIdeal.Gen
open Cert.Spec hiding eq_ix2

variable (V : (c : Dev nD) → (b : Ref sig .tc) → Buf (Elt Ideal) ((c : Thread nD τ).loc b)) (c : Dev nD)

/-- Which block of its array each window holds at a point. -/
theorem idx : ∀ t : Fin cfg5.N, win5_0.index t = ![t.val % 4, t.val / 4]
    ∧ win5_1.index t = ![t.val % 4, 0]
    ∧ win5_2.index t = ![t.val / 4, 0] :=
  (by decide +kernel : ∀ t : Fin grid5.N, _)

/-- The fill at the first point of a run. -/
theorem hzero (j : S1408x1024.Idx) : k5_pay1 (F := Ideal) j = 0 := by pointwise [k5_pay1]
/-- What one point adds. -/
theorem hpay (acc : FVec Ideal S1408x1024 .f32) (x0 : FVec Ideal S1024x1408 .bf16) (x1 : FVec Ideal S1024x1024 .bf16) (j : S1408x1024.Idx) :
    k5_pay2 (F := Ideal) acc x0 x1 j = acc j + ∑ q : Fin 1024, x0 (ix2 q (j 0)) * x1 (ix2 q (j 1)) := by
  pointwise [k5_pay2]

/-- The result: the sum over all tokens. -/
theorem out : (dat5 V c).arrAt 2 cfg5.N
    = (buf2 (outer (mat (V c main_v11_4 : FVec Ideal S4096x2816 .bf16)) (mat (V c main_v12_1 : FVec Ideal S4096x1024 .bf16))) : FVec Ideal S2816x1024 .f32) := by
  refine (dat5 V c).arrAt_eq_of_covers 2 _ (by decide +kernel) fun t hf y => ?_
  blk_simp
  rw [after5_2, Pipeline.eq_sum_fin_of_reset_step_apply_of_flush (fun n h => outsAt5 V c n h) 4 (fun _ => 0) _
    (fun t h j => by rw [outsAt5_A V c t h]; frame_out; rw [hpay, hzero])
    (fun t h j => by rw [outsAt5_B V c t h]; frame_out; rw [hpay])
    t ((flush5_2 t).mp hf) _, zero_add]
  unfold buf2 outer mat
  refine Fin.sum_mul_add_congr fun s k hl => ?_
  blk_point [iblk5, idx t, idx ⟨_, Pipeline.run_point_lt_of_flush t ((flush5_2 t).mp hf) s⟩]

end Cert.Reg5

end
-- ==== Proof.Total.lean ====
/-
  The whole program's results as functions of its arguments: each array as its region leaves it, carried to the regions that read it.
-/
module

public import proofs.«01_k».proof.Proof.Run
public import proofs.«01_k».proof.Proof.Whole
public import proofs.«01_k».proof.Proof.Reg0
public import proofs.«01_k».proof.Proof.Reg1
public import proofs.«01_k».proof.Proof.Reg2
public import proofs.«01_k».proof.Proof.Reg3
public import proofs.«01_k».proof.Proof.Reg4
public import proofs.«01_k».proof.Proof.Reg5

@[expose] public section

set_option maxRecDepth 16384

noncomputable section

namespace Cert.Total

open Idealize.ShloMosaic Idealize.ShloMosaic.TcCoe Idealize.SL.Sem Idealize.ShloMosaic.Tactic
open Cert.HalfIdeal Cert.HalfIdeal.Gen
open Cert.Spec hiding eq_ix2
open Cert.Whole

variable (m : (ℓ : Loc nD τ sig) → Buf (Elt Ideal) ℓ) (ρ : Dev nD → PrngReg) (c : Dev nD)

/-- The arguments as launched. -/
abbrev args : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13)⟩

/-! ### What the first region finds -/

theorem e1_arg0 : V1 m ρ c main_arg0 = (args m c).x := W1_args m ρ c main_arg0 (by decide)
theorem e1_arg1 : V1 m ρ c main_arg1 = (args m c).s := W1_args m ρ c main_arg1 (by decide)
theorem e1_arg2 : V1 m ρ c main_arg2 = (args m c).r := W1_args m ρ c main_arg2 (by decide)
theorem e1_arg3 : V1 m ρ c main_arg3 = (args m c).p := W1_args m ρ c main_arg3 (by decide)
theorem e1_arg4 : V1 m ρ c main_arg4 = (args m c).tg := W1_args m ρ c main_arg4 (by decide)
theorem e1_arg5 : V1 m ρ c main_arg5 = (args m c).wo := W1_args m ρ c main_arg5 (by decide)
theorem e1_arg6 : V1 m ρ c main_arg6 = (args m c).gn := W1_args m ρ c main_arg6 (by decide)
theorem e1_arg7 : V1 m ρ c main_arg7 = (args m c).w1 := W1_args m ρ c main_arg7 (by decide)
theorem e1_arg8 : V1 m ρ c main_arg8 = (args m c).w3 := W1_args m ρ c main_arg8 (by decide)
theorem e1_arg9 : V1 m ρ c main_arg9 = (args m c).w2 := W1_args m ρ c main_arg9 (by decide)
theorem e1_arg10 : V1 m ρ c main_arg10 = (args m c).gp := W1_args m ρ c main_arg10 (by decide)
theorem e1_arg11 : V1 m ρ c main_arg11 = (args m c).wg := W1_args m ρ c main_arg11 (by decide)
theorem e1_arg12 : V1 m ρ c main_arg12 = (args m c).wu := W1_args m ρ c main_arg12 (by decide)
theorem e1_arg13 : V1 m ρ c main_arg13 = (args m c).gf := W1_args m ρ c main_arg13 (by decide)
theorem e1_v1 : mat (V1 m ρ c main_v1 : FVec Ideal S1024x2816 .bf16) = mat (args m c).w1 := by
  funext i j
  show (StableHlo.after hostOps0 (W0 m ρ c) (Proc.devRef .tc main_v1) : FVec Ideal S1024x2816 .bf16) (ix2 i j) = _
  after_results
  pointwise
  rfl
theorem e1_v2 : mat (V1 m ρ c main_v2 : FVec Ideal S1024x2816 .bf16) = mat (args m c).w3 := by
  funext i j
  show (StableHlo.after hostOps0 (W0 m ρ c) (Proc.devRef .tc main_v2) : FVec Ideal S1024x2816 .bf16) (ix2 i j) = _
  after_results
  pointwise
  rfl
theorem e1_v3 : mat (V1 m ρ c main_v3 : FVec Ideal S2816x1024 .bf16) = mat (args m c).w2 := by
  funext i j
  show (StableHlo.after hostOps0 (W0 m ρ c) (Proc.devRef .tc main_v3) : FVec Ideal S2816x1024 .bf16) (ix2 i j) = _
  after_results
  pointwise
  rfl
theorem e1_v4 : mat (V1 m ρ c main_v4 : FVec Ideal S1024x1024 .bf16) = mat (args m c).wg := by
  funext i j
  show (StableHlo.after hostOps0 (W0 m ρ c) (Proc.devRef .tc main_v4) : FVec Ideal S1024x1024 .bf16) (ix2 i j) = _
  after_results
  pointwise
  rfl
theorem e1_v5 : mat (V1 m ρ c main_v5 : FVec Ideal S256x1024 .bf16) = mat (args m c).wu := by
  funext i j
  show (StableHlo.after hostOps0 (W0 m ρ c) (Proc.devRef .tc main_v5) : FVec Ideal S256x1024 .bf16) (ix2 i j) = _
  after_results
  pointwise
  rfl
theorem e1_v9 : mat (V1 m ρ c main_v9 : FVec Ideal S512x1024 .bf16) = wtop (args m c) := by
  funext i j
  show (StableHlo.after hostOps0 (W0 m ρ c) (Proc.devRef .tc main_v9) : FVec Ideal S512x1024 .bf16) (ix2 i j) = _
  after_results
  pointwise
  rfl
theorem e1_v10 : mat (V1 m ρ c main_v10 : FVec Ideal S512x1024 .bf16) = wbot (args m c) := by
  funext i j
  show (StableHlo.after hostOps0 (W0 m ρ c) (Proc.devRef .tc main_v10) : FVec Ideal S512x1024 .bf16) (ix2 i j) = _
  after_results
  pointwise
  rfl
theorem e1_v6 : row0 (V1 m ρ c main_v6 : FVec Ideal S1x1024 .f32) = vec (args m c).gn := by
  funext j
  show (StableHlo.after hostOps0 (W0 m ρ c) (Proc.devRef .tc main_v6) : FVec Ideal S1x1024 .f32) (ix2 0 j) = _
  after_results
  pointwise
  rfl
theorem e1_v7 : row0 (V1 m ρ c main_v7 : FVec Ideal S1x1024 .f32) = vec (args m c).gp := by
  funext j
  show (StableHlo.after hostOps0 (W0 m ρ c) (Proc.devRef .tc main_v7) : FVec Ideal S1x1024 .f32) (ix2 0 j) = _
  after_results
  pointwise
  rfl
theorem e1_v8 : row0 (V1 m ρ c main_v8 : FVec Ideal S1x1024 .f32) = vec (args m c).gf := by
  funext j
  show (StableHlo.after hostOps0 (W0 m ρ c) (Proc.devRef .tc main_v8) : FVec Ideal S1x1024 .f32) (ix2 0 j) = _
  after_results
  pointwise
  rfl

/-! ### What each region leaves -/

theorem r_h1 : Reg0.rH1 (V1 m ρ) c = H1 (args m c) := by
  have h0 := e1_arg0 m ρ c
  have h1 := e1_arg1 m ρ c
  have h2 := e1_arg2 m ρ c
  have h3 := e1_v9 m ρ c
  have h4 := e1_v10 m ρ c
  generalize V1 m ρ = V at *
  funext t
  simp only [Reg0.rH1, H1, h0, h1, h2, h3, h4]
theorem r_hn : Reg0.rHN (V1 m ρ) c = HN (args m c) := by
  have h0 := r_h1 m ρ c
  have h1 := e1_v6 m ρ c
  generalize V1 m ρ = V at *
  funext t
  simp only [Reg0.rHN, HN, h0, h1]
theorem r_a1 : Reg0.rA1 (V1 m ρ) c = A1r (args m c) := by
  have h0 := r_hn m ρ c
  have h1 := e1_v1 m ρ c
  generalize V1 m ρ = V at *
  funext t
  simp only [Reg0.rA1, A1r, h0, h1]
theorem r_a3 : Reg0.rA3 (V1 m ρ) c = A3r (args m c) := by
  have h0 := r_hn m ρ c
  have h1 := e1_v2 m ρ c
  generalize V1 m ρ = V at *
  funext t
  simp only [Reg0.rA3, A3r, h0, h1]
theorem r_hm : Reg0.rHM (V1 m ρ) c = HM (args m c) := by
  have h0 := r_a1 m ρ c
  have h1 := r_a3 m ρ c
  generalize V1 m ρ = V at *
  funext t
  simp only [Reg0.rHM, HM, h0, h1]
theorem r_h2 : Reg0.rH2 (V1 m ρ) c = H2 (args m c) := by
  have h0 := r_h1 m ρ c
  have h1 := r_hm m ρ c
  have h2 := e1_v3 m ρ c
  generalize V1 m ρ = V at *
  funext t
  simp only [Reg0.rH2, H2, h0, h1, h2]

theorem e2_h1 : (V2 m ρ c main_v11_0 : FVec Ideal S4096x1024 .f32) = buf2 (H1 (args m c)) :=
  (W2_arr m ρ c 9).trans ((Reg0.h1_out (V1 m ρ) c).trans (congrArg buf2 (r_h1 m ρ c)))
theorem e2_h2 : (V2 m ρ c main_v11_1 : FVec Ideal S4096x1024 .f32) = buf2 (H2 (args m c)) :=
  (W2_arr m ρ c 10).trans ((Reg0.h2_out (V1 m ρ) c).trans (congrArg buf2 (r_h2 m ρ c)))
theorem e2_a1 : (V2 m ρ c main_v11_2 : FVec Ideal S4096x2816 .bf16) = buf2 (A1r (args m c)) :=
  (W2_arr m ρ c 11).trans ((Reg0.a1_out (V1 m ρ) c).trans (congrArg buf2 (r_a1 m ρ c)))
theorem e2_a3 : (V2 m ρ c main_v11_3 : FVec Ideal S4096x2816 .bf16) = buf2 (A3r (args m c)) :=
  (W2_arr m ρ c 12).trans ((Reg0.a3_out (V1 m ρ) c).trans (congrArg buf2 (r_a3 m ρ c)))
theorem e2_hm : (V2 m ρ c main_v11_4 : FVec Ideal S4096x2816 .bf16) = buf2 (HM (args m c)) :=
  (W2_arr m ρ c 13).trans ((Reg0.hm_out (V1 m ρ) c).trans (congrArg buf2 (r_hm m ρ c)))
theorem e2_hn : (V2 m ρ c main_v11_5 : FVec Ideal S4096x1024 .bf16) = buf2 (HN (args m c)) :=
  (W2_arr m ρ c 14).trans ((Reg0.hn_out (V1 m ρ) c).trans (congrArg buf2 (r_hn m ρ c)))
theorem e2_arg3 : V2 m ρ c main_arg3 = (args m c).p := W2_args m ρ c main_arg3 (by decide)
theorem e2_arg4 : V2 m ρ c main_arg4 = (args m c).tg := W2_args m ρ c main_arg4 (by decide)
theorem e2_v7 : row0 (V2 m ρ c main_v7 : FVec Ideal S1x1024 .f32) = vec (args m c).gp :=
  (congrArg row0 (W2_of m ρ c main_v7 (by decide) : (V2 m ρ c main_v7 : FVec Ideal S1x1024 .f32) = V1 m ρ c main_v7)).trans (e1_v7 m ρ c)
theorem e2_v8 : row0 (V2 m ρ c main_v8 : FVec Ideal S1x1024 .f32) = vec (args m c).gf :=
  (congrArg row0 (W2_of m ρ c main_v8 (by decide) : (V2 m ρ c main_v8 : FVec Ideal S1x1024 .f32) = V1 m ρ c main_v8)).trans (e1_v8 m ρ c)
theorem e2_v4 : mat (V2 m ρ c main_v4 : FVec Ideal S1024x1024 .bf16) = mat (args m c).wg :=
  (congrArg mat (W2_of m ρ c main_v4 (by decide) : (V2 m ρ c main_v4 : FVec Ideal S1024x1024 .bf16) = V1 m ρ c main_v4)).trans (e1_v4 m ρ c)
theorem e2_v5 : mat (V2 m ρ c main_v5 : FVec Ideal S256x1024 .bf16) = mat (args m c).wu :=
  (congrArg mat (W2_of m ρ c main_v5 (by decide) : (V2 m ρ c main_v5 : FVec Ideal S256x1024 .bf16) = V1 m ρ c main_v5)).trans (e1_v5 m ρ c)
theorem r_h3 : Reg1.rH3 (V2 m ρ) c = H3 (args m c) := by
  have h0 := e2_h2 m ρ c
  have h1 := e2_arg3 m ρ c
  have h2 := e2_v7 m ρ c
  have h3 := e2_v4 m ρ c
  have h4 := e2_v5 m ρ c
  generalize V2 m ρ = V at *
  funext t
  simp only [Reg1.rH3, H3, mat_buf2, h0, h1, h2, h3, h4]
theorem r_d3 : Reg1.rD3 (V2 m ρ) c = D3 (args m c) := by
  have h0 := e2_v8 m ρ c
  have h1 := e2_arg4 m ρ c
  have h2 := r_h3 m ρ c
  generalize V2 m ρ = V at *
  funext t
  simp only [Reg1.rD3, D3, h0, h1, h2]
theorem r_dz : Reg1.rDZ (V2 m ρ) c = DZ (args m c) := by
  have h0 := e2_h2 m ρ c
  have h1 := e2_arg3 m ρ c
  have h2 := e2_v7 m ρ c
  have h3 := e2_v4 m ρ c
  have h4 := e2_v5 m ρ c
  have h5 := r_d3 m ρ c
  generalize V2 m ρ = V at *
  funext t
  simp only [Reg1.rDZ, DZ, mat_buf2, h0, h1, h2, h3, h4, h5]
theorem r_dpu : Reg1.rDPU (V2 m ρ) c = DPU (args m c) := by
  have h0 := e2_h2 m ρ c
  have h1 := e2_v7 m ρ c
  have h2 := e2_v4 m ρ c
  have h3 := r_d3 m ρ c
  generalize V2 m ρ = V at *
  funext t
  simp only [Reg1.rDPU, DPU, mat_buf2, h0, h1, h2, h3]
theorem r_d2 : Reg1.rD2 (V2 m ρ) c = D2 (args m c) := by
  have h0 := e2_h2 m ρ c
  have h1 := e2_arg3 m ρ c
  have h2 := e2_v7 m ρ c
  have h3 := e2_v4 m ρ c
  have h4 := e2_v5 m ρ c
  have h5 := r_d3 m ρ c
  generalize V2 m ρ = V at *
  funext t
  simp only [Reg1.rD2, D2, mat_buf2, h0, h1, h2, h3, h4, h5]
theorem r_loss : Reg1.rLoss (V2 m ρ) c = loss (args m c) := by
  have h0 := e2_v8 m ρ c
  have h1 := e2_arg4 m ρ c
  have h2 := r_h3 m ρ c
  generalize V2 m ρ = V at *
  simp only [Reg1.rLoss, Reg1.rMSE, loss, h0, h1, h2]
theorem r_dgp : Reg1.rDG (V2 m ρ) c = dgp (args m c) := by
  have h0 := e2_h2 m ρ c
  have h1 := e2_v4 m ρ c
  have h2 := r_dz m ρ c
  generalize V2 m ρ = V at *
  simp only [Reg1.rDG, dgp, mat_buf2, h0, h1, h2]
theorem r_dgf : Reg1.rDF (V2 m ρ) c = dgf (args m c) := by
  have h0 := e2_v8 m ρ c
  have h1 := e2_arg4 m ρ c
  have h2 := r_h3 m ρ c
  generalize V2 m ρ = V at *
  simp only [Reg1.rDF, dgf, h0, h1, h2]
theorem r_dwg : Reg1.rDWG (V2 m ρ) c = dwg (args m c) := by
  have h0 := e2_h2 m ρ c
  have h1 := e2_v7 m ρ c
  have h2 := r_dz m ρ c
  generalize V2 m ρ = V at *
  simp only [Reg1.rDWG, dwg, mat_buf2, h0, h1, h2]
theorem r_dwu : Reg1.rDWU (V2 m ρ) c = dwu (args m c) := by
  have h0 := e2_arg3 m ρ c
  have h1 := r_dpu m ρ c
  generalize V2 m ρ = V at *
  simp only [Reg1.rDWU, dwu, h0, h1]

theorem e3_d2 : (V3 m ρ c main_v12_0 : FVec Ideal S4096x1024 .f32) = buf2 (D2 (args m c)) :=
  (W3_arr m ρ c 7).trans ((Reg1.dh2_out (V2 m ρ) c).trans (congrArg buf2 (r_d2 m ρ c)))
theorem e3_d2b : (V3 m ρ c main_v12_1 : FVec Ideal S4096x1024 .bf16) = buf2 (D2 (args m c)) :=
  (W3_arr m ρ c 8).trans ((Reg1.dh2b_out (V2 m ρ) c).trans (congrArg buf2 (r_d2 m ρ c)))
theorem e3_loss : (V3 m ρ c main_v12_2 : FVec Ideal S8x128 .f32) = (fun _ => loss (args m c)) :=
  (W3_arr m ρ c 9).trans ((Reg1.loss_out (V2 m ρ) c).trans (funext fun _ => r_loss m ρ c))
theorem e3_dgp : (V3 m ρ c main_v12_3 : FVec Ideal S1x1024 .f32) = buf1 (dgp (args m c)) :=
  (W3_arr m ρ c 10).trans ((Reg1.dg_out (V2 m ρ) c).trans (congrArg buf1 (r_dgp m ρ c)))
theorem e3_dgf : (V3 m ρ c main_v12_4 : FVec Ideal S1x1024 .f32) = buf1 (dgf (args m c)) :=
  (W3_arr m ρ c 11).trans ((Reg1.df_out (V2 m ρ) c).trans (congrArg buf1 (r_dgf m ρ c)))
theorem e3_dwg : (V3 m ρ c main_v12_5 : FVec Ideal S1024x1024 .f32) = buf2 (dwg (args m c)) :=
  (W3_arr m ρ c 12).trans ((Reg1.dwg_out (V2 m ρ) c).trans (congrArg buf2 (r_dwg m ρ c)))
theorem e3_dwu : (V3 m ρ c main_v12_6 : FVec Ideal S256x1024 .f32) = buf2 (dwu (args m c)) :=
  (W3_arr m ρ c 13).trans ((Reg1.dwu_out (V2 m ρ) c).trans (congrArg buf2 (r_dwu m ρ c)))
theorem e3_v6 : row0 (V3 m ρ c main_v6 : FVec Ideal S1x1024 .f32) = vec (args m c).gn :=
  (congrArg row0 ((W3_of m ρ c main_v6 (by decide)).trans (W2_of m ρ c main_v6 (by decide)) : (V3 m ρ c main_v6 : FVec Ideal S1x1024 .f32) = V1 m ρ c main_v6)).trans (e1_v6 m ρ c)
theorem e3_v1 : mat (V3 m ρ c main_v1 : FVec Ideal S1024x2816 .bf16) = mat (args m c).w1 :=
  (congrArg mat ((W3_of m ρ c main_v1 (by decide)).trans (W2_of m ρ c main_v1 (by decide)) : (V3 m ρ c main_v1 : FVec Ideal S1024x2816 .bf16) = V1 m ρ c main_v1)).trans (e1_v1 m ρ c)
theorem e3_v2 : mat (V3 m ρ c main_v2 : FVec Ideal S1024x2816 .bf16) = mat (args m c).w3 :=
  (congrArg mat ((W3_of m ρ c main_v2 (by decide)).trans (W2_of m ρ c main_v2 (by decide)) : (V3 m ρ c main_v2 : FVec Ideal S1024x2816 .bf16) = V1 m ρ c main_v2)).trans (e1_v2 m ρ c)
theorem e3_v3 : mat (V3 m ρ c main_v3 : FVec Ideal S2816x1024 .bf16) = mat (args m c).w2 :=
  (congrArg mat ((W3_of m ρ c main_v3 (by decide)).trans (W2_of m ρ c main_v3 (by decide)) : (V3 m ρ c main_v3 : FVec Ideal S2816x1024 .bf16) = V1 m ρ c main_v3)).trans (e1_v3 m ρ c)
theorem e3_h1 : (V3 m ρ c main_v11_0 : FVec Ideal S4096x1024 .f32) = buf2 (H1 (args m c)) :=
  (W3_of m ρ c main_v11_0 (by decide)).trans (e2_h1 m ρ c)
theorem e3_a1 : (V3 m ρ c main_v11_2 : FVec Ideal S4096x2816 .bf16) = buf2 (A1r (args m c)) :=
  (W3_of m ρ c main_v11_2 (by decide)).trans (e2_a1 m ρ c)
theorem e3_a3 : (V3 m ρ c main_v11_3 : FVec Ideal S4096x2816 .bf16) = buf2 (A3r (args m c)) :=
  (W3_of m ρ c main_v11_3 (by decide)).trans (e2_a3 m ρ c)
theorem r_da3 : Reg2.rDA3 (V3 m ρ) c = DA3 (args m c) := by
  have h0 := e3_a1 m ρ c
  have h1 := e3_d2 m ρ c
  have h2 := e3_v3 m ρ c
  generalize V3 m ρ = V at *
  funext t
  simp only [Reg2.rDA3, DA3, mat_buf2, h0, h1, h2]
theorem r_da1 : Reg2.rDA1 (V3 m ρ) c = DA1 (args m c) := by
  have h0 := e3_a1 m ρ c
  have h1 := e3_a3 m ρ c
  have h2 := e3_d2 m ρ c
  have h3 := e3_v3 m ρ c
  generalize V3 m ρ = V at *
  funext t
  simp only [Reg2.rDA1, DA1, mat_buf2, h0, h1, h2, h3]
theorem r_dn : Reg2.rDN (V3 m ρ) c = DN (args m c) := by
  have h0 := e3_a1 m ρ c
  have h1 := e3_a3 m ρ c
  have h2 := e3_d2 m ρ c
  have h3 := e3_v1 m ρ c
  have h4 := e3_v2 m ρ c
  have h5 := e3_v3 m ρ c
  generalize V3 m ρ = V at *
  funext t
  simp only [Reg2.rDN, DN, mat_buf2, h0, h1, h2, h3, h4, h5]
theorem r_d1 : Reg2.rD1 (V3 m ρ) c = D1 (args m c) := by
  have h0 := e3_d2 m ρ c
  have h1 := e3_h1 m ρ c
  have h2 := e3_v6 m ρ c
  have h3 := r_dn m ρ c
  generalize V3 m ρ = V at *
  funext t
  simp only [Reg2.rD1, D1, mat_buf2, h0, h1, h2, h3]
theorem r_dgn : Reg2.rDG (V3 m ρ) c = dgn (args m c) := by
  have h0 := e3_h1 m ρ c
  have h1 := r_dn m ρ c
  generalize V3 m ρ = V at *
  simp only [Reg2.rDG, dgn, mat_buf2, h0, h1]

theorem e4_d1 : (V4 m ρ c main_v13_0 : FVec Ideal S4096x1024 .f32) = buf2 (D1 (args m c)) :=
  (W4_arr m ρ c 8).trans ((Reg2.dh1_out (V3 m ρ) c).trans (congrArg buf2 (r_d1 m ρ c)))
theorem e4_da1 : (V4 m ρ c main_v13_1 : FVec Ideal S4096x2816 .bf16) = buf2 (DA1 (args m c)) :=
  (W4_arr m ρ c 9).trans ((Reg2.da1_out (V3 m ρ) c).trans (congrArg buf2 (r_da1 m ρ c)))
theorem e4_da3 : (V4 m ρ c main_v13_2 : FVec Ideal S4096x2816 .bf16) = buf2 (DA3 (args m c)) :=
  (W4_arr m ρ c 10).trans ((Reg2.da3_out (V3 m ρ) c).trans (congrArg buf2 (r_da3 m ρ c)))
theorem e4_dgn : (V4 m ρ c main_v13_3 : FVec Ideal S1x1024 .f32) = buf1 (dgn (args m c)) :=
  (W4_arr m ρ c 11).trans ((Reg2.dg_out (V3 m ρ) c).trans (congrArg buf1 (r_dgn m ρ c)))
theorem e4_hn : (V4 m ρ c main_v11_5 : FVec Ideal S4096x1024 .bf16) = buf2 (HN (args m c)) :=
  ((W4_of m ρ c main_v11_5 (by decide)).trans (W3_of m ρ c main_v11_5 (by decide))).trans (e2_hn m ρ c)
theorem e5_hn : (V5 m ρ c main_v11_5 : FVec Ideal S4096x1024 .bf16) = buf2 (HN (args m c)) :=
  (((W5_of m ρ c main_v11_5 (by decide)).trans (W4_of m ρ c main_v11_5 (by decide))).trans (W3_of m ρ c main_v11_5 (by decide))).trans (e2_hn m ρ c)
theorem e5_da3 : (V5 m ρ c main_v13_2 : FVec Ideal S4096x2816 .bf16) = buf2 (DA3 (args m c)) :=
  (W5_of m ρ c main_v13_2 (by decide)).trans (e4_da3 m ρ c)
theorem e6_hm : (V6 m ρ c main_v11_4 : FVec Ideal S4096x2816 .bf16) = buf2 (HM (args m c)) :=
  ((((W6_of m ρ c main_v11_4 (by decide)).trans (W5_of m ρ c main_v11_4 (by decide))).trans (W4_of m ρ c main_v11_4 (by decide))).trans (W3_of m ρ c main_v11_4 (by decide))).trans (e2_hm m ρ c)
theorem e6_d2b : (V6 m ρ c main_v12_1 : FVec Ideal S4096x1024 .bf16) = buf2 (D2 (args m c)) :=
  (((W6_of m ρ c main_v12_1 (by decide)).trans (W5_of m ρ c main_v12_1 (by decide))).trans (W4_of m ρ c main_v12_1 (by decide))).trans (e3_d2b m ρ c)
theorem e5_dw1 : (V5 m ρ c main_v14 : FVec Ideal S1024x2816 .f32) = buf2 (dw1 (args m c)) := by
  refine (W5_arr m ρ c 2).trans ((Reg3.out (V4 m ρ) c).trans ?_)
  rw [e4_hn, e4_da1, mat_buf2, mat_buf2, dw1]
theorem e6_dw3 : (V6 m ρ c main_v15 : FVec Ideal S1024x2816 .f32) = buf2 (dw3 (args m c)) := by
  refine (W6_arr m ρ c 2).trans ((Reg4.out (V5 m ρ) c).trans ?_)
  rw [e5_hn, e5_da3, mat_buf2, mat_buf2, dw3]
theorem e7_dw2 : (V7 m ρ c main_v16 : FVec Ideal S2816x1024 .f32) = buf2 (dw2 (args m c)) := by
  refine (W7_arr m ρ c 2).trans ((Reg5.out (V6 m ρ) c).trans ?_)
  rw [e6_hm, e6_d2b, mat_buf2, mat_buf2, dw2]
theorem e7_loss : (V7 m ρ c main_v12_2 : FVec Ideal S8x128 .f32) = (fun _ => loss (args m c)) :=
  ((((W7_of m ρ c main_v12_2 (by decide)).trans (W6_of m ρ c main_v12_2 (by decide))).trans (W5_of m ρ c main_v12_2 (by decide))).trans (W4_of m ρ c main_v12_2 (by decide))).trans (e3_loss m ρ c)
theorem e7_dgp : (V7 m ρ c main_v12_3 : FVec Ideal S1x1024 .f32) = buf1 (dgp (args m c)) :=
  ((((W7_of m ρ c main_v12_3 (by decide)).trans (W6_of m ρ c main_v12_3 (by decide))).trans (W5_of m ρ c main_v12_3 (by decide))).trans (W4_of m ρ c main_v12_3 (by decide))).trans (e3_dgp m ρ c)
theorem e7_dgf : (V7 m ρ c main_v12_4 : FVec Ideal S1x1024 .f32) = buf1 (dgf (args m c)) :=
  ((((W7_of m ρ c main_v12_4 (by decide)).trans (W6_of m ρ c main_v12_4 (by decide))).trans (W5_of m ρ c main_v12_4 (by decide))).trans (W4_of m ρ c main_v12_4 (by decide))).trans (e3_dgf m ρ c)
theorem e7_dgn : (V7 m ρ c main_v13_3 : FVec Ideal S1x1024 .f32) = buf1 (dgn (args m c)) :=
  (((W7_of m ρ c main_v13_3 (by decide)).trans (W6_of m ρ c main_v13_3 (by decide))).trans (W5_of m ρ c main_v13_3 (by decide))).trans (e4_dgn m ρ c)

/-! ### The results -/

theorem f_d1 : (W8 m ρ c (Proc.devRef .tc main_v13_0) : FVec Ideal S4096x1024 .f32) = buf2 (D1 (args m c)) :=
  ((W8_of m ρ c main_v13_0 (by decide)).trans (((W7_of m ρ c main_v13_0 (by decide)).trans (W6_of m ρ c main_v13_0 (by decide))).trans (W5_of m ρ c main_v13_0 (by decide)))).trans (e4_d1 m ρ c)
theorem f_dw1 : (W8 m ρ c (Proc.devRef .tc main_v14) : FVec Ideal S1024x2816 .f32) = buf2 (dw1 (args m c)) :=
  ((W8_of m ρ c main_v14 (by decide)).trans ((W7_of m ρ c main_v14 (by decide)).trans (W6_of m ρ c main_v14 (by decide)))).trans (e5_dw1 m ρ c)
theorem f_dw3 : (W8 m ρ c (Proc.devRef .tc main_v15) : FVec Ideal S1024x2816 .f32) = buf2 (dw3 (args m c)) :=
  ((W8_of m ρ c main_v15 (by decide)).trans (W7_of m ρ c main_v15 (by decide))).trans (e6_dw3 m ρ c)
theorem f_dw2 : (W8 m ρ c (Proc.devRef .tc main_v16) : FVec Ideal S2816x1024 .f32) = buf2 (dw2 (args m c)) :=
  ((W8_of m ρ c main_v16 (by decide))).trans (e7_dw2 m ρ c)
theorem f_dwg : (W8 m ρ c (Proc.devRef .tc main_v12_5) : FVec Ideal S1024x1024 .f32) = buf2 (dwg (args m c)) :=
  ((W8_of m ρ c main_v12_5 (by decide)).trans ((((W7_of m ρ c main_v12_5 (by decide)).trans (W6_of m ρ c main_v12_5 (by decide))).trans (W5_of m ρ c main_v12_5 (by decide))).trans (W4_of m ρ c main_v12_5 (by decide)))).trans (e3_dwg m ρ c)
theorem f_dwu : (W8 m ρ c (Proc.devRef .tc main_v12_6) : FVec Ideal S256x1024 .f32) = buf2 (dwu (args m c)) :=
  ((W8_of m ρ c main_v12_6 (by decide)).trans ((((W7_of m ρ c main_v12_6 (by decide)).trans (W6_of m ρ c main_v12_6 (by decide))).trans (W5_of m ρ c main_v12_6 (by decide))).trans (W4_of m ρ c main_v12_6 (by decide)))).trans (e3_dwu m ρ c)
theorem f_loss : (W8 m ρ c (Proc.devRef .tc main_v18) : FVec Ideal S_ .f32) = fun _ => loss (args m c) := by
  funext i
  show (StableHlo.after hostOps6 (W7 m ρ c) (Proc.devRef .tc main_v18) : FVec Ideal S_ .f32) i = _
  after_results
  have e := e7_loss m ρ c
  pointwise [e]
theorem f_dgn : (W8 m ρ c (Proc.devRef .tc main_v19) : FVec Ideal S1024 .f32) = fun i => dgn (args m c) (i 0) := by
  funext i
  show (StableHlo.after hostOps6 (W7 m ρ c) (Proc.devRef .tc main_v19) : FVec Ideal S1024 .f32) i = _
  after_results
  have e := e7_dgn m ρ c
  pointwise [e, buf1]
theorem f_dgp : (W8 m ρ c (Proc.devRef .tc main_v20) : FVec Ideal S1024 .f32) = fun i => dgp (args m c) (i 0) := by
  funext i
  show (StableHlo.after hostOps6 (W7 m ρ c) (Proc.devRef .tc main_v20) : FVec Ideal S1024 .f32) i = _
  after_results
  have e := e7_dgp m ρ c
  pointwise [e, buf1]
theorem f_dgf : (W8 m ρ c (Proc.devRef .tc main_v21) : FVec Ideal S1024 .f32) = fun i => dgf (args m c) (i 0) := by
  funext i
  show (StableHlo.after hostOps6 (W7 m ρ c) (Proc.devRef .tc main_v21) : FVec Ideal S1024 .f32) i = _
  after_results
  have e := e7_dgf m ρ c
  pointwise [e, buf1]

end Cert.Total

end
-- ==== Proof.Ref.lean ====
/-
  The reference program, one stage at a time: each operation's value at an index is the stage of the step it computes.
-/
module

public import proofs.«01_k».proof.Proof.Gen.HalfRefIdeal.Read
public import proofs.«01_k».proof.Proof.Whole

@[expose] public section

set_option maxRecDepth 16384

noncomputable section

namespace Cert.Ref

open Idealize.ShloMosaic Idealize.ShloMosaic.TcCoe Idealize.SL.Sem Idealize.ShloMosaic.StableHlo
open Cert.HalfRefIdeal Cert.HalfRefIdeal.Gen Cert.HalfRefIdeal.Read Cert.Spec Cert.Whole

variable (X : Args)

/-- Four summands, the last three bracketed together. -/
theorem add_assoc4 (a b c d : EReal) : a + b + c + d = a + (b + c + d) := by simp only [add_assoc]

/-- The residual row the gated layer reads. -/
theorem h1_eq (t : Fin 4096) (j : Fin 1024) :
    val_main_v2 (F := Ideal) X.x X.s X.r X.wo (ix2 t j) = H1 X t j := by
  pointwise [val_main_v0, val_main_v1, val_main_v2]
  exact add_assoc _ _ _ |>.symm
/-- Mean of squares plus epsilon, -/
theorem n1_ms (t : Fin 4096) :
    val_main_v9 (F := Ideal) X.x X.s X.r X.wo (ix2 t 0) = ms (H1 X t) := by
  pointwise [val_main_v3, val_main_v4, val_main_v5, val_main_v6, val_main_v7, val_main_v8, val_main_v9, val_main_cst_1, val_main_cst_0, val_main_cst, h1_eq, zero_add]
  rfl
/-- its reciprocal root, -/
theorem n1_rs (t : Fin 4096) :
    val_main_v10 (F := Ideal) X.x X.s X.r X.wo (ix2 t 0) = rs (H1 X t) := by
  pointwise [val_main_v10, n1_ms]
  rfl
/-- the root's derivative, -/
theorem n1_qs (t : Fin 4096) :
    val_main_v13 (F := Ideal) X.x X.s X.r X.wo (ix2 t 0) = qs (H1 X t) := by
  pointwise [val_main_v11, val_main_v12, val_main_v13, val_main_cst_2, n1_ms, n1_rs]
  rfl
/-- the row without its gain, -/
theorem n1_hat (t : Fin 4096) (j : Fin 1024) :
    val_main_v15 (F := Ideal) X.x X.s X.r X.wo (ix2 t j) = hat (H1 X t) j := by
  pointwise [val_main_v14, val_main_v15, h1_eq, n1_rs]
  rfl
/-- and the normalised row. -/
theorem n1_nrm (t : Fin 4096) (j : Fin 1024) :
    val_main_v18 (F := Ideal) X.x X.s X.r X.wo X.gn (ix2 t j) = nrm (H1 X t) (vec X.gn) j := by
  pointwise [val_main_v16, val_main_v17, val_main_v18, n1_hat]
  rfl
/-- The gated branch, -/
theorem a1_eq (t : Fin 4096) (j : Fin 2816) :
    val_main_v19 (F := Ideal) X.x X.s X.r X.wo X.gn X.w1 (ix2 t j) = A1r X t j := by
  pointwise [val_main_v19, n1_nrm]
  rfl
/-- its logistic, -/
theorem s1_eq (t : Fin 4096) (j : Fin 2816) :
    val_main_v20_2 (F := Ideal) X.x X.s X.r X.wo X.gn X.w1 (ix2 t j) = sg (A1r X t j) := by
  pointwise [val_main_call0_v0, val_main_call0_v1, val_main_call0_v3, val_main_v20_2, val_main_call0_v4, val_main_call0_cst_0, val_main_call0_v2, val_main_call0_cst, a1_eq]
  rfl
/-- the derivative of it, -/
theorem ds1_eq (t : Fin 4096) (j : Fin 2816) :
    val_main_v20_1 (F := Ideal) X.x X.s X.r X.wo X.gn X.w1 (ix2 t j) = dsg (A1r X t j) := by
  pointwise [val_main_call0_v7, val_main_v20_1, val_main_call0_v6, val_main_call0_cst_1, s1_eq]
  rfl
/-- the linear branch, -/
theorem a3_eq (t : Fin 4096) (j : Fin 2816) :
    val_main_v21 (F := Ideal) X.x X.s X.r X.wo X.gn X.w3 (ix2 t j) = A3r X t j := by
  pointwise [val_main_v21, n1_nrm]
  rfl
/-- and the hidden row. -/
theorem hm_eq (t : Fin 4096) (j : Fin 2816) :
    val_main_v22 (F := Ideal) X.x X.s X.r X.wo X.gn X.w1 X.w3 (ix2 t j) = HM X t j := by
  pointwise [val_main_v20_0, val_main_v22, a1_eq, s1_eq, a3_eq]
  rfl
/-- The residual row the gated embedding reads. -/
theorem h2_eq (t : Fin 4096) (j : Fin 1024) :
    val_main_v24 (F := Ideal) X.x X.s X.r X.wo X.gn X.w1 X.w3 X.w2 (ix2 t j) = H2 X t j := by
  pointwise [val_main_v23, val_main_v24, h1_eq, hm_eq]
  rfl
/-- Mean of squares plus epsilon, -/
theorem n2_ms (t : Fin 4096) :
    val_main_v31 (F := Ideal) X.x X.s X.r X.wo X.gn X.w1 X.w3 X.w2 (ix2 t 0) = ms (H2 X t) := by
  pointwise [val_main_v25, val_main_v26, val_main_v27, val_main_v28, val_main_v29, val_main_v30, val_main_v31, val_main_cst_5, val_main_cst_4, val_main_cst_3, h2_eq, zero_add]
  rfl
/-- its reciprocal root, -/
theorem n2_rs (t : Fin 4096) :
    val_main_v32 (F := Ideal) X.x X.s X.r X.wo X.gn X.w1 X.w3 X.w2 (ix2 t 0) = rs (H2 X t) := by
  pointwise [val_main_v32, n2_ms]
  rfl
/-- the root's derivative, -/
theorem n2_qs (t : Fin 4096) :
    val_main_v35 (F := Ideal) X.x X.s X.r X.wo X.gn X.w1 X.w3 X.w2 (ix2 t 0) = qs (H2 X t) := by
  pointwise [val_main_v33, val_main_v34, val_main_v35, val_main_cst_6, n2_ms, n2_rs]
  rfl
/-- the row without its gain, -/
theorem n2_hat (t : Fin 4096) (j : Fin 1024) :
    val_main_v37 (F := Ideal) X.x X.s X.r X.wo X.gn X.w1 X.w3 X.w2 (ix2 t j) = hat (H2 X t) j := by
  pointwise [val_main_v36, val_main_v37, h2_eq, n2_rs]
  rfl
/-- and the normalised row. -/
theorem n2_nrm (t : Fin 4096) (j : Fin 1024) :
    val_main_v40 (F := Ideal) X.x X.s X.r X.wo X.gn X.w1 X.w3 X.w2 X.gp (ix2 t j) = nrm (H2 X t) (vec X.gp) j := by
  pointwise [val_main_v38, val_main_v39, val_main_v40, n2_hat]
  rfl
/-- The gate's argument, -/
theorem z_eq (t : Fin 4096) (j : Fin 1024) :
    val_main_v41 (F := Ideal) X.x X.s X.r X.wo X.gn X.w1 X.w3 X.w2 X.gp X.wg (ix2 t j) = mv (nrm (H2 X t) (vec X.gp)) (mat X.wg) j := by
  pointwise [val_main_v41, n2_nrm]
  rfl
/-- the gate, -/
theorem gate_eq (t : Fin 4096) (j : Fin 1024) :
    val_main_v47 (F := Ideal) X.x X.s X.r X.wo X.gn X.w1 X.w3 X.w2 X.gp X.wg (ix2 t j) = gate (H2 X t) (vec X.gp) (mat X.wg) j := by
  pointwise [val_main_v42, val_main_v43, val_main_v45, val_main_v47, val_main_v46, val_main_cst_8, val_main_v44, val_main_cst_7, z_eq]
  rfl
/-- its derivative, -/
theorem dgate_eq (t : Fin 4096) (j : Fin 1024) :
    val_main_v50 (F := Ideal) X.x X.s X.r X.wo X.gn X.w1 X.w3 X.w2 X.gp X.wg (ix2 t j) = dsg (mv (nrm (H2 X t) (vec X.gp)) (mat X.wg) j) := by
  pointwise [val_main_v49, val_main_v50, val_main_v48, val_main_cst_9, gate_eq]
  rfl
/-- and the projected embedding. -/
theorem pu_eq (t : Fin 4096) (j : Fin 1024) :
    val_main_v51 (F := Ideal) X.p X.wu (ix2 t j) = mv (mat X.p t) (mat X.wu) j := by
  pointwise [val_main_v51]
  rfl
/-- The residual row the loss reads. -/
theorem h3_eq (t : Fin 4096) (j : Fin 1024) :
    val_main_v53 (F := Ideal) X.x X.s X.r X.p X.wo X.gn X.w1 X.w3 X.w2 X.gp X.wg X.wu (ix2 t j) = H3 X t j := by
  pointwise [val_main_v52, val_main_v53, h2_eq, gate_eq, pu_eq]
  rfl
/-- Mean of squares plus epsilon, -/
theorem n3_ms (t : Fin 4096) :
    val_main_v60 (F := Ideal) X.x X.s X.r X.p X.wo X.gn X.w1 X.w3 X.w2 X.gp X.wg X.wu (ix2 t 0) = ms (H3 X t) := by
  pointwise [val_main_v54, val_main_v55, val_main_v56, val_main_v57, val_main_v58, val_main_v59, val_main_v60, val_main_cst_12, val_main_cst_11, val_main_cst_10, h3_eq, zero_add]
  rfl
/-- its reciprocal root, -/
theorem n3_rs (t : Fin 4096) :
    val_main_v61 (F := Ideal) X.x X.s X.r X.p X.wo X.gn X.w1 X.w3 X.w2 X.gp X.wg X.wu (ix2 t 0) = rs (H3 X t) := by
  pointwise [val_main_v61, n3_ms]
  rfl
/-- the root's derivative, -/
theorem n3_qs (t : Fin 4096) :
    val_main_v64 (F := Ideal) X.x X.s X.r X.p X.wo X.gn X.w1 X.w3 X.w2 X.gp X.wg X.wu (ix2 t 0) = qs (H3 X t) := by
  pointwise [val_main_v62, val_main_v63, val_main_v64, val_main_cst_13, n3_ms, n3_rs]
  rfl
/-- the row without its gain, -/
theorem n3_hat (t : Fin 4096) (j : Fin 1024) :
    val_main_v66 (F := Ideal) X.x X.s X.r X.p X.wo X.gn X.w1 X.w3 X.w2 X.gp X.wg X.wu (ix2 t j) = hat (H3 X t) j := by
  pointwise [val_main_v65, val_main_v66, h3_eq, n3_rs]
  rfl
/-- and the normalised row. -/
theorem n3_nrm (t : Fin 4096) (j : Fin 1024) :
    val_main_v69 (F := Ideal) X.x X.s X.r X.p X.wo X.gn X.w1 X.w3 X.w2 X.gp X.wg X.wu X.gf (ix2 t j) = nrm (H3 X t) (vec X.gf) j := by
  pointwise [val_main_v67, val_main_v68, val_main_v69, n3_hat]
  rfl
/-- The error, -/
theorem err_eq (t : Fin 4096) (j : Fin 1024) :
    val_main_v70 (F := Ideal) X.x X.s X.r X.p X.tg X.wo X.gn X.w1 X.w3 X.w2 X.gp X.wg X.wu X.gf (ix2 t j) = err (H3 X t) (vec X.gf) (mat X.tg t) j := by
  pointwise [val_main_v70, n3_nrm]
  rfl
/-- its mean square, -/
theorem mse_eq (t : Fin 4096) :
    val_main_v76 (F := Ideal) X.x X.s X.r X.p X.tg X.wo X.gn X.w1 X.w3 X.w2 X.gp X.wg X.wu X.gf (ix1 t) = mse (H3 X t) (vec X.gf) (mat X.tg t) := by
  pointwise [val_main_v71, val_main_v74, val_main_v76, val_main_v75, val_main_cst_16, val_main_cst_15, err_eq, zero_add]
  rfl
/-- and the loss. -/
theorem loss_eq  :
    val_main_v78 (F := Ideal) X.x X.s X.r X.p X.tg X.wo X.gn X.w1 X.w3 X.w2 X.gp X.wg X.wu X.gf (ix0) = loss X := by
  pointwise [val_main_v77, val_main_v78, val_main_cst_18, val_main_cst_17, mse_eq, zero_add]
  rfl
/-- The error's cotangent. -/
theorem dout_eq (t : Fin 4096) (j : Fin 1024) :
    val_main_v84 (F := Ideal) X.x X.s X.r X.p X.tg X.wo X.gn X.w1 X.w3 X.w2 X.gp X.wg X.wu X.gf (ix2 t j) = dout (H3 X t) (vec X.gf) (mat X.tg t) j := by
  pointwise [val_main_v73, val_main_v84, val_main_v83, val_main_v82, val_main_v80, val_main_v81, val_main_cst_21, val_main_v79, val_main_cst_19, val_main_cst_20, val_main_v72, val_main_cst_14, err_eq, mul_one]
  exact Spec.dout_eq _ _ _ _
/-- The final gain's gradient. -/
theorem dgf_eq (j : Fin 1024) :
    val_main_v90 (F := Ideal) X.x X.s X.r X.p X.tg X.wo X.gn X.w1 X.w3 X.w2 X.gp X.wg X.wu X.gf (ix1 j) = dgf X j := by
  pointwise [val_main_v85, val_main_v86, val_main_v87, val_main_v90, val_main_cst_23, val_main_cst_22, n3_hat, dout_eq, zero_add, Fin.sum_univ_one]
  rfl
/-- The share through the mean, once for the row, -/
theorem c3_eq (t : Fin 4096) (j : Fin 1024) :
    val_main_v100 (F := Ideal) X.x X.s X.r X.p X.tg X.wo X.gn X.w1 X.w3 X.w2 X.gp X.wg X.wu X.gf (ix2 t j) = nbc (H3 X t) (vec X.gf) (dout (H3 X t) (vec X.gf) (mat X.tg t)) := by
  pointwise [val_main_v67, val_main_v88, val_main_v89, val_main_v91, val_main_v92, val_main_v93, val_main_v96, val_main_v97, val_main_v98, val_main_v99, val_main_v100, val_main_cst_26, val_main_cst_25, val_main_cst_24, h3_eq, dout_eq, n3_qs, zero_add, Fin.sum_univ_one]
  rfl
/-- and the cotangent of the row the loss reads. -/
theorem d3_eq (t : Fin 4096) (j : Fin 1024) :
    val_main_v104 (F := Ideal) X.x X.s X.r X.p X.tg X.wo X.gn X.w1 X.w3 X.w2 X.gp X.wg X.wu X.gf (ix2 t j) = D3 X t j := by
  pointwise [val_main_v67, val_main_v88, val_main_v89, val_main_v94, val_main_v95, val_main_v101, val_main_v102, val_main_v103, val_main_v104, h3_eq, dout_eq, n3_rs, c3_eq]
  rfl
/-- The cotangent of the embedding's projection, -/
theorem dpu_eq (t : Fin 4096) (j : Fin 1024) :
    val_main_v105 (F := Ideal) X.x X.s X.r X.p X.tg X.wo X.gn X.w1 X.w3 X.w2 X.gp X.wg X.wu X.gf (ix2 t j) = DPU X t j := by
  pointwise [val_main_v105, gate_eq, d3_eq]
  rfl
/-- its weight's gradient, -/
theorem dwu_eq (i : Fin 256) (j : Fin 1024) :
    val_main_v108 (F := Ideal) X.x X.s X.r X.p X.tg X.wo X.gn X.w1 X.w3 X.w2 X.gp X.wg X.wu X.gf (ix2 i j) = dwu X i j := by
  pointwise [val_main_v107, val_main_v108, dpu_eq]
  exact Finset.sum_congr rfl fun _ _ => mul_comm _ _
/-- the cotangent of the gate's argument, -/
theorem dz_eq (t : Fin 4096) (j : Fin 1024) :
    val_main_v109 (F := Ideal) X.x X.s X.r X.p X.tg X.wo X.gn X.w1 X.w3 X.w2 X.gp X.wg X.wu X.gf (ix2 t j) = DZ X t j := by
  pointwise [val_main_v106, val_main_v109, d3_eq, pu_eq, dgate_eq]
  rfl
/-- its weight's gradient, -/
theorem dwg_eq (i j : Fin 1024) :
    val_main_v111 (F := Ideal) X.x X.s X.r X.p X.tg X.wo X.gn X.w1 X.w3 X.w2 X.gp X.wg X.wu X.gf (ix2 i j) = dwg X i j := by
  pointwise [val_main_v110, val_main_v111, dz_eq, n2_nrm]
  exact Finset.sum_congr rfl fun _ _ => mul_comm _ _
/-- and the cotangent of the normalised row. -/
theorem dhp_eq (t : Fin 4096) (j : Fin 1024) :
    val_main_v112 (F := Ideal) X.x X.s X.r X.p X.tg X.wo X.gn X.w1 X.w3 X.w2 X.gp X.wg X.wu X.gf (ix2 t j) = mvT (DZ X t) (mat X.wg) j := by
  pointwise [val_main_v112, dz_eq]
  rfl
/-- The embedding gain's gradient. -/
theorem dgp_eq (j : Fin 1024) :
    val_main_v118 (F := Ideal) X.x X.s X.r X.p X.tg X.wo X.gn X.w1 X.w3 X.w2 X.gp X.wg X.wu X.gf (ix1 j) = dgp X j := by
  pointwise [val_main_v113, val_main_v114, val_main_v115, val_main_v118, val_main_cst_28, val_main_cst_27, n2_hat, dhp_eq, zero_add, Fin.sum_univ_one]
  rfl
/-- The share through the mean, once for the row, -/
theorem c2_eq (t : Fin 4096) (j : Fin 1024) :
    val_main_v129 (F := Ideal) X.x X.s X.r X.p X.tg X.wo X.gn X.w1 X.w3 X.w2 X.gp X.wg X.wu X.gf (ix2 t j) = nbc (H2 X t) (vec X.gp) (mvT (DZ X t) (mat X.wg)) := by
  pointwise [val_main_v38, val_main_v116, val_main_v117, val_main_v119, val_main_v120, val_main_v121, val_main_v125, val_main_v126, val_main_v127, val_main_v128, val_main_v129, val_main_cst_31, val_main_cst_30, val_main_cst_29, h2_eq, dhp_eq, n2_qs, zero_add, Fin.sum_univ_one]
  rfl
/-- and the cotangent of the row the gated embedding reads. -/
theorem d2_eq (t : Fin 4096) (j : Fin 1024) :
    val_main_v133 (F := Ideal) X.x X.s X.r X.p X.tg X.wo X.gn X.w1 X.w3 X.w2 X.gp X.wg X.wu X.gf (ix2 t j) = D2 X t j := by
  pointwise [val_main_v38, val_main_v116, val_main_v117, val_main_v122, val_main_v123, val_main_v124, val_main_v130, val_main_v131, val_main_v132, val_main_v133, h2_eq, dhp_eq, n2_rs, c2_eq, d3_eq, add_assoc4]
  rfl
/-- The last weight's gradient, -/
theorem dw2_eq (i : Fin 2816) (j : Fin 1024) :
    val_main_v135 (F := Ideal) X.x X.s X.r X.p X.tg X.wo X.gn X.w1 X.w3 X.w2 X.gp X.wg X.wu X.gf (ix2 i j) = dw2 X i j := by
  pointwise [val_main_v134, val_main_v135, d2_eq, hm_eq]
  exact Finset.sum_congr rfl fun _ _ => mul_comm _ _
/-- the hidden row's cotangent, -/
theorem dhm_eq (t : Fin 4096) (j : Fin 2816) :
    val_main_v136 (F := Ideal) X.x X.s X.r X.p X.tg X.wo X.gn X.w1 X.w3 X.w2 X.gp X.wg X.wu X.gf (ix2 t j) = mvT (D2 X t) (mat X.w2) j := by
  pointwise [val_main_v136, d2_eq]
  rfl
/-- the cotangent of the linear branch, -/
theorem da3_eq (t : Fin 4096) (j : Fin 2816) :
    val_main_v137 (F := Ideal) X.x X.s X.r X.p X.tg X.wo X.gn X.w1 X.w3 X.w2 X.gp X.wg X.wu X.gf (ix2 t j) = DA3 X t j := by
  pointwise [val_main_v20_0, val_main_v137, a1_eq, s1_eq, dhm_eq]
  rfl
/-- of the gated branch, -/
theorem da1_eq (t : Fin 4096) (j : Fin 2816) :
    val_main_v142 (F := Ideal) X.x X.s X.r X.p X.tg X.wo X.gn X.w1 X.w3 X.w2 X.gp X.wg X.wu X.gf (ix2 t j) = DA1 X t j := by
  pointwise [val_main_v138, val_main_call1_v0, val_main_call1_v1, val_main_call1_v2, val_main_v142, a1_eq, s1_eq, ds1_eq, a3_eq, dhm_eq]
  rfl
/-- the weights' gradients, -/
theorem dw3_eq (i : Fin 1024) (j : Fin 2816) :
    val_main_v140 (F := Ideal) X.x X.s X.r X.p X.tg X.wo X.gn X.w1 X.w3 X.w2 X.gp X.wg X.wu X.gf (ix2 i j) = dw3 X i j := by
  pointwise [val_main_v139, val_main_v140, da3_eq, n1_nrm]
  exact Finset.sum_congr rfl fun _ _ => mul_comm _ _
theorem dw1_eq (i : Fin 1024) (j : Fin 2816) :
    val_main_v144 (F := Ideal) X.x X.s X.r X.p X.tg X.wo X.gn X.w1 X.w3 X.w2 X.gp X.wg X.wu X.gf (ix2 i j) = dw1 X i j := by
  pointwise [val_main_v143, val_main_v144, da1_eq, n1_nrm]
  exact Finset.sum_congr rfl fun _ _ => mul_comm _ _
/-- and the cotangent of the normalised row. -/
theorem dn_eq (t : Fin 4096) (j : Fin 1024) :
    val_main_v146 (F := Ideal) X.x X.s X.r X.p X.tg X.wo X.gn X.w1 X.w3 X.w2 X.gp X.wg X.wu X.gf (ix2 t j) = DN X t j := by
  pointwise [val_main_v141, val_main_v145, val_main_v146, da1_eq, da3_eq]
  exact add_comm _ _
/-- The gain's gradient. -/
theorem dgn_eq (j : Fin 1024) :
    val_main_v152 (F := Ideal) X.x X.s X.r X.p X.tg X.wo X.gn X.w1 X.w3 X.w2 X.gp X.wg X.wu X.gf (ix1 j) = dgn X j := by
  pointwise [val_main_v147, val_main_v148, val_main_v149, val_main_v152, val_main_cst_33, val_main_cst_32, n1_hat, dn_eq, zero_add, Fin.sum_univ_one]
  rfl
/-- The share through the mean, once for the row, -/
theorem c1_eq (t : Fin 4096) (j : Fin 1024) :
    val_main_v163 (F := Ideal) X.x X.s X.r X.p X.tg X.wo X.gn X.w1 X.w3 X.w2 X.gp X.wg X.wu X.gf (ix2 t j) = nbc (H1 X t) (vec X.gn) (DN X t) := by
  pointwise [val_main_v16, val_main_v150, val_main_v151, val_main_v153, val_main_v154, val_main_v155, val_main_v159, val_main_v160, val_main_v161, val_main_v162, val_main_v163, val_main_cst_36, val_main_cst_35, val_main_cst_34, h1_eq, dn_eq, n1_qs, zero_add, Fin.sum_univ_one]
  rfl
/-- and the cotangent of the row the gated layer reads. -/
theorem d1_eq (t : Fin 4096) (j : Fin 1024) :
    val_main_v167 (F := Ideal) X.x X.s X.r X.p X.tg X.wo X.gn X.w1 X.w3 X.w2 X.gp X.wg X.wu X.gf (ix2 t j) = D1 X t j := by
  pointwise [val_main_v16, val_main_v150, val_main_v151, val_main_v156, val_main_v157, val_main_v158, val_main_v164, val_main_v165, val_main_v166, val_main_v167, h1_eq, dn_eq, n1_rs, c1_eq, d2_eq, add_assoc4]
  rfl

end Cert.Ref

end
-- ==== Proof.HalfClaim.lean ====
/-
  The run of the whole program with its results named, and the equality with the reference.
-/
module

public import proofs.«01_k».proof.Defs
public import proofs.«01_k».proof.Proof.Total
public import proofs.«01_k».proof.Proof.Ref
public import proofs.«01_k».proof.Proof.Gen.HalfRefIdeal
public import proofs.«01_k».proof.Proof.Gen.HalfRefIdeal.Run
public import proofs.«01_k».proof.Proof.Gen.HalfRefIdeal.Read
public import Idealize.ShloMosaic.Lib.Claim

@[expose] public section

set_option maxRecDepth 16384

noncomputable section

namespace Cert.HalfClaim

section Run

open Idealize.ShloMosaic Idealize.ShloMosaic.TcCoe Idealize.SL.Sem
open Cert.HalfIdeal Cert.HalfIdeal.Gen
open Cert.Spec hiding eq_ix2
open Cert.Whole Cert.Total

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v18) = (fun _ => loss (args m c) : FVec Ideal S_ .f32)
    ∧ r.2.mem ((c : Thread nD τ).loc main_v13_0) = (buf2 (D1 (args m c)) : FVec Ideal S4096x1024 .f32)
    ∧ r.2.mem ((c : Thread nD τ).loc main_v19) = (fun i => dgn (args m c) (i 0) : FVec Ideal S1024 .f32)
    ∧ r.2.mem ((c : Thread nD τ).loc main_v14) = (buf2 (dw1 (args m c)) : FVec Ideal S1024x2816 .f32)
    ∧ r.2.mem ((c : Thread nD τ).loc main_v15) = (buf2 (dw3 (args m c)) : FVec Ideal S1024x2816 .f32)
    ∧ r.2.mem ((c : Thread nD τ).loc main_v16) = (buf2 (dw2 (args m c)) : FVec Ideal S2816x1024 .f32)
    ∧ r.2.mem ((c : Thread nD τ).loc main_v20) = (fun i => dgp (args m c) (i 0) : FVec Ideal S1024 .f32)
    ∧ r.2.mem ((c : Thread nD τ).loc main_v12_5) = (buf2 (dwg (args m c)) : FVec Ideal S1024x1024 .f32)
    ∧ r.2.mem ((c : Thread nD τ).loc main_v12_6) = (buf2 (dwu (args m c)) : FVec Ideal S256x1024 .f32)
    ∧ r.2.mem ((c : Thread nD τ).loc main_v21) = (fun i => dgf (args m c) (i 0) : FVec Ideal S1024 .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)) :=
  θ_run_mono (Cert.Run.run m ρ) (fun r h c =>
    ⟨(h c _ (mem_uc main_v18 (by decide))).trans (f_loss m ρ c),
     (h c _ (mem_uc main_v13_0 (by decide))).trans (f_d1 m ρ c),
     (h c _ (mem_uc main_v19 (by decide))).trans (f_dgn m ρ c),
     (h c _ (mem_uc main_v14 (by decide))).trans (f_dw1 m ρ c),
     (h c _ (mem_uc main_v15 (by decide))).trans (f_dw3 m ρ c),
     (h c _ (mem_uc main_v16 (by decide))).trans (f_dw2 m ρ c),
     (h c _ (mem_uc main_v20 (by decide))).trans (f_dgp m ρ c),
     (h c _ (mem_uc main_v12_5 (by decide))).trans (f_dwg m ρ c),
     (h c _ (mem_uc main_v12_6 (by decide))).trans (f_dwu m ρ c),
     (h c _ (mem_uc main_v21 (by decide))).trans (f_dgf m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c)⟩)

end Run

open Idealize.ShloMosaic Idealize.SL.Sem
open Cert.Spec hiding eq_ix2
open Cert.HalfRefIdeal.Read

theorem ref_loss (X : Whole.Args) : val_main_v78 (F := Ideal) X.x X.s X.r X.p X.tg X.wo X.gn X.w1 X.w3 X.w2 X.gp X.wg X.wu X.gf = fun _ => Whole.loss X := by
  funext i
  obtain rfl : i = ix0 := by funext a; exact a.elim0
  exact Ref.loss_eq X
theorem ref_d1 (X : Whole.Args) : val_main_v167 (F := Ideal) X.x X.s X.r X.p X.tg X.wo X.gn X.w1 X.w3 X.w2 X.gp X.wg X.wu X.gf = buf2 (Whole.D1 X) := by
  funext i
  exact (congrArg _ (Cert.Spec.eq_ix2 i)).trans (Ref.d1_eq X (i 0) (i 1))
theorem ref_dgn (X : Whole.Args) : val_main_v152 (F := Ideal) X.x X.s X.r X.p X.tg X.wo X.gn X.w1 X.w3 X.w2 X.gp X.wg X.wu X.gf = fun i => Whole.dgn X (i 0) := by
  funext i
  obtain ⟨j, rfl⟩ : ∃ j, i = ix1 j := ⟨i 0, by funext a; fin_cases a; rfl⟩
  exact Ref.dgn_eq X j
theorem ref_dw1 (X : Whole.Args) : val_main_v144 (F := Ideal) X.x X.s X.r X.p X.tg X.wo X.gn X.w1 X.w3 X.w2 X.gp X.wg X.wu X.gf = buf2 (Whole.dw1 X) := by
  funext i
  exact (congrArg _ (Cert.Spec.eq_ix2 i)).trans (Ref.dw1_eq X (i 0) (i 1))
theorem ref_dw3 (X : Whole.Args) : val_main_v140 (F := Ideal) X.x X.s X.r X.p X.tg X.wo X.gn X.w1 X.w3 X.w2 X.gp X.wg X.wu X.gf = buf2 (Whole.dw3 X) := by
  funext i
  exact (congrArg _ (Cert.Spec.eq_ix2 i)).trans (Ref.dw3_eq X (i 0) (i 1))
theorem ref_dw2 (X : Whole.Args) : val_main_v135 (F := Ideal) X.x X.s X.r X.p X.tg X.wo X.gn X.w1 X.w3 X.w2 X.gp X.wg X.wu X.gf = buf2 (Whole.dw2 X) := by
  funext i
  exact (congrArg _ (Cert.Spec.eq_ix2 i)).trans (Ref.dw2_eq X (i 0) (i 1))
theorem ref_dgp (X : Whole.Args) : val_main_v118 (F := Ideal) X.x X.s X.r X.p X.tg X.wo X.gn X.w1 X.w3 X.w2 X.gp X.wg X.wu X.gf = fun i => Whole.dgp X (i 0) := by
  funext i
  obtain ⟨j, rfl⟩ : ∃ j, i = ix1 j := ⟨i 0, by funext a; fin_cases a; rfl⟩
  exact Ref.dgp_eq X j
theorem ref_dwg (X : Whole.Args) : val_main_v111 (F := Ideal) X.x X.s X.r X.p X.tg X.wo X.gn X.w1 X.w3 X.w2 X.gp X.wg X.wu X.gf = buf2 (Whole.dwg X) := by
  funext i
  exact (congrArg _ (Cert.Spec.eq_ix2 i)).trans (Ref.dwg_eq X (i 0) (i 1))
theorem ref_dwu (X : Whole.Args) : val_main_v108 (F := Ideal) X.x X.s X.r X.p X.tg X.wo X.gn X.w1 X.w3 X.w2 X.gp X.wg X.wu X.gf = buf2 (Whole.dwu X) := by
  funext i
  exact (congrArg _ (Cert.Spec.eq_ix2 i)).trans (Ref.dwu_eq X (i 0) (i 1))
theorem ref_dgf (X : Whole.Args) : val_main_v90 (F := Ideal) X.x X.s X.r X.p X.tg X.wo X.gn X.w1 X.w3 X.w2 X.gp X.wg X.wu X.gf = fun i => Whole.dgf X (i 0) := by
  funext i
  obtain ⟨j, rfl⟩ : ∃ j, i = ix1 j := ⟨i 0, by funext a; fin_cases a; rfl⟩
  exact Ref.dgf_eq X j

/-- The arguments as the reference finds them. -/
abbrev rargs (m' : (ℓ : Loc HalfRefIdeal.nD HalfRefIdeal.τ HalfRefIdeal.sig) → Buf (Elt Ideal) ℓ) (c : Dev HalfRefIdeal.nD) : Whole.Args :=
  ⟨StableHlo.launchContents m' c (Proc.devRef .tc HalfRefIdeal.main_arg0), StableHlo.launchContents m' c (Proc.devRef .tc HalfRefIdeal.main_arg1), StableHlo.launchContents m' c (Proc.devRef .tc HalfRefIdeal.main_arg2), StableHlo.launchContents m' c (Proc.devRef .tc HalfRefIdeal.main_arg3), StableHlo.launchContents m' c (Proc.devRef .tc HalfRefIdeal.main_arg4), StableHlo.launchContents m' c (Proc.devRef .tc HalfRefIdeal.main_arg5), StableHlo.launchContents m' c (Proc.devRef .tc HalfRefIdeal.main_arg6), StableHlo.launchContents m' c (Proc.devRef .tc HalfRefIdeal.main_arg7), StableHlo.launchContents m' c (Proc.devRef .tc HalfRefIdeal.main_arg8), StableHlo.launchContents m' c (Proc.devRef .tc HalfRefIdeal.main_arg9), StableHlo.launchContents m' c (Proc.devRef .tc HalfRefIdeal.main_arg10), StableHlo.launchContents m' c (Proc.devRef .tc HalfRefIdeal.main_arg11), StableHlo.launchContents m' c (Proc.devRef .tc HalfRefIdeal.main_arg12), StableHlo.launchContents m' c (Proc.devRef .tc HalfRefIdeal.main_arg13)⟩

/-- The program and its reference end with equal results. -/
theorem algebraic : Cert.algebraic_HalfIdeal_HalfRefIdeal := by
  pair_intro
  · run_from run_out m g
  · have hX : ∀ c : Dev HalfRefIdeal.nD, rargs m' c = Total.args m c := by
      intro c
      obtain ⟨h0, h1, h2, h3, h4, h5, h6, h7, h8, h9, h10, h11, h12, h13⟩ := hagree c
      simp only [rargs, Total.args, StableHlo.launchContents_devRef]
      rw [← h0, ← h1, ← h2, ← h3, ← h4, ← h5, ← h6, ← h7, ← h8, ← h9, ← h10, ← h11, ← h12, ← h13]
    run_from Cert.HalfRefIdeal.Value.run m' g'
    · exact (val_main_v78_eq (StableHlo.launchContents m' c)).trans ((ref_loss (rargs m' c)).trans (by rw [hX c]))
    · exact (val_main_v167_eq (StableHlo.launchContents m' c)).trans ((ref_d1 (rargs m' c)).trans (by rw [hX c]))
    · exact (val_main_v152_eq (StableHlo.launchContents m' c)).trans ((ref_dgn (rargs m' c)).trans (by rw [hX c]))
    · exact (val_main_v144_eq (StableHlo.launchContents m' c)).trans ((ref_dw1 (rargs m' c)).trans (by rw [hX c]))
    · exact (val_main_v140_eq (StableHlo.launchContents m' c)).trans ((ref_dw3 (rargs m' c)).trans (by rw [hX c]))
    · exact (val_main_v135_eq (StableHlo.launchContents m' c)).trans ((ref_dw2 (rargs m' c)).trans (by rw [hX c]))
    · exact (val_main_v118_eq (StableHlo.launchContents m' c)).trans ((ref_dgp (rargs m' c)).trans (by rw [hX c]))
    · exact (val_main_v111_eq (StableHlo.launchContents m' c)).trans ((ref_dwg (rargs m' c)).trans (by rw [hX c]))
    · rw [← (hagree c).2.2.2.1]
      exact (val_main_v108_eq (StableHlo.launchContents m' c)).trans ((ref_dwu (rargs m' c)).trans (by rw [hX c]))
    · exact (val_main_v90_eq (StableHlo.launchContents m' c)).trans ((ref_dgf (rargs m' c)).trans (by rw [hX c]))

end Cert.HalfClaim

end
-- ==== Proof.GluSpec.lean ====
/-
  The first mixer's gate as plain functions of one token's row, and its cotangents; the scalar laws that set the two programs'
  derivatives of the tanh nonlinearity equal.
-/
module

public import proofs.«01_k».proof.Proof.Whole

@[expose] public section

noncomputable section

namespace Cert.GluSpec

open Idealize.ShloMosaic Cert.Spec
open Cert.Whole (A1 A2)

/-- The cubic term's coefficient -/
def kA : EReal := Ideal.ofBits .f32 0x3D372713#32
/-- and the factor under the tanh, as the programs' bit patterns. -/
def kB : EReal := Ideal.ofBits .f32 0x3F4C422A#32

/-- The tanh in the nonlinearity, -/
def gt (x : EReal) : EReal := Ideal.tanh (kB * (x + kA * (x * x * x)))
/-- and the nonlinearity. -/
def ge (x : EReal) : EReal := kH * x * (1 + gt x)
/-- The cotangent through the argument of the tanh, -/
def gu (x d : EReal) : EReal := kB * (kH * x * d * ((1 + gt x) * (1 - gt x)))
/-- and the nonlinearity's cotangent. -/
def dge (x d : EReal) : EReal :=
  gu x d + x * x * (kA * gu x d) + x * (kA * gu x d * x) + kA * gu x d * x * x + kH * (d * (1 + gt x))

/-- The row after the nonlinearity, -/
def zr (y : Row 512) : Row 512 := fun j => ge (y j)
/-- the gate's argument, -/
def ar (y : Row 512) (W : Mat 512 512) (b : Row 512) : Row 512 := fun j => mv (zr y) W j + b j
/-- the gated row; -/
def outr (y : Row 512) (W : Mat 512 512) (b : Row 512) : Row 512 := fun j => zr y j * sg (ar y W b j)
/-- the cotangent of the gate's argument, -/
def der (y : Row 512) (d : Row 1024) (W : Mat 512 512) (b : Row 512) (wt : Mat 512 1024) : Row 512 :=
  fun j => zr y j * mvT d wt j * dsg (ar y W b j)
/-- of the row after the nonlinearity, -/
def dzr (y : Row 512) (d : Row 1024) (W : Mat 512 512) (b : Row 512) (wt : Mat 512 1024) : Row 512 :=
  fun j => mvT d wt j * sg (ar y W b j) + mvT (der y d W b wt) W j
/-- and of the row before it. -/
def dyr (y : Row 512) (d : Row 1024) (W : Mat 512 512) (b : Row 512) (wt : Mat 512 1024) : Row 512 :=
  fun j => dge (y j) (dzr y d W b wt j)

/-- A square is never negative. -/
theorem sq_nonneg (x : EReal) : 0 ≤ x * x := by
  rcases le_total 0 x with h | h
  · exact EReal.mul_nonneg h h
  · have h' : 0 ≤ -x := EReal.neg_nonneg.mpr h
    have e : x * x = -x * -x := by rw [EReal.neg_mul, mul_comm x (-x), EReal.neg_mul, neg_neg]
    rw [e]
    exact EReal.mul_nonneg h' h'

/-- An index of a one-row array is its column's. -/
theorem eq_ix2_one {n : ℕ} (y : Shape.Idx ⟨2, ![1, n]⟩) : y = ix2 0 (y 1) := by
  funext a
  match a with
  | 0 => exact Subsingleton.elim (α := Fin 1) _ _
  | 1 => rfl

/-- The literal three. -/
theorem ofBits_three : Ideal.ofBits .f32 0x40400000#32 = ((3 : ℝ) : EReal) := by
  have h : BitVec.extractLsb' 31 1 0x40400000#32 ≠ 1#1 := by decide
  simp only [Ideal.ofBits, Ideal.ieee]
  norm_num [Nat.shiftRight_eq_div_pow, h]

/-- Three times a number. -/
theorem three_mul_coe (x : EReal) : ((3 : ℝ) : EReal) * x = x + x + x := by
  have h : ((3 : ℝ) : EReal) = 1 + 1 + 1 := by
    rw [show (1 : EReal) = ((1 : ℝ) : EReal) from rfl, ← EReal.coe_add, ← EReal.coe_add]
    norm_num
  rw [h, EReal.right_distrib_of_nonneg (add_nonneg zero_le_one zero_le_one) zero_le_one,
    EReal.right_distrib_of_nonneg zero_le_one zero_le_one, one_mul]

/-- The nonlinearity with its factors in the reference's order. -/
theorem ge_eq (x : EReal) : x * (kH * (1 + gt x)) = ge x := by
  unfold ge
  rw [← mul_assoc, mul_comm x kH]

/-- The nonlinearity's cotangent in the reference's form. -/
theorem dge_eq (x d : EReal) :
    d * (kH * (1 + gt x)) + kB * (kH * (x * d) * ((1 + gt x) * (1 - gt x)))
      + kA * (kB * (kH * (x * d) * ((1 + gt x) * (1 - gt x)))) * (Ideal.ofBits .f32 0x40400000#32 * (x * x)) = dge x d := by
  have h : kB * (kH * (x * d) * ((1 + gt x) * (1 - gt x))) = gu x d := by
    unfold gu
    rw [← mul_assoc kH x d]
  rw [h, ofBits_three, three_mul_coe]
  unfold dge
  generalize gu x d = U
  have hx := sq_nonneg x
  rw [EReal.left_distrib_of_nonneg (add_nonneg hx hx) hx, EReal.left_distrib_of_nonneg hx hx,
    show d * (kH * (1 + gt x)) = kH * (d * (1 + gt x)) from mul_left_comm _ _ _,
    show x * x * (kA * U) = kA * U * (x * x) from mul_comm _ _,
    show x * (kA * U * x) = kA * U * (x * x) from by rw [mul_left_comm],
    show kA * U * x * x = kA * U * (x * x) from mul_assoc _ _ _]
  generalize kA * U * (x * x) = q
  abel

/-- The arguments: the recurrence's output, the cotangent of the residual row, the gate's weight and bias, and the projection's upper rows. -/
structure Args where
  y : A2 4096 512
  d : A2 4096 1024
  W : A2 512 512
  b : A1 512
  wt : A2 512 1024

variable (X : Args)

/-- The cotangent of the gate's argument, -/
def DE : Mat 4096 512 := fun t => der (mat X.y t) (mat X.d t) (mat X.W) (vec X.b) (mat X.wt)
/-- and of the recurrence's output. -/
def DY : Mat 4096 512 := fun t => dyr (mat X.y t) (mat X.d t) (mat X.W) (vec X.b) (mat X.wt)
/-- The gradient of the gate's bias, -/
def DB : Row 512 := fun j => ∑ t, DE X t j
/-- of its weight, -/
def DW : Mat 512 512 := outer (fun t => zr (mat X.y t)) (DE X)
/-- and of the projection's upper rows. -/
def DT : Mat 512 1024 := outer (fun t => outr (mat X.y t) (mat X.W) (vec X.b)) (mat X.d)

end Cert.GluSpec

end
-- ==== Proof.GluPay.lean ====
/-
  What the first mixer's backward body stores, read at an index, as the plain functions of the rows read.
-/
module

public import proofs.«01_k».proof.Proof.Gen.GluIdeal.Skeleton
public import proofs.«01_k».proof.Proof.GluSpec

@[expose] public section

set_option maxRecDepth 16384

noncomputable section

namespace Cert.GluPay

open Idealize.ShloMosaic Idealize.ShloMosaic.TcCoe Idealize.SL.Sem
open Cert.GluIdeal Cert.GluIdeal.Gen Cert.Spec Cert.GluSpec

variable (v0 : FVec Ideal S512x512 .f32) (v1 : FVec Ideal S512x1024 .f32) (v2 : FVec Ideal S512x512 .bf16)
  (v4 : FVec Ideal S1x512 .f32) (v6 : FVec Ideal S512x1024 .bf16)

abbrev P20 := k0_pay20 (F := Ideal) v1 (k0_pay8 v6) (k0_pay14 v0) (k0_pay15 v0 v2 v4) (k0_pay16 v0 v2 v4)
abbrev P21 := k0_pay21 (F := Ideal) v1 (k0_pay8 v6) (k0_pay14 v0) (k0_pay15 v0 v2 v4) (k0_pay16 v0 v2 v4)
abbrev P22 := k0_pay22 (F := Ideal) v0 v1 (k0_pay7 v2) (k0_pay8 v6) (k0_pay9 v0) (k0_pay10 v0) (k0_pay12 v0) (k0_pay13 v0) (k0_pay14 v0)
  (k0_pay15 v0 v2 v4) (k0_pay16 v0 v2 v4) k0_pay17
abbrev P23 := k0_pay23 (F := Ideal) v1 (k0_pay8 v6) (k0_pay14 v0) (k0_pay15 v0 v2 v4) (k0_pay16 v0 v2 v4)
abbrev P24 := k0_pay24 (F := Ideal) v1 (k0_pay14 v0) (k0_pay16 v0 v2 v4) k0_pay17

theorem pay11 (r : Fin 512) (j : Fin 512) : k0_pay11 (F := Ideal) v0 (ix2 r j) = gt (mat v0 r j) := by
  pointwise [k0_pay11, k0_pay10]
  rfl
theorem pay13 (r : Fin 512) (j : Fin 512) : k0_pay13 (F := Ideal) v0 (ix2 r j) = 1 + gt (mat v0 r j) := by
  pointwise [k0_pay13, pay11]
theorem pay12 (r : Fin 512) (j : Fin 512) : k0_pay12 (F := Ideal) v0 (ix2 r j) = (1 + gt (mat v0 r j)) * (1 - gt (mat v0 r j)) := by
  pointwise [k0_pay12, pay11]
theorem pay14 (r : Fin 512) (j : Fin 512) : k0_pay14 (F := Ideal) v0 (ix2 r j) = zr (mat v0 r) j := by
  pointwise [k0_pay14, k0_pay9, pay13]
  rfl
theorem pay15 (r : Fin 512) (j : Fin 512) :
    k0_pay15 (F := Ideal) v0 v2 v4 (ix2 r j) = Ideal.exp (-(ar (mat v0 r) (mat v2) (row0 v4) j)) := by
  pointwise [k0_pay15, k0_pay7, pay14, zero_sub, add_zero]
  rfl
theorem pay16 (r : Fin 512) (j : Fin 512) :
    k0_pay16 (F := Ideal) v0 v2 v4 (ix2 r j) = 1 + Ideal.exp (-(ar (mat v0 r) (mat v2) (row0 v4) j)) := by
  pointwise [k0_pay16, pay15]
theorem pay18 (r : Fin 512) (j : Fin 512) :
    k0_pay18 (F := Ideal) (k0_pay16 v0 v2 v4) k0_pay17 (ix2 r j) = sg (ar (mat v0 r) (mat v2) (row0 v4) j) := by
  pointwise [k0_pay18, k0_pay17, pay16]
  rfl
theorem pay19 (r : Fin 512) (j : Fin 512) :
    k0_pay19 (F := Ideal) v1 (k0_pay8 v6) (ix2 r j) = mvT (mat v1 r) (mat v6) j := by
  pointwise [k0_pay19, k0_pay8]
  rfl
theorem pay20 (r : Fin 512) (j : Fin 512) :
    P20 v0 v1 v2 v4 v6 (ix2 r j) = der (mat v0 r) (mat v1 r) (mat v2) (row0 v4) (mat v6) j := by
  pointwise [k0_pay20, pay19, pay14, pay15, pay16, zero_sub, mul_one]
  exact dsg_factor _ _
theorem pay21 (j : Fin 512) :
    P21 v0 v1 v2 v4 v6 (ix2 0 j) = ∑ r : Fin 512, der (mat v0 r) (mat v1 r) (mat v2) (row0 v4) (mat v6) j := by
  pointwise [k0_pay21, pay20]
theorem pay22 (r : Fin 512) (j : Fin 512) :
    P22 v0 v1 v2 v4 v6 (ix2 r j) = dyr (mat v0 r) (mat v1 r) (mat v2) (row0 v4) (mat v6) j := by
  pointwise [k0_pay22, k0_pay7, k0_pay9, k0_pay10, pay12, pay13, pay18, pay19, pay20]
  rfl
theorem pay23 (i : Fin 512) (j : Fin 512) :
    P23 v0 v1 v2 v4 v6 (ix2 i j) = ∑ r : Fin 512, zr (mat v0 r) i * der (mat v0 r) (mat v1 r) (mat v2) (row0 v4) (mat v6) j := by
  pointwise [k0_pay23, pay14, pay20]
theorem pay24 (i : Fin 512) (j : Fin 1024) :
    P24 v0 v1 v2 v4 (ix2 i j) = ∑ r : Fin 512, outr (mat v0 r) (mat v2) (row0 v4) i * mat v1 r j := by
  pointwise [k0_pay24, pay14, pay18]
  rfl

end Cert.GluPay

end
-- ==== Proof.GluReg.lean ====
/-
  What the first mixer's backward call leaves in its result arrays, as functions of the program's arguments.
-/
module

public import proofs.«01_k».proof.Proof.Gen.GluIdeal.Frame
public import proofs.«01_k».proof.Proof.GluPay
public import Idealize.ShloMosaic.Lib.Pipeline.ValueKit

@[expose] public section

set_option maxRecDepth 16384

noncomputable section

namespace Cert.GluReg

open Idealize.ShloMosaic Idealize.ShloMosaic.TcCoe Idealize.SL.Sem Idealize.ShloMosaic.Pipeline
open Cert.GluIdeal Cert.GluIdeal.Gen
open Cert.Spec hiding eq_ix2

open Cert.GluSpec

variable (m : (ℓ : Loc nD τ sig) → Buf (Elt Ideal) ℓ) (c : Dev nD)

/-- The arguments as launched. -/
abbrev args : Args :=
  ⟨m ((c : Thread nD τ).loc main_arg0), m ((c : Thread nD τ).loc main_arg1), m ((c : Thread nD τ).loc main_arg2), m ((c : Thread nD τ).loc main_arg3), m ((c : Thread nD τ).loc main_arg4)⟩

/-- The gate's weight as the call finds it, -/
theorem e_v0 : mat (V m c main_v0 : FVec Ideal S512x512 .bf16) = mat (args m c).W := by
  funext i j
  show (StableHlo.after (hostOps0 (F := Ideal)) (StableHlo.launchContents m c) (Proc.devRef .tc main_v0) : FVec Ideal S512x512 .bf16) (ix2 i j) = _
  after_results
  pointwise
  rfl
/-- its bias, -/
theorem e_v1 : row0 (V m c main_v1 : FVec Ideal S1x512 .f32) = vec (args m c).b := by
  funext j
  show (StableHlo.after (hostOps0 (F := Ideal)) (StableHlo.launchContents m c) (Proc.devRef .tc main_v1) : FVec Ideal S1x512 .f32) (ix2 0 j) = _
  after_results
  pointwise
  rfl
/-- and the projection's upper rows. -/
theorem e_v2 : mat (V m c main_v2 : FVec Ideal S512x1024 .bf16) = mat (args m c).wt := by
  funext i j
  show (StableHlo.after (hostOps0 (F := Ideal)) (StableHlo.launchContents m c) (Proc.devRef .tc main_v2) : FVec Ideal S512x1024 .bf16) (ix2 i j) = _
  after_results
  pointwise
  rfl

/-- Which block of its array each window holds at a point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![0, 0] :=
  (by decide +kernel : ∀ t : Fin grid0.N, _)

/-- The array row under a block's row. -/
def row (t : Fin cfg0.N) (r : Fin 512) : Fin 4096 := ⟨t.val * 512 + r.val, by have := lt_of_lt_of_eq t.isLt N_0; omega⟩

theorem b0 (t : Fin cfg0.N) (r : Fin 512) :
    mat (iblk m c 0 t : FVec Ideal S512x512 .f32) r = mat (args m c).y (row t r) := by
  have e : (args m c).y = V m c main_arg0 := (V_main_arg0 m c).symm
  rw [e]
  funext j
  unfold row mat
  blk_ext [iblk, idx t]
theorem b1 (t : Fin cfg0.N) (r : Fin 512) :
    mat (iblk m c 1 t : FVec Ideal S512x1024 .f32) r = mat (args m c).d (row t r) := by
  have e : (args m c).d = V m c main_arg1 := (V_main_arg1 m c).symm
  rw [e]
  funext j
  unfold row mat
  blk_ext [iblk, idx t]
theorem b2 (t : Fin cfg0.N) : mat (iblk m c 2 t : FVec Ideal S512x512 .bf16) = mat (args m c).W := by
  rw [← e_v0 m c]
  funext i j
  unfold mat
  blk_ext [iblk, idx t]
theorem b4 (t : Fin cfg0.N) : mat (iblk m c 4 t : FVec Ideal S512x1024 .bf16) = mat (args m c).wt := by
  rw [← e_v2 m c]
  funext i j
  unfold mat
  blk_ext [iblk, idx t]
theorem b3 (t : Fin cfg0.N) : row0 (iblk m c 3 t : FVec Ideal S1x512 .f32) = vec (args m c).b := by
  rw [← e_v1 m c]
  funext j
  unfold row0
  blk_ext [iblk, idx t]

theorem p_dy (t : Fin cfg0.N) (r : Fin 512) (j : Fin 512) :
    GluPay.P22 (iblk m c 0 t) (iblk m c 1 t) (iblk m c 2 t) (iblk m c 3 t) (iblk m c 4 t) (ix2 r j) = DY (args m c) (row t r) j := by
  refine (GluPay.pay22 _ _ _ _ _ r j).trans ?_
  simp only [b0, b1, b2, b3, b4]
  rfl
/-- The cotangent of the recurrence's output. -/
theorem dy_out : (dats m 0 c).arrAt 5 cfg0.N = (buf2 (DY (args m c)) : FVec Ideal S4096x512 .f32) := by
  refine (dats m 0 c).arrAt_eq_of_covers 5 _ (by decide +kernel) fun t hf y => ?_
  blk_simp
  have e : ((View.whole main_v3_0).slice (win0_5.rect t)).emb y = ix2 (row t (y 0)) (y 1) := by
    unfold row
    blk_ext [idx t]
  rw [after0_5, e]
  by_cases h0 : t.val % 8 = 0
  · rw [outsAt0_A m c t h0 h0 h0]
    frame_out
    exact (congrArg _ (eq_ix2 y)).trans (p_dy m c t (y 0) (y 1))
  · rw [outsAt0_B m c t h0 h0 h0]
    frame_out
    exact (congrArg _ (eq_ix2 y)).trans (p_dy m c t (y 0) (y 1))

theorem z_db_out (j : S1x512.Idx) : k0_pay1 (F := Ideal) j = 0 := by pointwise [k0_pay1]
theorem p_db_out (t : Fin cfg0.N) (acc : FVec Ideal S1x512 .f32) (j : S1x512.Idx) :
    k0_pay2 (F := Ideal) (GluPay.P21 (iblk m c 0 t) (iblk m c 1 t) (iblk m c 2 t) (iblk m c 3 t) (iblk m c 4 t)) acc j = acc j + ∑ r : Fin 512, DE (args m c) (row t r) (j 1) := by
  have hj : j = ix2 0 (j 1) := by
    rw [eq_ix2 j]
    congr 1
    exact Subsingleton.elim _ _
  have e : GluPay.P21 (iblk m c 0 t) (iblk m c 1 t) (iblk m c 2 t) (iblk m c 3 t) (iblk m c 4 t) j = ∑ r : Fin 512, DE (args m c) (row t r) (j 1) := by
    rw [hj]
    refine (GluPay.pay21 _ _ _ _ _ _).trans ?_
    simp only [b0, b1, b2, b3, b4]
    rfl
  rw [← e]
  pointwise [k0_pay2]
/-- The gradient of the gate's bias. -/
theorem db_out : (dats m 0 c).arrAt 6 cfg0.N = (buf1 (DB (args m c)) : FVec Ideal S1x512 .f32) := by
  refine (dats m 0 c).arrAt_eq_of_covers 6 _ (by decide +kernel) fun t hf y => ?_
  blk_simp
  have e : (win0_6.blk t).view.emb y = ix2 (y 0) (y 1) := by
    blk_ext [idx t]
  rw [after0_6, Pipeline.eq_sum_fin_of_reset_step_apply_of_flush (fun n h => (outsAt0 m c n h).2.1) 8 (fun _ => 0)
      (fun t j => ∑ r : Fin 512, DE (args m c) (row t r) (j 1))
    (fun t h j => by rw [outsAt0_A m c t h h h]; frame_out; rw [p_db_out, z_db_out])
    (fun t h j => by rw [outsAt0_B m c t h h h]; frame_out; rw [p_db_out])
    t ((flush0_6 t).mp hf) _, zero_add]
  rw [e]
  unfold buf1 DB
  refine Fin.sum_mul_add_congr fun s k hl => ?_
  have ht := lt_of_lt_of_eq t.isLt N_0
  have hr : row ⟨8 * (t.val / 8) + s.val, Pipeline.run_point_lt_of_flush t ((flush0_6 t).mp hf) s⟩ k = ⟨s.val * 512 + k.val, hl⟩ :=
    Fin.ext (by simp only [row]; omega)
  rw [hr]
  rfl

theorem z_dw_out (j : S512x512.Idx) : k0_pay3 (F := Ideal) j = 0 := by pointwise [k0_pay3]
theorem p_dw_out (t : Fin cfg0.N) (acc : FVec Ideal S512x512 .f32) (j : S512x512.Idx) :
    k0_pay4 (F := Ideal) (GluPay.P23 (iblk m c 0 t) (iblk m c 1 t) (iblk m c 2 t) (iblk m c 3 t) (iblk m c 4 t)) acc j = acc j + ∑ r : Fin 512, zr (mat (args m c).y (row t r)) (j 0) * DE (args m c) (row t r) (j 1) := by
  have hj : j = ix2 (j 0) (j 1) := eq_ix2 j
  have e : GluPay.P23 (iblk m c 0 t) (iblk m c 1 t) (iblk m c 2 t) (iblk m c 3 t) (iblk m c 4 t) j = ∑ r : Fin 512, zr (mat (args m c).y (row t r)) (j 0) * DE (args m c) (row t r) (j 1) := by
    rw [hj]
    refine (GluPay.pay23 _ _ _ _ _ _ _).trans ?_
    simp only [b0, b1, b2, b3, b4]
    rfl
  rw [← e]
  pointwise [k0_pay4]
/-- The gradient of the gate's weight. -/
theorem dw_out : (dats m 0 c).arrAt 7 cfg0.N = (buf2 (DW (args m c)) : FVec Ideal S512x512 .f32) := by
  refine (dats m 0 c).arrAt_eq_of_covers 7 _ (by decide +kernel) fun t hf y => ?_
  blk_simp
  have e : (win0_7.blk t).view.emb y = ix2 (y 0) (y 1) := by
    blk_ext [idx t]
  rw [after0_7, Pipeline.eq_sum_fin_of_reset_step_apply_of_flush (fun n h => (outsAt0 m c n h).2.2.1) 8 (fun _ => 0)
      (fun t j => ∑ r : Fin 512, zr (mat (args m c).y (row t r)) (j 0) * DE (args m c) (row t r) (j 1))
    (fun t h j => by rw [outsAt0_A m c t h h h]; frame_out; rw [p_dw_out, z_dw_out])
    (fun t h j => by rw [outsAt0_B m c t h h h]; frame_out; rw [p_dw_out])
    t ((flush0_7 t).mp hf) _, zero_add]
  rw [e]
  unfold buf2 DW outer
  refine Fin.sum_mul_add_congr fun s k hl => ?_
  have ht := lt_of_lt_of_eq t.isLt N_0
  have hr : row ⟨8 * (t.val / 8) + s.val, Pipeline.run_point_lt_of_flush t ((flush0_7 t).mp hf) s⟩ k = ⟨s.val * 512 + k.val, hl⟩ :=
    Fin.ext (by simp only [row]; omega)
  rw [hr]
  rfl

theorem z_dt_out (j : S512x1024.Idx) : k0_pay5 (F := Ideal) j = 0 := by pointwise [k0_pay5]
theorem p_dt_out (t : Fin cfg0.N) (acc : FVec Ideal S512x1024 .f32) (j : S512x1024.Idx) :
    k0_pay6 (F := Ideal) (GluPay.P24 (iblk m c 0 t) (iblk m c 1 t) (iblk m c 2 t) (iblk m c 3 t)) acc j = acc j + ∑ r : Fin 512, outr (mat (args m c).y (row t r)) (mat (args m c).W) (vec (args m c).b) (j 0) * mat (args m c).d (row t r) (j 1) := by
  have hj : j = ix2 (j 0) (j 1) := eq_ix2 j
  have e : GluPay.P24 (iblk m c 0 t) (iblk m c 1 t) (iblk m c 2 t) (iblk m c 3 t) j = ∑ r : Fin 512, outr (mat (args m c).y (row t r)) (mat (args m c).W) (vec (args m c).b) (j 0) * mat (args m c).d (row t r) (j 1) := by
    rw [hj]
    refine (GluPay.pay24 _ _ _ _ _ _).trans ?_
    simp only [b0, b1, b2, b3, b4]
    rfl
  rw [← e]
  pointwise [k0_pay6]
/-- The gradient of the projection's upper rows. -/
theorem dt_out : (dats m 0 c).arrAt 8 cfg0.N = (buf2 (DT (args m c)) : FVec Ideal S512x1024 .f32) := by
  refine (dats m 0 c).arrAt_eq_of_covers 8 _ (by decide +kernel) fun t hf y => ?_
  blk_simp
  have e : (win0_8.blk t).view.emb y = ix2 (y 0) (y 1) := by
    blk_ext [idx t]
  rw [after0_8, Pipeline.eq_sum_fin_of_reset_step_apply_of_flush (fun n h => (outsAt0 m c n h).2.2.2) 8 (fun _ => 0)
      (fun t j => ∑ r : Fin 512, outr (mat (args m c).y (row t r)) (mat (args m c).W) (vec (args m c).b) (j 0) * mat (args m c).d (row t r) (j 1))
    (fun t h j => by rw [outsAt0_A m c t h h h]; frame_out; rw [p_dt_out, z_dt_out])
    (fun t h j => by rw [outsAt0_B m c t h h h]; frame_out; rw [p_dt_out])
    t ((flush0_8 t).mp hf) _, zero_add]
  rw [e]
  unfold buf2 DT outer
  refine Fin.sum_mul_add_congr fun s k hl => ?_
  have ht := lt_of_lt_of_eq t.isLt N_0
  have hr : row ⟨8 * (t.val / 8) + s.val, Pipeline.run_point_lt_of_flush t ((flush0_8 t).mp hf) s⟩ k = ⟨s.val * 512 + k.val, hl⟩ :=
    Fin.ext (by simp only [row]; omega)
  rw [hr]
  rfl

end Cert.GluReg

end
-- ==== Proof.GluClaim.lean ====
/-
  The reference for the first mixer's gate, one stage at a time, and the equality of its results with the backward call's.
-/
module

public import proofs.«01_k».proof.Defs
public import proofs.«01_k».proof.Proof.GluReg
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import Idealize.ShloMosaic.Lib.Claim

@[expose] public section

set_option maxRecDepth 16384

noncomputable section

namespace Cert.GluClaim

section Ref

open Idealize.ShloMosaic Idealize.ShloMosaic.TcCoe Idealize.SL.Sem Idealize.ShloMosaic.StableHlo
open Cert.GluRefIdeal Cert.GluRefIdeal.Gen Cert.GluRefIdeal.Read Cert.Spec Cert.GluSpec

variable (X : Args)

theorem t_eq (t : Fin 4096) (j : Fin 512) : val_main_v10 (F := Ideal) X.y (ix2 t j) = gt (mat X.y t j) := by
  pointwise [val_main_v0, val_main_v1, val_main_cst_0, val_main_v5, val_main_v6, val_main_v7, val_main_cst_1, val_main_v8, val_main_v9, val_main_v10]
  rfl
theorem h_eq (t : Fin 4096) (j : Fin 512) : val_main_v19 (F := Ideal) X.y (ix2 t j) = kH * (1 + gt (mat X.y t j)) := by
  pointwise [val_main_cst_4, val_main_v16, val_main_v17, val_main_cst_5, val_main_v18, val_main_v19, t_eq]
  rfl
theorem z_eq (t : Fin 4096) (j : Fin 512) : val_main_v20 (F := Ideal) X.y (ix2 t j) = zr (mat X.y t) j := by
  pointwise [val_main_v20, h_eq]
  exact ge_eq _
theorem a_eq (t : Fin 4096) (j : Fin 512) : val_main_v24 (F := Ideal) X.y X.W X.b (ix2 t j) = ar (mat X.y t) (mat X.W) (vec X.b) j := by
  pointwise [val_main_v21, val_main_v22, val_main_v23, val_main_v24, z_eq]
  rfl
theorem s_eq (t : Fin 4096) (j : Fin 512) : val_main_v30 (F := Ideal) X.y X.W X.b (ix2 t j) = sg (ar (mat X.y t) (mat X.W) (vec X.b) j) := by
  pointwise [val_main_v25, val_main_v26, val_main_cst_6, val_main_v27, val_main_v28, val_main_cst_7, val_main_v29, val_main_v30, a_eq]
  rfl
theorem ds_eq (t : Fin 4096) (j : Fin 512) : val_main_v33 (F := Ideal) X.y X.W X.b (ix2 t j) = dsg (ar (mat X.y t) (mat X.W) (vec X.b) j) := by
  pointwise [val_main_cst_8, val_main_v31, val_main_v32, val_main_v33, s_eq]
  rfl
theorem o_eq (t : Fin 4096) (j : Fin 512) : val_main_v34 (F := Ideal) X.y X.W X.b (ix2 t j) = outr (mat X.y t) (mat X.W) (vec X.b) j := by
  pointwise [val_main_v34, z_eq, s_eq]
  rfl
theorem dt_eq (i : Fin 512) (j : Fin 1024) : val_main_v37 (F := Ideal) X.y X.d X.W X.b (ix2 i j) = DT X i j := by
  pointwise [val_main_v36, val_main_v37, o_eq]
  exact Finset.sum_congr rfl fun _ _ => mul_comm _ _
theorem do_eq (t : Fin 4096) (j : Fin 512) : val_main_v38 (F := Ideal) X.d X.wt (ix2 t j) = mvT (mat X.d t) (mat X.wt) j := by
  pointwise [val_main_v38]
  rfl
theorem de_eq (t : Fin 4096) (j : Fin 512) : val_main_v41 (F := Ideal) X.y X.d X.W X.b X.wt (ix2 t j) = DE X t j := by
  pointwise [val_main_v39, val_main_v41, z_eq, do_eq, ds_eq]
  rfl
theorem db_eq (j : Fin 512) : val_main_v61 (F := Ideal) X.y X.d X.W X.b X.wt (ix2 0 j) = DB X j := by
  pointwise [val_main_cst_9, val_main_v42, val_main_v43, val_main_cst_10, val_main_v44, val_main_v61, de_eq, zero_add, Fin.sum_univ_one]
  rfl
theorem dw_eq (i j : Fin 512) : val_main_v46 (F := Ideal) X.y X.d X.W X.b X.wt (ix2 i j) = DW X i j := by
  pointwise [val_main_v45, val_main_v46, z_eq, de_eq]
  exact Finset.sum_congr rfl fun _ _ => mul_comm _ _
theorem dz_eq (t : Fin 4096) (j : Fin 512) : val_main_v48 (F := Ideal) X.y X.d X.W X.b X.wt (ix2 t j) = dzr (mat X.y t) (mat X.d t) (mat X.W) (vec X.b) (mat X.wt) j := by
  pointwise [val_main_v40, val_main_v47, val_main_v48, do_eq, s_eq, de_eq]
  rfl
theorem dy_eq (t : Fin 4096) (j : Fin 512) : val_main_v60 (F := Ideal) X.y X.d X.W X.b X.wt (ix2 t j) = DY X t j := by
  pointwise [val_main_v2, val_main_cst, val_main_v3, val_main_v4, val_main_cst_2, val_main_v11, val_main_v12, val_main_cst_3, val_main_v13, val_main_v14, val_main_v15, val_main_v49, val_main_v50, val_main_cst_11, val_main_v51, val_main_v52, val_main_v53, val_main_cst_12, val_main_v54, val_main_v55, val_main_v56, val_main_cst_13, val_main_v57, val_main_v58, val_main_v59, val_main_v60, t_eq, h_eq, dz_eq]
  exact dge_eq _ _

end Ref

section Run

open Idealize.ShloMosaic Idealize.ShloMosaic.TcCoe Idealize.SL.Sem
open Cert.GluIdeal Cert.GluIdeal.Gen
open Cert.Spec hiding eq_ix2
open Cert.GluSpec Cert.GluReg

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v3_0) = (buf2 (DY (args m c)) : FVec Ideal S4096x512 .f32)
    ∧ r.2.mem ((c : Thread nD τ).loc main_v3_1) = (buf1 (DB (args m c)) : FVec Ideal S1x512 .f32)
    ∧ r.2.mem ((c : Thread nD τ).loc main_v3_2) = (buf2 (DW (args m c)) : FVec Ideal S512x512 .f32)
    ∧ r.2.mem ((c : Thread nD τ).loc main_v3_3) = (buf2 (DT (args m c)) : FVec Ideal S512x1024 .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.GluIdeal.Value.run_blocks m ρ) (fun r h c => by
    obtain ⟨h0, h1, h2, h3, ha⟩ := h c
    exact ⟨h0.trans (dy_out m c), h1.trans (db_out m c), h2.trans (dw_out m c), h3.trans (dt_out m c), ha⟩)

end Run

open Idealize.ShloMosaic Idealize.ShloMosaic.TcCoe Idealize.SL.Sem
open Cert.Spec hiding eq_ix2
open Cert.GluRefIdeal.Read

theorem ref_dy (X : GluSpec.Args) : val_main_v60 (F := Ideal) X.y X.d X.W X.b X.wt = buf2 (GluSpec.DY X) := by
  funext i
  exact (congrArg _ (Cert.Spec.eq_ix2 i)).trans (dy_eq X (i 0) (i 1))
theorem ref_db (X : GluSpec.Args) : val_main_v61 (F := Ideal) X.y X.d X.W X.b X.wt = buf1 (GluSpec.DB X) := by
  funext i
  exact (congrArg _ (GluSpec.eq_ix2_one i)).trans (db_eq X (i 1))
theorem ref_dw (X : GluSpec.Args) : val_main_v46 (F := Ideal) X.y X.d X.W X.b X.wt = buf2 (GluSpec.DW X) := by
  funext i
  exact (congrArg _ (Cert.Spec.eq_ix2 i)).trans (dw_eq X (i 0) (i 1))
theorem ref_dt (X : GluSpec.Args) : val_main_v37 (F := Ideal) X.y X.d X.W X.b = buf2 (GluSpec.DT X) := by
  funext i
  exact (congrArg _ (Cert.Spec.eq_ix2 i)).trans (dt_eq X (i 0) (i 1))

/-- The arguments as the reference finds them. -/
abbrev rargs (m' : (ℓ : Loc GluRefIdeal.nD GluRefIdeal.τ GluRefIdeal.sig) → Buf (Elt Ideal) ℓ) (c : Dev GluRefIdeal.nD) : GluSpec.Args :=
  ⟨m' ((c : Thread GluRefIdeal.nD GluRefIdeal.τ).loc GluRefIdeal.main_arg0), m' ((c : Thread GluRefIdeal.nD GluRefIdeal.τ).loc GluRefIdeal.main_arg1), m' ((c : Thread GluRefIdeal.nD GluRefIdeal.τ).loc GluRefIdeal.main_arg2), m' ((c : Thread GluRefIdeal.nD GluRefIdeal.τ).loc GluRefIdeal.main_arg3), m' ((c : Thread GluRefIdeal.nD GluRefIdeal.τ).loc GluRefIdeal.main_arg4)⟩

/-- The reference runs, ends with these results, and leaves its arguments alone. -/
theorem ref_run (m' : (ℓ : Loc GluRefIdeal.nD GluRefIdeal.τ GluRefIdeal.sig) → Buf (Elt Ideal) ℓ) (ρ : Dev GluRefIdeal.nD → PrngReg) :
    θ_run GluRefIdeal.defs (onTc (τ := GluRefIdeal.τ) (GluRefIdeal.main (F := Ideal))) ⟨m', fun _ => 0, ρ⟩ (fun r => ∀ c : Dev GluRefIdeal.nD,
    r.2.mem ((c : Thread GluRefIdeal.nD GluRefIdeal.τ).loc GluRefIdeal.main_v60) = (buf2 (GluSpec.DY (rargs m' c)) : FVec Ideal GluRefIdeal.S4096x512 .f32)
    ∧ r.2.mem ((c : Thread GluRefIdeal.nD GluRefIdeal.τ).loc GluRefIdeal.main_v61) = (buf1 (GluSpec.DB (rargs m' c)) : FVec Ideal GluRefIdeal.S1x512 .f32)
    ∧ r.2.mem ((c : Thread GluRefIdeal.nD GluRefIdeal.τ).loc GluRefIdeal.main_v46) = (buf2 (GluSpec.DW (rargs m' c)) : FVec Ideal GluRefIdeal.S512x512 .f32)
    ∧ r.2.mem ((c : Thread GluRefIdeal.nD GluRefIdeal.τ).loc GluRefIdeal.main_v37) = (buf2 (GluSpec.DT (rargs m' c)) : FVec Ideal GluRefIdeal.S512x1024 .f32)
    ∧ r.2.mem ((c : Thread GluRefIdeal.nD GluRefIdeal.τ).loc GluRefIdeal.main_arg0) = m' ((c : Thread GluRefIdeal.nD GluRefIdeal.τ).loc GluRefIdeal.main_arg0)
    ∧ r.2.mem ((c : Thread GluRefIdeal.nD GluRefIdeal.τ).loc GluRefIdeal.main_arg1) = m' ((c : Thread GluRefIdeal.nD GluRefIdeal.τ).loc GluRefIdeal.main_arg1)
    ∧ r.2.mem ((c : Thread GluRefIdeal.nD GluRefIdeal.τ).loc GluRefIdeal.main_arg2) = m' ((c : Thread GluRefIdeal.nD GluRefIdeal.τ).loc GluRefIdeal.main_arg2)
    ∧ r.2.mem ((c : Thread GluRefIdeal.nD GluRefIdeal.τ).loc GluRefIdeal.main_arg3) = m' ((c : Thread GluRefIdeal.nD GluRefIdeal.τ).loc GluRefIdeal.main_arg3)
    ∧ r.2.mem ((c : Thread GluRefIdeal.nD GluRefIdeal.τ).loc GluRefIdeal.main_arg4) = m' ((c : Thread GluRefIdeal.nD GluRefIdeal.τ).loc GluRefIdeal.main_arg4)) :=
  θ_run_mono (Cert.GluRefIdeal.Value.run m' ρ) (fun r h c => by
    obtain ⟨h0, h1, h2, h3, ha⟩ := h c
    exact ⟨h0.trans ((val_main_v60_eq m' c).trans (ref_dy (rargs m' c))),
      h1.trans ((val_main_v61_eq _ _ _ _ _).trans (ref_db (rargs m' c))),
      h2.trans ((val_main_v46_eq _ _ _ _ _).trans (ref_dw (rargs m' c))),
      h3.trans ((val_main_v37_eq _ _ _ _).trans (ref_dt (rargs m' c))), ha⟩)

/-- The program and its reference end with equal results. -/
theorem algebraic : Cert.algebraic_GluIdeal_GluRefIdeal := by
  pair_intro
  · run_from run_out m g
  · have hX : ∀ c : Dev GluRefIdeal.nD, rargs m' c = GluReg.args m c := by
      intro c
      obtain ⟨h0, h1, h2, h3, h4⟩ := hagree c
      simp only [rargs, GluReg.args]
      rw [← h0, ← h1, ← h2, ← h3, ← h4]
    run_from ref_run m' g' <;> rw [hX c]

end Cert.GluClaim

end
-- ==== Proof.GnSpec.lean ====
/-
  The second mixer's group normalisation, bonus and gate as plain functions of one token's row, and their cotangents; the numbers
  that are real, and the laws that hold of those.
-/
module

public import proofs.«01_k».proof.Proof.Whole
public import Idealize.ShloMosaic.Lib.Pipeline.ValueKit

@[expose] public section

noncomputable section

namespace Cert.GnSpec

open Idealize.ShloMosaic Cert.Spec
open Cert.Whole (A1 A2)

/-- The contents of an argument of rank three. -/
abbrev A3 (l m n : ℕ) := Shape.Idx ⟨3, ![l, m, n]⟩ → EReal

/-! ## Real numbers -/

/-- A sum of real numbers, as an extended real. -/
theorem coe_fsum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- A number that is neither infinity. -/
def R (x : EReal) : Prop := ∃ r : ℝ, x = r

theorem R.add {x y : EReal} : R x → R y → R (x + y) := fun ⟨a, ha⟩ ⟨b, hb⟩ => ⟨a + b, by rw [ha, hb, EReal.coe_add]⟩
theorem R.mul {x y : EReal} : R x → R y → R (x * y) := fun ⟨a, ha⟩ ⟨b, hb⟩ => ⟨a * b, by rw [ha, hb, EReal.coe_mul]⟩
theorem R.sub {x y : EReal} : R x → R y → R (x - y) := fun ⟨a, ha⟩ ⟨b, hb⟩ => ⟨a - b, by rw [ha, hb, EReal.coe_sub]⟩
theorem R.sum {ι : Type} [Fintype ι] {f : ι → EReal} (h : ∀ i, R (f i)) : R (∑ i, f i) := by
  choose g hg using h
  exact ⟨∑ i, g i, by rw [Finset.sum_congr rfl fun i _ => hg i, ← coe_fsum]⟩
theorem R.zero : R 0 := ⟨0, rfl⟩
theorem R.sub_self {x : EReal} : R x → x - x = 0 := fun ⟨a, ha⟩ => by
  rw [ha, ← EReal.coe_sub, _root_.sub_self, EReal.coe_zero]

/-- A real factor of every term leaves a sum of real numbers. -/
theorem sum_mul_const {ι : Type} [Fintype ι] {f : ι → EReal} (h : ∀ i, R (f i)) {c : EReal} (hc : R c) :
    ∑ i, f i * c = (∑ i, f i) * c := by
  choose g hg using h
  obtain ⟨d, hd⟩ := hc
  simp only [hg, hd, ← EReal.coe_mul, ← coe_fsum, Finset.sum_mul]

/-! ## Constants -/

/-- One over the group's width -/
def c64 : EReal := Ideal.ofBits .f32 0x3C800000#32
/-- and the small number under the root, as the programs' bit patterns. -/
def kG : EReal := Ideal.ofBits .f32 0x3A27C5AC#32

theorem c64_eq : c64 = ((1 / 64 : ℝ) : EReal) := by
  have h : BitVec.extractLsb' 31 1 0x3C800000#32 ≠ 1#1 := by decide
  simp only [c64, Ideal.ofBits, Ideal.ieee]
  norm_num [Nat.shiftRight_eq_div_pow, h]
theorem n64_eq : Ideal.ofBits .f32 0x42800000#32 = ((64 : ℝ) : EReal) := by
  have h : BitVec.extractLsb' 31 1 0x42800000#32 ≠ 1#1 := by decide
  simp only [Ideal.ofBits, Ideal.ieee]
  norm_num [Nat.shiftRight_eq_div_pow, h]
theorem kG_eq : kG = ((10995116 / 17179869184 : ℝ) : EReal) := by
  have h : BitVec.extractLsb' 31 1 0x3A27C5AC#32 ≠ 1#1 := by decide
  simp only [kG, Ideal.ofBits, Ideal.ieee]
  norm_num [Nat.shiftRight_eq_div_pow, h]
theorem kMH_eq : kMH = ((-(1 / 2) : ℝ) : EReal) := by
  have h : BitVec.extractLsb' 31 1 0xBF000000#32 = 1#1 := by decide
  simp only [kMH, Ideal.ofBits, Ideal.ieee]
  norm_num [Nat.shiftRight_eq_div_pow, h]

theorem R.c64 : R c64 := ⟨_, c64_eq⟩
theorem R.kMH : R kMH := ⟨_, kMH_eq⟩

/-- Dividing by the group's width multiplies by its inverse. -/
theorem div_n64 (x : EReal) : Ideal.div x (Ideal.ofBits .f32 0x42800000#32) = x * c64 := by
  rw [n64_eq, c64_eq, Ideal.div_coe (by norm_num)]

/-! ## Groups of a row -/

/-- A column's group, -/
def hd (j : Fin 512) : Fin 8 := ⟨j.val / 64, by have := j.isLt; omega⟩
/-- its place in the group, -/
def ln (j : Fin 512) : Fin 64 := ⟨j.val % 64, by omega⟩
/-- and the column at a place of a group. -/
def col (h : Fin 8) (l : Fin 64) : Fin 512 := ⟨h.val * 64 + l.val, by have := h.isLt; have := l.isLt; omega⟩

@[simp] theorem hd_col (h : Fin 8) (l : Fin 64) : hd (col h l) = h := by
  have := l.isLt
  exact Fin.ext (show (h.val * 64 + l.val) / 64 = h.val by omega)
@[simp] theorem ln_col (h : Fin 8) (l : Fin 64) : ln (col h l) = l := by
  have := l.isLt
  exact Fin.ext (show (h.val * 64 + l.val) % 64 = l.val by omega)
@[simp] theorem col_hd_ln (j : Fin 512) : col (hd j) (ln j) = j :=
  Fin.ext (show j.val / 64 * 64 + j.val % 64 = j.val by omega)

/-- A row's sum over a column's group. -/
def seg (x : Row 512) : Row 512 := fun j => ∑ l : Fin 64, x (col (hd j) l)

theorem R.seg {x : Row 512} (h : ∀ j, R (x j)) (j : Fin 512) : R (seg x j) := R.sum fun _ => h _

/-- Whether two columns lie in one group, as a number. -/
def same (k j : Fin 512) : EReal := if k.val / 64 = j.val / 64 then 1 else 0

/-- Summing a row against that number sums the group. -/
theorem sum_same (x : Row 512) (j : Fin 512) : ∑ k, x k * same k j = seg x j := by
  rw [← Fin.sum_mul_add_fin 8 64 (fun k => x k * same k j) rfl, Finset.sum_eq_single (hd j)]
  · refine Finset.sum_congr rfl fun l _ => ?_
    have hl := l.isLt
    have : same (col (hd j) l) j = 1 := if_pos (by show (j.val / 64 * 64 + l.val) / 64 = j.val / 64; omega)
    show x (col (hd j) l) * same (col (hd j) l) j = _
    rw [this, mul_one]
  · intro h _ hne
    refine Finset.sum_eq_zero fun l _ => ?_
    have hl := l.isLt
    have : same (col h l) j = 0 := if_neg (by
      show ¬ (h.val * 64 + l.val) / 64 = j.val / 64
      intro e
      exact hne (Fin.ext (show h.val = j.val / 64 by omega)))
    show x (col h l) * same (col h l) j = _
    rw [this, mul_zero]
  · intro h
    exact absurd (Finset.mem_univ _) h

/-- The group's sum of a row of real numbers, the row split in what a rounding keeps and what it leaves. -/
theorem split (x : Row 512) (hx : ∀ k, R (x k)) (j : Fin 512) :
    ∑ k, x k * same k j + ∑ k, (x k - x k) * same k j = seg x j := by
  rw [sum_same, Finset.sum_eq_zero (fun k _ => by rw [(hx k).sub_self, zero_mul]), add_zero]

/-! ## The forward pass -/

/-- The row less its group's mean, -/
def yc (y : Row 512) : Row 512 := fun j => y j - seg y j * c64
/-- the group's variance, -/
def vr (y : Row 512) : Row 512 := fun j => seg (fun k => yc y k * yc y k) j * c64 + kG
/-- its root's inverse -/
def rs (y : Row 512) : Row 512 := fun j => Ideal.rsqrt (vr y j)
/-- and the derivative of that; -/
def qs (y : Row 512) : Row 512 := fun j => kMH * Ideal.div (rs y j) (vr y j)
/-- the normalised row before its gain. -/
def hat (y : Row 512) : Row 512 := fun j => yc y j * rs y j
/-- The bonus. -/
def bon (r k q : Row 512) : Row 512 := fun j => seg (fun i => r i * k i * q i) j
/-- The row before the gate. -/
def zz (y r k v w b q : Row 512) : Row 512 := fun j => hat y j * w j + b j + bon r k q j * v j
/-- The gated row. -/
def out (y r k v g w b q : Row 512) : Row 512 := fun j => zz y r k v w b q j * g j

/-! ## Its cotangents -/

/-- The cotangent of the row before the gate, -/
def dz (g : Row 512) (d : Row 1024) (wb : Mat 512 1024) : Row 512 := fun j => mvT d wb j * g j
/-- of the gate, -/
def dg (y r k v w b q : Row 512) (d : Row 1024) (wb : Mat 512 1024) : Row 512 := fun j => zz y r k v w b q j * mvT d wb j
/-- of the bonus's row, -/
def dv (r k q g : Row 512) (d : Row 1024) (wb : Mat 512 1024) : Row 512 := fun j => bon r k q j * dz g d wb j
/-- of the bonus, -/
def er (v g : Row 512) (d : Row 1024) (wb : Mat 512 1024) : Row 512 := fun j => seg (fun i => dz g d wb i * v i) j
/-- of the bonus's two factors, -/
def dr (k v q g : Row 512) (d : Row 1024) (wb : Mat 512 1024) : Row 512 := fun j => er v g d wb j * q j * k j
def dk (r v q g : Row 512) (d : Row 1024) (wb : Mat 512 1024) : Row 512 := fun j => r j * (er v g d wb j * q j)
/-- of the normalised row before its gain, -/
def dn (g w : Row 512) (d : Row 1024) (wb : Mat 512 1024) : Row 512 := fun j => dz g d wb j * w j
/-- of the variance, -/
def e2 (y g w : Row 512) (d : Row 1024) (wb : Mat 512 1024) : Row 512 :=
  fun j => seg (fun i => yc y i * dn g w d wb i * qs y i * c64) j
/-- of the row less its mean, -/
def dyc (y g w : Row 512) (d : Row 1024) (wb : Mat 512 1024) : Row 512 :=
  fun j => dn g w d wb j * rs y j + yc y j * e2 y g w d wb j + e2 y g w d wb j * yc y j
/-- and of the row. -/
def dy (y g w : Row 512) (d : Row 1024) (wb : Mat 512 1024) : Row 512 :=
  fun j => dyc y g w d wb j + seg (fun i => (0 - dyc y g w d wb i) * c64) j

/-! ## Real rows -/

section Real
variable {y r k v g w b q : Row 512} {d : Row 1024} {wb : Mat 512 1024}

theorem yc_real (hy : ∀ j, R (y j)) (j : Fin 512) : R (yc y j) := (hy j).sub ((R.seg hy j).mul R.c64)

theorem vr_real (hy : ∀ j, R (y j)) (j : Fin 512) : ∃ a : ℝ, 0 < a ∧ vr y j = a := by
  choose u hu using yc_real hy
  have h : seg (fun k => yc y k * yc y k) j = ((∑ l : Fin 64, u (col (hd j) l) * u (col (hd j) l) : ℝ) : EReal) := by
    rw [coe_fsum]
    exact Finset.sum_congr rfl fun l _ => by beta_reduce; rw [hu, EReal.coe_mul]
  refine ⟨(∑ l : Fin 64, u (col (hd j) l) * u (col (hd j) l)) * (1 / 64) + 10995116 / 17179869184, ?_, ?_⟩
  · have : 0 ≤ ∑ l : Fin 64, u (col (hd j) l) * u (col (hd j) l) := Finset.sum_nonneg fun l _ => mul_self_nonneg _
    positivity
  · rw [vr, h, c64_eq, kG_eq, EReal.coe_add, EReal.coe_mul]

theorem rs_real (hy : ∀ j, R (y j)) (j : Fin 512) : R (rs y j) := by
  obtain ⟨a, ha, h⟩ := vr_real hy j
  exact ⟨_, by rw [rs, h, Ideal.rsqrt_coe, if_neg (not_lt.mpr ha.le), if_neg ha.ne']⟩

theorem qs_real (hy : ∀ j, R (y j)) (j : Fin 512) : R (qs y j) := by
  obtain ⟨a, ha, h⟩ := vr_real hy j
  refine R.kMH.mul ?_
  rw [h, Ideal.div_coe ha.ne']
  exact (rs_real hy j).mul ⟨_, rfl⟩

theorem dz_real (hg : ∀ j, R (g j)) (hd' : ∀ j, R (d j)) (hwb : ∀ i j, R (wb i j)) (j : Fin 512) : R (dz g d wb j) :=
  (R.sum fun i => (hd' i).mul (hwb j i)).mul (hg j)

theorem dn_real (hg : ∀ j, R (g j)) (hw : ∀ j, R (w j)) (hd' : ∀ j, R (d j)) (hwb : ∀ i j, R (wb i j)) (j : Fin 512) :
    R (dn g w d wb j) := (dz_real hg hd' hwb j).mul (hw j)

theorem e2t_real (hy : ∀ j, R (y j)) (hg : ∀ j, R (g j)) (hw : ∀ j, R (w j)) (hd' : ∀ j, R (d j)) (hwb : ∀ i j, R (wb i j))
    (i : Fin 512) : R (yc y i * dn g w d wb i * qs y i * c64) :=
  (((yc_real hy i).mul (dn_real hg hw hd' hwb i)).mul (qs_real hy i)).mul R.c64

theorem dyc_real (hy : ∀ j, R (y j)) (hg : ∀ j, R (g j)) (hw : ∀ j, R (w j)) (hd' : ∀ j, R (d j)) (hwb : ∀ i j, R (wb i j))
    (j : Fin 512) : R (dyc y g w d wb j) :=
  (((dn_real hg hw hd' hwb j).mul (rs_real hy j)).add
    ((yc_real hy j).mul (R.seg (e2t_real hy hg hw hd' hwb) j))).add ((R.seg (e2t_real hy hg hw hd' hwb) j).mul (yc_real hy j))

theorem vr_group (h : Fin 8) (l : Fin 64) (j : Fin 512) (e : h = hd j) : vr y (col h l) = vr y j := by
  subst e
  simp only [vr, seg, hd_col]

theorem qs_group (j : Fin 512) (l : Fin 64) : qs y (col (hd j) l) = qs y j := by
  simp only [qs, rs, vr_group _ _ _ rfl]

/-- The variance's cotangent with the factors that are one for the group taken out of the sum. -/
theorem e2_eq (hy : ∀ j, R (y j)) (hg : ∀ j, R (g j)) (hw : ∀ j, R (w j)) (hd' : ∀ j, R (d j)) (hwb : ∀ i j, R (wb i j))
    (j : Fin 512) : seg (fun i => yc y i * dn g w d wb i) j * qs y j * c64 = e2 y g w d wb j := by
  unfold e2 seg
  rw [sum_mul_const (fun l => ((yc_real hy _).mul (dn_real hg hw hd' hwb _)).mul (qs_real hy _)) R.c64]
  simp only [qs_group]
  rw [sum_mul_const (fun l => (yc_real hy _).mul (dn_real hg hw hd' hwb _)) (qs_real hy j)]

/-- The mean's cotangent with its factor taken out of the sum. -/
theorem mean_eq (hy : ∀ j, R (y j)) (hg : ∀ j, R (g j)) (hw : ∀ j, R (w j)) (hd' : ∀ j, R (d j)) (hwb : ∀ i j, R (wb i j))
    (j : Fin 512) : seg (fun i => -dyc y g w d wb i) j * c64 = seg (fun i => (0 - dyc y g w d wb i) * c64) j := by
  unfold seg
  rw [sum_mul_const (fun l => R.zero.sub (dyc_real hy hg hw hd' hwb _)) R.c64]
  simp only [zero_sub]
end Real

/-! ## All tokens -/

/-- An index of a one-row array is its column's. -/
theorem eq_ix2_one {n : ℕ} (y : Shape.Idx ⟨2, ![1, n]⟩) : y = ix2 0 (y 1) := by
  funext a
  match a with
  | 0 => exact Subsingleton.elim (α := Fin 1) _ _
  | 1 => rfl

/-- A token's row of an array kept by group. -/
def cat (Y : A3 8 4096 64) : Mat 4096 512 := fun t j => Y (ix3 (hd j) t (ln j))

/-- The arguments: the recurrence's output and its three inputs, the gate, the cotangent of the residual row, the normalisation's gain
    and bias, the bonus's factor, and the projection's lower rows. -/
structure Args where
  y : A3 8 4096 64
  r : A3 8 4096 64
  k : A3 8 4096 64
  v : A3 8 4096 64
  g : A2 4096 512
  d : A2 4096 1024
  w : A1 512
  b : A1 512
  q : A2 8 64
  wb : A2 512 1024

variable (X : Args)

/-- The bonus's factor as one row. -/
def q1 (q : A2 8 64) : Row 512 := fun j => q (ix2 (hd j) (ln j))

/-- All arguments but the normalisation's bias are real numbers. -/
structure Args.Real : Prop where
  y : ∀ i, R (X.y i)
  r : ∀ i, R (X.r i)
  k : ∀ i, R (X.k i)
  v : ∀ i, R (X.v i)
  g : ∀ i, R (X.g i)
  d : ∀ i, R (X.d i)
  w : ∀ i, R (X.w i)
  q : ∀ i, R (X.q i)
  wb : ∀ i, R (X.wb i)

def DZ : Mat 4096 512 := fun t => dz (mat X.g t) (mat X.d t) (mat X.wb)
def DY : Mat 4096 512 := fun t => dy (cat X.y t) (mat X.g t) (vec X.w) (mat X.d t) (mat X.wb)
def DR : Mat 4096 512 := fun t => dr (cat X.k t) (cat X.v t) (q1 X.q) (mat X.g t) (mat X.d t) (mat X.wb)
def DK : Mat 4096 512 := fun t => dk (cat X.r t) (cat X.v t) (q1 X.q) (mat X.g t) (mat X.d t) (mat X.wb)
def DV : Mat 4096 512 := fun t => dv (cat X.r t) (cat X.k t) (q1 X.q) (mat X.g t) (mat X.d t) (mat X.wb)
def DG : Mat 4096 512 := fun t =>
  dg (cat X.y t) (cat X.r t) (cat X.k t) (cat X.v t) (vec X.w) (vec X.b) (q1 X.q) (mat X.d t) (mat X.wb)
def DW : Row 512 := fun j => ∑ t, hat (cat X.y t) j * DZ X t j
def DB : Row 512 := fun j => ∑ t, DZ X t j
def DQ : Row 512 := fun j => ∑ t, cat X.r t j * cat X.k t j * er (cat X.v t) (mat X.g t) (mat X.d t) (mat X.wb) j
def OUT : Mat 4096 512 := fun t =>
  out (cat X.y t) (cat X.r t) (cat X.k t) (cat X.v t) (mat X.g t) (vec X.w) (vec X.b) (q1 X.q)
def DT : Mat 512 1024 := outer (OUT X) (mat X.d)

end Cert.GnSpec

end
-- ==== Proof.GnPay.lean ====
/-
  What the second mixer's backward body stores, read at an index, as the plain functions of the rows read.
-/
module

public import proofs.«01_k».proof.Proof.Gen.GnIdeal.Skeleton
public import proofs.«01_k».proof.Proof.GnSpec

@[expose] public section

set_option maxRecDepth 16384

noncomputable section

namespace Cert.GnPay

open Idealize.ShloMosaic Idealize.ShloMosaic.TcCoe Idealize.SL.Sem
open Cert.GnIdeal Cert.GnIdeal.Gen
open Cert.Spec hiding eq_ix2
open Cert.GnSpec

/-! ## The matrix of groups -/

/-- The columns' numbers. -/
abbrev cols : IVec S512x512 32 := iota Kind.tc S512x512 32 [1] iota_S512x512_d1_w32

theorem quot : ∀ r : Fin 512, (Scalar.select (IntOp.andi (IntOp.cmpi .ne (IntOp.subi (BitVec.setWidth 32 (IntOp.cmpi .sgt (BitVec.ofNat 32 r.val) 0#32)) (BitVec.setWidth 32 (IntOp.cmpi .slt (BitVec.ofNat 32 r.val) 0#32))) (IntOp.subi (BitVec.setWidth 32 (IntOp.cmpi .sgt 64#32 0#32)) (BitVec.setWidth 32 (IntOp.cmpi .slt 64#32 0#32)))) (IntOp.cmpi .ne (IntOp.remsi .vector (BitVec.ofNat 32 r.val) 64#32) 0#32)) (IntOp.subi (IntOp.divsi .vector (BitVec.ofNat 32 r.val) 64#32) 1#32) (IntOp.divsi .vector (BitVec.ofNat 32 r.val) 64#32) : BitVec 32) = BitVec.ofNat 32 (r.val / 64) := by
  decide +kernel

theorem pay25 (r j : Fin 512) : k0_pay25 (ix2 r j) = BitVec.ofNat 32 (r.val / 64) := by
  pointwise [k0_pay25]
  exact quot r

theorem same_bits : ∀ a b : Fin 8, (FloatOps.sitofp (F := Ideal) .f32 (BitVec.setWidth 32 (IntOp.cmpi .eq (BitVec.ofNat 32 a.val) (BitVec.ofNat 32 b.val))) : EReal)
    = if a.val = b.val then 1 else 0 := by
  intro a b
  by_cases h : a = b
  · subst h
    rw [if_pos rfl]
    have : (BitVec.setWidth 32 (IntOp.cmpi .eq (BitVec.ofNat 32 a.val) (BitVec.ofNat 32 a.val)) : BitVec 32) = 1#32 := by
      revert a; decide
    rw [this]
    show ((((1#32 : BitVec 32).toInt : ℤ) : ℝ) : EReal) = 1
    simp
  · rw [if_neg (fun e => h (Fin.ext e))]
    have : (BitVec.setWidth 32 (IntOp.cmpi .eq (BitVec.ofNat 32 a.val) (BitVec.ofNat 32 b.val)) : BitVec 32) = 0#32 := by
      revert a b; decide
    rw [this]
    show ((((0#32 : BitVec 32).toInt : ℤ) : ℝ) : EReal) = 0
    simp

theorem pay29 (x j : Fin 512) :
    k0_pay29 (F := Ideal) k0_pay25 cols (64#32) k0_pay26 k0_pay27 k0_pay28 (ix2 x j) = same x j := by
  pointwise [k0_pay29, k0_pay26, k0_pay27, k0_pay28, pay25]
  have e := quot j
  have hx := x.isLt
  have hj := j.isLt
  refine (congrArg (fun z => (FloatOps.sitofp (F := Ideal) .f32 (BitVec.setWidth 32 (IntOp.cmpi .eq (BitVec.ofNat 32 (x.val / 64)) z)) : EReal)) e).trans ?_
  exact same_bits ⟨x.val / 64, by omega⟩ ⟨j.val / 64, by omega⟩

/-! ## The rows put together from the groups -/

/-- A group's rows. -/
abbrev ld0 (B : FVec Ideal S8x512x64 .f32) : FVec Ideal S1x512x64 .f32 :=
  View.ld (Val := Elt Ideal) (S := S8x512x64) (e' := .f32) B (Rect.unit ![0, 0, 0] ![1, 512, 64] inb_S8x512x64_S1x512x64_0_0_0)
abbrev ld1 (B : FVec Ideal S8x512x64 .f32) : FVec Ideal S1x512x64 .f32 :=
  View.ld (Val := Elt Ideal) (S := S8x512x64) (e' := .f32) B (Rect.unit ![1, 0, 0] ![1, 512, 64] inb_S8x512x64_S1x512x64_1_0_0)
abbrev ld2 (B : FVec Ideal S8x512x64 .f32) : FVec Ideal S1x512x64 .f32 :=
  View.ld (Val := Elt Ideal) (S := S8x512x64) (e' := .f32) B (Rect.unit ![2, 0, 0] ![1, 512, 64] inb_S8x512x64_S1x512x64_2_0_0)
abbrev ld3 (B : FVec Ideal S8x512x64 .f32) : FVec Ideal S1x512x64 .f32 :=
  View.ld (Val := Elt Ideal) (S := S8x512x64) (e' := .f32) B (Rect.unit ![3, 0, 0] ![1, 512, 64] inb_S8x512x64_S1x512x64_3_0_0)
abbrev ld4 (B : FVec Ideal S8x512x64 .f32) : FVec Ideal S1x512x64 .f32 :=
  View.ld (Val := Elt Ideal) (S := S8x512x64) (e' := .f32) B (Rect.unit ![4, 0, 0] ![1, 512, 64] inb_S8x512x64_S1x512x64_4_0_0)
abbrev ld5 (B : FVec Ideal S8x512x64 .f32) : FVec Ideal S1x512x64 .f32 :=
  View.ld (Val := Elt Ideal) (S := S8x512x64) (e' := .f32) B (Rect.unit ![5, 0, 0] ![1, 512, 64] inb_S8x512x64_S1x512x64_5_0_0)
abbrev ld6 (B : FVec Ideal S8x512x64 .f32) : FVec Ideal S1x512x64 .f32 :=
  View.ld (Val := Elt Ideal) (S := S8x512x64) (e' := .f32) B (Rect.unit ![6, 0, 0] ![1, 512, 64] inb_S8x512x64_S1x512x64_6_0_0)
abbrev ld7 (B : FVec Ideal S8x512x64 .f32) : FVec Ideal S1x512x64 .f32 :=
  View.ld (Val := Elt Ideal) (S := S8x512x64) (e' := .f32) B (Rect.unit ![7, 0, 0] ![1, 512, 64] inb_S8x512x64_S1x512x64_7_0_0)

abbrev YY (B : FVec Ideal S8x512x64 .f32) := k0_pay7 (F := Ideal) (ld0 B) (ld1 B) (ld2 B) (ld3 B) (ld4 B) (ld5 B) (ld6 B) (ld7 B)
abbrev RR (B : FVec Ideal S8x512x64 .f32) :=
  k0_pay11 (F := Ideal) (k0_pay8 (ld0 B)) (k0_pay9 (ld1 B)) (k0_pay10 (ld2 B)) (ld3 B) (ld4 B) (ld5 B) (ld6 B) (ld7 B)
abbrev KK (B : FVec Ideal S8x512x64 .f32) :=
  k0_pay19 (F := Ideal) (k0_pay12 (ld0 B)) (k0_pay13 (ld1 B)) (k0_pay14 (ld2 B)) (k0_pay15 (ld3 B)) (k0_pay16 (ld4 B)) (k0_pay17 (ld5 B)) (k0_pay18 (ld6 B)) (ld7 B)
abbrev VV (B : FVec Ideal S8x512x64 .f32) := k0_pay20 (F := Ideal) (ld0 B) (ld1 B) (ld2 B) (ld3 B) (ld4 B) (ld5 B) (ld6 B) (ld7 B)

theorem ld_at (B : FVec Ideal S8x512x64 .f32) (h : ℕ) (inb : ∀ a, (![h, 0, 0] : Fin 3 → Nat) a + (![1, 512, 64] : Fin 3 → Nat) a ≤ S8x512x64.size a) (r : Fin 512) (l : Fin 64) (h' : Fin 8) (l' : Fin 64) (eh : h'.val = h) (el : l'.val = l.val) :
    (View.ld (Val := Elt Ideal) (S := S8x512x64) (e' := .f32) B (Rect.unit ![h, 0, 0] ![1, 512, 64] inb) : FVec Ideal S1x512x64 .f32) (ix3 0 r l) = B (ix3 h' r l') := by
  refine View.ld_unit_apply_of (Val := Elt Ideal) (e := .f32) _ _ _ _ _ (ix3 h' r l') ?_
  intro a
  match a with
  | 0 => simpa using eh
  | 1 => simp
  | 2 => simpa using el

theorem yy (B : FVec Ideal S8x512x64 .f32) (r j : Fin 512) : YY B (ix2 r j) = B (ix3 (hd j) r (ln j)) := by
  have hj := j.isLt
  pointwise [k0_pay7]
  split_ifs <;> exact ld_at _ _ _ _ _ _ _ (by unfold hd; dsimp only; omega) (by unfold ln; dsimp only; omega)
theorem rr (B : FVec Ideal S8x512x64 .f32) (r j : Fin 512) : RR B (ix2 r j) = B (ix3 (hd j) r (ln j)) := by
  have hj := j.isLt
  pointwise [k0_pay11, k0_pay8, k0_pay9, k0_pay10]
  split_ifs <;> exact ld_at _ _ _ _ _ _ _ (by unfold hd; dsimp only; omega) (by unfold ln; dsimp only; omega)
theorem kk (B : FVec Ideal S8x512x64 .f32) (r j : Fin 512) : KK B (ix2 r j) = B (ix3 (hd j) r (ln j)) := by
  have hj := j.isLt
  pointwise [k0_pay19, k0_pay12, k0_pay13, k0_pay14, k0_pay15, k0_pay16, k0_pay17, k0_pay18]
  split_ifs <;> exact ld_at _ _ _ _ _ _ _ (by unfold hd; dsimp only; omega) (by unfold ln; dsimp only; omega)
theorem vv (B : FVec Ideal S8x512x64 .f32) (r j : Fin 512) : VV B (ix2 r j) = B (ix3 (hd j) r (ln j)) := by
  have hj := j.isLt
  pointwise [k0_pay20]
  split_ifs <;> exact ld_at _ _ _ _ _ _ _ (by unfold hd; dsimp only; omega) (by unfold ln; dsimp only; omega)

/-! ## The body -/

variable (v16 v33 v50 v67 v68 : FVec Ideal S512x512 .f32) (v69 : FVec Ideal S512x1024 .f32) (v70 v72 v74 : FVec Ideal S1x512 .f32)
  (v76 : FVec Ideal S512x1024 .bf16)

/-- The matrix of groups, -/
abbrev M29 := k0_pay29 (F := Ideal) k0_pay25 cols (64#32) k0_pay26 k0_pay27 k0_pay28
/-- the row less its mean, -/
abbrev P30 := k0_pay30 (F := Ideal) v16 k0_pay25 cols (64#32) k0_pay26 k0_pay27 k0_pay28
abbrev P31 := k0_pay31 (F := Ideal) v16 k0_pay25 cols (64#32) k0_pay26 k0_pay27 k0_pay28
abbrev P32 := k0_pay32 (F := Ideal) v16 k0_pay25 cols (64#32) k0_pay26 k0_pay27 k0_pay28
abbrev P33 := k0_pay33 (F := Ideal) v16 k0_pay25 cols (64#32) k0_pay26 k0_pay27 k0_pay28
abbrev P34 := k0_pay34 (F := Ideal) v16 k0_pay25 cols (64#32) k0_pay26 k0_pay27 k0_pay28
abbrev P35 := k0_pay35 (F := Ideal) v16 (k0_pay21 v70) (k0_pay22 v72) k0_pay25 cols (64#32) k0_pay26 k0_pay27 k0_pay28
abbrev P37 := k0_pay37 (F := Ideal) v33 v50 (k0_pay23 v74)
abbrev P38 := k0_pay38 (F := Ideal) v33 v50 (k0_pay23 v74)
abbrev P39 := k0_pay39 (F := Ideal) v33 v50 (k0_pay23 v74) k0_pay25 cols (64#32) k0_pay26 k0_pay27 k0_pay28
abbrev P40 := k0_pay40 (F := Ideal) M29 (P37 v33 v50 v74) (P38 v33 v50 v74) (P39 v33 v50 v74)
abbrev P41 := k0_pay41 (F := Ideal) v67 M29 (P35 v16 v70 v72) (P37 v33 v50 v74) (P38 v33 v50 v74) (P39 v33 v50 v74)
abbrev P42 := k0_pay42 (F := Ideal) v67 v68 M29 (P35 v16 v70 v72) (P37 v33 v50 v74) (P38 v33 v50 v74) (P39 v33 v50 v74)
abbrev P44 := k0_pay44 (F := Ideal) v67 v69 (k0_pay24 v76) M29 (P35 v16 v70 v72) (P37 v33 v50 v74) (P38 v33 v50 v74) (P39 v33 v50 v74)
abbrev P46 := k0_pay46 (F := Ideal) v68 v69 (k0_pay24 v76) M29 (P37 v33 v50 v74) (P38 v33 v50 v74) (P39 v33 v50 v74)
abbrev P47 := k0_pay47 (F := Ideal) v67 v68 v69 (k0_pay24 v76) M29
abbrev P48 := k0_pay48 (F := Ideal) v67 v68 v69 (k0_pay24 v76) M29 (k0_pay36 v33 v50)
abbrev P50 := k0_pay50 (F := Ideal) v33 v67 v68 v69 (k0_pay23 v74) (k0_pay24 v76) M29
abbrev P51 := k0_pay51 (F := Ideal) v50 v67 v68 v69 (k0_pay23 v74) (k0_pay24 v76) M29
abbrev P52 := k0_pay52 (F := Ideal) v68 v69 (k0_pay24 v76)
abbrev P53 := k0_pay53 (F := Ideal) v68 v69 (k0_pay24 v76) (P34 v16)
abbrev P55 := k0_pay55 (F := Ideal) v68 v69 (k0_pay21 v70) (k0_pay24 v76) M29 (P30 v16) (P33 v16)
abbrev P56 := k0_pay56 (F := Ideal) v68 v69 (k0_pay21 v70) (k0_pay24 v76) M29 (P30 v16) (P32 v16) (P33 v16)
abbrev P57 := k0_pay57 (F := Ideal) v68 v69 (k0_pay21 v70) (k0_pay24 v76) M29 (P30 v16) (P33 v16)
abbrev P58 := k0_pay58 (F := Ideal) M29 (P56 v16 v68 v69 v70 v76) (P57 v16 v68 v69 v70 v76)
abbrev P59 := k0_pay59 (F := Ideal) v69 (P42 v16 v33 v50 v67 v68 v70 v72 v74)

section
variable (hy : ∀ r j, R (mat v16 r j)) (hr : ∀ r j, R (mat v33 r j)) (hk : ∀ r j, R (mat v50 r j)) (hv : ∀ r j, R (mat v67 r j))
  (hg : ∀ r j, R (mat v68 r j)) (hd' : ∀ r j, R (mat v69 r j)) (hw : ∀ j, R (row0 v70 j)) (hq : ∀ j, R (row0 v74 j))
  (hwb : ∀ i j, R (mat v76 i j))

include hy in
theorem pay30 (r j : Fin 512) : P30 v16 (ix2 r j) = yc (mat v16 r) j := by
  pointwise [k0_pay30, pay29]
  exact congrArg (fun z => mat v16 r j - z * c64) (split (mat v16 r) (hy r) j)

include hy in
theorem pay31 (r j : Fin 512) : P31 v16 (ix2 r j) = vr (mat v16 r) j := by
  pointwise [k0_pay31, pay29, pay30 v16 hy]
  exact congrArg (fun z => z * c64 + kG) (split (fun k => yc (mat v16 r) k * yc (mat v16 r) k) (fun k => (yc_real (hy r) k).mul (yc_real (hy r) k)) j)

include hy in
theorem pay32 (r j : Fin 512) : P32 v16 (ix2 r j) = rs (mat v16 r) j := by
  pointwise [k0_pay32, pay31 v16 hy]
  rfl

include hy in
theorem pay33 (r j : Fin 512) : P33 v16 (ix2 r j) = qs (mat v16 r) j := by
  pointwise [k0_pay33, pay31 v16 hy, pay32 v16 hy]
  rfl

include hy in
theorem pay34 (r j : Fin 512) : P34 v16 (ix2 r j) = hat (mat v16 r) j := by
  pointwise [k0_pay34, pay30 v16 hy, pay32 v16 hy]
  rfl

include hy in
theorem pay35 (r j : Fin 512) : P35 v16 v70 v72 (ix2 r j) = hat (mat v16 r) j * row0 v70 j + row0 v72 j := by
  pointwise [k0_pay35, k0_pay21, k0_pay22, pay34 v16 hy]
  rfl

theorem pay37 (r j : Fin 512) : P37 v33 v50 v74 (ix2 r j) = mat v33 r j * mat v50 r j * row0 v74 j := by
  pointwise [k0_pay37, k0_pay36, k0_pay23]
  rfl

include hr hk hq in
theorem pay40 (r j : Fin 512) : P40 v33 v50 v74 (ix2 r j) = bon (mat v33 r) (mat v50 r) (row0 v74) j := by
  pointwise [k0_pay40, k0_pay38, k0_pay39, pay29, pay37]
  exact split (fun i => mat v33 r i * mat v50 r i * row0 v74 i) (fun i => ((hr r i).mul (hk r i)).mul (hq i)) j

include hy hr hk hq in
theorem pay41 (r j : Fin 512) : P41 v16 v33 v50 v67 v70 v72 v74 (ix2 r j)
    = zz (mat v16 r) (mat v33 r) (mat v50 r) (mat v67 r) (row0 v70) (row0 v72) (row0 v74) j := by
  pointwise [k0_pay41, pay35 v16 v70 v72 hy, pay40 v33 v50 v74 hr hk hq]
  rfl

theorem pay43 (r j : Fin 512) : k0_pay43 (F := Ideal) v69 (k0_pay24 v76) (ix2 r j) = mvT (mat v69 r) (mat v76) j := by
  pointwise [k0_pay43, k0_pay24]
  rfl

theorem pay45 (r j : Fin 512) : k0_pay45 (F := Ideal) v68 v69 (k0_pay24 v76) (ix2 r j) = dz (mat v68 r) (mat v69 r) (mat v76) j := by
  pointwise [k0_pay45, pay43]
  rfl

include hy hr hk hq in
theorem pay44 (r j : Fin 512) : P44 v16 v33 v50 v67 v69 v70 v72 v74 v76 (ix2 r j)
    = dg (mat v16 r) (mat v33 r) (mat v50 r) (mat v67 r) (row0 v70) (row0 v72) (row0 v74) (mat v69 r) (mat v76) j := by
  pointwise [k0_pay44, pay43, pay41 v16 v33 v50 v67 v70 v72 v74 hy hr hk hq]
  rfl

include hr hk hq in
theorem pay46 (r j : Fin 512) : P46 v33 v50 v68 v69 v74 v76 (ix2 r j)
    = dv (mat v33 r) (mat v50 r) (row0 v74) (mat v68 r) (mat v69 r) (mat v76) j := by
  pointwise [k0_pay46, pay45, pay40 v33 v50 v74 hr hk hq]
  rfl

include hv hg hd' hwb in
theorem pay47 (r j : Fin 512) : P47 v67 v68 v69 v76 (ix2 r j) = er (mat v67 r) (mat v68 r) (mat v69 r) (mat v76) j := by
  pointwise [k0_pay47, pay29, pay45]
  exact split (fun i => dz (mat v68 r) (mat v69 r) (mat v76) i * mat v67 r i) (fun i => (dz_real (hg r) (hd' r) hwb i).mul (hv r i)) j

include hv hg hd' hwb in
theorem pay48 (j : Fin 512) : P48 v33 v50 v67 v68 v69 v76 (ix2 0 j)
    = ∑ r : Fin 512, mat v33 r j * mat v50 r j * er (mat v67 r) (mat v68 r) (mat v69 r) (mat v76) j := by
  pointwise [k0_pay48, k0_pay36, pay47 v67 v68 v69 v76 hv hg hd' hwb]
  rfl

include hv hg hd' hwb in
theorem pay49 (r j : Fin 512) : k0_pay49 (F := Ideal) v67 v68 v69 (k0_pay23 v74) (k0_pay24 v76) M29 (ix2 r j)
    = er (mat v67 r) (mat v68 r) (mat v69 r) (mat v76) j * row0 v74 j := by
  pointwise [k0_pay49, k0_pay23, pay47 v67 v68 v69 v76 hv hg hd' hwb]
  rfl

include hv hg hd' hwb in
theorem pay50 (r j : Fin 512) : P50 v33 v67 v68 v69 v74 v76 (ix2 r j)
    = dk (mat v33 r) (mat v67 r) (row0 v74) (mat v68 r) (mat v69 r) (mat v76) j := by
  pointwise [k0_pay50, pay49 v67 v68 v69 v74 v76 hv hg hd' hwb]
  rfl

include hv hg hd' hwb in
theorem pay51 (r j : Fin 512) : P51 v50 v67 v68 v69 v74 v76 (ix2 r j)
    = dr (mat v50 r) (mat v67 r) (row0 v74) (mat v68 r) (mat v69 r) (mat v76) j := by
  pointwise [k0_pay51, pay49 v67 v68 v69 v74 v76 hv hg hd' hwb]
  rfl

theorem pay52 (j : Fin 512) : P52 v68 v69 v76 (ix2 0 j) = ∑ r : Fin 512, dz (mat v68 r) (mat v69 r) (mat v76) j := by
  pointwise [k0_pay52, pay45]

include hy in
theorem pay53 (j : Fin 512) : P53 v16 v68 v69 v76 (ix2 0 j)
    = ∑ r : Fin 512, hat (mat v16 r) j * dz (mat v68 r) (mat v69 r) (mat v76) j := by
  pointwise [k0_pay53, pay45, pay34 v16 hy]

theorem pay54 (r j : Fin 512) : k0_pay54 (F := Ideal) v68 v69 (k0_pay21 v70) (k0_pay24 v76) (ix2 r j)
    = dn (mat v68 r) (row0 v70) (mat v69 r) (mat v76) j := by
  pointwise [k0_pay54, k0_pay21, pay45]
  rfl

include hy hg hd' hw hwb in
theorem pay55 (r j : Fin 512) : P55 v16 v68 v69 v70 v76 (ix2 r j) = e2 (mat v16 r) (mat v68 r) (row0 v70) (mat v69 r) (mat v76) j := by
  pointwise [k0_pay55, pay29, pay54, pay30 v16 hy, pay33 v16 hy]
  exact split _ (e2t_real (hy r) (hg r) hw (hd' r) hwb) j

include hy hg hd' hw hwb in
theorem pay58 (r j : Fin 512) : P58 v16 v68 v69 v70 v76 (ix2 r j) = dy (mat v16 r) (mat v68 r) (row0 v70) (mat v69 r) (mat v76) j := by
  pointwise [k0_pay58, k0_pay56, k0_pay57, pay29, pay54, pay30 v16 hy, pay32 v16 hy, pay55 v16 v68 v69 v70 v76 hy hg hd' hw hwb]
  exact congrArg (fun z => dyc (mat v16 r) (mat v68 r) (row0 v70) (mat v69 r) (mat v76) j + z)
    (split (fun i => (0 - dyc (mat v16 r) (mat v68 r) (row0 v70) (mat v69 r) (mat v76) i) * c64)
      (fun i => (R.zero.sub (dyc_real (hy r) (hg r) hw (hd' r) hwb i)).mul R.c64) j)

include hy hr hk hq in
theorem pay59 (i : Fin 512) (j : Fin 1024) : P59 v16 v33 v50 v67 v68 v69 v70 v72 v74 (ix2 i j)
    = ∑ r : Fin 512, out (mat v16 r) (mat v33 r) (mat v50 r) (mat v67 r) (mat v68 r) (row0 v70) (row0 v72) (row0 v74) i * mat v69 r j := by
  pointwise [k0_pay59, k0_pay42, pay41 v16 v33 v50 v67 v70 v72 v74 hy hr hk hq]
  rfl
end

end Cert.GnPay

end
-- ==== Proof.GnReg.lean ====
/-
  What the second mixer's backward call leaves in its result arrays, as functions of the program's arguments.
-/
module

public import proofs.«01_k».proof.Proof.Gen.GnIdeal.Frame
public import proofs.«01_k».proof.Proof.GnPay
public import Idealize.ShloMosaic.Lib.Pipeline.ValueKit

@[expose] public section

set_option maxRecDepth 16384

noncomputable section

namespace Cert.GnReg

open Idealize.ShloMosaic Idealize.ShloMosaic.TcCoe Idealize.SL.Sem Idealize.ShloMosaic.Pipeline
open Cert.GnIdeal Cert.GnIdeal.Gen
open Cert.Spec hiding eq_ix2
open Cert.GnSpec
open Cert.GnPay (YY RR KK VV)

variable (m : (ℓ : Loc nD τ sig) → Buf (Elt Ideal) ℓ) (c : Dev nD)

/-- The arguments as launched. -/
abbrev args : Args :=
  ⟨m ((c : Thread nD τ).loc main_arg0), m ((c : Thread nD τ).loc main_arg1), m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg7), m ((c : Thread nD τ).loc main_arg8), m ((c : Thread nD τ).loc main_arg9)⟩

/-- The normalisation's gain as the call finds it, -/
theorem e_v0 : row0 (V m c main_v0 : FVec Ideal S1x512 .f32) = vec (args m c).w := by
  funext j
  show (StableHlo.after (hostOps0 (F := Ideal)) (StableHlo.launchContents m c) (Proc.devRef .tc main_v0) : FVec Ideal S1x512 .f32) (ix2 0 j) = _
  after_results
  pointwise
  rfl
/-- its bias, -/
theorem e_v1 : row0 (V m c main_v1 : FVec Ideal S1x512 .f32) = vec (args m c).b := by
  funext j
  show (StableHlo.after (hostOps0 (F := Ideal)) (StableHlo.launchContents m c) (Proc.devRef .tc main_v1) : FVec Ideal S1x512 .f32) (ix2 0 j) = _
  after_results
  pointwise
  rfl
/-- the bonus's factor, -/
theorem e_v2 : row0 (V m c main_v2 : FVec Ideal S1x512 .f32) = q1 (args m c).q := by
  funext j
  show (StableHlo.after (hostOps0 (F := Ideal)) (StableHlo.launchContents m c) (Proc.devRef .tc main_v2) : FVec Ideal S1x512 .f32) (ix2 0 j) = _
  after_results
  pointwise
  rfl
/-- and the projection's lower rows. -/
theorem e_v3 : mat (V m c main_v3 : FVec Ideal S512x1024 .bf16) = mat (args m c).wb := by
  funext i j
  show (StableHlo.after (hostOps0 (F := Ideal)) (StableHlo.launchContents m c) (Proc.devRef .tc main_v3) : FVec Ideal S512x1024 .bf16) (ix2 i j) = _
  after_results
  pointwise
  rfl

/-- Which block of its array each window holds at a point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, t.val, 0]
    ∧ win0_11.index t = ![t.val, 0]
    ∧ win0_12.index t = ![t.val, 0]
    ∧ win0_13.index t = ![t.val, 0]
    ∧ win0_14.index t = ![t.val, 0]
    ∧ win0_15.index t = ![0, 0]
    ∧ win0_16.index t = ![0, 0]
    ∧ win0_17.index t = ![0, 0]
    ∧ win0_18.index t = ![0, 0] :=
  (by decide +kernel : ∀ t : Fin grid0.N, _)

/-- The array row under a block's row. -/
def row (t : Fin cfg0.N) (r : Fin 512) : Fin 4096 := ⟨t.val * 512 + r.val, by have := lt_of_lt_of_eq t.isLt N_0; omega⟩

theorem b0 (t : Fin cfg0.N) (r : Fin 512) : mat (YY (iblk m c 0 t)) r = cat (args m c).y (row t r) := by
  have e : (args m c).y = V m c main_arg0 := (V_main_arg0 m c).symm
  rw [e]
  funext j
  refine (GnPay.yy _ r j).trans ?_
  unfold row cat
  blk_ext [iblk, idx t]
theorem b1 (t : Fin cfg0.N) (r : Fin 512) : mat (RR (iblk m c 1 t)) r = cat (args m c).r (row t r) := by
  have e : (args m c).r = V m c main_arg1 := (V_main_arg1 m c).symm
  rw [e]
  funext j
  refine (GnPay.rr _ r j).trans ?_
  unfold row cat
  blk_ext [iblk, idx t]
theorem b2 (t : Fin cfg0.N) (r : Fin 512) : mat (KK (iblk m c 2 t)) r = cat (args m c).k (row t r) := by
  have e : (args m c).k = V m c main_arg2 := (V_main_arg2 m c).symm
  rw [e]
  funext j
  refine (GnPay.kk _ r j).trans ?_
  unfold row cat
  blk_ext [iblk, idx t]
theorem b3 (t : Fin cfg0.N) (r : Fin 512) : mat (VV (iblk m c 3 t)) r = cat (args m c).v (row t r) := by
  have e : (args m c).v = V m c main_arg3 := (V_main_arg3 m c).symm
  rw [e]
  funext j
  refine (GnPay.vv _ r j).trans ?_
  unfold row cat
  blk_ext [iblk, idx t]
theorem b4 (t : Fin cfg0.N) (r : Fin 512) :
    mat (iblk m c 4 t : FVec Ideal S512x512 .f32) r = mat (args m c).g (row t r) := by
  have e : (args m c).g = V m c main_arg4 := (V_main_arg4 m c).symm
  rw [e]
  funext j
  unfold row mat
  blk_ext [iblk, idx t]
theorem b5 (t : Fin cfg0.N) (r : Fin 512) :
    mat (iblk m c 5 t : FVec Ideal S512x1024 .f32) r = mat (args m c).d (row t r) := by
  have e : (args m c).d = V m c main_arg5 := (V_main_arg5 m c).symm
  rw [e]
  funext j
  unfold row mat
  blk_ext [iblk, idx t]
theorem b6 (t : Fin cfg0.N) : row0 (iblk m c 6 t : FVec Ideal S1x512 .f32) = vec (args m c).w := by
  rw [← e_v0 m c]
  funext j
  unfold row0
  blk_ext [iblk, idx t]
theorem b7 (t : Fin cfg0.N) : row0 (iblk m c 7 t : FVec Ideal S1x512 .f32) = vec (args m c).b := by
  rw [← e_v1 m c]
  funext j
  unfold row0
  blk_ext [iblk, idx t]
theorem b8 (t : Fin cfg0.N) : row0 (iblk m c 8 t : FVec Ideal S1x512 .f32) = q1 (args m c).q := by
  rw [← e_v2 m c]
  funext j
  unfold row0
  blk_ext [iblk, idx t]
theorem b9 (t : Fin cfg0.N) : mat (iblk m c 9 t : FVec Ideal S512x1024 .bf16) = mat (args m c).wb := by
  rw [← e_v3 m c]
  funext i j
  unfold mat
  blk_ext [iblk, idx t]

/-- The buffer kept by group with given rows. -/
def buf3 (A : Mat 4096 512) : A3 8 4096 64 := fun i => A (i 1) (col (i 0) (i 2))

variable (hX : (args m c).Real)
include hX

theorem c0 (t : Fin cfg0.N) (r j : Fin 512) : R (mat (YY (iblk m c 0 t)) r j) := by rw [b0]; exact hX.y _
theorem c1 (t : Fin cfg0.N) (r j : Fin 512) : R (mat (RR (iblk m c 1 t)) r j) := by rw [b1]; exact hX.r _
theorem c2 (t : Fin cfg0.N) (r j : Fin 512) : R (mat (KK (iblk m c 2 t)) r j) := by rw [b2]; exact hX.k _
theorem c3 (t : Fin cfg0.N) (r j : Fin 512) : R (mat (VV (iblk m c 3 t)) r j) := by rw [b3]; exact hX.v _
theorem c4 (t : Fin cfg0.N) (r j : Fin 512) : R (mat (iblk m c 4 t : FVec Ideal S512x512 .f32) r j) := by rw [b4]; exact hX.g _
theorem c5 (t : Fin cfg0.N) (r : Fin 512) (j : Fin 1024) : R (mat (iblk m c 5 t : FVec Ideal S512x1024 .f32) r j) := by rw [b5]; exact hX.d _
theorem c6 (t : Fin cfg0.N) (j : Fin 512) : R (row0 (iblk m c 6 t : FVec Ideal S1x512 .f32) j) := by rw [b6]; exact hX.w _
theorem c8 (t : Fin cfg0.N) (j : Fin 512) : R (row0 (iblk m c 8 t : FVec Ideal S1x512 .f32) j) := by rw [b8]; exact hX.q _
theorem c9 (t : Fin cfg0.N) (i : Fin 512) (j : Fin 1024) : R (mat (iblk m c 9 t : FVec Ideal S512x1024 .bf16) i j) := by rw [b9]; exact hX.wb _

theorem p_dr (t : Fin cfg0.N) (r : Fin 512) (j : Fin 512) :
    GnPay.P51 (KK (iblk m c 2 t)) (VV (iblk m c 3 t)) (iblk m c 4 t) (iblk m c 5 t) (iblk m c 8 t) (iblk m c 9 t) (ix2 r j) = DR (args m c) (row t r) j := by
  refine (GnPay.pay51 (KK (iblk m c 2 t)) (VV (iblk m c 3 t)) (iblk m c 4 t) (iblk m c 5 t) (iblk m c 8 t) (iblk m c 9 t) (c3 m c hX t) (c4 m c hX t) (c5 m c hX t) (c9 m c hX t) r j).trans ?_
  simp only [b0, b1, b2, b3, b4, b5, b6, b7, b8, b9]
  rfl
/-- The cotangent of the bonus's first factor. -/
theorem dr_out : (dats m 0 c).arrAt 11 cfg0.N = (buf2 (DR (args m c)) : FVec Ideal S4096x512 .f32) := by
  refine (dats m 0 c).arrAt_eq_of_covers 11 _ (by decide +kernel) fun t hf y => ?_
  blk_simp
  have e : ((View.whole main_v4_1).slice (win0_11.rect t)).emb y = ix2 (row t (y 0)) (y 1) := by
    unfold row
    blk_ext [idx t]
  rw [after0_11, e]
  by_cases h0 : t.val % 8 = 0
  · rw [outsAt0_A m c t h0 h0 h0 h0]
    frame_out
    exact (congrArg _ (eq_ix2 y)).trans (p_dr m c hX t (y 0) (y 1))
  · rw [outsAt0_B m c t h0 h0 h0 h0]
    frame_out
    exact (congrArg _ (eq_ix2 y)).trans (p_dr m c hX t (y 0) (y 1))

theorem p_dk (t : Fin cfg0.N) (r : Fin 512) (j : Fin 512) :
    GnPay.P50 (RR (iblk m c 1 t)) (VV (iblk m c 3 t)) (iblk m c 4 t) (iblk m c 5 t) (iblk m c 8 t) (iblk m c 9 t) (ix2 r j) = DK (args m c) (row t r) j := by
  refine (GnPay.pay50 (RR (iblk m c 1 t)) (VV (iblk m c 3 t)) (iblk m c 4 t) (iblk m c 5 t) (iblk m c 8 t) (iblk m c 9 t) (c3 m c hX t) (c4 m c hX t) (c5 m c hX t) (c9 m c hX t) r j).trans ?_
  simp only [b0, b1, b2, b3, b4, b5, b6, b7, b8, b9]
  rfl
/-- The cotangent of its second factor. -/
theorem dk_out : (dats m 0 c).arrAt 12 cfg0.N = (buf2 (DK (args m c)) : FVec Ideal S4096x512 .f32) := by
  refine (dats m 0 c).arrAt_eq_of_covers 12 _ (by decide +kernel) fun t hf y => ?_
  blk_simp
  have e : ((View.whole main_v4_2).slice (win0_12.rect t)).emb y = ix2 (row t (y 0)) (y 1) := by
    unfold row
    blk_ext [idx t]
  rw [after0_12, e]
  by_cases h0 : t.val % 8 = 0
  · rw [outsAt0_A m c t h0 h0 h0 h0]
    frame_out
    exact (congrArg _ (eq_ix2 y)).trans (p_dk m c hX t (y 0) (y 1))
  · rw [outsAt0_B m c t h0 h0 h0 h0]
    frame_out
    exact (congrArg _ (eq_ix2 y)).trans (p_dk m c hX t (y 0) (y 1))

theorem p_dv (t : Fin cfg0.N) (r : Fin 512) (j : Fin 512) :
    GnPay.P46 (RR (iblk m c 1 t)) (KK (iblk m c 2 t)) (iblk m c 4 t) (iblk m c 5 t) (iblk m c 8 t) (iblk m c 9 t) (ix2 r j) = DV (args m c) (row t r) j := by
  refine (GnPay.pay46 (RR (iblk m c 1 t)) (KK (iblk m c 2 t)) (iblk m c 4 t) (iblk m c 5 t) (iblk m c 8 t) (iblk m c 9 t) (c1 m c hX t) (c2 m c hX t) (c8 m c hX t) r j).trans ?_
  simp only [b0, b1, b2, b3, b4, b5, b6, b7, b8, b9]
  rfl
/-- The cotangent of the bonus's row. -/
theorem dv_out : (dats m 0 c).arrAt 13 cfg0.N = (buf2 (DV (args m c)) : FVec Ideal S4096x512 .f32) := by
  refine (dats m 0 c).arrAt_eq_of_covers 13 _ (by decide +kernel) fun t hf y => ?_
  blk_simp
  have e : ((View.whole main_v4_3).slice (win0_13.rect t)).emb y = ix2 (row t (y 0)) (y 1) := by
    unfold row
    blk_ext [idx t]
  rw [after0_13, e]
  by_cases h0 : t.val % 8 = 0
  · rw [outsAt0_A m c t h0 h0 h0 h0]
    frame_out
    exact (congrArg _ (eq_ix2 y)).trans (p_dv m c hX t (y 0) (y 1))
  · rw [outsAt0_B m c t h0 h0 h0 h0]
    frame_out
    exact (congrArg _ (eq_ix2 y)).trans (p_dv m c hX t (y 0) (y 1))

theorem p_dg (t : Fin cfg0.N) (r : Fin 512) (j : Fin 512) :
    GnPay.P44 (YY (iblk m c 0 t)) (RR (iblk m c 1 t)) (KK (iblk m c 2 t)) (VV (iblk m c 3 t)) (iblk m c 5 t) (iblk m c 6 t) (iblk m c 7 t) (iblk m c 8 t) (iblk m c 9 t) (ix2 r j) = DG (args m c) (row t r) j := by
  refine (GnPay.pay44 (YY (iblk m c 0 t)) (RR (iblk m c 1 t)) (KK (iblk m c 2 t)) (VV (iblk m c 3 t)) (iblk m c 5 t) (iblk m c 6 t) (iblk m c 7 t) (iblk m c 8 t) (iblk m c 9 t) (c0 m c hX t) (c1 m c hX t) (c2 m c hX t) (c8 m c hX t) r j).trans ?_
  simp only [b0, b1, b2, b3, b4, b5, b6, b7, b8, b9]
  rfl
/-- The cotangent of the gate. -/
theorem dg_out : (dats m 0 c).arrAt 14 cfg0.N = (buf2 (DG (args m c)) : FVec Ideal S4096x512 .f32) := by
  refine (dats m 0 c).arrAt_eq_of_covers 14 _ (by decide +kernel) fun t hf y => ?_
  blk_simp
  have e : ((View.whole main_v4_4).slice (win0_14.rect t)).emb y = ix2 (row t (y 0)) (y 1) := by
    unfold row
    blk_ext [idx t]
  rw [after0_14, e]
  by_cases h0 : t.val % 8 = 0
  · rw [outsAt0_A m c t h0 h0 h0 h0]
    frame_out
    exact (congrArg _ (eq_ix2 y)).trans (p_dg m c hX t (y 0) (y 1))
  · rw [outsAt0_B m c t h0 h0 h0 h0]
    frame_out
    exact (congrArg _ (eq_ix2 y)).trans (p_dg m c hX t (y 0) (y 1))

omit hX in
theorem z_dw (j : S1x512.Idx) : k0_pay68 (F := Ideal) j = 0 := by pointwise [k0_pay68]
theorem p_dw (t : Fin cfg0.N) (acc : FVec Ideal S1x512 .f32) (j : S1x512.Idx) :
    k0_pay69 (F := Ideal) (GnPay.P53 (YY (iblk m c 0 t)) (iblk m c 4 t) (iblk m c 5 t) (iblk m c 9 t)) acc j = acc j + ∑ r : Fin 512, hat (cat (args m c).y (row t r)) (j 1) * DZ (args m c) (row t r) (j 1) := by
  have hj : j = ix2 0 (j 1) := GnSpec.eq_ix2_one j
  have e : GnPay.P53 (YY (iblk m c 0 t)) (iblk m c 4 t) (iblk m c 5 t) (iblk m c 9 t) j = ∑ r : Fin 512, hat (cat (args m c).y (row t r)) (j 1) * DZ (args m c) (row t r) (j 1) := by
    rw [hj]
    refine (GnPay.pay53 (YY (iblk m c 0 t)) (iblk m c 4 t) (iblk m c 5 t) (iblk m c 9 t) (c0 m c hX t) _).trans ?_
    simp only [b0, b1, b2, b3, b4, b5, b6, b7, b8, b9]
    rfl
  rw [← e]
  pointwise [k0_pay69]
/-- The gradient of the normalisation's gain. -/
theorem dw_out : (dats m 0 c).arrAt 15 cfg0.N = (buf1 (DW (args m c)) : FVec Ideal S1x512 .f32) := by
  refine (dats m 0 c).arrAt_eq_of_covers 15 _ (by decide +kernel) fun t hf y => ?_
  blk_simp
  have e : (win0_15.blk t).view.emb y = ix2 (y 0) (y 1) := by
    blk_ext [idx t]
  rw [after0_15, Pipeline.eq_sum_fin_of_reset_step_apply_of_flush (fun n h => (outsAt0 m c n h).2.2.2.2.2.1) 8 (fun _ => 0)
      (fun t j => ∑ r : Fin 512, hat (cat (args m c).y (row t r)) (j 1) * DZ (args m c) (row t r) (j 1))
    (fun t h j => by rw [outsAt0_A m c t h h h h]; frame_out; rw [p_dw m c hX, z_dw])
    (fun t h j => by rw [outsAt0_B m c t h h h h]; frame_out; rw [p_dw m c hX])
    t ((flush0_15 t).mp hf) _, zero_add]
  rw [e]
  unfold buf1 DW
  refine Fin.sum_mul_add_congr fun s k hl => ?_
  have ht := lt_of_lt_of_eq t.isLt N_0
  have hr : row ⟨8 * (t.val / 8) + s.val, Pipeline.run_point_lt_of_flush t ((flush0_15 t).mp hf) s⟩ k = ⟨s.val * 512 + k.val, hl⟩ :=
    Fin.ext (by simp only [row]; omega)
  rw [hr]
  rfl

omit hX in
theorem z_db (j : S1x512.Idx) : k0_pay1 (F := Ideal) j = 0 := by pointwise [k0_pay1]
theorem p_db (t : Fin cfg0.N) (acc : FVec Ideal S1x512 .f32) (j : S1x512.Idx) :
    k0_pay2 (F := Ideal) (GnPay.P52 (iblk m c 4 t) (iblk m c 5 t) (iblk m c 9 t)) acc j = acc j + ∑ r : Fin 512, DZ (args m c) (row t r) (j 1) := by
  have hj : j = ix2 0 (j 1) := GnSpec.eq_ix2_one j
  have e : GnPay.P52 (iblk m c 4 t) (iblk m c 5 t) (iblk m c 9 t) j = ∑ r : Fin 512, DZ (args m c) (row t r) (j 1) := by
    rw [hj]
    refine (GnPay.pay52 (iblk m c 4 t) (iblk m c 5 t) (iblk m c 9 t)  _).trans ?_
    simp only [b0, b1, b2, b3, b4, b5, b6, b7, b8, b9]
    rfl
  rw [← e]
  pointwise [k0_pay2]
/-- The gradient of the normalisation's bias. -/
theorem db_out : (dats m 0 c).arrAt 16 cfg0.N = (buf1 (DB (args m c)) : FVec Ideal S1x512 .f32) := by
  refine (dats m 0 c).arrAt_eq_of_covers 16 _ (by decide +kernel) fun t hf y => ?_
  blk_simp
  have e : (win0_16.blk t).view.emb y = ix2 (y 0) (y 1) := by
    blk_ext [idx t]
  rw [after0_16, Pipeline.eq_sum_fin_of_reset_step_apply_of_flush (fun n h => (outsAt0 m c n h).2.2.2.2.2.2.1) 8 (fun _ => 0)
      (fun t j => ∑ r : Fin 512, DZ (args m c) (row t r) (j 1))
    (fun t h j => by rw [outsAt0_A m c t h h h h]; frame_out; rw [p_db m c hX, z_db])
    (fun t h j => by rw [outsAt0_B m c t h h h h]; frame_out; rw [p_db m c hX])
    t ((flush0_16 t).mp hf) _, zero_add]
  rw [e]
  unfold buf1 DB
  refine Fin.sum_mul_add_congr fun s k hl => ?_
  have ht := lt_of_lt_of_eq t.isLt N_0
  have hr : row ⟨8 * (t.val / 8) + s.val, Pipeline.run_point_lt_of_flush t ((flush0_16 t).mp hf) s⟩ k = ⟨s.val * 512 + k.val, hl⟩ :=
    Fin.ext (by simp only [row]; omega)
  rw [hr]
  rfl

omit hX in
theorem z_dq (j : S1x512.Idx) : k0_pay3 (F := Ideal) j = 0 := by pointwise [k0_pay3]
theorem p_dq (t : Fin cfg0.N) (acc : FVec Ideal S1x512 .f32) (j : S1x512.Idx) :
    k0_pay4 (F := Ideal) (GnPay.P48 (RR (iblk m c 1 t)) (KK (iblk m c 2 t)) (VV (iblk m c 3 t)) (iblk m c 4 t) (iblk m c 5 t) (iblk m c 9 t)) acc j = acc j + ∑ r : Fin 512, cat (args m c).r (row t r) (j 1) * cat (args m c).k (row t r) (j 1) * er (cat (args m c).v (row t r)) (mat (args m c).g (row t r)) (mat (args m c).d (row t r)) (mat (args m c).wb) (j 1) := by
  have hj : j = ix2 0 (j 1) := GnSpec.eq_ix2_one j
  have e : GnPay.P48 (RR (iblk m c 1 t)) (KK (iblk m c 2 t)) (VV (iblk m c 3 t)) (iblk m c 4 t) (iblk m c 5 t) (iblk m c 9 t) j = ∑ r : Fin 512, cat (args m c).r (row t r) (j 1) * cat (args m c).k (row t r) (j 1) * er (cat (args m c).v (row t r)) (mat (args m c).g (row t r)) (mat (args m c).d (row t r)) (mat (args m c).wb) (j 1) := by
    rw [hj]
    refine (GnPay.pay48 (RR (iblk m c 1 t)) (KK (iblk m c 2 t)) (VV (iblk m c 3 t)) (iblk m c 4 t) (iblk m c 5 t) (iblk m c 9 t) (c3 m c hX t) (c4 m c hX t) (c5 m c hX t) (c9 m c hX t) _).trans ?_
    simp only [b0, b1, b2, b3, b4, b5, b6, b7, b8, b9]
    rfl
  rw [← e]
  pointwise [k0_pay4]
/-- The gradient of the bonus's factor. -/
theorem dq_out : (dats m 0 c).arrAt 17 cfg0.N = (buf1 (DQ (args m c)) : FVec Ideal S1x512 .f32) := by
  refine (dats m 0 c).arrAt_eq_of_covers 17 _ (by decide +kernel) fun t hf y => ?_
  blk_simp
  have e : (win0_17.blk t).view.emb y = ix2 (y 0) (y 1) := by
    blk_ext [idx t]
  rw [after0_17, Pipeline.eq_sum_fin_of_reset_step_apply_of_flush (fun n h => (outsAt0 m c n h).2.2.2.2.2.2.2.1) 8 (fun _ => 0)
      (fun t j => ∑ r : Fin 512, cat (args m c).r (row t r) (j 1) * cat (args m c).k (row t r) (j 1) * er (cat (args m c).v (row t r)) (mat (args m c).g (row t r)) (mat (args m c).d (row t r)) (mat (args m c).wb) (j 1))
    (fun t h j => by rw [outsAt0_A m c t h h h h]; frame_out; rw [p_dq m c hX, z_dq])
    (fun t h j => by rw [outsAt0_B m c t h h h h]; frame_out; rw [p_dq m c hX])
    t ((flush0_17 t).mp hf) _, zero_add]
  rw [e]
  unfold buf1 DQ
  refine Fin.sum_mul_add_congr fun s k hl => ?_
  have ht := lt_of_lt_of_eq t.isLt N_0
  have hr : row ⟨8 * (t.val / 8) + s.val, Pipeline.run_point_lt_of_flush t ((flush0_17 t).mp hf) s⟩ k = ⟨s.val * 512 + k.val, hl⟩ :=
    Fin.ext (by simp only [row]; omega)
  rw [hr]
  rfl

omit hX in
theorem z_dt (j : S512x1024.Idx) : k0_pay5 (F := Ideal) j = 0 := by pointwise [k0_pay5]
theorem p_dt (t : Fin cfg0.N) (acc : FVec Ideal S512x1024 .f32) (j : S512x1024.Idx) :
    k0_pay6 (F := Ideal) (GnPay.P59 (YY (iblk m c 0 t)) (RR (iblk m c 1 t)) (KK (iblk m c 2 t)) (VV (iblk m c 3 t)) (iblk m c 4 t) (iblk m c 5 t) (iblk m c 6 t) (iblk m c 7 t) (iblk m c 8 t)) acc j = acc j + ∑ r : Fin 512, OUT (args m c) (row t r) (j 0) * mat (args m c).d (row t r) (j 1) := by
  have hj : j = ix2 (j 0) (j 1) := eq_ix2 j
  have e : GnPay.P59 (YY (iblk m c 0 t)) (RR (iblk m c 1 t)) (KK (iblk m c 2 t)) (VV (iblk m c 3 t)) (iblk m c 4 t) (iblk m c 5 t) (iblk m c 6 t) (iblk m c 7 t) (iblk m c 8 t) j = ∑ r : Fin 512, OUT (args m c) (row t r) (j 0) * mat (args m c).d (row t r) (j 1) := by
    rw [hj]
    refine (GnPay.pay59 (YY (iblk m c 0 t)) (RR (iblk m c 1 t)) (KK (iblk m c 2 t)) (VV (iblk m c 3 t)) (iblk m c 4 t) (iblk m c 5 t) (iblk m c 6 t) (iblk m c 7 t) (iblk m c 8 t) (c0 m c hX t) (c1 m c hX t) (c2 m c hX t) (c8 m c hX t) _ _).trans ?_
    simp only [b0, b1, b2, b3, b4, b5, b6, b7, b8, b9]
    rfl
  rw [← e]
  pointwise [k0_pay6]
/-- The gradient of the projection's lower rows. -/
theorem dt_out : (dats m 0 c).arrAt 18 cfg0.N = (buf2 (DT (args m c)) : FVec Ideal S512x1024 .f32) := by
  refine (dats m 0 c).arrAt_eq_of_covers 18 _ (by decide +kernel) fun t hf y => ?_
  blk_simp
  have e : (win0_18.blk t).view.emb y = ix2 (y 0) (y 1) := by
    blk_ext [idx t]
  rw [after0_18, Pipeline.eq_sum_fin_of_reset_step_apply_of_flush (fun n h => (outsAt0 m c n h).2.2.2.2.2.2.2.2) 8 (fun _ => 0)
      (fun t j => ∑ r : Fin 512, OUT (args m c) (row t r) (j 0) * mat (args m c).d (row t r) (j 1))
    (fun t h j => by rw [outsAt0_A m c t h h h h]; frame_out; rw [p_dt m c hX, z_dt])
    (fun t h j => by rw [outsAt0_B m c t h h h h]; frame_out; rw [p_dt m c hX])
    t ((flush0_18 t).mp hf) _, zero_add]
  rw [e]
  unfold buf2 DT outer
  refine Fin.sum_mul_add_congr fun s k hl => ?_
  have ht := lt_of_lt_of_eq t.isLt N_0
  have hr : row ⟨8 * (t.val / 8) + s.val, Pipeline.run_point_lt_of_flush t ((flush0_18 t).mp hf) s⟩ k = ⟨s.val * 512 + k.val, hl⟩ :=
    Fin.ext (by simp only [row]; omega)
  rw [hr]
  rfl

theorem p_dy (t : Fin cfg0.N) (r : Fin 512) (j : Fin 512) :
    GnPay.P58 (YY (iblk m c 0 t)) (iblk m c 4 t) (iblk m c 5 t) (iblk m c 6 t) (iblk m c 9 t) (ix2 r j) = DY (args m c) (row t r) j := by
  refine (GnPay.pay58 (YY (iblk m c 0 t)) (iblk m c 4 t) (iblk m c 5 t) (iblk m c 6 t) (iblk m c 9 t) (c0 m c hX t) (c4 m c hX t) (c5 m c hX t) (c6 m c hX t) (c9 m c hX t) r j).trans ?_
  simp only [b0, b1, b2, b3, b4, b5, b6, b7, b8, b9]
  rfl
omit hX in
theorem s60 (v16 v68 : FVec Ideal S512x512 .f32) (v69 : FVec Ideal S512x1024 .f32) (v70 : FVec Ideal S1x512 .f32) (v76 : FVec Ideal S512x1024 .bf16)
    (x : S1x512x64.Idx) (y : S8x512x64.Idx) (h0 : (y 0).val = (x 0).val) (h1 : (y 1).val = (x 1).val) (h2 : (y 2).val = (x 2).val) :
    k0_pay60 (F := Ideal) GnPay.M29 (GnPay.P56 v16 v68 v69 v70 v76) (GnPay.P57 v16 v68 v69 v70 v76) x = GnPay.P58 v16 v68 v69 v70 v76 (ix2 (y 1) (col (y 0) (y 2))) := by
  have hx0 : (x 0).val < 1 := (x 0).isLt
  have ex : x = ix3 0 (x 1) (x 2) := by
    funext a
    match a with
    | 0 => exact Fin.ext (by show (x 0).val = 0; omega)
    | 1 => rfl
    | 2 => rfl
  rw [ex]
  pointwise [k0_pay60]
  refine congrArg _ ?_
  refine congrArg₂ ix2 (Fin.ext h1.symm) (Fin.ext ?_)
  show _ = (y 0).val * 64 + (y 2).val
  simp only
  omega
omit hX in
theorem s61 (v16 v68 : FVec Ideal S512x512 .f32) (v69 : FVec Ideal S512x1024 .f32) (v70 : FVec Ideal S1x512 .f32) (v76 : FVec Ideal S512x1024 .bf16)
    (x : S1x512x64.Idx) (y : S8x512x64.Idx) (h0 : (y 0).val = 1 + (x 0).val) (h1 : (y 1).val = (x 1).val) (h2 : (y 2).val = (x 2).val) :
    k0_pay61 (F := Ideal) GnPay.M29 (GnPay.P56 v16 v68 v69 v70 v76) (GnPay.P57 v16 v68 v69 v70 v76) x = GnPay.P58 v16 v68 v69 v70 v76 (ix2 (y 1) (col (y 0) (y 2))) := by
  have hx0 : (x 0).val < 1 := (x 0).isLt
  have ex : x = ix3 0 (x 1) (x 2) := by
    funext a
    match a with
    | 0 => exact Fin.ext (by show (x 0).val = 0; omega)
    | 1 => rfl
    | 2 => rfl
  rw [ex]
  pointwise [k0_pay61]
  refine congrArg _ ?_
  refine congrArg₂ ix2 (Fin.ext h1.symm) (Fin.ext ?_)
  show _ = (y 0).val * 64 + (y 2).val
  simp only
  omega
omit hX in
theorem s62 (v16 v68 : FVec Ideal S512x512 .f32) (v69 : FVec Ideal S512x1024 .f32) (v70 : FVec Ideal S1x512 .f32) (v76 : FVec Ideal S512x1024 .bf16)
    (x : S1x512x64.Idx) (y : S8x512x64.Idx) (h0 : (y 0).val = 2 + (x 0).val) (h1 : (y 1).val = (x 1).val) (h2 : (y 2).val = (x 2).val) :
    k0_pay62 (F := Ideal) GnPay.M29 (GnPay.P56 v16 v68 v69 v70 v76) (GnPay.P57 v16 v68 v69 v70 v76) x = GnPay.P58 v16 v68 v69 v70 v76 (ix2 (y 1) (col (y 0) (y 2))) := by
  have hx0 : (x 0).val < 1 := (x 0).isLt
  have ex : x = ix3 0 (x 1) (x 2) := by
    funext a
    match a with
    | 0 => exact Fin.ext (by show (x 0).val = 0; omega)
    | 1 => rfl
    | 2 => rfl
  rw [ex]
  pointwise [k0_pay62]
  refine congrArg _ ?_
  refine congrArg₂ ix2 (Fin.ext h1.symm) (Fin.ext ?_)
  show _ = (y 0).val * 64 + (y 2).val
  simp only
  omega
omit hX in
theorem s63 (v16 v68 : FVec Ideal S512x512 .f32) (v69 : FVec Ideal S512x1024 .f32) (v70 : FVec Ideal S1x512 .f32) (v76 : FVec Ideal S512x1024 .bf16)
    (x : S1x512x64.Idx) (y : S8x512x64.Idx) (h0 : (y 0).val = 3 + (x 0).val) (h1 : (y 1).val = (x 1).val) (h2 : (y 2).val = (x 2).val) :
    k0_pay63 (F := Ideal) GnPay.M29 (GnPay.P56 v16 v68 v69 v70 v76) (GnPay.P57 v16 v68 v69 v70 v76) x = GnPay.P58 v16 v68 v69 v70 v76 (ix2 (y 1) (col (y 0) (y 2))) := by
  have hx0 : (x 0).val < 1 := (x 0).isLt
  have ex : x = ix3 0 (x 1) (x 2) := by
    funext a
    match a with
    | 0 => exact Fin.ext (by show (x 0).val = 0; omega)
    | 1 => rfl
    | 2 => rfl
  rw [ex]
  pointwise [k0_pay63]
  refine congrArg _ ?_
  refine congrArg₂ ix2 (Fin.ext h1.symm) (Fin.ext ?_)
  show _ = (y 0).val * 64 + (y 2).val
  simp only
  omega
omit hX in
theorem s64 (v16 v68 : FVec Ideal S512x512 .f32) (v69 : FVec Ideal S512x1024 .f32) (v70 : FVec Ideal S1x512 .f32) (v76 : FVec Ideal S512x1024 .bf16)
    (x : S1x512x64.Idx) (y : S8x512x64.Idx) (h0 : (y 0).val = 4 + (x 0).val) (h1 : (y 1).val = (x 1).val) (h2 : (y 2).val = (x 2).val) :
    k0_pay64 (F := Ideal) GnPay.M29 (GnPay.P56 v16 v68 v69 v70 v76) (GnPay.P57 v16 v68 v69 v70 v76) x = GnPay.P58 v16 v68 v69 v70 v76 (ix2 (y 1) (col (y 0) (y 2))) := by
  have hx0 : (x 0).val < 1 := (x 0).isLt
  have ex : x = ix3 0 (x 1) (x 2) := by
    funext a
    match a with
    | 0 => exact Fin.ext (by show (x 0).val = 0; omega)
    | 1 => rfl
    | 2 => rfl
  rw [ex]
  pointwise [k0_pay64]
  refine congrArg _ ?_
  refine congrArg₂ ix2 (Fin.ext h1.symm) (Fin.ext ?_)
  show _ = (y 0).val * 64 + (y 2).val
  simp only
  omega
omit hX in
theorem s65 (v16 v68 : FVec Ideal S512x512 .f32) (v69 : FVec Ideal S512x1024 .f32) (v70 : FVec Ideal S1x512 .f32) (v76 : FVec Ideal S512x1024 .bf16)
    (x : S1x512x64.Idx) (y : S8x512x64.Idx) (h0 : (y 0).val = 5 + (x 0).val) (h1 : (y 1).val = (x 1).val) (h2 : (y 2).val = (x 2).val) :
    k0_pay65 (F := Ideal) (GnPay.P58 v16 v68 v69 v70 v76) x = GnPay.P58 v16 v68 v69 v70 v76 (ix2 (y 1) (col (y 0) (y 2))) := by
  have hx0 : (x 0).val < 1 := (x 0).isLt
  have ex : x = ix3 0 (x 1) (x 2) := by
    funext a
    match a with
    | 0 => exact Fin.ext (by show (x 0).val = 0; omega)
    | 1 => rfl
    | 2 => rfl
  rw [ex]
  pointwise [k0_pay65]
  refine congrArg _ ?_
  refine congrArg₂ ix2 (Fin.ext h1.symm) (Fin.ext ?_)
  show _ = (y 0).val * 64 + (y 2).val
  simp only
  omega
omit hX in
theorem s66 (v16 v68 : FVec Ideal S512x512 .f32) (v69 : FVec Ideal S512x1024 .f32) (v70 : FVec Ideal S1x512 .f32) (v76 : FVec Ideal S512x1024 .bf16)
    (x : S1x512x64.Idx) (y : S8x512x64.Idx) (h0 : (y 0).val = 6 + (x 0).val) (h1 : (y 1).val = (x 1).val) (h2 : (y 2).val = (x 2).val) :
    k0_pay66 (F := Ideal) (GnPay.P58 v16 v68 v69 v70 v76) x = GnPay.P58 v16 v68 v69 v70 v76 (ix2 (y 1) (col (y 0) (y 2))) := by
  have hx0 : (x 0).val < 1 := (x 0).isLt
  have ex : x = ix3 0 (x 1) (x 2) := by
    funext a
    match a with
    | 0 => exact Fin.ext (by show (x 0).val = 0; omega)
    | 1 => rfl
    | 2 => rfl
  rw [ex]
  pointwise [k0_pay66]
  refine congrArg _ ?_
  refine congrArg₂ ix2 (Fin.ext h1.symm) (Fin.ext ?_)
  show _ = (y 0).val * 64 + (y 2).val
  simp only
  omega
omit hX in
theorem s67 (v16 v68 : FVec Ideal S512x512 .f32) (v69 : FVec Ideal S512x1024 .f32) (v70 : FVec Ideal S1x512 .f32) (v76 : FVec Ideal S512x1024 .bf16)
    (x : S1x512x64.Idx) (y : S8x512x64.Idx) (h0 : (y 0).val = 7 + (x 0).val) (h1 : (y 1).val = (x 1).val) (h2 : (y 2).val = (x 2).val) :
    k0_pay67 (F := Ideal) (GnPay.P58 v16 v68 v69 v70 v76) x = GnPay.P58 v16 v68 v69 v70 v76 (ix2 (y 1) (col (y 0) (y 2))) := by
  have hx0 : (x 0).val < 1 := (x 0).isLt
  have ex : x = ix3 0 (x 1) (x 2) := by
    funext a
    match a with
    | 0 => exact Fin.ext (by show (x 0).val = 0; omega)
    | 1 => rfl
    | 2 => rfl
  rw [ex]
  pointwise [k0_pay67]
  refine congrArg _ ?_
  refine congrArg₂ ix2 (Fin.ext h1.symm) (Fin.ext ?_)
  show _ = (y 0).val * 64 + (y 2).val
  simp only
  omega
/-- The cotangent of the recurrence's output. -/
theorem dy_out : (dats m 0 c).arrAt 10 cfg0.N = (buf3 (DY (args m c)) : FVec Ideal S8x4096x64 .f32) := by
  refine (dats m 0 c).arrAt_eq_of_covers 10 _ (by decide +kernel) fun t hf y => ?_
  blk_simp
  have e : ((View.whole main_v4_0).slice (win0_10.rect t)).emb y = ix3 (y 0) (row t (y 1)) (y 2) := by
    unfold row
    blk_ext [idx t]
  rw [after0_10, e]
  have g := p_dy m c hX t (y 1) (col (y 0) (y 2))
  refine Eq.trans ?_ g
  by_cases h0 : t.val % 8 = 0
  · rw [outsAt0_A m c t h0 h0 h0 h0]
    frame_out
    canon_tiles x h
    · exact s67 _ _ _ _ _ x y h0 h1 h2
    · exact s66 _ _ _ _ _ x y h0 h1 h2
    · exact s65 _ _ _ _ _ x y h0 h1 h2
    · exact s64 _ _ _ _ _ x y h0 h1 h2
    · exact s63 _ _ _ _ _ x y h0 h1 h2
    · exact s62 _ _ _ _ _ x y h0 h1 h2
    · exact s61 _ _ _ _ _ x y h0 h1 h2
    · exact s60 _ _ _ _ _ x y h0 h1 h2
  · rw [outsAt0_B m c t h0 h0 h0 h0]
    frame_out
    canon_tiles x h
    · exact s67 _ _ _ _ _ x y h0 h1 h2
    · exact s66 _ _ _ _ _ x y h0 h1 h2
    · exact s65 _ _ _ _ _ x y h0 h1 h2
    · exact s64 _ _ _ _ _ x y h0 h1 h2
    · exact s63 _ _ _ _ _ x y h0 h1 h2
    · exact s62 _ _ _ _ _ x y h0 h1 h2
    · exact s61 _ _ _ _ _ x y h0 h1 h2
    · exact s60 _ _ _ _ _ x y h0 h1 h2

end Cert.GnReg

end
-- ==== Proof.Finite.lean ====
/-
  What a precondition that every element of some arguments is finite says: each such element is a real number.
-/
module

public import proofs.«01_k».proof.Proof.Spec
public import Idealize.ShloMosaic.Lib.ReduceAll
public import Idealize.ShloMosaic.Lib.StableHlo

@[expose] public section

noncomputable section

namespace Cert.Finite

open Idealize.ShloMosaic

/-- The scalar's shape. -/
abbrev S0 : Shape := ⟨0, ![]⟩

/-- The literal infinity. -/
theorem ofBits_inf : Ideal.ofBits .f32 0x7F800000#32 = ⊤ := by
  have h : BitVec.extractLsb' 31 1 0x7F800000#32 ≠ 1#1 := by decide
  simp only [Ideal.ofBits, Ideal.ieee]
  norm_num [Nat.shiftRight_eq_div_pow, h]

/-- A number whose absolute value is below infinity is real. -/
theorem real_of_abs_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- Both of two bits that are one together are one. -/
theorem both (a b : IVec S0 1) (e : andi a b = fun _ => 1#1) : a = (fun _ => 1#1) ∧ b = fun _ => 1#1 :=
  ⟨funext fun i => (IntOp.andi_eq_one.1 (congrFun e i)).1, funext fun i => (IntOp.andi_eq_one.1 (congrFun e i)).2⟩

/-- If every element passes the test, every element is real. -/
theorem all_real {s : Shape} {axes : List (Fin s.rank)} (x : FVec Ideal s .f32) (init : IVec S0 1) (h : s.ReducesTo axes S0) (hu : 0 < S0.numel)
    (hb : S0.BroadcastsInDim s (![] : Fin 0 → Fin s.rank))
    (e : Host.reduce IntOp.andi (cmpf .olt (Host.absf x) (broadcastInDim s ![] hb (constant S0 .f32 0x7F800000#32))) init h hu = fun _ => 1#1) :
    ∀ i, ∃ r : ℝ, x i = (r : EReal) := by
  intro i
  haveI : Subsingleton S0.Idx := ⟨fun a b => by funext k; exact k.elim0⟩
  have h1 := Host.reduce_andi_all _ init h hu ix0 (congrFun e ix0) i
  have h2 : Ideal.cmp .olt (max (x i) (-(x i))) (Ideal.ofBits .f32 0x7F800000#32) = 1#1 := h1
  rw [ofBits_inf] at h2
  exact real_of_abs_lt _ h2

end Cert.Finite

end
-- ==== Proof.GnClaim.lean ====
/-
  The reference for the second mixer's output stage, one stage at a time, and the equality of its results with the backward call's.
-/
module

public import proofs.«01_k».proof.Defs
public import proofs.«01_k».proof.Proof.GnReg
public import proofs.«01_k».proof.Proof.Finite
public import proofs.«01_k».proof.Proof.Gen.GnIdeal.Value
public import proofs.«01_k».proof.Proof.Gen.GnRefIdeal
public import proofs.«01_k».proof.Proof.Gen.GnRefIdeal.Run
public import proofs.«01_k».proof.Proof.Gen.GnRefIdeal.Read
public import proofs.«01_k».proof.Proof.Gen.Pre_finite_post
public import Idealize.ShloMosaic.Lib.Claim

@[expose] public section

set_option maxRecDepth 16384

noncomputable section

namespace Cert.GnClaim

section Ref

open Idealize.ShloMosaic Idealize.ShloMosaic.TcCoe Idealize.SL.Sem Idealize.ShloMosaic.StableHlo
open Cert.GnRefIdeal Cert.GnRefIdeal.Gen Cert.GnRefIdeal.Read
open Cert.Spec hiding eq_ix2
open Cert.GnSpec Cert.GnReg
open Cert.Whole (A2)

variable (X : Args)

theorem seg_col (x : Row 512) (h : Fin 8) (l : Fin 64) : seg x (col h l) = ∑ p : Fin 64, x (col h p) := by
  unfold seg
  rw [hd_col]
theorem q1_col (q : A2 8 64) (h : Fin 8) (l : Fin 64) : q1 q (col h l) = q (ix2 h l) := by
  unfold q1
  rw [hd_col, ln_col]
theorem col_dm (j : Fin 512) (h : j.val / 64 < 8) (h' : j.val % 64 < 64) : col ⟨j.val / 64, h⟩ ⟨j.val % 64, h'⟩ = j := col_hd_ln j
theorem col_dl (j : Fin 512) (h : j.val / 64 < 8) : col ⟨j.val / 64, h⟩ (ln j) = j := col_hd_ln j
theorem eq_ix3 (y : Shape.Idx ⟨3, ![8, 4096, 64]⟩) : y = ix3 (y 0) (y 1) (y 2) := by
  funext k
  match k with
  | ⟨0, _⟩ => rfl
  | ⟨1, _⟩ => rfl
  | ⟨2, _⟩ => rfl

/-! ## The reference, stage by stage -/

theorem y_eq (t : Fin 4096) (h : Fin 8) (l : Fin 64) : val_main_v8 (F := Ideal) X.y (ix3 t h l) = cat X.y t (col h l) := by
  pointwise [val_main_v0, val_main_v1, val_main_v8]
  unfold cat
  rw [hd_col, ln_col]
theorem r_eq (t : Fin 4096) (h : Fin 8) (l : Fin 64) : val_main_v9 (F := Ideal) X.r (ix3 t h l) = cat X.r t (col h l) := by
  pointwise [val_main_v2, val_main_v3, val_main_v9]
  unfold cat
  rw [hd_col, ln_col]
theorem k_eq (t : Fin 4096) (h : Fin 8) (l : Fin 64) : val_main_v10 (F := Ideal) X.k (ix3 t h l) = cat X.k t (col h l) := by
  pointwise [val_main_v4, val_main_v5, val_main_v10]
  unfold cat
  rw [hd_col, ln_col]
theorem v_eq (t : Fin 4096) (h : Fin 8) (l : Fin 64) : val_main_v11 (F := Ideal) X.v (ix3 t h l) = cat X.v t (col h l) := by
  pointwise [val_main_v6, val_main_v7, val_main_v11]
  unfold cat
  rw [hd_col, ln_col]
theorem yc_eq (t : Fin 4096) (h : Fin 8) (l : Fin 64) : val_main_v17 (F := Ideal) X.y (ix3 t h l) = yc (cat X.y t) (col h l) := by
  pointwise [val_main_v12, val_main_v13, val_main_v14, val_main_v15, val_main_v16, val_main_v17, val_main_cst, val_main_cst_0, y_eq, zero_add, div_n64]
  unfold yc
  rw [seg_col]
theorem vr_eq (t : Fin 4096) (h : Fin 8) (l : Fin 64) : val_main_v24 (F := Ideal) X.y (ix3 t h 0) = vr (cat X.y t) (col h l) := by
  pointwise [val_main_v18, val_main_v19, val_main_v20, val_main_v21, val_main_v22, val_main_v23, val_main_v24, val_main_cst_1, val_main_cst_2, val_main_cst_3, yc_eq, zero_add, div_n64]
  unfold vr
  rw [seg_col]
  rfl
theorem rs_eq (t : Fin 4096) (h : Fin 8) (l : Fin 64) : val_main_v25 (F := Ideal) X.y (ix3 t h 0) = rs (cat X.y t) (col h l) := by
  pointwise [val_main_v25, vr_eq X t h l]
  rfl
theorem qs_eq (t : Fin 4096) (h : Fin 8) (l : Fin 64) : val_main_v28 (F := Ideal) X.y (ix3 t h 0) = qs (cat X.y t) (col h l) := by
  pointwise [val_main_v26, val_main_v27, val_main_v28, val_main_cst_4, vr_eq X t h l, rs_eq X t h l]
  rfl
theorem hat_eq (t : Fin 4096) (h : Fin 8) (l : Fin 64) : val_main_v30 (F := Ideal) X.y (ix3 t h l) = hat (cat X.y t) (col h l) := by
  pointwise [val_main_v29, val_main_v30, rs_eq X t h l, yc_eq]
  rfl
theorem hatj_eq (t : Fin 4096) (j : Fin 512) : val_main_v31 (F := Ideal) X.y (ix2 t j) = hat (cat X.y t) j := by
  pointwise [val_main_v31, hat_eq]
  rw [col_dm]
theorem bon_eq (t : Fin 4096) (h : Fin 8) (l : Fin 64) : val_main_v43 (F := Ideal) X.r X.k X.q (ix3 t h 0) = bon (cat X.r t) (cat X.k t) (q1 X.q) (col h l) := by
  pointwise [val_main_v38, val_main_v39, val_main_v40, val_main_v41, val_main_v42, val_main_v43, val_main_cst_5, r_eq, k_eq, zero_add]
  unfold bon
  rw [seg_col]
  simp only [q1_col]
theorem zz_eq (t : Fin 4096) (j : Fin 512) : val_main_v47 (F := Ideal) X.y X.r X.k X.v X.w X.b X.q (ix2 t j) = zz (cat X.y t) (cat X.r t) (cat X.k t) (cat X.v t) (vec X.w) (vec X.b) (q1 X.q) j := by
  pointwise [val_main_v32, val_main_v33, val_main_v34, val_main_v35, val_main_v36, val_main_v37, val_main_v44, val_main_v45, val_main_v46, val_main_v47, hatj_eq, bon_eq X _ _ (ln j), v_eq]
  simp only [col_dm, col_dl]
  rfl
theorem out_eq (t : Fin 4096) (j : Fin 512) : val_main_v48 (F := Ideal) X.y X.r X.k X.v X.g X.w X.b X.q (ix2 t j) = OUT X t j := by
  pointwise [val_main_v48, zz_eq]
  rfl
theorem dt_eq (i : Fin 512) (j : Fin 1024) : val_main_v51 (F := Ideal) X.y X.r X.k X.v X.g X.d X.w X.b X.q (ix2 i j) = DT X i j := by
  pointwise [val_main_v50, val_main_v51, out_eq]
  exact Finset.sum_congr rfl fun _ _ => mul_comm _ _
theorem do_eq (t : Fin 4096) (j : Fin 512) : val_main_v52 (F := Ideal) X.d X.wb (ix2 t j) = mvT (mat X.d t) (mat X.wb) j := by
  pointwise [val_main_v52]
  rfl
theorem dg_eq (t : Fin 4096) (j : Fin 512) : val_main_v53 (F := Ideal) X.y X.r X.k X.v X.d X.w X.b X.q X.wb (ix2 t j) = DG X t j := by
  pointwise [val_main_v53, zz_eq, do_eq]
  rfl
theorem dzj_eq (t : Fin 4096) (j : Fin 512) : val_main_v54 (F := Ideal) X.g X.d X.wb (ix2 t j) = DZ X t j := by
  pointwise [val_main_v54, do_eq]
  rfl
theorem dz_eq (t : Fin 4096) (h : Fin 8) (l : Fin 64) : val_main_v55 (F := Ideal) X.g X.d X.wb (ix3 t h l) = DZ X t (col h l) := by
  pointwise [val_main_v55, dzj_eq]
  rfl
theorem dv_eq (t : Fin 4096) (j : Fin 512) : val_main_v103 (F := Ideal) X.r X.k X.g X.d X.q X.wb (ix2 t j) = DV X t j := by
  pointwise [val_main_v56, val_main_v57, val_main_v103, bon_eq X _ _ (ln j), dz_eq]
  simp only [col_dm, col_dl]
  rfl
theorem er_eq (t : Fin 4096) (h : Fin 8) (l : Fin 64) : val_main_v62 (F := Ideal) X.v X.g X.d X.wb (ix3 t h l) = er (cat X.v t) (mat X.g t) (mat X.d t) (mat X.wb) (col h l) := by
  pointwise [val_main_v58, val_main_v59, val_main_v60, val_main_v61, val_main_v62, val_main_cst_6, val_main_cst_7, dz_eq, v_eq, zero_add, Fin.sum_univ_one]
  unfold er
  rw [seg_col]
  rfl
theorem dk_eq (t : Fin 4096) (j : Fin 512) : val_main_v104 (F := Ideal) X.r X.v X.g X.d X.q X.wb (ix2 t j) = DK X t j := by
  pointwise [val_main_v39, val_main_v66, val_main_v67, val_main_v69, val_main_v104, er_eq, r_eq]
  simp only [col_dm]
  rfl
theorem dr_eq (t : Fin 4096) (j : Fin 512) : val_main_v105 (F := Ideal) X.k X.v X.g X.d X.q X.wb (ix2 t j) = DR X t j := by
  pointwise [val_main_v39, val_main_v66, val_main_v67, val_main_v70, val_main_v105, er_eq, k_eq]
  simp only [col_dm]
  rfl
theorem dq_eq (j : Fin 512) : val_main_v111 (F := Ideal) X.r X.k X.v X.g X.d X.wb (ix2 0 j) = DQ X j := by
  pointwise [val_main_v38, val_main_v63, val_main_v64, val_main_v65, val_main_v68, val_main_v111, val_main_cst_8, val_main_cst_9, er_eq, r_eq, k_eq, zero_add, Fin.sum_univ_one]
  simp only [col_dm]
  rfl
theorem db_eq (j : Fin 512) : val_main_v110 (F := Ideal) X.g X.d X.wb (ix2 0 j) = DB X j := by
  pointwise [val_main_v71, val_main_v72, val_main_v73, val_main_v110, val_main_cst_10, val_main_cst_11, dzj_eq, zero_add, Fin.sum_univ_one]
  rfl
theorem dw_eq (j : Fin 512) : val_main_v109 (F := Ideal) X.y X.g X.d X.wb (ix2 0 j) = DW X j := by
  pointwise [val_main_v74, val_main_v75, val_main_v76, val_main_v79, val_main_v109, val_main_cst_12, val_main_cst_13, dzj_eq, hatj_eq, zero_add, Fin.sum_univ_one]
  rfl
theorem dn_eq (t : Fin 4096) (h : Fin 8) (l : Fin 64) : val_main_v80 (F := Ideal) X.g X.d X.w X.wb (ix3 t h l) = dn (mat X.g t) (vec X.w) (mat X.d t) (mat X.wb) (col h l) := by
  pointwise [val_main_v32, val_main_v77, val_main_v78, val_main_v80, dzj_eq]
  rfl
section
variable (hX : X.Real)
include hX

theorem e2_eq' (t : Fin 4096) (h : Fin 8) (l : Fin 64) : val_main_v90 (F := Ideal) X.y X.g X.d X.w X.wb (ix3 t h l) = e2 (cat X.y t) (mat X.g t) (vec X.w) (mat X.d t) (mat X.wb) (col h l) := by
  pointwise [val_main_v81, val_main_v82, val_main_v83, val_main_v86, val_main_v87, val_main_v88, val_main_v89, val_main_v90, val_main_cst_14, val_main_cst_15, val_main_cst_16, dn_eq, yc_eq, qs_eq X t h l, zero_add, Fin.sum_univ_one, div_n64]
  refine Eq.trans ?_ (GnSpec.e2_eq (y := cat X.y t) (g := mat X.g t) (w := vec X.w) (d := mat X.d t) (wb := mat X.wb) (fun _ => hX.y _) (fun _ => hX.g _) (fun _ => hX.w _) (fun _ => hX.d _) (fun _ _ => hX.wb _) (col h l))
  rw [seg_col]
theorem dyc_eq (t : Fin 4096) (h : Fin 8) (l : Fin 64) : val_main_v94 (F := Ideal) X.y X.g X.d X.w X.wb (ix3 t h l) = dyc (cat X.y t) (mat X.g t) (vec X.w) (mat X.d t) (mat X.wb) (col h l) := by
  pointwise [val_main_v84, val_main_v85, val_main_v91, val_main_v92, val_main_v93, val_main_v94, dn_eq, yc_eq, rs_eq X t h l, e2_eq' X hX]
  rfl
theorem dy_eq (t : Fin 4096) (h : Fin 8) (l : Fin 64) : val_main_v108 (F := Ideal) X.y X.g X.d X.w X.wb (ix3 h t l) = DY X t (col h l) := by
  pointwise [val_main_v95, val_main_v96, val_main_v97, val_main_v98, val_main_v99, val_main_v100, val_main_v101, val_main_v102, val_main_v106, val_main_v107, val_main_v108, val_main_cst_17, val_main_cst_18, val_main_cst_19, dyc_eq X hX, zero_add, Fin.sum_univ_one, div_n64]
  unfold DY dy
  rw [← GnSpec.mean_eq (y := cat X.y t) (g := mat X.g t) (w := vec X.w) (d := mat X.d t) (wb := mat X.wb) (fun _ => hX.y _) (fun _ => hX.g _) (fun _ => hX.w _) (fun _ => hX.d _) (fun _ _ => hX.wb _) (col h l), seg_col]
end

theorem ref_dr : val_main_v105 (F := Ideal) X.k X.v X.g X.d X.q X.wb = buf2 (DR X) := by
  funext i
  exact (congrArg _ (Cert.Spec.eq_ix2 i)).trans (dr_eq X (i 0) (i 1))
theorem ref_dk : val_main_v104 (F := Ideal) X.r X.v X.g X.d X.q X.wb = buf2 (DK X) := by
  funext i
  exact (congrArg _ (Cert.Spec.eq_ix2 i)).trans (dk_eq X (i 0) (i 1))
theorem ref_dv : val_main_v103 (F := Ideal) X.r X.k X.g X.d X.q X.wb = buf2 (DV X) := by
  funext i
  exact (congrArg _ (Cert.Spec.eq_ix2 i)).trans (dv_eq X (i 0) (i 1))
theorem ref_dg : val_main_v53 (F := Ideal) X.y X.r X.k X.v X.d X.w X.b X.q X.wb = buf2 (DG X) := by
  funext i
  exact (congrArg _ (Cert.Spec.eq_ix2 i)).trans (dg_eq X (i 0) (i 1))
theorem ref_dw : val_main_v109 (F := Ideal) X.y X.g X.d X.wb = buf1 (DW X) := by
  funext i
  exact (congrArg _ (eq_ix2_one i)).trans (dw_eq X (i 1))
theorem ref_db : val_main_v110 (F := Ideal) X.g X.d X.wb = buf1 (DB X) := by
  funext i
  exact (congrArg _ (eq_ix2_one i)).trans (db_eq X (i 1))
theorem ref_dq : val_main_v111 (F := Ideal) X.r X.k X.v X.g X.d X.wb = buf1 (DQ X) := by
  funext i
  exact (congrArg _ (eq_ix2_one i)).trans (dq_eq X (i 1))
theorem ref_dt : val_main_v51 (F := Ideal) X.y X.r X.k X.v X.g X.d X.w X.b X.q = buf2 (DT X) := by
  funext i
  exact (congrArg _ (Cert.Spec.eq_ix2 i)).trans (dt_eq X (i 0) (i 1))
theorem ref_dy (hX : X.Real) : val_main_v108 (F := Ideal) X.y X.g X.d X.w X.wb = buf3 (DY X) := by
  funext i
  exact (congrArg _ (eq_ix3 i)).trans (dy_eq X hX (i 1) (i 0) (i 2))

end Ref

section Run

open Idealize.ShloMosaic Idealize.ShloMosaic.TcCoe Idealize.SL.Sem
open Cert.GnIdeal Cert.GnIdeal.Gen
open Cert.Spec hiding eq_ix2
open Cert.GnSpec Cert.GnReg
open Cert.Whole (A2)

variable (m : (ℓ : Loc nD τ sig) → Buf (Elt Ideal) ℓ) (ρ : Dev nD → PrngReg)

/-- The program runs, ends with these results, and leaves its arguments alone. -/
theorem run_out (hX : ∀ c, (args m c).Real) : θ_run defs (onTc (τ := τ) (main (F := Ideal))) ⟨m, fun _ => 0, ρ⟩ (fun r => ∀ c : Dev nD,
    r.2.mem ((c : Thread nD τ).loc main_v4_0) = (buf3 (DY (args m c)) : FVec Ideal S8x4096x64 .f32)
    ∧ r.2.mem ((c : Thread nD τ).loc main_v4_1) = (buf2 (DR (args m c)) : FVec Ideal S4096x512 .f32)
    ∧ r.2.mem ((c : Thread nD τ).loc main_v4_2) = (buf2 (DK (args m c)) : FVec Ideal S4096x512 .f32)
    ∧ r.2.mem ((c : Thread nD τ).loc main_v4_3) = (buf2 (DV (args m c)) : FVec Ideal S4096x512 .f32)
    ∧ r.2.mem ((c : Thread nD τ).loc main_v4_4) = (buf2 (DG (args m c)) : FVec Ideal S4096x512 .f32)
    ∧ r.2.mem ((c : Thread nD τ).loc main_v4_5) = (buf1 (DW (args m c)) : FVec Ideal S1x512 .f32)
    ∧ r.2.mem ((c : Thread nD τ).loc main_v4_6) = (buf1 (DB (args m c)) : FVec Ideal S1x512 .f32)
    ∧ r.2.mem ((c : Thread nD τ).loc main_v4_7) = (buf1 (DQ (args m c)) : FVec Ideal S1x512 .f32)
    ∧ r.2.mem ((c : Thread nD τ).loc main_v4_8) = (buf2 (DT (args m c)) : FVec Ideal S512x1024 .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.GnIdeal.Value.run_blocks m ρ) (fun r h c => by
    obtain ⟨h0, h1, h2, h3, h4, h5, h6, h7, h8, ha⟩ := h c
    exact ⟨h0.trans (dy_out m c (hX c)), h1.trans (dr_out m c (hX c)), h2.trans (dk_out m c (hX c)), h3.trans (dv_out m c (hX c)), h4.trans (dg_out m c (hX c)), h5.trans (dw_out m c (hX c)), h6.trans (db_out m c (hX c)), h7.trans (dq_out m c (hX c)), h8.trans (dt_out m c (hX c)), ha⟩)

end Run

open Idealize.ShloMosaic Idealize.ShloMosaic.TcCoe Idealize.SL.Sem
open Cert.Spec hiding eq_ix2
open Cert.GnRefIdeal.Read Cert.GnReg

set_option maxHeartbeats 1000000 in
/-- Under the precondition the arguments are real numbers. -/
theorem real_of_pre (m : (ℓ : Loc GnIdeal.nD GnIdeal.τ GnIdeal.sig) → Buf (Elt Ideal) ℓ) (h : Cert.Pre_GnIdeal_finite_post m) (c : Dev GnIdeal.nD) :
    (GnReg.args m c).Real := by
  obtain ⟨h, h9⟩ := Finite.both _ _ (h c)
  obtain ⟨h, h8⟩ := Finite.both _ _ h
  obtain ⟨h, h6⟩ := Finite.both _ _ h
  obtain ⟨h, h5⟩ := Finite.both _ _ h
  obtain ⟨h, h4⟩ := Finite.both _ _ h
  obtain ⟨h, h3⟩ := Finite.both _ _ h
  obtain ⟨h, h2⟩ := Finite.both _ _ h
  obtain ⟨h0, h1⟩ := Finite.both _ _ h
  exact ⟨Finite.all_real _ _ _ _ _ h0, Finite.all_real _ _ _ _ _ h1, Finite.all_real _ _ _ _ _ h2, Finite.all_real _ _ _ _ _ h3,
    Finite.all_real _ _ _ _ _ h4, Finite.all_real _ _ _ _ _ h5, Finite.all_real _ _ _ _ _ h6, Finite.all_real _ _ _ _ _ h8,
    Finite.all_real _ _ _ _ _ h9⟩

/-- The arguments as the reference finds them. -/
abbrev rargs (m' : (ℓ : Loc GnRefIdeal.nD GnRefIdeal.τ GnRefIdeal.sig) → Buf (Elt Ideal) ℓ) (c : Dev GnRefIdeal.nD) : GnSpec.Args :=
  ⟨m' ((c : Thread GnRefIdeal.nD GnRefIdeal.τ).loc GnRefIdeal.main_arg0), m' ((c : Thread GnRefIdeal.nD GnRefIdeal.τ).loc GnRefIdeal.main_arg1), m' ((c : Thread GnRefIdeal.nD GnRefIdeal.τ).loc GnRefIdeal.main_arg2), m' ((c : Thread GnRefIdeal.nD GnRefIdeal.τ).loc GnRefIdeal.main_arg3), m' ((c : Thread GnRefIdeal.nD GnRefIdeal.τ).loc GnRefIdeal.main_arg4), m' ((c : Thread GnRefIdeal.nD GnRefIdeal.τ).loc GnRefIdeal.main_arg5), m' ((c : Thread GnRefIdeal.nD GnRefIdeal.τ).loc GnRefIdeal.main_arg6), m' ((c : Thread GnRefIdeal.nD GnRefIdeal.τ).loc GnRefIdeal.main_arg7), m' ((c : Thread GnRefIdeal.nD GnRefIdeal.τ).loc GnRefIdeal.main_arg8), m' ((c : Thread GnRefIdeal.nD GnRefIdeal.τ).loc GnRefIdeal.main_arg9)⟩

/-- The reference runs, ends with these results, and leaves its arguments alone. -/
theorem ref_run (m' : (ℓ : Loc GnRefIdeal.nD GnRefIdeal.τ GnRefIdeal.sig) → Buf (Elt Ideal) ℓ) (ρ : Dev GnRefIdeal.nD → PrngReg)
    (hX : ∀ c, (rargs m' c).Real) :
    θ_run GnRefIdeal.defs (onTc (τ := GnRefIdeal.τ) (GnRefIdeal.main (F := Ideal))) ⟨m', fun _ => 0, ρ⟩ (fun r => ∀ c : Dev GnRefIdeal.nD,
    r.2.mem ((c : Thread GnRefIdeal.nD GnRefIdeal.τ).loc GnRefIdeal.main_v108) = (buf3 (GnSpec.DY (rargs m' c)) : FVec Ideal GnRefIdeal.S8x4096x64 .f32)
    ∧ r.2.mem ((c : Thread GnRefIdeal.nD GnRefIdeal.τ).loc GnRefIdeal.main_v105) = (buf2 (GnSpec.DR (rargs m' c)) : FVec Ideal GnRefIdeal.S4096x512 .f32)
    ∧ r.2.mem ((c : Thread GnRefIdeal.nD GnRefIdeal.τ).loc GnRefIdeal.main_v104) = (buf2 (GnSpec.DK (rargs m' c)) : FVec Ideal GnRefIdeal.S4096x512 .f32)
    ∧ r.2.mem ((c : Thread GnRefIdeal.nD GnRefIdeal.τ).loc GnRefIdeal.main_v103) = (buf2 (GnSpec.DV (rargs m' c)) : FVec Ideal GnRefIdeal.S4096x512 .f32)
    ∧ r.2.mem ((c : Thread GnRefIdeal.nD GnRefIdeal.τ).loc GnRefIdeal.main_v53) = (buf2 (GnSpec.DG (rargs m' c)) : FVec Ideal GnRefIdeal.S4096x512 .f32)
    ∧ r.2.mem ((c : Thread GnRefIdeal.nD GnRefIdeal.τ).loc GnRefIdeal.main_v109) = (buf1 (GnSpec.DW (rargs m' c)) : FVec Ideal GnRefIdeal.S1x512 .f32)
    ∧ r.2.mem ((c : Thread GnRefIdeal.nD GnRefIdeal.τ).loc GnRefIdeal.main_v110) = (buf1 (GnSpec.DB (rargs m' c)) : FVec Ideal GnRefIdeal.S1x512 .f32)
    ∧ r.2.mem ((c : Thread GnRefIdeal.nD GnRefIdeal.τ).loc GnRefIdeal.main_v111) = (buf1 (GnSpec.DQ (rargs m' c)) : FVec Ideal GnRefIdeal.S1x512 .f32)
    ∧ r.2.mem ((c : Thread GnRefIdeal.nD GnRefIdeal.τ).loc GnRefIdeal.main_v51) = (buf2 (GnSpec.DT (rargs m' c)) : FVec Ideal GnRefIdeal.S512x1024 .f32)
    ∧ r.2.mem ((c : Thread GnRefIdeal.nD GnRefIdeal.τ).loc GnRefIdeal.main_arg0) = m' ((c : Thread GnRefIdeal.nD GnRefIdeal.τ).loc GnRefIdeal.main_arg0)
    ∧ r.2.mem ((c : Thread GnRefIdeal.nD GnRefIdeal.τ).loc GnRefIdeal.main_arg1) = m' ((c : Thread GnRefIdeal.nD GnRefIdeal.τ).loc GnRefIdeal.main_arg1)
    ∧ r.2.mem ((c : Thread GnRefIdeal.nD GnRefIdeal.τ).loc GnRefIdeal.main_arg2) = m' ((c : Thread GnRefIdeal.nD GnRefIdeal.τ).loc GnRefIdeal.main_arg2)
    ∧ r.2.mem ((c : Thread GnRefIdeal.nD GnRefIdeal.τ).loc GnRefIdeal.main_arg3) = m' ((c : Thread GnRefIdeal.nD GnRefIdeal.τ).loc GnRefIdeal.main_arg3)
    ∧ r.2.mem ((c : Thread GnRefIdeal.nD GnRefIdeal.τ).loc GnRefIdeal.main_arg4) = m' ((c : Thread GnRefIdeal.nD GnRefIdeal.τ).loc GnRefIdeal.main_arg4)
    ∧ r.2.mem ((c : Thread GnRefIdeal.nD GnRefIdeal.τ).loc GnRefIdeal.main_arg5) = m' ((c : Thread GnRefIdeal.nD GnRefIdeal.τ).loc GnRefIdeal.main_arg5)
    ∧ r.2.mem ((c : Thread GnRefIdeal.nD GnRefIdeal.τ).loc GnRefIdeal.main_arg6) = m' ((c : Thread GnRefIdeal.nD GnRefIdeal.τ).loc GnRefIdeal.main_arg6)
    ∧ r.2.mem ((c : Thread GnRefIdeal.nD GnRefIdeal.τ).loc GnRefIdeal.main_arg7) = m' ((c : Thread GnRefIdeal.nD GnRefIdeal.τ).loc GnRefIdeal.main_arg7)
    ∧ r.2.mem ((c : Thread GnRefIdeal.nD GnRefIdeal.τ).loc GnRefIdeal.main_arg8) = m' ((c : Thread GnRefIdeal.nD GnRefIdeal.τ).loc GnRefIdeal.main_arg8)
    ∧ r.2.mem ((c : Thread GnRefIdeal.nD GnRefIdeal.τ).loc GnRefIdeal.main_arg9) = m' ((c : Thread GnRefIdeal.nD GnRefIdeal.τ).loc GnRefIdeal.main_arg9)) :=
  θ_run_mono (Cert.GnRefIdeal.Value.run m' ρ) (fun r h c => by
    obtain ⟨h0, h1, h2, h3, h4, h5, h6, h7, h8, ha⟩ := h c
    exact ⟨h0.trans ((val_main_v108_eq m' c).trans (ref_dy (rargs m' c) (hX c))),
      h1.trans ((val_main_v105_eq _ _ _ _ _ _).trans (ref_dr (rargs m' c))),
      h2.trans ((val_main_v104_eq _ _ _ _ _ _).trans (ref_dk (rargs m' c))),
      h3.trans ((val_main_v103_eq _ _ _ _ _ _).trans (ref_dv (rargs m' c))),
      h4.trans ((val_main_v53_eq m' c).trans (ref_dg (rargs m' c))),
      h5.trans ((val_main_v109_eq _ _ _ _).trans (ref_dw (rargs m' c))),
      h6.trans ((val_main_v110_eq _ _ _).trans (ref_db (rargs m' c))),
      h7.trans ((val_main_v111_eq _ _ _ _ _ _).trans (ref_dq (rargs m' c))),
      h8.trans ((val_main_v51_eq m' c).trans (ref_dt (rargs m' c))), ha⟩)

/-- The program and its reference end with equal results. -/
theorem algebraic : Cert.algebraic_GnIdeal_GnRefIdeal_pre_finite_post := by
  pair_intro
  · run_from run_out m g (real_of_pre m hpre)
  · have hX : ∀ c : Dev GnRefIdeal.nD, rargs m' c = GnReg.args m c := by
      intro c
      obtain ⟨h0, h1, h2, h3, h4, h5, h6, h7, h8, h9⟩ := hagree c
      simp only [rargs, GnReg.args]
      rw [← h0, ← h1, ← h2, ← h3, ← h4, ← h5, ← h6, ← h7, ← h8, ← h9]
    have hR : ∀ c, (rargs m' c).Real := fun c => by
      rw [hX c]
      exact real_of_pre m hpre c
    run_from ref_run m' g' hR <;> rw [hX c]

end Cert.GnClaim

end
-- ==== Proof.InpRun.lean ====
/-
  What a whole run of the input projection's program leaves in every buffer: the generated fold over its segments, read at the end of the run.
-/
module

public import proofs.«01_k».proof.Proof.Gen.InpIdeal.Frame

@[expose] public section

set_option maxRecDepth 16384

noncomputable section

namespace Cert.InpRun

open Cert.InpIdeal Cert.InpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the run ends at what the fold says. -/
theorem run : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.InpRun

end
-- ==== Proof.InpSpec.lean ====
/-
  The input projection's backward step as plain functions of its arguments, token by token, with the sums over the tokens last.
-/
module

public import proofs.«01_k».proof.Proof.GluSpec

@[expose] public section

noncomputable section

namespace Cert.InpSpec

open Idealize.ShloMosaic Cert.Spec
open Cert.Whole (A1 A2)

/-- The arguments: the residual row, the cotangent that reaches it otherwise, the cotangents of the two branches, the gain, the
    projection and the token shift's share. -/
structure Args where
  x : A2 4096 1024
  d : A2 4096 1024
  u : A2 4096 512
  z : A2 4096 1792
  g : A1 1024
  w : A2 1024 2304
  mu : A1 1792

variable (X : Args)

/-- The projection's columns of the first branch, -/
def wa : Mat 1024 512 := fun i j => X.w (ix2 i ⟨j.val, by omega⟩)
/-- and of the second. -/
def wb : Mat 1024 1792 := fun i j => X.w (ix2 i ⟨512 + j.val, by omega⟩)
/-- What the token after this one sends back through the shift. -/
def nxt : Mat 4096 1792 := fun t j => if h : t.val + 1 < 4096 then mat X.z ⟨t.val + 1, h⟩ j * vec X.mu j else 0
/-- The cotangent of the second branch before the shift. -/
def DZ : Mat 4096 1792 := fun t j => mat X.z t j * (1 - vec X.mu j) + nxt X t j
/-- The cotangent of the projected row. -/
def DP : Mat 4096 2304 := fun t j => if h : j.val < 512 then mat X.u t ⟨j.val, h⟩ else DZ X t ⟨j.val - 512, by omega⟩
/-- The cotangent of the normalised row. -/
def DN : Mat 4096 1024 := fun t j => mvT (mat X.u t) (wa X) j + mvT (DZ X t) (wb X) j
/-- The cotangent of the residual row. -/
def DX : Mat 4096 1024 := fun t => nbAdd (mat X.d t) (mat X.x t) (vec X.g) (DN X t)
/-- The normalised rows. -/
def XN : Mat 4096 1024 := fun t => nrm (mat X.x t) (vec X.g)
/-- The gradient of the gain, -/
def DG : Row 1024 := inner (fun t => hat (mat X.x t)) (DN X)
/-- and of the projection. -/
def DW : Mat 1024 2304 := outer (XN X) (DP X)

/-- The joined cotangent through the whole projection is the two branches' through their columns. -/
theorem dn_split (t : Fin 4096) (i : Fin 1024) : (∑ k : Fin 2304, DP X t k * X.w (ix2 i k)) = DN X t i := by
  rw [show (∑ k : Fin 2304, DP X t k * X.w (ix2 i k)) = ∑ k : Fin (512 + 1792), DP X t k * X.w (ix2 i k) from rfl, Fin.sum_univ_add]
  unfold DN mvT
  congr 1

/-- Four summands regrouped. -/
theorem add_assoc4 (a b c d : EReal) : a + b + c + d = a + (b + c + d) := by simp only [add_assoc]

/-- For real numbers, a share taken out of a number leaves the rest. -/
theorem rest (a b : EReal) (ha : ∃ r : ℝ, a = r) (hb : ∃ r : ℝ, b = r) : a + -(a * b) = a * (1 - b) := by
  obtain ⟨r, rfl⟩ := ha
  obtain ⟨s, rfl⟩ := hb
  rw [show (1 : EReal) = ((1 : ℝ) : EReal) from rfl, ← EReal.coe_sub, ← EReal.coe_mul, ← EReal.coe_mul, ← EReal.coe_neg, ← EReal.coe_add]
  congr 1
  ring

end Cert.InpSpec

end
-- ==== Proof.InpPay.lean ====
/-
  What the input projection's backward kernels store, read at an index, as the plain functions of the rows read.
-/
module

public import proofs.«01_k».proof.Proof.Gen.InpIdeal.Skeleton
public import proofs.«01_k».proof.Proof.InpSpec

@[expose] public section

set_option maxRecDepth 16384

noncomputable section

namespace Cert.InpPay

open Idealize.ShloMosaic Idealize.ShloMosaic.TcCoe Idealize.SL.Sem
open Cert.InpIdeal Cert.InpIdeal.Gen Cert.Spec

theorem p0 (v0 : FVec Ideal S512x1024 .f32) (v1 : FVec Ideal S1x1024 .f32) (r : Fin 512) (j : Fin 1024) :
    k0_pay3 (F := Ideal) v0 v1 (ix2 r j) = nrm (mat v0 r) (row0 v1) j := by
  pointwise [k0_pay3, k0_pay1]
  rfl

/-- What the row after a block's row sends back: inside the block, past its end, or past the last block's end. -/
def nx (b : Bool) (D : Mat 512 1792) (E mu : Row 1792) (r : Fin 512) : Row 1792 := fun j =>
  if h : r.val + 1 < 512 then D ⟨r.val + 1, h⟩ j * mu j else if b then 0 else E j * mu j

theorem p7 (i : grid1.Coords) (v3 : FVec Ideal S512x1792 .f32) (v4 : FVec Ideal S8x1792 .f32) (v7 : FVec Ideal S1x1792 .f32) (r : Fin 512) (j : Fin 1792) :
    k1_pay7 (F := Ideal) i v3 v4 v7 (ix2 r j)
      = mat v3 r j * (1 - row0 v7 j) + nx (decide ((i 0).val = 7)) (mat v3) (fun j => v4 (ix2 0 j)) (row0 v7) r j := by
  pointwise [k1_pay7]
  have h7 : ∀ x y : EReal, Scalar.select (Scalar.cmpi CmpIPredicate.eq (BitVec.ofNat 32 (i 0).val) 7#32) x y = if (i 0).val = 7 then x else y := by
    intro x y
    have hi : (i 0).val < 8 := (i 0).isLt
    generalize (i 0).val = k at *
    interval_cases k <;> rfl
  have h5 : ∀ x y : EReal, Scalar.select (IntOp.cmpi CmpIPredicate.eq (BitVec.ofNat 32 r.val) 511#32) x y = if r.val = 511 then x else y := by
    intro x y
    by_cases h : r.val = 511
    · rw [h]; rfl
    · have hb : (BitVec.ofNat 32 r.val == 511#32) = false := by
        simp only [beq_eq_false_iff_ne, ne_eq]
        intro e
        have := congrArg BitVec.toNat e
        simp only [BitVec.toNat_ofNat] at this
        omega
      simp [Scalar.select, IntOp.cmpi, hb, h]
  rw [h7, h5]
  unfold nx
  by_cases h : r.val = 511
  · have h' : ¬ r.val + 1 < 512 := by omega
    simp only [h, h', if_true, dif_neg, not_false_eq_true]
    simp [mat, row0]
  · have h' : r.val + 1 < 512 := by omega
    have e : (⟨(r.val + 512 - 511) % 512, by omega⟩ : Fin 512) = ⟨r.val + 1, h'⟩ := Fin.ext (by simp only; omega)
    simp only [h, h', if_false, dif_pos]
    simp only [e]
    rfl

variable (v0 v1 : FVec Ideal S512x1024 .f32) (v6 : FVec Ideal S1x1024 .f32) (v10 : FVec Ideal S1024x512 .bf16) (v12 : FVec Ideal S1024x1792 .bf16)
  (v34 : FVec Ideal S512x512 .bf16) (v35 : FVec Ideal S512x1792 .bf16)

/-- The block's cotangent of the normalised row. -/
def dn (r : Fin 512) : Row 1024 := fun j => mvT (mat v34 r) (mat v10) j + mvT (mat v35 r) (mat v12) j

theorem p8 (r : Fin 512) (j : Fin 1024) : k1_pay8 (F := Ideal) v10 v12 v34 v35 (ix2 r j) = dn v10 v12 v34 v35 r j := by
  pointwise [k1_pay8]
  rfl
theorem p9 (r : Fin 512) : k1_pay9 (F := Ideal) v0 (ix2 r 0) = ms (mat v0 r) := by
  pointwise [k1_pay9]
  rfl
theorem p10 (r : Fin 512) : k1_pay10 (F := Ideal) v0 (ix2 r 0) = rs (mat v0 r) := by
  pointwise [k1_pay10, p9]
  rfl
theorem p11 (j : Fin 1024) : k1_pay11 (F := Ideal) v0 v10 v12 v34 v35 (ix2 0 j) = ∑ r : Fin 512, hat (mat v0 r) j * dn v10 v12 v34 v35 r j := by
  pointwise [k1_pay11, p10, p8]
  rfl
theorem p12 (r : Fin 512) (j : Fin 1024) :
    k1_pay12 (F := Ideal) v0 v1 v6 v10 v12 v34 v35 (ix2 r j) = nbAdd (mat v1 r) (mat v0 r) (row0 v6) (dn v10 v12 v34 v35 r) j := by
  pointwise [k1_pay12, p8, p9, p10, Fin.sum_univ_one]
  rfl
theorem p13 (r : Fin 512) (j : Fin 2304) :
    k1_pay13 (F := Ideal) v34 v35 (ix2 r j) = if h : j.val < 512 then mat v34 r ⟨j.val, h⟩ else mat v35 r ⟨j.val - 512, by omega⟩ := by
  pointwise [k1_pay13]
  rfl

end Cert.InpPay

end
-- ==== Proof.InpReg.lean ====
/-
  What the input projection's backward kernels leave in their result arrays, whatever the operands hold at entry.
-/
module

public import proofs.«01_k».proof.Proof.Gen.InpIdeal.Frame
public import proofs.«01_k».proof.Proof.InpPay
public import Idealize.ShloMosaic.Lib.Pipeline.ValueKit

@[expose] public section

set_option maxRecDepth 16384

noncomputable section

namespace Cert.InpReg

open Idealize.ShloMosaic Idealize.ShloMosaic.TcCoe Idealize.SL.Sem Idealize.ShloMosaic.Pipeline
open Cert.InpIdeal Cert.InpIdeal.Gen
open Cert.Spec hiding eq_ix2
open Cert.InpSpec
open Cert.GluSpec (eq_ix2_one)

variable (V : (c : Dev nD) → (b : Ref sig .tc) → Buf (Elt Ideal) ((c : Thread nD τ).loc b)) (c : Dev nD) (X : Args)

/-! ### The normalised rows -/

/-- Which block of its array each window of the first call holds at a point. -/
theorem idx0 : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The array row under a block's row. -/
def row0' (t : Fin cfg0.N) (r : Fin 512) : Fin 4096 := ⟨t.val * 512 + r.val, by have := lt_of_lt_of_eq t.isLt N_0; omega⟩

theorem xn_out (hx : (V c main_arg0 : FVec Ideal S4096x1024 .f32) = X.x) (hg : row0 (V c main_v1 : FVec Ideal S1x1024 .f32) = vec X.g) :
    (dat0 V c).arrAt 4 cfg0.N = (buf2 (XN X) : FVec Ideal S4096x1024 .bf16) := by
  refine (dat0 V c).arrAt_eq_of_covers 4 _ (by decide +kernel) fun t hf y => ?_
  blk_simp
  have e : ((View.whole main_v2_1).slice (win0_4.rect t)).emb y = ix2 (row0' t (y 0)) (y 1) := by
    unfold row0'
    blk_ext [idx0 t]
  have b0 : mat (iblk0 V c 0 t : FVec Ideal S512x1024 .f32) (y 0) = mat X.x (row0' t (y 0)) := by
    rw [← hx]
    funext j
    unfold row0' mat
    blk_ext [iblk0, idx0 t]
  have b1 : row0 (iblk0 V c 1 t : FVec Ideal S1x1024 .f32) = vec X.g := by
    rw [← hg]
    funext j
    unfold row0
    blk_ext [iblk0, idx0 t]
  rw [after0_4, e]
  frame_out
  refine (congrArg _ (Cert.Spec.eq_ix2 y)).trans ((InpPay.p0 _ _ (y 0) (y 1)).trans ?_)
  rw [b0, b1]
  rfl

/-! ### The cotangents -/

/-- Which block of its array each window of the second call holds at a point. -/
theorem idx : ∀ t : Fin cfg1.N, win1_0.index t = ![t.val, 0]
    ∧ win1_1.index t = ![t.val, 0]
    ∧ win1_2.index t = ![t.val, 0]
    ∧ win1_3.index t = ![t.val, 0]
    ∧ win1_4.index t = ![min ((t.val + 1) * 64) 511, 0]
    ∧ win1_5.index t = ![0, 0]
    ∧ win1_6.index t = ![0, 0]
    ∧ win1_7.index t = ![0, 0]
    ∧ win1_8.index t = ![0, 0]
    ∧ win1_9.index t = ![t.val, 0]
    ∧ win1_10.index t = ![t.val, 0]
    ∧ win1_11.index t = ![0, 0] :=
  (by decide +kernel : ∀ t : Fin grid1.N, _)
/-- The grid's only coordinate is the point. -/
theorem crd : ∀ t : Fin cfg1.N, (grid1.coords t 0).val = t.val := (by decide +kernel : ∀ t : Fin grid1.N, _)

/-- The array row under a block's row. -/
def row (t : Fin cfg1.N) (r : Fin 512) : Fin 4096 := ⟨t.val * 512 + r.val, by have := lt_of_lt_of_eq t.isLt N_1; omega⟩

/-- What the second call finds: the arguments, and the host's rearrangements of them. -/
structure At : Prop where
  x : (V c main_arg0 : FVec Ideal S4096x1024 .f32) = X.x
  d : (V c main_arg1 : FVec Ideal S4096x1024 .f32) = X.d
  u : (V c main_arg2 : FVec Ideal S4096x512 .f32) = X.u
  z : (V c main_arg3 : FVec Ideal S4096x1792 .f32) = X.z
  g : row0 (V c main_v1 : FVec Ideal S1x1024 .f32) = vec X.g
  mu : row0 (V c main_v3 : FVec Ideal S1x1792 .f32) = vec X.mu
  wa : mat (V c main_v4 : FVec Ideal S1024x512 .bf16) = wa X
  wb : mat (V c main_v5 : FVec Ideal S1024x1792 .bf16) = wb X

variable {V c X} (H : At V c X)
include H

theorem b0 (t : Fin cfg1.N) (r : Fin 512) : mat (iblk1 V c 0 t : FVec Ideal S512x1024 .f32) r = mat X.x (row t r) := by
  rw [← H.x]
  funext j
  unfold row mat
  blk_ext [iblk1, idx t]
theorem b1 (t : Fin cfg1.N) (r : Fin 512) : mat (iblk1 V c 1 t : FVec Ideal S512x1024 .f32) r = mat X.d (row t r) := by
  rw [← H.d]
  funext j
  unfold row mat
  blk_ext [iblk1, idx t]
theorem b2 (t : Fin cfg1.N) (r : Fin 512) : mat (iblk1 V c 2 t : FVec Ideal S512x512 .f32) r = mat X.u (row t r) := by
  rw [← H.u]
  funext j
  unfold row mat
  blk_ext [iblk1, idx t]
theorem b3 (t : Fin cfg1.N) (r : Fin 512) : mat (iblk1 V c 3 t : FVec Ideal S512x1792 .f32) r = mat X.z (row t r) := by
  rw [← H.z]
  funext j
  unfold row mat
  blk_ext [iblk1, idx t]
theorem b4 (t : Fin cfg1.N) (h : t.val * 512 + 512 < 4096) (j : Fin 1792) :
    (iblk1 V c 4 t : FVec Ideal S8x1792 .f32) (ix2 0 j) = mat X.z ⟨t.val * 512 + 512, h⟩ j := by
  rw [← H.z]
  unfold mat
  have e : min ((t.val + 1) * 64) 511 * 8 = t.val * 512 + 512 := by omega
  blk_ext [iblk1, idx t]
theorem b5 (t : Fin cfg1.N) : row0 (iblk1 V c 5 t : FVec Ideal S1x1024 .f32) = vec X.g := by
  rw [← H.g]
  funext j
  unfold row0
  blk_ext [iblk1, idx t]
theorem b6 (t : Fin cfg1.N) : row0 (iblk1 V c 6 t : FVec Ideal S1x1792 .f32) = vec X.mu := by
  rw [← H.mu]
  funext j
  unfold row0
  blk_ext [iblk1, idx t]
theorem b7 (t : Fin cfg1.N) : mat (iblk1 V c 7 t : FVec Ideal S1024x512 .bf16) = InpSpec.wa X := by
  rw [← H.wa]
  funext i j
  unfold mat
  blk_ext [iblk1, idx t]
theorem b8 (t : Fin cfg1.N) : mat (iblk1 V c 8 t : FVec Ideal S1024x1792 .bf16) = InpSpec.wb X := by
  rw [← H.wb]
  funext i j
  unfold mat
  blk_ext [iblk1, idx t]

/-- The projected rows' cotangents of a block. -/
theorem dz_blk (t : Fin cfg1.N) (r : Fin 512) :
    mat (k1_pay7 (F := Ideal) (grid1.coords t) (iblk1 V c 3 t) (iblk1 V c 4 t) (iblk1 V c 6 t)) r = DZ X (row t r) := by
  have ht := lt_of_lt_of_eq t.isLt N_1
  funext j
  refine (InpPay.p7 _ _ _ _ r j).trans ?_
  rw [b3 H, b6 H]
  unfold DZ
  congr 1
  unfold InpPay.nx nxt
  rw [crd t]
  by_cases h : r.val + 1 < 512
  · have h' : (row t r).val + 1 < 4096 := by simp only [row]; omega
    rw [dif_pos h, dif_pos h', b3 H]
    congr 2
  · rw [dif_neg h]
    by_cases h7 : t.val = 7
    · have h' : ¬ (row t r).val + 1 < 4096 := by simp only [row]; omega
      rw [dif_neg h']
      simp [h7]
    · have h' : (row t r).val + 1 < 4096 := by simp only [row]; omega
      rw [dif_pos h', if_neg (by simpa using h7)]
      beta_reduce
      rw [b4 H t (by omega)]
      have e : (⟨t.val * 512 + 512, by omega⟩ : Fin 4096) = ⟨(row t r).val + 1, h'⟩ := Fin.ext (by simp only [row]; omega)
      rw [e]

theorem w7 (t : Fin cfg1.N) : mat (k1_pay4 (F := Ideal) (iblk1 V c 7 t)) = InpSpec.wa X := by
  rw [← b7 H t]
  funext i j
  unfold mat
  pointwise [k1_pay4]
theorem w8 (t : Fin cfg1.N) : mat (k1_pay5 (F := Ideal) (iblk1 V c 8 t)) = InpSpec.wb X := by
  rw [← b8 H t]
  funext i j
  unfold mat
  pointwise [k1_pay5]
theorem du_blk (t : Fin cfg1.N) (r : Fin 512) : mat (k1_pay6 (F := Ideal) (iblk1 V c 2 t)) r = mat X.u (row t r) := by
  rw [← b2 H t r]
  funext j
  unfold mat
  pointwise [k1_pay6]
theorem g_blk (t : Fin cfg1.N) : row0 (k1_pay3 (F := Ideal) (iblk1 V c 5 t)) = vec X.g := by
  rw [← b5 H t]
  funext j
  unfold row0
  pointwise [k1_pay3]
theorem dn_blk (t : Fin cfg1.N) (r : Fin 512) :
    InpPay.dn (k1_pay4 (F := Ideal) (iblk1 V c 7 t)) (k1_pay5 (iblk1 V c 8 t)) (k1_pay6 (iblk1 V c 2 t))
      (k1_pay7 (grid1.coords t) (iblk1 V c 3 t) (iblk1 V c 4 t) (iblk1 V c 6 t)) r = DN X (row t r) := by
  unfold InpPay.dn DN
  rw [w7 H, w8 H, du_blk H, dz_blk H]

theorem p_dx (t : Fin cfg1.N) (r : Fin 512) (j : Fin 1024) :
    k1_pay12 (F := Ideal) (iblk1 V c 0 t) (iblk1 V c 1 t) (k1_pay3 (iblk1 V c 5 t)) (k1_pay4 (iblk1 V c 7 t)) (k1_pay5 (iblk1 V c 8 t)) (k1_pay6 (iblk1 V c 2 t))
      (k1_pay7 (grid1.coords t) (iblk1 V c 3 t) (iblk1 V c 4 t) (iblk1 V c 6 t)) (ix2 r j) = DX X (row t r) j := by
  refine (InpPay.p12 _ _ _ _ _ _ _ r j).trans ?_
  rw [dn_blk H, g_blk H, b0 H, b1 H]
  rfl
theorem p_dp (t : Fin cfg1.N) (r : Fin 512) (j : Fin 2304) :
    k1_pay13 (F := Ideal) (k1_pay6 (iblk1 V c 2 t))
      (k1_pay7 (grid1.coords t) (iblk1 V c 3 t) (iblk1 V c 4 t) (iblk1 V c 6 t)) (ix2 r j) = DP X (row t r) j := by
  refine (InpPay.p13 _ _ r j).trans ?_
  rw [du_blk H, dz_blk H]
  rfl

/-- The cotangent of the residual row. -/
theorem dx_out : (dat1 V c).arrAt 9 cfg1.N = (buf2 (DX X) : FVec Ideal S4096x1024 .f32) := by
  refine (dat1 V c).arrAt_eq_of_covers 9 _ (by decide +kernel) fun t hf y => ?_
  blk_simp
  have e : ((View.whole main_v6_0).slice (win1_9.rect t)).emb y = ix2 (row t (y 0)) (y 1) := by
    unfold row
    blk_ext [idx t]
  rw [after1_9, e]
  by_cases h0 : t.val % 8 = 0
  · rw [outsAt1_A V c t h0]
    frame_out
    exact (congrArg _ (Cert.Spec.eq_ix2 y)).trans (p_dx H t (y 0) (y 1))
  · rw [outsAt1_B V c t h0]
    frame_out
    exact (congrArg _ (Cert.Spec.eq_ix2 y)).trans (p_dx H t (y 0) (y 1))

/-- The cotangent of the projected row. -/
theorem dp_out : (dat1 V c).arrAt 10 cfg1.N = (buf2 (DP X) : FVec Ideal S4096x2304 .bf16) := by
  refine (dat1 V c).arrAt_eq_of_covers 10 _ (by decide +kernel) fun t hf y => ?_
  blk_simp
  have e : ((View.whole main_v6_1).slice (win1_10.rect t)).emb y = ix2 (row t (y 0)) (y 1) := by
    unfold row
    blk_ext [idx t]
  rw [after1_10, e]
  by_cases h0 : t.val % 8 = 0
  · rw [outsAt1_A V c t h0]
    frame_out
    exact (congrArg _ (Cert.Spec.eq_ix2 y)).trans (p_dp H t (y 0) (y 1))
  · rw [outsAt1_B V c t h0]
    frame_out
    exact (congrArg _ (Cert.Spec.eq_ix2 y)).trans (p_dp H t (y 0) (y 1))

omit H in
theorem z_dg (j : S1x1024.Idx) : k1_pay1 (F := Ideal) j = 0 := by pointwise [k1_pay1]
theorem p_dg (t : Fin cfg1.N) (acc : FVec Ideal S1x1024 .f32) (j : S1x1024.Idx) :
    k1_pay2 (F := Ideal) (k1_pay11 (iblk1 V c 0 t) (k1_pay4 (iblk1 V c 7 t)) (k1_pay5 (iblk1 V c 8 t)) (k1_pay6 (iblk1 V c 2 t))
      (k1_pay7 (grid1.coords t) (iblk1 V c 3 t) (iblk1 V c 4 t) (iblk1 V c 6 t))) acc j
      = acc j + ∑ r : Fin 512, hat (mat X.x (row t r)) (j 1) * DN X (row t r) (j 1) := by
  have e : k1_pay11 (F := Ideal) (iblk1 V c 0 t) (k1_pay4 (iblk1 V c 7 t)) (k1_pay5 (iblk1 V c 8 t)) (k1_pay6 (iblk1 V c 2 t))
      (k1_pay7 (grid1.coords t) (iblk1 V c 3 t) (iblk1 V c 4 t) (iblk1 V c 6 t)) j
      = ∑ r : Fin 512, hat (mat X.x (row t r)) (j 1) * DN X (row t r) (j 1) := by
    rw [eq_ix2_one j]
    refine (InpPay.p11 _ _ _ _ _ _).trans ?_
    simp only [dn_blk H, b0 H]
    rfl
  rw [← e]
  pointwise [k1_pay2]

/-- The gradient of the gain. -/
theorem dg_out : (dat1 V c).arrAt 11 cfg1.N = (buf1 (DG X) : FVec Ideal S1x1024 .f32) := by
  refine (dat1 V c).arrAt_eq_of_covers 11 _ (by decide +kernel) fun t hf y => ?_
  blk_simp
  have e : (win1_11.blk t).view.emb y = ix2 (y 0) (y 1) := by
    blk_ext [idx t]
  rw [after1_11, Pipeline.eq_sum_fin_of_reset_step_apply_of_flush (fun n h => (outsAt1 V c n h).2.2) 8 (fun _ => 0)
      (fun t j => ∑ r : Fin 512, hat (mat X.x (row t r)) (j 1) * DN X (row t r) (j 1))
    (fun t h j => by rw [outsAt1_A V c t h]; frame_out; rw [p_dg H, z_dg])
    (fun t h j => by rw [outsAt1_B V c t h]; frame_out; rw [p_dg H])
    t ((flush1_11 t).mp hf) _, zero_add]
  rw [e]
  unfold buf1 DG Cert.Spec.inner
  refine Fin.sum_mul_add_congr fun s k hl => ?_
  have ht := lt_of_lt_of_eq t.isLt N_1
  have hr : row ⟨8 * (t.val / 8) + s.val, Pipeline.run_point_lt_of_flush t ((flush1_11 t).mp hf) s⟩ k = ⟨s.val * 512 + k.val, hl⟩ :=
    Fin.ext (by simp only [row]; omega)
  rw [hr]
  rfl

omit H

/-! ### The projection's gradient -/

/-- Which block of its array each window of the third call holds at a point. -/
theorem idx2 : ∀ t : Fin cfg2.N, win2_0.index t = ![t.val % 4, 0]
    ∧ win2_1.index t = ![t.val % 4, t.val / 4]
    ∧ win2_2.index t = ![0, t.val / 4] :=
  (by decide +kernel : ∀ t : Fin grid2.N, _)

theorem hzero (j : S1024x1152.Idx) : k2_pay1 (F := Ideal) j = 0 := by pointwise [k2_pay1]
theorem hpay (acc : FVec Ideal S1024x1152 .f32) (x0 : FVec Ideal S1024x1024 .bf16) (x1 : FVec Ideal S1024x1152 .bf16) (j : S1024x1152.Idx) :
    k2_pay2 (F := Ideal) acc x0 x1 j = acc j + ∑ q : Fin 1024, x0 (ix2 q (j 0)) * x1 (ix2 q (j 1)) := by
  pointwise [k2_pay2]

variable (V c) in
/-- The sum over all tokens. -/
theorem dw_out : (dat2 V c).arrAt 2 cfg2.N
    = (buf2 (outer (mat (V c main_v2_1 : FVec Ideal S4096x1024 .bf16)) (mat (V c main_v6_1 : FVec Ideal S4096x2304 .bf16))) : FVec Ideal S1024x2304 .f32) := by
  refine (dat2 V c).arrAt_eq_of_covers 2 _ (by decide +kernel) fun t hf y => ?_
  blk_simp
  rw [after2_2, Pipeline.eq_sum_fin_of_reset_step_apply_of_flush (fun n h => outsAt2 V c n h) 4 (fun _ => 0) _
    (fun t h j => by rw [outsAt2_A V c t h]; frame_out; rw [hpay, hzero])
    (fun t h j => by rw [outsAt2_B V c t h]; frame_out; rw [hpay])
    t ((flush2_2 t).mp hf) _, zero_add]
  unfold buf2 outer mat
  refine Fin.sum_mul_add_congr fun s k hl => ?_
  blk_point [iblk2, idx2 t, idx2 ⟨_, Pipeline.run_point_lt_of_flush t ((flush2_2 t).mp hf) s⟩]

end Cert.InpReg

end
-- ==== Proof.InpTotal.lean ====
/-
  The input projection's program's results as functions of its arguments: each array as its call leaves it, carried to the calls that
  read it.
-/
module

public import proofs.«01_k».proof.Proof.InpRun
public import proofs.«01_k».proof.Proof.InpReg

@[expose] public section

set_option maxRecDepth 16384

noncomputable section

namespace Cert.InpTotal

open Idealize.ShloMosaic Idealize.ShloMosaic.TcCoe Idealize.SL.Sem Idealize.ShloMosaic.Tactic
open Cert.InpIdeal Cert.InpIdeal.Gen
open Cert.Spec hiding eq_ix2
open Cert.InpSpec

variable (m : (ℓ : Loc nD τ sig) → Buf (Elt Ideal) ℓ) (ρ : Dev nD → PrngReg) (c : Dev nD)

/-- The arguments as launched. -/
abbrev args : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6)⟩

theorem e1_v1 : row0 (V1 m ρ c main_v1 : FVec Ideal S1x1024 .f32) = vec (args m c).g := by
  funext j
  show (StableHlo.after hostOps0 (W0 m ρ c) (Proc.devRef .tc main_v1) : FVec Ideal S1x1024 .f32) (ix2 0 j) = _
  after_results
  pointwise
  rfl
theorem e1_v0 : mat (V1 m ρ c main_v0 : FVec Ideal S1024x2304 .bf16) = mat (args m c).w := by
  funext i j
  show (StableHlo.after hostOps0 (W0 m ρ c) (Proc.devRef .tc main_v0) : FVec Ideal S1024x2304 .bf16) (ix2 i j) = _
  after_results
  pointwise
  rfl

theorem e2_xn : (V2 m ρ c main_v2_1 : FVec Ideal S4096x1024 .bf16) = buf2 (XN (args m c)) :=
  (W2_arr m ρ c 4).trans (InpReg.xn_out (V1 m ρ) c (args m c) (W1_args m ρ c main_arg0 (by decide)) (e1_v1 m ρ c))
theorem e2_v0 : mat (V2 m ρ c main_v0 : FVec Ideal S1024x2304 .bf16) = mat (args m c).w :=
  (congrArg mat (W2_of m ρ c main_v0 (by decide) : (V2 m ρ c main_v0 : FVec Ideal S1024x2304 .bf16) = V1 m ρ c main_v0)).trans (e1_v0 m ρ c)
theorem e2_v1 : row0 (V2 m ρ c main_v1 : FVec Ideal S1x1024 .f32) = vec (args m c).g :=
  (congrArg row0 (W2_of m ρ c main_v1 (by decide) : (V2 m ρ c main_v1 : FVec Ideal S1x1024 .f32) = V1 m ρ c main_v1)).trans (e1_v1 m ρ c)

theorem e3_v1 : row0 (V3 m ρ c main_v1 : FVec Ideal S1x1024 .f32) = vec (args m c).g :=
  (congrArg row0 (W3_of m ρ c main_v1 (by decide) : (V3 m ρ c main_v1 : FVec Ideal S1x1024 .f32) = V2 m ρ c main_v1)).trans (e2_v1 m ρ c)
theorem e3_v3 : row0 (V3 m ρ c main_v3 : FVec Ideal S1x1792 .f32) = vec (args m c).mu := by
  have h := W2_args m ρ c main_arg6 (by decide)
  funext j
  show (StableHlo.after hostOps1 (W2 m ρ c) (Proc.devRef .tc main_v3) : FVec Ideal S1x1792 .f32) (ix2 0 j) = _
  after_results
  rw [h]
  pointwise
  rfl
theorem e3_v4 : mat (V3 m ρ c main_v4 : FVec Ideal S1024x512 .bf16) = wa (args m c) := by
  funext i j
  have h := congrFun (congrFun (e2_v0 m ρ c) i) ⟨j.val, by omega⟩
  show (StableHlo.after hostOps1 (W2 m ρ c) (Proc.devRef .tc main_v4) : FVec Ideal S1024x512 .bf16) (ix2 i j) = _
  after_results
  pointwise
  exact h
theorem e3_v5 : mat (V3 m ρ c main_v5 : FVec Ideal S1024x1792 .bf16) = wb (args m c) := by
  funext i j
  have h := congrFun (congrFun (e2_v0 m ρ c) i) ⟨512 + j.val, by omega⟩
  show (StableHlo.after hostOps1 (W2 m ρ c) (Proc.devRef .tc main_v5) : FVec Ideal S1024x1792 .bf16) (ix2 i j) = _
  after_results
  pointwise
  exact h

/-- What the second call finds. -/
theorem found : InpReg.At (V3 m ρ) c (args m c) :=
  ⟨W3_args m ρ c main_arg0 (by decide), W3_args m ρ c main_arg1 (by decide), W3_args m ρ c main_arg2 (by decide), W3_args m ρ c main_arg3 (by decide),
   e3_v1 m ρ c, e3_v3 m ρ c, e3_v4 m ρ c, e3_v5 m ρ c⟩

theorem e4_dx : (V4 m ρ c main_v6_0 : FVec Ideal S4096x1024 .f32) = buf2 (DX (args m c)) :=
  (W4_arr m ρ c 9).trans (InpReg.dx_out (found m ρ c))
theorem e4_dp : (V4 m ρ c main_v6_1 : FVec Ideal S4096x2304 .bf16) = buf2 (DP (args m c)) :=
  (W4_arr m ρ c 10).trans (InpReg.dp_out (found m ρ c))
theorem e4_dg : (V4 m ρ c main_v6_2 : FVec Ideal S1x1024 .f32) = buf1 (DG (args m c)) :=
  (W4_arr m ρ c 11).trans (InpReg.dg_out (found m ρ c))
theorem e4_xn : (V4 m ρ c main_v2_1 : FVec Ideal S4096x1024 .bf16) = buf2 (XN (args m c)) :=
  ((W4_of m ρ c main_v2_1 (by decide)).trans (W3_of m ρ c main_v2_1 (by decide))).trans (e2_xn m ρ c)

theorem e5_dw : (V5 m ρ c main_v7 : FVec Ideal S1024x2304 .f32) = buf2 (DW (args m c)) :=
  (W5_arr m ρ c 2).trans ((InpReg.dw_out (V4 m ρ) c).trans (by rw [e4_xn, e4_dp]; rfl))
theorem e5_dx : (V5 m ρ c main_v6_0 : FVec Ideal S4096x1024 .f32) = buf2 (DX (args m c)) :=
  (W5_of m ρ c main_v6_0 (by decide)).trans (e4_dx m ρ c)
theorem e5_dg : (V5 m ρ c main_v6_2 : FVec Ideal S1x1024 .f32) = buf1 (DG (args m c)) :=
  (W5_of m ρ c main_v6_2 (by decide)).trans (e4_dg m ρ c)

theorem f_dx : (W6 m ρ c (Proc.devRef .tc main_v6_0) : FVec Ideal S4096x1024 .f32) = buf2 (DX (args m c)) :=
  (W6_of m ρ c main_v6_0 (by decide)).trans (e5_dx m ρ c)
theorem f_dw : (W6 m ρ c (Proc.devRef .tc main_v7) : FVec Ideal S1024x2304 .f32) = buf2 (DW (args m c)) :=
  (W6_of m ρ c main_v7 (by decide)).trans (e5_dw m ρ c)
theorem f_dg : (W6 m ρ c (Proc.devRef .tc main_v8) : FVec Ideal S1024 .f32) = fun i => DG (args m c) (i 0) := by
  have h := e5_dg m ρ c
  funext i
  obtain ⟨j, rfl⟩ : ∃ j, i = ix1 j := ⟨i 0, by funext a; fin_cases a; rfl⟩
  show (StableHlo.after hostOps3 (W5 m ρ c) (Proc.devRef .tc main_v8) : FVec Ideal S1024 .f32) (ix1 j) = _
  after_results
  pointwise
  exact congrFun h (ix2 0 j)

end Cert.InpTotal

end
-- ==== Proof.InpClaim.lean ====
/-
  The input projection's backward step: its run with its results named, and the equality with the reference.
-/
module

public import proofs.«01_k».proof.Defs
public import proofs.«01_k».proof.Proof.InpTotal
public import proofs.«01_k».proof.Proof.Finite
public import proofs.«01_k».proof.Proof.Gen.InpRefIdeal
public import proofs.«01_k».proof.Proof.Gen.InpRefIdeal.Run
public import proofs.«01_k».proof.Proof.Gen.InpRefIdeal.Read
public import proofs.«01_k».proof.Proof.Gen.Pre_finite_shift
public import Idealize.ShloMosaic.Lib.Claim

@[expose] public section

set_option maxRecDepth 16384

noncomputable section

namespace Cert.InpClaim

section Ref

open Idealize.ShloMosaic Idealize.ShloMosaic.TcCoe Idealize.SL.Sem Idealize.ShloMosaic.StableHlo
open Cert.InpRefIdeal Cert.InpRefIdeal.Gen Cert.InpRefIdeal.Read Cert.Spec Cert.InpSpec

variable (X : Args)

theorem ms_eq (t : Fin 4096) : val_main_v6 (F := Ideal) X.x (ix2 t 0) = ms (mat X.x t) := by
  pointwise [val_main_v0, val_main_v1, val_main_v2, val_main_v3, val_main_v4, val_main_v5, val_main_v6, val_main_cst, val_main_cst_0, val_main_cst_1]
  rfl
theorem rs_eq (t : Fin 4096) : val_main_v7 (F := Ideal) X.x (ix2 t 0) = rs (mat X.x t) := by
  pointwise [val_main_v7, ms_eq]
  rfl
theorem qs_eq (t : Fin 4096) : val_main_v10 (F := Ideal) X.x (ix2 t 0) = qs (mat X.x t) := by
  pointwise [val_main_v8, val_main_v9, val_main_v10, val_main_cst_2, ms_eq, rs_eq]
  rfl
theorem hat_eq (t : Fin 4096) (j : Fin 1024) : val_main_v12 (F := Ideal) X.x (ix2 t j) = hat (mat X.x t) j := by
  pointwise [val_main_v11, val_main_v12, rs_eq]
  rfl
theorem xn_eq (t : Fin 4096) (j : Fin 1024) : val_main_v15 (F := Ideal) X.x X.g (ix2 t j) = XN X t j := by
  pointwise [val_main_v13, val_main_v14, val_main_v15, hat_eq]
  rfl
theorem sh_eq (t : Fin 4096) (j : Fin 1792) : val_main_v31 (F := Ideal) X.z X.mu (ix2 t j) = mat X.z t j * vec X.mu j := by
  pointwise [val_main_v24, val_main_v29, val_main_v30, val_main_v31]
  rfl
theorem nx_eq (t : Fin 4096) (j : Fin 1792) : val_main_v37 (F := Ideal) X.z X.mu (ix2 t j) = nxt X t j := by
  pointwise [val_main_v36, val_main_v37, val_main_cst_6, sh_eq]
  unfold nxt
  by_cases h : t.val < 4095
  · have h' : t.val + 1 < 4096 := by omega
    rw [dif_pos h, dif_pos h']
    simp only [Nat.add_comm 1 t.val]
  · have h' : ¬ t.val + 1 < 4096 := by omega
    rw [dif_neg h, dif_neg h']

variable (hz : ∀ t j, ∃ r : ℝ, mat X.z t j = (r : EReal)) (hmu : ∀ j, ∃ r : ℝ, vec X.mu j = (r : EReal))
include hz hmu

theorem dz_eq (t : Fin 4096) (j : Fin 1792) : val_main_v38 (F := Ideal) X.z X.mu (ix2 t j) = DZ X t j := by
  pointwise [val_main_v28, val_main_v32, val_main_v33, val_main_v38, sh_eq, nx_eq]
  unfold DZ
  congr 1
  exact rest _ _ (hz t j) (hmu j)
theorem dp_eq (t : Fin 4096) (j : Fin 2304) : val_main_v40 (F := Ideal) X.u X.z X.mu (ix2 t j) = DP X t j := by
  pointwise [val_main_v34, val_main_v39, val_main_v40, val_main_cst_5, val_main_cst_7, dz_eq X hz hmu]
  unfold DP
  by_cases h : j.val < 512
  · have h' : ¬ (512 ≤ j.val ∧ j.val - 512 < 1792) := by omega
    rw [dif_pos h, dif_pos h, dif_neg h', add_zero]
    rfl
  · have h' : 512 ≤ j.val ∧ j.val - 512 < 1792 := by omega
    rw [dif_neg h, dif_neg h, dif_pos h', zero_add]
theorem dw_eq (i : Fin 1024) (j : Fin 2304) : val_main_v42 (F := Ideal) X.x X.u X.z X.g X.mu (ix2 i j) = DW X i j := by
  pointwise [val_main_v41, val_main_v42, dp_eq X hz hmu, xn_eq]
  exact Finset.sum_congr rfl fun _ _ => mul_comm _ _
theorem dn_eq (t : Fin 4096) (j : Fin 1024) : val_main_v43 (F := Ideal) X.u X.z X.w X.mu (ix2 t j) = DN X t j := by
  pointwise [val_main_v43, dp_eq X hz hmu]
  exact dn_split X t j
theorem dg_eq (j : Fin 1024) : val_main_v49 (F := Ideal) X.x X.u X.z X.w X.mu (ix1 j) = DG X j := by
  pointwise [val_main_v44, val_main_v45, val_main_v46, val_main_v49, val_main_cst_8, val_main_cst_9, hat_eq, dn_eq X hz hmu, zero_add, Fin.sum_univ_one]
  rfl
theorem dy_eq (t : Fin 4096) (j : Fin 1024) : val_main_v48 (F := Ideal) X.u X.z X.g X.w X.mu (ix2 t j) = DN X t j * vec X.g j := by
  pointwise [val_main_v13, val_main_v47, val_main_v48, dn_eq X hz hmu]
  rfl
theorem nbc_eq (t : Fin 4096) : val_main_v58 (F := Ideal) X.x X.u X.z X.g X.w X.mu (ix2 t 0) = nbc (mat X.x t) (vec X.g) (DN X t) := by
  pointwise [val_main_v50, val_main_v51, val_main_v52, val_main_v56, val_main_v57, val_main_v58, val_main_cst_10, val_main_cst_11, qs_eq, dy_eq X hz hmu, zero_add]
  rfl
theorem nbs_eq (t : Fin 4096) : val_main_v59 (F := Ideal) X.x X.u X.z X.g X.w X.mu (ix1 t) = nbc (mat X.x t) (vec X.g) (DN X t) := by
  pointwise [val_main_v59, val_main_cst_12, nbc_eq X hz hmu, zero_add, Fin.sum_univ_one]
theorem dx_eq (t : Fin 4096) (j : Fin 1024) : val_main_v64 (F := Ideal) X.x X.d X.u X.z X.g X.w X.mu (ix2 t j) = DX X t j := by
  pointwise [val_main_v53, val_main_v54, val_main_v55, val_main_v60, val_main_v61, val_main_v62, val_main_v63, val_main_v64, rs_eq, dy_eq X hz hmu, nbs_eq X hz hmu]
  exact add_assoc4 _ _ _ _

end Ref

section Run

open Idealize.ShloMosaic Idealize.ShloMosaic.TcCoe Idealize.SL.Sem
open Cert.InpIdeal Cert.InpIdeal.Gen
open Cert.Spec hiding eq_ix2
open Cert.InpSpec Cert.InpTotal

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v6_0) = (buf2 (DX (args m c)) : FVec Ideal S4096x1024 .f32)
    ∧ r.2.mem ((c : Thread nD τ).loc main_v8) = (fun i => DG (args m c) (i 0) : FVec Ideal S1024 .f32)
    ∧ r.2.mem ((c : Thread nD τ).loc main_v7) = (buf2 (DW (args m c)) : FVec Ideal S1024x2304 .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  θ_run_mono (Cert.InpRun.run m ρ) (fun r h c =>
    ⟨(h c _ (mem_uc main_v6_0 (by decide))).trans (f_dx m ρ c),
     (h c _ (mem_uc main_v8 (by decide))).trans (f_dg m ρ c),
     (h c _ (mem_uc main_v7 (by decide))).trans (f_dw m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩)

end Run

open Idealize.ShloMosaic Idealize.ShloMosaic.TcCoe Idealize.SL.Sem
open Cert.Spec hiding eq_ix2
open Cert.InpRefIdeal.Read

/-- What the precondition says of the arguments: the second branch's cotangent and the shift's share are real. -/
structure Real (X : InpSpec.Args) : Prop where
  z : ∀ t j, ∃ r : ℝ, mat X.z t j = (r : EReal)
  mu : ∀ j, ∃ r : ℝ, vec X.mu j = (r : EReal)

theorem ref_dx (X : InpSpec.Args) (h : Real X) : val_main_v64 (F := Ideal) X.x X.d X.u X.z X.g X.w X.mu = buf2 (InpSpec.DX X) := by
  funext i
  exact (congrArg _ (Cert.Spec.eq_ix2 i)).trans (dx_eq X h.z h.mu (i 0) (i 1))
theorem ref_dg (X : InpSpec.Args) (h : Real X) : val_main_v49 (F := Ideal) X.x X.u X.z X.w X.mu = fun i => InpSpec.DG X (i 0) := by
  funext i
  obtain ⟨j, rfl⟩ : ∃ j, i = ix1 j := ⟨i 0, by funext a; fin_cases a; rfl⟩
  exact dg_eq X h.z h.mu j
theorem ref_dw (X : InpSpec.Args) (h : Real X) : val_main_v42 (F := Ideal) X.x X.u X.z X.g X.mu = buf2 (InpSpec.DW X) := by
  funext i
  exact (congrArg _ (Cert.Spec.eq_ix2 i)).trans (dw_eq X h.z h.mu (i 0) (i 1))

/-- The precondition read back. -/
theorem real_of_pre (m : (ℓ : Loc InpIdeal.nD InpIdeal.τ InpIdeal.sig) → Buf (Elt Ideal) ℓ) (h : Cert.Pre_InpIdeal_finite_shift m) (c : Dev InpIdeal.nD) :
    Real (InpTotal.args m c) := by
  obtain ⟨h1, h2⟩ := Finite.both _ _ (h c)
  exact ⟨fun t j => Finite.all_real _ _ _ _ _ h1 (ix2 t j), fun j => Finite.all_real _ _ _ _ _ h2 (ix1 j)⟩

/-- The arguments as the reference finds them. -/
abbrev rargs (m' : (ℓ : Loc InpRefIdeal.nD InpRefIdeal.τ InpRefIdeal.sig) → Buf (Elt Ideal) ℓ) (c : Dev InpRefIdeal.nD) : InpSpec.Args :=
  ⟨m' ((c : Thread InpRefIdeal.nD InpRefIdeal.τ).loc InpRefIdeal.main_arg0), m' ((c : Thread InpRefIdeal.nD InpRefIdeal.τ).loc InpRefIdeal.main_arg1), m' ((c : Thread InpRefIdeal.nD InpRefIdeal.τ).loc InpRefIdeal.main_arg2), m' ((c : Thread InpRefIdeal.nD InpRefIdeal.τ).loc InpRefIdeal.main_arg3), m' ((c : Thread InpRefIdeal.nD InpRefIdeal.τ).loc InpRefIdeal.main_arg4), m' ((c : Thread InpRefIdeal.nD InpRefIdeal.τ).loc InpRefIdeal.main_arg5), m' ((c : Thread InpRefIdeal.nD InpRefIdeal.τ).loc InpRefIdeal.main_arg6)⟩

/-- The reference runs, ends with these results, and leaves its arguments alone. -/
theorem ref_run (m' : (ℓ : Loc InpRefIdeal.nD InpRefIdeal.τ InpRefIdeal.sig) → Buf (Elt Ideal) ℓ) (ρ : Dev InpRefIdeal.nD → PrngReg)
    (hX : ∀ c, Real (rargs m' c)) :
    θ_run InpRefIdeal.defs (onTc (τ := InpRefIdeal.τ) (InpRefIdeal.main (F := Ideal))) ⟨m', fun _ => 0, ρ⟩ (fun r => ∀ c : Dev InpRefIdeal.nD,
    r.2.mem ((c : Thread InpRefIdeal.nD InpRefIdeal.τ).loc InpRefIdeal.main_v64) = (buf2 (InpSpec.DX (rargs m' c)) : FVec Ideal InpRefIdeal.S4096x1024 .f32)
    ∧ r.2.mem ((c : Thread InpRefIdeal.nD InpRefIdeal.τ).loc InpRefIdeal.main_v49) = (fun i => InpSpec.DG (rargs m' c) (i 0) : FVec Ideal InpRefIdeal.S1024 .f32)
    ∧ r.2.mem ((c : Thread InpRefIdeal.nD InpRefIdeal.τ).loc InpRefIdeal.main_v42) = (buf2 (InpSpec.DW (rargs m' c)) : FVec Ideal InpRefIdeal.S1024x2304 .f32)
    ∧ r.2.mem ((c : Thread InpRefIdeal.nD InpRefIdeal.τ).loc InpRefIdeal.main_arg0) = m' ((c : Thread InpRefIdeal.nD InpRefIdeal.τ).loc InpRefIdeal.main_arg0)
    ∧ r.2.mem ((c : Thread InpRefIdeal.nD InpRefIdeal.τ).loc InpRefIdeal.main_arg1) = m' ((c : Thread InpRefIdeal.nD InpRefIdeal.τ).loc InpRefIdeal.main_arg1)
    ∧ r.2.mem ((c : Thread InpRefIdeal.nD InpRefIdeal.τ).loc InpRefIdeal.main_arg2) = m' ((c : Thread InpRefIdeal.nD InpRefIdeal.τ).loc InpRefIdeal.main_arg2)
    ∧ r.2.mem ((c : Thread InpRefIdeal.nD InpRefIdeal.τ).loc InpRefIdeal.main_arg3) = m' ((c : Thread InpRefIdeal.nD InpRefIdeal.τ).loc InpRefIdeal.main_arg3)
    ∧ r.2.mem ((c : Thread InpRefIdeal.nD InpRefIdeal.τ).loc InpRefIdeal.main_arg4) = m' ((c : Thread InpRefIdeal.nD InpRefIdeal.τ).loc InpRefIdeal.main_arg4)
    ∧ r.2.mem ((c : Thread InpRefIdeal.nD InpRefIdeal.τ).loc InpRefIdeal.main_arg5) = m' ((c : Thread InpRefIdeal.nD InpRefIdeal.τ).loc InpRefIdeal.main_arg5)
    ∧ r.2.mem ((c : Thread InpRefIdeal.nD InpRefIdeal.τ).loc InpRefIdeal.main_arg6) = m' ((c : Thread InpRefIdeal.nD InpRefIdeal.τ).loc InpRefIdeal.main_arg6)) :=
  θ_run_mono (Cert.InpRefIdeal.Value.run m' ρ) (fun r h c => by
    obtain ⟨h0, h1, h2, ha⟩ := h c
    exact ⟨h0.trans ((val_main_v64_eq m' c).trans (ref_dx (rargs m' c) (hX c))),
      h1.trans ((val_main_v49_eq _ _ _ _ _).trans (ref_dg (rargs m' c) (hX c))),
      h2.trans ((val_main_v42_eq _ _ _ _ _).trans (ref_dw (rargs m' c) (hX c))), ha⟩)

/-- The program and its reference end with equal results. -/
theorem algebraic : Cert.algebraic_InpIdeal_InpRefIdeal_pre_finite_shift := by
  pair_intro
  · run_from run_out m g
  · have hX : ∀ c : Dev InpRefIdeal.nD, rargs m' c = InpTotal.args m c := by
      intro c
      obtain ⟨h0, h1, h2, h3, h4, h5, h6⟩ := hagree c
      simp only [rargs, InpTotal.args]
      rw [← h0, ← h1, ← h2, ← h3, ← h4, ← h5, ← h6]
    have hR : ∀ c, Real (rargs m' c) := fun c => by
      rw [hX c]
      exact real_of_pre m hpre c
    run_from ref_run m' g' hR <;> rw [hX c]

end Cert.InpClaim

end
-- ==== Proof.AdamSpec.lean ====
/-
  One element's AdamW update, as a function of its gradient, weight and moments, and the update of a whole array
  whose gradient is the sum of a device's own and the parts it has received.
-/
module

public import proofs.«01_k».proof.Proof.Whole
public import Idealize.ShloMosaic.Lib.Pipeline.ValueKit

@[expose] public section

noncomputable section

namespace Cert.AdamSpec

open Idealize.ShloMosaic Cert.Spec

/-- The first moment's decay, -/
def kB1 : EReal := Ideal.ofBits .f32 0x3F666666#32
/-- what is left of it to one, -/
def kC1 : EReal := Ideal.ofBits .f32 0x3DCCCCCD#32
/-- the second moment's decay, -/
def kB2 : EReal := Ideal.ofBits .f32 0x3F7FBE77#32
/-- what is left of it to one, -/
def kC2 : EReal := Ideal.ofBits .f32 0x3A83126F#32
/-- the first moment's bias correction, -/
def kH1 : EReal := Ideal.ofBits .f32 0x3F26BD02#32
/-- the second moment's, -/
def kH2 : EReal := Ideal.ofBits .f32 0x3C231ACC#32
/-- the number added under the quotient, -/
def kE : EReal := Ideal.ofBits .f32 0x322BCC77#32
/-- the weight decay, -/
def kW : EReal := Ideal.ofBits .f32 0x3C23D70A#32
/-- and the step size with its sign, as the programs' bit patterns. -/
def kL : EReal := Ideal.ofBits .f32 0xBA83126F#32

/-- The first moment after the step, -/
def newM (g m : EReal) : EReal := kB1 * m + kC1 * g
/-- the second, -/
def newV (g v : EReal) : EReal := kB2 * v + kC2 * (g * g)
/-- and the weight's change. -/
def delta (g w m v : EReal) : EReal :=
  kL * (Ideal.div (Ideal.div (newM g m) kH1) (Ideal.sqrt (Ideal.div (newV g v) kH2) + kE) + kW * w)

section Host

open Idealize.ShloMosaic.StableHlo

/-- The shape of one number. -/
abbrev S0 : Shape := ⟨0, ![]⟩

variable {S : Shape} (h : S0.BroadcastsInDim S (![] : Fin 0 → Fin S.rank)) (g w m v : FVec Ideal S .f32)

/-- The reference's first moment at an index, -/
theorem host_m :
    addf (mulf (broadcastInDim S ![] h (constant (F := Ideal) S0 .f32 0x3F666666#32)) m) (mulf (broadcastInDim S ![] h (constant (F := Ideal) S0 .f32 0x3DCCCCCD#32)) g)
      = fun i => newM (g i) (m i) := rfl
/-- its second, -/
theorem host_v :
    addf (mulf (broadcastInDim S ![] h (constant (F := Ideal) S0 .f32 0x3F7FBE77#32)) v) (mulf (broadcastInDim S ![] h (constant (F := Ideal) S0 .f32 0x3A83126F#32)) (mulf g g))
      = fun i => newV (g i) (v i) := rfl
/-- and the weight's change. -/
theorem host_delta :
    mulf (broadcastInDim S ![] h (constant (F := Ideal) S0 .f32 0xBA83126F#32)) (addf (Host.divf (Host.divf
        (addf (mulf (broadcastInDim S ![] h (constant (F := Ideal) S0 .f32 0x3F666666#32)) m) (mulf (broadcastInDim S ![] h (constant (F := Ideal) S0 .f32 0x3DCCCCCD#32)) g))
        (broadcastInDim S ![] h (constant (F := Ideal) S0 .f32 0x3F26BD02#32)))
        (addf (Host.sqrt (Host.divf
          (addf (mulf (broadcastInDim S ![] h (constant (F := Ideal) S0 .f32 0x3F7FBE77#32)) v) (mulf (broadcastInDim S ![] h (constant (F := Ideal) S0 .f32 0x3A83126F#32)) (mulf g g)))
          (broadcastInDim S ![] h (constant (F := Ideal) S0 .f32 0x3C231ACC#32))))
          (broadcastInDim S ![] h (constant (F := Ideal) S0 .f32 0x322BCC77#32))))
        (mulf (broadcastInDim S ![] h (constant (F := Ideal) S0 .f32 0x3C23D70A#32)) w))
      = fun i => delta (g i) (w i) (m i) (v i) := rfl

end Host

section Kernel

variable {S : Shape} (g w m v : FVec Ideal S .f32)

/-- The kernel's first moment at an index, -/
theorem ker_m :
    addf (mulf (broadcast S (Scalar.ofBits (F := Ideal) .f32 0x3F666666#32)) m) (mulf (broadcast S (Scalar.ofBits (F := Ideal) .f32 0x3DCCCCCD#32)) g)
      = fun i => newM (g i) (m i) := rfl
/-- its second, -/
theorem ker_v :
    addf (mulf (broadcast S (Scalar.ofBits (F := Ideal) .f32 0x3F7FBE77#32)) v) (mulf (broadcast S (Scalar.ofBits (F := Ideal) .f32 0x3A83126F#32)) (mulf g g))
      = fun i => newV (g i) (v i) := rfl
/-- and the weight's change. -/
theorem ker_delta :
    mulf (broadcast S (Scalar.ofBits (F := Ideal) .f32 0xBA83126F#32)) (addf (divf (divf
        (addf (mulf (broadcast S (Scalar.ofBits (F := Ideal) .f32 0x3F666666#32)) m) (mulf (broadcast S (Scalar.ofBits (F := Ideal) .f32 0x3DCCCCCD#32)) g))
        (broadcast S (Scalar.ofBits (F := Ideal) .f32 0x3F26BD02#32)))
        (addf (sqrt (divf
          (addf (mulf (broadcast S (Scalar.ofBits (F := Ideal) .f32 0x3F7FBE77#32)) v) (mulf (broadcast S (Scalar.ofBits (F := Ideal) .f32 0x3A83126F#32)) (mulf g g)))
          (broadcast S (Scalar.ofBits (F := Ideal) .f32 0x3C231ACC#32))))
          (broadcast S (Scalar.ofBits (F := Ideal) .f32 0x322BCC77#32))))
        (mulf (broadcast S (Scalar.ofBits (F := Ideal) .f32 0x3C23D70A#32)) w))
      = fun i => delta (g i) (w i) (m i) (v i) := rfl

end Kernel

/-- A gradient and the seven parts that belong to it. -/
def tot (o : EReal) (p : Fin 7 → EReal) : EReal := o + ∑ k : Fin 7, p k

/-- The parts added one after another. -/
theorem tot_eq (o : EReal) (p : Fin 7 → EReal) : o + p 0 + p 1 + p 2 + p 3 + p 4 + p 5 + p 6 = tot o p := by
  unfold tot
  simp only [Fin.sum_univ_succ, Fin.sum_univ_zero, add_zero, ← add_assoc]
  rfl

section Rows

variable {n : ℕ}

/-- An array of `n` rows, -/
abbrev A (n : ℕ) := FVec Ideal ⟨2, ![n, 1024]⟩ .f32
/-- and eight such arrays of gradients. -/
abbrev Parts (n : ℕ) := FVec Ideal ⟨3, ![8, n, 1024]⟩ .bf16

/-- The whole gradient at an index, -/
def G (o : A n) (p : Parts n) : A n := fun i => tot (o i) fun k => p (ix3 k.succ (i 0) (i 1))
/-- the weight's change, -/
def D (o : A n) (p : Parts n) (w m v : A n) : A n := fun i => delta (G o p i) (w i) (m i) (v i)
/-- and the moments after the step. -/
def M (o : A n) (p : Parts n) (m : A n) : A n := fun i => newM (G o p i) (m i)
def V (o : A n) (p : Parts n) (v : A n) : A n := fun i => newV (G o p i) (v i)

/-- One device's part of the gradient, at an index of the block. -/
theorem ld_at (B : Parts n) (k : ℕ) (inb : ∀ a, (![k, 0, 0] : Fin 3 → Nat) a + (![1, n, 1024] : Fin 3 → Nat) a ≤ (⟨3, ![8, n, 1024]⟩ : Shape).size a) (r : Fin n) (j : Fin 1024) (k' : Fin 8) (e : k'.val = k) :
    (View.ld (Val := Elt Ideal) (S := ⟨3, ![8, n, 1024]⟩) (e' := .bf16) B (Rect.unit ![k, 0, 0] ![1, n, 1024] inb) : FVec Ideal ⟨3, ![1, n, 1024]⟩ .bf16) (ix3 0 r j) = B (ix3 k' r j) := by
  refine View.ld_unit_apply_of (Val := Elt Ideal) (e := .bf16) _ _ _ _ _ (ix3 k' r j) ?_
  intro a
  match a with
  | 0 => simpa using e
  | 1 => simp
  | 2 => simp

end Rows

end Cert.AdamSpec

end
-- ==== Proof.AdamAClaim.lean ====
/-
  The AdamW update of one device's 288 rows: what the call leaves in its results, and their equality with the reference's.
-/
module

public import proofs.«01_k».proof.Defs
public import proofs.«01_k».proof.Proof.AdamSpec
public import proofs.«01_k».proof.Proof.Gen.AdamAIdeal.Frame
public import proofs.«01_k».proof.Proof.Gen.AdamAIdeal.Value
public import proofs.«01_k».proof.Proof.Gen.AdamARefIdeal
public import proofs.«01_k».proof.Proof.Gen.AdamARefIdeal.Run
public import proofs.«01_k».proof.Proof.Gen.AdamARefIdeal.Read
public import Idealize.ShloMosaic.Lib.Pipeline.ValueKit
public import Idealize.ShloMosaic.Lib.Claim

@[expose] public section

set_option maxRecDepth 16384

noncomputable section

namespace Cert.AdamAClaim

open Idealize.ShloMosaic Idealize.ShloMosaic.TcCoe Idealize.SL.Sem
open Cert.AdamSpec

abbrev A := AdamSpec.A 288
abbrev Parts := AdamSpec.Parts 288

section Run

open Cert.AdamAIdeal Cert.AdamAIdeal.Gen Idealize.ShloMosaic.Pipeline

variable (m : (ℓ : Loc nD τ sig) → Buf (Elt Ideal) ℓ) (ρ : Dev nD → PrngReg) (c : Dev nD)

/-- Which block of its array each window holds at a point. -/
theorem idx : ∀ t : Fin cfg0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The array row under a block's row. -/
def row (t : Fin cfg0.N) (r : Fin 144) : Fin 288 := ⟨t.val * 144 + r.val, by have := lt_of_lt_of_eq t.isLt N_0; omega⟩
/-- The array's index under a block's. -/
abbrev at_ (t : Fin cfg0.N) (y : S144x1024.Idx) : S288x1024.Idx := ix2 (row t (y 0)) (y 1)

abbrev a0 : A := m ((c : Thread nD τ).loc main_arg0)
abbrev a1 : Parts := m ((c : Thread nD τ).loc main_arg1)
abbrev a2 : A := m ((c : Thread nD τ).loc main_arg2)
abbrev a3 : A := m ((c : Thread nD τ).loc main_arg3)
abbrev a4 : A := m ((c : Thread nD τ).loc main_arg4)

theorem b0 (t : Fin cfg0.N) (y : S144x1024.Idx) : (iblk m c 0 t : FVec Ideal S144x1024 .f32) y = a0 m c (at_ t y) := by
  unfold at_ row
  blk_ext [iblk, idx t]
theorem b1 (t : Fin cfg0.N) (k : Fin 8) (r : Fin 144) (j : Fin 1024) :
    (iblk m c 1 t : FVec Ideal S8x144x1024 .bf16) (ix3 k r j) = a1 m c (ix3 k (row t r) j) := by
  unfold row
  blk_ext [iblk, idx t]
theorem b2 (t : Fin cfg0.N) (y : S144x1024.Idx) : (iblk m c 2 t : FVec Ideal S144x1024 .f32) y = a2 m c (at_ t y) := by
  unfold at_ row
  blk_ext [iblk, idx t]
theorem b3 (t : Fin cfg0.N) (y : S144x1024.Idx) : (iblk m c 3 t : FVec Ideal S144x1024 .f32) y = a3 m c (at_ t y) := by
  unfold at_ row
  blk_ext [iblk, idx t]
theorem b4 (t : Fin cfg0.N) (y : S144x1024.Idx) : (iblk m c 4 t : FVec Ideal S144x1024 .f32) y = a4 m c (at_ t y) := by
  unfold at_ row
  blk_ext [iblk, idx t]

/-- The whole gradient of a block. -/
theorem pay_g (o : FVec Ideal S144x1024 .f32) (p1 p2 p3 p4 p5 p6 p7 : FVec Ideal S1x144x1024 .bf16) (r : Fin 144) (j : Fin 1024) :
    k0_pay4 (F := Ideal) o p1 p2 p3 p4 p5 p6 p7 (ix2 r j) = tot (o (ix2 r j)) ![p1 (ix3 0 r j), p2 (ix3 0 r j), p3 (ix3 0 r j), p4 (ix3 0 r j), p5 (ix3 0 r j), p6 (ix3 0 r j), p7 (ix3 0 r j)] := by
  rw [← tot_eq]
  pointwise [k0_pay4]

theorem g_ix (t : Fin cfg0.N) (r : Fin 144) (j : Fin 1024) :
    k0_pay6 (F := Ideal) (iblk m c 0 t) (iblk m c 1 t) (iblk m c 2 t) (iblk m c 3 t) (iblk m c 4 t) (ix2 r j) = G (a0 m c) (a1 m c) (at_ t (ix2 r j)) := by
  refine (pay_g _ _ _ _ _ _ _ _ r j).trans ?_
  unfold G
  rw [View.ld_unit_lit' (h := by decide), b0]
  refine congrArg (tot _) (funext fun k => ?_)
  match k with
  | 0 => exact (ld_at _ _ _ _ _ 1 rfl).trans (b1 m c t _ _ _)
  | 1 => exact (ld_at _ _ _ _ _ 2 rfl).trans (b1 m c t _ _ _)
  | 2 => exact (ld_at _ _ _ _ _ 3 rfl).trans (b1 m c t _ _ _)
  | 3 => exact (ld_at _ _ _ _ _ 4 rfl).trans (b1 m c t _ _ _)
  | 4 => exact (ld_at _ _ _ _ _ 5 rfl).trans (b1 m c t _ _ _)
  | 5 => exact (ld_at _ _ _ _ _ 6 rfl).trans (b1 m c t _ _ _)
  | 6 => exact (ld_at _ _ _ _ _ 7 rfl).trans (b1 m c t _ _ _)

theorem g_at (t : Fin cfg0.N) (y : S144x1024.Idx) :
    k0_pay6 (F := Ideal) (iblk m c 0 t) (iblk m c 1 t) (iblk m c 2 t) (iblk m c 3 t) (iblk m c 4 t) y = G (a0 m c) (a1 m c) (at_ t y) :=
  (congrArg _ (eq_ix2 y)).trans (g_ix m c t (y 0) (y 1))

/-- The whole gradient. -/
theorem g_out : (dats m 0 c).arrAt 5 cfg0.N = G (a0 m c) (a1 m c) := by
  refine (dats m 0 c).arrAt_eq_of_covers 5 _ (by decide +kernel) fun t hf y => ?_
  blk_simp
  have e : (win0_5.blk t).view.emb y = at_ t y := by
    unfold at_ row
    blk_ext [idx t]
  rw [after0_5, e]
  frame_out
  exact g_at m c t y
/-- The weight's change. -/
theorem d_out : (dats m 0 c).arrAt 6 cfg0.N = D (a0 m c) (a1 m c) (a2 m c) (a3 m c) (a4 m c) := by
  refine (dats m 0 c).arrAt_eq_of_covers 6 _ (by decide +kernel) fun t hf y => ?_
  blk_simp
  have e : (win0_6.blk t).view.emb y = at_ t y := by
    unfold at_ row
    blk_ext [idx t]
  rw [after0_6, e]
  frame_out
  refine (congrFun (ker_delta _ _ _ _) y).trans ?_
  beta_reduce
  unfold D
  rw [g_at, b2, View.ld_unit_lit' (h := by decide), b3, b4]
/-- The first moment, -/
theorem m_out : (dats m 0 c).arrAt 7 cfg0.N = M (a0 m c) (a1 m c) (a3 m c) := by
  refine (dats m 0 c).arrAt_eq_of_covers 7 _ (by decide +kernel) fun t hf y => ?_
  blk_simp
  have e : (win0_7.blk t).view.emb y = at_ t y := by
    unfold at_ row
    blk_ext [idx t]
  rw [after0_7, e]
  frame_out
  refine (congrFun (ker_m _ _) y).trans ?_
  beta_reduce
  unfold AdamSpec.M
  rw [g_at, View.ld_unit_lit' (h := by decide), b3]
/-- and the second. -/
theorem v_out : (dats m 0 c).arrAt 8 cfg0.N = V (a0 m c) (a1 m c) (a4 m c) := by
  refine (dats m 0 c).arrAt_eq_of_covers 8 _ (by decide +kernel) fun t hf y => ?_
  blk_simp
  have e : (win0_8.blk t).view.emb y = at_ t y := by
    unfold at_ row
    blk_ext [idx t]
  rw [after0_8, e]
  frame_out
  refine (congrFun (ker_v _ _) y).trans ?_
  beta_reduce
  unfold AdamSpec.V
  rw [g_at, b4]

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = G (a0 m c) (a1 m c)
    ∧ r.2.mem ((c : Thread nD τ).loc main_v0_1) = D (a0 m c) (a1 m c) (a2 m c) (a3 m c) (a4 m c)
    ∧ r.2.mem ((c : Thread nD τ).loc main_v0_2) = M (a0 m c) (a1 m c) (a3 m c)
    ∧ r.2.mem ((c : Thread nD τ).loc main_v0_3) = V (a0 m c) (a1 m c) (a4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.AdamAIdeal.Value.run_blocks m ρ) (fun r h c => by
    obtain ⟨h0, h1, h2, h3, ha⟩ := h c
    exact ⟨h0.trans (g_out m c), h1.trans (d_out m c), h2.trans (m_out m c), h3.trans (v_out m c), ha⟩)

end Run

section Ref

open Cert.AdamARefIdeal Cert.AdamARefIdeal.Gen Cert.AdamARefIdeal.Read

variable (m : (ℓ : Loc nD τ sig) → Buf (Elt Ideal) ℓ) (ρ : Dev nD → PrngReg) (c : Dev nD)

abbrev r0 : A := m ((c : Thread nD τ).loc main_arg0)
abbrev r1 : Parts := m ((c : Thread nD τ).loc main_arg1)
abbrev r2 : A := m ((c : Thread nD τ).loc main_arg2)
abbrev r3 : A := m ((c : Thread nD τ).loc main_arg3)
abbrev r4 : A := m ((c : Thread nD τ).loc main_arg4)

theorem ref_g (o : A) (p : Parts) : val_main_v3 (F := Ideal) o p = G o p := by
  funext i
  rw [eq_ix2 i]
  pointwise [val_main_v0, val_main_v1, val_main_cst, val_main_v2, val_main_v3, zero_add]
  refine congrArg (_ + ·) (Finset.sum_congr rfl fun k _ => ?_)
  refine congrArg p ?_
  ext a
  match a with
  | 0 => simp [Fin.val_succ, Nat.add_comm]
  | 1 => rfl
  | 2 => rfl

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v3) = G (r0 m c) (r1 m c)
    ∧ r.2.mem ((c : Thread nD τ).loc main_v27) = D (r0 m c) (r1 m c) (r2 m c) (r3 m c) (r4 m c)
    ∧ r.2.mem ((c : Thread nD τ).loc main_v8) = M (r0 m c) (r1 m c) (r3 m c)
    ∧ r.2.mem ((c : Thread nD τ).loc main_v14) = V (r0 m c) (r1 m c) (r4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.AdamARefIdeal.Value.run m ρ) (fun r h c => by
    obtain ⟨h0, h1, h2, h3, ha⟩ := h c
    have e := (val_main_v3_eq (F := Ideal) (r0 m c) (r1 m c)).trans (ref_g (r0 m c) (r1 m c))
    refine ⟨h0.trans e, (h1.trans (host_delta _ _ _ _ _)).trans ?_, (h2.trans (host_m _ _ _)).trans ?_, (h3.trans (host_v _ _ _)).trans ?_, ha⟩ <;> rw [e] <;> rfl)

end Ref

/-- The program and its reference end with equal results. -/
theorem algebraic : Cert.algebraic_AdamAIdeal_AdamARefIdeal := by
  pair_intro
  · run_from run_out m g
  · have hX : ∀ c : Dev AdamARefIdeal.nD, r0 m' c = a0 m c ∧ r1 m' c = a1 m c ∧ r2 m' c = a2 m c ∧ r3 m' c = a3 m c ∧ r4 m' c = a4 m c := by
      intro c
      obtain ⟨h0, h1, h2, h3, h4⟩ := hagree c
      exact ⟨h0, h1, h2, h3, h4⟩
    run_from ref_run m' g' <;> obtain ⟨e0, e1, e2, e3, e4⟩ := hX c <;> simp only [e0, e1, e2, e3, e4]

end Cert.AdamAClaim

end
-- ==== Proof.AdamBClaim.lean ====
/-
  The AdamW update of one device's 352 rows: what the call leaves in its results, and their equality with the reference's.
-/
module

public import proofs.«01_k».proof.Defs
public import proofs.«01_k».proof.Proof.AdamSpec
public import proofs.«01_k».proof.Proof.Gen.AdamBIdeal.Frame
public import proofs.«01_k».proof.Proof.Gen.AdamBIdeal.Value
public import proofs.«01_k».proof.Proof.Gen.AdamBRefIdeal
public import proofs.«01_k».proof.Proof.Gen.AdamBRefIdeal.Run
public import proofs.«01_k».proof.Proof.Gen.AdamBRefIdeal.Read
public import Idealize.ShloMosaic.Lib.Pipeline.ValueKit
public import Idealize.ShloMosaic.Lib.Claim

@[expose] public section

set_option maxRecDepth 16384

noncomputable section

namespace Cert.AdamBClaim

open Idealize.ShloMosaic Idealize.ShloMosaic.TcCoe Idealize.SL.Sem
open Cert.AdamSpec

abbrev A := AdamSpec.A 352
abbrev Parts := AdamSpec.Parts 352

section Run

open Cert.AdamBIdeal Cert.AdamBIdeal.Gen Idealize.ShloMosaic.Pipeline

variable (m : (ℓ : Loc nD τ sig) → Buf (Elt Ideal) ℓ) (ρ : Dev nD → PrngReg) (c : Dev nD)

/-- Which block of its array each window holds at a point. -/
theorem idx : ∀ t : Fin cfg0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The array row under a block's row. -/
def row (t : Fin cfg0.N) (r : Fin 176) : Fin 352 := ⟨t.val * 176 + r.val, by have := lt_of_lt_of_eq t.isLt N_0; omega⟩
/-- The array's index under a block's. -/
abbrev at_ (t : Fin cfg0.N) (y : S176x1024.Idx) : S352x1024.Idx := ix2 (row t (y 0)) (y 1)

abbrev a0 : A := m ((c : Thread nD τ).loc main_arg0)
abbrev a1 : Parts := m ((c : Thread nD τ).loc main_arg1)
abbrev a2 : A := m ((c : Thread nD τ).loc main_arg2)
abbrev a3 : A := m ((c : Thread nD τ).loc main_arg3)
abbrev a4 : A := m ((c : Thread nD τ).loc main_arg4)

theorem b0 (t : Fin cfg0.N) (y : S176x1024.Idx) : (iblk m c 0 t : FVec Ideal S176x1024 .f32) y = a0 m c (at_ t y) := by
  unfold at_ row
  blk_ext [iblk, idx t]
theorem b1 (t : Fin cfg0.N) (k : Fin 8) (r : Fin 176) (j : Fin 1024) :
    (iblk m c 1 t : FVec Ideal S8x176x1024 .bf16) (ix3 k r j) = a1 m c (ix3 k (row t r) j) := by
  unfold row
  blk_ext [iblk, idx t]
theorem b2 (t : Fin cfg0.N) (y : S176x1024.Idx) : (iblk m c 2 t : FVec Ideal S176x1024 .f32) y = a2 m c (at_ t y) := by
  unfold at_ row
  blk_ext [iblk, idx t]
theorem b3 (t : Fin cfg0.N) (y : S176x1024.Idx) : (iblk m c 3 t : FVec Ideal S176x1024 .f32) y = a3 m c (at_ t y) := by
  unfold at_ row
  blk_ext [iblk, idx t]
theorem b4 (t : Fin cfg0.N) (y : S176x1024.Idx) : (iblk m c 4 t : FVec Ideal S176x1024 .f32) y = a4 m c (at_ t y) := by
  unfold at_ row
  blk_ext [iblk, idx t]

/-- The whole gradient of a block. -/
theorem pay_g (o : FVec Ideal S176x1024 .f32) (p1 p2 p3 p4 p5 p6 p7 : FVec Ideal S1x176x1024 .bf16) (r : Fin 176) (j : Fin 1024) :
    k0_pay4 (F := Ideal) o p1 p2 p3 p4 p5 p6 p7 (ix2 r j) = tot (o (ix2 r j)) ![p1 (ix3 0 r j), p2 (ix3 0 r j), p3 (ix3 0 r j), p4 (ix3 0 r j), p5 (ix3 0 r j), p6 (ix3 0 r j), p7 (ix3 0 r j)] := by
  rw [← tot_eq]
  pointwise [k0_pay4]

theorem g_ix (t : Fin cfg0.N) (r : Fin 176) (j : Fin 1024) :
    k0_pay6 (F := Ideal) (iblk m c 0 t) (iblk m c 1 t) (iblk m c 2 t) (iblk m c 3 t) (iblk m c 4 t) (ix2 r j) = G (a0 m c) (a1 m c) (at_ t (ix2 r j)) := by
  refine (pay_g _ _ _ _ _ _ _ _ r j).trans ?_
  unfold G
  rw [View.ld_unit_lit' (h := by decide), b0]
  refine congrArg (tot _) (funext fun k => ?_)
  match k with
  | 0 => exact (ld_at _ _ _ _ _ 1 rfl).trans (b1 m c t _ _ _)
  | 1 => exact (ld_at _ _ _ _ _ 2 rfl).trans (b1 m c t _ _ _)
  | 2 => exact (ld_at _ _ _ _ _ 3 rfl).trans (b1 m c t _ _ _)
  | 3 => exact (ld_at _ _ _ _ _ 4 rfl).trans (b1 m c t _ _ _)
  | 4 => exact (ld_at _ _ _ _ _ 5 rfl).trans (b1 m c t _ _ _)
  | 5 => exact (ld_at _ _ _ _ _ 6 rfl).trans (b1 m c t _ _ _)
  | 6 => exact (ld_at _ _ _ _ _ 7 rfl).trans (b1 m c t _ _ _)

theorem g_at (t : Fin cfg0.N) (y : S176x1024.Idx) :
    k0_pay6 (F := Ideal) (iblk m c 0 t) (iblk m c 1 t) (iblk m c 2 t) (iblk m c 3 t) (iblk m c 4 t) y = G (a0 m c) (a1 m c) (at_ t y) :=
  (congrArg _ (eq_ix2 y)).trans (g_ix m c t (y 0) (y 1))

/-- The whole gradient. -/
theorem g_out : (dats m 0 c).arrAt 5 cfg0.N = G (a0 m c) (a1 m c) := by
  refine (dats m 0 c).arrAt_eq_of_covers 5 _ (by decide +kernel) fun t hf y => ?_
  blk_simp
  have e : (win0_5.blk t).view.emb y = at_ t y := by
    unfold at_ row
    blk_ext [idx t]
  rw [after0_5, e]
  frame_out
  exact g_at m c t y
/-- The weight's change. -/
theorem d_out : (dats m 0 c).arrAt 6 cfg0.N = D (a0 m c) (a1 m c) (a2 m c) (a3 m c) (a4 m c) := by
  refine (dats m 0 c).arrAt_eq_of_covers 6 _ (by decide +kernel) fun t hf y => ?_
  blk_simp
  have e : (win0_6.blk t).view.emb y = at_ t y := by
    unfold at_ row
    blk_ext [idx t]
  rw [after0_6, e]
  frame_out
  refine (congrFun (ker_delta _ _ _ _) y).trans ?_
  beta_reduce
  unfold D
  rw [g_at, b2, View.ld_unit_lit' (h := by decide), b3, b4]
/-- The first moment, -/
theorem m_out : (dats m 0 c).arrAt 7 cfg0.N = M (a0 m c) (a1 m c) (a3 m c) := by
  refine (dats m 0 c).arrAt_eq_of_covers 7 _ (by decide +kernel) fun t hf y => ?_
  blk_simp
  have e : (win0_7.blk t).view.emb y = at_ t y := by
    unfold at_ row
    blk_ext [idx t]
  rw [after0_7, e]
  frame_out
  refine (congrFun (ker_m _ _) y).trans ?_
  beta_reduce
  unfold AdamSpec.M
  rw [g_at, View.ld_unit_lit' (h := by decide), b3]
/-- and the second. -/
theorem v_out : (dats m 0 c).arrAt 8 cfg0.N = V (a0 m c) (a1 m c) (a4 m c) := by
  refine (dats m 0 c).arrAt_eq_of_covers 8 _ (by decide +kernel) fun t hf y => ?_
  blk_simp
  have e : (win0_8.blk t).view.emb y = at_ t y := by
    unfold at_ row
    blk_ext [idx t]
  rw [after0_8, e]
  frame_out
  refine (congrFun (ker_v _ _) y).trans ?_
  beta_reduce
  unfold AdamSpec.V
  rw [g_at, b4]

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = G (a0 m c) (a1 m c)
    ∧ r.2.mem ((c : Thread nD τ).loc main_v0_1) = D (a0 m c) (a1 m c) (a2 m c) (a3 m c) (a4 m c)
    ∧ r.2.mem ((c : Thread nD τ).loc main_v0_2) = M (a0 m c) (a1 m c) (a3 m c)
    ∧ r.2.mem ((c : Thread nD τ).loc main_v0_3) = V (a0 m c) (a1 m c) (a4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.AdamBIdeal.Value.run_blocks m ρ) (fun r h c => by
    obtain ⟨h0, h1, h2, h3, ha⟩ := h c
    exact ⟨h0.trans (g_out m c), h1.trans (d_out m c), h2.trans (m_out m c), h3.trans (v_out m c), ha⟩)

end Run

section Ref

open Cert.AdamBRefIdeal Cert.AdamBRefIdeal.Gen Cert.AdamBRefIdeal.Read

variable (m : (ℓ : Loc nD τ sig) → Buf (Elt Ideal) ℓ) (ρ : Dev nD → PrngReg) (c : Dev nD)

abbrev r0 : A := m ((c : Thread nD τ).loc main_arg0)
abbrev r1 : Parts := m ((c : Thread nD τ).loc main_arg1)
abbrev r2 : A := m ((c : Thread nD τ).loc main_arg2)
abbrev r3 : A := m ((c : Thread nD τ).loc main_arg3)
abbrev r4 : A := m ((c : Thread nD τ).loc main_arg4)

theorem ref_g (o : A) (p : Parts) : val_main_v3 (F := Ideal) o p = G o p := by
  funext i
  rw [eq_ix2 i]
  pointwise [val_main_v0, val_main_v1, val_main_cst, val_main_v2, val_main_v3, zero_add]
  refine congrArg (_ + ·) (Finset.sum_congr rfl fun k _ => ?_)
  refine congrArg p ?_
  ext a
  match a with
  | 0 => simp [Fin.val_succ, Nat.add_comm]
  | 1 => rfl
  | 2 => rfl

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v3) = G (r0 m c) (r1 m c)
    ∧ r.2.mem ((c : Thread nD τ).loc main_v27) = D (r0 m c) (r1 m c) (r2 m c) (r3 m c) (r4 m c)
    ∧ r.2.mem ((c : Thread nD τ).loc main_v8) = M (r0 m c) (r1 m c) (r3 m c)
    ∧ r.2.mem ((c : Thread nD τ).loc main_v14) = V (r0 m c) (r1 m c) (r4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.AdamBRefIdeal.Value.run m ρ) (fun r h c => by
    obtain ⟨h0, h1, h2, h3, ha⟩ := h c
    have e := (val_main_v3_eq (F := Ideal) (r0 m c) (r1 m c)).trans (ref_g (r0 m c) (r1 m c))
    refine ⟨h0.trans e, (h1.trans (host_delta _ _ _ _ _)).trans ?_, (h2.trans (host_m _ _ _)).trans ?_, (h3.trans (host_v _ _ _)).trans ?_, ha⟩ <;> rw [e] <;> rfl)

end Ref

/-- The program and its reference end with equal results. -/
theorem algebraic : Cert.algebraic_AdamBIdeal_AdamBRefIdeal := by
  pair_intro
  · run_from run_out m g
  · have hX : ∀ c : Dev AdamBRefIdeal.nD, r0 m' c = a0 m c ∧ r1 m' c = a1 m c ∧ r2 m' c = a2 m c ∧ r3 m' c = a3 m c ∧ r4 m' c = a4 m c := by
      intro c
      obtain ⟨h0, h1, h2, h3, h4⟩ := hagree c
      exact ⟨h0, h1, h2, h3, h4⟩
    run_from ref_run m' g' <;> obtain ⟨e0, e1, e2, e3, e4⟩ := hX c <;> simp only [e0, e1, e2, e3, e4]

end Cert.AdamBClaim

end
-- ==== Proof.AdamCClaim.lean ====
/-
  The AdamW update of one device's 128 rows: what the call leaves in its results, and their equality with the reference's.
-/
module

public import proofs.«01_k».proof.Defs
public import proofs.«01_k».proof.Proof.AdamSpec
public import proofs.«01_k».proof.Proof.Gen.AdamCIdeal.Frame
public import proofs.«01_k».proof.Proof.Gen.AdamCIdeal.Value
public import proofs.«01_k».proof.Proof.Gen.AdamCRefIdeal
public import proofs.«01_k».proof.Proof.Gen.AdamCRefIdeal.Run
public import proofs.«01_k».proof.Proof.Gen.AdamCRefIdeal.Read
public import Idealize.ShloMosaic.Lib.Pipeline.ValueKit
public import Idealize.ShloMosaic.Lib.Claim

@[expose] public section

set_option maxRecDepth 16384

noncomputable section

namespace Cert.AdamCClaim

open Idealize.ShloMosaic Idealize.ShloMosaic.TcCoe Idealize.SL.Sem
open Cert.AdamSpec

abbrev A := AdamSpec.A 128
abbrev Parts := AdamSpec.Parts 128

section Run

open Cert.AdamCIdeal Cert.AdamCIdeal.Gen Idealize.ShloMosaic.Pipeline

variable (m : (ℓ : Loc nD τ sig) → Buf (Elt Ideal) ℓ) (ρ : Dev nD → PrngReg) (c : Dev nD)

/-- Which block of its array each window holds at a point. -/
theorem idx : ∀ t : Fin cfg0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The array row under a block's row. -/
def row (t : Fin cfg0.N) (r : Fin 128) : Fin 128 := ⟨t.val * 128 + r.val, by have := lt_of_lt_of_eq t.isLt N_0; omega⟩
/-- The array's index under a block's. -/
abbrev at_ (t : Fin cfg0.N) (y : S128x1024.Idx) : S128x1024.Idx := ix2 (row t (y 0)) (y 1)

abbrev a0 : A := m ((c : Thread nD τ).loc main_arg0)
abbrev a1 : Parts := m ((c : Thread nD τ).loc main_arg1)
abbrev a2 : A := m ((c : Thread nD τ).loc main_arg2)
abbrev a3 : A := m ((c : Thread nD τ).loc main_arg3)
abbrev a4 : A := m ((c : Thread nD τ).loc main_arg4)

theorem b0 (t : Fin cfg0.N) (y : S128x1024.Idx) : (iblk m c 0 t : FVec Ideal S128x1024 .f32) y = a0 m c (at_ t y) := by
  unfold at_ row
  blk_ext [iblk, idx t]
theorem b1 (t : Fin cfg0.N) (k : Fin 8) (r : Fin 128) (j : Fin 1024) :
    (iblk m c 1 t : FVec Ideal S8x128x1024 .bf16) (ix3 k r j) = a1 m c (ix3 k (row t r) j) := by
  unfold row
  blk_ext [iblk, idx t]
theorem b2 (t : Fin cfg0.N) (y : S128x1024.Idx) : (iblk m c 2 t : FVec Ideal S128x1024 .f32) y = a2 m c (at_ t y) := by
  unfold at_ row
  blk_ext [iblk, idx t]
theorem b3 (t : Fin cfg0.N) (y : S128x1024.Idx) : (iblk m c 3 t : FVec Ideal S128x1024 .f32) y = a3 m c (at_ t y) := by
  unfold at_ row
  blk_ext [iblk, idx t]
theorem b4 (t : Fin cfg0.N) (y : S128x1024.Idx) : (iblk m c 4 t : FVec Ideal S128x1024 .f32) y = a4 m c (at_ t y) := by
  unfold at_ row
  blk_ext [iblk, idx t]

/-- The whole gradient of a block. -/
theorem pay_g (o : FVec Ideal S128x1024 .f32) (p1 p2 p3 p4 p5 p6 p7 : FVec Ideal S1x128x1024 .bf16) (r : Fin 128) (j : Fin 1024) :
    k0_pay4 (F := Ideal) o p1 p2 p3 p4 p5 p6 p7 (ix2 r j) = tot (o (ix2 r j)) ![p1 (ix3 0 r j), p2 (ix3 0 r j), p3 (ix3 0 r j), p4 (ix3 0 r j), p5 (ix3 0 r j), p6 (ix3 0 r j), p7 (ix3 0 r j)] := by
  rw [← tot_eq]
  pointwise [k0_pay4]

theorem g_ix (t : Fin cfg0.N) (r : Fin 128) (j : Fin 1024) :
    k0_pay6 (F := Ideal) (iblk m c 0 t) (iblk m c 1 t) (iblk m c 2 t) (iblk m c 3 t) (iblk m c 4 t) (ix2 r j) = G (a0 m c) (a1 m c) (at_ t (ix2 r j)) := by
  refine (pay_g _ _ _ _ _ _ _ _ r j).trans ?_
  unfold G
  rw [View.ld_unit_lit' (h := by decide), b0]
  refine congrArg (tot _) (funext fun k => ?_)
  match k with
  | 0 => exact (ld_at _ _ _ _ _ 1 rfl).trans (b1 m c t _ _ _)
  | 1 => exact (ld_at _ _ _ _ _ 2 rfl).trans (b1 m c t _ _ _)
  | 2 => exact (ld_at _ _ _ _ _ 3 rfl).trans (b1 m c t _ _ _)
  | 3 => exact (ld_at _ _ _ _ _ 4 rfl).trans (b1 m c t _ _ _)
  | 4 => exact (ld_at _ _ _ _ _ 5 rfl).trans (b1 m c t _ _ _)
  | 5 => exact (ld_at _ _ _ _ _ 6 rfl).trans (b1 m c t _ _ _)
  | 6 => exact (ld_at _ _ _ _ _ 7 rfl).trans (b1 m c t _ _ _)

theorem g_at (t : Fin cfg0.N) (y : S128x1024.Idx) :
    k0_pay6 (F := Ideal) (iblk m c 0 t) (iblk m c 1 t) (iblk m c 2 t) (iblk m c 3 t) (iblk m c 4 t) y = G (a0 m c) (a1 m c) (at_ t y) :=
  (congrArg _ (eq_ix2 y)).trans (g_ix m c t (y 0) (y 1))

/-- The whole gradient. -/
theorem g_out : (dats m 0 c).arrAt 5 cfg0.N = G (a0 m c) (a1 m c) := by
  refine (dats m 0 c).arrAt_eq_of_covers 5 _ (by decide +kernel) fun t hf y => ?_
  blk_simp
  have e : (win0_5.blk t).view.emb y = at_ t y := by
    unfold at_ row
    blk_ext [idx t]
  rw [after0_5, e]
  frame_out
  exact g_at m c t y
/-- The weight's change. -/
theorem d_out : (dats m 0 c).arrAt 6 cfg0.N = D (a0 m c) (a1 m c) (a2 m c) (a3 m c) (a4 m c) := by
  refine (dats m 0 c).arrAt_eq_of_covers 6 _ (by decide +kernel) fun t hf y => ?_
  blk_simp
  have e : (win0_6.blk t).view.emb y = at_ t y := by
    unfold at_ row
    blk_ext [idx t]
  rw [after0_6, e]
  frame_out
  refine (congrFun (ker_delta _ _ _ _) y).trans ?_
  beta_reduce
  unfold D
  rw [g_at, b2, View.ld_unit_lit' (h := by decide), b3, b4]
/-- The first moment, -/
theorem m_out : (dats m 0 c).arrAt 7 cfg0.N = M (a0 m c) (a1 m c) (a3 m c) := by
  refine (dats m 0 c).arrAt_eq_of_covers 7 _ (by decide +kernel) fun t hf y => ?_
  blk_simp
  have e : (win0_7.blk t).view.emb y = at_ t y := by
    unfold at_ row
    blk_ext [idx t]
  rw [after0_7, e]
  frame_out
  refine (congrFun (ker_m _ _) y).trans ?_
  beta_reduce
  unfold AdamSpec.M
  rw [g_at, View.ld_unit_lit' (h := by decide), b3]
/-- and the second. -/
theorem v_out : (dats m 0 c).arrAt 8 cfg0.N = V (a0 m c) (a1 m c) (a4 m c) := by
  refine (dats m 0 c).arrAt_eq_of_covers 8 _ (by decide +kernel) fun t hf y => ?_
  blk_simp
  have e : (win0_8.blk t).view.emb y = at_ t y := by
    unfold at_ row
    blk_ext [idx t]
  rw [after0_8, e]
  frame_out
  refine (congrFun (ker_v _ _) y).trans ?_
  beta_reduce
  unfold AdamSpec.V
  rw [g_at, b4]

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = G (a0 m c) (a1 m c)
    ∧ r.2.mem ((c : Thread nD τ).loc main_v0_1) = D (a0 m c) (a1 m c) (a2 m c) (a3 m c) (a4 m c)
    ∧ r.2.mem ((c : Thread nD τ).loc main_v0_2) = M (a0 m c) (a1 m c) (a3 m c)
    ∧ r.2.mem ((c : Thread nD τ).loc main_v0_3) = V (a0 m c) (a1 m c) (a4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.AdamCIdeal.Value.run_blocks m ρ) (fun r h c => by
    obtain ⟨h0, h1, h2, h3, ha⟩ := h c
    exact ⟨h0.trans (g_out m c), h1.trans (d_out m c), h2.trans (m_out m c), h3.trans (v_out m c), ha⟩)

end Run

section Ref

open Cert.AdamCRefIdeal Cert.AdamCRefIdeal.Gen Cert.AdamCRefIdeal.Read

variable (m : (ℓ : Loc nD τ sig) → Buf (Elt Ideal) ℓ) (ρ : Dev nD → PrngReg) (c : Dev nD)

abbrev r0 : A := m ((c : Thread nD τ).loc main_arg0)
abbrev r1 : Parts := m ((c : Thread nD τ).loc main_arg1)
abbrev r2 : A := m ((c : Thread nD τ).loc main_arg2)
abbrev r3 : A := m ((c : Thread nD τ).loc main_arg3)
abbrev r4 : A := m ((c : Thread nD τ).loc main_arg4)

theorem ref_g (o : A) (p : Parts) : val_main_v3 (F := Ideal) o p = G o p := by
  funext i
  rw [eq_ix2 i]
  pointwise [val_main_v0, val_main_v1, val_main_cst, val_main_v2, val_main_v3, zero_add]
  refine congrArg (_ + ·) (Finset.sum_congr rfl fun k _ => ?_)
  refine congrArg p ?_
  ext a
  match a with
  | 0 => simp [Fin.val_succ, Nat.add_comm]
  | 1 => rfl
  | 2 => rfl

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v3) = G (r0 m c) (r1 m c)
    ∧ r.2.mem ((c : Thread nD τ).loc main_v27) = D (r0 m c) (r1 m c) (r2 m c) (r3 m c) (r4 m c)
    ∧ r.2.mem ((c : Thread nD τ).loc main_v8) = M (r0 m c) (r1 m c) (r3 m c)
    ∧ r.2.mem ((c : Thread nD τ).loc main_v14) = V (r0 m c) (r1 m c) (r4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.AdamCRefIdeal.Value.run m ρ) (fun r h c => by
    obtain ⟨h0, h1, h2, h3, ha⟩ := h c
    have e := (val_main_v3_eq (F := Ideal) (r0 m c) (r1 m c)).trans (ref_g (r0 m c) (r1 m c))
    refine ⟨h0.trans e, (h1.trans (host_delta _ _ _ _ _)).trans ?_, (h2.trans (host_m _ _ _)).trans ?_, (h3.trans (host_v _ _ _)).trans ?_, ha⟩ <;> rw [e] <;> rfl)

end Ref

/-- The program and its reference end with equal results. -/
theorem algebraic : Cert.algebraic_AdamCIdeal_AdamCRefIdeal := by
  pair_intro
  · run_from run_out m g
  · have hX : ∀ c : Dev AdamCRefIdeal.nD, r0 m' c = a0 m c ∧ r1 m' c = a1 m c ∧ r2 m' c = a2 m c ∧ r3 m' c = a3 m c ∧ r4 m' c = a4 m c := by
      intro c
      obtain ⟨h0, h1, h2, h3, h4⟩ := hagree c
      exact ⟨h0, h1, h2, h3, h4⟩
    run_from ref_run m' g' <;> obtain ⟨e0, e1, e2, e3, e4⟩ := hX c <;> simp only [e0, e1, e2, e3, e4]

end Cert.AdamCClaim

end
-- ==== Proof.AdamDClaim.lean ====
/-
  The AdamW update of one device's 80 rows: what the call leaves in its results, and their equality with the reference's.
-/
module

public import proofs.«01_k».proof.Defs
public import proofs.«01_k».proof.Proof.AdamSpec
public import proofs.«01_k».proof.Proof.Gen.AdamDIdeal.Frame
public import proofs.«01_k».proof.Proof.Gen.AdamDIdeal.Value
public import proofs.«01_k».proof.Proof.Gen.AdamDRefIdeal
public import proofs.«01_k».proof.Proof.Gen.AdamDRefIdeal.Run
public import proofs.«01_k».proof.Proof.Gen.AdamDRefIdeal.Read
public import Idealize.ShloMosaic.Lib.Pipeline.ValueKit
public import Idealize.ShloMosaic.Lib.Claim

@[expose] public section

set_option maxRecDepth 16384

noncomputable section

namespace Cert.AdamDClaim

open Idealize.ShloMosaic Idealize.ShloMosaic.TcCoe Idealize.SL.Sem
open Cert.AdamSpec

abbrev A := AdamSpec.A 80
abbrev Parts := AdamSpec.Parts 80

section Run

open Cert.AdamDIdeal Cert.AdamDIdeal.Gen Idealize.ShloMosaic.Pipeline

variable (m : (ℓ : Loc nD τ sig) → Buf (Elt Ideal) ℓ) (ρ : Dev nD → PrngReg) (c : Dev nD)

/-- Which block of its array each window holds at a point. -/
theorem idx : ∀ t : Fin cfg0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The array row under a block's row. -/
def row (t : Fin cfg0.N) (r : Fin 80) : Fin 80 := ⟨t.val * 80 + r.val, by have := lt_of_lt_of_eq t.isLt N_0; omega⟩
/-- The array's index under a block's. -/
abbrev at_ (t : Fin cfg0.N) (y : S80x1024.Idx) : S80x1024.Idx := ix2 (row t (y 0)) (y 1)

abbrev a0 : A := m ((c : Thread nD τ).loc main_arg0)
abbrev a1 : Parts := m ((c : Thread nD τ).loc main_arg1)
abbrev a2 : A := m ((c : Thread nD τ).loc main_arg2)
abbrev a3 : A := m ((c : Thread nD τ).loc main_arg3)
abbrev a4 : A := m ((c : Thread nD τ).loc main_arg4)

theorem b0 (t : Fin cfg0.N) (y : S80x1024.Idx) : (iblk m c 0 t : FVec Ideal S80x1024 .f32) y = a0 m c (at_ t y) := by
  unfold at_ row
  blk_ext [iblk, idx t]
theorem b1 (t : Fin cfg0.N) (k : Fin 8) (r : Fin 80) (j : Fin 1024) :
    (iblk m c 1 t : FVec Ideal S8x80x1024 .bf16) (ix3 k r j) = a1 m c (ix3 k (row t r) j) := by
  unfold row
  blk_ext [iblk, idx t]
theorem b2 (t : Fin cfg0.N) (y : S80x1024.Idx) : (iblk m c 2 t : FVec Ideal S80x1024 .f32) y = a2 m c (at_ t y) := by
  unfold at_ row
  blk_ext [iblk, idx t]
theorem b3 (t : Fin cfg0.N) (y : S80x1024.Idx) : (iblk m c 3 t : FVec Ideal S80x1024 .f32) y = a3 m c (at_ t y) := by
  unfold at_ row
  blk_ext [iblk, idx t]
theorem b4 (t : Fin cfg0.N) (y : S80x1024.Idx) : (iblk m c 4 t : FVec Ideal S80x1024 .f32) y = a4 m c (at_ t y) := by
  unfold at_ row
  blk_ext [iblk, idx t]

/-- The whole gradient of a block. -/
theorem pay_g (o : FVec Ideal S80x1024 .f32) (p1 p2 p3 p4 p5 p6 p7 : FVec Ideal S1x80x1024 .bf16) (r : Fin 80) (j : Fin 1024) :
    k0_pay4 (F := Ideal) o p1 p2 p3 p4 p5 p6 p7 (ix2 r j) = tot (o (ix2 r j)) ![p1 (ix3 0 r j), p2 (ix3 0 r j), p3 (ix3 0 r j), p4 (ix3 0 r j), p5 (ix3 0 r j), p6 (ix3 0 r j), p7 (ix3 0 r j)] := by
  rw [← tot_eq]
  pointwise [k0_pay4]

theorem g_ix (t : Fin cfg0.N) (r : Fin 80) (j : Fin 1024) :
    k0_pay6 (F := Ideal) (iblk m c 0 t) (iblk m c 1 t) (iblk m c 2 t) (iblk m c 3 t) (iblk m c 4 t) (ix2 r j) = G (a0 m c) (a1 m c) (at_ t (ix2 r j)) := by
  refine (pay_g _ _ _ _ _ _ _ _ r j).trans ?_
  unfold G
  rw [View.ld_unit_lit' (h := by decide), b0]
  refine congrArg (tot _) (funext fun k => ?_)
  match k with
  | 0 => exact (ld_at _ _ _ _ _ 1 rfl).trans (b1 m c t _ _ _)
  | 1 => exact (ld_at _ _ _ _ _ 2 rfl).trans (b1 m c t _ _ _)
  | 2 => exact (ld_at _ _ _ _ _ 3 rfl).trans (b1 m c t _ _ _)
  | 3 => exact (ld_at _ _ _ _ _ 4 rfl).trans (b1 m c t _ _ _)
  | 4 => exact (ld_at _ _ _ _ _ 5 rfl).trans (b1 m c t _ _ _)
  | 5 => exact (ld_at _ _ _ _ _ 6 rfl).trans (b1 m c t _ _ _)
  | 6 => exact (ld_at _ _ _ _ _ 7 rfl).trans (b1 m c t _ _ _)

theorem g_at (t : Fin cfg0.N) (y : S80x1024.Idx) :
    k0_pay6 (F := Ideal) (iblk m c 0 t) (iblk m c 1 t) (iblk m c 2 t) (iblk m c 3 t) (iblk m c 4 t) y = G (a0 m c) (a1 m c) (at_ t y) :=
  (congrArg _ (eq_ix2 y)).trans (g_ix m c t (y 0) (y 1))

/-- The whole gradient. -/
theorem g_out : (dats m 0 c).arrAt 5 cfg0.N = G (a0 m c) (a1 m c) := by
  refine (dats m 0 c).arrAt_eq_of_covers 5 _ (by decide +kernel) fun t hf y => ?_
  blk_simp
  have e : (win0_5.blk t).view.emb y = at_ t y := by
    unfold at_ row
    blk_ext [idx t]
  rw [after0_5, e]
  frame_out
  exact g_at m c t y
/-- The weight's change. -/
theorem d_out : (dats m 0 c).arrAt 6 cfg0.N = D (a0 m c) (a1 m c) (a2 m c) (a3 m c) (a4 m c) := by
  refine (dats m 0 c).arrAt_eq_of_covers 6 _ (by decide +kernel) fun t hf y => ?_
  blk_simp
  have e : (win0_6.blk t).view.emb y = at_ t y := by
    unfold at_ row
    blk_ext [idx t]
  rw [after0_6, e]
  frame_out
  refine (congrFun (ker_delta _ _ _ _) y).trans ?_
  beta_reduce
  unfold D
  rw [g_at, b2, View.ld_unit_lit' (h := by decide), b3, b4]
/-- The first moment, -/
theorem m_out : (dats m 0 c).arrAt 7 cfg0.N = M (a0 m c) (a1 m c) (a3 m c) := by
  refine (dats m 0 c).arrAt_eq_of_covers 7 _ (by decide +kernel) fun t hf y => ?_
  blk_simp
  have e : (win0_7.blk t).view.emb y = at_ t y := by
    unfold at_ row
    blk_ext [idx t]
  rw [after0_7, e]
  frame_out
  refine (congrFun (ker_m _ _) y).trans ?_
  beta_reduce
  unfold AdamSpec.M
  rw [g_at, View.ld_unit_lit' (h := by decide), b3]
/-- and the second. -/
theorem v_out : (dats m 0 c).arrAt 8 cfg0.N = V (a0 m c) (a1 m c) (a4 m c) := by
  refine (dats m 0 c).arrAt_eq_of_covers 8 _ (by decide +kernel) fun t hf y => ?_
  blk_simp
  have e : (win0_8.blk t).view.emb y = at_ t y := by
    unfold at_ row
    blk_ext [idx t]
  rw [after0_8, e]
  frame_out
  refine (congrFun (ker_v _ _) y).trans ?_
  beta_reduce
  unfold AdamSpec.V
  rw [g_at, b4]

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = G (a0 m c) (a1 m c)
    ∧ r.2.mem ((c : Thread nD τ).loc main_v0_1) = D (a0 m c) (a1 m c) (a2 m c) (a3 m c) (a4 m c)
    ∧ r.2.mem ((c : Thread nD τ).loc main_v0_2) = M (a0 m c) (a1 m c) (a3 m c)
    ∧ r.2.mem ((c : Thread nD τ).loc main_v0_3) = V (a0 m c) (a1 m c) (a4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.AdamDIdeal.Value.run_blocks m ρ) (fun r h c => by
    obtain ⟨h0, h1, h2, h3, ha⟩ := h c
    exact ⟨h0.trans (g_out m c), h1.trans (d_out m c), h2.trans (m_out m c), h3.trans (v_out m c), ha⟩)

end Run

section Ref

open Cert.AdamDRefIdeal Cert.AdamDRefIdeal.Gen Cert.AdamDRefIdeal.Read

variable (m : (ℓ : Loc nD τ sig) → Buf (Elt Ideal) ℓ) (ρ : Dev nD → PrngReg) (c : Dev nD)

abbrev r0 : A := m ((c : Thread nD τ).loc main_arg0)
abbrev r1 : Parts := m ((c : Thread nD τ).loc main_arg1)
abbrev r2 : A := m ((c : Thread nD τ).loc main_arg2)
abbrev r3 : A := m ((c : Thread nD τ).loc main_arg3)
abbrev r4 : A := m ((c : Thread nD τ).loc main_arg4)

theorem ref_g (o : A) (p : Parts) : val_main_v3 (F := Ideal) o p = G o p := by
  funext i
  rw [eq_ix2 i]
  pointwise [val_main_v0, val_main_v1, val_main_cst, val_main_v2, val_main_v3, zero_add]
  refine congrArg (_ + ·) (Finset.sum_congr rfl fun k _ => ?_)
  refine congrArg p ?_
  ext a
  match a with
  | 0 => simp [Fin.val_succ, Nat.add_comm]
  | 1 => rfl
  | 2 => rfl

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v3) = G (r0 m c) (r1 m c)
    ∧ r.2.mem ((c : Thread nD τ).loc main_v27) = D (r0 m c) (r1 m c) (r2 m c) (r3 m c) (r4 m c)
    ∧ r.2.mem ((c : Thread nD τ).loc main_v8) = M (r0 m c) (r1 m c) (r3 m c)
    ∧ r.2.mem ((c : Thread nD τ).loc main_v14) = V (r0 m c) (r1 m c) (r4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  θ_run_mono (Cert.AdamDRefIdeal.Value.run m ρ) (fun r h c => by
    obtain ⟨h0, h1, h2, h3, ha⟩ := h c
    have e := (val_main_v3_eq (F := Ideal) (r0 m c) (r1 m c)).trans (ref_g (r0 m c) (r1 m c))
    refine ⟨h0.trans e, (h1.trans (host_delta _ _ _ _ _)).trans ?_, (h2.trans (host_m _ _ _)).trans ?_, (h3.trans (host_v _ _ _)).trans ?_, ha⟩ <;> rw [e] <;> rfl)

end Ref

/-- The program and its reference end with equal results. -/
theorem algebraic : Cert.algebraic_AdamDIdeal_AdamDRefIdeal := by
  pair_intro
  · run_from run_out m g
  · have hX : ∀ c : Dev AdamDRefIdeal.nD, r0 m' c = a0 m c ∧ r1 m' c = a1 m c ∧ r2 m' c = a2 m c ∧ r3 m' c = a3 m c ∧ r4 m' c = a4 m c := by
      intro c
      obtain ⟨h0, h1, h2, h3, h4⟩ := hagree c
      exact ⟨h0, h1, h2, h3, h4⟩
    run_from ref_run m' g' <;> obtain ⟨e0, e1, e2, e3, e4⟩ := hX c <;> simp only [e0, e1, e2, e3, e4]

end Cert.AdamDClaim

end
-- ==== Proof.SmallSpec.lean ====
/-
  The AdamW update of the replicated weights: the sum of the eight devices' stacked gradients, as the kernel adds it and as
  the reference does, and the update of one weight whose gradient is a run of rows of that sum.
-/
module

public import proofs.«01_k».proof.Proof.AdamSpec

@[expose] public section

noncomputable section

namespace Cert.SmallSpec

open Idealize.ShloMosaic Cert.Spec Cert.AdamSpec

/-- The rows of one device, -/
abbrev Rows (r n : ℕ) := FVec Ideal ⟨2, ![r, n]⟩ .f32

variable {R r n : ℕ} (hR : R = 8 * r)

/-- the row that device `k`'s row `i` has in the stack, -/
def at_ (k : Fin 8) (i : Fin r) : Fin R := ⟨k.val * r + i.val, by
  have h : (k.val + 1) * r ≤ 8 * r := Nat.mul_le_mul_right r k.isLt
  have := i.isLt
  rw [Nat.add_mul, one_mul] at h
  omega⟩

/-- and the sum over the devices. -/
def total (x : Rows R n) : Rows r n := fun i => ∑ k : Fin 8, x (ix2 (at_ hR k (i 0)) (i 1))

/-- One device's rows, read at an index. -/
theorem ld_at (x : Rows R n) (k : Fin 8) (o : ℕ) (ho : o = k.val * r) (inb : ∀ a, (![o, 0] : Fin 2 → Nat) a + (![r, n] : Fin 2 → Nat) a ≤ (⟨2, ![R, n]⟩ : Shape).size a) (i : (⟨2, ![r, n]⟩ : Shape).Idx) :
    (View.ld (Val := Elt Ideal) (S := ⟨2, ![R, n]⟩) (e' := .f32) x (Rect.unit ![o, 0] ![r, n] inb) : Rows r n) i = x (ix2 (at_ hR k (i 0)) (i 1)) := by
  refine View.ld_unit_apply_of (Val := Elt Ideal) (e := .f32) _ _ _ _ _ _ ?_
  intro a
  match a with
  | 0 => exact congrArg (· + (i 0).val) ho.symm
  | 1 => exact (Nat.zero_add _).symm

/-- The kernel adds the eight devices' rows one after another. -/
theorem ker_total (x : Rows R n) {o₀ o₁ o₂ o₃ o₄ o₅ o₆ o₇ : ℕ}
    (h₀ : o₀ = 0 * r) (h₁ : o₁ = 1 * r) (h₂ : o₂ = 2 * r) (h₃ : o₃ = 3 * r) (h₄ : o₄ = 4 * r) (h₅ : o₅ = 5 * r) (h₆ : o₆ = 6 * r) (h₇ : o₇ = 7 * r)
    (b₀ : ∀ a, (![o₀, 0] : Fin 2 → Nat) a + (![r, n] : Fin 2 → Nat) a ≤ (⟨2, ![R, n]⟩ : Shape).size a)
    (b₁ : ∀ a, (![o₁, 0] : Fin 2 → Nat) a + (![r, n] : Fin 2 → Nat) a ≤ (⟨2, ![R, n]⟩ : Shape).size a)
    (b₂ : ∀ a, (![o₂, 0] : Fin 2 → Nat) a + (![r, n] : Fin 2 → Nat) a ≤ (⟨2, ![R, n]⟩ : Shape).size a)
    (b₃ : ∀ a, (![o₃, 0] : Fin 2 → Nat) a + (![r, n] : Fin 2 → Nat) a ≤ (⟨2, ![R, n]⟩ : Shape).size a)
    (b₄ : ∀ a, (![o₄, 0] : Fin 2 → Nat) a + (![r, n] : Fin 2 → Nat) a ≤ (⟨2, ![R, n]⟩ : Shape).size a)
    (b₅ : ∀ a, (![o₅, 0] : Fin 2 → Nat) a + (![r, n] : Fin 2 → Nat) a ≤ (⟨2, ![R, n]⟩ : Shape).size a)
    (b₆ : ∀ a, (![o₆, 0] : Fin 2 → Nat) a + (![r, n] : Fin 2 → Nat) a ≤ (⟨2, ![R, n]⟩ : Shape).size a)
    (b₇ : ∀ a, (![o₇, 0] : Fin 2 → Nat) a + (![r, n] : Fin 2 → Nat) a ≤ (⟨2, ![R, n]⟩ : Shape).size a) :
    addf (addf (addf (addf (addf (addf (addf
        (View.ld (Val := Elt Ideal) (S := ⟨2, ![R, n]⟩) (e' := .f32) x (Rect.unit ![o₀, 0] ![r, n] b₀) : Rows r n)
        (View.ld (Val := Elt Ideal) (S := ⟨2, ![R, n]⟩) (e' := .f32) x (Rect.unit ![o₁, 0] ![r, n] b₁) : Rows r n))
        (View.ld (Val := Elt Ideal) (S := ⟨2, ![R, n]⟩) (e' := .f32) x (Rect.unit ![o₂, 0] ![r, n] b₂) : Rows r n))
        (View.ld (Val := Elt Ideal) (S := ⟨2, ![R, n]⟩) (e' := .f32) x (Rect.unit ![o₃, 0] ![r, n] b₃) : Rows r n))
        (View.ld (Val := Elt Ideal) (S := ⟨2, ![R, n]⟩) (e' := .f32) x (Rect.unit ![o₄, 0] ![r, n] b₄) : Rows r n))
        (View.ld (Val := Elt Ideal) (S := ⟨2, ![R, n]⟩) (e' := .f32) x (Rect.unit ![o₅, 0] ![r, n] b₅) : Rows r n))
        (View.ld (Val := Elt Ideal) (S := ⟨2, ![R, n]⟩) (e' := .f32) x (Rect.unit ![o₆, 0] ![r, n] b₆) : Rows r n))
        (View.ld (Val := Elt Ideal) (S := ⟨2, ![R, n]⟩) (e' := .f32) x (Rect.unit ![o₇, 0] ![r, n] b₇) : Rows r n)
      = total hR x := by
  funext i
  show ((((((_ + _) + _) + _) + _) + _) + _) + _ = _
  rw [ld_at hR x 0 o₀ h₀, ld_at hR x 1 o₁ h₁, ld_at hR x 2 o₂ h₂, ld_at hR x 3 o₃ h₃, ld_at hR x 4 o₄ h₄, ld_at hR x 5 o₅ h₅, ld_at hR x 6 o₆ h₆, ld_at hR x 7 o₇ h₇]
  unfold total
  simp only [Fin.sum_univ_succ, Fin.sum_univ_zero, add_zero, ← add_assoc]
  rfl

/-- The reference sums over the first axis of the stack in three axes. -/
theorem host_total (x : Rows R n) (h : (⟨2, ![R, n]⟩ : Shape).ShapeCasts ⟨3, ![8, r, n]⟩) (h' : (⟨3, ![8, r, n]⟩ : Shape).ReducesTo [0] ⟨2, ![r, n]⟩)
    (h'' : (⟨3, ![8, r, n]⟩ : Shape).Reduces [0] ⟨2, ![r, n]⟩) (h0 : 0 < S0.numel) :
    Host.reduceAdd (F := Ideal) (shapeCast ⟨3, ![8, r, n]⟩ x h : FVec Ideal ⟨3, ![8, r, n]⟩ .f32) (Idealize.ShloMosaic.constant (F := Ideal) S0 .f32 0x00000000#32) h' h0 = total hR x := by
  funext i
  simp only [Host.reduceAdd, Ideal.hostReduceAdd_def]
  rw [Ideal.hostReduceAdd_single h' h'']
  unfold total
  refine (congrArg (· + _) ?_).trans ((zero_add _).trans (Finset.sum_congr rfl fun k _ => ?_))
  · pointwise
  · refine shapeCast_apply x h _ _ ?_
    rewrite [Shape.rowMajor_val_two, Shape.rowMajor_val_three]
    rfl

/-- The weight's change, given its gradient, -/
abbrev updD {S : Shape} (g w m v : FVec Ideal S .f32) : FVec Ideal S .f32 := fun i => delta (g i) (w i) (m i) (v i)
/-- the first moment after the step -/
abbrev updM {S : Shape} (g m : FVec Ideal S .f32) : FVec Ideal S .f32 := fun i => newM (g i) (m i)
/-- and the second. -/
abbrev updV {S : Shape} (g v : FVec Ideal S .f32) : FVec Ideal S .f32 := fun i => newV (g i) (v i)

end Cert.SmallSpec

end
-- ==== Proof.SmallAClaim.lean ====
/-
  The AdamW update of `s5_b_re`, `s5_b_im` and `norm_mix`: the kernel's results and the reference's are the same functions of the stacked
  gradients, the weights and the moments.
-/
module

public import proofs.«01_k».proof.Defs
public import proofs.«01_k».proof.Proof.SmallSpec
public import proofs.«01_k».proof.Proof.Gen.SmallAIdeal.Frame
public import proofs.«01_k».proof.Proof.Gen.SmallAIdeal.Value
public import proofs.«01_k».proof.Proof.Gen.SmallARefIdeal
public import proofs.«01_k».proof.Proof.Gen.SmallARefIdeal.Run
public import Idealize.ShloMosaic.Lib.Claim

@[expose] public section

set_option maxRecDepth 16384

noncomputable section

namespace Cert.SmallAClaim

open Idealize.ShloMosaic Idealize.ShloMosaic.TcCoe Idealize.SL.Sem
open Cert.AdamSpec Cert.SmallSpec

/-- The gradient of `s5_b_re`: its rows of the sum. -/
abbrev g0 (x : Rows 576 1024) : Rows 32 1024 := extractStridedSlice SmallAIdeal.S32x1024 ![0, 0] (total (r := 72) rfl x) SmallAIdeal.Gen.facts.slices_S72x1024_o0_0_S32x1024
/-- The gradient of `s5_b_im`: its rows of the sum. -/
abbrev g1 (x : Rows 576 1024) : Rows 32 1024 := extractStridedSlice SmallAIdeal.S32x1024 ![32, 0] (total (r := 72) rfl x) SmallAIdeal.Gen.facts.slices_S72x1024_o32_0_S32x1024
/-- The gradient of `norm_mix`: its rows of the sum. -/
abbrev g2 (x : Rows 576 1024) : Rows 1 1024 := extractStridedSlice SmallAIdeal.S1x1024 ![64, 0] (total (r := 72) rfl x) SmallAIdeal.Gen.facts.slices_S72x1024_o64_0_S1x1024

section Run

open Cert.SmallAIdeal Cert.SmallAIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v0_2) = updM (g0 (m ((c : Thread nD τ).loc main_arg0))) (m ((c : Thread nD τ).loc main_arg4))
    ∧ r.2.mem ((c : Thread nD τ).loc main_v0_3) = updV (g0 (m ((c : Thread nD τ).loc main_arg0))) (m ((c : Thread nD τ).loc main_arg7))
    ∧ r.2.mem ((c : Thread nD τ).loc main_v0_4) = g1 (m ((c : Thread nD τ).loc main_arg0))
    ∧ r.2.mem ((c : Thread nD τ).loc main_v0_5) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v0_6) = updM (g1 (m ((c : Thread nD τ).loc main_arg0))) (m ((c : Thread nD τ).loc main_arg5))
    ∧ r.2.mem ((c : Thread nD τ).loc main_v0_7) = updV (g1 (m ((c : Thread nD τ).loc main_arg0))) (m ((c : Thread nD τ).loc main_arg8))
    ∧ r.2.mem ((c : Thread nD τ).loc main_v0_8) = g2 (m ((c : Thread nD τ).loc main_arg0))
    ∧ r.2.mem ((c : Thread nD τ).loc main_v0_9) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v0_10) = updM (g2 (m ((c : Thread nD τ).loc main_arg0))) (m ((c : Thread nD τ).loc main_arg6))
    ∧ r.2.mem ((c : Thread nD τ).loc main_v0_11) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallAIdeal.Value.run m ρ) (fun r h c => by
    obtain ⟨h0, h1, h2, h3, h4, h5, h6, h7, h8, h9, h10, h11, ha⟩ := h c
    have e := ker_total (r := 72) rfl (m ((c : Thread nD τ).loc main_arg0)) rfl rfl rfl rfl rfl rfl rfl rfl
      inb_S576x1024_S72x1024_0_0 inb_S576x1024_S72x1024_72_0 inb_S576x1024_S72x1024_144_0 inb_S576x1024_S72x1024_216_0 inb_S576x1024_S72x1024_288_0 inb_S576x1024_S72x1024_360_0 inb_S576x1024_S72x1024_432_0 inb_S576x1024_S72x1024_504_0
    have e0 := congrArg (fun t : Rows 72 1024 => extractStridedSlice S32x1024 ![0, 0] t slices_S72x1024_o0_0_S32x1024) e
    have e1 := congrArg (fun t : Rows 72 1024 => extractStridedSlice S32x1024 ![32, 0] t slices_S72x1024_o32_0_S32x1024) e
    have e2 := congrArg (fun t : Rows 72 1024 => extractStridedSlice S1x1024 ![64, 0] t slices_S72x1024_o64_0_S1x1024) e
    exact ⟨h0.trans e0, h1.trans ((ker_delta _ _ _ _).trans (congrArg (updD · _ _ _) e0)), h2.trans ((ker_m _ _).trans (congrArg (updM · _) e0)), h3.trans ((ker_v _ _).trans (congrArg (updV · _) e0)),
      h4.trans e1, h5.trans ((ker_delta _ _ _ _).trans (congrArg (updD · _ _ _) e1)), h6.trans ((ker_m _ _).trans (congrArg (updM · _) e1)), h7.trans ((ker_v _ _).trans (congrArg (updV · _) e1)),
      h8.trans e2, h9.trans ((ker_delta _ _ _ _).trans (congrArg (updD · _ _ _) e2)), h10.trans ((ker_m _ _).trans (congrArg (updM · _) e2)), h11.trans ((ker_v _ _).trans (congrArg (updV · _) e2)), ha⟩)

end Run

section Ref

open Cert.SmallARefIdeal Cert.SmallARefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v7) = updM (g0 (m ((c : Thread nD τ).loc main_arg0))) (m ((c : Thread nD τ).loc main_arg4))
    ∧ r.2.mem ((c : Thread nD τ).loc main_v13) = updV (g0 (m ((c : Thread nD τ).loc main_arg0))) (m ((c : Thread nD τ).loc main_arg7))
    ∧ r.2.mem ((c : Thread nD τ).loc main_v27) = g1 (m ((c : Thread nD τ).loc main_arg0))
    ∧ r.2.mem ((c : Thread nD τ).loc main_v51) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v32) = updM (g1 (m ((c : Thread nD τ).loc main_arg0))) (m ((c : Thread nD τ).loc main_arg5))
    ∧ r.2.mem ((c : Thread nD τ).loc main_v38) = updV (g1 (m ((c : Thread nD τ).loc main_arg0))) (m ((c : Thread nD τ).loc main_arg8))
    ∧ r.2.mem ((c : Thread nD τ).loc main_v52) = g2 (m ((c : Thread nD τ).loc main_arg0))
    ∧ r.2.mem ((c : Thread nD τ).loc main_v76) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v57) = updM (g2 (m ((c : Thread nD τ).loc main_arg0))) (m ((c : Thread nD τ).loc main_arg6))
    ∧ r.2.mem ((c : Thread nD τ).loc main_v63) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallARefIdeal.Value.run m ρ) (fun r h c => by
    obtain ⟨h0, h1, h2, h3, h4, h5, h6, h7, h8, h9, h10, h11, ha⟩ := h c
    have e := host_total (r := 72) rfl (m ((c : Thread nD τ).loc main_arg0)) shapeCasts_S576x1024_S8x72x1024 reducesTo_S8x72x1024_S72x1024_d0 (by decide) h_S_
    have e0 := congrArg (fun t : Rows 72 1024 => extractStridedSlice S32x1024 ![0, 0] t slices_S72x1024_S32x1024_0_0) e
    have e1 := congrArg (fun t : Rows 72 1024 => extractStridedSlice S32x1024 ![32, 0] t slices_S72x1024_S32x1024_32_0) e
    have e2 := congrArg (fun t : Rows 72 1024 => extractStridedSlice S1x1024 ![64, 0] t slices_S72x1024_S1x1024_64_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)),
      h4.trans e1, h5.trans ((host_delta _ _ _ _ _).trans (congrArg (updD · _ _ _) e1)), h6.trans ((host_m _ _ _).trans (congrArg (updM · _) e1)), h7.trans ((host_v _ _ _).trans (congrArg (updV · _) e1)),
      h8.trans e2, h9.trans ((host_delta _ _ _ _ _).trans (congrArg (updD · _ _ _) e2)), h10.trans ((host_m _ _ _).trans (congrArg (updM · _) e2)), h11.trans ((host_v _ _ _).trans (congrArg (updV · _) e2)), ha⟩)

end Ref

/-- The program and its reference end with equal results. -/
theorem algebraic : Cert.algebraic_SmallAIdeal_SmallARefIdeal := by
  pair_intro
  · run_from run_out m g
  · have hX := hagree
    run_from ref_run m' g' <;> obtain ⟨e0, e1, e2, e3, e4, e5, e6, e7, e8, e9⟩ := hX c <;> simp only [e0, e1, e2, e3, e4, e5, e6, e7, e8, e9]

end Cert.SmallAClaim

end
-- ==== Proof.SmallBClaim.lean ====
/-
  The AdamW update of `norm_ffn`, `norm_ple` and `final_norm`: the kernel's results and the reference's are the same functions of the stacked
  gradients, the weights and the moments.
-/
module

public import proofs.«01_k».proof.Defs
public import proofs.«01_k».proof.Proof.SmallSpec
public import proofs.«01_k».proof.Proof.Gen.SmallBIdeal.Frame
public import proofs.«01_k».proof.Proof.Gen.SmallBIdeal.Value
public import proofs.«01_k».proof.Proof.Gen.SmallBRefIdeal
public import proofs.«01_k».proof.Proof.Gen.SmallBRefIdeal.Run
public import Idealize.ShloMosaic.Lib.Claim

@[expose] public section

set_option maxRecDepth 16384

noncomputable section

namespace Cert.SmallBClaim

open Idealize.ShloMosaic Idealize.ShloMosaic.TcCoe Idealize.SL.Sem
open Cert.AdamSpec Cert.SmallSpec

/-- The gradient of `norm_ffn`: its rows of the sum. -/
abbrev g0 (x : Rows 576 1024) : Rows 1 1024 := extractStridedSlice SmallBIdeal.S1x1024 ![65, 0] (total (r := 72) rfl x) SmallBIdeal.Gen.facts.slices_S72x1024_o65_0_S1x1024
/-- The gradient of `norm_ple`: its rows of the sum. -/
abbrev g1 (x : Rows 576 1024) : Rows 1 1024 := extractStridedSlice SmallBIdeal.S1x1024 ![66, 0] (total (r := 72) rfl x) SmallBIdeal.Gen.facts.slices_S72x1024_o66_0_S1x1024
/-- The gradient of `final_norm`: its rows of the sum. -/
abbrev g2 (x : Rows 576 1024) : Rows 1 1024 := extractStridedSlice SmallBIdeal.S1x1024 ![67, 0] (total (r := 72) rfl x) SmallBIdeal.Gen.facts.slices_S72x1024_o67_0_S1x1024

section Run

open Cert.SmallBIdeal Cert.SmallBIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v0_2) = updM (g0 (m ((c : Thread nD τ).loc main_arg0))) (m ((c : Thread nD τ).loc main_arg4))
    ∧ r.2.mem ((c : Thread nD τ).loc main_v0_3) = updV (g0 (m ((c : Thread nD τ).loc main_arg0))) (m ((c : Thread nD τ).loc main_arg7))
    ∧ r.2.mem ((c : Thread nD τ).loc main_v0_4) = g1 (m ((c : Thread nD τ).loc main_arg0))
    ∧ r.2.mem ((c : Thread nD τ).loc main_v0_5) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v0_6) = updM (g1 (m ((c : Thread nD τ).loc main_arg0))) (m ((c : Thread nD τ).loc main_arg5))
    ∧ r.2.mem ((c : Thread nD τ).loc main_v0_7) = updV (g1 (m ((c : Thread nD τ).loc main_arg0))) (m ((c : Thread nD τ).loc main_arg8))
    ∧ r.2.mem ((c : Thread nD τ).loc main_v0_8) = g2 (m ((c : Thread nD τ).loc main_arg0))
    ∧ r.2.mem ((c : Thread nD τ).loc main_v0_9) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v0_10) = updM (g2 (m ((c : Thread nD τ).loc main_arg0))) (m ((c : Thread nD τ).loc main_arg6))
    ∧ r.2.mem ((c : Thread nD τ).loc main_v0_11) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallBIdeal.Value.run m ρ) (fun r h c => by
    obtain ⟨h0, h1, h2, h3, h4, h5, h6, h7, h8, h9, h10, h11, ha⟩ := h c
    have e := ker_total (r := 72) rfl (m ((c : Thread nD τ).loc main_arg0)) rfl rfl rfl rfl rfl rfl rfl rfl
      inb_S576x1024_S72x1024_0_0 inb_S576x1024_S72x1024_72_0 inb_S576x1024_S72x1024_144_0 inb_S576x1024_S72x1024_216_0 inb_S576x1024_S72x1024_288_0 inb_S576x1024_S72x1024_360_0 inb_S576x1024_S72x1024_432_0 inb_S576x1024_S72x1024_504_0
    have e0 := congrArg (fun t : Rows 72 1024 => extractStridedSlice S1x1024 ![65, 0] t slices_S72x1024_o65_0_S1x1024) e
    have e1 := congrArg (fun t : Rows 72 1024 => extractStridedSlice S1x1024 ![66, 0] t slices_S72x1024_o66_0_S1x1024) e
    have e2 := congrArg (fun t : Rows 72 1024 => extractStridedSlice S1x1024 ![67, 0] t slices_S72x1024_o67_0_S1x1024) e
    exact ⟨h0.trans e0, h1.trans ((ker_delta _ _ _ _).trans (congrArg (updD · _ _ _) e0)), h2.trans ((ker_m _ _).trans (congrArg (updM · _) e0)), h3.trans ((ker_v _ _).trans (congrArg (updV · _) e0)),
      h4.trans e1, h5.trans ((ker_delta _ _ _ _).trans (congrArg (updD · _ _ _) e1)), h6.trans ((ker_m _ _).trans (congrArg (updM · _) e1)), h7.trans ((ker_v _ _).trans (congrArg (updV · _) e1)),
      h8.trans e2, h9.trans ((ker_delta _ _ _ _).trans (congrArg (updD · _ _ _) e2)), h10.trans ((ker_m _ _).trans (congrArg (updM · _) e2)), h11.trans ((ker_v _ _).trans (congrArg (updV · _) e2)), ha⟩)

end Run

section Ref

open Cert.SmallBRefIdeal Cert.SmallBRefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v7) = updM (g0 (m ((c : Thread nD τ).loc main_arg0))) (m ((c : Thread nD τ).loc main_arg4))
    ∧ r.2.mem ((c : Thread nD τ).loc main_v13) = updV (g0 (m ((c : Thread nD τ).loc main_arg0))) (m ((c : Thread nD τ).loc main_arg7))
    ∧ r.2.mem ((c : Thread nD τ).loc main_v27) = g1 (m ((c : Thread nD τ).loc main_arg0))
    ∧ r.2.mem ((c : Thread nD τ).loc main_v51) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v32) = updM (g1 (m ((c : Thread nD τ).loc main_arg0))) (m ((c : Thread nD τ).loc main_arg5))
    ∧ r.2.mem ((c : Thread nD τ).loc main_v38) = updV (g1 (m ((c : Thread nD τ).loc main_arg0))) (m ((c : Thread nD τ).loc main_arg8))
    ∧ r.2.mem ((c : Thread nD τ).loc main_v52) = g2 (m ((c : Thread nD τ).loc main_arg0))
    ∧ r.2.mem ((c : Thread nD τ).loc main_v76) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v57) = updM (g2 (m ((c : Thread nD τ).loc main_arg0))) (m ((c : Thread nD τ).loc main_arg6))
    ∧ r.2.mem ((c : Thread nD τ).loc main_v63) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallBRefIdeal.Value.run m ρ) (fun r h c => by
    obtain ⟨h0, h1, h2, h3, h4, h5, h6, h7, h8, h9, h10, h11, ha⟩ := h c
    have e := host_total (r := 72) rfl (m ((c : Thread nD τ).loc main_arg0)) shapeCasts_S576x1024_S8x72x1024 reducesTo_S8x72x1024_S72x1024_d0 (by decide) h_S_
    have e0 := congrArg (fun t : Rows 72 1024 => extractStridedSlice S1x1024 ![65, 0] t slices_S72x1024_S1x1024_65_0) e
    have e1 := congrArg (fun t : Rows 72 1024 => extractStridedSlice S1x1024 ![66, 0] t slices_S72x1024_S1x1024_66_0) e
    have e2 := congrArg (fun t : Rows 72 1024 => extractStridedSlice S1x1024 ![67, 0] t slices_S72x1024_S1x1024_67_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)),
      h4.trans e1, h5.trans ((host_delta _ _ _ _ _).trans (congrArg (updD · _ _ _) e1)), h6.trans ((host_m _ _ _).trans (congrArg (updM · _) e1)), h7.trans ((host_v _ _ _).trans (congrArg (updV · _) e1)),
      h8.trans e2, h9.trans ((host_delta _ _ _ _ _).trans (congrArg (updD · _ _ _) e2)), h10.trans ((host_m _ _ _).trans (congrArg (updM · _) e2)), h11.trans ((host_v _ _ _).trans (congrArg (updV · _) e2)), ha⟩)

end Ref

/-- The program and its reference end with equal results. -/
theorem algebraic : Cert.algebraic_SmallBIdeal_SmallBRefIdeal := by
  pair_intro
  · run_from run_out m g
  · have hX := hagree
    run_from ref_run m' g' <;> obtain ⟨e0, e1, e2, e3, e4, e5, e6, e7, e8, e9⟩ := hX c <;> simp only [e0, e1, e2, e3, e4, e5, e6, e7, e8, e9]

end Cert.SmallBClaim

end
-- ==== Proof.SmallCClaim.lean ====
/-
  The AdamW update of `s5_d`, `s5_glu_b` and `rw_w0`: the kernel's results and the reference's are the same functions of the stacked
  gradients, the weights and the moments.
-/
module

public import proofs.«01_k».proof.Defs
public import proofs.«01_k».proof.Proof.SmallSpec
public import proofs.«01_k».proof.Proof.Gen.SmallCIdeal.Frame
public import proofs.«01_k».proof.Proof.Gen.SmallCIdeal.Value
public import proofs.«01_k».proof.Proof.Gen.SmallCRefIdeal
public import proofs.«01_k».proof.Proof.Gen.SmallCRefIdeal.Run
public import Idealize.ShloMosaic.Lib.Claim

@[expose] public section

set_option maxRecDepth 16384

noncomputable section

namespace Cert.SmallCClaim

open Idealize.ShloMosaic Idealize.ShloMosaic.TcCoe Idealize.SL.Sem
open Cert.AdamSpec Cert.SmallSpec

/-- The gradient of `s5_d`: its rows of the sum. -/
abbrev g0 (x : Rows 128 512) : Rows 1 512 := extractStridedSlice SmallCIdeal.S1x512 ![0, 0] (total (r := 16) rfl x) SmallCIdeal.Gen.facts.slices_S16x512_o0_0_S1x512
/-- The gradient of `s5_glu_b`: its rows of the sum. -/
abbrev g1 (x : Rows 128 512) : Rows 1 512 := extractStridedSlice SmallCIdeal.S1x512 ![1, 0] (total (r := 16) rfl x) SmallCIdeal.Gen.facts.slices_S16x512_o1_0_S1x512
/-- The gradient of `rw_w0`: its rows of the sum. -/
abbrev g2 (x : Rows 128 512) : Rows 1 512 := extractStridedSlice SmallCIdeal.S1x512 ![2, 0] (total (r := 16) rfl x) SmallCIdeal.Gen.facts.slices_S16x512_o2_0_S1x512

section Run

open Cert.SmallCIdeal Cert.SmallCIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v0_2) = updM (g0 (m ((c : Thread nD τ).loc main_arg0))) (m ((c : Thread nD τ).loc main_arg4))
    ∧ r.2.mem ((c : Thread nD τ).loc main_v0_3) = updV (g0 (m ((c : Thread nD τ).loc main_arg0))) (m ((c : Thread nD τ).loc main_arg7))
    ∧ r.2.mem ((c : Thread nD τ).loc main_v0_4) = g1 (m ((c : Thread nD τ).loc main_arg0))
    ∧ r.2.mem ((c : Thread nD τ).loc main_v0_5) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v0_6) = updM (g1 (m ((c : Thread nD τ).loc main_arg0))) (m ((c : Thread nD τ).loc main_arg5))
    ∧ r.2.mem ((c : Thread nD τ).loc main_v0_7) = updV (g1 (m ((c : Thread nD τ).loc main_arg0))) (m ((c : Thread nD τ).loc main_arg8))
    ∧ r.2.mem ((c : Thread nD τ).loc main_v0_8) = g2 (m ((c : Thread nD τ).loc main_arg0))
    ∧ r.2.mem ((c : Thread nD τ).loc main_v0_9) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v0_10) = updM (g2 (m ((c : Thread nD τ).loc main_arg0))) (m ((c : Thread nD τ).loc main_arg6))
    ∧ r.2.mem ((c : Thread nD τ).loc main_v0_11) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallCIdeal.Value.run m ρ) (fun r h c => by
    obtain ⟨h0, h1, h2, h3, h4, h5, h6, h7, h8, h9, h10, h11, ha⟩ := h c
    have e := ker_total (r := 16) rfl (m ((c : Thread nD τ).loc main_arg0)) rfl rfl rfl rfl rfl rfl rfl rfl
      inb_S128x512_S16x512_0_0 inb_S128x512_S16x512_16_0 inb_S128x512_S16x512_32_0 inb_S128x512_S16x512_48_0 inb_S128x512_S16x512_64_0 inb_S128x512_S16x512_80_0 inb_S128x512_S16x512_96_0 inb_S128x512_S16x512_112_0
    have e0 := congrArg (fun t : Rows 16 512 => extractStridedSlice S1x512 ![0, 0] t slices_S16x512_o0_0_S1x512) e
    have e1 := congrArg (fun t : Rows 16 512 => extractStridedSlice S1x512 ![1, 0] t slices_S16x512_o1_0_S1x512) e
    have e2 := congrArg (fun t : Rows 16 512 => extractStridedSlice S1x512 ![2, 0] t slices_S16x512_o2_0_S1x512) e
    exact ⟨h0.trans e0, h1.trans ((ker_delta _ _ _ _).trans (congrArg (updD · _ _ _) e0)), h2.trans ((ker_m _ _).trans (congrArg (updM · _) e0)), h3.trans ((ker_v _ _).trans (congrArg (updV · _) e0)),
      h4.trans e1, h5.trans ((ker_delta _ _ _ _).trans (congrArg (updD · _ _ _) e1)), h6.trans ((ker_m _ _).trans (congrArg (updM · _) e1)), h7.trans ((ker_v _ _).trans (congrArg (updV · _) e1)),
      h8.trans e2, h9.trans ((ker_delta _ _ _ _).trans (congrArg (updD · _ _ _) e2)), h10.trans ((ker_m _ _).trans (congrArg (updM · _) e2)), h11.trans ((ker_v _ _).trans (congrArg (updV · _) e2)), ha⟩)

end Run

section Ref

open Cert.SmallCRefIdeal Cert.SmallCRefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v7) = updM (g0 (m ((c : Thread nD τ).loc main_arg0))) (m ((c : Thread nD τ).loc main_arg4))
    ∧ r.2.mem ((c : Thread nD τ).loc main_v13) = updV (g0 (m ((c : Thread nD τ).loc main_arg0))) (m ((c : Thread nD τ).loc main_arg7))
    ∧ r.2.mem ((c : Thread nD τ).loc main_v27) = g1 (m ((c : Thread nD τ).loc main_arg0))
    ∧ r.2.mem ((c : Thread nD τ).loc main_v51) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v32) = updM (g1 (m ((c : Thread nD τ).loc main_arg0))) (m ((c : Thread nD τ).loc main_arg5))
    ∧ r.2.mem ((c : Thread nD τ).loc main_v38) = updV (g1 (m ((c : Thread nD τ).loc main_arg0))) (m ((c : Thread nD τ).loc main_arg8))
    ∧ r.2.mem ((c : Thread nD τ).loc main_v52) = g2 (m ((c : Thread nD τ).loc main_arg0))
    ∧ r.2.mem ((c : Thread nD τ).loc main_v76) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v57) = updM (g2 (m ((c : Thread nD τ).loc main_arg0))) (m ((c : Thread nD τ).loc main_arg6))
    ∧ r.2.mem ((c : Thread nD τ).loc main_v63) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallCRefIdeal.Value.run m ρ) (fun r h c => by
    obtain ⟨h0, h1, h2, h3, h4, h5, h6, h7, h8, h9, h10, h11, ha⟩ := h c
    have e := host_total (r := 16) rfl (m ((c : Thread nD τ).loc main_arg0)) shapeCasts_S128x512_S8x16x512 reducesTo_S8x16x512_S16x512_d0 (by decide) h_S_
    have e0 := congrArg (fun t : Rows 16 512 => extractStridedSlice S1x512 ![0, 0] t slices_S16x512_S1x512_0_0) e
    have e1 := congrArg (fun t : Rows 16 512 => extractStridedSlice S1x512 ![1, 0] t slices_S16x512_S1x512_1_0) e
    have e2 := congrArg (fun t : Rows 16 512 => extractStridedSlice S1x512 ![2, 0] t slices_S16x512_S1x512_2_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)),
      h4.trans e1, h5.trans ((host_delta _ _ _ _ _).trans (congrArg (updD · _ _ _) e1)), h6.trans ((host_m _ _ _).trans (congrArg (updM · _) e1)), h7.trans ((host_v _ _ _).trans (congrArg (updV · _) e1)),
      h8.trans e2, h9.trans ((host_delta _ _ _ _ _).trans (congrArg (updD · _ _ _) e2)), h10.trans ((host_m _ _ _).trans (congrArg (updM · _) e2)), h11.trans ((host_v _ _ _).trans (congrArg (updV · _) e2)), ha⟩)

end Ref

/-- The program and its reference end with equal results. -/
theorem algebraic : Cert.algebraic_SmallCIdeal_SmallCRefIdeal := by
  pair_intro
  · run_from run_out m g
  · have hX := hagree
    run_from ref_run m' g' <;> obtain ⟨e0, e1, e2, e3, e4, e5, e6, e7, e8, e9⟩ := hX c <;> simp only [e0, e1, e2, e3, e4, e5, e6, e7, e8, e9]

end Cert.SmallCClaim

end
-- ==== Proof.SmallDClaim.lean ====
/-
  The AdamW update of `rw_a0`, `rw_k_k` and `rw_k_a`: the kernel's results and the reference's are the same functions of the stacked
  gradients, the weights and the moments.
-/
module

public import proofs.«01_k».proof.Defs
public import proofs.«01_k».proof.Proof.SmallSpec
public import proofs.«01_k».proof.Proof.Gen.SmallDIdeal.Frame
public import proofs.«01_k».proof.Proof.Gen.SmallDIdeal.Value
public import proofs.«01_k».proof.Proof.Gen.SmallDRefIdeal
public import proofs.«01_k».proof.Proof.Gen.SmallDRefIdeal.Run
public import Idealize.ShloMosaic.Lib.Claim

@[expose] public section

set_option maxRecDepth 16384

noncomputable section

namespace Cert.SmallDClaim

open Idealize.ShloMosaic Idealize.ShloMosaic.TcCoe Idealize.SL.Sem
open Cert.AdamSpec Cert.SmallSpec

/-- The gradient of `rw_a0`: its rows of the sum. -/
abbrev g0 (x : Rows 128 512) : Rows 1 512 := extractStridedSlice SmallDIdeal.S1x512 ![3, 0] (total (r := 16) rfl x) SmallDIdeal.Gen.facts.slices_S16x512_o3_0_S1x512
/-- The gradient of `rw_k_k`: its rows of the sum. -/
abbrev g1 (x : Rows 128 512) : Rows 1 512 := extractStridedSlice SmallDIdeal.S1x512 ![4, 0] (total (r := 16) rfl x) SmallDIdeal.Gen.facts.slices_S16x512_o4_0_S1x512
/-- The gradient of `rw_k_a`: its rows of the sum. -/
abbrev g2 (x : Rows 128 512) : Rows 1 512 := extractStridedSlice SmallDIdeal.S1x512 ![5, 0] (total (r := 16) rfl x) SmallDIdeal.Gen.facts.slices_S16x512_o5_0_S1x512

section Run

open Cert.SmallDIdeal Cert.SmallDIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v0_2) = updM (g0 (m ((c : Thread nD τ).loc main_arg0))) (m ((c : Thread nD τ).loc main_arg4))
    ∧ r.2.mem ((c : Thread nD τ).loc main_v0_3) = updV (g0 (m ((c : Thread nD τ).loc main_arg0))) (m ((c : Thread nD τ).loc main_arg7))
    ∧ r.2.mem ((c : Thread nD τ).loc main_v0_4) = g1 (m ((c : Thread nD τ).loc main_arg0))
    ∧ r.2.mem ((c : Thread nD τ).loc main_v0_5) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v0_6) = updM (g1 (m ((c : Thread nD τ).loc main_arg0))) (m ((c : Thread nD τ).loc main_arg5))
    ∧ r.2.mem ((c : Thread nD τ).loc main_v0_7) = updV (g1 (m ((c : Thread nD τ).loc main_arg0))) (m ((c : Thread nD τ).loc main_arg8))
    ∧ r.2.mem ((c : Thread nD τ).loc main_v0_8) = g2 (m ((c : Thread nD τ).loc main_arg0))
    ∧ r.2.mem ((c : Thread nD τ).loc main_v0_9) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v0_10) = updM (g2 (m ((c : Thread nD τ).loc main_arg0))) (m ((c : Thread nD τ).loc main_arg6))
    ∧ r.2.mem ((c : Thread nD τ).loc main_v0_11) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallDIdeal.Value.run m ρ) (fun r h c => by
    obtain ⟨h0, h1, h2, h3, h4, h5, h6, h7, h8, h9, h10, h11, ha⟩ := h c
    have e := ker_total (r := 16) rfl (m ((c : Thread nD τ).loc main_arg0)) rfl rfl rfl rfl rfl rfl rfl rfl
      inb_S128x512_S16x512_0_0 inb_S128x512_S16x512_16_0 inb_S128x512_S16x512_32_0 inb_S128x512_S16x512_48_0 inb_S128x512_S16x512_64_0 inb_S128x512_S16x512_80_0 inb_S128x512_S16x512_96_0 inb_S128x512_S16x512_112_0
    have e0 := congrArg (fun t : Rows 16 512 => extractStridedSlice S1x512 ![3, 0] t slices_S16x512_o3_0_S1x512) e
    have e1 := congrArg (fun t : Rows 16 512 => extractStridedSlice S1x512 ![4, 0] t slices_S16x512_o4_0_S1x512) e
    have e2 := congrArg (fun t : Rows 16 512 => extractStridedSlice S1x512 ![5, 0] t slices_S16x512_o5_0_S1x512) e
    exact ⟨h0.trans e0, h1.trans ((ker_delta _ _ _ _).trans (congrArg (updD · _ _ _) e0)), h2.trans ((ker_m _ _).trans (congrArg (updM · _) e0)), h3.trans ((ker_v _ _).trans (congrArg (updV · _) e0)),
      h4.trans e1, h5.trans ((ker_delta _ _ _ _).trans (congrArg (updD · _ _ _) e1)), h6.trans ((ker_m _ _).trans (congrArg (updM · _) e1)), h7.trans ((ker_v _ _).trans (congrArg (updV · _) e1)),
      h8.trans e2, h9.trans ((ker_delta _ _ _ _).trans (congrArg (updD · _ _ _) e2)), h10.trans ((ker_m _ _).trans (congrArg (updM · _) e2)), h11.trans ((ker_v _ _).trans (congrArg (updV · _) e2)), ha⟩)

end Run

section Ref

open Cert.SmallDRefIdeal Cert.SmallDRefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v7) = updM (g0 (m ((c : Thread nD τ).loc main_arg0))) (m ((c : Thread nD τ).loc main_arg4))
    ∧ r.2.mem ((c : Thread nD τ).loc main_v13) = updV (g0 (m ((c : Thread nD τ).loc main_arg0))) (m ((c : Thread nD τ).loc main_arg7))
    ∧ r.2.mem ((c : Thread nD τ).loc main_v27) = g1 (m ((c : Thread nD τ).loc main_arg0))
    ∧ r.2.mem ((c : Thread nD τ).loc main_v51) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v32) = updM (g1 (m ((c : Thread nD τ).loc main_arg0))) (m ((c : Thread nD τ).loc main_arg5))
    ∧ r.2.mem ((c : Thread nD τ).loc main_v38) = updV (g1 (m ((c : Thread nD τ).loc main_arg0))) (m ((c : Thread nD τ).loc main_arg8))
    ∧ r.2.mem ((c : Thread nD τ).loc main_v52) = g2 (m ((c : Thread nD τ).loc main_arg0))
    ∧ r.2.mem ((c : Thread nD τ).loc main_v76) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v57) = updM (g2 (m ((c : Thread nD τ).loc main_arg0))) (m ((c : Thread nD τ).loc main_arg6))
    ∧ r.2.mem ((c : Thread nD τ).loc main_v63) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallDRefIdeal.Value.run m ρ) (fun r h c => by
    obtain ⟨h0, h1, h2, h3, h4, h5, h6, h7, h8, h9, h10, h11, ha⟩ := h c
    have e := host_total (r := 16) rfl (m ((c : Thread nD τ).loc main_arg0)) shapeCasts_S128x512_S8x16x512 reducesTo_S8x16x512_S16x512_d0 (by decide) h_S_
    have e0 := congrArg (fun t : Rows 16 512 => extractStridedSlice S1x512 ![3, 0] t slices_S16x512_S1x512_3_0) e
    have e1 := congrArg (fun t : Rows 16 512 => extractStridedSlice S1x512 ![4, 0] t slices_S16x512_S1x512_4_0) e
    have e2 := congrArg (fun t : Rows 16 512 => extractStridedSlice S1x512 ![5, 0] t slices_S16x512_S1x512_5_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)),
      h4.trans e1, h5.trans ((host_delta _ _ _ _ _).trans (congrArg (updD · _ _ _) e1)), h6.trans ((host_m _ _ _).trans (congrArg (updM · _) e1)), h7.trans ((host_v _ _ _).trans (congrArg (updV · _) e1)),
      h8.trans e2, h9.trans ((host_delta _ _ _ _ _).trans (congrArg (updD · _ _ _) e2)), h10.trans ((host_m _ _ _).trans (congrArg (updM · _) e2)), h11.trans ((host_v _ _ _).trans (congrArg (updV · _) e2)), ha⟩)

end Ref

/-- The program and its reference end with equal results. -/
theorem algebraic : Cert.algebraic_SmallDIdeal_SmallDRefIdeal := by
  pair_intro
  · run_from run_out m g
  · have hX := hagree
    run_from ref_run m' g' <;> obtain ⟨e0, e1, e2, e3, e4, e5, e6, e7, e8, e9⟩ := hX c <;> simp only [e0, e1, e2, e3, e4, e5, e6, e7, e8, e9]

end Cert.SmallDClaim

end
-- ==== Proof.SmallEClaim.lean ====
/-
  The AdamW update of `rw_ln_w`, `rw_ln_b` and `rw_r_k`: the kernel's results and the reference's are the same functions of the stacked
  gradients, the weights and the moments.
-/
module

public import proofs.«01_k».proof.Defs
public import proofs.«01_k».proof.Proof.SmallSpec
public import proofs.«01_k».proof.Proof.Gen.SmallEIdeal.Frame
public import proofs.«01_k».proof.Proof.Gen.SmallEIdeal.Value
public import proofs.«01_k».proof.Proof.Gen.SmallERefIdeal
public import proofs.«01_k».proof.Proof.Gen.SmallERefIdeal.Run
public import Idealize.ShloMosaic.Lib.Claim

@[expose] public section

set_option maxRecDepth 16384

noncomputable section

namespace Cert.SmallEClaim

open Idealize.ShloMosaic Idealize.ShloMosaic.TcCoe Idealize.SL.Sem
open Cert.AdamSpec Cert.SmallSpec

/-- The gradient of `rw_ln_w`: its rows of the sum. -/
abbrev g0 (x : Rows 128 512) : Rows 1 512 := extractStridedSlice SmallEIdeal.S1x512 ![6, 0] (total (r := 16) rfl x) SmallEIdeal.Gen.facts.slices_S16x512_o6_0_S1x512
/-- The gradient of `rw_ln_b`: its rows of the sum. -/
abbrev g1 (x : Rows 128 512) : Rows 1 512 := extractStridedSlice SmallEIdeal.S1x512 ![7, 0] (total (r := 16) rfl x) SmallEIdeal.Gen.facts.slices_S16x512_o7_0_S1x512
/-- The gradient of `rw_r_k`: its rows of the sum. -/
abbrev g2 (x : Rows 128 512) : Rows 1 512 := extractStridedSlice SmallEIdeal.S1x512 ![8, 0] (total (r := 16) rfl x) SmallEIdeal.Gen.facts.slices_S16x512_o8_0_S1x512

section Run

open Cert.SmallEIdeal Cert.SmallEIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v0_2) = updM (g0 (m ((c : Thread nD τ).loc main_arg0))) (m ((c : Thread nD τ).loc main_arg4))
    ∧ r.2.mem ((c : Thread nD τ).loc main_v0_3) = updV (g0 (m ((c : Thread nD τ).loc main_arg0))) (m ((c : Thread nD τ).loc main_arg7))
    ∧ r.2.mem ((c : Thread nD τ).loc main_v0_4) = g1 (m ((c : Thread nD τ).loc main_arg0))
    ∧ r.2.mem ((c : Thread nD τ).loc main_v0_5) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v0_6) = updM (g1 (m ((c : Thread nD τ).loc main_arg0))) (m ((c : Thread nD τ).loc main_arg5))
    ∧ r.2.mem ((c : Thread nD τ).loc main_v0_7) = updV (g1 (m ((c : Thread nD τ).loc main_arg0))) (m ((c : Thread nD τ).loc main_arg8))
    ∧ r.2.mem ((c : Thread nD τ).loc main_v0_8) = g2 (m ((c : Thread nD τ).loc main_arg0))
    ∧ r.2.mem ((c : Thread nD τ).loc main_v0_9) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v0_10) = updM (g2 (m ((c : Thread nD τ).loc main_arg0))) (m ((c : Thread nD τ).loc main_arg6))
    ∧ r.2.mem ((c : Thread nD τ).loc main_v0_11) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallEIdeal.Value.run m ρ) (fun r h c => by
    obtain ⟨h0, h1, h2, h3, h4, h5, h6, h7, h8, h9, h10, h11, ha⟩ := h c
    have e := ker_total (r := 16) rfl (m ((c : Thread nD τ).loc main_arg0)) rfl rfl rfl rfl rfl rfl rfl rfl
      inb_S128x512_S16x512_0_0 inb_S128x512_S16x512_16_0 inb_S128x512_S16x512_32_0 inb_S128x512_S16x512_48_0 inb_S128x512_S16x512_64_0 inb_S128x512_S16x512_80_0 inb_S128x512_S16x512_96_0 inb_S128x512_S16x512_112_0
    have e0 := congrArg (fun t : Rows 16 512 => extractStridedSlice S1x512 ![6, 0] t slices_S16x512_o6_0_S1x512) e
    have e1 := congrArg (fun t : Rows 16 512 => extractStridedSlice S1x512 ![7, 0] t slices_S16x512_o7_0_S1x512) e
    have e2 := congrArg (fun t : Rows 16 512 => extractStridedSlice S1x512 ![8, 0] t slices_S16x512_o8_0_S1x512) e
    exact ⟨h0.trans e0, h1.trans ((ker_delta _ _ _ _).trans (congrArg (updD · _ _ _) e0)), h2.trans ((ker_m _ _).trans (congrArg (updM · _) e0)), h3.trans ((ker_v _ _).trans (congrArg (updV · _) e0)),
      h4.trans e1, h5.trans ((ker_delta _ _ _ _).trans (congrArg (updD · _ _ _) e1)), h6.trans ((ker_m _ _).trans (congrArg (updM · _) e1)), h7.trans ((ker_v _ _).trans (congrArg (updV · _) e1)),
      h8.trans e2, h9.trans ((ker_delta _ _ _ _).trans (congrArg (updD · _ _ _) e2)), h10.trans ((ker_m _ _).trans (congrArg (updM · _) e2)), h11.trans ((ker_v _ _).trans (congrArg (updV · _) e2)), ha⟩)

end Run

section Ref

open Cert.SmallERefIdeal Cert.SmallERefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg4)) (m ((c : Thread nD τ).loc main_arg7))
    ∧ r.2.mem ((c : Thread nD τ).loc main_v7) = updM (g0 (m ((c : Thread nD τ).loc main_arg0))) (m ((c : Thread nD τ).loc main_arg4))
    ∧ r.2.mem ((c : Thread nD τ).loc main_v13) = updV (g0 (m ((c : Thread nD τ).loc main_arg0))) (m ((c : Thread nD τ).loc main_arg7))
    ∧ r.2.mem ((c : Thread nD τ).loc main_v27) = g1 (m ((c : Thread nD τ).loc main_arg0))
    ∧ r.2.mem ((c : Thread nD τ).loc main_v51) = updD (g1 (m ((c : Thread nD τ).loc main_arg0))) (m ((c : Thread nD τ).loc main_arg2)) (m ((c : Thread nD τ).loc main_arg5)) (m ((c : Thread nD τ).loc main_arg8))
    ∧ r.2.mem ((c : Thread nD τ).loc main_v32) = updM (g1 (m ((c : Thread nD τ).loc main_arg0))) (m ((c : Thread nD τ).loc main_arg5))
    ∧ r.2.mem ((c : Thread nD τ).loc main_v38) = updV (g1 (m ((c : Thread nD τ).loc main_arg0))) (m ((c : Thread nD τ).loc main_arg8))
    ∧ r.2.mem ((c : Thread nD τ).loc main_v52) = g2 (m ((c : Thread nD τ).loc main_arg0))
    ∧ r.2.mem ((c : Thread nD τ).loc main_v76) = updD (g2 (m ((c : Thread nD τ).loc main_arg0))) (m ((c : Thread nD τ).loc main_arg3)) (m ((c : Thread nD τ).loc main_arg6)) (m ((c : Thread nD τ).loc main_arg9))
    ∧ r.2.mem ((c : Thread nD τ).loc main_v57) = updM (g2 (m ((c : Thread nD τ).loc main_arg0))) (m ((c : Thread nD τ).loc main_arg6))
    ∧ r.2.mem ((c : Thread nD τ).loc main_v63) = updV (g2 (m ((c : Thread nD τ).loc main_arg0))) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  θ_run_mono (Cert.SmallERefIdeal.Value.run m ρ) (fun r h c => by
    obtain ⟨h0, h1, h2, h3, h4, h5, h6, h7, h8, h9, h10, h11, ha⟩ := h c
    have e := host_total (r := 16) rfl (m ((c : Thread nD τ).loc main_arg0)) shapeCasts_S128x512_S8x16x512 reducesTo_S8x16x512_S16x512_d0 (by decide) h_S_
    have e0 := congrArg (fun t : Rows 16 512 => extractStridedSlice S1x512 ![6, 0] t slices_S16x512_S1x512_6_0) e
    have e1 := congrArg (fun t : Rows 16 512 => extractStridedSlice S1x512 ![7, 0] t slices_S16x512_S1x512_7_0) e
    have e2 := congrArg (fun t : Rows 16 512 => extractStridedSlice S1x512 ![8, 0] t slices_S16x512_S1x512_8_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)),
      h4.trans e1, h5.trans ((host_delta _ _ _ _ _).trans (congrArg (updD · _ _ _) e1)), h6.trans ((host_m _ _ _).trans (congrArg (updM · _) e1)), h7.trans ((host_v _ _ _).trans (congrArg (updV · _) e1)),
      h8.trans e2, h9.trans ((host_delta _ _ _ _ _).trans (congrArg (updD · _ _ _) e2)), h10.trans ((host_m _ _ _).trans (congrArg (updM · _) e2)), h11.trans ((host_v _ _ _).trans (congrArg (updV · _) e2)), ha⟩)

end Ref

/-- The program and its reference end with equal results. -/
theorem algebraic : Cert.algebraic_SmallEIdeal_SmallERefIdeal := by
  pair_intro
  · run_from run_out m g
  · have hX := hagree
    run_from ref_run m' g' <;> obtain ⟨e0, e1, e2, e3, e4, e5, e6, e7, e8, e9⟩ := hX c <;> simp only [e0, e1, e2, e3, e4, e5, e6, e7, e8, e9]

end Cert.SmallEClaim

end
-- ==== Proof.SmallFClaim.lean ====
/-
  The AdamW update of `rw_shift_mu`: the kernel's results and the reference's are the same functions of the stacked
  gradients, the weights and the moments.
-/
module

public import proofs.«01_k».proof.Defs
public import proofs.«01_k».proof.Proof.SmallSpec
public import proofs.«01_k».proof.Proof.Gen.SmallFIdeal.Frame
public import proofs.«01_k».proof.Proof.Gen.SmallFIdeal.Value
public import proofs.«01_k».proof.Proof.Gen.SmallFRefIdeal
public import proofs.«01_k».proof.Proof.Gen.SmallFRefIdeal.Run
public import Idealize.ShloMosaic.Lib.Claim

@[expose] public section

set_option maxRecDepth 16384

noncomputable section

namespace Cert.SmallFClaim

open Idealize.ShloMosaic Idealize.ShloMosaic.TcCoe Idealize.SL.Sem
open Cert.AdamSpec Cert.SmallSpec

/-- The gradient of `rw_shift_mu`: its rows of the sum. -/
abbrev g0 (x : Rows 64 1792) : Rows 1 1792 := extractStridedSlice SmallFIdeal.S1x1792 ![0, 0] (total (r := 8) rfl x) SmallFIdeal.Gen.facts.slices_S8x1792_o0_0_S1x1792

section Run

open Cert.SmallFIdeal Cert.SmallFIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg2)) (m ((c : Thread nD τ).loc main_arg3))
    ∧ r.2.mem ((c : Thread nD τ).loc main_v0_2) = updM (g0 (m ((c : Thread nD τ).loc main_arg0))) (m ((c : Thread nD τ).loc main_arg2))
    ∧ r.2.mem ((c : Thread nD τ).loc main_v0_3) = updV (g0 (m ((c : Thread nD τ).loc main_arg0))) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  θ_run_mono (Cert.SmallFIdeal.Value.run m ρ) (fun r h c => by
    obtain ⟨h0, h1, h2, h3, ha⟩ := h c
    have e := ker_total (r := 8) rfl (m ((c : Thread nD τ).loc main_arg0)) rfl rfl rfl rfl rfl rfl rfl rfl
      inb_S64x1792_S8x1792_0_0 inb_S64x1792_S8x1792_8_0 inb_S64x1792_S8x1792_16_0 inb_S64x1792_S8x1792_24_0 inb_S64x1792_S8x1792_32_0 inb_S64x1792_S8x1792_40_0 inb_S64x1792_S8x1792_48_0 inb_S64x1792_S8x1792_56_0
    have e0 := congrArg (fun t : Rows 8 1792 => extractStridedSlice S1x1792 ![0, 0] t slices_S8x1792_o0_0_S1x1792) e
    exact ⟨h0.trans e0, h1.trans ((ker_delta _ _ _ _).trans (congrArg (updD · _ _ _) e0)), h2.trans ((ker_m _ _).trans (congrArg (updM · _) e0)), h3.trans ((ker_v _ _).trans (congrArg (updV · _) e0)), ha⟩)

end Run

section Ref

open Cert.SmallFRefIdeal Cert.SmallFRefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg2)) (m ((c : Thread nD τ).loc main_arg3))
    ∧ r.2.mem ((c : Thread nD τ).loc main_v7) = updM (g0 (m ((c : Thread nD τ).loc main_arg0))) (m ((c : Thread nD τ).loc main_arg2))
    ∧ r.2.mem ((c : Thread nD τ).loc main_v13) = updV (g0 (m ((c : Thread nD τ).loc main_arg0))) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  θ_run_mono (Cert.SmallFRefIdeal.Value.run m ρ) (fun r h c => by
    obtain ⟨h0, h1, h2, h3, ha⟩ := h c
    have e := host_total (r := 8) rfl (m ((c : Thread nD τ).loc main_arg0)) shapeCasts_S64x1792_S8x8x1792 reducesTo_S8x8x1792_S8x1792_d0 (by decide) h_S_
    have e0 := congrArg (fun t : Rows 8 1792 => extractStridedSlice S1x1792 ![0, 0] t slices_S8x1792_S1x1792_0_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)), ha⟩)

end Ref

/-- The program and its reference end with equal results. -/
theorem algebraic : Cert.algebraic_SmallFIdeal_SmallFRefIdeal := by
  pair_intro
  · run_from run_out m g
  · have hX := hagree
    run_from ref_run m' g' <;> obtain ⟨e0, e1, e2, e3⟩ := hX c <;> simp only [e0, e1, e2, e3]

end Cert.SmallFClaim

end
-- ==== Proof.SmallGClaim.lean ====
/-
  The AdamW update of `s5_lam_re` and `s5_lam_im`: the kernel's results and the reference's are the same functions of the stacked
  gradients, the weights and the moments.
-/
module

public import proofs.«01_k».proof.Defs
public import proofs.«01_k».proof.Proof.SmallSpec
public import proofs.«01_k».proof.Proof.Gen.SmallGIdeal.Frame
public import proofs.«01_k».proof.Proof.Gen.SmallGIdeal.Value
public import proofs.«01_k».proof.Proof.Gen.SmallGRefIdeal
public import proofs.«01_k».proof.Proof.Gen.SmallGRefIdeal.Run
public import Idealize.ShloMosaic.Lib.Claim

@[expose] public section

set_option maxRecDepth 16384

noncomputable section

namespace Cert.SmallGClaim

open Idealize.ShloMosaic Idealize.ShloMosaic.TcCoe Idealize.SL.Sem
open Cert.AdamSpec Cert.SmallSpec

/-- The gradient of `s5_lam_re`: its rows of the sum. -/
abbrev g0 (x : Rows 8704 64) : Rows 32 64 := extractStridedSlice SmallGIdeal.S32x64 ![0, 0] (total (r := 1088) rfl x) SmallGIdeal.Gen.facts.slices_S1088x64_o0_0_S32x64
/-- The gradient of `s5_lam_im`: its rows of the sum. -/
abbrev g1 (x : Rows 8704 64) : Rows 32 64 := extractStridedSlice SmallGIdeal.S32x64 ![32, 0] (total (r := 1088) rfl x) SmallGIdeal.Gen.facts.slices_S1088x64_o32_0_S32x64

section Run

open Cert.SmallGIdeal Cert.SmallGIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg3)) (m ((c : Thread nD τ).loc main_arg5))
    ∧ r.2.mem ((c : Thread nD τ).loc main_v0_2) = updM (g0 (m ((c : Thread nD τ).loc main_arg0))) (m ((c : Thread nD τ).loc main_arg3))
    ∧ r.2.mem ((c : Thread nD τ).loc main_v0_3) = updV (g0 (m ((c : Thread nD τ).loc main_arg0))) (m ((c : Thread nD τ).loc main_arg5))
    ∧ r.2.mem ((c : Thread nD τ).loc main_v0_4) = g1 (m ((c : Thread nD τ).loc main_arg0))
    ∧ r.2.mem ((c : Thread nD τ).loc main_v0_5) = updD (g1 (m ((c : Thread nD τ).loc main_arg0))) (m ((c : Thread nD τ).loc main_arg2)) (m ((c : Thread nD τ).loc main_arg4)) (m ((c : Thread nD τ).loc main_arg6))
    ∧ r.2.mem ((c : Thread nD τ).loc main_v0_6) = updM (g1 (m ((c : Thread nD τ).loc main_arg0))) (m ((c : Thread nD τ).loc main_arg4))
    ∧ r.2.mem ((c : Thread nD τ).loc main_v0_7) = updV (g1 (m ((c : Thread nD τ).loc main_arg0))) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  θ_run_mono (Cert.SmallGIdeal.Value.run m ρ) (fun r h c => by
    obtain ⟨h0, h1, h2, h3, h4, h5, h6, h7, ha⟩ := h c
    have e := ker_total (r := 1088) rfl (m ((c : Thread nD τ).loc main_arg0)) rfl rfl rfl rfl rfl rfl rfl rfl
      inb_S8704x64_S1088x64_0_0 inb_S8704x64_S1088x64_1088_0 inb_S8704x64_S1088x64_2176_0 inb_S8704x64_S1088x64_3264_0 inb_S8704x64_S1088x64_4352_0 inb_S8704x64_S1088x64_5440_0 inb_S8704x64_S1088x64_6528_0 inb_S8704x64_S1088x64_7616_0
    have e0 := congrArg (fun t : Rows 1088 64 => extractStridedSlice S32x64 ![0, 0] t slices_S1088x64_o0_0_S32x64) e
    have e1 := congrArg (fun t : Rows 1088 64 => extractStridedSlice S32x64 ![32, 0] t slices_S1088x64_o32_0_S32x64) e
    exact ⟨h0.trans e0, h1.trans ((ker_delta _ _ _ _).trans (congrArg (updD · _ _ _) e0)), h2.trans ((ker_m _ _).trans (congrArg (updM · _) e0)), h3.trans ((ker_v _ _).trans (congrArg (updV · _) e0)),
      h4.trans e1, h5.trans ((ker_delta _ _ _ _).trans (congrArg (updD · _ _ _) e1)), h6.trans ((ker_m _ _).trans (congrArg (updM · _) e1)), h7.trans ((ker_v _ _).trans (congrArg (updV · _) e1)), ha⟩)

end Run

section Ref

open Cert.SmallGRefIdeal Cert.SmallGRefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg3)) (m ((c : Thread nD τ).loc main_arg5))
    ∧ r.2.mem ((c : Thread nD τ).loc main_v7) = updM (g0 (m ((c : Thread nD τ).loc main_arg0))) (m ((c : Thread nD τ).loc main_arg3))
    ∧ r.2.mem ((c : Thread nD τ).loc main_v13) = updV (g0 (m ((c : Thread nD τ).loc main_arg0))) (m ((c : Thread nD τ).loc main_arg5))
    ∧ r.2.mem ((c : Thread nD τ).loc main_v27) = g1 (m ((c : Thread nD τ).loc main_arg0))
    ∧ r.2.mem ((c : Thread nD τ).loc main_v51) = updD (g1 (m ((c : Thread nD τ).loc main_arg0))) (m ((c : Thread nD τ).loc main_arg2)) (m ((c : Thread nD τ).loc main_arg4)) (m ((c : Thread nD τ).loc main_arg6))
    ∧ r.2.mem ((c : Thread nD τ).loc main_v32) = updM (g1 (m ((c : Thread nD τ).loc main_arg0))) (m ((c : Thread nD τ).loc main_arg4))
    ∧ r.2.mem ((c : Thread nD τ).loc main_v38) = updV (g1 (m ((c : Thread nD τ).loc main_arg0))) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  θ_run_mono (Cert.SmallGRefIdeal.Value.run m ρ) (fun r h c => by
    obtain ⟨h0, h1, h2, h3, h4, h5, h6, h7, ha⟩ := h c
    have e := host_total (r := 1088) rfl (m ((c : Thread nD τ).loc main_arg0)) shapeCasts_S8704x64_S8x1088x64 reducesTo_S8x1088x64_S1088x64_d0 (by decide) h_S_
    have e0 := congrArg (fun t : Rows 1088 64 => extractStridedSlice S32x64 ![0, 0] t slices_S1088x64_S32x64_0_0) e
    have e1 := congrArg (fun t : Rows 1088 64 => extractStridedSlice S32x64 ![32, 0] t slices_S1088x64_S32x64_32_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)),
      h4.trans e1, h5.trans ((host_delta _ _ _ _ _).trans (congrArg (updD · _ _ _) e1)), h6.trans ((host_m _ _ _).trans (congrArg (updM · _) e1)), h7.trans ((host_v _ _ _).trans (congrArg (updV · _) e1)), ha⟩)

end Ref

/-- The program and its reference end with equal results. -/
theorem algebraic : Cert.algebraic_SmallGIdeal_SmallGRefIdeal := by
  pair_intro
  · run_from run_out m g
  · have hX := hagree
    run_from ref_run m' g' <;> obtain ⟨e0, e1, e2, e3, e4, e5, e6⟩ := hX c <;> simp only [e0, e1, e2, e3, e4, e5, e6]

end Cert.SmallGClaim

end
-- ==== Proof.SmallHClaim.lean ====
/-
  The AdamW update of `s5_c_re` and `s5_c_im`: the kernel's results and the reference's are the same functions of the stacked
  gradients, the weights and the moments.
-/
module

public import proofs.«01_k».proof.Defs
public import proofs.«01_k».proof.Proof.SmallSpec
public import proofs.«01_k».proof.Proof.Gen.SmallHIdeal.Frame
public import proofs.«01_k».proof.Proof.Gen.SmallHIdeal.Value
public import proofs.«01_k».proof.Proof.Gen.SmallHRefIdeal
public import proofs.«01_k».proof.Proof.Gen.SmallHRefIdeal.Run
public import Idealize.ShloMosaic.Lib.Claim

@[expose] public section

set_option maxRecDepth 16384

noncomputable section

namespace Cert.SmallHClaim

open Idealize.ShloMosaic Idealize.ShloMosaic.TcCoe Idealize.SL.Sem
open Cert.AdamSpec Cert.SmallSpec

/-- The gradient of `s5_c_re`: its rows of the sum. -/
abbrev g0 (x : Rows 8704 64) : Rows 512 64 := extractStridedSlice SmallHIdeal.S512x64 ![64, 0] (total (r := 1088) rfl x) SmallHIdeal.Gen.facts.slices_S1088x64_o64_0_S512x64
/-- The gradient of `s5_c_im`: its rows of the sum. -/
abbrev g1 (x : Rows 8704 64) : Rows 512 64 := extractStridedSlice SmallHIdeal.S512x64 ![576, 0] (total (r := 1088) rfl x) SmallHIdeal.Gen.facts.slices_S1088x64_o576_0_S512x64

section Run

open Cert.SmallHIdeal Cert.SmallHIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg3)) (m ((c : Thread nD τ).loc main_arg5))
    ∧ r.2.mem ((c : Thread nD τ).loc main_v0_2) = updM (g0 (m ((c : Thread nD τ).loc main_arg0))) (m ((c : Thread nD τ).loc main_arg3))
    ∧ r.2.mem ((c : Thread nD τ).loc main_v0_3) = updV (g0 (m ((c : Thread nD τ).loc main_arg0))) (m ((c : Thread nD τ).loc main_arg5))
    ∧ r.2.mem ((c : Thread nD τ).loc main_v0_4) = g1 (m ((c : Thread nD τ).loc main_arg0))
    ∧ r.2.mem ((c : Thread nD τ).loc main_v0_5) = updD (g1 (m ((c : Thread nD τ).loc main_arg0))) (m ((c : Thread nD τ).loc main_arg2)) (m ((c : Thread nD τ).loc main_arg4)) (m ((c : Thread nD τ).loc main_arg6))
    ∧ r.2.mem ((c : Thread nD τ).loc main_v0_6) = updM (g1 (m ((c : Thread nD τ).loc main_arg0))) (m ((c : Thread nD τ).loc main_arg4))
    ∧ r.2.mem ((c : Thread nD τ).loc main_v0_7) = updV (g1 (m ((c : Thread nD τ).loc main_arg0))) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  θ_run_mono (Cert.SmallHIdeal.Value.run m ρ) (fun r h c => by
    obtain ⟨h0, h1, h2, h3, h4, h5, h6, h7, ha⟩ := h c
    have e := ker_total (r := 1088) rfl (m ((c : Thread nD τ).loc main_arg0)) rfl rfl rfl rfl rfl rfl rfl rfl
      inb_S8704x64_S1088x64_0_0 inb_S8704x64_S1088x64_1088_0 inb_S8704x64_S1088x64_2176_0 inb_S8704x64_S1088x64_3264_0 inb_S8704x64_S1088x64_4352_0 inb_S8704x64_S1088x64_5440_0 inb_S8704x64_S1088x64_6528_0 inb_S8704x64_S1088x64_7616_0
    have e0 := congrArg (fun t : Rows 1088 64 => extractStridedSlice S512x64 ![64, 0] t slices_S1088x64_o64_0_S512x64) e
    have e1 := congrArg (fun t : Rows 1088 64 => extractStridedSlice S512x64 ![576, 0] t slices_S1088x64_o576_0_S512x64) e
    exact ⟨h0.trans e0, h1.trans ((ker_delta _ _ _ _).trans (congrArg (updD · _ _ _) e0)), h2.trans ((ker_m _ _).trans (congrArg (updM · _) e0)), h3.trans ((ker_v _ _).trans (congrArg (updV · _) e0)),
      h4.trans e1, h5.trans ((ker_delta _ _ _ _).trans (congrArg (updD · _ _ _) e1)), h6.trans ((ker_m _ _).trans (congrArg (updM · _) e1)), h7.trans ((ker_v _ _).trans (congrArg (updV · _) e1)), ha⟩)

end Run

section Ref

open Cert.SmallHRefIdeal Cert.SmallHRefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg3)) (m ((c : Thread nD τ).loc main_arg5))
    ∧ r.2.mem ((c : Thread nD τ).loc main_v7) = updM (g0 (m ((c : Thread nD τ).loc main_arg0))) (m ((c : Thread nD τ).loc main_arg3))
    ∧ r.2.mem ((c : Thread nD τ).loc main_v13) = updV (g0 (m ((c : Thread nD τ).loc main_arg0))) (m ((c : Thread nD τ).loc main_arg5))
    ∧ r.2.mem ((c : Thread nD τ).loc main_v27) = g1 (m ((c : Thread nD τ).loc main_arg0))
    ∧ r.2.mem ((c : Thread nD τ).loc main_v51) = updD (g1 (m ((c : Thread nD τ).loc main_arg0))) (m ((c : Thread nD τ).loc main_arg2)) (m ((c : Thread nD τ).loc main_arg4)) (m ((c : Thread nD τ).loc main_arg6))
    ∧ r.2.mem ((c : Thread nD τ).loc main_v32) = updM (g1 (m ((c : Thread nD τ).loc main_arg0))) (m ((c : Thread nD τ).loc main_arg4))
    ∧ r.2.mem ((c : Thread nD τ).loc main_v38) = updV (g1 (m ((c : Thread nD τ).loc main_arg0))) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  θ_run_mono (Cert.SmallHRefIdeal.Value.run m ρ) (fun r h c => by
    obtain ⟨h0, h1, h2, h3, h4, h5, h6, h7, ha⟩ := h c
    have e := host_total (r := 1088) rfl (m ((c : Thread nD τ).loc main_arg0)) shapeCasts_S8704x64_S8x1088x64 reducesTo_S8x1088x64_S1088x64_d0 (by decide) h_S_
    have e0 := congrArg (fun t : Rows 1088 64 => extractStridedSlice S512x64 ![64, 0] t slices_S1088x64_S512x64_64_0) e
    have e1 := congrArg (fun t : Rows 1088 64 => extractStridedSlice S512x64 ![576, 0] t slices_S1088x64_S512x64_576_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)),
      h4.trans e1, h5.trans ((host_delta _ _ _ _ _).trans (congrArg (updD · _ _ _) e1)), h6.trans ((host_m _ _ _).trans (congrArg (updM · _) e1)), h7.trans ((host_v _ _ _).trans (congrArg (updV · _) e1)), ha⟩)

end Ref

/-- The program and its reference end with equal results. -/
theorem algebraic : Cert.algebraic_SmallHIdeal_SmallHRefIdeal := by
  pair_intro
  · run_from run_out m g
  · have hX := hagree
    run_from ref_run m' g' <;> obtain ⟨e0, e1, e2, e3, e4, e5, e6⟩ := hX c <;> simp only [e0, e1, e2, e3, e4, e5, e6]

end Cert.SmallHClaim

end
-- ==== Proof.SmallIClaim.lean ====
/-
  The AdamW update of `s5_log_step` and the slot of the loss: the kernel's results and the reference's are the same functions of the stacked
  gradients, the weights and the moments.
-/
module

public import proofs.«01_k».proof.Defs
public import proofs.«01_k».proof.Proof.SmallSpec
public import proofs.«01_k».proof.Proof.Gen.SmallIIdeal.Frame
public import proofs.«01_k».proof.Proof.Gen.SmallIIdeal.Value
public import proofs.«01_k».proof.Proof.Gen.SmallIRefIdeal
public import proofs.«01_k».proof.Proof.Gen.SmallIRefIdeal.Run
public import Idealize.ShloMosaic.Lib.Claim

@[expose] public section

set_option maxRecDepth 16384

noncomputable section

namespace Cert.SmallIClaim

open Idealize.ShloMosaic Idealize.ShloMosaic.TcCoe Idealize.SL.Sem
open Cert.AdamSpec Cert.SmallSpec

/-- The gradient of `s5_log_step`: its rows of the sum. -/
abbrev g0 (x : Rows 64 32) : Rows 1 32 := extractStridedSlice SmallIIdeal.S1x32 ![0, 0] (total (r := 8) rfl x) SmallIIdeal.Gen.facts.slices_S8x32_o0_0_S1x32
/-- The gradient of `loss_partials`: its rows of the sum. -/
abbrev g1 (x : Rows 64 32) : Rows 1 32 := extractStridedSlice SmallIIdeal.S1x32 ![1, 0] (total (r := 8) rfl x) SmallIIdeal.Gen.facts.slices_S8x32_o1_0_S1x32

section Run

open Cert.SmallIIdeal Cert.SmallIIdeal.Gen

variable (m : (ℓ : Loc nD τ sig) → Buf (Elt Ideal) ℓ) (ρ : Dev nD → PrngReg)

/-- The program runs, ends with these results, and leaves its arguments alone. -/
theorem run_out : θ_run defs (onTc (τ := τ) (main (F := Ideal))) ⟨m, fun _ => 0, ρ⟩ (fun r => ∀ c : Dev nD,
    r.2.mem ((c : Thread nD τ).loc main_v0_0) = g0 (m ((c : Thread nD τ).loc main_arg0))
    ∧ r.2.mem ((c : Thread nD τ).loc main_v0_1) = updD (g0 (m ((c : Thread nD τ).loc main_arg0))) (m ((c : Thread nD τ).loc main_arg1)) (m ((c : Thread nD τ).loc main_arg3)) (m ((c : Thread nD τ).loc main_arg5))
    ∧ r.2.mem ((c : Thread nD τ).loc main_v0_2) = updM (g0 (m ((c : Thread nD τ).loc main_arg0))) (m ((c : Thread nD τ).loc main_arg3))
    ∧ r.2.mem ((c : Thread nD τ).loc main_v0_3) = updV (g0 (m ((c : Thread nD τ).loc main_arg0))) (m ((c : Thread nD τ).loc main_arg5))
    ∧ r.2.mem ((c : Thread nD τ).loc main_v0_4) = g1 (m ((c : Thread nD τ).loc main_arg0))
    ∧ r.2.mem ((c : Thread nD τ).loc main_v0_5) = updD (g1 (m ((c : Thread nD τ).loc main_arg0))) (m ((c : Thread nD τ).loc main_arg2)) (m ((c : Thread nD τ).loc main_arg4)) (m ((c : Thread nD τ).loc main_arg6))
    ∧ r.2.mem ((c : Thread nD τ).loc main_v0_6) = updM (g1 (m ((c : Thread nD τ).loc main_arg0))) (m ((c : Thread nD τ).loc main_arg4))
    ∧ r.2.mem ((c : Thread nD τ).loc main_v0_7) = updV (g1 (m ((c : Thread nD τ).loc main_arg0))) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  θ_run_mono (Cert.SmallIIdeal.Value.run m ρ) (fun r h c => by
    obtain ⟨h0, h1, h2, h3, h4, h5, h6, h7, ha⟩ := h c
    have e := ker_total (r := 8) rfl (m ((c : Thread nD τ).loc main_arg0)) rfl rfl rfl rfl rfl rfl rfl rfl
      inb_S64x32_S8x32_0_0 inb_S64x32_S8x32_8_0 inb_S64x32_S8x32_16_0 inb_S64x32_S8x32_24_0 inb_S64x32_S8x32_32_0 inb_S64x32_S8x32_40_0 inb_S64x32_S8x32_48_0 inb_S64x32_S8x32_56_0
    have e0 := congrArg (fun t : Rows 8 32 => extractStridedSlice S1x32 ![0, 0] t slices_S8x32_o0_0_S1x32) e
    have e1 := congrArg (fun t : Rows 8 32 => extractStridedSlice S1x32 ![1, 0] t slices_S8x32_o1_0_S1x32) e
    exact ⟨h0.trans e0, h1.trans ((ker_delta _ _ _ _).trans (congrArg (updD · _ _ _) e0)), h2.trans ((ker_m _ _).trans (congrArg (updM · _) e0)), h3.trans ((ker_v _ _).trans (congrArg (updV · _) e0)),
      h4.trans e1, h5.trans ((ker_delta _ _ _ _).trans (congrArg (updD · _ _ _) e1)), h6.trans ((ker_m _ _).trans (congrArg (updM · _) e1)), h7.trans ((ker_v _ _).trans (congrArg (updV · _) e1)), ha⟩)

end Run

section Ref

open Cert.SmallIRefIdeal Cert.SmallIRefIdeal.Gen

variable (m : (ℓ : Loc nD τ sig) → Buf (Elt Ideal) ℓ) (ρ : Dev nD → PrngReg)

/-- The reference runs, ends with these results, and leaves its arguments alone. -/
theorem ref_run : θ_run defs (onTc (τ := τ) (main (F := Ideal))) ⟨m, fun _ => 0, ρ⟩ (fun r => ∀ c : Dev nD,
    r.2.mem ((c : Thread nD τ).loc main_v2) = g0 (m ((c : Thread nD τ).loc main_arg0))
    ∧ r.2.mem ((c : Thread nD τ).loc main_v26) = updD (g0 (m ((c : Thread nD τ).loc main_arg0))) (m ((c : Thread nD τ).loc main_arg1)) (m ((c : Thread nD τ).loc main_arg3)) (m ((c : Thread nD τ).loc main_arg5))
    ∧ r.2.mem ((c : Thread nD τ).loc main_v7) = updM (g0 (m ((c : Thread nD τ).loc main_arg0))) (m ((c : Thread nD τ).loc main_arg3))
    ∧ r.2.mem ((c : Thread nD τ).loc main_v13) = updV (g0 (m ((c : Thread nD τ).loc main_arg0))) (m ((c : Thread nD τ).loc main_arg5))
    ∧ r.2.mem ((c : Thread nD τ).loc main_v27) = g1 (m ((c : Thread nD τ).loc main_arg0))
    ∧ r.2.mem ((c : Thread nD τ).loc main_v51) = updD (g1 (m ((c : Thread nD τ).loc main_arg0))) (m ((c : Thread nD τ).loc main_arg2)) (m ((c : Thread nD τ).loc main_arg4)) (m ((c : Thread nD τ).loc main_arg6))
    ∧ r.2.mem ((c : Thread nD τ).loc main_v32) = updM (g1 (m ((c : Thread nD τ).loc main_arg0))) (m ((c : Thread nD τ).loc main_arg4))
    ∧ r.2.mem ((c : Thread nD τ).loc main_v38) = updV (g1 (m ((c : Thread nD τ).loc main_arg0))) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  θ_run_mono (Cert.SmallIRefIdeal.Value.run m ρ) (fun r h c => by
    obtain ⟨h0, h1, h2, h3, h4, h5, h6, h7, ha⟩ := h c
    have e := host_total (r := 8) rfl (m ((c : Thread nD τ).loc main_arg0)) shapeCasts_S64x32_S8x8x32 reducesTo_S8x8x32_S8x32_d0 (by decide) h_S_
    have e0 := congrArg (fun t : Rows 8 32 => extractStridedSlice S1x32 ![0, 0] t slices_S8x32_S1x32_0_0) e
    have e1 := congrArg (fun t : Rows 8 32 => extractStridedSlice S1x32 ![1, 0] t slices_S8x32_S1x32_1_0) e
    exact ⟨h0.trans e0, h1.trans ((host_delta _ _ _ _ _).trans (congrArg (updD · _ _ _) e0)), h2.trans ((host_m _ _ _).trans (congrArg (updM · _) e0)), h3.trans ((host_v _ _ _).trans (congrArg (updV · _) e0)),
      h4.trans e1, h5.trans ((host_delta _ _ _ _ _).trans (congrArg (updD · _ _ _) e1)), h6.trans ((host_m _ _ _).trans (congrArg (updM · _) e1)), h7.trans ((host_v _ _ _).trans (congrArg (updV · _) e1)), ha⟩)

end Ref

/-- The program and its reference end with equal results. -/
theorem algebraic : Cert.algebraic_SmallIIdeal_SmallIRefIdeal := by
  pair_intro
  · run_from run_out m g
  · have hX := hagree
    run_from ref_run m' g' <;> obtain ⟨e0, e1, e2, e3, e4, e5, e6⟩ := hX c <;> simp only [e0, e1, e2, e3, e4, e5, e6]

end Cert.SmallIClaim

end
-- ==== Proof.ZohReg.lean ====
/-
  What the call that differentiates the discretisation leaves in its result arrays: the body's results of the whole arguments, since
  the call has one grid point and every window holds a whole array.
-/
module

public import proofs.«01_k».proof.Proof.Gen.ZohIdeal.Frame
public import Idealize.ShloMosaic.Lib.Pipeline.ValueKit

@[expose] public section

set_option maxRecDepth 16384

noncomputable section

namespace Cert.ZohReg

open Idealize.ShloMosaic Idealize.ShloMosaic.TcCoe Idealize.SL.Sem Idealize.ShloMosaic.Pipeline
open Cert.ZohIdeal Cert.ZohIdeal.Gen

variable (m : (ℓ : Loc nD τ sig) → Buf (Elt Ideal) ℓ) (ρ : Dev nD → PrngReg) (c : Dev nD)

/-- The call's one point holds block zero of every array. -/
theorem idx : ∀ t : Fin cfg0.N, win0_0.index t = ![0, 0]
    ∧ win0_1.index t = ![0, 0]
    ∧ win0_2.index t = ![0, 0]
    ∧ win0_3.index t = ![0, 0, 0]
    ∧ win0_4.index t = ![0, 0, 0]
    ∧ win0_5.index t = ![0, 0]
    ∧ win0_6.index t = ![0, 0]
    ∧ win0_7.index t = ![0, 0, 0]
    ∧ win0_8.index t = ![0, 0, 0]
    ∧ win0_9.index t = ![0, 0]
    ∧ win0_10.index t = ![0, 0]
    ∧ win0_11.index t = ![0, 0]
    ∧ win0_12.index t = ![0, 0, 0]
    ∧ win0_13.index t = ![0, 0, 0] :=
  (by decide +kernel : ∀ t : Fin grid0.N, _)

theorem b0 (t : Fin cfg0.N) : (iblk m c 0 t : FVec Ideal S32x64 .f32) = m ((c : Thread nD τ).loc main_arg0) := by
  rw [← V_main_arg0 m c]
  funext j
  blk_ext [iblk, idx t]
theorem b1 (t : Fin cfg0.N) : (iblk m c 1 t : FVec Ideal S32x64 .f32) = m ((c : Thread nD τ).loc main_arg1) := by
  rw [← V_main_arg1 m c]
  funext j
  blk_ext [iblk, idx t]
theorem b2 (t : Fin cfg0.N) : (iblk m c 2 t : FVec Ideal S32x1 .f32) = m ((c : Thread nD τ).loc main_arg2) := by
  rw [← V_main_arg2 m c]
  funext j
  blk_ext [iblk, idx t]
theorem b3 (t : Fin cfg0.N) : (iblk m c 3 t : FVec Ideal S32x16x64 .f32) = m ((c : Thread nD τ).loc main_arg3) := by
  rw [← V_main_arg3 m c]
  funext j
  blk_ext [iblk, idx t]
theorem b4 (t : Fin cfg0.N) : (iblk m c 4 t : FVec Ideal S32x16x64 .f32) = m ((c : Thread nD τ).loc main_arg4) := by
  rw [← V_main_arg4 m c]
  funext j
  blk_ext [iblk, idx t]
theorem b5 (t : Fin cfg0.N) : (iblk m c 5 t : FVec Ideal S32x64 .f32) = m ((c : Thread nD τ).loc main_arg5) := by
  rw [← V_main_arg5 m c]
  funext j
  blk_ext [iblk, idx t]
theorem b6 (t : Fin cfg0.N) : (iblk m c 6 t : FVec Ideal S32x64 .f32) = m ((c : Thread nD τ).loc main_arg6) := by
  rw [← V_main_arg6 m c]
  funext j
  blk_ext [iblk, idx t]
theorem b7 (t : Fin cfg0.N) : (iblk m c 7 t : FVec Ideal S32x16x64 .f32) = m ((c : Thread nD τ).loc main_arg7) := by
  rw [← V_main_arg7 m c]
  funext j
  blk_ext [iblk, idx t]
theorem b8 (t : Fin cfg0.N) : (iblk m c 8 t : FVec Ideal S32x16x64 .f32) = m ((c : Thread nD τ).loc main_arg8) := by
  rw [← V_main_arg8 m c]
  funext j
  blk_ext [iblk, idx t]

/-- The gradient of the real parts of the rates. -/
theorem out9 : (dats m 0 c).arrAt 9 cfg0.N = (out0_9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x64 .f32) := by
  refine (dats m 0 c).arrAt_eq_of_covers 9 _ (by decide +kernel) fun t hf y => ?_
  blk_simp
  have e : ((View.whole main_v0_0).slice (win0_9.rect t)).emb y = y := by
    blk_ext [idx t]
  rw [after0_9, e, b0, b1, b2, b3, b4, b5, b6, b7, b8]

/-- The gradient of their imaginary parts. -/
theorem out10 : (dats m 0 c).arrAt 10 cfg0.N = (out0_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x64 .f32) := by
  refine (dats m 0 c).arrAt_eq_of_covers 10 _ (by decide +kernel) fun t hf y => ?_
  blk_simp
  have e : ((View.whole main_v0_1).slice (win0_10.rect t)).emb y = y := by
    blk_ext [idx t]
  rw [after0_10, e, b0, b1, b2, b3, b4, b5, b6, b7, b8]

/-- The gradient of the logarithms of the steps. -/
theorem out11 : (dats m 0 c).arrAt 11 cfg0.N = (out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x1 .f32) := by
  refine (dats m 0 c).arrAt_eq_of_covers 11 _ (by decide +kernel) fun t hf y => ?_
  blk_simp
  have e : ((View.whole main_v0_2).slice (win0_11.rect t)).emb y = y := by
    blk_ext [idx t]
  rw [after0_11, e, b0, b1, b2, b3, b4, b5, b6, b7, b8]

/-- The gradient of the real parts of the input matrix. -/
theorem out12 : (dats m 0 c).arrAt 12 cfg0.N = (out0_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x16x64 .f32) := by
  refine (dats m 0 c).arrAt_eq_of_covers 12 _ (by decide +kernel) fun t hf y => ?_
  blk_simp
  have e : ((View.whole main_v0_3).slice (win0_12.rect t)).emb y = y := by
    blk_ext [idx t]
  rw [after0_12, e, b0, b1, b2, b3, b4, b5, b6, b7, b8]

/-- The gradient of its imaginary parts. -/
theorem out13 : (dats m 0 c).arrAt 13 cfg0.N = (out0_13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x16x64 .f32) := by
  refine (dats m 0 c).arrAt_eq_of_covers 13 _ (by decide +kernel) fun t hf y => ?_
  blk_simp
  have e : ((View.whole main_v0_4).slice (win0_13.rect t)).emb y = y := by
    blk_ext [idx t]
  rw [after0_13, e, b0, b1, b2, b3, b4, b5, b6, b7, b8]

/-- The program runs, ends with these results, and leaves its arguments alone. -/
theorem run : θ_run defs (onTc (τ := τ) (main (F := Ideal))) ⟨m, fun _ => 0, ρ⟩ (fun r => ∀ c : Dev nD,
    r.2.mem ((c : Thread nD τ).loc main_v0_0) = (out0_9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x64 .f32)
    ∧ r.2.mem ((c : Thread nD τ).loc main_v0_1) = (out0_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x64 .f32)
    ∧ r.2.mem ((c : Thread nD τ).loc main_v0_2) = (out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x1 .f32)
    ∧ r.2.mem ((c : Thread nD τ).loc main_v0_3) = (out0_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x16x64 .f32)
    ∧ r.2.mem ((c : Thread nD τ).loc main_v0_4) = (out0_13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x16x64 .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) :=
  (θ_run defs _ _).mono (fun r h c => ⟨((h c).1 9).trans (out9 m c),
    ((h c).1 10).trans (out10 m c),
    ((h c).1 11).trans (out11 m c),
    ((h c).1 12).trans (out12 m c),
    ((h c).1 13).trans (out13 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c)))⟩)
    (run_main m ρ)

end Cert.ZohReg

end
-- ==== Proof.ZohLeaf.lean ====
/-
  The operations that the kernel and the reference of the discretisation spell differently, each pair equal over the extended reals.
-/
module

public import Idealize.ShloMosaic.Lib.KernelVsHost

@[expose] public section

noncomputable section

namespace Cert.ZohLeaf

open Idealize.ShloMosaic

variable {s t u : Shape}

theorem exp_eq (x : FVec Ideal s .f32) : Host.exp x = exp x := rfl
theorem sin_eq (x : FVec Ideal s .f32) : Host.sin x = sin x := rfl
theorem cos_eq (x : FVec Ideal s .f32) : Host.cos x = cos x := rfl
theorem div_eq (x y : FVec Ideal s .f32) : Host.divf x y = divf x y := rfl

/-- A constant laid over a whole array. -/
theorem splat_eq (dims : Fin s.rank → Fin t.rank) (h : s.BroadcastsInDim t dims) (b : BitVec 32) :
    broadcastInDim t dims h (constant (F := Ideal) s .f32 b : FVec Ideal s .f32) = broadcast t (Scalar.ofBits (F := Ideal) .f32 b) := rfl

/-- A column laid over 64 columns. -/
theorem col_eq (x : FVec Ideal ⟨2, ![32, 1]⟩ .f32) (h : (⟨2, ![32, 1]⟩ : Shape).BroadcastsInDim ⟨2, ![32, 64]⟩ ![0, 1])
    (h' : (⟨2, ![32, 1]⟩ : Shape).Broadcasts ⟨2, ![32, 64]⟩) :
    broadcastInDim ⟨2, ![32, 64]⟩ ![0, 1] h x = broadcastTo ⟨2, ![32, 64]⟩ x h' := by
  funext j
  rw [broadcastInDim_apply ![0, 1] h x j (ValueIdx.ix2 (j 0) 0) (by intro a; fin_cases a <;> rfl),
    broadcastTo_apply x h' j (ValueIdx.ix2 (j 0) 0) (by intro a; fin_cases a <;> rfl)]

/-- A middle axis of length one laid over 16. -/
theorem mid_eq (x : FVec Ideal ⟨3, ![32, 1, 64]⟩ .f32) (h : (⟨3, ![32, 1, 64]⟩ : Shape).BroadcastsInDim ⟨3, ![32, 16, 64]⟩ ![0, 1, 2])
    (h' : (⟨3, ![32, 1, 64]⟩ : Shape).Broadcasts ⟨3, ![32, 16, 64]⟩) :
    broadcastInDim ⟨3, ![32, 16, 64]⟩ ![0, 1, 2] h x = broadcastTo ⟨3, ![32, 16, 64]⟩ x h' := by
  funext j
  rw [broadcastInDim_apply ![0, 1, 2] h x j (ValueIdx.ix3 (j 0) 0 (j 2)) (by intro a; fin_cases a <;> rfl),
    broadcastTo_apply x h' j (ValueIdx.ix3 (j 0) 0 (j 2)) (by intro a; fin_cases a <;> rfl)]

/-- A middle axis of length one put in. -/
theorem put_eq (x : FVec Ideal ⟨2, ![32, 64]⟩ .f32) (h : (⟨2, ![32, 64]⟩ : Shape).BroadcastsInDim ⟨3, ![32, 1, 64]⟩ ![0, 2])
    (h' : (⟨2, ![32, 64]⟩ : Shape).ShapeCasts ⟨3, ![32, 1, 64]⟩) :
    broadcastInDim ⟨3, ![32, 1, 64]⟩ ![0, 2] h x = shapeCast ⟨3, ![32, 1, 64]⟩ x h' := by
  funext j
  rw [broadcastInDim_apply ![0, 2] h x j (ValueIdx.ix2 (j 0) (j 2)) (by intro a; fin_cases a <;> rfl),
    shapeCast_apply x h' j (ValueIdx.ix2 (j 0) (j 2)) (by
      rw [Shape.rowMajor_val_two, Shape.rowMajor_val_three]
      have : (j 1).val < 1 := (j 1).isLt
      show (j 0).val * 64 + (j 2).val = ((j 0).val * 1 + (j 1).val) * 64 + (j 2).val
      omega)]

/-- A sum over one axis from zero. -/
theorem sum_eq {a : Fin s.rank} (x : FVec Ideal s .f32) (h' : s.ReducesTo [a] t) (hu : 0 < u.numel) (h : s.Reduces [a] t) :
    Host.reduceAdd x (constant (F := Ideal) u .f32 0x00000000#32) h' hu = multiReduction .add [a] t x 0x00000000#32 h (.inl rfl) rfl :=
  (multiReduction_add_eq_hostReduceAdd x _ h _ _ _ h' hu Ideal.ofBits_zero_f32).symm

end Cert.ZohLeaf

end
-- ==== Proof.ZohClaim.lean ====
/-
  The backward pass of the discretisation: the kernel's body and the reference compose the same operations on the same arrays, up to
  the spelling of a few of them, so their results are the same.
-/
module

public import proofs.«01_k».proof.Defs
public import proofs.«01_k».proof.Proof.ZohReg
public import proofs.«01_k».proof.Proof.ZohLeaf
public import proofs.«01_k».proof.Proof.Gen.ZohRefIdeal
public import proofs.«01_k».proof.Proof.Gen.ZohRefIdeal.Run
public import Idealize.ShloMosaic.Lib.Claim

@[expose] public section

set_option maxRecDepth 65536
set_option maxHeartbeats 4000000

noncomputable section

namespace Cert.ZohClaim

open Idealize.ShloMosaic Idealize.ShloMosaic.TcCoe Idealize.SL.Sem
open Cert.ZohLeaf

section Ker

open Cert.ZohIdeal Cert.ZohIdeal.Gen

/-- A load or a store of a whole array. -/
theorem z2 : (![0, 0] : Fin 2 → Nat) = fun _ => 0 := by decide
theorem z3 : (![0, 0, 0] : Fin 3 → Nat) = fun _ => 0 := by decide
theorem ld0 (x : Vec Ideal S32x64 .f32) : View.ld x r0_0 = x := View.ld_unit_zero (Val := Elt Ideal) (S := S32x64) (e := .f32) z2 _ x
theorem ld1 (x : Vec Ideal S32x1 .f32) : View.ld x r0_1 = x := View.ld_unit_zero (Val := Elt Ideal) (S := S32x1) (e := .f32) z2 _ x
theorem ld2 (x : Vec Ideal S32x16x64 .f32) : View.ld x r0_2 = x := View.ld_unit_zero (Val := Elt Ideal) (S := S32x16x64) (e := .f32) z3 _ x
theorem st0 (w : Vec Ideal S32x64 .f32) : View.canon [(⟨r0_0, w⟩ : View.Piece (Elt Ideal) S32x64 .f32)] = w := View.canon_unit_zero (Val := Elt Ideal) (S := S32x64) (e := .f32) z2 _ w
theorem st1 (w : Vec Ideal S32x1 .f32) : View.canon [(⟨r0_1, w⟩ : View.Piece (Elt Ideal) S32x1 .f32)] = w := View.canon_unit_zero (Val := Elt Ideal) (S := S32x1) (e := .f32) z2 _ w
theorem st2 (w : Vec Ideal S32x16x64 .f32) : View.canon [(⟨r0_2, w⟩ : View.Piece (Elt Ideal) S32x16x64 .f32)] = w := View.canon_unit_zero (Val := Elt Ideal) (S := S32x16x64) (e := .f32) z3 _ w

end Ker

section Ref

open Cert.ZohRefIdeal Cert.ZohRefIdeal.Gen

variable (m : (ℓ : Loc nD τ sig) → Buf (Elt Ideal) ℓ) (ρ : Dev nD → PrngReg)

/-- The reference runs, ends with the kernel's results, and leaves its arguments alone. -/
theorem ref_run : θ_run defs (onTc (τ := τ) (main (F := Ideal))) ⟨m, fun _ => 0, ρ⟩ (fun r => ∀ c : Dev nD,
    r.2.mem ((c : Thread nD τ).loc main_v135) = (ZohIdeal.Gen.out0_9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x64 .f32)
    ∧ r.2.mem ((c : Thread nD τ).loc main_v127) = (ZohIdeal.Gen.out0_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x64 .f32)
    ∧ r.2.mem ((c : Thread nD τ).loc main_v136) = (ZohIdeal.Gen.out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x1 .f32)
    ∧ r.2.mem ((c : Thread nD τ).loc main_v68) = (ZohIdeal.Gen.out0_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x16x64 .f32)
    ∧ r.2.mem ((c : Thread nD τ).loc main_v61) = (ZohIdeal.Gen.out0_13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : FVec Ideal S32x16x64 .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) :=
  θ_run_mono (Cert.ZohRefIdeal.Value.run m ρ) (fun r h c => by
    obtain ⟨h0, h1, h2, h3, h4, ha⟩ := h c
    refine ⟨h0.trans ?_, h1.trans ?_, h2.trans ?_, h3.trans ?_, h4.trans ?_, ha⟩
    all_goals simp only [Cert.ZohRefIdeal.Value.res_main_v135, Cert.ZohRefIdeal.Value.res_main_v127, Cert.ZohRefIdeal.Value.res_main_v136,
      ZohIdeal.Gen.out0_9, ZohIdeal.Gen.out0_10, ZohIdeal.Gen.out0_11, ZohIdeal.Gen.out0_12, ZohIdeal.Gen.out0_13, st0, st1, st2, ld0, ld1, ld2,
      ZohIdeal.Gen.k0_pay1, ZohIdeal.Gen.k0_pay2, ZohIdeal.Gen.k0_pay3, ZohIdeal.Gen.k0_pay4, ZohIdeal.Gen.k0_pay5, ZohIdeal.Gen.k0_pay6, ZohIdeal.Gen.k0_pay7, ZohIdeal.Gen.k0_pay8,
      ZohIdeal.Gen.k0_pay9, ZohIdeal.Gen.k0_pay10, ZohIdeal.Gen.k0_pay11, ZohIdeal.Gen.k0_pay12, ZohIdeal.Gen.k0_pay13, ZohIdeal.Gen.k0_pay14, ZohIdeal.Gen.k0_pay15, ZohIdeal.Gen.k0_pay16,
      ZohIdeal.Gen.k0_pay17, ZohIdeal.Gen.k0_pay18, ZohIdeal.Gen.k0_pay19, ZohIdeal.Gen.k0_pay20, ZohIdeal.Gen.k0_pay21, ZohIdeal.Gen.k0_pay22, ZohIdeal.Gen.k0_pay23, ZohIdeal.Gen.k0_pay24,
      ZohIdeal.Gen.k0_pay25, ZohIdeal.Gen.k0_pay26, ZohIdeal.Gen.k0_pay27, ZohIdeal.Gen.k0_pay28, ZohIdeal.Gen.k0_pay29, ZohIdeal.Gen.k0_pay30, ZohIdeal.Gen.k0_pay31, ZohIdeal.Gen.k0_pay32,
      ZohIdeal.Gen.k0_pay33, ZohIdeal.Gen.k0_pay34, ZohIdeal.Gen.k0_pay35, ZohIdeal.Gen.k0_pay36, ZohIdeal.Gen.k0_pay37, ZohIdeal.Gen.k0_pay38, ZohIdeal.Gen.k0_pay39, ZohIdeal.Gen.k0_pay40,
      ZohIdeal.Gen.k0_pay41, ZohIdeal.Gen.k0_pay42, ZohIdeal.Gen.k0_pay43, ZohIdeal.Gen.k0_pay44, ZohIdeal.Gen.k0_pay45, ZohIdeal.Gen.k0_pay46, ZohIdeal.Gen.k0_pay47, ZohIdeal.Gen.k0_pay48,
      ZohIdeal.Gen.k0_pay49, ZohIdeal.Gen.k0_pay50, ZohIdeal.Gen.k0_pay51, ZohIdeal.Gen.k0_pay52, ZohIdeal.Gen.k0_pay53, ZohIdeal.Gen.k0_pay54, ZohIdeal.Gen.k0_pay55, ZohIdeal.Gen.k0_pay56,
      ZohIdeal.Gen.k0_pay57, ZohIdeal.Gen.k0_pay58,
      exp_eq, sin_eq, cos_eq, div_eq, splat_eq, col_eq _ _ ZohIdeal.Gen.broadcasts_S32x1_S32x64, mid_eq _ _ ZohIdeal.Gen.broadcasts_S32x1x64_S32x16x64,
      put_eq _ _ ZohIdeal.Gen.shapeCasts_S32x64_S32x1x64, sum_eq _ _ _ ZohIdeal.Gen.reduces_S32x16x64_S32x64, sum_eq _ _ _ ZohIdeal.Gen.reduces_S32x1x64_S32x64,
      sum_eq _ _ _ ZohIdeal.Gen.reduces_S32x64_S32, subf_zero_eq_hostNegf]
    rfl)

end Ref

/-- The program and its reference end with equal results. -/
theorem algebraic : Cert.algebraic_ZohIdeal_ZohRefIdeal := by
  pair_intro
  · run_from ZohReg.run m g
  · have hX := hagree
    run_from ref_run m' g' <;> obtain ⟨e0, e1, e2, e3, e4, e5, e6, e7, e8⟩ := hX c <;> simp only [e0, e1, e2, e3, e4, e5, e6, e7, e8]

end Cert.ZohClaim

end
-- ==== Proof.lean ====
module

public import proofs.«01_k».proof.Defs
public import proofs.«01_k».proof.Proof.Gen.Half
public import proofs.«01_k».proof.Proof.Gen.Half.Frame
public import proofs.«01_k».proof.Proof.Gen.HalfIdeal
public import proofs.«01_k».proof.Proof.Gen.HalfIdeal.Frame
public import proofs.«01_k».proof.Proof.Gen.HalfRefIdeal
public import proofs.«01_k».proof.Proof.Gen.HalfRefIdeal.Run
public import proofs.«01_k».proof.Proof.Gen.HalfRefIdeal.Read
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluRefIdeal
public import proofs.«01_k».proof.Proof.Gen.GluRefIdeal.Run
public import proofs.«01_k».proof.Proof.Gen.GluRefIdeal.Read
public import proofs.«01_k».proof.Proof.Gen.Gn
public import proofs.«01_k».proof.Proof.Gen.Gn.Frame
public import proofs.«01_k».proof.Proof.Gen.GnIdeal
public import proofs.«01_k».proof.Proof.Gen.GnIdeal.Frame
public import proofs.«01_k».proof.Proof.Gen.GnRefIdeal
public import proofs.«01_k».proof.Proof.Gen.GnRefIdeal.Run
public import proofs.«01_k».proof.Proof.Gen.GnRefIdeal.Read
public import proofs.«01_k».proof.Proof.Gen.Pre_finite_post
public import proofs.«01_k».proof.Proof.Gen.GnIdeal.Value
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpRefIdeal
public import proofs.«01_k».proof.Proof.Gen.InpRefIdeal.Run
public import proofs.«01_k».proof.Proof.Gen.InpRefIdeal.Read
public import proofs.«01_k».proof.Proof.Gen.Pre_finite_shift
public import proofs.«01_k».proof.Proof.Gen.GluIdeal.Value
public import proofs.«01_k».proof.Proof.Gen.AdamA
public import proofs.«01_k».proof.Proof.Gen.AdamA.Frame
public import proofs.«01_k».proof.Proof.Gen.AdamAIdeal
public import proofs.«01_k».proof.Proof.Gen.AdamAIdeal.Frame
public import proofs.«01_k».proof.Proof.Gen.AdamAIdeal.Value
public import proofs.«01_k».proof.Proof.Gen.AdamARefIdeal
public import proofs.«01_k».proof.Proof.Gen.AdamARefIdeal.Run
public import proofs.«01_k».proof.Proof.Gen.AdamARefIdeal.Read
public import proofs.«01_k».proof.Proof.Gen.AdamB
public import proofs.«01_k».proof.Proof.Gen.AdamB.Frame
public import proofs.«01_k».proof.Proof.Gen.AdamBIdeal
public import proofs.«01_k».proof.Proof.Gen.AdamBIdeal.Frame
public import proofs.«01_k».proof.Proof.Gen.AdamBIdeal.Value
public import proofs.«01_k».proof.Proof.Gen.AdamBRefIdeal
public import proofs.«01_k».proof.Proof.Gen.AdamBRefIdeal.Run
public import proofs.«01_k».proof.Proof.Gen.AdamBRefIdeal.Read
public import proofs.«01_k».proof.Proof.Gen.AdamC
public import proofs.«01_k».proof.Proof.Gen.AdamC.Frame
public import proofs.«01_k».proof.Proof.Gen.AdamCIdeal
public import proofs.«01_k».proof.Proof.Gen.AdamCIdeal.Frame
public import proofs.«01_k».proof.Proof.Gen.AdamCIdeal.Value
public import proofs.«01_k».proof.Proof.Gen.AdamCRefIdeal
public import proofs.«01_k».proof.Proof.Gen.AdamCRefIdeal.Run
public import proofs.«01_k».proof.Proof.Gen.AdamCRefIdeal.Read
public import proofs.«01_k».proof.Proof.Gen.AdamD
public import proofs.«01_k».proof.Proof.Gen.AdamD.Frame
public import proofs.«01_k».proof.Proof.Gen.AdamDIdeal
public import proofs.«01_k».proof.Proof.Gen.AdamDIdeal.Frame
public import proofs.«01_k».proof.Proof.Gen.AdamDIdeal.Value
public import proofs.«01_k».proof.Proof.Gen.AdamDRefIdeal
public import proofs.«01_k».proof.Proof.Gen.AdamDRefIdeal.Run
public import proofs.«01_k».proof.Proof.Gen.AdamDRefIdeal.Read
public import proofs.«01_k».proof.Proof.Gen.SmallA
public import proofs.«01_k».proof.Proof.Gen.SmallA.Frame
public import proofs.«01_k».proof.Proof.Gen.SmallAIdeal
public import proofs.«01_k».proof.Proof.Gen.SmallAIdeal.Frame
public import proofs.«01_k».proof.Proof.Gen.SmallAIdeal.Value
public import proofs.«01_k».proof.Proof.Gen.SmallARefIdeal
public import proofs.«01_k».proof.Proof.Gen.SmallARefIdeal.Run
public import proofs.«01_k».proof.Proof.Gen.SmallARefIdeal.Read
public import proofs.«01_k».proof.Proof.Gen.SmallB
public import proofs.«01_k».proof.Proof.Gen.SmallB.Frame
public import proofs.«01_k».proof.Proof.Gen.SmallBIdeal
public import proofs.«01_k».proof.Proof.Gen.SmallBIdeal.Frame
public import proofs.«01_k».proof.Proof.Gen.SmallBIdeal.Value
public import proofs.«01_k».proof.Proof.Gen.SmallBRefIdeal
public import proofs.«01_k».proof.Proof.Gen.SmallBRefIdeal.Run
public import proofs.«01_k».proof.Proof.Gen.SmallBRefIdeal.Read
public import proofs.«01_k».proof.Proof.Gen.SmallC
public import proofs.«01_k».proof.Proof.Gen.SmallC.Frame
public import proofs.«01_k».proof.Proof.Gen.SmallCIdeal
public import proofs.«01_k».proof.Proof.Gen.SmallCIdeal.Frame
public import proofs.«01_k».proof.Proof.Gen.SmallCIdeal.Value
public import proofs.«01_k».proof.Proof.Gen.SmallCRefIdeal
public import proofs.«01_k».proof.Proof.Gen.SmallCRefIdeal.Run
public import proofs.«01_k».proof.Proof.Gen.SmallCRefIdeal.Read
public import proofs.«01_k».proof.Proof.Gen.SmallD
public import proofs.«01_k».proof.Proof.Gen.SmallD.Frame
public import proofs.«01_k».proof.Proof.Gen.SmallDIdeal
public import proofs.«01_k».proof.Proof.Gen.SmallDIdeal.Frame
public import proofs.«01_k».proof.Proof.Gen.SmallDIdeal.Value
public import proofs.«01_k».proof.Proof.Gen.SmallDRefIdeal
public import proofs.«01_k».proof.Proof.Gen.SmallDRefIdeal.Run
public import proofs.«01_k».proof.Proof.Gen.SmallDRefIdeal.Read
public import proofs.«01_k».proof.Proof.Gen.SmallE
public import proofs.«01_k».proof.Proof.Gen.SmallE.Frame
public import proofs.«01_k».proof.Proof.Gen.SmallEIdeal
public import proofs.«01_k».proof.Proof.Gen.SmallEIdeal.Frame
public import proofs.«01_k».proof.Proof.Gen.SmallEIdeal.Value
public import proofs.«01_k».proof.Proof.Gen.SmallERefIdeal
public import proofs.«01_k».proof.Proof.Gen.SmallERefIdeal.Run
public import proofs.«01_k».proof.Proof.Gen.SmallERefIdeal.Read
public import proofs.«01_k».proof.Proof.Gen.SmallF
public import proofs.«01_k».proof.Proof.Gen.SmallF.Frame
public import proofs.«01_k».proof.Proof.Gen.SmallFIdeal
public import proofs.«01_k».proof.Proof.Gen.SmallFIdeal.Frame
public import proofs.«01_k».proof.Proof.Gen.SmallFIdeal.Value
public import proofs.«01_k».proof.Proof.Gen.SmallFRefIdeal
public import proofs.«01_k».proof.Proof.Gen.SmallFRefIdeal.Run
public import proofs.«01_k».proof.Proof.Gen.SmallFRefIdeal.Read
public import proofs.«01_k».proof.Proof.Gen.SmallG
public import proofs.«01_k».proof.Proof.Gen.SmallG.Frame
public import proofs.«01_k».proof.Proof.Gen.SmallGIdeal
public import proofs.«01_k».proof.Proof.Gen.SmallGIdeal.Frame
public import proofs.«01_k».proof.Proof.Gen.SmallGIdeal.Value
public import proofs.«01_k».proof.Proof.Gen.SmallGRefIdeal
public import proofs.«01_k».proof.Proof.Gen.SmallGRefIdeal.Run
public import proofs.«01_k».proof.Proof.Gen.SmallGRefIdeal.Read
public import proofs.«01_k».proof.Proof.Gen.SmallH
public import proofs.«01_k».proof.Proof.Gen.SmallH.Frame
public import proofs.«01_k».proof.Proof.Gen.SmallHIdeal
public import proofs.«01_k».proof.Proof.Gen.SmallHIdeal.Frame
public import proofs.«01_k».proof.Proof.Gen.SmallHIdeal.Value
public import proofs.«01_k».proof.Proof.Gen.SmallHRefIdeal
public import proofs.«01_k».proof.Proof.Gen.SmallHRefIdeal.Run
public import proofs.«01_k».proof.Proof.Gen.SmallHRefIdeal.Read
public import proofs.«01_k».proof.Proof.Gen.SmallI
public import proofs.«01_k».proof.Proof.Gen.SmallI.Frame
public import proofs.«01_k».proof.Proof.Gen.SmallIIdeal
public import proofs.«01_k».proof.Proof.Gen.SmallIIdeal.Frame
public import proofs.«01_k».proof.Proof.Gen.SmallIIdeal.Value
public import proofs.«01_k».proof.Proof.Gen.SmallIRefIdeal
public import proofs.«01_k».proof.Proof.Gen.SmallIRefIdeal.Run
public import proofs.«01_k».proof.Proof.Gen.SmallIRefIdeal.Read
public import proofs.«01_k».proof.Proof.Gen.Zoh
public import proofs.«01_k».proof.Proof.Gen.Zoh.Frame
public import proofs.«01_k».proof.Proof.Gen.ZohIdeal
public import proofs.«01_k».proof.Proof.Gen.ZohIdeal.Frame
public import proofs.«01_k».proof.Proof.Gen.ZohRefIdeal
public import proofs.«01_k».proof.Proof.Gen.ZohRefIdeal.Run
public import proofs.«01_k».proof.Proof.Gen.ZohRefIdeal.Read
public import proofs.«01_k».proof.Proof.HalfClaim
public import proofs.«01_k».proof.Proof.GluClaim
public import proofs.«01_k».proof.Proof.GnClaim
public import proofs.«01_k».proof.Proof.InpClaim
public import proofs.«01_k».proof.Proof.AdamAClaim
public import proofs.«01_k».proof.Proof.AdamBClaim
public import proofs.«01_k».proof.Proof.AdamCClaim
public import proofs.«01_k».proof.Proof.AdamDClaim
public import proofs.«01_k».proof.Proof.SmallAClaim
public import proofs.«01_k».proof.Proof.SmallBClaim
public import proofs.«01_k».proof.Proof.SmallCClaim
public import proofs.«01_k».proof.Proof.SmallDClaim
public import proofs.«01_k».proof.Proof.SmallEClaim
public import proofs.«01_k».proof.Proof.SmallFClaim
public import proofs.«01_k».proof.Proof.SmallGClaim
public import proofs.«01_k».proof.Proof.SmallHClaim
public import proofs.«01_k».proof.Proof.SmallIClaim
public import proofs.«01_k».proof.Proof.ZohClaim
public import Idealize.ShloMosaic.Adequacy
public import Idealize.ShloMosaic.Init

@[expose] public section

noncomputable section

namespace Cert.Proof

open Idealize.ShloMosaic Idealize.SL.Sem

/-- The reference of `Half` leaves its arguments alone, and it has no semaphores. -/
theorem half_ref : Cert.quiescent_HalfRefIdeal := fun m ρ _ =>
  (θ_run Cert.HalfRefIdeal.defs _ _).mono
    (fun r h => ⟨fun c => (h c).2.2.2.2.2.2.2.2.2.2, sem_eq_zero_of_no_sems (by decide) r.2⟩)
    (Cert.HalfRefIdeal.Value.run (F := Ideal) m ρ)

/-- The reference of `Glu` leaves its arguments alone, and it has no semaphores. -/
theorem glu_ref : Cert.quiescent_GluRefIdeal := fun m ρ _ =>
  (θ_run Cert.GluRefIdeal.defs _ _).mono
    (fun r h => ⟨fun c => (h c).2.2.2.2, sem_eq_zero_of_no_sems (by decide) r.2⟩)
    (Cert.GluRefIdeal.Value.run (F := Ideal) m ρ)

/-- The reference of `Gn` leaves its arguments alone, and it has no semaphores. -/
theorem gn_ref : Cert.quiescent_GnRefIdeal := fun m ρ _ =>
  (θ_run Cert.GnRefIdeal.defs _ _).mono
    (fun r h => ⟨fun c => (h c).2.2.2.2.2.2.2.2.2, sem_eq_zero_of_no_sems (by decide) r.2⟩)
    (Cert.GnRefIdeal.Value.run (F := Ideal) m ρ)

/-- The reference of `Inp` leaves its arguments alone, and it has no semaphores. -/
theorem inp_ref : Cert.quiescent_InpRefIdeal := fun m ρ _ =>
  (θ_run Cert.InpRefIdeal.defs _ _).mono
    (fun r h => ⟨fun c => (h c).2.2.2, sem_eq_zero_of_no_sems (by decide) r.2⟩)
    (Cert.InpRefIdeal.Value.run (F := Ideal) m ρ)

/-- The reference of `AdamA` leaves its arguments alone, and it has no semaphores. -/
theorem adamA_ref : Cert.quiescent_AdamARefIdeal := fun m ρ _ =>
  (θ_run Cert.AdamARefIdeal.defs _ _).mono
    (fun r h => ⟨fun c => (h c).2.2.2.2, sem_eq_zero_of_no_sems (by decide) r.2⟩)
    (Cert.AdamARefIdeal.Value.run (F := Ideal) m ρ)

/-- The reference of `AdamB` leaves its arguments alone, and it has no semaphores. -/
theorem adamB_ref : Cert.quiescent_AdamBRefIdeal := fun m ρ _ =>
  (θ_run Cert.AdamBRefIdeal.defs _ _).mono
    (fun r h => ⟨fun c => (h c).2.2.2.2, sem_eq_zero_of_no_sems (by decide) r.2⟩)
    (Cert.AdamBRefIdeal.Value.run (F := Ideal) m ρ)

/-- The reference of `AdamC` leaves its arguments alone, and it has no semaphores. -/
theorem adamC_ref : Cert.quiescent_AdamCRefIdeal := fun m ρ _ =>
  (θ_run Cert.AdamCRefIdeal.defs _ _).mono
    (fun r h => ⟨fun c => (h c).2.2.2.2, sem_eq_zero_of_no_sems (by decide) r.2⟩)
    (Cert.AdamCRefIdeal.Value.run (F := Ideal) m ρ)

/-- The reference of `AdamD` leaves its arguments alone, and it has no semaphores. -/
theorem adamD_ref : Cert.quiescent_AdamDRefIdeal := fun m ρ _ =>
  (θ_run Cert.AdamDRefIdeal.defs _ _).mono
    (fun r h => ⟨fun c => (h c).2.2.2.2, sem_eq_zero_of_no_sems (by decide) r.2⟩)
    (Cert.AdamDRefIdeal.Value.run (F := Ideal) m ρ)

/-- The reference of `SmallA` leaves its arguments alone, and it has no semaphores. -/
theorem smallA_ref : Cert.quiescent_SmallARefIdeal := fun m ρ _ =>
  (θ_run Cert.SmallARefIdeal.defs _ _).mono
    (fun r h => ⟨fun c => (h c).2.2.2.2.2.2.2.2.2.2.2.2, sem_eq_zero_of_no_sems (by decide) r.2⟩)
    (Cert.SmallARefIdeal.Value.run (F := Ideal) m ρ)

/-- The reference of `SmallB` leaves its arguments alone, and it has no semaphores. -/
theorem smallB_ref : Cert.quiescent_SmallBRefIdeal := fun m ρ _ =>
  (θ_run Cert.SmallBRefIdeal.defs _ _).mono
    (fun r h => ⟨fun c => (h c).2.2.2.2.2.2.2.2.2.2.2.2, sem_eq_zero_of_no_sems (by decide) r.2⟩)
    (Cert.SmallBRefIdeal.Value.run (F := Ideal) m ρ)

/-- The reference of `SmallC` leaves its arguments alone, and it has no semaphores. -/
theorem smallC_ref : Cert.quiescent_SmallCRefIdeal := fun m ρ _ =>
  (θ_run Cert.SmallCRefIdeal.defs _ _).mono
    (fun r h => ⟨fun c => (h c).2.2.2.2.2.2.2.2.2.2.2.2, sem_eq_zero_of_no_sems (by decide) r.2⟩)
    (Cert.SmallCRefIdeal.Value.run (F := Ideal) m ρ)

/-- The reference of `SmallD` leaves its arguments alone, and it has no semaphores. -/
theorem smallD_ref : Cert.quiescent_SmallDRefIdeal := fun m ρ _ =>
  (θ_run Cert.SmallDRefIdeal.defs _ _).mono
    (fun r h => ⟨fun c => (h c).2.2.2.2.2.2.2.2.2.2.2.2, sem_eq_zero_of_no_sems (by decide) r.2⟩)
    (Cert.SmallDRefIdeal.Value.run (F := Ideal) m ρ)

/-- The reference of `SmallE` leaves its arguments alone, and it has no semaphores. -/
theorem smallE_ref : Cert.quiescent_SmallERefIdeal := fun m ρ _ =>
  (θ_run Cert.SmallERefIdeal.defs _ _).mono
    (fun r h => ⟨fun c => (h c).2.2.2.2.2.2.2.2.2.2.2.2, sem_eq_zero_of_no_sems (by decide) r.2⟩)
    (Cert.SmallERefIdeal.Value.run (F := Ideal) m ρ)

/-- The reference of `SmallF` leaves its arguments alone, and it has no semaphores. -/
theorem smallF_ref : Cert.quiescent_SmallFRefIdeal := fun m ρ _ =>
  (θ_run Cert.SmallFRefIdeal.defs _ _).mono
    (fun r h => ⟨fun c => (h c).2.2.2.2, sem_eq_zero_of_no_sems (by decide) r.2⟩)
    (Cert.SmallFRefIdeal.Value.run (F := Ideal) m ρ)

/-- The reference of `SmallG` leaves its arguments alone, and it has no semaphores. -/
theorem smallG_ref : Cert.quiescent_SmallGRefIdeal := fun m ρ _ =>
  (θ_run Cert.SmallGRefIdeal.defs _ _).mono
    (fun r h => ⟨fun c => (h c).2.2.2.2.2.2.2.2, sem_eq_zero_of_no_sems (by decide) r.2⟩)
    (Cert.SmallGRefIdeal.Value.run (F := Ideal) m ρ)

/-- The reference of `SmallH` leaves its arguments alone, and it has no semaphores. -/
theorem smallH_ref : Cert.quiescent_SmallHRefIdeal := fun m ρ _ =>
  (θ_run Cert.SmallHRefIdeal.defs _ _).mono
    (fun r h => ⟨fun c => (h c).2.2.2.2.2.2.2.2, sem_eq_zero_of_no_sems (by decide) r.2⟩)
    (Cert.SmallHRefIdeal.Value.run (F := Ideal) m ρ)

/-- The reference of `SmallI` leaves its arguments alone, and it has no semaphores. -/
theorem smallI_ref : Cert.quiescent_SmallIRefIdeal := fun m ρ _ =>
  (θ_run Cert.SmallIRefIdeal.defs _ _).mono
    (fun r h => ⟨fun c => (h c).2.2.2.2.2.2.2.2, sem_eq_zero_of_no_sems (by decide) r.2⟩)
    (Cert.SmallIRefIdeal.Value.run (F := Ideal) m ρ)

/-- The reference of `Zoh` leaves its arguments alone, and it has no semaphores. -/
theorem zoh_ref : Cert.quiescent_ZohRefIdeal := fun m ρ _ =>
  (θ_run Cert.ZohRefIdeal.defs _ _).mono
    (fun r h => ⟨fun c => (h c).2.2.2.2.2, sem_eq_zero_of_no_sems (by decide) r.2⟩)
    (Cert.ZohRefIdeal.Value.run (F := Ideal) m ρ)

theorem claim : Cert.Claim := ⟨Cert.Half.Gen.facts, Cert.HalfIdeal.Gen.facts, Cert.HalfRefIdeal.Gen.facts, Cert.Glu.Gen.facts, Cert.GluIdeal.Gen.facts, Cert.GluRefIdeal.Gen.facts, Cert.Gn.Gen.facts, Cert.GnIdeal.Gen.facts, Cert.GnRefIdeal.Gen.facts, Cert.Inp.Gen.facts, Cert.InpIdeal.Gen.facts, Cert.InpRefIdeal.Gen.facts, Cert.AdamA.Gen.facts, Cert.AdamAIdeal.Gen.facts, Cert.AdamARefIdeal.Gen.facts, Cert.AdamB.Gen.facts, Cert.AdamBIdeal.Gen.facts, Cert.AdamBRefIdeal.Gen.facts, Cert.AdamC.Gen.facts, Cert.AdamCIdeal.Gen.facts, Cert.AdamCRefIdeal.Gen.facts, Cert.AdamD.Gen.facts, Cert.AdamDIdeal.Gen.facts, Cert.AdamDRefIdeal.Gen.facts,
  Cert.SmallA.Gen.facts, Cert.SmallAIdeal.Gen.facts, Cert.SmallARefIdeal.Gen.facts, Cert.SmallB.Gen.facts, Cert.SmallBIdeal.Gen.facts, Cert.SmallBRefIdeal.Gen.facts, Cert.SmallC.Gen.facts, Cert.SmallCIdeal.Gen.facts, Cert.SmallCRefIdeal.Gen.facts, Cert.SmallD.Gen.facts, Cert.SmallDIdeal.Gen.facts, Cert.SmallDRefIdeal.Gen.facts, Cert.SmallE.Gen.facts, Cert.SmallEIdeal.Gen.facts, Cert.SmallERefIdeal.Gen.facts, Cert.SmallF.Gen.facts, Cert.SmallFIdeal.Gen.facts, Cert.SmallFRefIdeal.Gen.facts, Cert.SmallG.Gen.facts, Cert.SmallGIdeal.Gen.facts, Cert.SmallGRefIdeal.Gen.facts, Cert.SmallH.Gen.facts, Cert.SmallHIdeal.Gen.facts, Cert.SmallHRefIdeal.Gen.facts, Cert.SmallI.Gen.facts, Cert.SmallIIdeal.Gen.facts, Cert.SmallIRefIdeal.Gen.facts,
  Cert.Zoh.Gen.facts, Cert.ZohIdeal.Gen.facts, Cert.ZohRefIdeal.Gen.facts, Cert.Pre_finite_post.Gen.facts, Cert.Pre_finite_shift.Gen.facts,
  fun m ρ _ => Cert.Half.Gen.frame m ρ, fun m ρ _ => Cert.HalfIdeal.Gen.frame m ρ, half_ref,
  fun m ρ _ => Cert.Glu.Gen.frame m ρ, fun m ρ _ => Cert.GluIdeal.Gen.frame m ρ, glu_ref,
  fun m ρ _ => Cert.Gn.Gen.frame m ρ, fun m ρ _ => Cert.GnIdeal.Gen.frame m ρ, fun m ρ _ => Cert.GnIdeal.Gen.frame m ρ, gn_ref, fun m ρ _ => gn_ref m ρ trivial,
  fun m ρ _ => Cert.Inp.Gen.frame m ρ, fun m ρ _ => Cert.InpIdeal.Gen.frame m ρ, fun m ρ _ => Cert.InpIdeal.Gen.frame m ρ, inp_ref, fun m ρ _ => inp_ref m ρ trivial,
  fun m ρ _ => Cert.AdamA.Gen.frame m ρ, fun m ρ _ => Cert.AdamAIdeal.Gen.frame m ρ, adamA_ref,
  fun m ρ _ => Cert.AdamB.Gen.frame m ρ, fun m ρ _ => Cert.AdamBIdeal.Gen.frame m ρ, adamB_ref,
  fun m ρ _ => Cert.AdamC.Gen.frame m ρ, fun m ρ _ => Cert.AdamCIdeal.Gen.frame m ρ, adamC_ref,
  fun m ρ _ => Cert.AdamD.Gen.frame m ρ, fun m ρ _ => Cert.AdamDIdeal.Gen.frame m ρ, adamD_ref,
  fun m ρ _ => Cert.SmallA.Gen.frame m ρ, fun m ρ _ => Cert.SmallAIdeal.Gen.frame m ρ, smallA_ref,
  fun m ρ _ => Cert.SmallB.Gen.frame m ρ, fun m ρ _ => Cert.SmallBIdeal.Gen.frame m ρ, smallB_ref,
  fun m ρ _ => Cert.SmallC.Gen.frame m ρ, fun m ρ _ => Cert.SmallCIdeal.Gen.frame m ρ, smallC_ref,
  fun m ρ _ => Cert.SmallD.Gen.frame m ρ, fun m ρ _ => Cert.SmallDIdeal.Gen.frame m ρ, smallD_ref,
  fun m ρ _ => Cert.SmallE.Gen.frame m ρ, fun m ρ _ => Cert.SmallEIdeal.Gen.frame m ρ, smallE_ref,
  fun m ρ _ => Cert.SmallF.Gen.frame m ρ, fun m ρ _ => Cert.SmallFIdeal.Gen.frame m ρ, smallF_ref,
  fun m ρ _ => Cert.SmallG.Gen.frame m ρ, fun m ρ _ => Cert.SmallGIdeal.Gen.frame m ρ, smallG_ref,
  fun m ρ _ => Cert.SmallH.Gen.frame m ρ, fun m ρ _ => Cert.SmallHIdeal.Gen.frame m ρ, smallH_ref,
  fun m ρ _ => Cert.SmallI.Gen.frame m ρ, fun m ρ _ => Cert.SmallIIdeal.Gen.frame m ρ, smallI_ref,
  fun m ρ _ => Cert.Zoh.Gen.frame m ρ, fun m ρ _ => Cert.ZohIdeal.Gen.frame m ρ, zoh_ref,
  trivial, Cert.HalfClaim.algebraic, trivial, Cert.GluClaim.algebraic, trivial, Cert.GnClaim.algebraic, trivial, Cert.InpClaim.algebraic,
  trivial, Cert.AdamAClaim.algebraic, trivial, Cert.AdamBClaim.algebraic, trivial, Cert.AdamCClaim.algebraic, trivial, Cert.AdamDClaim.algebraic,
  trivial, Cert.SmallAClaim.algebraic,
  trivial, Cert.SmallBClaim.algebraic,
  trivial, Cert.SmallCClaim.algebraic,
  trivial, Cert.SmallDClaim.algebraic,
  trivial, Cert.SmallEClaim.algebraic,
  trivial, Cert.SmallFClaim.algebraic,
  trivial, Cert.SmallGClaim.algebraic,
  trivial, Cert.SmallHClaim.algebraic,
  trivial, Cert.SmallIClaim.algebraic,
  trivial, Cert.ZohClaim.algebraic⟩

end Cert.Proof

end
